-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)) (v3 : (c : Dev Cert.KernelIdeal.nD) → Buf (Elt Ideal) ((c.tc : Thread Cert.KernelIdeal.nD Cert.KernelIdeal.τ).loc Cert.KernelIdeal.main_v104_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_v104_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v15)) (v2 : (c : Dev Cert.Kernel2Ideal.nD) → Buf (Elt Ideal) ((c.tc : Thread Cert.Kernel2Ideal.nD Cert.Kernel2Ideal.τ).loc Cert.Kernel2Ideal.main_v13)) (v3 : (c : Dev Cert.Kernel2Ideal.nD) → Buf (Elt Ideal) ((c.tc : Thread Cert.Kernel2Ideal.nD Cert.Kernel2Ideal.τ).loc Cert.Kernel2Ideal.main_v14)) (v4 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_v14) = v3 c
          ∧ r.2.mem ((c.tc : Thread Cert.Kernel2Ideal.nD Cert.Kernel2Ideal.τ).loc Cert.Kernel2Ideal.main_v11) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v14)) (v1 : (c : Dev Cert.Kernel3Ideal.nD) → Buf (Elt Ideal) ((c.tc : Thread Cert.Kernel3Ideal.nD Cert.Kernel3Ideal.τ).loc Cert.Kernel3Ideal.main_v15)) (v2 : (c : Dev Cert.Kernel3Ideal.nD) → Buf (Elt Ideal) ((c.tc : Thread Cert.Kernel3Ideal.nD Cert.Kernel3Ideal.τ).loc Cert.Kernel3Ideal.main_v16)) (v3 : (c : Dev Cert.Kernel3Ideal.nD) → Buf (Elt Ideal) ((c.tc : Thread Cert.Kernel3Ideal.nD Cert.Kernel3Ideal.τ).loc Cert.Kernel3Ideal.main_v17)) (v4 : (c : Dev Cert.Kernel3Ideal.nD) → Buf (Elt Ideal) ((c.tc : Thread Cert.Kernel3Ideal.nD Cert.Kernel3Ideal.τ).loc Cert.Kernel3Ideal.main_v18)) (v5 : (c : Dev Cert.Kernel3Ideal.nD) → Buf (Elt Ideal) ((c.tc : Thread Cert.Kernel3Ideal.nD Cert.Kernel3Ideal.τ).loc Cert.Kernel3Ideal.main_v19)) (v6 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_v15) = v1 c
          ∧ r.2.mem ((c.tc : Thread Cert.Kernel3Ideal.nD Cert.Kernel3Ideal.τ).loc Cert.Kernel3Ideal.main_v16) = v2 c
          ∧ r.2.mem ((c.tc : Thread Cert.Kernel3Ideal.nD Cert.Kernel3Ideal.τ).loc Cert.Kernel3Ideal.main_v17) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_v19) = v5 c
          ∧ r.2.mem ((c.tc : Thread Cert.Kernel3Ideal.nD Cert.Kernel3Ideal.τ).loc Cert.Kernel3Ideal.main_v20) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)) (v1 : (c : Dev Cert.Kernel4Ideal.nD) → Buf (Elt Ideal) ((c.tc : Thread Cert.Kernel4Ideal.nD Cert.Kernel4Ideal.τ).loc Cert.Kernel4Ideal.main_v10)) (v2 : (c : Dev Cert.Kernel4Ideal.nD) → Buf (Elt Ideal) ((c.tc : Thread Cert.Kernel4Ideal.nD Cert.Kernel4Ideal.τ).loc Cert.Kernel4Ideal.main_v11)) (v3 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_v11) = v2 c
          ∧ r.2.mem ((c.tc : Thread Cert.Kernel4Ideal.nD Cert.Kernel4Ideal.τ).loc Cert.Kernel4Ideal.main_v13) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)) (v5 : (c : Dev Cert.Kernel5Ideal.nD) → Buf (Elt Ideal) ((c.tc : Thread Cert.Kernel5Ideal.nD Cert.Kernel5Ideal.τ).loc Cert.Kernel5Ideal.main_v6_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_v6_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_v41) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v8)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v30_0)) (v1 : (c : Dev Cert.Kernel20Ideal.nD) → Buf (Elt Ideal) ((c.tc : Thread Cert.Kernel20Ideal.nD Cert.Kernel20Ideal.τ).loc Cert.Kernel20Ideal.main_v30_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v30_0) = v0 c
          ∧ r.2.mem ((c.tc : Thread Cert.Kernel20Ideal.nD Cert.Kernel20Ideal.τ).loc Cert.Kernel20Ideal.main_v30_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v81) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S2080x2048 : Shape := ⟨2, ![2080, 2048]⟩
abbrev S_ : Shape := ⟨0, ![]⟩

class Facts : Prop where
  bcast_S_S2080x16x192 : S_.BroadcastsInDim S2080x16x192 (![] : Fin 0 → Fin S2080x16x192.rank)
  reducesTo_S2080x16x192_S_d0_1_2 : S2080x16x192.ReducesTo [0, 1, 2] S_
  h_S_ : 0 < S_.numel
  bcast_S_S2080x16x128 : S_.BroadcastsInDim S2080x16x128 (![] : Fin 0 → Fin S2080x16x128.rank)
  reducesTo_S2080x16x128_S_d0_1_2 : S2080x16x128.ReducesTo [0, 1, 2] S_
  bcast_S_S2080x64 : S_.BroadcastsInDim S2080x64 (![] : Fin 0 → Fin S2080x64.rank)
  reducesTo_S2080x64_S_d0_1 : S2080x64.ReducesTo [0, 1] S_
  bcast_S_S2080x32 : S_.BroadcastsInDim S2080x32 (![] : Fin 0 → Fin S2080x32.rank)
  reducesTo_S2080x32_S_d0_1 : S2080x32.ReducesTo [0, 1] S_
  bcast_S_S2080x2048 : S_.BroadcastsInDim S2080x2048 (![] : Fin 0 → Fin S2080x2048.rank)
  reducesTo_S2080x2048_S_d0_1 : S2080x2048.ReducesTo [0, 1] S_

variable [Facts]

def fn_part1 {F : FTy → Type} [FloatOps F] (main_arg4 : FVec F S2080x32 .f32) (main_arg5 : FVec F S2080x32 .f32) (main_arg6 : FVec F S2080x2048 .f32) (main_v13 : IVec S_ 1) (main_v16 : IVec S2080x16x128 1) : IVec S_ 1 :=
  let main_c_5 : IVec S_ 1 := constantI S_ 1 1#1
  let main_v17 : IVec S_ 1 := (fun x v => Host.reduce IntOp.andi x v reducesTo_S2080x16x128_S_d0_1_2 h_S_) main_v16 main_c_5
  let main_v18 : IVec S_ 1 := andi main_v13 main_v17
  let main_v19 : FVec F S2080x32 .f32 := Host.absf main_arg4
  let main_cst_6 : FVec F S_ .f32 := constant S_ .f32 0x7F800000#32
  let main_v20 : FVec F S2080x32 .f32 := broadcastInDim S2080x32 ![] bcast_S_S2080x32 main_cst_6
  let main_v21 : IVec S2080x32 1 := cmpf .olt main_v19 main_v20
  let main_c_7 : IVec S_ 1 := constantI S_ 1 1#1
  let main_v22 : IVec S_ 1 := (fun x v => Host.reduce IntOp.andi x v reducesTo_S2080x32_S_d0_1 h_S_) main_v21 main_c_7
  let main_v23 : IVec S_ 1 := andi main_v18 main_v22
  let main_v24 : FVec F S2080x32 .f32 := Host.absf main_arg5
  let main_cst_8 : FVec F S_ .f32 := constant S_ .f32 0x7F800000#32
  let main_v25 : FVec F S2080x32 .f32 := broadcastInDim S2080x32 ![] bcast_S_S2080x32 main_cst_8
  let main_v26 : IVec S2080x32 1 := cmpf .olt main_v24 main_v25
  let main_c_9 : IVec S_ 1 := constantI S_ 1 1#1
  let main_v27 : IVec S_ 1 := (fun x v => Host.reduce IntOp.andi x v reducesTo_S2080x32_S_d0_1 h_S_) main_v26 main_c_9
  let main_v28 : IVec S_ 1 := andi main_v23 main_v27
  let main_v29 : FVec F S2080x2048 .f32 := Host.absf main_arg6
  let main_cst_10 : FVec F S_ .f32 := constant S_ .f32 0x7F800000#32
  let main_v30 : FVec F S2080x2048 .f32 := broadcastInDim S2080x2048 ![] bcast_S_S2080x2048 main_cst_10
  let main_v31 : IVec S2080x2048 1 := cmpf .olt main_v29 main_v30
  let main_c_11 : IVec S_ 1 := constantI S_ 1 1#1
  let main_v32 : IVec S_ 1 := (fun x v => Host.reduce IntOp.andi x v reducesTo_S2080x2048_S_d0_1 h_S_) main_v31 main_c_11
  let main_v33 : IVec S_ 1 := andi main_v28 main_v32
  main_v33

def fn {F : FTy → Type} [FloatOps F] (main_arg0 : FVec F S2080x16x192 .f32) (main_arg1 : FVec F S2080x16x128 .f32) (main_arg2 : FVec F S2080x64 .f32) (main_arg3 : FVec F S2080x16x128 .f32) (main_arg4 : FVec F S2080x32 .f32) (main_arg5 : FVec F S2080x32 .f32) (main_arg6 : FVec F S2080x2048 .f32) : IVec S_ 1 :=
  let main_v0 : FVec F S2080x16x192 .f32 := Host.absf main_arg0
  let main_cst : FVec F S_ .f32 := constant S_ .f32 0x7F800000#32
  let main_v1 : FVec F S2080x16x192 .f32 := broadcastInDim S2080x16x192 ![] bcast_S_S2080x16x192 main_cst
  let main_v2 : IVec S2080x16x192 1 := cmpf .olt main_v0 main_v1
  let main_c : IVec S_ 1 := constantI S_ 1 1#1
  let main_v3 : IVec S_ 1 := (fun x v => Host.reduce IntOp.andi x v reducesTo_S2080x16x192_S_d0_1_2 h_S_) main_v2 main_c
  let main_v4 : FVec F S2080x16x128 .f32 := Host.absf main_arg1
  let main_cst_0 : FVec F S_ .f32 := constant S_ .f32 0x7F800000#32
  let main_v5 : FVec F S2080x16x128 .f32 := broadcastInDim S2080x16x128 ![] bcast_S_S2080x16x128 main_cst_0
  let main_v6 : IVec S2080x16x128 1 := cmpf .olt main_v4 main_v5
  let main_c_1 : IVec S_ 1 := constantI S_ 1 1#1
  let main_v7 : IVec S_ 1 := (fun x v => Host.reduce IntOp.andi x v reducesTo_S2080x16x128_S_d0_1_2 h_S_) main_v6 main_c_1
  let main_v8 : IVec S_ 1 := andi main_v3 main_v7
  let main_v9 : FVec F S2080x64 .f32 := Host.absf main_arg2
  let main_cst_2 : FVec F S_ .f32 := constant S_ .f32 0x7F800000#32
  let main_v10 : FVec F S2080x64 .f32 := broadcastInDim S2080x64 ![] bcast_S_S2080x64 main_cst_2
  let main_v11 : IVec S2080x64 1 := cmpf .olt main_v9 main_v10
  let main_c_3 : IVec S_ 1 := constantI S_ 1 1#1
  let main_v12 : IVec S_ 1 := (fun x v => Host.reduce IntOp.andi x v reducesTo_S2080x64_S_d0_1 h_S_) main_v11 main_c_3
  let main_v13 : IVec S_ 1 := andi main_v8 main_v12
  let main_v14 : FVec F S2080x16x128 .f32 := Host.absf main_arg3
  let main_cst_4 : FVec F S_ .f32 := constant S_ .f32 0x7F800000#32
  let main_v15 : FVec F S2080x16x128 .f32 := broadcastInDim S2080x16x128 ![] bcast_S_S2080x16x128 main_cst_4
  let main_v16 : IVec S2080x16x128 1 := cmpf .olt main_v14 main_v15
  fn_part1 (F := F) main_arg4 main_arg5 main_arg6 main_v13 main_v16
-- ==== Pre_finite2.lean ====
abbrev S2080x2048 : Shape := ⟨2, ![2080, 2048]⟩
abbrev S2048x5632 : Shape := ⟨2, ![2048, 5632]⟩
abbrev S5632x2048 : Shape := ⟨2, ![5632, 2048]⟩
abbrev S_ : Shape := ⟨0, ![]⟩

class Facts : Prop where
  bcast_S_S2080x2048 : S_.BroadcastsInDim S2080x2048 (![] : Fin 0 → Fin S2080x2048.rank)
  reducesTo_S2080x2048_S_d0_1 : S2080x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S2080x2048 1) : IVec S_ 1 :=
  let main_c_5 : IVec S_ 1 := constantI S_ 1 1#1
  let main_v17 : IVec S_ 1 := (fun x v => Host.reduce IntOp.andi x v reducesTo_S2080x2048_S_d0_1 h_S_) main_v16 main_c_5
  let main_v18 : IVec S_ 1 := andi main_v13 main_v17
  main_v18

def fn {F : FTy → Type} [FloatOps F] (main_arg0 : FVec F S2080x2048 .f32) (main_arg1 : FVec F S2080x2048 .f32) (main_arg2 : FVec F S2048x5632 .f32) (main_arg3 : FVec F S2048x5632 .f32) (main_arg4 : FVec F S5632x2048 .f32) (main_arg5 : FVec F S2080x2048 .f32) : IVec S_ 1 :=
  let main_v0 : FVec F S2080x2048 .f32 := Host.absf main_arg1
  let main_cst : FVec F S_ .f32 := constant S_ .f32 0x7F800000#32
  let main_v1 : FVec F S2080x2048 .f32 := broadcastInDim S2080x2048 ![] bcast_S_S2080x2048 main_cst
  let main_v2 : IVec S2080x2048 1 := cmpf .olt main_v0 main_v1
  let main_c : IVec S_ 1 := constantI S_ 1 1#1
  let main_v3 : IVec S_ 1 := (fun x v => Host.reduce IntOp.andi x v reducesTo_S2080x2048_S_d0_1 h_S_) main_v2 main_c
  let main_v4 : FVec F S2048x5632 .f32 := Host.absf main_arg3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .f32 := Host.absf main_arg4
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2080x2048 .f32 := Host.absf main_arg5
  let main_cst_4 : FVec F S_ .f32 := constant S_ .f32 0x7F800000#32
  let main_v15 : FVec F S2080x2048 .f32 := broadcastInDim S2080x2048 ![] bcast_S_S2080x2048 main_cst_4
  let main_v16 : IVec S2080x2048 1 := cmpf .olt main_v14 main_v15
  fn_part1 (F := F) main_v13 main_v16
-- ==== Pre_finite20.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S_ : Shape := ⟨0, ![]⟩

class Facts : Prop where
  bcast_S_S2080x16x192 : S_.BroadcastsInDim S2080x16x192 (![] : Fin 0 → Fin S2080x16x192.rank)
  reducesTo_S2080x16x192_S_d0_1_2 : S2080x16x192.ReducesTo [0, 1, 2] S_
  h_S_ : 0 < S_.numel
  bcast_S_S2080x16x128 : S_.BroadcastsInDim S2080x16x128 (![] : Fin 0 → Fin S2080x16x128.rank)
  reducesTo_S2080x16x128_S_d0_1_2 : S2080x16x128.ReducesTo [0, 1, 2] S_
  bcast_S_S2080x64 : S_.BroadcastsInDim S2080x64 (![] : Fin 0 → Fin S2080x64.rank)
  reducesTo_S2080x64_S_d0_1 : S2080x64.ReducesTo [0, 1] S_
  bcast_S_S2080x32 : S_.BroadcastsInDim S2080x32 (![] : Fin 0 → Fin S2080x32.rank)
  reducesTo_S2080x32_S_d0_1 : S2080x32.ReducesTo [0, 1] S_

variable [Facts]

def fn_part1 {F : FTy → Type} [FloatOps F] (main_arg4 : FVec F S2080x32 .f32) (main_arg5 : FVec F S2080x32 .f32) (main_v13 : IVec S_ 1) (main_v16 : IVec S2080x16x128 1) : IVec S_ 1 :=
  let main_c_5 : IVec S_ 1 := constantI S_ 1 1#1
  let main_v17 : IVec S_ 1 := (fun x v => Host.reduce IntOp.andi x v reducesTo_S2080x16x128_S_d0_1_2 h_S_) main_v16 main_c_5
  let main_v18 : IVec S_ 1 := andi main_v13 main_v17
  let main_v19 : FVec F S2080x32 .f32 := Host.absf main_arg4
  let main_cst_6 : FVec F S_ .f32 := constant S_ .f32 0x7F800000#32
  let main_v20 : FVec F S2080x32 .f32 := broadcastInDim S2080x32 ![] bcast_S_S2080x32 main_cst_6
  let main_v21 : IVec S2080x32 1 := cmpf .olt main_v19 main_v20
  let main_c_7 : IVec S_ 1 := constantI S_ 1 1#1
  let main_v22 : IVec S_ 1 := (fun x v => Host.reduce IntOp.andi x v reducesTo_S2080x32_S_d0_1 h_S_) main_v21 main_c_7
  let main_v23 : IVec S_ 1 := andi main_v18 main_v22
  let main_v24 : FVec F S2080x32 .f32 := Host.absf main_arg5
  let main_cst_8 : FVec F S_ .f32 := constant S_ .f32 0x7F800000#32
  let main_v25 : FVec F S2080x32 .f32 := broadcastInDim S2080x32 ![] bcast_S_S2080x32 main_cst_8
  let main_v26 : IVec S2080x32 1 := cmpf .olt main_v24 main_v25
  let main_c_9 : IVec S_ 1 := constantI S_ 1 1#1
  let main_v27 : IVec S_ 1 := (fun x v => Host.reduce IntOp.andi x v reducesTo_S2080x32_S_d0_1 h_S_) main_v26 main_c_9
  let main_v28 : IVec S_ 1 := andi main_v23 main_v27
  main_v28

def fn {F : FTy → Type} [FloatOps F] (main_arg0 : FVec F S2080x16x192 .f32) (main_arg1 : FVec F S2080x16x128 .f32) (main_arg2 : FVec F S2080x64 .f32) (main_arg3 : FVec F S2080x16x128 .f32) (main_arg4 : FVec F S2080x32 .f32) (main_arg5 : FVec F S2080x32 .f32) : IVec S_ 1 :=
  let main_v0 : FVec F S2080x16x192 .f32 := Host.absf main_arg0
  let main_cst : FVec F S_ .f32 := constant S_ .f32 0x7F800000#32
  let main_v1 : FVec F S2080x16x192 .f32 := broadcastInDim S2080x16x192 ![] bcast_S_S2080x16x192 main_cst
  let main_v2 : IVec S2080x16x192 1 := cmpf .olt main_v0 main_v1
  let main_c : IVec S_ 1 := constantI S_ 1 1#1
  let main_v3 : IVec S_ 1 := (fun x v => Host.reduce IntOp.andi x v reducesTo_S2080x16x192_S_d0_1_2 h_S_) main_v2 main_c
  let main_v4 : FVec F S2080x16x128 .f32 := Host.absf main_arg1
  let main_cst_0 : FVec F S_ .f32 := constant S_ .f32 0x7F800000#32
  let main_v5 : FVec F S2080x16x128 .f32 := broadcastInDim S2080x16x128 ![] bcast_S_S2080x16x128 main_cst_0
  let main_v6 : IVec S2080x16x128 1 := cmpf .olt main_v4 main_v5
  let main_c_1 : IVec S_ 1 := constantI S_ 1 1#1
  let main_v7 : IVec S_ 1 := (fun x v => Host.reduce IntOp.andi x v reducesTo_S2080x16x128_S_d0_1_2 h_S_) main_v6 main_c_1
  let main_v8 : IVec S_ 1 := andi main_v3 main_v7
  let main_v9 : FVec F S2080x64 .f32 := Host.absf main_arg2
  let main_cst_2 : FVec F S_ .f32 := constant S_ .f32 0x7F800000#32
  let main_v10 : FVec F S2080x64 .f32 := broadcastInDim S2080x64 ![] bcast_S_S2080x64 main_cst_2
  let main_v11 : IVec S2080x64 1 := cmpf .olt main_v9 main_v10
  let main_c_3 : IVec S_ 1 := constantI S_ 1 1#1
  let main_v12 : IVec S_ 1 := (fun x v => Host.reduce IntOp.andi x v reducesTo_S2080x64_S_d0_1 h_S_) main_v11 main_c_3
  let main_v13 : IVec S_ 1 := andi main_v8 main_v12
  let main_v14 : FVec F S2080x16x128 .f32 := Host.absf main_arg3
  let main_cst_4 : FVec F S_ .f32 := constant S_ .f32 0x7F800000#32
  let main_v15 : FVec F S2080x16x128 .f32 := broadcastInDim S2080x16x128 ![] bcast_S_S2080x16x128 main_cst_4
  let main_v16 : IVec S2080x16x128 1 := cmpf .olt main_v14 main_v15
  fn_part1 (F := F) main_arg4 main_arg5 main_v13 main_v16
-- ==== Kernel.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S2080x2048 : Shape := ⟨2, ![2080, 2048]⟩
abbrev S2080x16x64 : Shape := ⟨3, ![2080, 16, 64]⟩
abbrev S2080x1x32 : Shape := ⟨3, ![2080, 1, 32]⟩
abbrev S2080x16x32 : Shape := ⟨3, ![2080, 16, 32]⟩
abbrev S16x2080x2080 : Shape := ⟨3, ![16, 2080, 2080]⟩
abbrev S2080x2080x16 : Shape := ⟨3, ![2080, 2080, 16]⟩
abbrev S_ : Shape := ⟨0, ![]⟩
abbrev S2080 : Shape := ⟨1, ![2080]⟩
abbrev S1x2080 : Shape := ⟨2, ![1, 2080]⟩
abbrev S2080x1 : Shape := ⟨2, ![2080, 1]⟩
abbrev S2080x2080 : Shape := ⟨2, ![2080, 2080]⟩
abbrev S16x2080 : Shape := ⟨2, ![16, 2080]⟩
abbrev S16x2080x1 : Shape := ⟨3, ![16, 2080, 1]⟩
abbrev S2080x16x1 : Shape := ⟨3, ![2080, 16, 1]⟩
abbrev S16x128x2080 : Shape := ⟨3, ![16, 128, 2080]⟩
abbrev S2080x16x256 : Shape := ⟨3, ![2080, 16, 256]⟩
abbrev S2080x4096 : Shape := ⟨2, ![2080, 4096]⟩
abbrev S2080x1x64 : Shape := ⟨3, ![2080, 1, 64]⟩
abbrev S2080x128 : Shape := ⟨2, ![2080, 128]⟩
abbrev S2080x256 : Shape := ⟨2, ![2080, 256]⟩
abbrev S416x256 : Shape := ⟨2, ![416, 256]⟩
abbrev S416x128 : Shape := ⟨2, ![416, 128]⟩
abbrev S416x1 : Shape := ⟨2, ![416, 1]⟩
abbrev S416 : Shape := ⟨1, ![416]⟩
abbrev S416x416 : Shape := ⟨2, ![416, 416]⟩
abbrev S832x256 : Shape := ⟨2, ![832, 256]⟩
abbrev S416x832 : Shape := ⟨2, ![416, 832]⟩
abbrev S832x128 : Shape := ⟨2, ![832, 128]⟩
abbrev S1248x256 : Shape := ⟨2, ![1248, 256]⟩
abbrev S416x1248 : Shape := ⟨2, ![416, 1248]⟩
abbrev S1248x128 : Shape := ⟨2, ![1248, 128]⟩
abbrev S1664x256 : Shape := ⟨2, ![1664, 256]⟩
abbrev S416x1664 : Shape := ⟨2, ![416, 1664]⟩
abbrev S1664x128 : Shape := ⟨2, ![1664, 128]⟩
abbrev S416x2080 : Shape := ⟨2, ![416, 2080]⟩

abbrev nBuf : Space → Nat
  | .hbm => 133
  | .vmem => 23
  | .smem => 0
  | _ => 0

abbrev hbmTy0_0 (i : Nat) : BufTy := match i % 128 with
  | 0 => ⟨S2080x16x192, .f32⟩
  | 1 => ⟨S2080x16x128, .f32⟩
  | 2 => ⟨S2080x64, .f32⟩
  | 3 => ⟨S2080x16x128, .f32⟩
  | 4 => ⟨S2080x32, .f32⟩
  | 5 => ⟨S2080x32, .f32⟩
  | 6 => ⟨S2080x2048, .f32⟩
  | 7 => ⟨S2080x16x128, .f32⟩
  | 8 => ⟨S2080x16x64, .f32⟩
  | 9 => ⟨S2080x1x32, .f32⟩
  | 10 => ⟨S2080x1x32, .f32⟩
  | 11 => ⟨S2080x16x32, .f32⟩
  | 12 => ⟨S2080x16x32, .f32⟩
  | 13 => ⟨S2080x16x32, .f32⟩
  | 14 => ⟨S2080x16x32, .f32⟩
  | 15 => ⟨S2080x16x32, .f32⟩
  | 16 => ⟨S2080x16x32, .f32⟩
  | 17 => ⟨S2080x16x32, .f32⟩
  | 18 => ⟨S2080x16x32, .f32⟩
  | 19 => ⟨S2080x16x32, .f32⟩
  | 20 => ⟨S2080x16x32, .f32⟩
  | 21 => ⟨S2080x16x32, .f32⟩
  | 22 => ⟨S2080x16x32, .f32⟩
  | 23 => ⟨S2080x16x64, .f32⟩
  | 24 => ⟨S16x2080x2080, .f32⟩
  | 25 => ⟨S2080x2080x16, .f32⟩
  | 26 => ⟨S16x2080x2080, .f32⟩
  | 27 => ⟨S16x2080x2080, .f32⟩
  | 28 => ⟨S_, .f32⟩
  | 29 => ⟨S16x2080x2080, .f32⟩
  | 30 => ⟨S16x2080x2080, .f32⟩
  | 31 => ⟨S2080, .i32⟩
  | 32 => ⟨S1x2080, .i32⟩
  | 33 => ⟨S2080x1, .i32⟩
  | 34 => ⟨S2080x2080, .i32⟩
  | 35 => ⟨S2080x2080, .i32⟩
  | 36 => ⟨S2080x2080, .i1⟩
  | 37 => ⟨S_, .f32⟩
  | 38 => ⟨S_, .f32⟩
  | 39 => ⟨S16x2080x2080, .i1⟩
  | 40 => ⟨S16x2080x2080, .f32⟩
  | 41 => ⟨S16x2080x2080, .f32⟩
  | 42 => ⟨S_, .f32⟩
  | 43 => ⟨S16x2080, .f32⟩
  | 44 => ⟨S16x2080x1, .f32⟩
  | 45 => ⟨S16x2080x2080, .f32⟩
  | 46 => ⟨S16x2080x2080, .f32⟩
  | 47 => ⟨S16x2080x2080, .f32⟩
  | 48 => ⟨S_, .f32⟩
  | 49 => ⟨S16x2080, .f32⟩
  | 50 => ⟨S16x2080x1, .f32⟩
  | 51 => ⟨S16x2080x1, .f32⟩
  | 52 => ⟨S16x2080x1, .f32⟩
  | 53 => ⟨S2080x16x1, .f32⟩
  | 54 => ⟨S2080x16x128, .f32⟩
  | 55 => ⟨S2080x2048, .f32⟩
  | 56 => ⟨S2080x16x128, .f32⟩
  | 57 => ⟨S2080x16x64, .f32⟩
  | 58 => ⟨S2080x1x32, .f32⟩
  | 59 => ⟨S2080x1x32, .f32⟩
  | 60 => ⟨S2080x16x32, .f32⟩
  | 61 => ⟨S2080x16x32, .f32⟩
  | 62 => ⟨S2080x16x32, .f32⟩
  | 63 => ⟨S2080x16x32, .f32⟩
  | 64 => ⟨S2080x16x32, .f32⟩
  | 65 => ⟨S2080x16x32, .f32⟩
  | 66 => ⟨S2080x16x32, .f32⟩
  | 67 => ⟨S2080x16x32, .f32⟩
  | 68 => ⟨S2080x16x32, .f32⟩
  | 69 => ⟨S2080x16x32, .f32⟩
  | 70 => ⟨S2080x16x32, .f32⟩
  | 71 => ⟨S2080x16x32, .f32⟩
  | 72 => ⟨S2080x16x64, .f32⟩
  | 73 => ⟨S16x2080x2080, .f32⟩
  | 74 => ⟨S2080x2080x16, .f32⟩
  | 75 => ⟨S16x2080x2080, .f32⟩
  | 76 => ⟨S16x2080x2080, .f32⟩
  | 77 => ⟨S_, .f32⟩
  | 78 => ⟨S16x2080x2080, .f32⟩
  | 79 => ⟨S16x2080x2080, .f32⟩
  | 80 => ⟨S2080, .i32⟩
  | 81 => ⟨S1x2080, .i32⟩
  | 82 => ⟨S2080x1, .i32⟩
  | 83 => ⟨S2080x2080, .i32⟩
  | 84 => ⟨S2080x2080, .i32⟩
  | 85 => ⟨S2080x2080, .i1⟩
  | 86 => ⟨S_, .f32⟩
  | 87 => ⟨S_, .f32⟩
  | 88 => ⟨S16x2080x2080, .i1⟩
  | 89 => ⟨S16x2080x2080, .f32⟩
  | 90 => ⟨S16x2080x2080, .f32⟩
  | 91 => ⟨S_, .f32⟩
  | 92 => ⟨S16x2080, .f32⟩
  | 93 => ⟨S_, .f32⟩
  | 94 => ⟨S16x2080, .f32⟩
  | 95 => ⟨S16x2080, .f32⟩
  | 96 => ⟨S16x2080x1, .f32⟩
  | 97 => ⟨S16x2080x2080, .f32⟩
  | 98 => ⟨S16x2080x2080, .f32⟩
  | 99 => ⟨S16x2080x2080, .f32⟩
  | 100 => ⟨S_, .f32⟩
  | 101 => ⟨S16x2080, .f32⟩
  | 102 => ⟨S16x2080x1, .f32⟩
  | 103 => ⟨S16x2080x2080, .f32⟩
  | 104 => ⟨S16x2080x2080, .f32⟩
  | 105 => ⟨S16x128x2080, .f32⟩
  | 106 => ⟨S2080x16x128, .f32⟩
  | 107 => ⟨S2080x2048, .f32⟩
  | 108 => ⟨S_, .f32⟩
  | 109 => ⟨S2080x16x64, .f32⟩
  | 110 => ⟨S2080x16x256, .f32⟩
  | 111 => ⟨S_, .f32⟩
  | 112 => ⟨S2080x16x256, .f32⟩
  | 113 => ⟨S2080x16x256, .f32⟩
  | 114 => ⟨S2080x16x256, .bf16⟩
  | 115 => ⟨S2080x4096, .bf16⟩
  | 116 => ⟨S2080x1x64, .f32⟩
  | 117 => ⟨S2080x16x64, .f32⟩
  | 118 => ⟨S2080x16x256, .f32⟩
  | 119 => ⟨S2080x16x256, .bf16⟩
  | 120 => ⟨S2080x4096, .bf16⟩
  | 121 => ⟨S2080x16x128, .bf16⟩
  | 122 => ⟨S2080x2048, .bf16⟩
  | 123 => ⟨S_, .f32⟩
  | 124 => ⟨S2080x64, .f32⟩
  | 125 => ⟨S2080x128, .f32⟩
  | 126 => ⟨S2080x128, .f32⟩
  | 127 => ⟨S2080x2048, .bf16⟩
  | _ => ⟨S2080x16x192, .f32⟩

abbrev hbmTy0_1 (i : Nat) : BufTy := match i % 128 with
  | 0 => ⟨S2080x2048, .bf16⟩
  | 1 => ⟨S2080x4096, .bf16⟩
  | 2 => ⟨S2080x4096, .bf16⟩
  | 3 => ⟨S2080x2048, .bf16⟩
  | 4 => ⟨S2080x128, .f32⟩
  | _ => ⟨S2080x16x192, .f32⟩

abbrev hbmTy (i : Nat) : BufTy := match i / 128 with
  | 0 => hbmTy0_0 i
  | 1 => hbmTy0_1 i
  | _ => ⟨S2080x16x192, .f32⟩

abbrev bufTy : (tb : Table) → Fin (tcTables nBuf tb) → BufTy
  | .hbm, ⟨i, _⟩ => hbmTy i
  | .local _ .vmem, ⟨0, _⟩ => ⟨S2080x256, .bf16⟩
  | .local _ .vmem, ⟨1, _⟩ => ⟨S2080x256, .bf16⟩
  | .local _ .vmem, ⟨2, _⟩ => ⟨S2080x256, .bf16⟩
  | .local _ .vmem, ⟨3, _⟩ => ⟨S2080x256, .bf16⟩
  | .local _ .vmem, ⟨4, _⟩ => ⟨S2080x128, .bf16⟩
  | .local _ .vmem, ⟨5, _⟩ => ⟨S2080x128, .bf16⟩
  | .local _ .vmem, ⟨6, _⟩ => ⟨S2080x128, .bf16⟩
  | .local _ .vmem, ⟨7, _⟩ => ⟨S2080x128, .bf16⟩
  | .local _ .vmem, ⟨8, _⟩ => ⟨S2080x128, .bf16⟩
  | .local _ .vmem, ⟨9, _⟩ => ⟨S2080x128, .bf16⟩
  | .local _ .vmem, ⟨10, _⟩ => ⟨S2080x128, .f32⟩
  | .local _ .vmem, ⟨11, _⟩ => ⟨S2080x128, .f32⟩
  | .local _ .vmem, ⟨12, _⟩ => ⟨S2080x128, .f32⟩
  | .local _ .vmem, ⟨13, _⟩ => ⟨S2080x128, .f32⟩
  | .local _ .vmem, ⟨14, _⟩ => ⟨S2080x256, .bf16⟩
  | .local _ .vmem, ⟨15, _⟩ => ⟨S2080x256, .bf16⟩
  | .local _ .vmem, ⟨16, _⟩ => ⟨S2080x256, .bf16⟩
  | .local _ .vmem, ⟨17, _⟩ => ⟨S2080x256, .bf16⟩
  | .local _ .vmem, ⟨18, _⟩ => ⟨S2080x128, .bf16⟩
  | .local _ .vmem, ⟨19, _⟩ => ⟨S2080x128, .bf16⟩
  | .local _ .vmem, ⟨20, _⟩ => ⟨S2080x128, .f32⟩
  | .local _ .vmem, ⟨21, _⟩ => ⟨S2080x256, .f32⟩
  | .local _ .vmem, ⟨22, _⟩ => ⟨S2080x128, .f32⟩
  | _, _ => ⟨S2080x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v71 : Ref sig .tc := ⟨.hbm, 90, rfl⟩
abbrev main_cst_5 : Ref sig .tc := ⟨.hbm, 91, rfl⟩
abbrev main_v72 : Ref sig .tc := ⟨.hbm, 92, rfl⟩
abbrev main_cst_6 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_7 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_8 : Ref sig .tc := ⟨.hbm, 108, rfl⟩
abbrev main_v86 : Ref sig .tc := ⟨.hbm, 109, rfl⟩
abbrev main_v87 : Ref sig .tc := ⟨.hbm, 110, rfl⟩
abbrev main_cst_9 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_10 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104_0 : Ref sig .tc := ⟨.hbm, 129, rfl⟩
abbrev main_v104_1 : Ref sig .tc := ⟨.hbm, 130, rfl⟩
abbrev main_v104_2 : Ref sig .tc := ⟨.hbm, 131, rfl⟩
abbrev main_v104_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_237 : BitVec 32 := 0#32
  let v416 : BitVec 1 := Scalar.cmpi .eq arg0 c0_i32_237
  let v417 : BitVec 32 := Scalar.extui v416
  let c0_i32_238 : BitVec 32 := 0#32
  let v418 : BitVec 1 := Scalar.cmpi .ne v417 c0_i32_238
  v418

def k0_cond2 (i : grid0.Coords) : BitVec 1 :=
  let arg0 : BitVec 32 := BitVec.ofNat 32 (i 0).val
  let c0_i32_239 : BitVec 32 := 0#32
  let v419 : BitVec 1 := Scalar.cmpi .sgt arg0 c0_i32_239
  let v420 : BitVec 32 := Scalar.extui v419
  let c0_i32_240 : BitVec 32 := 0#32
  let v421 : BitVec 1 := Scalar.cmpi .ne v420 c0_i32_240
  v421

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2080x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2080x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2080x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2080x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2080x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2080x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2080x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2080x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2080x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2080x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2080x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2080x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S2080x2048 : Shape := ⟨2, ![2080, 2048]⟩
abbrev S2080x16x64 : Shape := ⟨3, ![2080, 16, 64]⟩
abbrev S2080x1x32 : Shape := ⟨3, ![2080, 1, 32]⟩
abbrev S2080x16x32 : Shape := ⟨3, ![2080, 16, 32]⟩
abbrev S16x2080x2080 : Shape := ⟨3, ![16, 2080, 2080]⟩
abbrev S2080x2080x16 : Shape := ⟨3, ![2080, 2080, 16]⟩
abbrev S_ : Shape := ⟨0, ![]⟩
abbrev S2080 : Shape := ⟨1, ![2080]⟩
abbrev S1x2080 : Shape := ⟨2, ![1, 2080]⟩
abbrev S2080x1 : Shape := ⟨2, ![2080, 1]⟩
abbrev S2080x2080 : Shape := ⟨2, ![2080, 2080]⟩
abbrev S16x2080 : Shape := ⟨2, ![16, 2080]⟩
abbrev S16x2080x1 : Shape := ⟨3, ![16, 2080, 1]⟩
abbrev S16x128x2080 : Shape := ⟨3, ![16, 128, 2080]⟩
abbrev S16x2080x128 : Shape := ⟨3, ![16, 2080, 128]⟩
abbrev S2080x16x256 : Shape := ⟨3, ![2080, 16, 256]⟩
abbrev S2080x4096 : Shape := ⟨2, ![2080, 4096]⟩
abbrev S2080x128 : Shape := ⟨2, ![2080, 128]⟩

abbrev nBuf : Space → Nat
  | .hbm => 151
  | .vmem => 0
  | .smem => 0
  | _ => 0

abbrev hbmTy0_0 (i : Nat) : BufTy := match i % 128 with
  | 0 => ⟨S2080x16x192, .f32⟩
  | 1 => ⟨S2080x16x128, .f32⟩
  | 2 => ⟨S2080x64, .f32⟩
  | 3 => ⟨S2080x16x128, .f32⟩
  | 4 => ⟨S2080x32, .f32⟩
  | 5 => ⟨S2080x32, .f32⟩
  | 6 => ⟨S2080x2048, .f32⟩
  | 7 => ⟨S2080x16x128, .f32⟩
  | 8 => ⟨S2080x16x64, .f32⟩
  | 9 => ⟨S2080x1x32, .f32⟩
  | 10 => ⟨S2080x1x32, .f32⟩
  | 11 => ⟨S2080x16x32, .f32⟩
  | 12 => ⟨S2080x16x32, .f32⟩
  | 13 => ⟨S2080x16x32, .f32⟩
  | 14 => ⟨S2080x16x32, .f32⟩
  | 15 => ⟨S2080x16x32, .f32⟩
  | 16 => ⟨S2080x16x32, .f32⟩
  | 17 => ⟨S2080x16x32, .f32⟩
  | 18 => ⟨S2080x16x32, .f32⟩
  | 19 => ⟨S2080x16x32, .f32⟩
  | 20 => ⟨S2080x16x32, .f32⟩
  | 21 => ⟨S2080x16x32, .f32⟩
  | 22 => ⟨S2080x16x32, .f32⟩
  | 23 => ⟨S2080x16x64, .f32⟩
  | 24 => ⟨S16x2080x2080, .f32⟩
  | 25 => ⟨S2080x2080x16, .f32⟩
  | 26 => ⟨S16x2080x2080, .f32⟩
  | 27 => ⟨S16x2080x2080, .f32⟩
  | 28 => ⟨S_, .f32⟩
  | 29 => ⟨S16x2080x2080, .f32⟩
  | 30 => ⟨S16x2080x2080, .f32⟩
  | 31 => ⟨S2080, .i32⟩
  | 32 => ⟨S1x2080, .i32⟩
  | 33 => ⟨S2080x1, .i32⟩
  | 34 => ⟨S2080x2080, .i32⟩
  | 35 => ⟨S2080x2080, .i32⟩
  | 36 => ⟨S2080x2080, .i1⟩
  | 37 => ⟨S_, .f32⟩
  | 38 => ⟨S_, .f32⟩
  | 39 => ⟨S16x2080x2080, .i1⟩
  | 40 => ⟨S16x2080x2080, .f32⟩
  | 41 => ⟨S16x2080x2080, .f32⟩
  | 42 => ⟨S_, .f32⟩
  | 43 => ⟨S16x2080x2080, .f32⟩
  | 44 => ⟨S_, .f32⟩
  | 45 => ⟨S16x2080, .f32⟩
  | 46 => ⟨S16x2080x1, .f32⟩
  | 47 => ⟨S16x2080x2080, .f32⟩
  | 48 => ⟨S16x2080x2080, .i1⟩
  | 49 => ⟨S16x2080x2080, .f32⟩
  | 50 => ⟨S_, .f32⟩
  | 51 => ⟨S16x2080, .f32⟩
  | 52 => ⟨S_, .f32⟩
  | 53 => ⟨S16x2080, .f32⟩
  | 54 => ⟨S16x2080, .f32⟩
  | 55 => ⟨S_, .f32⟩
  | 56 => ⟨S16x2080, .f32⟩
  | 57 => ⟨S16x2080, .i1⟩
  | 58 => ⟨S_, .f32⟩
  | 59 => ⟨S16x2080, .f32⟩
  | 60 => ⟨S16x2080, .i1⟩
  | 61 => ⟨S_, .f32⟩
  | 62 => ⟨S16x2080, .f32⟩
  | 63 => ⟨S_, .f32⟩
  | 64 => ⟨S16x2080, .f32⟩
  | 65 => ⟨S_, .f32⟩
  | 66 => ⟨S16x2080, .f32⟩
  | 67 => ⟨S16x2080, .f32⟩
  | 68 => ⟨S16x2080, .f32⟩
  | 69 => ⟨S16x2080x1, .f32⟩
  | 70 => ⟨S16x2080x2080, .f32⟩
  | 71 => ⟨S16x2080x2080, .f32⟩
  | 72 => ⟨S16x2080x2080, .f32⟩
  | 73 => ⟨S_, .f32⟩
  | 74 => ⟨S16x2080, .f32⟩
  | 75 => ⟨S16x2080x1, .f32⟩
  | 76 => ⟨S16x2080x2080, .f32⟩
  | 77 => ⟨S16x2080x2080, .f32⟩
  | 78 => ⟨S16x2080x1, .f32⟩
  | 79 => ⟨S_, .f32⟩
  | 80 => ⟨S16x2080x1, .f32⟩
  | 81 => ⟨S16x2080x1, .f32⟩
  | 82 => ⟨S16x128x2080, .f32⟩
  | 83 => ⟨S2080x16x128, .f32⟩
  | 84 => ⟨S2080x2048, .f32⟩
  | 85 => ⟨S2080x16x128, .f32⟩
  | 86 => ⟨S16x128x2080, .f32⟩
  | 87 => ⟨S16x2080x2080, .f32⟩
  | 88 => ⟨S16x128x2080, .f32⟩
  | 89 => ⟨S2080x16x128, .f32⟩
  | 90 => ⟨S16x2080x2080, .f32⟩
  | 91 => ⟨S16x2080x2080, .f32⟩
  | 92 => ⟨S16x2080x2080, .f32⟩
  | 93 => ⟨S_, .f32⟩
  | 94 => ⟨S16x2080, .f32⟩
  | 95 => ⟨S16x2080x1, .f32⟩
  | 96 => ⟨S16x2080x1, .f32⟩
  | 97 => ⟨S16x2080x2080, .f32⟩
  | 98 => ⟨S16x2080x2080, .f32⟩
  | 99 => ⟨S_, .f32⟩
  | 100 => ⟨S16x2080, .f32⟩
  | 101 => ⟨S16x2080x2080, .f32⟩
  | 102 => ⟨S16x2080x2080, .f32⟩
  | 103 => ⟨S16x2080x2080, .f32⟩
  | 104 => ⟨S_, .f32⟩
  | 105 => ⟨S16x2080x2080, .f32⟩
  | 106 => ⟨S16x2080x2080, .f32⟩
  | 107 => ⟨S_, .f32⟩
  | 108 => ⟨S16x2080x2080, .f32⟩
  | 109 => ⟨S16x2080x2080, .f32⟩
  | 110 => ⟨S2080x2080x16, .f32⟩
  | 111 => ⟨S2080x16x64, .f32⟩
  | 112 => ⟨S2080x64, .f32⟩
  | 113 => ⟨S16x2080x128, .f32⟩
  | 114 => ⟨S2080x16x128, .f32⟩
  | 115 => ⟨S16x2080x128, .f32⟩
  | 116 => ⟨S2080x16x128, .f32⟩
  | 117 => ⟨S2080x16x32, .f32⟩
  | 118 => ⟨S2080x16x32, .f32⟩
  | 119 => ⟨S2080x16x32, .f32⟩
  | 120 => ⟨S2080x16x32, .f32⟩
  | 121 => ⟨S2080x16x32, .f32⟩
  | 122 => ⟨S2080x16x32, .f32⟩
  | 123 => ⟨S2080x16x32, .f32⟩
  | 124 => ⟨S2080x16x32, .f32⟩
  | 125 => ⟨S2080x16x32, .f32⟩
  | 126 => ⟨S2080x16x32, .f32⟩
  | 127 => ⟨S2080x16x32, .f32⟩
  | _ => ⟨S2080x16x192, .f32⟩

abbrev hbmTy0_1 (i : Nat) : BufTy := match i % 128 with
  | 0 => ⟨S2080x16x32, .f32⟩
  | 1 => ⟨S2080x16x32, .f32⟩
  | 2 => ⟨S2080x16x64, .f32⟩
  | 3 => ⟨S_, .f32⟩
  | 4 => ⟨S2080x16x192, .f32⟩
  | 5 => ⟨S_, .f32⟩
  | 6 => ⟨S2080x16x192, .f32⟩
  | 7 => ⟨S2080x16x192, .f32⟩
  | 8 => ⟨S_, .i32⟩
  | 9 => ⟨S_, .f32⟩
  | 10 => ⟨S2080x16x256, .f32⟩
  | 11 => ⟨S2080x4096, .f32⟩
  | 12 => ⟨S_, .i32⟩
  | 13 => ⟨S_, .f32⟩
  | 14 => ⟨S2080x16x256, .f32⟩
  | 15 => ⟨S2080x4096, .f32⟩
  | 16 => ⟨S2080x4096, .bf16⟩
  | 17 => ⟨S2080x4096, .bf16⟩
  | 18 => ⟨S2080x2048, .f32⟩
  | 19 => ⟨S2080x2048, .bf16⟩
  | 20 => ⟨S_, .i32⟩
  | 21 => ⟨S_, .f32⟩
  | 22 => ⟨S2080x128, .f32⟩
  | _ => ⟨S2080x16x192, .f32⟩

abbrev hbmTy (i : Nat) : BufTy := match i / 128 with
  | 0 => hbmTy0_0 i
  | 1 => hbmTy0_1 i
  | _ => ⟨S2080x16x192, .f32⟩

abbrev bufTy : (tb : Table) → Fin (tcTables nBuf tb) → BufTy
  | .hbm, ⟨i, _⟩ => hbmTy i
  | _, _ => ⟨S2080x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_v29_1 : Ref sig .tc := ⟨.hbm, 39, rfl⟩
abbrev main_call0_v2 : Ref sig .tc := ⟨.hbm, 40, rfl⟩
abbrev main_v29_0 : Ref sig .tc := ⟨.hbm, 41, rfl⟩
abbrev main_call0_cst : Ref sig .tc := ⟨.hbm, 42, rfl⟩
abbrev main_v29_2 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_14 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_c : Ref sig .tc := ⟨.hbm, 136, rfl⟩
abbrev main_call2_v0 : Ref sig .tc := ⟨.hbm, 137, rfl⟩
abbrev main_v105 : Ref sig .tc := ⟨.hbm, 138, rfl⟩
abbrev main_v106 : Ref sig .tc := ⟨.hbm, 139, rfl⟩
abbrev main_c_16 : Ref sig .tc := ⟨.hbm, 140, rfl⟩
abbrev main_call3_v0 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_17 : Ref sig .tc := ⟨.hbm, 148, rfl⟩
abbrev main_call4_v0 : Ref sig .tc := ⟨.hbm, 149, rfl⟩
abbrev main_v113 : Ref sig .tc := ⟨.hbm, 150, rfl⟩

abbrev nD : Nat := 1
abbrev τ : Topo := Topo.v7x

variable {F : FTy → Type} [FloatOps F]
-- ==== Kernel2.lean ====
abbrev S2080x2048 : Shape := ⟨2, ![2080, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S2080x5632 : Shape := ⟨2, ![2080, 5632]⟩
abbrev S416x2048 : Shape := ⟨2, ![416, 2048]⟩
abbrev S1x2048x1408 : Shape := ⟨3, ![1, 2048, 1408]⟩
abbrev S416x1408 : Shape := ⟨2, ![416, 1408]⟩
abbrev S2048x1408 : Shape := ⟨2, ![2048, 1408]⟩
abbrev S1040x5632 : Shape := ⟨2, ![1040, 5632]⟩
abbrev S5632x512 : Shape := ⟨2, ![5632, 512]⟩
abbrev S1040x512 : Shape := ⟨2, ![1040, 512]⟩
abbrev S2080x1408 : Shape := ⟨2, ![2080, 1408]⟩
abbrev S2080x1024 : Shape := ⟨2, ![2080, 1024]⟩
abbrev S1408x1024 : Shape := ⟨2, ![1408, 1024]⟩
abbrev S1408x2048 : Shape := ⟨2, ![1408, 2048]⟩
abbrev S1x1024x1408 : Shape := ⟨3, ![1, 1024, 1408]⟩
abbrev S1024x1408 : Shape := ⟨2, ![1024, 1408]⟩
abbrev S416x5632 : Shape := ⟨2, ![416, 5632]⟩
abbrev S4x512x1408 : Shape := ⟨3, ![4, 512, 1408]⟩
abbrev S416x512 : Shape := ⟨2, ![416, 512]⟩
abbrev S1x512x1408 : Shape := ⟨3, ![1, 512, 1408]⟩
abbrev S512x1408 : Shape := ⟨2, ![512, 1408]⟩

abbrev nBuf : Space → Nat
  | .hbm => 25
  | .vmem => 60
  | .smem => 0
  | _ => 0

abbrev bufTy : (tb : Table) → Fin (tcTables nBuf tb) → BufTy
  | .hbm, ⟨0, _⟩ => ⟨S2080x2048, .f32⟩
  | .hbm, ⟨1, _⟩ => ⟨S2080x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2080x2048, .f32⟩
  | .hbm, ⟨6, _⟩ => ⟨S2080x2048, .bf16⟩
  | .hbm, ⟨7, _⟩ => ⟨S2048x5632, .bf16⟩
  | .hbm, ⟨8, _⟩ => ⟨S2048x4x1408, .bf16⟩
  | .hbm, ⟨9, _⟩ => ⟨S4x2048x1408, .bf16⟩
  | .hbm, ⟨10, _⟩ => ⟨S2048x5632, .bf16⟩
  | .hbm, ⟨11, _⟩ => ⟨S2048x4x1408, .bf16⟩
  | .hbm, ⟨12, _⟩ => ⟨S4x2048x1408, .bf16⟩
  | .hbm, ⟨13, _⟩ => ⟨S5632x2048, .bf16⟩
  | .hbm, ⟨14, _⟩ => ⟨S2080x2048, .bf16⟩
  | .hbm, ⟨15, _⟩ => ⟨S2080x5632, .f32⟩
  | .hbm, ⟨16, _⟩ => ⟨S2080x5632, .f32⟩
  | .hbm, ⟨17, _⟩ => ⟨S2080x5632, .bf16⟩
  | .hbm, ⟨18, _⟩ => ⟨S2080x2048, .f32⟩
  | .hbm, ⟨19, _⟩ => ⟨S5632x2048, .bf16⟩
  | .hbm, ⟨20, _⟩ => ⟨S2080x5632, .bf16⟩
  | .hbm, ⟨21, _⟩ => ⟨S2080x5632, .bf16⟩
  | .hbm, ⟨22, _⟩ => ⟨S4x2048x1408, .bf16⟩
  | .hbm, ⟨23, _⟩ => ⟨S4x2048x1408, .bf16⟩
  | .hbm, ⟨24, _⟩ => ⟨S2080x2048, .bf16⟩
  | .local _ .vmem, ⟨0, _⟩ => ⟨S416x2048, .bf16⟩
  | .local _ .vmem, ⟨1, _⟩ => ⟨S416x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S416x1408, .f32⟩
  | .local _ .vmem, ⟨7, _⟩ => ⟨S416x1408, .f32⟩
  | .local _ .vmem, ⟨8, _⟩ => ⟨S416x1408, .f32⟩
  | .local _ .vmem, ⟨9, _⟩ => ⟨S416x1408, .f32⟩
  | .local _ .vmem, ⟨10, _⟩ => ⟨S416x1408, .bf16⟩
  | .local _ .vmem, ⟨11, _⟩ => ⟨S416x1408, .bf16⟩
  | .local _ .vmem, ⟨12, _⟩ => ⟨S1040x5632, .bf16⟩
  | .local _ .vmem, ⟨13, _⟩ => ⟨S1040x5632, .bf16⟩
  | .local _ .vmem, ⟨14, _⟩ => ⟨S5632x512, .bf16⟩
  | .local _ .vmem, ⟨15, _⟩ => ⟨S5632x512, .bf16⟩
  | .local _ .vmem, ⟨16, _⟩ => ⟨S1040x512, .f32⟩
  | .local _ .vmem, ⟨17, _⟩ => ⟨S1040x512, .f32⟩
  | .local _ .vmem, ⟨18, _⟩ => ⟨S1040x512, .f32⟩
  | .local _ .vmem, ⟨19, _⟩ => ⟨S1040x512, .f32⟩
  | .local _ .vmem, ⟨20, _⟩ => ⟨S2080x1408, .bf16⟩
  | .local _ .vmem, ⟨21, _⟩ => ⟨S2080x1408, .bf16⟩
  | .local _ .vmem, ⟨22, _⟩ => ⟨S2080x1024, .bf16⟩
  | .local _ .vmem, ⟨23, _⟩ => ⟨S2080x1024, .bf16⟩
  | .local _ .vmem, ⟨24, _⟩ => ⟨S1408x1024, .bf16⟩
  | .local _ .vmem, ⟨25, _⟩ => ⟨S1408x1024, .bf16⟩
  | .local _ .vmem, ⟨26, _⟩ => ⟨S416x2048, .bf16⟩
  | .local _ .vmem, ⟨27, _⟩ => ⟨S416x2048, .bf16⟩
  | .local _ .vmem, ⟨28, _⟩ => ⟨S1408x2048, .bf16⟩
  | .local _ .vmem, ⟨29, _⟩ => ⟨S1408x2048, .bf16⟩
  | .local _ .vmem, ⟨30, _⟩ => ⟨S416x1408, .f32⟩
  | .local _ .vmem, ⟨31, _⟩ => ⟨S416x1408, .f32⟩
  | .local _ .vmem, ⟨32, _⟩ => ⟨S416x1408, .f32⟩
  | .local _ .vmem, ⟨33, _⟩ => ⟨S416x1408, .f32⟩
  | .local _ .vmem, ⟨34, _⟩ => ⟨S416x1408, .bf16⟩
  | .local _ .vmem, ⟨35, _⟩ => ⟨S416x1408, .bf16⟩
  | .local _ .vmem, ⟨36, _⟩ => ⟨S416x1408, .bf16⟩
  | .local _ .vmem, ⟨37, _⟩ => ⟨S416x1408, .bf16⟩
  | .local _ .vmem, ⟨38, _⟩ => ⟨S2080x1024, .bf16⟩
  | .local _ .vmem, ⟨39, _⟩ => ⟨S2080x1024, .bf16⟩
  | .local _ .vmem, ⟨40, _⟩ => ⟨S2080x1408, .bf16⟩
  | .local _ .vmem, ⟨41, _⟩ => ⟨S2080x1408, .bf16⟩
  | .local _ .vmem, ⟨42, _⟩ => ⟨S1x1024x1408, .bf16⟩
  | .local _ .vmem, ⟨43, _⟩ => ⟨S1x1024x1408, .bf16⟩
  | .local _ .vmem, ⟨44, _⟩ => ⟨S2080x1024, .bf16⟩
  | .local _ .vmem, ⟨45, _⟩ => ⟨S2080x1024, .bf16⟩
  | .local _ .vmem, ⟨46, _⟩ => ⟨S2080x1408, .bf16⟩
  | .local _ .vmem, ⟨47, _⟩ => ⟨S2080x1408, .bf16⟩
  | .local _ .vmem, ⟨48, _⟩ => ⟨S1x1024x1408, .bf16⟩
  | .local _ .vmem, ⟨49, _⟩ => ⟨S1x1024x1408, .bf16⟩
  | .local _ .vmem, ⟨50, _⟩ => ⟨S416x5632, .bf16⟩
  | .local _ .vmem, ⟨51, _⟩ => ⟨S416x5632, .bf16⟩
  | .local _ .vmem, ⟨52, _⟩ => ⟨S416x5632, .bf16⟩
  | .local _ .vmem, ⟨53, _⟩ => ⟨S416x5632, .bf16⟩
  | .local _ .vmem, ⟨54, _⟩ => ⟨S4x512x1408, .bf16⟩
  | .local _ .vmem, ⟨55, _⟩ => ⟨S4x512x1408, .bf16⟩
  | .local _ .vmem, ⟨56, _⟩ => ⟨S4x512x1408, .bf16⟩
  | .local _ .vmem, ⟨57, _⟩ => ⟨S4x512x1408, .bf16⟩
  | .local _ .vmem, ⟨58, _⟩ => ⟨S416x512, .bf16⟩
  | .local _ .vmem, ⟨59, _⟩ => ⟨S416x512, .bf16⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem3_1 : DmaSem sig := 57
abbrev cc6_sem4_0 : DmaSem sig := 58
abbrev cc6_sem4_1 : DmaSem sig := 59

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S416x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S416x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S416x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1040x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1040x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1040x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2080x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2080x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![4, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S416x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S416x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S416x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S416x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S416x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S2080x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2080x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage5_0 : Fin 2 → Memref sig .tc .vmem S2080x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2080x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![5, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S416x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S416x5632 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S4x512x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S4x512x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S416x512 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]
-- ==== Reference2Ideal.lean ====
abbrev S2080x2048 : Shape := ⟨2, ![2080, 2048]⟩
abbrev S2048x5632 : Shape := ⟨2, ![2048, 5632]⟩
abbrev S5632x2048 : Shape := ⟨2, ![5632, 2048]⟩
abbrev S2080x5632 : Shape := ⟨2, ![2080, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 49
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2080x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2080x2048, .f32⟩
  | .hbm, ⟨6, _⟩ => ⟨S2080x5632, .f32⟩
  | .hbm, ⟨7, _⟩ => ⟨S2080x5632, .f32⟩
  | .hbm, ⟨8, _⟩ => ⟨S2080x5632, .f32⟩
  | .hbm, ⟨9, _⟩ => ⟨S_, .f32⟩
  | .hbm, ⟨10, _⟩ => ⟨S2080x5632, .f32⟩
  | .hbm, ⟨11, _⟩ => ⟨S2080x5632, .f32⟩
  | .hbm, ⟨12, _⟩ => ⟨S_, .f32⟩
  | .hbm, ⟨13, _⟩ => ⟨S2080x5632, .f32⟩
  | .hbm, ⟨14, _⟩ => ⟨S2080x5632, .f32⟩
  | .hbm, ⟨15, _⟩ => ⟨S_, .f32⟩
  | .hbm, ⟨16, _⟩ => ⟨S2080x5632, .f32⟩
  | .hbm, ⟨17, _⟩ => ⟨S2080x5632, .f32⟩
  | .hbm, ⟨18, _⟩ => ⟨S2080x5632, .f32⟩
  | .hbm, ⟨19, _⟩ => ⟨S2080x5632, .f32⟩
  | .hbm, ⟨20, _⟩ => ⟨S2080x5632, .f32⟩
  | .hbm, ⟨21, _⟩ => ⟨S2080x5632, .f32⟩
  | .hbm, ⟨22, _⟩ => ⟨S2080x2048, .f32⟩
  | .hbm, ⟨23, _⟩ => ⟨S2080x2048, .f32⟩
  | .hbm, ⟨24, _⟩ => ⟨S2080x2048, .f32⟩
  | .hbm, ⟨25, _⟩ => ⟨S2048x5632, .f32⟩
  | .hbm, ⟨26, _⟩ => ⟨S5632x2048, .f32⟩
  | .hbm, ⟨27, _⟩ => ⟨S2080x5632, .f32⟩
  | .hbm, ⟨28, _⟩ => ⟨S2080x5632, .f32⟩
  | .hbm, ⟨29, _⟩ => ⟨S2080x5632, .f32⟩
  | .hbm, ⟨30, _⟩ => ⟨S5632x2048, .f32⟩
  | .hbm, ⟨31, _⟩ => ⟨S2048x5632, .f32⟩
  | .hbm, ⟨32, _⟩ => ⟨S2080x2048, .f32⟩
  | .hbm, ⟨33, _⟩ => ⟨S2080x5632, .f32⟩
  | .hbm, ⟨34, _⟩ => ⟨S2080x5632, .f32⟩
  | .hbm, ⟨35, _⟩ => ⟨S2080x5632, .f32⟩
  | .hbm, ⟨36, _⟩ => ⟨S2080x5632, .f32⟩
  | .hbm, ⟨37, _⟩ => ⟨S5632x2048, .f32⟩
  | .hbm, ⟨38, _⟩ => ⟨S2048x5632, .f32⟩
  | .hbm, ⟨39, _⟩ => ⟨S2080x2048, .f32⟩
  | .hbm, ⟨40, _⟩ => ⟨S2080x2048, .f32⟩
  | .hbm, ⟨41, _⟩ => ⟨S2080x2048, .bf16⟩
  | .hbm, ⟨42, _⟩ => ⟨S2048x4x1408, .f32⟩
  | .hbm, ⟨43, _⟩ => ⟨S4x2048x1408, .f32⟩
  | .hbm, ⟨44, _⟩ => ⟨S4x2048x1408, .bf16⟩
  | .hbm, ⟨45, _⟩ => ⟨S2048x4x1408, .f32⟩
  | .hbm, ⟨46, _⟩ => ⟨S4x2048x1408, .f32⟩
  | .hbm, ⟨47, _⟩ => ⟨S4x2048x1408, .bf16⟩
  | .hbm, ⟨48, _⟩ => ⟨S5632x2048, .bf16⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel3.lean ====
abbrev S2080x2048 : Shape := ⟨2, ![2080, 2048]⟩
abbrev S2080x4096 : Shape := ⟨2, ![2080, 4096]⟩
abbrev S2048x2048 : Shape := ⟨2, ![2048, 2048]⟩
abbrev S4096 : Shape := ⟨1, ![4096]⟩
abbrev S2048 : Shape := ⟨1, ![2048]⟩
abbrev S1x4096 : Shape := ⟨2, ![1, 4096]⟩
abbrev S1x2048 : Shape := ⟨2, ![1, 2048]⟩
abbrev S2048x1024 : Shape := ⟨2, ![2048, 1024]⟩
abbrev S2080x1024 : Shape := ⟨2, ![2080, 1024]⟩
abbrev S416x4096 : Shape := ⟨2, ![416, 4096]⟩
abbrev S416x2048 : Shape := ⟨2, ![416, 2048]⟩
abbrev S2048x512 : Shape := ⟨2, ![2048, 512]⟩
abbrev S2080x512 : Shape := ⟨2, ![2080, 512]⟩
abbrev S1024x2048 : Shape := ⟨2, ![1024, 2048]⟩
abbrev S1024x1024 : Shape := ⟨2, ![1024, 1024]⟩

abbrev nBuf : Space → Nat
  | .hbm => 33
  | .vmem => 60
  | .smem => 0
  | _ => 0

abbrev bufTy : (tb : Table) → Fin (tcTables nBuf tb) → BufTy
  | .hbm, ⟨0, _⟩ => ⟨S2080x2048, .f32⟩
  | .hbm, ⟨1, _⟩ => ⟨S2080x4096, .f32⟩
  | .hbm, ⟨2, _⟩ => ⟨S2080x2048, .f32⟩
  | .hbm, ⟨3, _⟩ => ⟨S2080x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S4096, .f32⟩
  | .hbm, ⟨8, _⟩ => ⟨S2048, .f32⟩
  | .hbm, ⟨9, _⟩ => ⟨S2080x2048, .f32⟩
  | .hbm, ⟨10, _⟩ => ⟨S2080x2048, .f32⟩
  | .hbm, ⟨11, _⟩ => ⟨S2080x2048, .f32⟩
  | .hbm, ⟨12, _⟩ => ⟨S2080x4096, .bf16⟩
  | .hbm, ⟨13, _⟩ => ⟨S2080x2048, .bf16⟩
  | .hbm, ⟨14, _⟩ => ⟨S2080x2048, .bf16⟩
  | .hbm, ⟨15, _⟩ => ⟨S2080x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2080x2048, .bf16⟩
  | .hbm, ⟨20, _⟩ => ⟨S2080x2048, .bf16⟩
  | .hbm, ⟨21, _⟩ => ⟨S1x4096, .f32⟩
  | .hbm, ⟨22, _⟩ => ⟨S1x2048, .f32⟩
  | .hbm, ⟨23, _⟩ => ⟨S2080x2048, .bf16⟩
  | .hbm, ⟨24, _⟩ => ⟨S2080x2048, .bf16⟩
  | .hbm, ⟨25, _⟩ => ⟨S2080x2048, .bf16⟩
  | .hbm, ⟨26, _⟩ => ⟨S2080x2048, .f32⟩
  | .hbm, ⟨27, _⟩ => ⟨S2080x2048, .bf16⟩
  | .hbm, ⟨28, _⟩ => ⟨S2048x2048, .bf16⟩
  | .hbm, ⟨29, _⟩ => ⟨S2048x2048, .bf16⟩
  | .hbm, ⟨30, _⟩ => ⟨S2080x2048, .bf16⟩
  | .hbm, ⟨31, _⟩ => ⟨S2048x2048, .bf16⟩
  | .hbm, ⟨32, _⟩ => ⟨S2080x2048, .bf16⟩
  | .local _ .vmem, ⟨0, _⟩ => ⟨S2080x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2080x1024, .bf16⟩
  | .local _ .vmem, ⟨4, _⟩ => ⟨S2080x1024, .bf16⟩
  | .local _ .vmem, ⟨5, _⟩ => ⟨S2080x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2080x1024, .bf16⟩
  | .local _ .vmem, ⟨9, _⟩ => ⟨S2080x1024, .bf16⟩
  | .local _ .vmem, ⟨10, _⟩ => ⟨S416x4096, .bf16⟩
  | .local _ .vmem, ⟨11, _⟩ => ⟨S416x4096, .bf16⟩
  | .local _ .vmem, ⟨12, _⟩ => ⟨S416x2048, .bf16⟩
  | .local _ .vmem, ⟨13, _⟩ => ⟨S416x2048, .bf16⟩
  | .local _ .vmem, ⟨14, _⟩ => ⟨S416x2048, .bf16⟩
  | .local _ .vmem, ⟨15, _⟩ => ⟨S416x2048, .bf16⟩
  | .local _ .vmem, ⟨16, _⟩ => ⟨S1x4096, .f32⟩
  | .local _ .vmem, ⟨17, _⟩ => ⟨S1x2048, .f32⟩
  | .local _ .vmem, ⟨18, _⟩ => ⟨S416x2048, .bf16⟩
  | .local _ .vmem, ⟨19, _⟩ => ⟨S416x2048, .bf16⟩
  | .local _ .vmem, ⟨20, _⟩ => ⟨S2080x2048, .bf16⟩
  | .local _ .vmem, ⟨21, _⟩ => ⟨S2048x512, .bf16⟩
  | .local _ .vmem, ⟨22, _⟩ => ⟨S2048x512, .bf16⟩
  | .local _ .vmem, ⟨23, _⟩ => ⟨S2080x512, .f32⟩
  | .local _ .vmem, ⟨24, _⟩ => ⟨S2080x512, .f32⟩
  | .local _ .vmem, ⟨25, _⟩ => ⟨S2080x512, .f32⟩
  | .local _ .vmem, ⟨26, _⟩ => ⟨S2080x512, .f32⟩
  | .local _ .vmem, ⟨27, _⟩ => ⟨S2080x2048, .bf16⟩
  | .local _ .vmem, ⟨28, _⟩ => ⟨S1024x2048, .bf16⟩
  | .local _ .vmem, ⟨29, _⟩ => ⟨S1024x2048, .bf16⟩
  | .local _ .vmem, ⟨30, _⟩ => ⟨S2080x1024, .bf16⟩
  | .local _ .vmem, ⟨31, _⟩ => ⟨S2080x1024, .bf16⟩
  | .local _ .vmem, ⟨32, _⟩ => ⟨S2080x1024, .bf16⟩
  | .local _ .vmem, ⟨33, _⟩ => ⟨S2080x1024, .bf16⟩
  | .local _ .vmem, ⟨34, _⟩ => ⟨S2080x1024, .bf16⟩
  | .local _ .vmem, ⟨35, _⟩ => ⟨S2080x1024, .bf16⟩
  | .local _ .vmem, ⟨36, _⟩ => ⟨S1024x1024, .bf16⟩
  | .local _ .vmem, ⟨37, _⟩ => ⟨S1024x1024, .bf16⟩
  | .local _ .vmem, ⟨38, _⟩ => ⟨S2080x1024, .bf16⟩
  | .local _ .vmem, ⟨39, _⟩ => ⟨S2080x1024, .bf16⟩
  | .local _ .vmem, ⟨40, _⟩ => ⟨S2080x1024, .bf16⟩
  | .local _ .vmem, ⟨41, _⟩ => ⟨S2080x1024, .bf16⟩
  | .local _ .vmem, ⟨42, _⟩ => ⟨S1024x1024, .bf16⟩
  | .local _ .vmem, ⟨43, _⟩ => ⟨S1024x1024, .bf16⟩
  | .local _ .vmem, ⟨44, _⟩ => ⟨S2080x2048, .bf16⟩
  | .local _ .vmem, ⟨45, _⟩ => ⟨S1024x2048, .bf16⟩
  | .local _ .vmem, ⟨46, _⟩ => ⟨S1024x2048, .bf16⟩
  | .local _ .vmem, ⟨47, _⟩ => ⟨S2080x1024, .bf16⟩
  | .local _ .vmem, ⟨48, _⟩ => ⟨S2080x1024, .bf16⟩
  | .local _ .vmem, ⟨49, _⟩ => ⟨S2080x1024, .bf16⟩
  | .local _ .vmem, ⟨50, _⟩ => ⟨S2080x1024, .bf16⟩
  | .local _ .vmem, ⟨51, _⟩ => ⟨S2080x1024, .bf16⟩
  | .local _ .vmem, ⟨52, _⟩ => ⟨S2080x1024, .bf16⟩
  | .local _ .vmem, ⟨53, _⟩ => ⟨S1024x1024, .bf16⟩
  | .local _ .vmem, ⟨54, _⟩ => ⟨S1024x1024, .bf16⟩
  | .local _ .vmem, ⟨55, _⟩ => ⟨S2080x2048, .bf16⟩
  | .local _ .vmem, ⟨56, _⟩ => ⟨S1024x2048, .bf16⟩
  | .local _ .vmem, ⟨57, _⟩ => ⟨S1024x2048, .bf16⟩
  | .local _ .vmem, ⟨58, _⟩ => ⟨S2080x1024, .bf16⟩
  | .local _ .vmem, ⟨59, _⟩ => ⟨S2080x1024, .bf16⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem1_0 : DmaSem sig := 45
abbrev cc7_sem1_1 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem2_1 : DmaSem sig := 54
abbrev cc9_sem0_0 : DmaSem sig := 55
abbrev cc9_sem1_0 : DmaSem sig := 56
abbrev cc9_sem1_1 : DmaSem sig := 57
abbrev cc9_sem2_0 : DmaSem sig := 58
abbrev cc9_sem2_1 : DmaSem sig := 59

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2080x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2080x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S416x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S416x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S416x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S416x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2080x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2080x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2080x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2080x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2080x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2080x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2080x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2080x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2080x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S2080x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2080x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2080x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2080x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2080x2048 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 2 → Memref sig .tc .vmem S1024x2048 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S2080x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference3Ideal.lean ====
abbrev S2080x2048 : Shape := ⟨2, ![2080, 2048]⟩
abbrev S2080x4096 : Shape := ⟨2, ![2080, 4096]⟩
abbrev S2048x2048 : Shape := ⟨2, ![2048, 2048]⟩
abbrev S4096 : Shape := ⟨1, ![4096]⟩
abbrev S2048 : Shape := ⟨1, ![2048]⟩
abbrev S1x4096 : Shape := ⟨2, ![1, 4096]⟩
abbrev S_ : Shape := ⟨0, ![]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2080x4096, .f32⟩
  | .hbm, ⟨2, _⟩ => ⟨S2080x2048, .f32⟩
  | .hbm, ⟨3, _⟩ => ⟨S2080x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S4096, .f32⟩
  | .hbm, ⟨8, _⟩ => ⟨S2048, .f32⟩
  | .hbm, ⟨9, _⟩ => ⟨S2080x2048, .f32⟩
  | .hbm, ⟨10, _⟩ => ⟨S2080x2048, .f32⟩
  | .hbm, ⟨11, _⟩ => ⟨S2080x2048, .f32⟩
  | .hbm, ⟨12, _⟩ => ⟨S2080x2048, .f32⟩
  | .hbm, ⟨13, _⟩ => ⟨S2080x2048, .f32⟩
  | .hbm, ⟨14, _⟩ => ⟨S1x4096, .f32⟩
  | .hbm, ⟨15, _⟩ => ⟨S2080x4096, .f32⟩
  | .hbm, ⟨16, _⟩ => ⟨S2080x4096, .f32⟩
  | .hbm, ⟨17, _⟩ => ⟨S2080x4096, .f32⟩
  | .hbm, ⟨18, _⟩ => ⟨S2080x4096, .f32⟩
  | .hbm, ⟨19, _⟩ => ⟨S_, .f32⟩
  | .hbm, ⟨20, _⟩ => ⟨S2080x4096, .f32⟩
  | .hbm, ⟨21, _⟩ => ⟨S2080x4096, .f32⟩
  | .hbm, ⟨22, _⟩ => ⟨S_, .f32⟩
  | .hbm, ⟨23, _⟩ => ⟨S2080x4096, .f32⟩
  | .hbm, ⟨24, _⟩ => ⟨S2080x4096, .f32⟩
  | .hbm, ⟨25, _⟩ => ⟨S2080x2048, .f32⟩
  | .hbm, ⟨26, _⟩ => ⟨S2080x2048, .f32⟩
  | .hbm, ⟨27, _⟩ => ⟨S1x2048, .f32⟩
  | .hbm, ⟨28, _⟩ => ⟨S2080x2048, .f32⟩
  | .hbm, ⟨29, _⟩ => ⟨S2080x2048, .f32⟩
  | .hbm, ⟨30, _⟩ => ⟨S2080x2048, .f32⟩
  | .hbm, ⟨31, _⟩ => ⟨S2080x2048, .f32⟩
  | .hbm, ⟨32, _⟩ => ⟨S2080x2048, .f32⟩
  | .hbm, ⟨33, _⟩ => ⟨S2080x2048, .f32⟩
  | .hbm, ⟨34, _⟩ => ⟨S2080x2048, .f32⟩
  | .hbm, ⟨35, _⟩ => ⟨S2080x2048, .f32⟩
  | .hbm, ⟨36, _⟩ => ⟨S2048x2048, .f32⟩
  | .hbm, ⟨37, _⟩ => ⟨S2048x2048, .f32⟩
  | .hbm, ⟨38, _⟩ => ⟨S2080x2048, .f32⟩
  | .hbm, ⟨39, _⟩ => ⟨S2048x2048, .f32⟩
  | .hbm, ⟨40, _⟩ => ⟨S2048x2048, .f32⟩
  | .hbm, ⟨41, _⟩ => ⟨S2080x2048, .f32⟩
  | .hbm, ⟨42, _⟩ => ⟨S2048x2048, .f32⟩
  | .hbm, ⟨43, _⟩ => ⟨S2048x2048, .f32⟩
  | .hbm, ⟨44, _⟩ => ⟨S2080x2048, .f32⟩
  | .hbm, ⟨45, _⟩ => ⟨S2080x2048, .bf16⟩
  | .hbm, ⟨46, _⟩ => ⟨S2048x2048, .bf16⟩
  | .hbm, ⟨47, _⟩ => ⟨S2048x2048, .bf16⟩
  | .hbm, ⟨48, _⟩ => ⟨S2080x2048, .bf16⟩
  | .hbm, ⟨49, _⟩ => ⟨S2048x2048, .bf16⟩
  | .hbm, ⟨50, _⟩ => ⟨S2080x2048, .bf16⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S2080x2048 : Shape := ⟨2, ![2080, 2048]⟩
abbrev S2048 : Shape := ⟨1, ![2048]⟩
abbrev S2048x9280 : Shape := ⟨2, ![2048, 9280]⟩
abbrev S2080x1088 : Shape := ⟨2, ![2080, 1088]⟩
abbrev S2080x4096 : Shape := ⟨2, ![2080, 4096]⟩
abbrev S9280x2048 : Shape := ⟨2, ![9280, 2048]⟩
abbrev S1088x2048 : Shape := ⟨2, ![1088, 2048]⟩
abbrev S_ : Shape := ⟨0, ![]⟩
abbrev S1152x2048 : Shape := ⟨2, ![1152, 2048]⟩
abbrev S4096x2048 : Shape := ⟨2, ![4096, 2048]⟩
abbrev S2080x1152 : Shape := ⟨2, ![2080, 1152]⟩
abbrev S1x2048 : Shape := ⟨2, ![1, 2048]⟩
abbrev S416x2048 : Shape := ⟨2, ![416, 2048]⟩
abbrev S416 : Shape := ⟨1, ![416]⟩
abbrev S416x1 : Shape := ⟨2, ![416, 1]⟩
abbrev S1024x2048 : Shape := ⟨2, ![1024, 2048]⟩
abbrev S2080x1024 : Shape := ⟨2, ![2080, 1024]⟩
abbrev S1152x512 : Shape := ⟨2, ![1152, 512]⟩
abbrev S2080x512 : Shape := ⟨2, ![2080, 512]⟩
abbrev S4096x256 : Shape := ⟨2, ![4096, 256]⟩
abbrev S2080x256 : Shape := ⟨2, ![2080, 256]⟩

abbrev nBuf : Space → Nat
  | .hbm => 24
  | .vmem => 27
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2048x9280, .f32⟩
  | .hbm, ⟨3, _⟩ => ⟨S2080x2048, .f32⟩
  | .hbm, ⟨4, _⟩ => ⟨S2080x1088, .f32⟩
  | .hbm, ⟨5, _⟩ => ⟨S2080x4096, .f32⟩
  | .hbm, ⟨6, _⟩ => ⟨S9280x2048, .f32⟩
  | .hbm, ⟨7, _⟩ => ⟨S9280x2048, .bf16⟩
  | .hbm, ⟨8, _⟩ => ⟨S1088x2048, .bf16⟩
  | .hbm, ⟨9, _⟩ => ⟨S_, .i32⟩
  | .hbm, ⟨10, _⟩ => ⟨S_, .bf16⟩
  | .hbm, ⟨11, _⟩ => ⟨S1152x2048, .bf16⟩
  | .hbm, ⟨12, _⟩ => ⟨S4096x2048, .bf16⟩
  | .hbm, ⟨13, _⟩ => ⟨S_, .i32⟩
  | .hbm, ⟨14, _⟩ => ⟨S_, .f32⟩
  | .hbm, ⟨15, _⟩ => ⟨S2080x1152, .f32⟩
  | .hbm, ⟨16, _⟩ => ⟨S2080x1152, .bf16⟩
  | .hbm, ⟨17, _⟩ => ⟨S2080x4096, .bf16⟩
  | .hbm, ⟨18, _⟩ => ⟨S1x2048, .f32⟩
  | .hbm, ⟨19, _⟩ => ⟨S2080x2048, .bf16⟩
  | .hbm, ⟨20, _⟩ => ⟨S2080x1152, .f32⟩
  | .hbm, ⟨21, _⟩ => ⟨S2080x4096, .bf16⟩
  | .hbm, ⟨22, _⟩ => ⟨S2080x2048, .f32⟩
  | .hbm, ⟨23, _⟩ => ⟨S2080x2048, .f32⟩
  | .local _ .vmem, ⟨0, _⟩ => ⟨S416x2048, .f32⟩
  | .local _ .vmem, ⟨1, _⟩ => ⟨S416x2048, .f32⟩
  | .local _ .vmem, ⟨2, _⟩ => ⟨S1x2048, .f32⟩
  | .local _ .vmem, ⟨3, _⟩ => ⟨S416x2048, .bf16⟩
  | .local _ .vmem, ⟨4, _⟩ => ⟨S416x2048, .bf16⟩
  | .local _ .vmem, ⟨5, _⟩ => ⟨S2080x2048, .bf16⟩
  | .local _ .vmem, ⟨6, _⟩ => ⟨S1152x2048, .bf16⟩
  | .local _ .vmem, ⟨7, _⟩ => ⟨S2080x1152, .f32⟩
  | .local _ .vmem, ⟨8, _⟩ => ⟨S2080x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2080x1024, .bf16⟩
  | .local _ .vmem, ⟨12, _⟩ => ⟨S2080x1024, .bf16⟩
  | .local _ .vmem, ⟨13, _⟩ => ⟨S2080x1152, .bf16⟩
  | .local _ .vmem, ⟨14, _⟩ => ⟨S1152x512, .bf16⟩
  | .local _ .vmem, ⟨15, _⟩ => ⟨S1152x512, .bf16⟩
  | .local _ .vmem, ⟨16, _⟩ => ⟨S2080x512, .f32⟩
  | .local _ .vmem, ⟨17, _⟩ => ⟨S2080x512, .f32⟩
  | .local _ .vmem, ⟨18, _⟩ => ⟨S2080x512, .f32⟩
  | .local _ .vmem, ⟨19, _⟩ => ⟨S2080x512, .f32⟩
  | .local _ .vmem, ⟨20, _⟩ => ⟨S2080x4096, .bf16⟩
  | .local _ .vmem, ⟨21, _⟩ => ⟨S4096x256, .bf16⟩
  | .local _ .vmem, ⟨22, _⟩ => ⟨S4096x256, .bf16⟩
  | .local _ .vmem, ⟨23, _⟩ => ⟨S2080x256, .f32⟩
  | .local _ .vmem, ⟨24, _⟩ => ⟨S2080x256, .f32⟩
  | .local _ .vmem, ⟨25, _⟩ => ⟨S2080x256, .f32⟩
  | .local _ .vmem, ⟨26, _⟩ => ⟨S2080x256, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2080x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1152x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S2080x1152 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2080x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2080x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2080x1152 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1152x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2080x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2080x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2080x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2080x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S2080x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== Reference4Ideal.lean ====
abbrev S2080x2048 : Shape := ⟨2, ![2080, 2048]⟩
abbrev S2048 : Shape := ⟨1, ![2048]⟩
abbrev S2048x9280 : Shape := ⟨2, ![2048, 9280]⟩
abbrev S2080x1088 : Shape := ⟨2, ![2080, 1088]⟩
abbrev S2080x4096 : Shape := ⟨2, ![2080, 4096]⟩
abbrev S_ : Shape := ⟨0, ![]⟩
abbrev S2080 : Shape := ⟨1, ![2080]⟩
abbrev S2080x1 : Shape := ⟨2, ![2080, 1]⟩
abbrev S1x2048 : Shape := ⟨2, ![1, 2048]⟩
abbrev S2080x9280 : Shape := ⟨2, ![2080, 9280]⟩
abbrev S2080x1152 : Shape := ⟨2, ![2080, 1152]⟩

abbrev nBuf : Space → Nat
  | .hbm => 43
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2048x9280, .f32⟩
  | .hbm, ⟨3, _⟩ => ⟨S2080x2048, .f32⟩
  | .hbm, ⟨4, _⟩ => ⟨S2080x1088, .f32⟩
  | .hbm, ⟨5, _⟩ => ⟨S2080x4096, .f32⟩
  | .hbm, ⟨6, _⟩ => ⟨S2080x2048, .f32⟩
  | .hbm, ⟨7, _⟩ => ⟨S_, .f32⟩
  | .hbm, ⟨8, _⟩ => ⟨S2080, .f32⟩
  | .hbm, ⟨9, _⟩ => ⟨S2080x1, .f32⟩
  | .hbm, ⟨10, _⟩ => ⟨S_, .f32⟩
  | .hbm, ⟨11, _⟩ => ⟨S2080x1, .f32⟩
  | .hbm, ⟨12, _⟩ => ⟨S2080x1, .f32⟩
  | .hbm, ⟨13, _⟩ => ⟨S_, .f32⟩
  | .hbm, ⟨14, _⟩ => ⟨S2080x1, .f32⟩
  | .hbm, ⟨15, _⟩ => ⟨S2080x1, .f32⟩
  | .hbm, ⟨16, _⟩ => ⟨S2080x1, .f32⟩
  | .hbm, ⟨17, _⟩ => ⟨S2080x2048, .f32⟩
  | .hbm, ⟨18, _⟩ => ⟨S2080x2048, .f32⟩
  | .hbm, ⟨19, _⟩ => ⟨S1x2048, .f32⟩
  | .hbm, ⟨20, _⟩ => ⟨S2080x2048, .f32⟩
  | .hbm, ⟨21, _⟩ => ⟨S2080x2048, .f32⟩
  | .hbm, ⟨22, _⟩ => ⟨S2080x9280, .f32⟩
  | .hbm, ⟨23, _⟩ => ⟨S2080x4096, .f32⟩
  | .hbm, ⟨24, _⟩ => ⟨S2080x1088, .f32⟩
  | .hbm, ⟨25, _⟩ => ⟨S2080x4096, .f32⟩
  | .hbm, ⟨26, _⟩ => ⟨S_, .f32⟩
  | .hbm, ⟨27, _⟩ => ⟨S2080x4096, .f32⟩
  | .hbm, ⟨28, _⟩ => ⟨S_, .f32⟩
  | .hbm, ⟨29, _⟩ => ⟨S2080x9280, .f32⟩
  | .hbm, ⟨30, _⟩ => ⟨S_, .f32⟩
  | .hbm, ⟨31, _⟩ => ⟨S2080x9280, .f32⟩
  | .hbm, ⟨32, _⟩ => ⟨S2080x9280, .f32⟩
  | .hbm, ⟨33, _⟩ => ⟨S_, .f32⟩
  | .hbm, ⟨34, _⟩ => ⟨S2080x9280, .f32⟩
  | .hbm, ⟨35, _⟩ => ⟨S2080x9280, .f32⟩
  | .hbm, ⟨36, _⟩ => ⟨S2080x2048, .f32⟩
  | .hbm, ⟨37, _⟩ => ⟨S2080x2048, .bf16⟩
  | .hbm, ⟨38, _⟩ => ⟨S_, .i32⟩
  | .hbm, ⟨39, _⟩ => ⟨S_, .f32⟩
  | .hbm, ⟨40, _⟩ => ⟨S2080x1152, .f32⟩
  | .hbm, ⟨41, _⟩ => ⟨S2080x4096, .bf16⟩
  | .hbm, ⟨42, _⟩ => ⟨S2080x2048, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel5.lean ====
abbrev S2080x4096 : Shape := ⟨2, ![2080, 4096]⟩
abbrev S2080x2048 : Shape := ⟨2, ![2080, 2048]⟩
abbrev S4096 : Shape := ⟨1, ![4096]⟩
abbrev S2048 : Shape := ⟨1, ![2048]⟩
abbrev S1x4096 : Shape := ⟨2, ![1, 4096]⟩
abbrev S1x2048 : Shape := ⟨2, ![1, 2048]⟩
abbrev S416x4096 : Shape := ⟨2, ![416, 4096]⟩
abbrev S416x2048 : Shape := ⟨2, ![416, 2048]⟩

abbrev nBuf : Space → Nat
  | .hbm => 18
  | .vmem => 19
  | .smem => 0
  | _ => 0

abbrev bufTy : (tb : Table) → Fin (tcTables nBuf tb) → BufTy
  | .hbm, ⟨0, _⟩ => ⟨S2080x4096, .f32⟩
  | .hbm, ⟨1, _⟩ => ⟨S2080x2048, .f32⟩
  | .hbm, ⟨2, _⟩ => ⟨S2080x2048, .f32⟩
  | .hbm, ⟨3, _⟩ => ⟨S4096, .f32⟩
  | .hbm, ⟨4, _⟩ => ⟨S2048, .f32⟩
  | .hbm, ⟨5, _⟩ => ⟨S2080x2048, .f32⟩
  | .hbm, ⟨6, _⟩ => ⟨S2080x4096, .bf16⟩
  | .hbm, ⟨7, _⟩ => ⟨S2080x2048, .bf16⟩
  | .hbm, ⟨8, _⟩ => ⟨S2080x2048, .bf16⟩
  | .hbm, ⟨9, _⟩ => ⟨S2080x2048, .bf16⟩
  | .hbm, ⟨10, _⟩ => ⟨S1x4096, .f32⟩
  | .hbm, ⟨11, _⟩ => ⟨S1x2048, .f32⟩
  | .hbm, ⟨12, _⟩ => ⟨S2080x2048, .bf16⟩
  | .hbm, ⟨13, _⟩ => ⟨S2080x2048, .bf16⟩
  | .hbm, ⟨14, _⟩ => ⟨S2080x4096, .bf16⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S416x4096, .bf16⟩
  | .local _ .vmem, ⟨1, _⟩ => ⟨S416x4096, .bf16⟩
  | .local _ .vmem, ⟨2, _⟩ => ⟨S416x2048, .bf16⟩
  | .local _ .vmem, ⟨3, _⟩ => ⟨S416x2048, .bf16⟩
  | .local _ .vmem, ⟨4, _⟩ => ⟨S416x2048, .bf16⟩
  | .local _ .vmem, ⟨5, _⟩ => ⟨S416x2048, .bf16⟩
  | .local _ .vmem, ⟨6, _⟩ => ⟨S416x2048, .bf16⟩
  | .local _ .vmem, ⟨7, _⟩ => ⟨S416x2048, .bf16⟩
  | .local _ .vmem, ⟨8, _⟩ => ⟨S1x4096, .f32⟩
  | .local _ .vmem, ⟨9, _⟩ => ⟨S1x2048, .f32⟩
  | .local _ .vmem, ⟨10, _⟩ => ⟨S416x2048, .bf16⟩
  | .local _ .vmem, ⟨11, _⟩ => ⟨S416x2048, .bf16⟩
  | .local _ .vmem, ⟨12, _⟩ => ⟨S416x2048, .bf16⟩
  | .local _ .vmem, ⟨13, _⟩ => ⟨S416x2048, .bf16⟩
  | .local _ .vmem, ⟨14, _⟩ => ⟨S416x4096, .bf16⟩
  | .local _ .vmem, ⟨15, _⟩ => ⟨S416x4096, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S2080x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_23 : BitVec 32 := 0#32
  let v53 : BitVec 1 := Scalar.cmpi .ne v52 c0_i32_23
  v53

def k0_cond2 (i : grid0.Coords) : BitVec 1 :=
  let arg0 : BitVec 32 := BitVec.ofNat 32 (i 0).val
  let c0_i32_24 : BitVec 32 := 0#32
  let v54 : BitVec 1 := Scalar.cmpi .sgt arg0 c0_i32_24
  let v55 : BitVec 32 := Scalar.extui v54
  let c0_i32_25 : BitVec 32 := 0#32
  let v56 : BitVec 1 := Scalar.cmpi .ne v55 c0_i32_25
  v56

def k0_cond3 (i : grid0.Coords) : BitVec 1 :=
  let arg0 : BitVec 32 := BitVec.ofNat 32 (i 0).val
  let c0_i32_27 : BitVec 32 := 0#32
  let v59 : BitVec 1 := Scalar.cmpi .eq arg0 c0_i32_27
  let v60 : BitVec 32 := Scalar.extui v59
  let c0_i32_28 : BitVec 32 := 0#32
  let v61 : BitVec 1 := Scalar.cmpi .ne v60 c0_i32_28
  v61

def k0_cond4 (i : grid0.Coords) : BitVec 1 :=
  let arg0 : BitVec 32 := BitVec.ofNat 32 (i 0).val
  let c0_i32_29 : BitVec 32 := 0#32
  let v62 : BitVec 1 := Scalar.cmpi .sgt arg0 c0_i32_29
  let v63 : BitVec 32 := Scalar.extui v62
  let c0_i32_30 : BitVec 32 := 0#32
  let v64 : BitVec 1 := Scalar.cmpi .ne v63 c0_i32_30
  v64

def k0_cond5 (i : grid0.Coords) : BitVec 1 :=
  let arg0 : BitVec 32 := BitVec.ofNat 32 (i 0).val
  let c0_i32_32 : BitVec 32 := 0#32
  let v67 : BitVec 1 := Scalar.cmpi .eq arg0 c0_i32_32
  let v68 : BitVec 32 := Scalar.extui v67
  let c0_i32_33 : BitVec 32 := 0#32
  let v69 : BitVec 1 := Scalar.cmpi .ne v68 c0_i32_33
  v69

def k0_cond6 (i : grid0.Coords) : BitVec 1 :=
  let arg0 : BitVec 32 := BitVec.ofNat 32 (i 0).val
  let c0_i32_34 : BitVec 32 := 0#32
  let v70 : BitVec 1 := Scalar.cmpi .sgt arg0 c0_i32_34
  let v71 : BitVec 32 := Scalar.extui v70
  let c0_i32_35 : BitVec 32 := 0#32
  let v72 : BitVec 1 := Scalar.cmpi .ne v71 c0_i32_35
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S2080x4096 : Shape := ⟨2, ![2080, 4096]⟩
abbrev S2080x2048 : Shape := ⟨2, ![2080, 2048]⟩
abbrev S4096 : Shape := ⟨1, ![4096]⟩
abbrev S2048 : Shape := ⟨1, ![2048]⟩
abbrev S1x4096 : Shape := ⟨2, ![1, 4096]⟩
abbrev S_ : Shape := ⟨0, ![]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2080x4096, .f32⟩
  | .hbm, ⟨1, _⟩ => ⟨S2080x2048, .f32⟩
  | .hbm, ⟨2, _⟩ => ⟨S2080x2048, .f32⟩
  | .hbm, ⟨3, _⟩ => ⟨S4096, .f32⟩
  | .hbm, ⟨4, _⟩ => ⟨S2048, .f32⟩
  | .hbm, ⟨5, _⟩ => ⟨S2080x2048, .f32⟩
  | .hbm, ⟨6, _⟩ => ⟨S1x4096, .f32⟩
  | .hbm, ⟨7, _⟩ => ⟨S2080x4096, .f32⟩
  | .hbm, ⟨8, _⟩ => ⟨S2080x4096, .f32⟩
  | .hbm, ⟨9, _⟩ => ⟨S2080x4096, .f32⟩
  | .hbm, ⟨10, _⟩ => ⟨S2080x4096, .f32⟩
  | .hbm, ⟨11, _⟩ => ⟨S_, .f32⟩
  | .hbm, ⟨12, _⟩ => ⟨S2080x4096, .f32⟩
  | .hbm, ⟨13, _⟩ => ⟨S2080x4096, .f32⟩
  | .hbm, ⟨14, _⟩ => ⟨S_, .f32⟩
  | .hbm, ⟨15, _⟩ => ⟨S2080x4096, .f32⟩
  | .hbm, ⟨16, _⟩ => ⟨S2080x4096, .f32⟩
  | .hbm, ⟨17, _⟩ => ⟨S_, .f32⟩
  | .hbm, ⟨18, _⟩ => ⟨S2080x4096, .f32⟩
  | .hbm, ⟨19, _⟩ => ⟨S2080x4096, .f32⟩
  | .hbm, ⟨20, _⟩ => ⟨S2080x4096, .f32⟩
  | .hbm, ⟨21, _⟩ => ⟨S2080x2048, .f32⟩
  | .hbm, ⟨22, _⟩ => ⟨S2080x2048, .f32⟩
  | .hbm, ⟨23, _⟩ => ⟨S1x2048, .f32⟩
  | .hbm, ⟨24, _⟩ => ⟨S2080x2048, .f32⟩
  | .hbm, ⟨25, _⟩ => ⟨S2080x2048, .f32⟩
  | .hbm, ⟨26, _⟩ => ⟨S2080x2048, .f32⟩
  | .hbm, ⟨27, _⟩ => ⟨S2080x2048, .f32⟩
  | .hbm, ⟨28, _⟩ => ⟨S2080x2048, .f32⟩
  | .hbm, ⟨29, _⟩ => ⟨S2080x2048, .f32⟩
  | .hbm, ⟨30, _⟩ => ⟨S2080x2048, .f32⟩
  | .hbm, ⟨31, _⟩ => ⟨S2080x2048, .f32⟩
  | .hbm, ⟨32, _⟩ => ⟨S2080x2048, .f32⟩
  | .hbm, ⟨33, _⟩ => ⟨S2080x2048, .f32⟩
  | .hbm, ⟨34, _⟩ => ⟨S2080x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S2048, .f32⟩
  | .hbm, ⟨40, _⟩ => ⟨S2080x4096, .f32⟩
  | .hbm, ⟨41, _⟩ => ⟨S2080x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S_, .f32⟩
  | .hbm, ⟨46, _⟩ => ⟨S4096, .f32⟩
  | .hbm, ⟨47, _⟩ => ⟨S2080x2048, .bf16⟩
  | .hbm, ⟨48, _⟩ => ⟨S2080x2048, .bf16⟩
  | .hbm, ⟨49, _⟩ => ⟨S2080x4096, .bf16⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S1x2048, .f32⟩
  | _, _ => ⟨S2080x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel6.lean ====
abbrev S2080x2048 : Shape := ⟨2, ![2080, 2048]⟩
abbrev S2048x9280 : Shape := ⟨2, ![2048, 9280]⟩
abbrev S9280x2048 : Shape := ⟨2, ![9280, 2048]⟩
abbrev S2080x4096 : Shape := ⟨2, ![2080, 4096]⟩
abbrev S1024x2048 : Shape := ⟨2, ![1024, 2048]⟩
abbrev S2080x1024 : Shape := ⟨2, ![2080, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2080x2048, .f32⟩
  | .hbm, ⟨1, _⟩ => ⟨S2048x9280, .f32⟩
  | .hbm, ⟨2, _⟩ => ⟨S9280x2048, .f32⟩
  | .hbm, ⟨3, _⟩ => ⟨S9280x2048, .bf16⟩
  | .hbm, ⟨4, _⟩ => ⟨S2080x2048, .bf16⟩
  | .hbm, ⟨5, _⟩ => ⟨S2080x4096, .bf16⟩
  | .local _ .vmem, ⟨0, _⟩ => ⟨S2080x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2080x1024, .bf16⟩
  | .local _ .vmem, ⟨4, _⟩ => ⟨S2080x1024, .bf16⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2080x2048 : Shape := ⟨2, ![2080, 2048]⟩
abbrev S2048x9280 : Shape := ⟨2, ![2048, 9280]⟩
abbrev S2080x9280 : Shape := ⟨2, ![2080, 9280]⟩
abbrev S2080x4096 : Shape := ⟨2, ![2080, 4096]⟩
abbrev S2080x1088 : Shape := ⟨2, ![2080, 1088]⟩

abbrev nBuf : Space → Nat
  | .hbm => 7
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2048x9280, .f32⟩
  | .hbm, ⟨2, _⟩ => ⟨S2080x9280, .f32⟩
  | .hbm, ⟨3, _⟩ => ⟨S2080x4096, .f32⟩
  | .hbm, ⟨4, _⟩ => ⟨S2080x1088, .f32⟩
  | .hbm, ⟨5, _⟩ => ⟨S2080x4096, .f32⟩
  | .hbm, ⟨6, _⟩ => ⟨S2080x4096, .bf16⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S2048x9280 : Shape := ⟨2, ![2048, 9280]⟩
abbrev S2080x4096 : Shape := ⟨2, ![2080, 4096]⟩
abbrev S9280x2048 : Shape := ⟨2, ![9280, 2048]⟩
abbrev S2080x2048 : Shape := ⟨2, ![2080, 2048]⟩
abbrev S4096x256 : Shape := ⟨2, ![4096, 256]⟩
abbrev S2080x256 : Shape := ⟨2, ![2080, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x9280, .f32⟩
  | .hbm, ⟨1, _⟩ => ⟨S2080x4096, .f32⟩
  | .hbm, ⟨2, _⟩ => ⟨S9280x2048, .f32⟩
  | .hbm, ⟨3, _⟩ => ⟨S9280x2048, .bf16⟩
  | .hbm, ⟨4, _⟩ => ⟨S2080x4096, .bf16⟩
  | .hbm, ⟨5, _⟩ => ⟨S2080x2048, .f32⟩
  | .local _ .vmem, ⟨0, _⟩ => ⟨S2080x4096, .bf16⟩
  | .local _ .vmem, ⟨1, _⟩ => ⟨S4096x256, .bf16⟩
  | .local _ .vmem, ⟨2, _⟩ => ⟨S4096x256, .bf16⟩
  | .local _ .vmem, ⟨3, _⟩ => ⟨S2080x256, .f32⟩
  | .local _ .vmem, ⟨4, _⟩ => ⟨S2080x256, .f32⟩
  | _, _ => ⟨S2048x9280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x9280 : Shape := ⟨2, ![2048, 9280]⟩
abbrev S2080x4096 : Shape := ⟨2, ![2080, 4096]⟩
abbrev S_ : Shape := ⟨0, ![]⟩
abbrev S2080x2048 : Shape := ⟨2, ![2080, 2048]⟩
abbrev S2080x9280 : Shape := ⟨2, ![2080, 9280]⟩
abbrev S2080x1088 : Shape := ⟨2, ![2080, 1088]⟩

abbrev nBuf : Space → Nat
  | .hbm => 11
  | .vmem => 0
  | .smem => 0
  | _ => 0

abbrev bufTy : (tb : Table) → Fin (tcTables nBuf tb) → BufTy
  | .hbm, ⟨0, _⟩ => ⟨S2048x9280, .f32⟩
  | .hbm, ⟨1, _⟩ => ⟨S2080x4096, .f32⟩
  | .hbm, ⟨2, _⟩ => ⟨S_, .f32⟩
  | .hbm, ⟨3, _⟩ => ⟨S2080x2048, .f32⟩
  | .hbm, ⟨4, _⟩ => ⟨S2080x9280, .f32⟩
  | .hbm, ⟨5, _⟩ => ⟨S2080x4096, .f32⟩
  | .hbm, ⟨6, _⟩ => ⟨S2080x1088, .f32⟩
  | .hbm, ⟨7, _⟩ => ⟨S2080x4096, .f32⟩
  | .hbm, ⟨8, _⟩ => ⟨S_, .f32⟩
  | .hbm, ⟨9, _⟩ => ⟨S2080x9280, .f32⟩
  | .hbm, ⟨10, _⟩ => ⟨S2080x2048, .f32⟩
  | _, _ => ⟨S2048x9280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S2080x4096 : Shape := ⟨2, ![2080, 4096]⟩
abbrev S4096 : Shape := ⟨1, ![4096]⟩
abbrev S2080x2048 : Shape := ⟨2, ![2080, 2048]⟩
abbrev S1x4096 : Shape := ⟨2, ![1, 4096]⟩
abbrev S1x2048 : Shape := ⟨2, ![1, 2048]⟩
abbrev S416x4096 : Shape := ⟨2, ![416, 4096]⟩
abbrev S416x2048 : Shape := ⟨2, ![416, 2048]⟩
abbrev S2048 : Shape := ⟨1, ![2048]⟩

abbrev nBuf : Space → Nat
  | .hbm => 8
  | .vmem => 9
  | .smem => 0
  | _ => 0

abbrev bufTy : (tb : Table) → Fin (tcTables nBuf tb) → BufTy
  | .hbm, ⟨0, _⟩ => ⟨S2080x4096, .f32⟩
  | .hbm, ⟨1, _⟩ => ⟨S4096, .f32⟩
  | .hbm, ⟨2, _⟩ => ⟨S2080x2048, .f32⟩
  | .hbm, ⟨3, _⟩ => ⟨S2080x4096, .bf16⟩
  | .hbm, ⟨4, _⟩ => ⟨S1x4096, .f32⟩
  | .hbm, ⟨5, _⟩ => ⟨S2080x4096, .bf16⟩
  | .hbm, ⟨6, _⟩ => ⟨S1x2048, .f32⟩
  | .hbm, ⟨7, _⟩ => ⟨S1x2048, .f32⟩
  | .local _ .vmem, ⟨0, _⟩ => ⟨S416x4096, .bf16⟩
  | .local _ .vmem, ⟨1, _⟩ => ⟨S416x4096, .bf16⟩
  | .local _ .vmem, ⟨2, _⟩ => ⟨S416x2048, .f32⟩
  | .local _ .vmem, ⟨3, _⟩ => ⟨S416x2048, .f32⟩
  | .local _ .vmem, ⟨4, _⟩ => ⟨S1x4096, .f32⟩
  | .local _ .vmem, ⟨5, _⟩ => ⟨S416x4096, .bf16⟩
  | .local _ .vmem, ⟨6, _⟩ => ⟨S416x4096, .bf16⟩
  | .local _ .vmem, ⟨7, _⟩ => ⟨S1x2048, .f32⟩
  | .local _ .vmem, ⟨8, _⟩ => ⟨S1x2048, .f32⟩
  | _, _ => ⟨S2080x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_12 : BitVec 32 := 0#32
  let v31 : BitVec 1 := Scalar.cmpi .ne v30 c0_i32_12
  v31

def k0_cond2 (i : grid0.Coords) : BitVec 1 :=
  let arg0 : BitVec 32 := BitVec.ofNat 32 (i 0).val
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .ne v33 c0_i32_14
  v34

def k0_cond3 (i : grid0.Coords) : BitVec 1 :=
  let arg0 : BitVec 32 := BitVec.ofNat 32 (i 0).val
  let c0_i32_16 : BitVec 32 := 0#32
  let v37 : BitVec 1 := Scalar.cmpi .eq arg0 c0_i32_16
  let v38 : BitVec 32 := Scalar.extui v37
  let c0_i32_17 : BitVec 32 := 0#32
  let v39 : BitVec 1 := Scalar.cmpi .ne v38 c0_i32_17
  v39

def k0_cond4 (i : grid0.Coords) : BitVec 1 :=
  let arg0 : BitVec 32 := BitVec.ofNat 32 (i 0).val
  let c0_i32_18 : BitVec 32 := 0#32
  let v40 : BitVec 1 := Scalar.cmpi .sgt arg0 c0_i32_18
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S2080x4096 : Shape := ⟨2, ![2080, 4096]⟩
abbrev S4096 : Shape := ⟨1, ![4096]⟩
abbrev S2080x2048 : Shape := ⟨2, ![2080, 2048]⟩
abbrev S1x4096 : Shape := ⟨2, ![1, 4096]⟩
abbrev S_ : Shape := ⟨0, ![]⟩
abbrev S2048 : Shape := ⟨1, ![2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2080x4096, .f32⟩
  | .hbm, ⟨1, _⟩ => ⟨S4096, .f32⟩
  | .hbm, ⟨2, _⟩ => ⟨S2080x2048, .f32⟩
  | .hbm, ⟨3, _⟩ => ⟨S1x4096, .f32⟩
  | .hbm, ⟨4, _⟩ => ⟨S2080x4096, .f32⟩
  | .hbm, ⟨5, _⟩ => ⟨S2080x4096, .f32⟩
  | .hbm, ⟨6, _⟩ => ⟨S2080x2048, .f32⟩
  | .hbm, ⟨7, _⟩ => ⟨S2080x2048, .f32⟩
  | .hbm, ⟨8, _⟩ => ⟨S2080x2048, .f32⟩
  | .hbm, ⟨9, _⟩ => ⟨S2080x2048, .f32⟩
  | .hbm, ⟨10, _⟩ => ⟨S_, .f32⟩
  | .hbm, ⟨11, _⟩ => ⟨S2080x2048, .f32⟩
  | .hbm, ⟨12, _⟩ => ⟨S2080x2048, .f32⟩
  | .hbm, ⟨13, _⟩ => ⟨S_, .f32⟩
  | .hbm, ⟨14, _⟩ => ⟨S2080x2048, .f32⟩
  | .hbm, ⟨15, _⟩ => ⟨S2080x2048, .f32⟩
  | .hbm, ⟨16, _⟩ => ⟨S_, .f32⟩
  | .hbm, ⟨17, _⟩ => ⟨S2080x2048, .f32⟩
  | .hbm, ⟨18, _⟩ => ⟨S2080x2048, .f32⟩
  | .hbm, ⟨19, _⟩ => ⟨S2080x2048, .f32⟩
  | .hbm, ⟨20, _⟩ => ⟨S2080x2048, .f32⟩
  | .hbm, ⟨21, _⟩ => ⟨S2080x2048, .f32⟩
  | .hbm, ⟨22, _⟩ => ⟨S2080x2048, .f32⟩
  | .hbm, ⟨23, _⟩ => ⟨S2080x2048, .f32⟩
  | .hbm, ⟨24, _⟩ => ⟨S2080x4096, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S_, .f32⟩
  | .hbm, ⟨29, _⟩ => ⟨S4096, .f32⟩
  | .hbm, ⟨30, _⟩ => ⟨S2080x4096, .bf16⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | _, _ => ⟨S2080x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel9.lean ====
abbrev S2080x2048 : Shape := ⟨2, ![2080, 2048]⟩
abbrev S2048 : Shape := ⟨1, ![2048]⟩
abbrev S1x2048 : Shape := ⟨2, ![1, 2048]⟩
abbrev S416x2048 : Shape := ⟨2, ![416, 2048]⟩
abbrev S416 : Shape := ⟨1, ![416]⟩
abbrev S416x1 : Shape := ⟨2, ![416, 1]⟩

abbrev nBuf : Space → Nat
  | .hbm => 8
  | .vmem => 12
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2080x2048, .f32⟩
  | .hbm, ⟨3, _⟩ => ⟨S2080x2048, .f32⟩
  | .hbm, ⟨4, _⟩ => ⟨S1x2048, .f32⟩
  | .hbm, ⟨5, _⟩ => ⟨S2080x2048, .f32⟩
  | .hbm, ⟨6, _⟩ => ⟨S2080x2048, .bf16⟩
  | .hbm, ⟨7, _⟩ => ⟨S1x2048, .f32⟩
  | .local _ .vmem, ⟨0, _⟩ => ⟨S416x2048, .f32⟩
  | .local _ .vmem, ⟨1, _⟩ => ⟨S416x2048, .f32⟩
  | .local _ .vmem, ⟨2, _⟩ => ⟨S416x2048, .f32⟩
  | .local _ .vmem, ⟨3, _⟩ => ⟨S416x2048, .f32⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .bf16⟩
  | .local _ .vmem, ⟨10, _⟩ => ⟨S416x2048, .bf16⟩
  | .local _ .vmem, ⟨11, _⟩ => ⟨S1x2048, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S2080x2048 : Shape := ⟨2, ![2080, 2048]⟩
abbrev S2048 : Shape := ⟨1, ![2048]⟩
abbrev S_ : Shape := ⟨0, ![]⟩
abbrev S2080 : Shape := ⟨1, ![2080]⟩
abbrev S2080x1 : Shape := ⟨2, ![2080, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2080x2048, .f32⟩
  | .hbm, ⟨3, _⟩ => ⟨S2080x2048, .f32⟩
  | .hbm, ⟨4, _⟩ => ⟨S2080x2048, .f32⟩
  | .hbm, ⟨5, _⟩ => ⟨S_, .f32⟩
  | .hbm, ⟨6, _⟩ => ⟨S2080, .f32⟩
  | .hbm, ⟨7, _⟩ => ⟨S2080x1, .f32⟩
  | .hbm, ⟨8, _⟩ => ⟨S_, .f32⟩
  | .hbm, ⟨9, _⟩ => ⟨S2080x1, .f32⟩
  | .hbm, ⟨10, _⟩ => ⟨S2080x1, .f32⟩
  | .hbm, ⟨11, _⟩ => ⟨S_, .f32⟩
  | .hbm, ⟨12, _⟩ => ⟨S2080x1, .f32⟩
  | .hbm, ⟨13, _⟩ => ⟨S2080x1, .f32⟩
  | .hbm, ⟨14, _⟩ => ⟨S2080x1, .f32⟩
  | .hbm, ⟨15, _⟩ => ⟨S2080x1, .f32⟩
  | .hbm, ⟨16, _⟩ => ⟨S_, .f32⟩
  | .hbm, ⟨17, _⟩ => ⟨S2080x1, .f32⟩
  | .hbm, ⟨18, _⟩ => ⟨S2080x1, .f32⟩
  | .hbm, ⟨19, _⟩ => ⟨S2080x2048, .f32⟩
  | .hbm, ⟨20, _⟩ => ⟨S2080x2048, .f32⟩
  | .hbm, ⟨21, _⟩ => ⟨S1x2048, .f32⟩
  | .hbm, ⟨22, _⟩ => ⟨S2080x2048, .f32⟩
  | .hbm, ⟨23, _⟩ => ⟨S2080x2048, .f32⟩
  | .hbm, ⟨24, _⟩ => ⟨S2080x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2080x2048, .f32⟩
  | .hbm, ⟨29, _⟩ => ⟨S2080x2048, .f32⟩
  | .hbm, ⟨30, _⟩ => ⟨S_, .f32⟩
  | .hbm, ⟨31, _⟩ => ⟨S2048, .f32⟩
  | .hbm, ⟨32, _⟩ => ⟨S2080x2048, .f32⟩
  | .hbm, ⟨33, _⟩ => ⟨S_, .f32⟩
  | .hbm, ⟨34, _⟩ => ⟨S2080, .f32⟩
  | .hbm, ⟨35, _⟩ => ⟨S2080x1, .f32⟩
  | .hbm, ⟨36, _⟩ => ⟨S2080x2048, .f32⟩
  | .hbm, ⟨37, _⟩ => ⟨S2080x2048, .f32⟩
  | .hbm, ⟨38, _⟩ => ⟨S2080x1, .f32⟩
  | .hbm, ⟨39, _⟩ => ⟨S_, .f32⟩
  | .hbm, ⟨40, _⟩ => ⟨S2080x1, .f32⟩
  | .hbm, ⟨41, _⟩ => ⟨S2080x1, .f32⟩
  | .hbm, ⟨42, _⟩ => ⟨S_, .f32⟩
  | .hbm, ⟨43, _⟩ => ⟨S2080, .f32⟩
  | .hbm, ⟨44, _⟩ => ⟨S2080x2048, .f32⟩
  | .hbm, ⟨45, _⟩ => ⟨S2080x2048, .f32⟩
  | .hbm, ⟨46, _⟩ => ⟨S2080x2048, .f32⟩
  | .hbm, ⟨47, _⟩ => ⟨S2080x2048, .f32⟩
  | .hbm, ⟨48, _⟩ => ⟨S2080x2048, .f32⟩
  | .hbm, ⟨49, _⟩ => ⟨S2080x2048, .f32⟩
  | .hbm, ⟨50, _⟩ => ⟨S2080x2048, .bf16⟩
  | .hbm, ⟨51, _⟩ => ⟨S1x2048, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S2080x2048 : Shape := ⟨2, ![2080, 2048]⟩
abbrev S2048 : Shape := ⟨1, ![2048]⟩
abbrev S1x2048 : Shape := ⟨2, ![1, 2048]⟩
abbrev S416x2048 : Shape := ⟨2, ![416, 2048]⟩
abbrev S416 : Shape := ⟨1, ![416]⟩
abbrev S416x1 : Shape := ⟨2, ![416, 1]⟩

abbrev nBuf : Space → Nat
  | .hbm => 9
  | .vmem => 12
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2080x2048, .f32⟩
  | .hbm, ⟨3, _⟩ => ⟨S2080x2048, .f32⟩
  | .hbm, ⟨4, _⟩ => ⟨S2080x2048, .bf16⟩
  | .hbm, ⟨5, _⟩ => ⟨S1x2048, .f32⟩
  | .hbm, ⟨6, _⟩ => ⟨S2080x2048, .f32⟩
  | .hbm, ⟨7, _⟩ => ⟨S2080x2048, .bf16⟩
  | .hbm, ⟨8, _⟩ => ⟨S1x2048, .f32⟩
  | .local _ .vmem, ⟨0, _⟩ => ⟨S416x2048, .bf16⟩
  | .local _ .vmem, ⟨1, _⟩ => ⟨S416x2048, .bf16⟩
  | .local _ .vmem, ⟨2, _⟩ => ⟨S416x2048, .f32⟩
  | .local _ .vmem, ⟨3, _⟩ => ⟨S416x2048, .f32⟩
  | .local _ .vmem, ⟨4, _⟩ => ⟨S416x2048, .f32⟩
  | .local _ .vmem, ⟨5, _⟩ => ⟨S416x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .bf16⟩
  | .local _ .vmem, ⟨10, _⟩ => ⟨S416x2048, .bf16⟩
  | .local _ .vmem, ⟨11, _⟩ => ⟨S1x2048, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_8 : BitVec 32 := 0#32
  let v20 : BitVec 1 := Scalar.cmpi .ne v19 c0_i32_8
  v20

def k0_cond2 (i : grid0.Coords) : BitVec 1 :=
  let arg0 : BitVec 32 := BitVec.ofNat 32 (i 0).val
  let c0_i32_9 : BitVec 32 := 0#32
  let v21 : BitVec 1 := Scalar.cmpi .sgt arg0 c0_i32_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S2080x2048 : Shape := ⟨2, ![2080, 2048]⟩
abbrev S2048 : Shape := ⟨1, ![2048]⟩
abbrev S_ : Shape := ⟨0, ![]⟩
abbrev S2080 : Shape := ⟨1, ![2080]⟩
abbrev S2080x1 : Shape := ⟨2, ![2080, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2048, .f32⟩
  | .hbm, ⟨2, _⟩ => ⟨S2080x2048, .f32⟩
  | .hbm, ⟨3, _⟩ => ⟨S2080x2048, .f32⟩
  | .hbm, ⟨4, _⟩ => ⟨S2080x2048, .f32⟩
  | .hbm, ⟨5, _⟩ => ⟨S_, .f32⟩
  | .hbm, ⟨6, _⟩ => ⟨S2080, .f32⟩
  | .hbm, ⟨7, _⟩ => ⟨S2080x1, .f32⟩
  | .hbm, ⟨8, _⟩ => ⟨S_, .f32⟩
  | .hbm, ⟨9, _⟩ => ⟨S2080x1, .f32⟩
  | .hbm, ⟨10, _⟩ => ⟨S2080x1, .f32⟩
  | .hbm, ⟨11, _⟩ => ⟨S_, .f32⟩
  | .hbm, ⟨12, _⟩ => ⟨S2080x1, .f32⟩
  | .hbm, ⟨13, _⟩ => ⟨S2080x1, .f32⟩
  | .hbm, ⟨14, _⟩ => ⟨S2080x1, .f32⟩
  | .hbm, ⟨15, _⟩ => ⟨S2080x1, .f32⟩
  | .hbm, ⟨16, _⟩ => ⟨S_, .f32⟩
  | .hbm, ⟨17, _⟩ => ⟨S2080x1, .f32⟩
  | .hbm, ⟨18, _⟩ => ⟨S2080x1, .f32⟩
  | .hbm, ⟨19, _⟩ => ⟨S2080x2048, .f32⟩
  | .hbm, ⟨20, _⟩ => ⟨S2080x2048, .f32⟩
  | .hbm, ⟨21, _⟩ => ⟨S1x2048, .f32⟩
  | .hbm, ⟨22, _⟩ => ⟨S2080x2048, .f32⟩
  | .hbm, ⟨23, _⟩ => ⟨S2080x2048, .f32⟩
  | .hbm, ⟨24, _⟩ => ⟨S2080x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2080x2048, .f32⟩
  | .hbm, ⟨29, _⟩ => ⟨S2080x2048, .f32⟩
  | .hbm, ⟨30, _⟩ => ⟨S_, .f32⟩
  | .hbm, ⟨31, _⟩ => ⟨S2048, .f32⟩
  | .hbm, ⟨32, _⟩ => ⟨S2080x2048, .f32⟩
  | .hbm, ⟨33, _⟩ => ⟨S_, .f32⟩
  | .hbm, ⟨34, _⟩ => ⟨S2080, .f32⟩
  | .hbm, ⟨35, _⟩ => ⟨S2080x1, .f32⟩
  | .hbm, ⟨36, _⟩ => ⟨S2080x2048, .f32⟩
  | .hbm, ⟨37, _⟩ => ⟨S2080x2048, .f32⟩
  | .hbm, ⟨38, _⟩ => ⟨S2080x1, .f32⟩
  | .hbm, ⟨39, _⟩ => ⟨S_, .f32⟩
  | .hbm, ⟨40, _⟩ => ⟨S2080x1, .f32⟩
  | .hbm, ⟨41, _⟩ => ⟨S2080x1, .f32⟩
  | .hbm, ⟨42, _⟩ => ⟨S_, .f32⟩
  | .hbm, ⟨43, _⟩ => ⟨S2080, .f32⟩
  | .hbm, ⟨44, _⟩ => ⟨S2080x2048, .f32⟩
  | .hbm, ⟨45, _⟩ => ⟨S2080x2048, .f32⟩
  | .hbm, ⟨46, _⟩ => ⟨S2080x2048, .f32⟩
  | .hbm, ⟨47, _⟩ => ⟨S2080x2048, .f32⟩
  | .hbm, ⟨48, _⟩ => ⟨S2080x2048, .f32⟩
  | .hbm, ⟨49, _⟩ => ⟨S2080x2048, .f32⟩
  | .hbm, ⟨50, _⟩ => ⟨S2080x2048, .bf16⟩
  | .hbm, ⟨51, _⟩ => ⟨S1x2048, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel13.lean ====
abbrev S2080x512 : Shape := ⟨2, ![2080, 512]⟩
abbrev S512x2048 : Shape := ⟨2, ![512, 2048]⟩
abbrev S2080x2048 : Shape := ⟨2, ![2080, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2080x512, .f32⟩
  | .hbm, ⟨1, _⟩ => ⟨S512x2048, .f32⟩
  | .hbm, ⟨2, _⟩ => ⟨S2080x512, .bf16⟩
  | .hbm, ⟨3, _⟩ => ⟨S512x2048, .bf16⟩
  | .hbm, ⟨4, _⟩ => ⟨S2080x2048, .bf16⟩
  | .local _ .vmem, ⟨0, _⟩ => ⟨S2080x512, .bf16⟩
  | .local _ .vmem, ⟨1, _⟩ => ⟨S512x512, .bf16⟩
  | .local _ .vmem, ⟨2, _⟩ => ⟨S512x512, .bf16⟩
  | .local _ .vmem, ⟨3, _⟩ => ⟨S2080x512, .bf16⟩
  | .local _ .vmem, ⟨4, _⟩ => ⟨S2080x512, .bf16⟩
  | _, _ => ⟨S2080x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2080x512 : Shape := ⟨2, ![2080, 512]⟩
abbrev S512x2048 : Shape := ⟨2, ![512, 2048]⟩
abbrev S2080x2048 : Shape := ⟨2, ![2080, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2080x512, .f32⟩
  | .hbm, ⟨1, _⟩ => ⟨S512x2048, .f32⟩
  | .hbm, ⟨2, _⟩ => ⟨S2080x2048, .f32⟩
  | .hbm, ⟨3, _⟩ => ⟨S2080x2048, .bf16⟩
  | _, _ => ⟨S2080x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S2080x512 : Shape := ⟨2, ![2080, 512]⟩
abbrev S2080x3072 : Shape := ⟨2, ![2080, 3072]⟩
abbrev S2080x16x192 : Shape := ⟨3, ![2080, 16, 192]⟩
abbrev S_ : Shape := ⟨0, ![]⟩
abbrev S2080x16x256 : Shape := ⟨3, ![2080, 16, 256]⟩
abbrev S2080x4096 : Shape := ⟨2, ![2080, 4096]⟩
abbrev S512x4096 : Shape := ⟨2, ![512, 4096]⟩
abbrev S512x512 : Shape := ⟨2, ![512, 512]⟩

abbrev nBuf : Space → Nat
  | .hbm => 10
  | .vmem => 5
  | .smem => 0
  | _ => 0

abbrev bufTy : (tb : Table) → Fin (tcTables nBuf tb) → BufTy
  | .hbm, ⟨0, _⟩ => ⟨S2080x512, .f32⟩
  | .hbm, ⟨1, _⟩ => ⟨S2080x3072, .f32⟩
  | .hbm, ⟨2, _⟩ => ⟨S2080x512, .bf16⟩
  | .hbm, ⟨3, _⟩ => ⟨S2080x3072, .bf16⟩
  | .hbm, ⟨4, _⟩ => ⟨S2080x16x192, .bf16⟩
  | .hbm, ⟨5, _⟩ => ⟨S_, .i32⟩
  | .hbm, ⟨6, _⟩ => ⟨S_, .bf16⟩
  | .hbm, ⟨7, _⟩ => ⟨S2080x16x256, .bf16⟩
  | .hbm, ⟨8, _⟩ => ⟨S2080x4096, .bf16⟩
  | .hbm, ⟨9, _⟩ => ⟨S512x4096, .bf16⟩
  | .local _ .vmem, ⟨0, _⟩ => ⟨S2080x512, .bf16⟩
  | .local _ .vmem, ⟨1, _⟩ => ⟨S2080x512, .bf16⟩
  | .local _ .vmem, ⟨2, _⟩ => ⟨S2080x512, .bf16⟩
  | .local _ .vmem, ⟨3, _⟩ => ⟨S512x512, .bf16⟩
  | .local _ .vmem, ⟨4, _⟩ => ⟨S512x512, .bf16⟩
  | _, _ => ⟨S2080x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2080x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2080x512 : Shape := ⟨2, ![2080, 512]⟩
abbrev S2080x3072 : Shape := ⟨2, ![2080, 3072]⟩
abbrev S_ : Shape := ⟨0, ![]⟩
abbrev S512x3072 : Shape := ⟨2, ![512, 3072]⟩
abbrev S3072x512 : Shape := ⟨2, ![3072, 512]⟩
abbrev S512x16x192 : Shape := ⟨3, ![512, 16, 192]⟩
abbrev S512x16x256 : Shape := ⟨3, ![512, 16, 256]⟩
abbrev S512x4096 : Shape := ⟨2, ![512, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2080x512, .f32⟩
  | .hbm, ⟨1, _⟩ => ⟨S2080x3072, .f32⟩
  | .hbm, ⟨2, _⟩ => ⟨S_, .f32⟩
  | .hbm, ⟨3, _⟩ => ⟨S512x3072, .f32⟩
  | .hbm, ⟨4, _⟩ => ⟨S2080x3072, .f32⟩
  | .hbm, ⟨5, _⟩ => ⟨S3072x512, .f32⟩
  | .hbm, ⟨6, _⟩ => ⟨S512x3072, .f32⟩
  | .hbm, ⟨7, _⟩ => ⟨S512x16x192, .f32⟩
  | .hbm, ⟨8, _⟩ => ⟨S_, .i32⟩
  | .hbm, ⟨9, _⟩ => ⟨S_, .f32⟩
  | .hbm, ⟨10, _⟩ => ⟨S512x16x256, .f32⟩
  | .hbm, ⟨11, _⟩ => ⟨S512x4096, .f32⟩
  | .hbm, ⟨12, _⟩ => ⟨S512x4096, .bf16⟩
  | _, _ => ⟨S2080x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel15.lean ====
abbrev S2080x512 : Shape := ⟨2, ![2080, 512]⟩
abbrev S2080x2048 : Shape := ⟨2, ![2080, 2048]⟩
abbrev S2080x16x128 : Shape := ⟨3, ![2080, 16, 128]⟩
abbrev S_ : Shape := ⟨0, ![]⟩
abbrev S2080x16x256 : Shape := ⟨3, ![2080, 16, 256]⟩
abbrev S2080x4096 : Shape := ⟨2, ![2080, 4096]⟩
abbrev S512x4096 : Shape := ⟨2, ![512, 4096]⟩
abbrev S512x512 : Shape := ⟨2, ![512, 512]⟩

abbrev nBuf : Space → Nat
  | .hbm => 10
  | .vmem => 5
  | .smem => 0
  | _ => 0

abbrev bufTy : (tb : Table) → Fin (tcTables nBuf tb) → BufTy
  | .hbm, ⟨0, _⟩ => ⟨S2080x512, .f32⟩
  | .hbm, ⟨1, _⟩ => ⟨S2080x2048, .f32⟩
  | .hbm, ⟨2, _⟩ => ⟨S2080x512, .bf16⟩
  | .hbm, ⟨3, _⟩ => ⟨S2080x2048, .bf16⟩
  | .hbm, ⟨4, _⟩ => ⟨S2080x16x128, .bf16⟩
  | .hbm, ⟨5, _⟩ => ⟨S_, .i32⟩
  | .hbm, ⟨6, _⟩ => ⟨S_, .bf16⟩
  | .hbm, ⟨7, _⟩ => ⟨S2080x16x256, .bf16⟩
  | .hbm, ⟨8, _⟩ => ⟨S2080x4096, .bf16⟩
  | .hbm, ⟨9, _⟩ => ⟨S512x4096, .bf16⟩
  | .local _ .vmem, ⟨0, _⟩ => ⟨S2080x512, .bf16⟩
  | .local _ .vmem, ⟨1, _⟩ => ⟨S2080x512, .bf16⟩
  | .local _ .vmem, ⟨2, _⟩ => ⟨S2080x512, .bf16⟩
  | .local _ .vmem, ⟨3, _⟩ => ⟨S512x512, .bf16⟩
  | .local _ .vmem, ⟨4, _⟩ => ⟨S512x512, .bf16⟩
  | _, _ => ⟨S2080x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2080x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2080x512 : Shape := ⟨2, ![2080, 512]⟩
abbrev S2080x2048 : Shape := ⟨2, ![2080, 2048]⟩
abbrev S_ : Shape := ⟨0, ![]⟩
abbrev S512x2048 : Shape := ⟨2, ![512, 2048]⟩
abbrev S2048x512 : Shape := ⟨2, ![2048, 512]⟩
abbrev S512x16x128 : Shape := ⟨3, ![512, 16, 128]⟩
abbrev S512x16x256 : Shape := ⟨3, ![512, 16, 256]⟩
abbrev S512x4096 : Shape := ⟨2, ![512, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2080x512, .f32⟩
  | .hbm, ⟨1, _⟩ => ⟨S2080x2048, .f32⟩
  | .hbm, ⟨2, _⟩ => ⟨S_, .f32⟩
  | .hbm, ⟨3, _⟩ => ⟨S512x2048, .f32⟩
  | .hbm, ⟨4, _⟩ => ⟨S2080x2048, .f32⟩
  | .hbm, ⟨5, _⟩ => ⟨S2048x512, .f32⟩
  | .hbm, ⟨6, _⟩ => ⟨S512x2048, .f32⟩
  | .hbm, ⟨7, _⟩ => ⟨S512x16x128, .f32⟩
  | .hbm, ⟨8, _⟩ => ⟨S_, .i32⟩
  | .hbm, ⟨9, _⟩ => ⟨S_, .f32⟩
  | .hbm, ⟨10, _⟩ => ⟨S512x16x256, .f32⟩
  | .hbm, ⟨11, _⟩ => ⟨S512x4096, .f32⟩
  | .hbm, ⟨12, _⟩ => ⟨S512x4096, .bf16⟩
  | _, _ => ⟨S2080x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel16.lean ====
abbrev S2080x512 : Shape := ⟨2, ![2080, 512]⟩
abbrev S2080x2048 : Shape := ⟨2, ![2080, 2048]⟩
abbrev S512x2048 : Shape := ⟨2, ![512, 2048]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2080x512, .f32⟩
  | .hbm, ⟨1, _⟩ => ⟨S2080x2048, .f32⟩
  | .hbm, ⟨2, _⟩ => ⟨S2080x512, .bf16⟩
  | .hbm, ⟨3, _⟩ => ⟨S2080x2048, .bf16⟩
  | .hbm, ⟨4, _⟩ => ⟨S512x2048, .bf16⟩
  | .local _ .vmem, ⟨0, _⟩ => ⟨S2080x512, .bf16⟩
  | .local _ .vmem, ⟨1, _⟩ => ⟨S2080x512, .bf16⟩
  | .local _ .vmem, ⟨2, _⟩ => ⟨S2080x512, .bf16⟩
  | .local _ .vmem, ⟨3, _⟩ => ⟨S512x512, .bf16⟩
  | .local _ .vmem, ⟨4, _⟩ => ⟨S512x512, .bf16⟩
  | _, _ => ⟨S2080x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2080x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2080x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2080x512 : Shape := ⟨2, ![2080, 512]⟩
abbrev S2080x2048 : Shape := ⟨2, ![2080, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2080x512, .f32⟩
  | .hbm, ⟨1, _⟩ => ⟨S2080x2048, .f32⟩
  | .hbm, ⟨2, _⟩ => ⟨S_, .f32⟩
  | .hbm, ⟨3, _⟩ => ⟨S512x2048, .f32⟩
  | .hbm, ⟨4, _⟩ => ⟨S2080x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S2080x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S2080x3072 : Shape := ⟨2, ![2080, 3072]⟩
abbrev S512x3072 : Shape := ⟨2, ![512, 3072]⟩
abbrev S2080x16x192 : Shape := ⟨3, ![2080, 16, 192]⟩
abbrev S_ : Shape := ⟨0, ![]⟩
abbrev S2080x16x256 : Shape := ⟨3, ![2080, 16, 256]⟩
abbrev S2080x4096 : Shape := ⟨2, ![2080, 4096]⟩
abbrev S512x16x192 : Shape := ⟨3, ![512, 16, 192]⟩
abbrev S512x16x256 : Shape := ⟨3, ![512, 16, 256]⟩
abbrev S512x4096 : Shape := ⟨2, ![512, 4096]⟩
abbrev S2080x512 : Shape := ⟨2, ![2080, 512]⟩
abbrev S2080x1024 : Shape := ⟨2, ![2080, 1024]⟩
abbrev S512x1024 : Shape := ⟨2, ![512, 1024]⟩

abbrev nBuf : Space → Nat
  | .hbm => 15
  | .vmem => 6
  | .smem => 0
  | _ => 0

abbrev bufTy : (tb : Table) → Fin (tcTables nBuf tb) → BufTy
  | .hbm, ⟨0, _⟩ => ⟨S2080x3072, .f32⟩
  | .hbm, ⟨1, _⟩ => ⟨S512x3072, .f32⟩
  | .hbm, ⟨2, _⟩ => ⟨S2080x3072, .bf16⟩
  | .hbm, ⟨3, _⟩ => ⟨S2080x16x192, .bf16⟩
  | .hbm, ⟨4, _⟩ => ⟨S_, .i32⟩
  | .hbm, ⟨5, _⟩ => ⟨S_, .bf16⟩
  | .hbm, ⟨6, _⟩ => ⟨S2080x16x256, .bf16⟩
  | .hbm, ⟨7, _⟩ => ⟨S2080x4096, .bf16⟩
  | .hbm, ⟨8, _⟩ => ⟨S512x3072, .bf16⟩
  | .hbm, ⟨9, _⟩ => ⟨S512x16x192, .bf16⟩
  | .hbm, ⟨10, _⟩ => ⟨S_, .i32⟩
  | .hbm, ⟨11, _⟩ => ⟨S_, .bf16⟩
  | .hbm, ⟨12, _⟩ => ⟨S512x16x256, .bf16⟩
  | .hbm, ⟨13, _⟩ => ⟨S512x4096, .bf16⟩
  | .hbm, ⟨14, _⟩ => ⟨S2080x512, .f32⟩
  | .local _ .vmem, ⟨0, _⟩ => ⟨S2080x1024, .bf16⟩
  | .local _ .vmem, ⟨1, _⟩ => ⟨S2080x1024, .bf16⟩
  | .local _ .vmem, ⟨2, _⟩ => ⟨S512x1024, .bf16⟩
  | .local _ .vmem, ⟨3, _⟩ => ⟨S512x1024, .bf16⟩
  | .local _ .vmem, ⟨4, _⟩ => ⟨S2080x512, .f32⟩
  | .local _ .vmem, ⟨5, _⟩ => ⟨S2080x512, .f32⟩
  | _, _ => ⟨S2080x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2080x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2080x3072 : Shape := ⟨2, ![2080, 3072]⟩
abbrev S512x3072 : Shape := ⟨2, ![512, 3072]⟩
abbrev S_ : Shape := ⟨0, ![]⟩
abbrev S2080x512 : Shape := ⟨2, ![2080, 512]⟩

abbrev nBuf : Space → Nat
  | .hbm => 6
  | .vmem => 0
  | .smem => 0
  | _ => 0

abbrev bufTy : (tb : Table) → Fin (tcTables nBuf tb) → BufTy
  | .hbm, ⟨0, _⟩ => ⟨S2080x3072, .f32⟩
  | .hbm, ⟨1, _⟩ => ⟨S512x3072, .f32⟩
  | .hbm, ⟨2, _⟩ => ⟨S_, .f32⟩
  | .hbm, ⟨3, _⟩ => ⟨S2080x512, .f32⟩
  | .hbm, ⟨4, _⟩ => ⟨S2080x3072, .f32⟩
  | .hbm, ⟨5, _⟩ => ⟨S2080x512, .f32⟩
  | _, _ => ⟨S2080x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S2080x2048 : Shape := ⟨2, ![2080, 2048]⟩
abbrev S512x2048 : Shape := ⟨2, ![512, 2048]⟩
abbrev S2080x16x128 : Shape := ⟨3, ![2080, 16, 128]⟩
abbrev S_ : Shape := ⟨0, ![]⟩
abbrev S2080x16x256 : Shape := ⟨3, ![2080, 16, 256]⟩
abbrev S2080x4096 : Shape := ⟨2, ![2080, 4096]⟩
abbrev S512x16x128 : Shape := ⟨3, ![512, 16, 128]⟩
abbrev S512x16x256 : Shape := ⟨3, ![512, 16, 256]⟩
abbrev S512x4096 : Shape := ⟨2, ![512, 4096]⟩
abbrev S2080x512 : Shape := ⟨2, ![2080, 512]⟩
abbrev S2080x1024 : Shape := ⟨2, ![2080, 1024]⟩
abbrev S512x1024 : Shape := ⟨2, ![512, 1024]⟩

abbrev nBuf : Space → Nat
  | .hbm => 15
  | .vmem => 6
  | .smem => 0
  | _ => 0

abbrev bufTy : (tb : Table) → Fin (tcTables nBuf tb) → BufTy
  | .hbm, ⟨0, _⟩ => ⟨S2080x2048, .f32⟩
  | .hbm, ⟨1, _⟩ => ⟨S512x2048, .f32⟩
  | .hbm, ⟨2, _⟩ => ⟨S2080x2048, .bf16⟩
  | .hbm, ⟨3, _⟩ => ⟨S2080x16x128, .bf16⟩
  | .hbm, ⟨4, _⟩ => ⟨S_, .i32⟩
  | .hbm, ⟨5, _⟩ => ⟨S_, .bf16⟩
  | .hbm, ⟨6, _⟩ => ⟨S2080x16x256, .bf16⟩
  | .hbm, ⟨7, _⟩ => ⟨S2080x4096, .bf16⟩
  | .hbm, ⟨8, _⟩ => ⟨S512x2048, .bf16⟩
  | .hbm, ⟨9, _⟩ => ⟨S512x16x128, .bf16⟩
  | .hbm, ⟨10, _⟩ => ⟨S_, .i32⟩
  | .hbm, ⟨11, _⟩ => ⟨S_, .bf16⟩
  | .hbm, ⟨12, _⟩ => ⟨S512x16x256, .bf16⟩
  | .hbm, ⟨13, _⟩ => ⟨S512x4096, .bf16⟩
  | .hbm, ⟨14, _⟩ => ⟨S2080x512, .f32⟩
  | .local _ .vmem, ⟨0, _⟩ => ⟨S2080x1024, .bf16⟩
  | .local _ .vmem, ⟨1, _⟩ => ⟨S2080x1024, .bf16⟩
  | .local _ .vmem, ⟨2, _⟩ => ⟨S512x1024, .bf16⟩
  | .local _ .vmem, ⟨3, _⟩ => ⟨S512x1024, .bf16⟩
  | .local _ .vmem, ⟨4, _⟩ => ⟨S2080x512, .f32⟩
  | .local _ .vmem, ⟨5, _⟩ => ⟨S2080x512, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2080x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S2080x2048 : Shape := ⟨2, ![2080, 2048]⟩
abbrev S512x2048 : Shape := ⟨2, ![512, 2048]⟩
abbrev S_ : Shape := ⟨0, ![]⟩
abbrev S2080x512 : Shape := ⟨2, ![2080, 512]⟩

abbrev nBuf : Space → Nat
  | .hbm => 6
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S512x2048, .f32⟩
  | .hbm, ⟨2, _⟩ => ⟨S_, .f32⟩
  | .hbm, ⟨3, _⟩ => ⟨S2080x512, .f32⟩
  | .hbm, ⟨4, _⟩ => ⟨S2080x2048, .f32⟩
  | .hbm, ⟨5, _⟩ => ⟨S2080x512, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S2080x2048 : Shape := ⟨2, ![2080, 2048]⟩
abbrev S512x2048 : Shape := ⟨2, ![512, 2048]⟩
abbrev S2080x512 : Shape := ⟨2, ![2080, 512]⟩
abbrev S2080x1024 : Shape := ⟨2, ![2080, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2080x2048, .f32⟩
  | .hbm, ⟨1, _⟩ => ⟨S512x2048, .f32⟩
  | .hbm, ⟨2, _⟩ => ⟨S2080x512, .f32⟩
  | .hbm, ⟨3, _⟩ => ⟨S2080x2048, .bf16⟩
  | .hbm, ⟨4, _⟩ => ⟨S512x2048, .bf16⟩
  | .hbm, ⟨5, _⟩ => ⟨S2080x512, .f32⟩
  | .local _ .vmem, ⟨0, _⟩ => ⟨S2080x1024, .bf16⟩
  | .local _ .vmem, ⟨1, _⟩ => ⟨S2080x1024, .bf16⟩
  | .local _ .vmem, ⟨2, _⟩ => ⟨S512x1024, .bf16⟩
  | .local _ .vmem, ⟨3, _⟩ => ⟨S512x1024, .bf16⟩
  | .local _ .vmem, ⟨4, _⟩ => ⟨S2080x512, .f32⟩
  | .local _ .vmem, ⟨5, _⟩ => ⟨S2080x512, .f32⟩
  | .local _ .vmem, ⟨6, _⟩ => ⟨S2080x512, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2080x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S2080x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference19Ideal.lean ====
abbrev S2080x2048 : Shape := ⟨2, ![2080, 2048]⟩
abbrev S512x2048 : Shape := ⟨2, ![512, 2048]⟩
abbrev S2080x512 : Shape := ⟨2, ![2080, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S512x2048, .f32⟩
  | .hbm, ⟨2, _⟩ => ⟨S2080x512, .f32⟩
  | .hbm, ⟨3, _⟩ => ⟨S_, .f32⟩
  | .hbm, ⟨4, _⟩ => ⟨S2080x512, .f32⟩
  | .hbm, ⟨5, _⟩ => ⟨S2080x2048, .f32⟩
  | .hbm, ⟨6, _⟩ => ⟨S2080x512, .f32⟩
  | .hbm, ⟨7, _⟩ => ⟨S2080x512, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel20.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S2080x16x64 : Shape := ⟨3, ![2080, 16, 64]⟩
abbrev S2080x1x32 : Shape := ⟨3, ![2080, 1, 32]⟩
abbrev S2080x16x32 : Shape := ⟨3, ![2080, 16, 32]⟩
abbrev S_ : Shape := ⟨0, ![]⟩
abbrev S2080x16x256 : Shape := ⟨3, ![2080, 16, 256]⟩
abbrev S2080x4096 : Shape := ⟨2, ![2080, 4096]⟩
abbrev S2080x1x64 : Shape := ⟨3, ![2080, 1, 64]⟩
abbrev S2080x2048 : Shape := ⟨2, ![2080, 2048]⟩
abbrev S2080x256 : Shape := ⟨2, ![2080, 256]⟩
abbrev S2080x128 : Shape := ⟨2, ![2080, 128]⟩
abbrev S416x256 : Shape := ⟨2, ![416, 256]⟩
abbrev S416x416 : Shape := ⟨2, ![416, 416]⟩
abbrev S416 : Shape := ⟨1, ![416]⟩
abbrev S416x1 : Shape := ⟨2, ![416, 1]⟩
abbrev S416x128 : Shape := ⟨2, ![416, 128]⟩
abbrev S832x256 : Shape := ⟨2, ![832, 256]⟩
abbrev S416x832 : Shape := ⟨2, ![416, 832]⟩
abbrev S832x128 : Shape := ⟨2, ![832, 128]⟩
abbrev S1248x256 : Shape := ⟨2, ![1248, 256]⟩
abbrev S416x1248 : Shape := ⟨2, ![416, 1248]⟩
abbrev S1248x128 : Shape := ⟨2, ![1248, 128]⟩
abbrev S1664x256 : Shape := ⟨2, ![1664, 256]⟩
abbrev S416x1664 : Shape := ⟨2, ![416, 1664]⟩
abbrev S1664x128 : Shape := ⟨2, ![1664, 128]⟩

abbrev nBuf : Space → Nat
  | .hbm => 40
  | .vmem => 10
  | .smem => 0
  | _ => 0

abbrev bufTy : (tb : Table) → Fin (tcTables nBuf tb) → BufTy
  | .hbm, ⟨0, _⟩ => ⟨S2080x16x192, .f32⟩
  | .hbm, ⟨1, _⟩ => ⟨S2080x16x128, .f32⟩
  | .hbm, ⟨2, _⟩ => ⟨S2080x64, .f32⟩
  | .hbm, ⟨3, _⟩ => ⟨S2080x16x128, .f32⟩
  | .hbm, ⟨4, _⟩ => ⟨S2080x32, .f32⟩
  | .hbm, ⟨5, _⟩ => ⟨S2080x32, .f32⟩
  | .hbm, ⟨6, _⟩ => ⟨S2080x16x64, .f32⟩
  | .hbm, ⟨7, _⟩ => ⟨S2080x1x32, .f32⟩
  | .hbm, ⟨8, _⟩ => ⟨S2080x1x32, .f32⟩
  | .hbm, ⟨9, _⟩ => ⟨S2080x16x32, .f32⟩
  | .hbm, ⟨10, _⟩ => ⟨S2080x16x32, .f32⟩
  | .hbm, ⟨11, _⟩ => ⟨S2080x16x32, .f32⟩
  | .hbm, ⟨12, _⟩ => ⟨S2080x16x32, .f32⟩
  | .hbm, ⟨13, _⟩ => ⟨S2080x16x32, .f32⟩
  | .hbm, ⟨14, _⟩ => ⟨S2080x16x32, .f32⟩
  | .hbm, ⟨15, _⟩ => ⟨S2080x16x32, .f32⟩
  | .hbm, ⟨16, _⟩ => ⟨S2080x16x32, .f32⟩
  | .hbm, ⟨17, _⟩ => ⟨S2080x16x32, .f32⟩
  | .hbm, ⟨18, _⟩ => ⟨S2080x16x32, .f32⟩
  | .hbm, ⟨19, _⟩ => ⟨S2080x16x32, .f32⟩
  | .hbm, ⟨20, _⟩ => ⟨S2080x16x32, .f32⟩
  | .hbm, ⟨21, _⟩ => ⟨S2080x16x64, .f32⟩
  | .hbm, ⟨22, _⟩ => ⟨S_, .f32⟩
  | .hbm, ⟨23, _⟩ => ⟨S2080x16x64, .f32⟩
  | .hbm, ⟨24, _⟩ => ⟨S2080x16x128, .f32⟩
  | .hbm, ⟨25, _⟩ => ⟨S2080x16x256, .f32⟩
  | .hbm, ⟨26, _⟩ => ⟨S_, .f32⟩
  | .hbm, ⟨27, _⟩ => ⟨S2080x16x256, .f32⟩
  | .hbm, ⟨28, _⟩ => ⟨S2080x16x256, .f32⟩
  | .hbm, ⟨29, _⟩ => ⟨S2080x16x256, .bf16⟩
  | .hbm, ⟨30, _⟩ => ⟨S2080x4096, .bf16⟩
  | .hbm, ⟨31, _⟩ => ⟨S2080x1x64, .f32⟩
  | .hbm, ⟨32, _⟩ => ⟨S2080x16x64, .f32⟩
  | .hbm, ⟨33, _⟩ => ⟨S2080x16x256, .f32⟩
  | .hbm, ⟨34, _⟩ => ⟨S2080x16x256, .bf16⟩
  | .hbm, ⟨35, _⟩ => ⟨S2080x4096, .bf16⟩
  | .hbm, ⟨36, _⟩ => ⟨S2080x16x128, .bf16⟩
  | .hbm, ⟨37, _⟩ => ⟨S2080x2048, .bf16⟩
  | .hbm, ⟨38, _⟩ => ⟨S2080x2048, .bf16⟩
  | .hbm, ⟨39, _⟩ => ⟨S2080x2048, .f32⟩
  | .local _ .vmem, ⟨0, _⟩ => ⟨S2080x256, .bf16⟩
  | .local _ .vmem, ⟨1, _⟩ => ⟨S2080x256, .bf16⟩
  | .local _ .vmem, ⟨2, _⟩ => ⟨S2080x256, .bf16⟩
  | .local _ .vmem, ⟨3, _⟩ => ⟨S2080x256, .bf16⟩
  | .local _ .vmem, ⟨4, _⟩ => ⟨S2080x128, .bf16⟩
  | .local _ .vmem, ⟨5, _⟩ => ⟨S2080x128, .bf16⟩
  | .local _ .vmem, ⟨6, _⟩ => ⟨S2080x128, .bf16⟩
  | .local _ .vmem, ⟨7, _⟩ => ⟨S2080x128, .bf16⟩
  | .local _ .vmem, ⟨8, _⟩ => ⟨S2080x128, .f32⟩
  | .local _ .vmem, ⟨9, _⟩ => ⟨S2080x128, .f32⟩
  | _, _ => ⟨S2080x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2080x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2080x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2080x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2080x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel20Ideal.lean ====
variable {F : FTy → Type} [FloatOps F] [Named F]
def κ : String → Option EReal := fun
  | "mask" => some ⊥
  | _ => none
-- ==== Reference20Ideal.lean ====
abbrev S2080x16x192 : Shape := ⟨3, ![2080, 16, 192]⟩
abbrev S2080x16x128 : Shape := ⟨3, ![2080, 16, 128]⟩
abbrev S2080x64 : Shape := ⟨2, ![2080, 64]⟩
abbrev S2080x32 : Shape := ⟨2, ![2080, 32]⟩
abbrev S2080x16x64 : Shape := ⟨3, ![2080, 16, 64]⟩
abbrev S2080x1x32 : Shape := ⟨3, ![2080, 1, 32]⟩
abbrev S2080x16x32 : Shape := ⟨3, ![2080, 16, 32]⟩
abbrev S16x2080x2080 : Shape := ⟨3, ![16, 2080, 2080]⟩
abbrev S2080x2080x16 : Shape := ⟨3, ![2080, 2080, 16]⟩
abbrev S_ : Shape := ⟨0, ![]⟩
abbrev S2080 : Shape := ⟨1, ![2080]⟩
abbrev S1x2080 : Shape := ⟨2, ![1, 2080]⟩
abbrev S2080x1 : Shape := ⟨2, ![2080, 1]⟩
abbrev S2080x2080 : Shape := ⟨2, ![2080, 2080]⟩
abbrev S16x2080 : Shape := ⟨2, ![16, 2080]⟩
abbrev S16x2080x1 : Shape := ⟨3, ![16, 2080, 1]⟩
abbrev S2080x16x1 : Shape := ⟨3, ![2080, 16, 1]⟩
abbrev S2080x2048 : Shape := ⟨2, ![2080, 2048]⟩
abbrev S16x128x2080 : Shape := ⟨3, ![16, 128, 2080]⟩

abbrev nBuf : Space → Nat
  | .hbm => 102
  | .vmem => 0
  | .smem => 0
  | _ => 0

abbrev bufTy : (tb : Table) → Fin (tcTables nBuf tb) → BufTy
  | .hbm, ⟨0, _⟩ => ⟨S2080x16x192, .f32⟩
  | .hbm, ⟨1, _⟩ => ⟨S2080x16x128, .f32⟩
  | .hbm, ⟨2, _⟩ => ⟨S2080x64, .f32⟩
  | .hbm, ⟨3, _⟩ => ⟨S2080x16x128, .f32⟩
  | .hbm, ⟨4, _⟩ => ⟨S2080x32, .f32⟩
  | .hbm, ⟨5, _⟩ => ⟨S2080x32, .f32⟩
  | .hbm, ⟨6, _⟩ => ⟨S2080x16x64, .f32⟩
  | .hbm, ⟨7, _⟩ => ⟨S2080x1x32, .f32⟩
  | .hbm, ⟨8, _⟩ => ⟨S2080x1x32, .f32⟩
  | .hbm, ⟨9, _⟩ => ⟨S2080x16x32, .f32⟩
  | .hbm, ⟨10, _⟩ => ⟨S2080x16x32, .f32⟩
  | .hbm, ⟨11, _⟩ => ⟨S2080x16x32, .f32⟩
  | .hbm, ⟨12, _⟩ => ⟨S2080x16x32, .f32⟩
  | .hbm, ⟨13, _⟩ => ⟨S2080x16x32, .f32⟩
  | .hbm, ⟨14, _⟩ => ⟨S2080x16x32, .f32⟩
  | .hbm, ⟨15, _⟩ => ⟨S2080x16x32, .f32⟩
  | .hbm, ⟨16, _⟩ => ⟨S2080x16x32, .f32⟩
  | .hbm, ⟨17, _⟩ => ⟨S2080x16x32, .f32⟩
  | .hbm, ⟨18, _⟩ => ⟨S2080x16x32, .f32⟩
  | .hbm, ⟨19, _⟩ => ⟨S2080x16x32, .f32⟩
  | .hbm, ⟨20, _⟩ => ⟨S2080x16x32, .f32⟩
  | .hbm, ⟨21, _⟩ => ⟨S2080x16x64, .f32⟩
  | .hbm, ⟨22, _⟩ => ⟨S2080x16x128, .f32⟩
  | .hbm, ⟨23, _⟩ => ⟨S16x2080x2080, .f32⟩
  | .hbm, ⟨24, _⟩ => ⟨S2080x2080x16, .f32⟩
  | .hbm, ⟨25, _⟩ => ⟨S16x2080x2080, .f32⟩
  | .hbm, ⟨26, _⟩ => ⟨S16x2080x2080, .f32⟩
  | .hbm, ⟨27, _⟩ => ⟨S_, .f32⟩
  | .hbm, ⟨28, _⟩ => ⟨S16x2080x2080, .f32⟩
  | .hbm, ⟨29, _⟩ => ⟨S16x2080x2080, .f32⟩
  | .hbm, ⟨30, _⟩ => ⟨S2080, .i32⟩
  | .hbm, ⟨31, _⟩ => ⟨S1x2080, .i32⟩
  | .hbm, ⟨32, _⟩ => ⟨S2080x1, .i32⟩
  | .hbm, ⟨33, _⟩ => ⟨S2080x2080, .i32⟩
  | .hbm, ⟨34, _⟩ => ⟨S2080x2080, .i32⟩
  | .hbm, ⟨35, _⟩ => ⟨S2080x2080, .i1⟩
  | .hbm, ⟨36, _⟩ => ⟨S_, .f32⟩
  | .hbm, ⟨37, _⟩ => ⟨S_, .f32⟩
  | .hbm, ⟨38, _⟩ => ⟨S16x2080x2080, .i1⟩
  | .hbm, ⟨39, _⟩ => ⟨S16x2080x2080, .f32⟩
  | .hbm, ⟨40, _⟩ => ⟨S16x2080x2080, .f32⟩
  | .hbm, ⟨41, _⟩ => ⟨S16x2080x2080, .f32⟩
  | .hbm, ⟨42, _⟩ => ⟨S_, .f32⟩
  | .hbm, ⟨43, _⟩ => ⟨S16x2080, .f32⟩
  | .hbm, ⟨44, _⟩ => ⟨S16x2080x1, .f32⟩
  | .hbm, ⟨45, _⟩ => ⟨S16x2080x1, .f32⟩
  | .hbm, ⟨46, _⟩ => ⟨S2080x16x1, .f32⟩
  | .hbm, ⟨47, _⟩ => ⟨S2080x16x128, .f32⟩
  | .hbm, ⟨48, _⟩ => ⟨S2080x2048, .f32⟩
  | .hbm, ⟨49, _⟩ => ⟨S2080x16x128, .f32⟩
  | .hbm, ⟨50, _⟩ => ⟨S2080x16x64, .f32⟩
  | .hbm, ⟨51, _⟩ => ⟨S2080x1x32, .f32⟩
  | .hbm, ⟨52, _⟩ => ⟨S2080x1x32, .f32⟩
  | .hbm, ⟨53, _⟩ => ⟨S2080x16x32, .f32⟩
  | .hbm, ⟨54, _⟩ => ⟨S2080x16x32, .f32⟩
  | .hbm, ⟨55, _⟩ => ⟨S2080x16x32, .f32⟩
  | .hbm, ⟨56, _⟩ => ⟨S2080x16x32, .f32⟩
  | .hbm, ⟨57, _⟩ => ⟨S2080x16x32, .f32⟩
  | .hbm, ⟨58, _⟩ => ⟨S2080x16x32, .f32⟩
  | .hbm, ⟨59, _⟩ => ⟨S2080x16x32, .f32⟩
  | .hbm, ⟨60, _⟩ => ⟨S2080x16x32, .f32⟩
  | .hbm, ⟨61, _⟩ => ⟨S2080x16x32, .f32⟩
  | .hbm, ⟨62, _⟩ => ⟨S2080x16x32, .f32⟩
  | .hbm, ⟨63, _⟩ => ⟨S2080x16x32, .f32⟩
  | .hbm, ⟨64, _⟩ => ⟨S2080x16x32, .f32⟩
  | .hbm, ⟨65, _⟩ => ⟨S2080x16x64, .f32⟩
  | .hbm, ⟨66, _⟩ => ⟨S16x2080x2080, .f32⟩
  | .hbm, ⟨67, _⟩ => ⟨S2080x2080x16, .f32⟩
  | .hbm, ⟨68, _⟩ => ⟨S16x2080x2080, .f32⟩
  | .hbm, ⟨69, _⟩ => ⟨S16x2080x2080, .f32⟩
  | .hbm, ⟨70, _⟩ => ⟨S_, .f32⟩
  | .hbm, ⟨71, _⟩ => ⟨S16x2080x2080, .f32⟩
  | .hbm, ⟨72, _⟩ => ⟨S16x2080x2080, .f32⟩
  | .hbm, ⟨73, _⟩ => ⟨S2080, .i32⟩
  | .hbm, ⟨74, _⟩ => ⟨S1x2080, .i32⟩
  | .hbm, ⟨75, _⟩ => ⟨S2080x1, .i32⟩
  | .hbm, ⟨76, _⟩ => ⟨S2080x2080, .i32⟩
  | .hbm, ⟨77, _⟩ => ⟨S2080x2080, .i32⟩
  | .hbm, ⟨78, _⟩ => ⟨S2080x2080, .i1⟩
  | .hbm, ⟨79, _⟩ => ⟨S_, .f32⟩
  | .hbm, ⟨80, _⟩ => ⟨S_, .f32⟩
  | .hbm, ⟨81, _⟩ => ⟨S16x2080x2080, .i1⟩
  | .hbm, ⟨82, _⟩ => ⟨S16x2080x2080, .f32⟩
  | .hbm, ⟨83, _⟩ => ⟨S16x2080x2080, .f32⟩
  | .hbm, ⟨84, _⟩ => ⟨S_, .f32⟩
  | .hbm, ⟨85, _⟩ => ⟨S16x2080, .f32⟩
  | .hbm, ⟨86, _⟩ => ⟨S_, .f32⟩
  | .hbm, ⟨87, _⟩ => ⟨S16x2080, .f32⟩
  | .hbm, ⟨88, _⟩ => ⟨S16x2080, .f32⟩
  | .hbm, ⟨89, _⟩ => ⟨S16x2080x1, .f32⟩
  | .hbm, ⟨90, _⟩ => ⟨S16x2080x2080, .f32⟩
  | .hbm, ⟨91, _⟩ => ⟨S16x2080x2080, .f32⟩
  | .hbm, ⟨92, _⟩ => ⟨S16x2080x2080, .f32⟩
  | .hbm, ⟨93, _⟩ => ⟨S_, .f32⟩
  | .hbm, ⟨94, _⟩ => ⟨S16x2080, .f32⟩
  | .hbm, ⟨95, _⟩ => ⟨S16x2080x1, .f32⟩
  | .hbm, ⟨96, _⟩ => ⟨S16x2080x2080, .f32⟩
  | .hbm, ⟨97, _⟩ => ⟨S16x2080x2080, .f32⟩
  | .hbm, ⟨98, _⟩ => ⟨S16x128x2080, .f32⟩
  | .hbm, ⟨99, _⟩ => ⟨S2080x16x128, .f32⟩
  | .hbm, ⟨100, _⟩ => ⟨S2080x2048, .f32⟩
  | .hbm, ⟨101, _⟩ => ⟨S2080x2048, .bf16⟩
  | _, _ => ⟨S2080x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_2 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_3 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v66 : Ref sig .tc := ⟨.hbm, 83, rfl⟩
abbrev main_cst_4 : Ref sig .tc := ⟨.hbm, 84, rfl⟩
abbrev main_v67 : Ref sig .tc := ⟨.hbm, 85, rfl⟩
abbrev main_cst_5 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_6 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.WordCmp
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

open scoped BigOperators

/-- The literal both programs scale by, `1/sqrt 192` rounded to 32 bits, as an extended real. -/
def scl : EReal := Ideal.ofBits FTy.f32 0x3D93CD3A#32

/-- One head's masked score of query `i` and key `j`: the product of their rows, `-∞` for a key after the query. -/
def scoreE (Q K : Vec Ideal S2080x256 .bf16) (i j : Fin 2080) : EReal :=
  if j.val ≤ i.val then ∑ d : Fin 256, Q (ix2 i d) * K (ix2 j d) else ⊥

/-- The probability the backward pass recomputes: `exp (score - lse)`. -/
def probE (Q K : Vec Ideal S2080x256 .bf16) (L : Vec Ideal S2080x128 .f32) (i j : Fin 2080) : EReal :=
  Ideal.exp (scoreE Q K i j - L (ix2 i 0))

/-- The gradient of the score: `p * (do · v - do · o)`. -/
def dscoreE (Q K : Vec Ideal S2080x256 .bf16) (V O G : Vec Ideal S2080x128 .bf16) (L : Vec Ideal S2080x128 .f32) (i j : Fin 2080) : EReal :=
  probE Q K L i j * ((∑ e : Fin 128, G (ix2 i e) * V (ix2 j e)) - ∑ e : Fin 128, G (ix2 i e) * O (ix2 i e))

/-- The gradient of one head's query row `i` before the rotation is undone. -/
def dqE (Q K : Vec Ideal S2080x256 .bf16) (V O G : Vec Ideal S2080x128 .bf16) (L : Vec Ideal S2080x128 .f32) (i : Fin 2080) (d : Fin 256) : EReal :=
  ∑ j : Fin 2080, dscoreE Q K V O G L i j * K (ix2 j d)

/-- The gradient of one head's key row `j`. -/
def dkE (Q K : Vec Ideal S2080x256 .bf16) (V O G : Vec Ideal S2080x128 .bf16) (L : Vec Ideal S2080x128 .f32) (j : Fin 2080) (d : Fin 256) : EReal :=
  ∑ i : Fin 2080, dscoreE Q K V O G L i j * Q (ix2 i d)

/-- The gradient of one head's value row `j`. -/
def dvE (Q K : Vec Ideal S2080x256 .bf16) (G : Vec Ideal S2080x128 .bf16) (L : Vec Ideal S2080x128 .f32) (j : Fin 2080) (d : Fin 128) : EReal :=
  ∑ i : Fin 2080, probE Q K L i j * G (ix2 i d)

/-- The rotated half of a query row's gradient with the rotation undone and the scale applied, on 128 lanes
    of which the first 64 carry the row. -/
def dqrE (Q K : Vec Ideal S2080x256 .bf16) (V O G : Vec Ideal S2080x128 .bf16) (L C S : Vec Ideal S2080x128 .f32) (i : Fin 2080) (d : Fin 128) : EReal :=
  (dqE Q K V O G L i ⟨128 + d.val, by omega⟩ * C (ix2 i d)
    - (if d.val < 32 then 0 - dqE Q K V O G L i ⟨128 + (d.val + 128 - 96) % 128, by omega⟩ * S (ix2 i ⟨(d.val + 128 - 96) % 128, by omega⟩)
       else if d.val < 64 then dqE Q K V O G L i ⟨128 + (d.val + 128 - 32) % 128, by omega⟩ * S (ix2 i ⟨(d.val + 128 - 32) % 128, by omega⟩)
       else 0)) * scl

section
variable {Q K : Vec Ideal S2080x256 .bf16} {V O G : Vec Ideal S2080x128 .bf16} {L : Vec Ideal S2080x128 .f32}

/-- A key after the query has probability zero. -/
theorem probE_zero {i j : Fin 2080} (h : i.val < j.val) : probE Q K L i j = 0 := by
  rw [probE, scoreE, if_neg (by omega), sub_eq_add_neg, EReal.bot_add, Ideal.exp_bot]

/-- A key after the query has score gradient zero. -/
theorem dscoreE_zero {i j : Fin 2080} (h : i.val < j.val) : dscoreE Q K V O G L i j = 0 := by
  rw [dscoreE, probE_zero h, zero_mul]
end

/-- The mask literal is named `-∞`. -/
theorem mask_bot : Named.named (F := Ideal) κ "mask" (φ := .f32) 0xF149F2CA#32 = (⊥ : EReal) :=
  IdealRules.named_const.ideal_named_scalar _ _ _ _ rfl

/-- The kernel's causal select: key `j` is kept for the query row `c + x` when `j ≤ c + x`. -/
theorem sel_mask {R : ℕ} (hR : R ≤ 2080) (c : ℕ) (hc : c ≤ 1664) (j : Fin R) (x : Fin 416) (a : EReal) :
    Scalar.select (IntOp.cmpi .sle (BitVec.ofNat 32 j.val) (IntOp.addi (BitVec.ofNat 32 x.val) (BitVec.ofNat 32 c))) a
      (Named.named (F := Ideal) κ "mask" (φ := .f32) 0xF149F2CA#32) = if j.val ≤ c + x.val then a else ⊥ := by
  have e : IntOp.addi (BitVec.ofNat 32 x.val) (BitVec.ofNat 32 c) = BitVec.ofNat 32 (c + x.val) := by
    rw [IntOp.addi, ← BitVec.ofNat_add, Nat.add_comm]
  have := j.isLt
  have := x.isLt
  rw [e, WordCmp.cmpi_sle_ofNat (by norm_num; omega) (by norm_num; omega), mask_bot, WordCmp.select_ofBool]
  simp

/-- A lane compared with a literal. -/
theorem sel_lane (c : ℕ) (hc : c ≤ 128) (d : Fin 128) (a b : EReal) :
    Scalar.select (IntOp.cmpi .slt (BitVec.ofNat 32 d.val) (BitVec.ofNat 32 c)) a b = if d.val < c then a else b := by
  have := d.isLt
  rw [WordCmp.cmpi_slt_ofNat (by norm_num; omega) (by norm_num; omega), WordCmp.select_ofBool]
  simp

/-- A sum over the first `R` keys is the sum over all keys when the later terms vanish. -/
theorem sum_keys {R : ℕ} (hR : R ≤ 2080) (f : Fin 2080 → EReal) (h : ∀ j : Fin 2080, R ≤ j.val → f j = 0) :
    ∑ j : Fin R, f ⟨j.val, by omega⟩ = ∑ j : Fin 2080, f j := by
  refine Finset.sum_of_injOn (fun j : Fin R => (⟨j.val, by omega⟩ : Fin 2080)) ?_ ?_ ?_ ?_
  · intro a _ b _ hab
    exact Fin.ext (by simpa using hab)
  · intro a _
    simp
  · intro j _ hj
    refine h j (le_of_not_gt fun hlt => hj ⟨⟨j.val, hlt⟩, by simp⟩)
  · intro j _
    rfl

end Cert.KernelIdeal.Value

end
-- ==== Proof.Math.lean ====
module

public import proofs.«01_k».proof.Proof.Body

@[expose] public section

set_option maxRecDepth 16384

noncomputable section

namespace Cert.Attention

open Idealize.ShloMosaic
open scoped BigOperators

/-- The arguments, over the real numbers, each by its own coordinates: queries, keys' own part, keys' shared part,
    values, the two tables of the rotation, and the cotangent of the attention's output by head and lane. -/
structure Args where
  q : Fin 2080 → Fin 16 → Fin 192 → ℝ
  kn : Fin 2080 → Fin 16 → Fin 128 → ℝ
  kr : Fin 2080 → Fin 64 → ℝ
  v : Fin 2080 → Fin 16 → Fin 128 → ℝ
  cs : Fin 2080 → Fin 32 → ℝ
  sn : Fin 2080 → Fin 32 → ℝ
  ct : Fin 2080 → Fin 16 → Fin 128 → ℝ

/-- The scale, the real number that the literal of both programs denotes. -/
def scR : ℝ := 9686330 / 134217728

/-- The literal denotes that number. -/
theorem scale_coe : Ideal.ofBits FTy.f32 1033096506#32 = ((scR : ℝ) : EReal) := by
  rw [scR]
  simp [Ideal.ofBits, Ideal.ieee]
  norm_num
  rw [← EReal.coe_mul]
  norm_num

variable (A : Args)

/-- The rotated half of query row `i` of head `h`. -/
def rope (i : Fin 2080) (h : Fin 16) (r : Fin 64) : ℝ :=
  if hr : r.val < 32 then
    A.q i h ⟨128 + r.val, by omega⟩ * A.cs i ⟨r.val, hr⟩ - A.q i h ⟨160 + r.val, by omega⟩ * A.sn i ⟨r.val, hr⟩
  else
    A.q i h ⟨96 + r.val, by omega⟩ * A.sn i ⟨r.val - 32, by omega⟩ + A.q i h ⟨128 + r.val, by omega⟩ * A.cs i ⟨r.val - 32, by omega⟩

/-- The scaled score of query `i` and key `j` in head `h`. -/
def sco (h : Fin 16) (i j : Fin 2080) : ℝ :=
  ((∑ d : Fin 128, A.q i h ⟨d.val, by omega⟩ * A.kn j h d) + ∑ r : Fin 64, A.kr j r * rope A i h r) * scR

/-- The sum of the exponentials of the scores of the keys up to the query. -/
def den (h : Fin 16) (i : Fin 2080) : ℝ := ∑ j : Fin 2080, if j.val ≤ i.val then Real.exp (sco A h i j) else 0

/-- The attention's probability. -/
def prob (h : Fin 16) (i j : Fin 2080) : ℝ := if j.val ≤ i.val then Real.exp (sco A h i j) / den A h i else 0

/-- The attention's output. -/
def out (h : Fin 16) (i : Fin 2080) (e : Fin 128) : ℝ := ∑ j : Fin 2080, A.v j h e * prob A h i j

/-- The gradient of a probability. -/
def dprob (h : Fin 16) (i j : Fin 2080) : ℝ := ∑ e : Fin 128, A.ct i h e * A.v j h e

/-- The gradient of a score: the softmax's derivative. -/
def dsco (h : Fin 16) (i j : Fin 2080) : ℝ :=
  prob A h i j * (dprob A h i j - ∑ k : Fin 2080, prob A h i k * dprob A h i k)

/-- The gradient of the own part of a query row. -/
def gqn (h : Fin 16) (i : Fin 2080) (d : Fin 128) : ℝ := ∑ j : Fin 2080, dsco A h i j * scR * A.kn j h d

/-- The gradient of the rotated part of a query row, before the rotation is undone. -/
def gqr (h : Fin 16) (i : Fin 2080) (r : Fin 64) : ℝ := ∑ j : Fin 2080, dsco A h i j * scR * A.kr j r

/-- The gradient of a query row, padded with zeros to 256 lanes. -/
def gq (h : Fin 16) (i : Fin 2080) (e : Fin 256) : ℝ :=
  if h1 : e.val < 128 then gqn A h i ⟨e.val, h1⟩
  else if h2 : e.val < 160 then
    gqr A h i ⟨e.val - 128, by omega⟩ * A.cs i ⟨e.val - 128, by omega⟩ + gqr A h i ⟨e.val - 96, by omega⟩ * A.sn i ⟨e.val - 128, by omega⟩
  else if h3 : e.val < 192 then
    gqr A h i ⟨e.val - 128, by omega⟩ * A.cs i ⟨e.val - 160, by omega⟩ - gqr A h i ⟨e.val - 160, by omega⟩ * A.sn i ⟨e.val - 160, by omega⟩
  else 0

/-- The gradient of the own part of a key row. -/
def gkn (h : Fin 16) (j : Fin 2080) (d : Fin 128) : ℝ := ∑ i : Fin 2080, dsco A h i j * scR * A.q i h ⟨d.val, by omega⟩

/-- The gradient of a key row, padded with zeros to 256 lanes. -/
def gk (h : Fin 16) (j : Fin 2080) (e : Fin 256) : ℝ := if h1 : e.val < 128 then gkn A h j ⟨e.val, h1⟩ else 0

/-- The gradient of a value row. -/
def gv (h : Fin 16) (j : Fin 2080) (e : Fin 128) : ℝ := ∑ i : Fin 2080, prob A h i j * A.ct i h e

/-- The share of head `h` in the gradient of the keys' shared part, padded with zeros to 128 lanes. -/
def gkrh (h : Fin 16) (j : Fin 2080) (r : Fin 128) : ℝ :=
  if h1 : r.val < 64 then ∑ i : Fin 2080, dsco A h i j * scR * rope A i h ⟨r.val, h1⟩ else 0

/-- The gradient of the keys' shared part, padded with zeros to 128 lanes. -/
def gkr (j : Fin 2080) (r : Fin 128) : ℝ := ∑ h : Fin 16, gkrh A h j r

/-! ## Finite values among the extended reals -/

/-- A sum of real numbers is the same sum among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of finitely many values, none `∞` and one above `-∞`, is a real number. -/
theorem fold_max_real {ι : Type} [Fintype ι] (f : ι → EReal) (ht : ∀ j, f j ≠ ⊤) (j0 : ι) (hb : f j0 ≠ ⊥) :
    ∃ r : ℝ, Finset.univ.fold max ⊥ f = (r : EReal) := by
  have e : Finset.univ.fold max ⊥ f = Finset.univ.sup f := rfl
  have h1 : Finset.univ.sup f ≠ ⊤ := ne_of_lt ((Finset.sup_lt_iff bot_lt_top).mpr fun j _ => lt_top_iff_ne_top.mpr (ht j))
  have h2 : Finset.univ.sup f ≠ ⊥ := fun h => hb (le_bot_iff.mp (h ▸ Finset.le_sup (Finset.mem_univ j0)))
  exact ⟨(Finset.univ.sup f).toReal, by rw [e, EReal.coe_toReal h1 h2]⟩

/-- The exponential of a masked score less a real number. -/
theorem exp_masked (p : Prop) [Decidable p] (s m : ℝ) :
    Ideal.exp ((if p then (s : EReal) else ⊥) - (m : EReal)) = ((if p then Real.exp (s - m) else 0 : ℝ) : EReal) := by
  split_ifs
  · rw [← EReal.coe_sub, Ideal.exp_coe]
  · rw [sub_eq_add_neg, EReal.bot_add, Ideal.exp_bot, EReal.coe_zero]

/-- The sum of exponentials is positive: it contains the query's own. -/
theorem den_pos (h : Fin 16) (i : Fin 2080) : 0 < den A h i := by
  refine Finset.sum_pos' (fun j _ => ?_) ⟨i, Finset.mem_univ _, ?_⟩
  · split_ifs
    · exact (Real.exp_pos _).le
    · exact le_rfl
  · rw [if_pos le_rfl]
    exact Real.exp_pos _

/-- The sum of exponentials of the scores less a number. -/
theorem sum_shift (h : Fin 16) (i : Fin 2080) (m : ℝ) :
    (∑ j : Fin 2080, if j.val ≤ i.val then Real.exp (sco A h i j - m) else 0) = den A h i * Real.exp (-m) := by
  rw [den, Finset.sum_mul]
  refine Finset.sum_congr rfl fun j _ => ?_
  split_ifs
  · rw [sub_eq_add_neg, Real.exp_add]
  · rw [zero_mul]

/-- The probability from the shifted exponentials, whatever the shift. -/
theorem prob_shift (h : Fin 16) (i j : Fin 2080) (m : ℝ) :
    (if j.val ≤ i.val then Real.exp (sco A h i j - m) else 0) / (den A h i * Real.exp (-m)) = prob A h i j := by
  have h1 := (den_pos A h i).ne'
  have h2 := (Real.exp_pos (-m)).ne'
  rw [prob]
  split_ifs
  · rw [sub_eq_add_neg, Real.exp_add, mul_div_mul_right _ _ h2]
  · rw [zero_div]

/-- The saved logarithm of the sum of exponentials, whatever the shift. -/
theorem lse_shift (h : Fin 16) (i : Fin 2080) (m : ℝ) :
    m + Real.log (den A h i * Real.exp (-m)) = Real.log (den A h i) := by
  rw [Real.log_mul (den_pos A h i).ne' (Real.exp_pos _).ne', Real.log_exp]
  ring

/-- The probability from the saved logarithm. -/
theorem prob_lse (h : Fin 16) (i j : Fin 2080) :
    (if j.val ≤ i.val then Real.exp (sco A h i j - Real.log (den A h i)) else 0) = prob A h i j := by
  rw [prob]
  split_ifs
  · rw [Real.exp_sub, Real.exp_log (den_pos A h i)]
  · rfl

/-- The cotangent against the output is the probabilities against their gradients. -/
theorem ct_out (h : Fin 16) (i : Fin 2080) :
    ∑ e : Fin 128, A.ct i h e * out A h i e = ∑ k : Fin 2080, prob A h i k * dprob A h i k := by
  simp only [out, dprob, Finset.mul_sum]
  rw [Finset.sum_comm]
  refine Finset.sum_congr rfl fun k _ => Finset.sum_congr rfl fun e _ => ?_
  ring

/-- The reference's softmax derivative: quotient rule, term by term. -/
theorem dsco_quot (h : Fin 16) (i j : Fin 2080) (E : Fin 2080 → ℝ) (l : ℝ) (hl : l ≠ 0) (hE : ∀ k, E k / l = prob A h i k) :
    (dprob A h i j / l + -∑ k : Fin 2080, dprob A h i k * (1 / (l * l)) * E k) * E j = dsco A h i j := by
  have hE' : ∀ k, E k = prob A h i k * l := fun k => by rw [← hE k, div_mul_cancel₀ _ hl]
  have e : ∑ k : Fin 2080, dprob A h i k * (1 / (l * l)) * E k = (∑ k : Fin 2080, prob A h i k * dprob A h i k) / l := by
    rw [Finset.sum_div]
    refine Finset.sum_congr rfl fun k _ => ?_
    rw [hE' k]
    field_simp
  rw [e, hE' j, dsco]
  field_simp
  ring

/-! ## The kernel's padded rows -/

/-- The kernel's query row: own part, rotated part, zeros, the scale applied. -/
def q2 (i : Fin 2080) (h : Fin 16) (e : Fin 256) : ℝ :=
  (if h1 : e.val < 128 then A.q i h ⟨e.val, by omega⟩ else if h2 : e.val < 192 then rope A i h ⟨e.val - 128, by omega⟩ else 0) * scR

/-- The kernel's key row: own part, shared part, zeros. -/
def k2 (j : Fin 2080) (h : Fin 16) (e : Fin 256) : ℝ :=
  if h1 : e.val < 128 then A.kn j h ⟨e.val, h1⟩ else if h2 : e.val < 192 then A.kr j ⟨e.val - 128, by omega⟩ else 0

/-- A sum over 256 lanes by its three parts. -/
theorem sum_256 (f : Fin 256 → ℝ) :
    ∑ e : Fin 256, f e = (∑ d : Fin 128, f ⟨d.val, by omega⟩) + (∑ r : Fin 64, f ⟨128 + r.val, by omega⟩) + ∑ r : Fin 64, f ⟨192 + r.val, by omega⟩ := by
  have h1 := Fin.sum_univ_add (a := 128) (b := 128) f
  have h2 := Fin.sum_univ_add (a := 64) (b := 64) fun r : Fin 128 => f ⟨128 + r.val, by omega⟩
  refine h1.trans ?_
  rw [add_assoc]
  refine congrArg₂ (· + ·) rfl (Eq.trans ?_ (h2.trans (congrArg₂ (· + ·) rfl ?_)))
  · rfl
  · refine Finset.sum_congr rfl fun r _ => congrArg f (Fin.ext ?_)
    simp only [Fin.val_natAdd]
    omega

/-- The padded rows' product is the score. -/
theorem score_rows (h : Fin 16) (i j : Fin 2080) : ∑ e : Fin 256, q2 A i h e * k2 A j h e = sco A h i j := by
  have z : ∑ r : Fin 64, q2 A i h ⟨192 + r.val, by omega⟩ * k2 A j h ⟨192 + r.val, by omega⟩ = 0 :=
    Finset.sum_eq_zero fun r _ => by
      rw [k2, dif_neg (by simp only; omega), dif_neg (by simp only; omega), mul_zero]
  rw [sum_256 fun e => q2 A i h e * k2 A j h e, z, add_zero, sco, add_mul, Finset.sum_mul, Finset.sum_mul]
  refine congrArg₂ (· + ·) (Finset.sum_congr rfl fun d _ => ?_) (Finset.sum_congr rfl fun r _ => ?_)
  · rw [q2, k2, dif_pos (by simp only; omega), dif_pos (by simp only; omega)]
    ring
  · have e : (⟨128 + r.val - 128, by omega⟩ : Fin 64) = r := Fin.ext (by simp)
    rw [q2, k2, dif_neg (by simp only; omega), dif_pos (by simp only; omega), dif_neg (by simp only; omega), dif_pos (by simp only; omega)]
    simp only [e]
    ring

/-- The rotation, part by part. -/
theorem rope_parts (A : Args) (i : Fin 2080) (h : Fin 16) (r : Fin 64) :
    (if hr : r.val < 32 then
      ((A.q i h ⟨128 + r.val, by omega⟩ : ℝ) : EReal) * ((A.cs i ⟨r.val, hr⟩ : ℝ) : EReal)
        - ((A.q i h ⟨128 + (32 + r.val), by omega⟩ : ℝ) : EReal) * ((A.sn i ⟨r.val, hr⟩ : ℝ) : EReal)
    else
      ((A.q i h ⟨128 + (r.val - 32), by omega⟩ : ℝ) : EReal) * ((A.sn i ⟨r.val - 32, by omega⟩ : ℝ) : EReal)
        + ((A.q i h ⟨128 + (32 + (r.val - 32)), by omega⟩ : ℝ) : EReal) * ((A.cs i ⟨r.val - 32, by omega⟩ : ℝ) : EReal))
      = ((rope A i h r : ℝ) : EReal) := by
  by_cases hr : r.val < 32
  · have e : (⟨128 + (32 + r.val), by omega⟩ : Fin 192) = ⟨160 + r.val, by omega⟩ := Fin.ext (by simp only; omega)
    rw [rope, dif_pos hr, dif_pos hr, ← EReal.coe_mul, ← EReal.coe_mul, ← EReal.coe_sub, e]
  · have e : (⟨128 + (r.val - 32), by omega⟩ : Fin 192) = ⟨96 + r.val, by omega⟩ := Fin.ext (by simp only; omega)
    have e' : (⟨128 + (32 + (r.val - 32)), by omega⟩ : Fin 192) = ⟨128 + r.val, by omega⟩ := Fin.ext (by simp only; omega)
    rw [rope, dif_neg hr, dif_neg hr, ← EReal.coe_mul, ← EReal.coe_mul, ← EReal.coe_add, e, e']

end Cert.Attention

end
-- ==== Proof.Ref.lean ====
module

public import proofs.«01_k».proof.Proof.Math
public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Attention
open scoped BigOperators

/-! ## The reference's operations as functions of their operands -/

/-- The own part of the queries. -/
def ownR (X : Vec Ideal S2080x16x192 .f32) : Vec Ideal S2080x16x128 .f32 :=
  extractStridedSlice S2080x16x128 ![0, 0, 0] X slices_S2080x16x192_S2080x16x128_0_0_0

/-- The rotated part of the queries. -/
def rotR (X : Vec Ideal S2080x16x192 .f32) (C S : Vec Ideal S2080x32 .f32) : Vec Ideal S2080x16x64 .f32 :=
  concatenate S2080x16x64 2 [⟨S2080x16x32, (subf (F := Ideal) (φ := .f32)
      (mulf (F := Ideal) (φ := .f32) (extractStridedSlice S2080x16x32 ![0, 0, 0] (extractStridedSlice S2080x16x64 ![0, 0, 128] X slices_S2080x16x192_S2080x16x64_0_0_128) slices_S2080x16x64_S2080x16x32_0_0_0)
        (broadcastInDim S2080x16x32 ![0, 1, 2] bcast_S2080x1x32_S2080x16x32_0_1_2 (broadcastInDim S2080x1x32 ![0, 2] bcast_S2080x32_S2080x1x32_0_2 C)))
      (mulf (F := Ideal) (φ := .f32) (extractStridedSlice S2080x16x32 ![0, 0, 32] (extractStridedSlice S2080x16x64 ![0, 0, 128] X slices_S2080x16x192_S2080x16x64_0_0_128) slices_S2080x16x64_S2080x16x32_0_0_32)
        (broadcastInDim S2080x16x32 ![0, 1, 2] bcast_S2080x1x32_S2080x16x32_0_1_2 (broadcastInDim S2080x1x32 ![0, 2] bcast_S2080x32_S2080x1x32_0_2 S))))⟩,
    ⟨S2080x16x32, (addf (F := Ideal) (φ := .f32)
      (mulf (F := Ideal) (φ := .f32) (extractStridedSlice S2080x16x32 ![0, 0, 0] (extractStridedSlice S2080x16x64 ![0, 0, 128] X slices_S2080x16x192_S2080x16x64_0_0_128) slices_S2080x16x64_S2080x16x32_0_0_0)
        (broadcastInDim S2080x16x32 ![0, 1, 2] bcast_S2080x1x32_S2080x16x32_0_1_2 (broadcastInDim S2080x1x32 ![0, 2] bcast_S2080x32_S2080x1x32_0_2 S)))
      (mulf (F := Ideal) (φ := .f32) (extractStridedSlice S2080x16x32 ![0, 0, 32] (extractStridedSlice S2080x16x64 ![0, 0, 128] X slices_S2080x16x192_S2080x16x64_0_0_128) slices_S2080x16x64_S2080x16x32_0_0_32)
        (broadcastInDim S2080x16x32 ![0, 1, 2] bcast_S2080x1x32_S2080x16x32_0_1_2 (broadcastInDim S2080x1x32 ![0, 2] bcast_S2080x32_S2080x1x32_0_2 C))))⟩]
    concatenates_S2080x16x32_S2080x16x32_S2080x16x64_d2

/-- Which keys come no later than the query. -/
def seenR : Vec Ideal S16x2080x2080 .i1 :=
  broadcastInDim S16x2080x2080 ![1, 2] bcast_S2080x2080_S16x2080x2080_1_2 (cmpi .sle (broadcastInDim S2080x2080 ![0, 1] bcast_S1x2080_S2080x2080_0_1 (broadcastInDim S1x2080 ![1] bcast_S2080_S1x2080_1 (iotaInDim S2080 32 0))) (broadcastInDim S2080x2080 ![0, 1] bcast_S2080x1_S2080x2080_0_1 (broadcastInDim S2080x1 ![0] bcast_S2080_S2080x1_0 (iotaInDim S2080 32 0))))

/-- The masked scaled scores. -/
def scoreR (Q K : Vec Ideal S2080x16x128 .f32) (Z : Vec Ideal S2080x64 .f32) (R : Vec Ideal S2080x16x64 .f32) : Vec Ideal S16x2080x2080 .f32 :=
  select seenR (mulf (F := Ideal) (φ := .f32) (addf (F := Ideal) (φ := .f32) (Host.dotGeneral (F := Ideal) (φ₁ := .f32) (φ₂ := .f32) dot_S2080x16x128_S2080x16x128_S16x2080x2080_2_2_0_0_1_1 none Q K)
    (transpose S16x2080x2080 [2, 1, 0] (Host.dotGeneral (F := Ideal) (φ₁ := .f32) (φ₂ := .f32) dot_S2080x64_S2080x16x64_S2080x2080x16_1_2_0_01_n_n none Z R) transposes_S2080x2080x16_S16x2080x2080_2_1_0))
    (broadcastInDim S16x2080x2080 ![] bcast_S_S16x2080x2080 (constant (F := Ideal) S_ .f32 0x3D93CD3A#32)))
    (broadcastInDim S16x2080x2080 ![] bcast_S_S16x2080x2080 (id (constant (F := Ideal) S_ .f32 0xFF800000#32)))

/-- Each row's largest entry. -/
def topR (X : Vec Ideal S16x2080x2080 .f32) : Vec Ideal S16x2080 .f32 :=
  Host.reduce (FloatOps.maximumf (F := Ideal) (φ := .f32)) X (constant (F := Ideal) S_ .f32 0xFF800000#32) reducesTo_S16x2080x2080_S16x2080_d2 h_S_

/-- The exponentials of the entries less their row's number. -/
def expR (X : Vec Ideal S16x2080x2080 .f32) (Y : Vec Ideal S16x2080 .f32) : Vec Ideal S16x2080x2080 .f32 :=
  Host.exp (F := Ideal) (φ := .f32) (subf (F := Ideal) (φ := .f32) X (broadcastInDim S16x2080x2080 ![0, 1, 2] bcast_S16x2080x1_S16x2080x2080_0_1_2 (broadcastInDim S16x2080x1 ![0, 1] bcast_S16x2080_S16x2080x1_0_1 (maximumf (F := Ideal) (φ := .f32) (broadcastInDim S16x2080 ![] bcast_S_S16x2080 (constant (F := Ideal) S_ .f32 0xFF800000#32)) Y))))

/-- Each row's sum. -/
def sumR (X : Vec Ideal S16x2080x2080 .f32) : Vec Ideal S16x2080x1 .f32 :=
  broadcastInDim S16x2080x1 ![0, 1] bcast_S16x2080_S16x2080x1_0_1 (Host.reduceAdd (F := Ideal) (φ := .f32) X (constant (F := Ideal) S_ .f32 0x00000000#32) reducesTo_S16x2080x2080_S16x2080_d2 h_S_)

/-- The entries over their row's number. -/
def quotR (X : Vec Ideal S16x2080x2080 .f32) (Y : Vec Ideal S16x2080x1 .f32) : Vec Ideal S16x2080x2080 .f32 :=
  Host.divf (F := Ideal) (φ := .f32) X (broadcastInDim S16x2080x2080 ![0, 1, 2] bcast_S16x2080x1_S16x2080x2080_0_1_2 Y)

/-- The cotangent by head, lane and query. -/
def ctR (X : Vec Ideal S2080x2048 .f32) : Vec Ideal S16x128x2080 .f32 :=
  transpose S16x128x2080 [1, 2, 0] (shapeCast S2080x16x128 X shapeCasts_S2080x2048_S2080x16x128) transposes_S2080x16x128_S16x128x2080_1_2_0

/-- The probabilities' gradient. -/
def dpR (X : Vec Ideal S16x128x2080 .f32) (Y : Vec Ideal S2080x16x128 .f32) : Vec Ideal S16x2080x2080 .f32 :=
  Host.dotGeneral (F := Ideal) (φ₁ := .f32) (φ₂ := .f32) dot_S16x128x2080_S2080x16x128_S16x2080x2080_1_2_2_0_0_1 none X Y

/-- The sum over a row that the softmax's derivative takes away. -/
def takeR (P E : Vec Ideal S16x2080x2080 .f32) (L : Vec Ideal S16x2080x1 .f32) : Vec Ideal S16x2080 .f32 :=
  Host.reduceAdd (F := Ideal) (φ := .f32) (Host.negf (F := Ideal) (φ := .f32) (shapeCast S16x2080x1 (Host.reduceAdd (F := Ideal) (φ := .f32) (mulf (F := Ideal) (φ := .f32) (mulf (F := Ideal) (φ := .f32) P (broadcastInDim S16x2080x2080 ![0, 1, 2] bcast_S16x2080x1_S16x2080x2080_0_1_2 (Host.divf (F := Ideal) (φ := .f32) (broadcastInDim S16x2080x1 ![] bcast_S_S16x2080x1 (constant (F := Ideal) S_ .f32 0x3F800000#32)) (mulf (F := Ideal) (φ := .f32) L L)))) E) (constant (F := Ideal) S_ .f32 0x00000000#32) reducesTo_S16x2080x2080_S16x2080_d2 h_S_) shapeCasts_S16x2080_S16x2080x1)) (constant (F := Ideal) S_ .f32 0x00000000#32) reducesTo_S16x2080x1_S16x2080_d2 h_S_

/-- The scaled gradient of the scores. -/
def dsR (P E : Vec Ideal S16x2080x2080 .f32) (L : Vec Ideal S16x2080x1 .f32) (T : Vec Ideal S16x2080 .f32) : Vec Ideal S16x2080x2080 .f32 :=
  mulf (F := Ideal) (φ := .f32) (select seenR (mulf (F := Ideal) (φ := .f32) (addf (F := Ideal) (φ := .f32) (Host.divf (F := Ideal) (φ := .f32) P (broadcastInDim S16x2080x2080 ![0, 1, 2] bcast_S16x2080x1_S16x2080x2080_0_1_2 L)) (broadcastInDim S16x2080x2080 ![0, 1] bcast_S16x2080_S16x2080x2080_0_1 T)) E) (broadcastInDim S16x2080x2080 ![] bcast_S_S16x2080x2080 (constant (F := Ideal) S_ .f32 0x00000000#32))) (broadcastInDim S16x2080x2080 ![] bcast_S_S16x2080x2080 (constant (F := Ideal) S_ .f32 0x3D93CD3A#32))

/-! ## The same at an index -/

/-- The literal `-∞`. -/
theorem low_bot : Ideal.ofBits FTy.f32 4286578688#32 = (⊥ : EReal) := by
  simp [Ideal.ofBits, Ideal.ieee]

/-- The own part of the queries at an index. -/
theorem ownR_at (X : Vec Ideal S2080x16x192 .f32) (i : Fin 2080) (h : Fin 16) (d : Fin 128) : ownR X (ix3 i h d) = X (ix3 i h ⟨d.val, by omega⟩) := by
  pointwise [ownR]

/-- The rotated part of the queries at an index. -/
theorem rotR_at (X : Vec Ideal S2080x16x192 .f32) (C S : Vec Ideal S2080x32 .f32) (i : Fin 2080) (h : Fin 16) (r : Fin 64) :
    rotR X C S (ix3 i h r) =
      if hr : r.val < 32 then X (ix3 i h ⟨128 + r.val, by omega⟩) * C (ix2 i ⟨r.val, hr⟩) - X (ix3 i h ⟨128 + (32 + r.val), by omega⟩) * S (ix2 i ⟨r.val, hr⟩)
      else X (ix3 i h ⟨128 + (r.val - 32), by omega⟩) * S (ix2 i ⟨r.val - 32, by omega⟩) + X (ix3 i h ⟨128 + (32 + (r.val - 32)), by omega⟩) * C (ix2 i ⟨r.val - 32, by omega⟩) := by
  pointwise [rotR]

/-- The masked scores at an index. -/
theorem scoreR_at (Q K : Vec Ideal S2080x16x128 .f32) (Z : Vec Ideal S2080x64 .f32) (R : Vec Ideal S2080x16x64 .f32) (h : Fin 16) (i j : Fin 2080) :
    scoreR Q K Z R (ix3 h i j) = if j.val ≤ i.val then
      ((∑ d : Fin 128, Q (ix3 i h d) * K (ix3 j h d)) + ∑ r : Fin 64, Z (ix2 j r) * R (ix3 i h r)) * Ideal.ofBits FTy.f32 1033096506#32 else ⊥ := by
  pointwise [scoreR, seenR, id]
  have := i.isLt
  have := j.isLt
  rw [WordCmp.cmpi_sle_ofNat (by norm_num; omega) (by norm_num; omega), low_bot, WordCmp.select_ofBool]
  simp

/-- A row's largest entry. -/
theorem topR_at (X : Vec Ideal S16x2080x2080 .f32) (h : Fin 16) (i : Fin 2080) :
    topR X (ix2 h i) = Finset.univ.fold max ⊥ fun x : Fin 2080 => X (ix3 h i x) := by
  pointwise [topR]
  rw [low_bot]

/-- The exponential of an entry less its row's number. -/
theorem expR_at (X : Vec Ideal S16x2080x2080 .f32) (Y : Vec Ideal S16x2080 .f32) (h : Fin 16) (i j : Fin 2080) :
    expR X Y (ix3 h i j) = Ideal.exp (X (ix3 h i j) - Y (ix2 h i)) := by
  pointwise [expR]
  rw [low_bot, max_eq_right bot_le]

/-- A row's sum. -/
theorem sumR_at (X : Vec Ideal S16x2080x2080 .f32) (h : Fin 16) (i : Fin 2080) (u : Fin 1) :
    sumR X (ix3 h i u) = ∑ x : Fin 2080, X (ix3 h i x) := by
  pointwise [sumR]

/-- An entry over its row's number. -/
theorem quotR_at (X : Vec Ideal S16x2080x2080 .f32) (Y : Vec Ideal S16x2080x1 .f32) (h : Fin 16) (i j : Fin 2080) :
    quotR X Y (ix3 h i j) = Ideal.div (X (ix3 h i j)) (Y (ix3 h i 0)) := by
  pointwise [quotR]

/-- The cotangent at an index. -/
theorem ctR_at (X : Vec Ideal S2080x2048 .f32) (h : Fin 16) (e : Fin 128) (i : Fin 2080) :
    ctR X (ix3 h e i) = X (ix2 i ⟨h.val * 128 + e.val, by omega⟩) := by
  pointwise [ctR]

/-- The probabilities' gradient at an index. -/
theorem dpR_at (X : Vec Ideal S16x128x2080 .f32) (Y : Vec Ideal S2080x16x128 .f32) (h : Fin 16) (i j : Fin 2080) :
    dpR X Y (ix3 h i j) = ∑ e : Fin 128, X (ix3 h e i) * Y (ix3 j h e) := by
  pointwise [dpR]

/-- The sum over a row that the softmax's derivative takes away. -/
theorem takeR_at (P E : Vec Ideal S16x2080x2080 .f32) (L : Vec Ideal S16x2080x1 .f32) (h : Fin 16) (i : Fin 2080) :
    takeR P E L (ix2 h i) = -∑ k : Fin 2080, P (ix3 h i k) * Ideal.div 1 (L (ix3 h i 0) * L (ix3 h i 0)) * E (ix3 h i k) := by
  pointwise [takeR]
  exact Fin.sum_univ_one _

/-- The scaled gradient of a score. -/
theorem dsR_at (P E : Vec Ideal S16x2080x2080 .f32) (L : Vec Ideal S16x2080x1 .f32) (T : Vec Ideal S16x2080 .f32) (h : Fin 16) (i j : Fin 2080) :
    dsR P E L T (ix3 h i j) = (if j.val ≤ i.val then (Ideal.div (P (ix3 h i j)) (L (ix3 h i 0)) + T (ix2 h i)) * E (ix3 h i j) else 0) * Ideal.ofBits FTy.f32 1033096506#32 := by
  pointwise [dsR, seenR]
  have := i.isLt
  have := j.isLt
  rw [WordCmp.cmpi_sle_ofNat (by norm_num; omega) (by norm_num; omega), WordCmp.select_ofBool]
  simp

/-! ## The reference's intermediate arrays -/

/-- The contents of the arguments are the real numbers `A` names. -/
structure Holds (W : Valuation τ sig (Elt Ideal)) (A : Args) : Prop where
  hq : ∀ i h d, (W (Proc.devRef .tc main_arg0) : Vec Ideal S2080x16x192 .f32) (ix3 i h d) = ((A.q i h d : ℝ) : EReal)
  hn : ∀ i h d, (W (Proc.devRef .tc main_arg1) : Vec Ideal S2080x16x128 .f32) (ix3 i h d) = ((A.kn i h d : ℝ) : EReal)
  hr : ∀ i r, (W (Proc.devRef .tc main_arg2) : Vec Ideal S2080x64 .f32) (ix2 i r) = ((A.kr i r : ℝ) : EReal)
  hv : ∀ i h d, (W (Proc.devRef .tc main_arg3) : Vec Ideal S2080x16x128 .f32) (ix3 i h d) = ((A.v i h d : ℝ) : EReal)
  hc : ∀ i r, (W (Proc.devRef .tc main_arg4) : Vec Ideal S2080x32 .f32) (ix2 i r) = ((A.cs i r : ℝ) : EReal)
  hs : ∀ i r, (W (Proc.devRef .tc main_arg5) : Vec Ideal S2080x32 .f32) (ix2 i r) = ((A.sn i r : ℝ) : EReal)
  hg : ∀ i (j : Fin 2048), (W (Proc.devRef .tc main_arg6) : Vec Ideal S2080x2048 .f32) (ix2 i j) =
    ((A.ct i ⟨j.val / 128, by omega⟩ ⟨j.val % 128, by omega⟩ : ℝ) : EReal)

variable {W : Valuation τ sig (Elt Ideal)} {A : Args} (H : Holds W A)
include H

/-- The own part of the queries. -/
theorem own_at (i : Fin 2080) (h : Fin 16) (d : Fin 128) :
    (res_main_v0 W : Vec Ideal S2080x16x128 .f32) (ix3 i h d) = ((A.q i h ⟨d.val, by omega⟩ : ℝ) : EReal) :=
  (ownR_at (W (Proc.devRef .tc main_arg0)) i h d).trans (H.hq i h _)

/-- The rotated part of the queries. -/
theorem rot_at (i : Fin 2080) (h : Fin 16) (r : Fin 64) :
    (res_main_v16 W : Vec Ideal S2080x16x64 .f32) (ix3 i h r) = ((rope A i h r : ℝ) : EReal) := by
  refine (rotR_at (W (Proc.devRef .tc main_arg0)) (W (Proc.devRef .tc main_arg4)) (W (Proc.devRef .tc main_arg5)) i h r).trans ?_
  simp only [H.hq, H.hc, H.hs]
  exact rope_parts A i h r

/-- The masked scores. -/
theorem score_at (h : Fin 16) (i j : Fin 2080) :
    (res_main_v29_0 W : Vec Ideal S16x2080x2080 .f32) (ix3 h i j) = if j.val ≤ i.val then ((sco A h i j : ℝ) : EReal) else ⊥ := by
  refine (scoreR_at (res_main_v0 W) (W (Proc.devRef .tc main_arg1)) (W (Proc.devRef .tc main_arg2)) (res_main_v16 W) h i j).trans ?_
  refine if_congr Iff.rfl ?_ rfl
  rw [scale_coe, sco, EReal.coe_mul, EReal.coe_add, coe_sum, coe_sum]
  refine congrArg₂ (· * ·) (congrArg₂ (· + ·) (Finset.sum_congr rfl fun d _ => ?_) (Finset.sum_congr rfl fun r _ => ?_)) rfl
  · rw [EReal.coe_mul]
    exact congrArg₂ (· * ·) (own_at H i h d) (H.hn j h d)
  · rw [EReal.coe_mul]
    exact congrArg₂ (· * ·) (H.hr j r) (rot_at H i h r)

/-- Each row's largest score is a real number. -/
theorem top_at (h : Fin 16) (i : Fin 2080) : ∃ r : ℝ, (res_main_v30 W : Vec Ideal S16x2080 .f32) (ix2 h i) = (r : EReal) := by
  have k : (fun x : Fin 2080 => (res_main_v29_0 W : Vec Ideal S16x2080x2080 .f32) (ix3 h i x)) = fun x => if x.val ≤ i.val then ((sco A h i x : ℝ) : EReal) else ⊥ :=
    funext fun x => score_at H h i x
  have e := topR_at (res_main_v29_0 W) h i
  rw [k] at e
  obtain ⟨r, hr⟩ := fold_max_real (fun x : Fin 2080 => if x.val ≤ i.val then ((sco A h i x : ℝ) : EReal) else ⊥)
    (fun j => by split_ifs; exacts [EReal.coe_ne_top _, bot_ne_top]) i (by rw [if_pos le_rfl]; exact EReal.coe_ne_bot _)
  exact ⟨r, e.trans hr⟩

/-- A row's exponentials and their sum are real numbers whose quotients are the probabilities. -/
theorem row_at (h : Fin 16) (i : Fin 2080) : ∃ (E : Fin 2080 → ℝ) (l : ℝ), l ≠ 0
    ∧ (∀ k, (res_main_v50 W : Vec Ideal S16x2080x2080 .f32) (ix3 h i k) = ((E k : ℝ) : EReal))
    ∧ (res_main_v52 W : Vec Ideal S16x2080x1 .f32) (ix3 h i 0) = ((l : ℝ) : EReal)
    ∧ ∀ k, E k / l = prob A h i k := by
  obtain ⟨r, hr⟩ := top_at H h i
  have e1 : ∀ k, (res_main_v50 W : Vec Ideal S16x2080x2080 .f32) (ix3 h i k) = ((if k.val ≤ i.val then Real.exp (sco A h i k - r) else 0 : ℝ) : EReal) := fun k => by
    refine (expR_at (res_main_v29_0 W) (res_main_v30 W) h i k).trans ?_
    rw [score_at H h i k, hr]
    exact exp_masked _ _ _
  refine ⟨fun k => if k.val ≤ i.val then Real.exp (sco A h i k - r) else 0, den A h i * Real.exp (-r),
    mul_ne_zero (den_pos A h i).ne' (Real.exp_pos _).ne', e1, ?_, fun k => prob_shift A h i k r⟩
  refine (sumR_at (res_main_v50 W) h i 0).trans ?_
  rw [← sum_shift, coe_sum]
  exact Finset.sum_congr rfl fun k _ => e1 k

/-- The probabilities. -/
theorem prob_at (h : Fin 16) (i j : Fin 2080) :
    (res_main_v54 W : Vec Ideal S16x2080x2080 .f32) (ix3 h i j) = ((prob A h i j : ℝ) : EReal) := by
  obtain ⟨E, l, hl, hE, hL, hP⟩ := row_at H h i
  refine (quotR_at (res_main_v50 W) (res_main_v52 W) h i j).trans ((congrArg₂ Ideal.div (hE j) hL).trans ?_)
  rw [Ideal.div_coe hl, ← EReal.coe_mul, ← hP j, mul_one_div]

/-- The cotangent by head, lane and query. -/
theorem ct_at (h : Fin 16) (e : Fin 128) (i : Fin 2080) :
    (res_main_v62 W : Vec Ideal S16x128x2080 .f32) (ix3 h e i) = ((A.ct i h e : ℝ) : EReal) := by
  refine (ctR_at (W (Proc.devRef .tc main_arg6)) h e i).trans ((H.hg i _).trans ?_)
  have e1 : (⟨(h.val * 128 + e.val) / 128, by omega⟩ : Fin 16) = h := Fin.ext (by simp only; omega)
  have e2 : (⟨(h.val * 128 + e.val) % 128, by omega⟩ : Fin 128) = e := Fin.ext (by simp only; omega)
  simp only [e1, e2]

/-- The probabilities' gradient. -/
theorem dprob_at (h : Fin 16) (i j : Fin 2080) :
    (res_main_v63 W : Vec Ideal S16x2080x2080 .f32) (ix3 h i j) = ((dprob A h i j : ℝ) : EReal) := by
  refine (dpR_at (res_main_v62 W) (W (Proc.devRef .tc main_arg3)) h i j).trans ?_
  rw [dprob, coe_sum]
  refine Finset.sum_congr rfl fun e _ => ?_
  rw [EReal.coe_mul]
  exact congrArg₂ (· * ·) (ct_at H h e i) (H.hv j h e)

/-- The scaled gradient of the scores. -/
theorem dscore_at (h : Fin 16) (i j : Fin 2080) :
    (res_main_v80 W : Vec Ideal S16x2080x2080 .f32) (ix3 h i j) = ((dsco A h i j * scR : ℝ) : EReal) := by
  obtain ⟨E, l, hl, hE, hL, hP⟩ := row_at H h i
  have t : takeR (res_main_v63 W) (res_main_v50 W) (res_main_v52 W) (ix2 h i) = ((-∑ k : Fin 2080, dprob A h i k * (1 / (l * l)) * E k : ℝ) : EReal) := by
    refine (takeR_at (res_main_v63 W) (res_main_v50 W) (res_main_v52 W) h i).trans ?_
    rw [EReal.coe_neg, coe_sum]
    refine congrArg Neg.neg (Finset.sum_congr rfl fun k _ => ?_)
    rw [EReal.coe_mul, EReal.coe_mul]
    refine congrArg₂ (· * ·) (congrArg₂ (· * ·) (dprob_at H h i k) ?_) (hE k)
    rw [hL]
    rw [← EReal.coe_mul, Ideal.div_coe (mul_ne_zero hl hl), one_mul]
  refine (dsR_at (res_main_v63 W) (res_main_v50 W) (res_main_v52 W) (takeR (res_main_v63 W) (res_main_v50 W) (res_main_v52 W)) h i j).trans ?_
  rw [scale_coe, EReal.coe_mul]
  refine congrArg (· * _) ?_
  by_cases hij : j.val ≤ i.val
  · rw [if_pos hij, ← dsco_quot A h i j E l hl hP, EReal.coe_mul, EReal.coe_add]
    refine congrArg₂ (· * ·) (congrArg₂ (· + ·) ((congrArg₂ Ideal.div (dprob_at H h i j) hL).trans ?_) t) (hE j)
    rw [Ideal.div_coe hl, ← EReal.coe_mul, mul_one_div]
  · rw [if_neg hij, dsco, prob, if_neg hij, zero_mul, EReal.coe_zero]

end Cert.ReferenceIdeal.Value

end
-- ==== Proof.Grad.lean ====
module

public import proofs.«01_k».proof.Proof.Math

@[expose] public section

set_option maxRecDepth 16384

noncomputable section

namespace Cert.Attention

open Cert.KernelIdeal Cert.KernelIdeal.Gen Cert.KernelIdeal.Value Idealize.ShloMosaic Idealize.ShloMosaic.TcCoe Idealize.SL.Sem
open scoped BigOperators

/-- A table of the rotation as the kernel takes it: the 32 entries twice, then zeros. -/
def tab (f : Fin 2080 → Fin 32 → ℝ) (i : Fin 2080) (d : Fin 128) : ℝ :=
  if h1 : d.val < 32 then f i ⟨d.val, h1⟩ else if h2 : d.val < 64 then f i ⟨d.val - 32, by omega⟩ else 0

/-- The table's first copy. -/
theorem tab_lo (f : Fin 2080 → Fin 32 → ℝ) (i : Fin 2080) (d : Fin 128) (n : ℕ) (hn : n < 32) (hd : d.val = n) :
    tab f i d = f i ⟨n, hn⟩ := by
  subst hd
  rw [tab, dif_pos hn]

/-- The table's second copy. -/
theorem tab_hi (f : Fin 2080 → Fin 32 → ℝ) (i : Fin 2080) (d : Fin 128) (n : ℕ) (hn : n < 32) (hd : d.val = n + 32) :
    tab f i d = f i ⟨n, hn⟩ := by
  rw [tab, dif_neg (by omega), dif_pos (by omega)]
  exact congrArg _ (Fin.ext (by simp only; omega))

/-- The blocks one head's grid point reads hold the head's rows. -/
structure Rows (A : Args) (h : Fin 16) (Q K : Vec Ideal S2080x256 .bf16) (V O G : Vec Ideal S2080x128 .bf16)
    (L C S : Vec Ideal S2080x128 .f32) : Prop where
  hq : ∀ i d, Q (ix2 i d) = ((q2 A i h d : ℝ) : EReal)
  hk : ∀ i d, K (ix2 i d) = ((k2 A i h d : ℝ) : EReal)
  hv : ∀ i d, V (ix2 i d) = ((A.v i h d : ℝ) : EReal)
  ho : ∀ i d, O (ix2 i d) = ((out A h i d : ℝ) : EReal)
  hg : ∀ i d, G (ix2 i d) = ((A.ct i h d : ℝ) : EReal)
  hl : ∀ i d, L (ix2 i d) = ((Real.log (den A h i) : ℝ) : EReal)
  hc : ∀ i (d : Fin 128), C (ix2 i d) = ((tab A.cs i d : ℝ) : EReal)
  hs : ∀ i (d : Fin 128), S (ix2 i d) = ((tab A.sn i d : ℝ) : EReal)

section
variable {A : Args} {h : Fin 16} {Q K : Vec Ideal S2080x256 .bf16} {V O G : Vec Ideal S2080x128 .bf16}
    {L C S : Vec Ideal S2080x128 .f32} (R : Rows A h Q K V O G L C S)
include R

/-- The recomputed probability is the attention's. -/
theorem probE_coe (i j : Fin 2080) : probE Q K L i j = ((prob A h i j : ℝ) : EReal) := by
  have e : ∑ d : Fin 256, Q (ix2 i d) * K (ix2 j d) = ((sco A h i j : ℝ) : EReal) := by
    rw [← score_rows, coe_sum]
    exact Finset.sum_congr rfl fun d _ => by rw [R.hq, R.hk, EReal.coe_mul]
  rw [probE, scoreE, e, R.hl, exp_masked, prob_lse]

/-- The score's gradient is the softmax's derivative. -/
theorem dscoreE_coe (i j : Fin 2080) : dscoreE Q K V O G L i j = ((dsco A h i j : ℝ) : EReal) := by
  have e1 : ∑ e : Fin 128, G (ix2 i e) * V (ix2 j e) = ((dprob A h i j : ℝ) : EReal) := by
    rw [dprob, coe_sum]
    exact Finset.sum_congr rfl fun d _ => by rw [R.hg, R.hv, EReal.coe_mul]
  have e2 : ∑ e : Fin 128, G (ix2 i e) * O (ix2 i e) = ((∑ k : Fin 2080, prob A h i k * dprob A h i k : ℝ) : EReal) := by
    rw [← ct_out, coe_sum]
    exact Finset.sum_congr rfl fun d _ => by rw [R.hg, R.ho, EReal.coe_mul]
  rw [dscoreE, probE_coe R, e1, e2, ← EReal.coe_sub, ← EReal.coe_mul, dsco]

/-- A query row's gradient before the scale. -/
theorem dqE_coe (i : Fin 2080) (d : Fin 256) :
    dqE Q K V O G L i d = ((∑ j : Fin 2080, dsco A h i j * k2 A j h d : ℝ) : EReal) := by
  rw [dqE, coe_sum]
  exact Finset.sum_congr rfl fun j _ => by rw [dscoreE_coe R, R.hk, EReal.coe_mul]

/-- A key row's gradient. -/
theorem dkE_coe (j : Fin 2080) (d : Fin 256) :
    dkE Q K V O G L j d = ((∑ i : Fin 2080, dsco A h i j * q2 A i h d : ℝ) : EReal) := by
  rw [dkE, coe_sum]
  exact Finset.sum_congr rfl fun j _ => by rw [dscoreE_coe R, R.hq, EReal.coe_mul]

/-- A value row's gradient. -/
theorem dvE_coe (j : Fin 2080) (d : Fin 128) : dvE Q K G L j d = ((gv A h j d : ℝ) : EReal) := by
  rw [dvE, gv, coe_sum]
  exact Finset.sum_congr rfl fun j _ => by rw [probE_coe R, R.hg, EReal.coe_mul]

/-- A query row's gradient in its own lanes. -/
theorem dq_own (i : Fin 2080) (d : Fin 256) (hd : d.val < 128) : dqE Q K V O G L i d * scl = ((gq A h i d : ℝ) : EReal) := by
  rw [dqE_coe R, scl, scale_coe, ← EReal.coe_mul, gq, dif_pos hd, gqn, Finset.sum_mul]
  refine congrArg _ (Finset.sum_congr rfl fun j _ => ?_)
  rw [k2, dif_pos hd]
  ring

/-- A query row's gradient in a rotated lane, before the rotation is undone and before the scale. -/
theorem dq_rot (i : Fin 2080) (d : ℕ) (hd : d < 64) (d' : Fin 256) (hd' : d'.val = 128 + d) :
    ((∑ j : Fin 2080, dsco A h i j * k2 A j h d' : ℝ)) * scR = gqr A h i ⟨d, hd⟩ := by
  rw [gqr, Finset.sum_mul]
  refine Finset.sum_congr rfl fun j _ => ?_
  rw [k2, dif_neg (by omega), dif_pos (by omega)]
  have e : (⟨d'.val - 128, by omega⟩ : Fin 64) = ⟨d, hd⟩ := Fin.ext (by simp only; omega)
  rw [e]
  ring

/-- A query row's gradient in the rotated lanes. -/
theorem dq_rope (i : Fin 2080) (d : Fin 128) :
    dqrE Q K V O G L C S i d = ((gq A h i ⟨128 + d.val, by omega⟩ : ℝ) : EReal) := by
  rw [dqrE, scl, scale_coe, gq]
  simp only [dqE_coe R, R.hc, R.hs]
  by_cases h1 : d.val < 32
  · rw [if_pos h1, dif_neg (by (try simp only); omega), dif_pos (by (try simp only); omega),
      ← EReal.coe_mul, ← EReal.coe_mul, zero_sub, ← EReal.coe_neg, ← EReal.coe_sub, ← EReal.coe_mul]
    refine congrArg _ ?_
    rw [sub_mul, mul_right_comm, dq_rot R i d.val (by omega) _ rfl, neg_mul, mul_right_comm,
      dq_rot R i (d.val + 32) (by omega) _ (by (try simp only); omega), sub_neg_eq_add,
      tab_lo A.cs i d d.val h1 rfl, tab_hi A.sn i _ d.val h1 (by (try simp only); omega)]
    refine congrArg₂ (· + ·) (congrArg₂ (· * ·) (congrArg _ (Fin.ext ?_)) (congrArg _ (Fin.ext ?_)))
      (congrArg₂ (· * ·) (congrArg _ (Fin.ext ?_)) (congrArg _ (Fin.ext ?_))) <;> (simp only; omega)
  · by_cases h2 : d.val < 64
    · rw [if_neg h1, if_pos h2, dif_neg (by (try simp only); omega), dif_neg (by (try simp only); omega),
        dif_pos (by (try simp only); omega), ← EReal.coe_mul, ← EReal.coe_mul, ← EReal.coe_sub, ← EReal.coe_mul]
      refine congrArg _ ?_
      rw [sub_mul, mul_right_comm, dq_rot R i d.val (by omega) _ rfl, mul_right_comm,
        dq_rot R i (d.val - 32) (by omega) _ (by (try simp only); omega),
        tab_hi A.cs i d (d.val - 32) (by omega) (by omega), tab_lo A.sn i _ (d.val - 32) (by omega) (by (try simp only); omega)]
      refine congrArg₂ (· - ·) (congrArg₂ (· * ·) (congrArg _ (Fin.ext ?_)) (congrArg _ (Fin.ext ?_)))
        (congrArg₂ (· * ·) (congrArg _ (Fin.ext ?_)) (congrArg _ (Fin.ext ?_))) <;> (simp only; omega)
    · rw [if_neg h1, if_neg h2, tab, dif_neg h1, dif_neg h2, dif_neg (by (try simp only); omega), dif_neg (by (try simp only); omega), dif_neg (by (try simp only); omega),
        EReal.coe_zero, mul_zero, sub_zero, zero_mul]

/-- A key row's gradient in its own lanes. -/
theorem dk_own (j : Fin 2080) (d : Fin 256) (hd : d.val < 128) : dkE Q K V O G L j d = ((gk A h j d : ℝ) : EReal) := by
  rw [dkE_coe R, gk, dif_pos hd, gkn]
  refine congrArg _ (Finset.sum_congr rfl fun i _ => ?_)
  rw [q2, dif_pos hd]
  ring

/-- A head's share of the gradient of the keys' shared part. -/
theorem dk_shared (j : Fin 2080) (d : Fin 128) :
    dkE Q K V O G L j ⟨128 + d.val, by omega⟩ = ((gkrh A h j d : ℝ) : EReal) := by
  rw [dkE_coe R, gkrh]
  refine congrArg _ ?_
  by_cases h1 : d.val < 64
  · rw [dif_pos h1]
    refine Finset.sum_congr rfl fun i _ => ?_
    rw [q2, dif_neg (by (try simp only); omega), dif_pos (by (try simp only); omega)]
    have e : (⟨128 + d.val - 128, by omega⟩ : Fin 64) = ⟨d.val, h1⟩ := Fin.ext (by simp only; omega)
    rw [e]
    ring
  · rw [dif_neg h1]
    refine Finset.sum_eq_zero fun i _ => ?_
    rw [q2, dif_neg (by (try simp only); omega), dif_neg (by (try simp only); omega), zero_mul, mul_zero]

end

end Cert.Attention

end
-- ==== Proof.Host.lean ====
module

public import proofs.«01_k».proof.Proof.Grad
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Value

open Cert.KernelIdeal Cert.KernelIdeal.Gen Idealize.ShloMosaic Idealize.ShloMosaic.TcCoe Idealize.SL.Sem

open Cert.Attention
open scoped BigOperators

/-- The scaled scores of all heads from the queries' two parts and the keys' two parts. -/
def scoresH (X Y : Vec Ideal S2080x16x128 .f32) (Z : Vec Ideal S2080x64 .f32) (W : Vec Ideal S2080x16x64 .f32) : Vec Ideal S16x2080x2080 .f32 :=
  mulf (F := Ideal) (φ := .f32) (addf (F := Ideal) (φ := .f32) (Host.dotGeneral (F := Ideal) (φ₁ := .f32) (φ₂ := .f32) dot_S2080x16x128_S2080x16x128_S16x2080x2080_2_2_0_0_1_1 none X Y)
      (transpose S16x2080x2080 [2, 1, 0] (Host.dotGeneral (F := Ideal) (φ₁ := .f32) (φ₂ := .f32) dot_S2080x64_S2080x16x64_S2080x2080x16_1_2_0_01_n_n none Z W) transposes_S2080x2080x16_S16x2080x2080_2_1_0))
     (broadcastInDim S16x2080x2080 ![] bcast_S_S16x2080x2080 (constant (F := Ideal) S_ FTy.f32 1033096506#32))

/-- The scores with `-∞` for the keys after the query. -/
def maskedH (X : Vec Ideal S16x2080x2080 .f32) : Vec Ideal S16x2080x2080 .f32 :=
  select (broadcastInDim S16x2080x2080 ![1, 2] bcast_S2080x2080_S16x2080x2080_1_2 (cmpi CmpIPredicate.sle
                              (broadcastInDim S2080x2080 ![0, 1] bcast_S1x2080_S2080x2080_0_1
                                (broadcastInDim S1x2080 ![1] bcast_S2080_S1x2080_1 (iotaInDim S2080 32 0)))
                              (broadcastInDim S2080x2080 ![0, 1] bcast_S2080x1_S2080x2080_0_1
                                (broadcastInDim S2080x1 ![0] bcast_S2080_S2080x1_0 (iotaInDim S2080 32 0)))))
     X (broadcastInDim S16x2080x2080 ![] bcast_S_S16x2080x2080 (constant (F := Ideal) S_ FTy.f32 4286578688#32))

/-- Each row's largest entry. -/
def rowMaxH (X : Vec Ideal S16x2080x2080 .f32) : Vec Ideal S16x2080 .f32 :=
  Host.reduce (FloatOps.maximumf (F := Ideal) (φ := .f32)) X (constant (F := Ideal) S_ FTy.f32 4286578688#32) reducesTo_S16x2080x2080_S16x2080_d2 h_S_

/-- The exponentials of the entries less a number for each row. -/
def rowExpH (X : Vec Ideal S16x2080x2080 .f32) (Y : Vec Ideal S16x2080 .f32) : Vec Ideal S16x2080x2080 .f32 :=
  Host.exp (F := Ideal) (φ := .f32) (subf (F := Ideal) (φ := .f32) X (broadcastInDim S16x2080x2080 ![0, 1, 2] bcast_S16x2080x1_S16x2080x2080_0_1_2 (broadcastInDim S16x2080x1 ![0, 1] bcast_S16x2080_S16x2080x1_0_1 Y)))

/-- Each row's sum. -/
def rowSumH (X : Vec Ideal S16x2080x2080 .f32) : Vec Ideal S16x2080 .f32 :=
  Host.reduceAdd (F := Ideal) (φ := .f32) X (constant (F := Ideal) S_ FTy.f32 0x00000000#32) reducesTo_S16x2080x2080_S16x2080_d2 h_S_

/-- The logarithm of the sum of exponentials in the layout the backward call takes. -/
def lseH (X Y : Vec Ideal S16x2080 .f32) : Vec Ideal S2080x2048 .f32 :=
  shapeCast S2080x2048 (broadcastInDim S2080x16x128 ![0, 1, 2] bcast_S2080x16x1_S2080x16x128_0_1_2
        (transpose S2080x16x1 [1, 0, 2]
          (addf (F := Ideal) (φ := .f32)
            (broadcastInDim S16x2080x1 ![0, 1] bcast_S16x2080_S16x2080x1_0_1 X)
            (Host.log (F := Ideal) (φ := .f32) (broadcastInDim S16x2080x1 ![0, 1] bcast_S16x2080_S16x2080x1_0_1 Y))) transposes_S16x2080x1_S2080x16x1_1_0_2)) shapeCasts_S2080x16x128_S2080x2048

/-- The attention's output in the layout the backward call takes. -/
def outH (X : Vec Ideal S2080x16x128 .f32) (Y : Vec Ideal S16x2080x2080 .f32) (Z : Vec Ideal S16x2080 .f32) : Vec Ideal S2080x2048 .bf16 :=
  truncf (F := Ideal) .bf16 (shapeCast S2080x2048 (transpose S2080x16x128 [2, 0, 1] (Host.dotGeneral (F := Ideal) (φ₁ := .f32) (φ₂ := .f32) dot_S2080x16x128_S16x2080x2080_S16x128x2080_0_2_2_1_1_0 none X
    (Host.divf (F := Ideal) (φ := .f32) Y (broadcastInDim S16x2080x2080 ![0, 1, 2] bcast_S16x2080x1_S16x2080x2080_0_1_2 (broadcastInDim S16x2080x1 ![0, 1] bcast_S16x2080_S16x2080x1_0_1 Z)))) transposes_S16x128x2080_S2080x16x128_2_0_1) shapeCasts_S2080x16x128_S2080x2048) bitsLt_bf16_f32

/-- The larger of `-∞` and each entry. -/
def atLeastH (X : Vec Ideal S16x2080 .f32) : Vec Ideal S16x2080 .f32 :=
  maximumf (F := Ideal) (φ := .f32) (broadcastInDim S16x2080 ![] bcast_S_S16x2080 (constant (F := Ideal) S_ FTy.f32 4286578688#32)) X

/-- The literal `-∞`. -/
theorem low_bot : Ideal.ofBits FTy.f32 4286578688#32 = (⊥ : EReal) := by
  simp [Ideal.ofBits, Ideal.ieee]

/-- The scores at a head, a query and a key. -/
theorem scoresH_at (X Y : Vec Ideal S2080x16x128 .f32) (Z : Vec Ideal S2080x64 .f32) (W : Vec Ideal S2080x16x64 .f32) (h : Fin 16) (i j : Fin 2080) :
    scoresH X Y Z W (ix3 h i j) =
      ((∑ d : Fin 128, X (ix3 i h d) * Y (ix3 j h d)) + ∑ r : Fin 64, Z (ix2 j r) * W (ix3 i h r)) * Ideal.ofBits FTy.f32 1033096506#32 := by
  pointwise [scoresH]

/-- The masked scores at a head, a query and a key. -/
theorem maskedH_at (X : Vec Ideal S16x2080x2080 .f32) (h : Fin 16) (i j : Fin 2080) :
    maskedH X (ix3 h i j) = if j.val ≤ i.val then X (ix3 h i j) else ⊥ := by
  pointwise [maskedH]
  have := i.isLt
  have := j.isLt
  rw [WordCmp.cmpi_sle_ofNat (by norm_num; omega) (by norm_num; omega), low_bot, WordCmp.select_ofBool]
  simp

/-- A row's largest entry. -/
theorem rowMaxH_at (X : Vec Ideal S16x2080x2080 .f32) (h : Fin 16) (i : Fin 2080) :
    rowMaxH X (ix2 h i) = Finset.univ.fold max ⊥ fun x : Fin 2080 => X (ix3 h i x) := by
  pointwise [rowMaxH]
  rw [low_bot]

/-- The exponential of an entry less its row's number. -/
theorem rowExpH_at (X : Vec Ideal S16x2080x2080 .f32) (Y : Vec Ideal S16x2080 .f32) (h : Fin 16) (i j : Fin 2080) :
    rowExpH X Y (ix3 h i j) = Ideal.exp (X (ix3 h i j) - Y (ix2 h i)) := by
  pointwise [rowExpH]

/-- A row's sum. -/
theorem rowSumH_at (X : Vec Ideal S16x2080x2080 .f32) (h : Fin 16) (i : Fin 2080) :
    rowSumH X (ix2 h i) = ∑ x : Fin 2080, X (ix3 h i x) := by
  pointwise [rowSumH]

/-- The saved logarithm at a query and a lane of the 16 heads' lanes. -/
theorem lseH_at (X Y : Vec Ideal S16x2080 .f32) (i : Fin 2080) (j : Fin 2048) :
    lseH X Y (ix2 i j) = X (ix2 ⟨j.val / 128, by omega⟩ i) + Ideal.log (Y (ix2 ⟨j.val / 128, by omega⟩ i)) := by
  pointwise [lseH]

/-- The output at a query and a lane of the 16 heads' lanes. -/
theorem outH_at (X : Vec Ideal S2080x16x128 .f32) (Y : Vec Ideal S16x2080x2080 .f32) (Z : Vec Ideal S16x2080 .f32) (i : Fin 2080) (j : Fin 2048) :
    outH X Y Z (ix2 i j) = ∑ k : Fin 2080, X (ix3 k ⟨j.val / 128, by omega⟩ ⟨j.val % 128, by omega⟩) *
      Ideal.div (Y (ix3 ⟨j.val / 128, by omega⟩ i k)) (Z (ix2 ⟨j.val / 128, by omega⟩ i)) := by
  pointwise [outH]

/-- The larger of `-∞` and an entry is the entry. -/
theorem atLeastH_at (X : Vec Ideal S16x2080 .f32) (h : Fin 16) (i : Fin 2080) : atLeastH X (ix2 h i) = X (ix2 h i) := by
  pointwise [atLeastH]
  rw [low_bot]
  exact max_eq_right bot_le

variable (m : (ℓ : Loc nD τ sig) → Buf (Elt Ideal) ℓ) (c : Dev nD)

/-- The scores of the host part. -/
theorem V22_eq : V m c main_v22 = scoresH (V m c main_v0) (V m c main_arg1) (V m c main_arg2) (V m c main_v16) := by
  unfold V scoresH
  after_reads_simp
  try rfl

/-- The masked scores. -/
theorem V29_eq : V m c main_v29 = maskedH (V m c main_v22) := by
  unfold V maskedH
  after_reads_simp
  try rfl

/-- Their rows' largest entries. -/
theorem V30_eq : V m c main_v30 = rowMaxH (V m c main_v29) := by
  unfold V rowMaxH
  after_reads_simp
  try rfl

/-- Their exponentials. -/
theorem V34_eq : V m c main_v34 = rowExpH (V m c main_v29) (V m c main_v30) := by
  unfold V rowExpH
  after_reads_simp
  try rfl

/-- The sums of the exponentials. -/
theorem V35_eq : V m c main_v35 = rowSumH (V m c main_v34) := by
  unfold V rowSumH
  after_reads_simp
  try rfl

/-- The saved logarithms. -/
theorem V41_eq : V m c main_v41 = lseH (V m c main_v30) (V m c main_v35) := by
  unfold V lseH
  after_reads_simp
  try rfl

/-- The scores of the output's own attention. -/
theorem V64_eq : V m c main_v64 = scoresH (V m c main_v42) (V m c main_arg1) (V m c main_arg2) (V m c main_v58) := by
  unfold V scoresH
  after_reads_simp
  try rfl

/-- The output's own masked scores. -/
theorem V71_eq : V m c main_v71 = maskedH (V m c main_v64) := by
  unfold V maskedH
  after_reads_simp
  try rfl

/-- The numbers the softmax subtracts. -/
theorem V74_eq : V m c main_v74 = atLeastH (rowMaxH (V m c main_v71)) := by
  unfold V atLeastH rowMaxH
  after_reads_simp
  try rfl

/-- The softmax's exponentials. -/
theorem V78_eq : V m c main_v78 = rowExpH (V m c main_v71) (V m c main_v74) := by
  unfold V rowExpH
  after_reads_simp
  try rfl

/-- Their sums. -/
theorem V79_eq : V m c main_v79 = rowSumH (V m c main_v78) := by
  unfold V rowSumH
  after_reads_simp
  try rfl

/-- The output. -/
theorem V102_eq : V m c main_v102 = outH (V m c main_arg3) (V m c main_v78) (V m c main_v79) := by
  unfold V outH
  after_reads_simp
  try rfl

/-- A table's parts. -/
theorem tab_parts (f : Fin 2080 → Fin 32 → ℝ) (i : Fin 2080) (d : Fin 128) :
    (if h : d.val < 32 then ((f i ⟨d.val, h⟩ : ℝ) : EReal) else if h : d.val - 32 < 32 then ((f i ⟨d.val - 32, h⟩ : ℝ) : EReal) else 0)
      = ((tab f i d : ℝ) : EReal) := by
  rw [tab]
  by_cases h1 : d.val < 32
  · rw [dif_pos h1, dif_pos h1]
  · by_cases h2 : d.val < 64
    · rw [dif_neg h1, dif_neg h1, dif_pos (by omega), dif_pos h2]
    · rw [dif_neg h1, dif_neg h1, dif_neg (by omega), dif_neg h2, EReal.coe_zero]

/-- A padded key row's parts. -/
theorem k2_parts (A : Args) (i : Fin 2080) (h : Fin 16) (e : Fin 256) :
    (if h1 : e.val < 128 then ((A.kn i h ⟨e.val, h1⟩ : ℝ) : EReal) else if h2 : e.val - 128 < 64 then ((A.kr i ⟨e.val - 128, h2⟩ : ℝ) : EReal) else 0)
      = ((k2 A i h e : ℝ) : EReal) := by
  rw [k2]
  by_cases h1 : e.val < 128
  · rw [dif_pos h1, dif_pos h1]
  · by_cases h2 : e.val < 192
    · rw [dif_neg h1, dif_neg h1, dif_pos (by omega), dif_pos h2]
    · rw [dif_neg h1, dif_neg h1, dif_neg (by omega), dif_neg h2, EReal.coe_zero]

/-- A padded query row's parts. -/
theorem q2_parts (A : Args) (i : Fin 2080) (h : Fin 16) (e : Fin 256) :
    (if h1 : e.val < 128 then ((A.q i h ⟨e.val, by omega⟩ : ℝ) : EReal)
      else if h2 : e.val - 128 < 64 then ((rope A i h ⟨e.val - 128, h2⟩ : ℝ) : EReal) else 0) * ((scR : ℝ) : EReal)
      = ((q2 A i h e : ℝ) : EReal) := by
  rw [q2]
  by_cases h1 : e.val < 128
  · rw [dif_pos h1, dif_pos h1, EReal.coe_mul]
  · by_cases h2 : e.val < 192
    · rw [dif_neg h1, dif_neg h1, dif_pos (by omega), dif_pos h2, EReal.coe_mul]
    · rw [dif_neg h1, dif_neg h1, dif_neg (by omega), dif_neg h2, zero_mul, zero_mul, EReal.coe_zero]

/-- The launch contents of the arguments are the real numbers `A` names. -/
structure Holds (A : Args) : Prop where
  hq : ∀ i h d, (m (c, Proc.tc.devRef main_arg0) : Vec Ideal S2080x16x192 .f32) (ix3 i h d) = ((A.q i h d : ℝ) : EReal)
  hn : ∀ i h d, (m (c, Proc.tc.devRef main_arg1) : Vec Ideal S2080x16x128 .f32) (ix3 i h d) = ((A.kn i h d : ℝ) : EReal)
  hr : ∀ i r, (m (c, Proc.tc.devRef main_arg2) : Vec Ideal S2080x64 .f32) (ix2 i r) = ((A.kr i r : ℝ) : EReal)
  hv : ∀ i h d, (m (c, Proc.tc.devRef main_arg3) : Vec Ideal S2080x16x128 .f32) (ix3 i h d) = ((A.v i h d : ℝ) : EReal)
  hc : ∀ i r, (m (c, Proc.tc.devRef main_arg4) : Vec Ideal S2080x32 .f32) (ix2 i r) = ((A.cs i r : ℝ) : EReal)
  hs : ∀ i r, (m (c, Proc.tc.devRef main_arg5) : Vec Ideal S2080x32 .f32) (ix2 i r) = ((A.sn i r : ℝ) : EReal)
  hg : ∀ i (j : Fin 2048), (m (c, Proc.tc.devRef main_arg6) : Vec Ideal S2080x2048 .f32) (ix2 i j) =
    ((A.ct i ⟨j.val / 128, by omega⟩ ⟨j.val % 128, by omega⟩ : ℝ) : EReal)

variable {A : Args} (H : Holds m c A)
include H

/-- The own part of the queries. -/
theorem V0_at (i : Fin 2080) (h : Fin 16) (d : Fin 128) : (V m c main_v0 : Vec Ideal S2080x16x128 .f32) (ix3 i h d) = ((A.q i h ⟨d.val, by omega⟩ : ℝ) : EReal) := by
  unfold V
  after_reads_at
  exact H.hq i h _

/-- The own part of the queries. -/
theorem V42_at (i : Fin 2080) (h : Fin 16) (d : Fin 128) : (V m c main_v42 : Vec Ideal S2080x16x128 .f32) (ix3 i h d) = ((A.q i h ⟨d.val, by omega⟩ : ℝ) : EReal) := by
  unfold V
  after_reads_at
  exact H.hq i h _

/-- The rotated half of the queries. -/
theorem V16_at (i : Fin 2080) (h : Fin 16) (r : Fin 64) : (V m c main_v16 : Vec Ideal S2080x16x64 .f32) (ix3 i h r) = ((rope A i h r : ℝ) : EReal) := by
  unfold V
  after_reads_at
  simp only [H.hq, H.hc, H.hs]
  exact rope_parts A i h r

/-- The rotated half of the queries. -/
theorem V58_at (i : Fin 2080) (h : Fin 16) (r : Fin 64) : (V m c main_v58 : Vec Ideal S2080x16x64 .f32) (ix3 i h r) = ((rope A i h r : ℝ) : EReal) := by
  unfold V
  after_reads_at
  simp only [H.hq, H.hc, H.hs]
  exact rope_parts A i h r

/-- The scores. -/
theorem V22_at (h : Fin 16) (i j : Fin 2080) : (V m c main_v22 : Vec Ideal S16x2080x2080 .f32) (ix3 h i j) = ((sco A h i j : ℝ) : EReal) := by
  rw [V22_eq, scoresH_at, scale_coe, sco, EReal.coe_mul, EReal.coe_add, coe_sum, coe_sum, V_main_arg1, V_main_arg2]
  refine congrArg₂ (· * ·) (congrArg₂ (· + ·) (Finset.sum_congr rfl fun d _ => ?_) (Finset.sum_congr rfl fun r _ => ?_)) rfl
  · rw [V0_at m c H, EReal.coe_mul]
    exact congrArg _ (H.hn j h d)
  · rw [V16_at m c H, EReal.coe_mul]
    exact congrArg (· * _) (H.hr j r)

/-- The scores. -/
theorem V64_at (h : Fin 16) (i j : Fin 2080) : (V m c main_v64 : Vec Ideal S16x2080x2080 .f32) (ix3 h i j) = ((sco A h i j : ℝ) : EReal) := by
  rw [V64_eq, scoresH_at, scale_coe, sco, EReal.coe_mul, EReal.coe_add, coe_sum, coe_sum, V_main_arg1, V_main_arg2]
  refine congrArg₂ (· * ·) (congrArg₂ (· + ·) (Finset.sum_congr rfl fun d _ => ?_) (Finset.sum_congr rfl fun r _ => ?_)) rfl
  · rw [V42_at m c H, EReal.coe_mul]
    exact congrArg _ (H.hn j h d)
  · rw [V58_at m c H, EReal.coe_mul]
    exact congrArg (· * _) (H.hr j r)

/-- The masked scores. -/
theorem V29_at (h : Fin 16) (i j : Fin 2080) :
    (V m c main_v29 : Vec Ideal S16x2080x2080 .f32) (ix3 h i j) = if j.val ≤ i.val then ((sco A h i j : ℝ) : EReal) else ⊥ := by
  rw [V29_eq, maskedH_at, V22_at m c H]

/-- The masked scores. -/
theorem V71_at (h : Fin 16) (i j : Fin 2080) :
    (V m c main_v71 : Vec Ideal S16x2080x2080 .f32) (ix3 h i j) = if j.val ≤ i.val then ((sco A h i j : ℝ) : EReal) else ⊥ := by
  rw [V71_eq, maskedH_at, V64_at m c H]

/-- Each row's largest entry is a real number. -/
theorem V30_at (h : Fin 16) (i : Fin 2080) : ∃ r : ℝ, (V m c main_v30 : Vec Ideal S16x2080 .f32) (ix2 h i) = (r : EReal) := by
  rw [V30_eq, rowMaxH_at]
  refine fold_max_real _ (fun j => ?_) i ?_
  · rw [V29_at m c H]
    split_ifs
    · exact EReal.coe_ne_top _
    · exact bot_ne_top
  · rw [V29_at m c H, if_pos le_rfl]
    exact EReal.coe_ne_bot _

/-- Each row's largest entry is a real number. -/
theorem V74_at (h : Fin 16) (i : Fin 2080) : ∃ r : ℝ, (V m c main_v74 : Vec Ideal S16x2080 .f32) (ix2 h i) = (r : EReal) := by
  rw [V74_eq, atLeastH_at, rowMaxH_at]
  refine fold_max_real _ (fun j => ?_) i ?_
  · rw [V71_at m c H]
    split_ifs
    · exact EReal.coe_ne_top _
    · exact bot_ne_top
  · rw [V71_at m c H, if_pos le_rfl]
    exact EReal.coe_ne_bot _

/-- The exponentials. -/
theorem V34_at (h : Fin 16) (i j : Fin 2080) (r : ℝ) (hr : (V m c main_v30 : Vec Ideal S16x2080 .f32) (ix2 h i) = (r : EReal)) :
    (V m c main_v34 : Vec Ideal S16x2080x2080 .f32) (ix3 h i j) = ((if j.val ≤ i.val then Real.exp (sco A h i j - r) else 0 : ℝ) : EReal) := by
  rw [V34_eq, rowExpH_at, V29_at m c H, hr, exp_masked]

/-- The exponentials. -/
theorem V78_at (h : Fin 16) (i j : Fin 2080) (r : ℝ) (hr : (V m c main_v74 : Vec Ideal S16x2080 .f32) (ix2 h i) = (r : EReal)) :
    (V m c main_v78 : Vec Ideal S16x2080x2080 .f32) (ix3 h i j) = ((if j.val ≤ i.val then Real.exp (sco A h i j - r) else 0 : ℝ) : EReal) := by
  rw [V78_eq, rowExpH_at, V71_at m c H, hr, exp_masked]

/-- Their sums. -/
theorem V35_at (h : Fin 16) (i : Fin 2080) (r : ℝ) (hr : (V m c main_v30 : Vec Ideal S16x2080 .f32) (ix2 h i) = (r : EReal)) :
    (V m c main_v35 : Vec Ideal S16x2080 .f32) (ix2 h i) = ((den A h i * Real.exp (-r) : ℝ) : EReal) := by
  rw [V35_eq]
  refine (rowSumH_at _ h i).trans ?_
  rw [← sum_shift, coe_sum]
  exact Finset.sum_congr rfl fun j _ => V34_at m c H h i j r hr

/-- Their sums. -/
theorem V79_at (h : Fin 16) (i : Fin 2080) (r : ℝ) (hr : (V m c main_v74 : Vec Ideal S16x2080 .f32) (ix2 h i) = (r : EReal)) :
    (V m c main_v79 : Vec Ideal S16x2080 .f32) (ix2 h i) = ((den A h i * Real.exp (-r) : ℝ) : EReal) := by
  rw [V79_eq]
  refine (rowSumH_at _ h i).trans ?_
  rw [← sum_shift, coe_sum]
  exact Finset.sum_congr rfl fun j _ => V78_at m c H h i j r hr

/-- The saved logarithms. -/
theorem V41_at (i : Fin 2080) (j : Fin 2048) :
    (V m c main_v41 : Vec Ideal S2080x2048 .f32) (ix2 i j) = ((Real.log (den A ⟨j.val / 128, by omega⟩ i) : ℝ) : EReal) := by
  obtain ⟨r, hr⟩ := V30_at m c H ⟨j.val / 128, by omega⟩ i
  rw [V41_eq, lseH_at, hr, V35_at m c H _ _ r hr, Ideal.log_coe, if_neg (not_le.mpr (mul_pos (den_pos A _ i) (Real.exp_pos _))),
    ← EReal.coe_add, lse_shift]

/-- The output. -/
theorem V102_at (i : Fin 2080) (j : Fin 2048) :
    (V m c main_v102 : Vec Ideal S2080x2048 .bf16) (ix2 i j) = ((out A ⟨j.val / 128, by omega⟩ i ⟨j.val % 128, by omega⟩ : ℝ) : EReal) := by
  obtain ⟨r, hr⟩ := V74_at m c H ⟨j.val / 128, by omega⟩ i
  rw [V102_eq]
  refine (outH_at _ _ _ i j).trans ?_
  rw [out, coe_sum, V_main_arg3]
  refine Finset.sum_congr rfl fun k _ => ?_
  rw [V78_at m c H _ _ _ r hr, V79_at m c H _ _ r hr, Ideal.div_coe (mul_pos (den_pos A _ i) (Real.exp_pos _)).ne', ← EReal.coe_mul, mul_one_div,
    prob_shift, EReal.coe_mul]
  exact congrArg (· * _) (H.hv k _ _)

/-- The cotangent. -/
theorem V103_at (i : Fin 2080) (j : Fin 2048) :
    (V m c main_v103 : Vec Ideal S2080x2048 .bf16) (ix2 i j) = ((A.ct i ⟨j.val / 128, by omega⟩ ⟨j.val % 128, by omega⟩ : ℝ) : EReal) := by
  unfold V
  after_reads_at
  exact H.hg i j

/-- The values. -/
theorem V98_at (i : Fin 2080) (j : Fin 2048) :
    (V m c main_v98 : Vec Ideal S2080x2048 .bf16) (ix2 i j) = ((A.v i ⟨j.val / 128, by omega⟩ ⟨j.val % 128, by omega⟩ : ℝ) : EReal) := by
  unfold V
  after_reads_at
  exact H.hv i _ _

/-- A table of the rotation. -/
theorem V100_at (i : Fin 2080) (d : Fin 128) :
    (V m c main_v100 : Vec Ideal S2080x128 .f32) (ix2 i d) = ((tab A.cs i d : ℝ) : EReal) := by
  unfold V
  after_reads_at
  after_reads_at
  simp only [H.hc]
  exact tab_parts A.cs i d

/-- A table of the rotation. -/
theorem V101_at (i : Fin 2080) (d : Fin 128) :
    (V m c main_v101 : Vec Ideal S2080x128 .f32) (ix2 i d) = ((tab A.sn i d : ℝ) : EReal) := by
  unfold V
  after_reads_at
  after_reads_at
  simp only [H.hs]
  exact tab_parts A.sn i d

/-- The padded rows. -/
theorem V96_at (i : Fin 2080) (j : Fin 4096) :
    (V m c main_v96 : Vec Ideal S2080x4096 .bf16) (ix2 i j) = ((k2 A i ⟨j.val / 256, by omega⟩ ⟨j.val % 256, by omega⟩ : ℝ) : EReal) := by
  unfold V
  after_reads_at
  after_reads_at
  simp only [H.hn, H.hr]
  exact k2_parts A i ⟨j.val / 256, by omega⟩ ⟨j.val % 256, by omega⟩

/-- The padded rows. -/
theorem V91_at (i : Fin 2080) (j : Fin 4096) :
    (V m c main_v91 : Vec Ideal S2080x4096 .bf16) (ix2 i j) = ((q2 A i ⟨j.val / 256, by omega⟩ ⟨j.val % 256, by omega⟩ : ℝ) : EReal) := by
  unfold V
  after_reads_at
  after_reads_at
  simp only [H.hq, H.hc, H.hs, scale_coe]
  refine Eq.trans ?_ (q2_parts A i ⟨j.val / 256, by omega⟩ ⟨j.val % 256, by omega⟩)
  simp only [← rope_parts]

end Cert.KernelIdeal.Value

end
-- ==== Proof.Stage.lean ====
module

public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

/-- Query rows 0 to 415: what they add to the value gradient. -/
theorem dv_0 (Q K : Vec Ideal S2080x256 .bf16) (G : Vec Ideal S2080x128 .bf16) (L : Vec Ideal S2080x128 .f32) (A : Vec Ideal S416x128 .f32) (j : Fin 416) (d : Fin 128) :
    (k0_pay15 (k0_pay9 (View.ld (Val := Elt Ideal) (e' := .bf16) G (Rect.unit ![0, 0] ![416, 128] inb_S2080x128_S416x128_0_0))) (k0_pay11 (View.ld (Val := Elt Ideal) (e' := .bf16) Q (Rect.unit ![0, 0] ![416, 256] inb_S2080x256_S416x256_0_0)) (View.ld (Val := Elt Ideal) (e' := .f32) L (Rect.unit ![0, 0] ![416, 1] inb_S2080x128_S416x1_0_0)) (View.ld (Val := Elt Ideal) (e' := .bf16) K (Rect.unit ![0, 0] ![416, 256] inb_S2080x256_S416x256_0_0))) A : Vec Ideal S416x128 .f32) (ix2 j d)
      = A (ix2 j d) + ∑ x : Fin 416, probE Q K L ⟨x.val, by omega⟩ ⟨j.val, by omega⟩ * G (ix2 ⟨x.val, by omega⟩ d) := by
  pointwise [k0_pay8, k0_pay9, k0_pay11, k0_pay15]
  simp only [sel_mask (R := 416) (by decide) 0 (by decide), Nat.zero_add]
  rfl

/-- Query rows 0 to 415: what they add to the key gradient. -/
theorem dk_0 (Q K : Vec Ideal S2080x256 .bf16) (V O G : Vec Ideal S2080x128 .bf16) (L : Vec Ideal S2080x128 .f32) (A : Vec Ideal S416x256 .f32) (j : Fin 416) (d : Fin 256) :
    (k0_pay14 (k0_pay8 (View.ld (Val := Elt Ideal) (e' := .bf16) Q (Rect.unit ![0, 0] ![416, 256] inb_S2080x256_S416x256_0_0))) (k0_pay9 (View.ld (Val := Elt Ideal) (e' := .bf16) G (Rect.unit ![0, 0] ![416, 128] inb_S2080x128_S416x128_0_0))) (k0_pay10 (View.ld (Val := Elt Ideal) (e' := .bf16) G (Rect.unit ![0, 0] ![416, 128] inb_S2080x128_S416x128_0_0)) (View.ld (Val := Elt Ideal) (e' := .bf16) O (Rect.unit ![0, 0] ![416, 128] inb_S2080x128_S416x128_0_0))) (k0_pay11 (View.ld (Val := Elt Ideal) (e' := .bf16) Q (Rect.unit ![0, 0] ![416, 256] inb_S2080x256_S416x256_0_0)) (View.ld (Val := Elt Ideal) (e' := .f32) L (Rect.unit ![0, 0] ![416, 1] inb_S2080x128_S416x1_0_0)) (View.ld (Val := Elt Ideal) (e' := .bf16) K (Rect.unit ![0, 0] ![416, 256] inb_S2080x256_S416x256_0_0))) (View.ld (Val := Elt Ideal) (e' := .bf16) V (Rect.unit ![0, 0] ![416, 128] inb_S2080x128_S416x128_0_0)) A : Vec Ideal S416x256 .f32) (ix2 j d)
      = A (ix2 j d) + ∑ x : Fin 416, dscoreE Q K V O G L ⟨x.val, by omega⟩ ⟨j.val, by omega⟩ * Q (ix2 ⟨x.val, by omega⟩ d) := by
  pointwise [k0_pay8, k0_pay9, k0_pay10, k0_pay11, k0_pay12, k0_pay14]
  simp only [sel_mask (R := 416) (by decide) 0 (by decide), Nat.zero_add]
  rfl

/-- Query rows 0 to 415: the plain lanes of the query gradient. -/
theorem dqa_0 (Q K : Vec Ideal S2080x256 .bf16) (V O G : Vec Ideal S2080x128 .bf16) (L : Vec Ideal S2080x128 .f32) (j : Fin 416) (d : Fin 128) :
    (k0_pay16 (k0_pay9 (View.ld (Val := Elt Ideal) (e' := .bf16) G (Rect.unit ![0, 0] ![416, 128] inb_S2080x128_S416x128_0_0))) (k0_pay10 (View.ld (Val := Elt Ideal) (e' := .bf16) G (Rect.unit ![0, 0] ![416, 128] inb_S2080x128_S416x128_0_0)) (View.ld (Val := Elt Ideal) (e' := .bf16) O (Rect.unit ![0, 0] ![416, 128] inb_S2080x128_S416x128_0_0))) (k0_pay11 (View.ld (Val := Elt Ideal) (e' := .bf16) Q (Rect.unit ![0, 0] ![416, 256] inb_S2080x256_S416x256_0_0)) (View.ld (Val := Elt Ideal) (e' := .f32) L (Rect.unit ![0, 0] ![416, 1] inb_S2080x128_S416x1_0_0)) (View.ld (Val := Elt Ideal) (e' := .bf16) K (Rect.unit ![0, 0] ![416, 256] inb_S2080x256_S416x256_0_0))) (View.ld (Val := Elt Ideal) (e' := .bf16) V (Rect.unit ![0, 0] ![416, 128] inb_S2080x128_S416x128_0_0)) (View.ld (Val := Elt Ideal) (e' := .bf16) K (Rect.unit ![0, 0] ![416, 256] inb_S2080x256_S416x256_0_0)) : Vec Ideal S416x128 .bf16) (ix2 j d)
      = dqE Q K V O G L ⟨j.val, by omega⟩ ⟨d.val, by omega⟩ * scl := by
  pointwise [k0_pay8, k0_pay9, k0_pay10, k0_pay11, k0_pay12, k0_pay13, k0_pay16]
  simp only [sel_mask (R := 416) (by decide) 0 (by decide), Nat.zero_add]
  exact congrArg (· * scl) (sum_keys (R := 416) (by decide) (fun y => dscoreE Q K V O G L ⟨j.val, by omega⟩ y * K (ix2 y ⟨d.val, by omega⟩)) (fun y hy => by rw [dscoreE_zero (by simp only; omega), zero_mul]))

/-- Query rows 0 to 415: the rotated lanes of the query gradient. -/
theorem dqb_0 (Q K : Vec Ideal S2080x256 .bf16) (V O G : Vec Ideal S2080x128 .bf16) (L C S : Vec Ideal S2080x128 .f32) (j : Fin 416) (d : Fin 128) :
    (k0_pay20 (k0_pay17 (k0_pay9 (View.ld (Val := Elt Ideal) (e' := .bf16) G (Rect.unit ![0, 0] ![416, 128] inb_S2080x128_S416x128_0_0))) (k0_pay10 (View.ld (Val := Elt Ideal) (e' := .bf16) G (Rect.unit ![0, 0] ![416, 128] inb_S2080x128_S416x128_0_0)) (View.ld (Val := Elt Ideal) (e' := .bf16) O (Rect.unit ![0, 0] ![416, 128] inb_S2080x128_S416x128_0_0))) (k0_pay11 (View.ld (Val := Elt Ideal) (e' := .bf16) Q (Rect.unit ![0, 0] ![416, 256] inb_S2080x256_S416x256_0_0)) (View.ld (Val := Elt Ideal) (e' := .f32) L (Rect.unit ![0, 0] ![416, 1] inb_S2080x128_S416x1_0_0)) (View.ld (Val := Elt Ideal) (e' := .bf16) K (Rect.unit ![0, 0] ![416, 256] inb_S2080x256_S416x256_0_0))) (View.ld (Val := Elt Ideal) (e' := .bf16) V (Rect.unit ![0, 0] ![416, 128] inb_S2080x128_S416x128_0_0)) (View.ld (Val := Elt Ideal) (e' := .bf16) K (Rect.unit ![0, 0] ![416, 256] inb_S2080x256_S416x256_0_0))) (k0_pay18 (k0_pay9 (View.ld (Val := Elt Ideal) (e' := .bf16) G (Rect.unit ![0, 0] ![416, 128] inb_S2080x128_S416x128_0_0))) (k0_pay10 (View.ld (Val := Elt Ideal) (e' := .bf16) G (Rect.unit ![0, 0] ![416, 128] inb_S2080x128_S416x128_0_0)) (View.ld (Val := Elt Ideal) (e' := .bf16) O (Rect.unit ![0, 0] ![416, 128] inb_S2080x128_S416x128_0_0))) (k0_pay11 (View.ld (Val := Elt Ideal) (e' := .bf16) Q (Rect.unit ![0, 0] ![416, 256] inb_S2080x256_S416x256_0_0)) (View.ld (Val := Elt Ideal) (e' := .f32) L (Rect.unit ![0, 0] ![416, 1] inb_S2080x128_S416x1_0_0)) (View.ld (Val := Elt Ideal) (e' := .bf16) K (Rect.unit ![0, 0] ![416, 256] inb_S2080x256_S416x256_0_0))) (View.ld (Val := Elt Ideal) (e' := .bf16) V (Rect.unit ![0, 0] ![416, 128] inb_S2080x128_S416x128_0_0)) (View.ld (Val := Elt Ideal) (e' := .bf16) K (Rect.unit ![0, 0] ![416, 256] inb_S2080x256_S416x256_0_0)) (View.ld (Val := Elt Ideal) (e' := .f32) C (Rect.unit ![0, 0] ![416, 128] inb_S2080x128_S416x128_0_0))) (k0_pay19 (View.ld (Val := Elt Ideal) (e' := .f32) S (Rect.unit ![0, 0] ![416, 128] inb_S2080x128_S416x128_0_0))) : Vec Ideal S416x128 .bf16) (ix2 j d)
      = dqrE Q K V O G L C S ⟨j.val, by omega⟩ d := by
  pointwise [k0_pay8, k0_pay9, k0_pay10, k0_pay11, k0_pay12, k0_pay13, k0_pay17, k0_pay18, k0_pay19, k0_pay20]
  simp only [sel_mask (R := 416) (by decide) 0 (by decide), sel_lane 32 (by decide), sel_lane 64 (by decide), Nat.zero_add]
  rw [dqrE]
  have key := fun e : Fin 256 => sum_keys (R := 416) (by decide) (fun y => dscoreE Q K V O G L ⟨j.val, by omega⟩ y * K (ix2 y e)) (fun y hy => by rw [dscoreE_zero (by simp only; omega), zero_mul])
  simp only [dqE, ← key]
  rfl

/-- Query rows 416 to 831: what they add to the value gradient. -/
theorem dv_1 (Q K : Vec Ideal S2080x256 .bf16) (G : Vec Ideal S2080x128 .bf16) (L : Vec Ideal S2080x128 .f32) (A : Vec Ideal S832x128 .f32) (j : Fin 832) (d : Fin 128) :
    (k0_pay31 (k0_pay22 (View.ld (Val := Elt Ideal) (e' := .bf16) G (Rect.unit ![416, 0] ![416, 128] inb_S2080x128_S416x128_416_0))) (k0_pay23 (View.ld (Val := Elt Ideal) (e' := .f32) L (Rect.unit ![416, 0] ![416, 1] inb_S2080x128_S416x1_416_0))) (k0_pay25 (View.ld (Val := Elt Ideal) (e' := .bf16) Q (Rect.unit ![416, 0] ![416, 256] inb_S2080x256_S416x256_416_0)) (View.ld (Val := Elt Ideal) (e' := .bf16) K (Rect.unit ![0, 0] ![832, 256] inb_S2080x256_S832x256_0_0))) (iota Kind.tc S416x832 32 [1] iota_S416x832_d1_w32) (iota Kind.tc S416x832 32 [0] iota_S416x832_d0_w32) k0_pay26 A : Vec Ideal S832x128 .f32) (ix2 j d)
      = A (ix2 j d) + ∑ x : Fin 416, probE Q K L ⟨416 + x.val, by omega⟩ ⟨j.val, by omega⟩ * G (ix2 ⟨416 + x.val, by omega⟩ d) := by
  pointwise [k0_pay21, k0_pay22, k0_pay23, k0_pay25, k0_pay26, k0_pay27, k0_pay31]
  simp only [sel_mask (R := 832) (by decide) 416 (by decide)]
  rfl

/-- Query rows 416 to 831: what they add to the key gradient. -/
theorem dk_1 (Q K : Vec Ideal S2080x256 .bf16) (V O G : Vec Ideal S2080x128 .bf16) (L : Vec Ideal S2080x128 .f32) (A : Vec Ideal S832x256 .f32) (j : Fin 832) (d : Fin 256) :
    (k0_pay30 (k0_pay21 (View.ld (Val := Elt Ideal) (e' := .bf16) Q (Rect.unit ![416, 0] ![416, 256] inb_S2080x256_S416x256_416_0))) (k0_pay22 (View.ld (Val := Elt Ideal) (e' := .bf16) G (Rect.unit ![416, 0] ![416, 128] inb_S2080x128_S416x128_416_0))) (k0_pay23 (View.ld (Val := Elt Ideal) (e' := .f32) L (Rect.unit ![416, 0] ![416, 1] inb_S2080x128_S416x1_416_0))) (k0_pay24 (View.ld (Val := Elt Ideal) (e' := .bf16) G (Rect.unit ![416, 0] ![416, 128] inb_S2080x128_S416x128_416_0)) (View.ld (Val := Elt Ideal) (e' := .bf16) O (Rect.unit ![416, 0] ![416, 128] inb_S2080x128_S416x128_416_0))) (k0_pay25 (View.ld (Val := Elt Ideal) (e' := .bf16) Q (Rect.unit ![416, 0] ![416, 256] inb_S2080x256_S416x256_416_0)) (View.ld (Val := Elt Ideal) (e' := .bf16) K (Rect.unit ![0, 0] ![832, 256] inb_S2080x256_S832x256_0_0))) (iota Kind.tc S416x832 32 [1] iota_S416x832_d1_w32) (iota Kind.tc S416x832 32 [0] iota_S416x832_d0_w32) k0_pay26 (View.ld (Val := Elt Ideal) (e' := .bf16) V (Rect.unit ![0, 0] ![832, 128] inb_S2080x128_S832x128_0_0)) A : Vec Ideal S832x256 .f32) (ix2 j d)
      = A (ix2 j d) + ∑ x : Fin 416, dscoreE Q K V O G L ⟨416 + x.val, by omega⟩ ⟨j.val, by omega⟩ * Q (ix2 ⟨416 + x.val, by omega⟩ d) := by
  pointwise [k0_pay21, k0_pay22, k0_pay23, k0_pay24, k0_pay25, k0_pay26, k0_pay27, k0_pay28, k0_pay30]
  simp only [sel_mask (R := 832) (by decide) 416 (by decide)]
  rfl

/-- Query rows 416 to 831: the plain lanes of the query gradient. -/
theorem dqa_1 (Q K : Vec Ideal S2080x256 .bf16) (V O G : Vec Ideal S2080x128 .bf16) (L : Vec Ideal S2080x128 .f32) (j : Fin 416) (d : Fin 128) :
    (k0_pay32 (k0_pay22 (View.ld (Val := Elt Ideal) (e' := .bf16) G (Rect.unit ![416, 0] ![416, 128] inb_S2080x128_S416x128_416_0))) (k0_pay23 (View.ld (Val := Elt Ideal) (e' := .f32) L (Rect.unit ![416, 0] ![416, 1] inb_S2080x128_S416x1_416_0))) (k0_pay24 (View.ld (Val := Elt Ideal) (e' := .bf16) G (Rect.unit ![416, 0] ![416, 128] inb_S2080x128_S416x128_416_0)) (View.ld (Val := Elt Ideal) (e' := .bf16) O (Rect.unit ![416, 0] ![416, 128] inb_S2080x128_S416x128_416_0))) (k0_pay25 (View.ld (Val := Elt Ideal) (e' := .bf16) Q (Rect.unit ![416, 0] ![416, 256] inb_S2080x256_S416x256_416_0)) (View.ld (Val := Elt Ideal) (e' := .bf16) K (Rect.unit ![0, 0] ![832, 256] inb_S2080x256_S832x256_0_0))) (iota Kind.tc S416x832 32 [1] iota_S416x832_d1_w32) (iota Kind.tc S416x832 32 [0] iota_S416x832_d0_w32) k0_pay26 (View.ld (Val := Elt Ideal) (e' := .bf16) V (Rect.unit ![0, 0] ![832, 128] inb_S2080x128_S832x128_0_0)) (View.ld (Val := Elt Ideal) (e' := .bf16) K (Rect.unit ![0, 0] ![832, 256] inb_S2080x256_S832x256_0_0)) : Vec Ideal S416x128 .bf16) (ix2 j d)
      = dqE Q K V O G L ⟨416 + j.val, by omega⟩ ⟨d.val, by omega⟩ * scl := by
  pointwise [k0_pay21, k0_pay22, k0_pay23, k0_pay24, k0_pay25, k0_pay26, k0_pay27, k0_pay28, k0_pay29, k0_pay32]
  simp only [sel_mask (R := 832) (by decide) 416 (by decide)]
  exact congrArg (· * scl) (sum_keys (R := 832) (by decide) (fun y => dscoreE Q K V O G L ⟨416 + j.val, by omega⟩ y * K (ix2 y ⟨d.val, by omega⟩)) (fun y hy => by rw [dscoreE_zero (by simp only; omega), zero_mul]))

/-- Query rows 416 to 831: the rotated lanes of the query gradient. -/
theorem dqb_1 (Q K : Vec Ideal S2080x256 .bf16) (V O G : Vec Ideal S2080x128 .bf16) (L C S : Vec Ideal S2080x128 .f32) (j : Fin 416) (d : Fin 128) :
    (k0_pay33 (k0_pay29 (k0_pay22 (View.ld (Val := Elt Ideal) (e' := .bf16) G (Rect.unit ![416, 0] ![416, 128] inb_S2080x128_S416x128_416_0))) (k0_pay23 (View.ld (Val := Elt Ideal) (e' := .f32) L (Rect.unit ![416, 0] ![416, 1] inb_S2080x128_S416x1_416_0))) (k0_pay24 (View.ld (Val := Elt Ideal) (e' := .bf16) G (Rect.unit ![416, 0] ![416, 128] inb_S2080x128_S416x128_416_0)) (View.ld (Val := Elt Ideal) (e' := .bf16) O (Rect.unit ![416, 0] ![416, 128] inb_S2080x128_S416x128_416_0))) (k0_pay25 (View.ld (Val := Elt Ideal) (e' := .bf16) Q (Rect.unit ![416, 0] ![416, 256] inb_S2080x256_S416x256_416_0)) (View.ld (Val := Elt Ideal) (e' := .bf16) K (Rect.unit ![0, 0] ![832, 256] inb_S2080x256_S832x256_0_0))) (iota Kind.tc S416x832 32 [1] iota_S416x832_d1_w32) (iota Kind.tc S416x832 32 [0] iota_S416x832_d0_w32) k0_pay26 (View.ld (Val := Elt Ideal) (e' := .bf16) V (Rect.unit ![0, 0] ![832, 128] inb_S2080x128_S832x128_0_0)) (View.ld (Val := Elt Ideal) (e' := .bf16) K (Rect.unit ![0, 0] ![832, 256] inb_S2080x256_S832x256_0_0))) (View.ld (Val := Elt Ideal) (e' := .f32) C (Rect.unit ![416, 0] ![416, 128] inb_S2080x128_S416x128_416_0)) (View.ld (Val := Elt Ideal) (e' := .f32) S (Rect.unit ![416, 0] ![416, 128] inb_S2080x128_S416x128_416_0)) : Vec Ideal S416x128 .bf16) (ix2 j d)
      = dqrE Q K V O G L C S ⟨416 + j.val, by omega⟩ d := by
  pointwise [k0_pay21, k0_pay22, k0_pay23, k0_pay24, k0_pay25, k0_pay26, k0_pay27, k0_pay28, k0_pay29, k0_pay33]
  simp only [sel_mask (R := 832) (by decide) 416 (by decide), sel_lane 32 (by decide), sel_lane 64 (by decide)]
  rw [dqrE]
  have key := fun e : Fin 256 => sum_keys (R := 832) (by decide) (fun y => dscoreE Q K V O G L ⟨416 + j.val, by omega⟩ y * K (ix2 y e)) (fun y hy => by rw [dscoreE_zero (by simp only; omega), zero_mul])
  simp only [dqE, ← key]
  rfl

/-- Query rows 832 to 1247: what they add to the value gradient. -/
theorem dv_2 (Q K : Vec Ideal S2080x256 .bf16) (G : Vec Ideal S2080x128 .bf16) (L : Vec Ideal S2080x128 .f32) (A : Vec Ideal S1248x128 .f32) (j : Fin 1248) (d : Fin 128) :
    (k0_pay43 (k0_pay42 (k0_pay34 (View.ld (Val := Elt Ideal) (e' := .bf16) Q (Rect.unit ![832, 0] ![416, 256] inb_S2080x256_S416x256_832_0))) (k0_pay35 (View.ld (Val := Elt Ideal) (e' := .bf16) G (Rect.unit ![832, 0] ![416, 128] inb_S2080x128_S416x128_832_0))) (k0_pay36 (View.ld (Val := Elt Ideal) (e' := .f32) L (Rect.unit ![832, 0] ![416, 1] inb_S2080x128_S416x1_832_0))) (View.ld (Val := Elt Ideal) (e' := .bf16) K (Rect.unit ![0, 0] ![1248, 256] inb_S2080x256_S1248x256_0_0)) A) : Vec Ideal S1248x128 .f32) (ix2 j d)
      = A (ix2 j d) + ∑ x : Fin 416, probE Q K L ⟨832 + x.val, by omega⟩ ⟨j.val, by omega⟩ * G (ix2 ⟨832 + x.val, by omega⟩ d) := by
  pointwise [k0_pay34, k0_pay35, k0_pay36, k0_pay38, k0_pay42, k0_pay43]
  simp only [sel_mask (R := 1248) (by decide) 832 (by decide)]
  rfl

/-- Query rows 832 to 1247: what they add to the key gradient. -/
theorem dk_2 (Q K : Vec Ideal S2080x256 .bf16) (V O G : Vec Ideal S2080x128 .bf16) (L : Vec Ideal S2080x128 .f32) (A : Vec Ideal S1248x256 .f32) (j : Fin 1248) (d : Fin 256) :
    (k0_pay41 (k0_pay34 (View.ld (Val := Elt Ideal) (e' := .bf16) Q (Rect.unit ![832, 0] ![416, 256] inb_S2080x256_S416x256_832_0))) (k0_pay35 (View.ld (Val := Elt Ideal) (e' := .bf16) G (Rect.unit ![832, 0] ![416, 128] inb_S2080x128_S416x128_832_0))) (k0_pay36 (View.ld (Val := Elt Ideal) (e' := .f32) L (Rect.unit ![832, 0] ![416, 1] inb_S2080x128_S416x1_832_0))) (k0_pay37 (View.ld (Val := Elt Ideal) (e' := .bf16) G (Rect.unit ![832, 0] ![416, 128] inb_S2080x128_S416x128_832_0)) (View.ld (Val := Elt Ideal) (e' := .bf16) O (Rect.unit ![832, 0] ![416, 128] inb_S2080x128_S416x128_832_0))) (View.ld (Val := Elt Ideal) (e' := .bf16) K (Rect.unit ![0, 0] ![1248, 256] inb_S2080x256_S1248x256_0_0)) (View.ld (Val := Elt Ideal) (e' := .bf16) V (Rect.unit ![0, 0] ![1248, 128] inb_S2080x128_S1248x128_0_0)) A : Vec Ideal S1248x256 .f32) (ix2 j d)
      = A (ix2 j d) + ∑ x : Fin 416, dscoreE Q K V O G L ⟨832 + x.val, by omega⟩ ⟨j.val, by omega⟩ * Q (ix2 ⟨832 + x.val, by omega⟩ d) := by
  pointwise [k0_pay34, k0_pay35, k0_pay36, k0_pay37, k0_pay38, k0_pay39, k0_pay41]
  simp only [sel_mask (R := 1248) (by decide) 832 (by decide)]
  rfl

/-- Query rows 832 to 1247: the plain lanes of the query gradient. -/
theorem dqa_2 (Q K : Vec Ideal S2080x256 .bf16) (V O G : Vec Ideal S2080x128 .bf16) (L : Vec Ideal S2080x128 .f32) (j : Fin 416) (d : Fin 128) :
    (k0_pay44 (k0_pay40 (k0_pay34 (View.ld (Val := Elt Ideal) (e' := .bf16) Q (Rect.unit ![832, 0] ![416, 256] inb_S2080x256_S416x256_832_0))) (k0_pay35 (View.ld (Val := Elt Ideal) (e' := .bf16) G (Rect.unit ![832, 0] ![416, 128] inb_S2080x128_S416x128_832_0))) (k0_pay36 (View.ld (Val := Elt Ideal) (e' := .f32) L (Rect.unit ![832, 0] ![416, 1] inb_S2080x128_S416x1_832_0))) (k0_pay37 (View.ld (Val := Elt Ideal) (e' := .bf16) G (Rect.unit ![832, 0] ![416, 128] inb_S2080x128_S416x128_832_0)) (View.ld (Val := Elt Ideal) (e' := .bf16) O (Rect.unit ![832, 0] ![416, 128] inb_S2080x128_S416x128_832_0))) (View.ld (Val := Elt Ideal) (e' := .bf16) K (Rect.unit ![0, 0] ![1248, 256] inb_S2080x256_S1248x256_0_0)) (View.ld (Val := Elt Ideal) (e' := .bf16) V (Rect.unit ![0, 0] ![1248, 128] inb_S2080x128_S1248x128_0_0)) (View.ld (Val := Elt Ideal) (e' := .bf16) K (Rect.unit ![0, 0] ![1248, 256] inb_S2080x256_S1248x256_0_0))) : Vec Ideal S416x128 .bf16) (ix2 j d)
      = dqE Q K V O G L ⟨832 + j.val, by omega⟩ ⟨d.val, by omega⟩ * scl := by
  pointwise [k0_pay34, k0_pay35, k0_pay36, k0_pay37, k0_pay38, k0_pay39, k0_pay40, k0_pay44]
  simp only [sel_mask (R := 1248) (by decide) 832 (by decide)]
  exact congrArg (· * scl) (sum_keys (R := 1248) (by decide) (fun y => dscoreE Q K V O G L ⟨832 + j.val, by omega⟩ y * K (ix2 y ⟨d.val, by omega⟩)) (fun y hy => by rw [dscoreE_zero (by simp only; omega), zero_mul]))

/-- Query rows 832 to 1247: the rotated lanes of the query gradient. -/
theorem dqb_2 (Q K : Vec Ideal S2080x256 .bf16) (V O G : Vec Ideal S2080x128 .bf16) (L C S : Vec Ideal S2080x128 .f32) (j : Fin 416) (d : Fin 128) :
    (k0_pay45 (k0_pay40 (k0_pay34 (View.ld (Val := Elt Ideal) (e' := .bf16) Q (Rect.unit ![832, 0] ![416, 256] inb_S2080x256_S416x256_832_0))) (k0_pay35 (View.ld (Val := Elt Ideal) (e' := .bf16) G (Rect.unit ![832, 0] ![416, 128] inb_S2080x128_S416x128_832_0))) (k0_pay36 (View.ld (Val := Elt Ideal) (e' := .f32) L (Rect.unit ![832, 0] ![416, 1] inb_S2080x128_S416x1_832_0))) (k0_pay37 (View.ld (Val := Elt Ideal) (e' := .bf16) G (Rect.unit ![832, 0] ![416, 128] inb_S2080x128_S416x128_832_0)) (View.ld (Val := Elt Ideal) (e' := .bf16) O (Rect.unit ![832, 0] ![416, 128] inb_S2080x128_S416x128_832_0))) (View.ld (Val := Elt Ideal) (e' := .bf16) K (Rect.unit ![0, 0] ![1248, 256] inb_S2080x256_S1248x256_0_0)) (View.ld (Val := Elt Ideal) (e' := .bf16) V (Rect.unit ![0, 0] ![1248, 128] inb_S2080x128_S1248x128_0_0)) (View.ld (Val := Elt Ideal) (e' := .bf16) K (Rect.unit ![0, 0] ![1248, 256] inb_S2080x256_S1248x256_0_0))) (View.ld (Val := Elt Ideal) (e' := .f32) C (Rect.unit ![832, 0] ![416, 128] inb_S2080x128_S416x128_832_0)) (View.ld (Val := Elt Ideal) (e' := .f32) S (Rect.unit ![832, 0] ![416, 128] inb_S2080x128_S416x128_832_0)) : Vec Ideal S416x128 .bf16) (ix2 j d)
      = dqrE Q K V O G L C S ⟨832 + j.val, by omega⟩ d := by
  pointwise [k0_pay34, k0_pay35, k0_pay36, k0_pay37, k0_pay38, k0_pay39, k0_pay40, k0_pay45]
  simp only [sel_mask (R := 1248) (by decide) 832 (by decide), sel_lane 32 (by decide), sel_lane 64 (by decide)]
  rw [dqrE]
  have key := fun e : Fin 256 => sum_keys (R := 1248) (by decide) (fun y => dscoreE Q K V O G L ⟨832 + j.val, by omega⟩ y * K (ix2 y e)) (fun y hy => by rw [dscoreE_zero (by simp only; omega), zero_mul])
  simp only [dqE, ← key]
  rfl

/-- Query rows 1248 to 1663: what they add to the value gradient. -/
theorem dv_3 (Q K : Vec Ideal S2080x256 .bf16) (G : Vec Ideal S2080x128 .bf16) (L : Vec Ideal S2080x128 .f32) (A : Vec Ideal S1664x128 .f32) (j : Fin 1664) (d : Fin 128) :
    (k0_pay52 (k0_pay47 (View.ld (Val := Elt Ideal) (e' := .bf16) G (Rect.unit ![1248, 0] ![416, 128] inb_S2080x128_S416x128_1248_0))) (k0_pay48 (k0_pay46 (View.ld (Val := Elt Ideal) (e' := .bf16) Q (Rect.unit ![1248, 0] ![416, 256] inb_S2080x256_S416x256_1248_0))) (View.ld (Val := Elt Ideal) (e' := .f32) L (Rect.unit ![1248, 0] ![416, 1] inb_S2080x128_S416x1_1248_0)) (View.ld (Val := Elt Ideal) (e' := .bf16) K (Rect.unit ![0, 0] ![1664, 256] inb_S2080x256_S1664x256_0_0))) A : Vec Ideal S1664x128 .f32) (ix2 j d)
      = A (ix2 j d) + ∑ x : Fin 416, probE Q K L ⟨1248 + x.val, by omega⟩ ⟨j.val, by omega⟩ * G (ix2 ⟨1248 + x.val, by omega⟩ d) := by
  pointwise [k0_pay46, k0_pay47, k0_pay48, k0_pay52]
  simp only [sel_mask (R := 1664) (by decide) 1248 (by decide)]
  rfl

/-- Query rows 1248 to 1663: what they add to the key gradient. -/
theorem dk_3 (Q K : Vec Ideal S2080x256 .bf16) (V O G : Vec Ideal S2080x128 .bf16) (L : Vec Ideal S2080x128 .f32) (A : Vec Ideal S1664x256 .f32) (j : Fin 1664) (d : Fin 256) :
    (k0_pay51 (k0_pay46 (View.ld (Val := Elt Ideal) (e' := .bf16) Q (Rect.unit ![1248, 0] ![416, 256] inb_S2080x256_S416x256_1248_0))) (k0_pay47 (View.ld (Val := Elt Ideal) (e' := .bf16) G (Rect.unit ![1248, 0] ![416, 128] inb_S2080x128_S416x128_1248_0))) (View.ld (Val := Elt Ideal) (e' := .f32) L (Rect.unit ![1248, 0] ![416, 1] inb_S2080x128_S416x1_1248_0)) (View.ld (Val := Elt Ideal) (e' := .bf16) O (Rect.unit ![1248, 0] ![416, 128] inb_S2080x128_S416x128_1248_0)) (View.ld (Val := Elt Ideal) (e' := .bf16) K (Rect.unit ![0, 0] ![1664, 256] inb_S2080x256_S1664x256_0_0)) (View.ld (Val := Elt Ideal) (e' := .bf16) V (Rect.unit ![0, 0] ![1664, 128] inb_S2080x128_S1664x128_0_0)) A : Vec Ideal S1664x256 .f32) (ix2 j d)
      = A (ix2 j d) + ∑ x : Fin 416, dscoreE Q K V O G L ⟨1248 + x.val, by omega⟩ ⟨j.val, by omega⟩ * Q (ix2 ⟨1248 + x.val, by omega⟩ d) := by
  pointwise [k0_pay46, k0_pay47, k0_pay48, k0_pay49, k0_pay51]
  simp only [sel_mask (R := 1664) (by decide) 1248 (by decide)]
  rfl

/-- Query rows 1248 to 1663: the plain lanes of the query gradient. -/
theorem dqa_3 (Q K : Vec Ideal S2080x256 .bf16) (V O G : Vec Ideal S2080x128 .bf16) (L : Vec Ideal S2080x128 .f32) (j : Fin 416) (d : Fin 128) :
    (k0_pay53 (k0_pay50 (k0_pay46 (View.ld (Val := Elt Ideal) (e' := .bf16) Q (Rect.unit ![1248, 0] ![416, 256] inb_S2080x256_S416x256_1248_0))) (k0_pay47 (View.ld (Val := Elt Ideal) (e' := .bf16) G (Rect.unit ![1248, 0] ![416, 128] inb_S2080x128_S416x128_1248_0))) (View.ld (Val := Elt Ideal) (e' := .f32) L (Rect.unit ![1248, 0] ![416, 1] inb_S2080x128_S416x1_1248_0)) (View.ld (Val := Elt Ideal) (e' := .bf16) O (Rect.unit ![1248, 0] ![416, 128] inb_S2080x128_S416x128_1248_0)) (View.ld (Val := Elt Ideal) (e' := .bf16) K (Rect.unit ![0, 0] ![1664, 256] inb_S2080x256_S1664x256_0_0)) (View.ld (Val := Elt Ideal) (e' := .bf16) V (Rect.unit ![0, 0] ![1664, 128] inb_S2080x128_S1664x128_0_0)) (View.ld (Val := Elt Ideal) (e' := .bf16) K (Rect.unit ![0, 0] ![1664, 256] inb_S2080x256_S1664x256_0_0))) : Vec Ideal S416x128 .bf16) (ix2 j d)
      = dqE Q K V O G L ⟨1248 + j.val, by omega⟩ ⟨d.val, by omega⟩ * scl := by
  pointwise [k0_pay46, k0_pay47, k0_pay48, k0_pay49, k0_pay50, k0_pay53]
  simp only [sel_mask (R := 1664) (by decide) 1248 (by decide)]
  exact congrArg (· * scl) (sum_keys (R := 1664) (by decide) (fun y => dscoreE Q K V O G L ⟨1248 + j.val, by omega⟩ y * K (ix2 y ⟨d.val, by omega⟩)) (fun y hy => by rw [dscoreE_zero (by simp only; omega), zero_mul]))

/-- Query rows 1248 to 1663: the rotated lanes of the query gradient. -/
theorem dqb_3 (Q K : Vec Ideal S2080x256 .bf16) (V O G : Vec Ideal S2080x128 .bf16) (L C S : Vec Ideal S2080x128 .f32) (j : Fin 416) (d : Fin 128) :
    (k0_pay54 (k0_pay50 (k0_pay46 (View.ld (Val := Elt Ideal) (e' := .bf16) Q (Rect.unit ![1248, 0] ![416, 256] inb_S2080x256_S416x256_1248_0))) (k0_pay47 (View.ld (Val := Elt Ideal) (e' := .bf16) G (Rect.unit ![1248, 0] ![416, 128] inb_S2080x128_S416x128_1248_0))) (View.ld (Val := Elt Ideal) (e' := .f32) L (Rect.unit ![1248, 0] ![416, 1] inb_S2080x128_S416x1_1248_0)) (View.ld (Val := Elt Ideal) (e' := .bf16) O (Rect.unit ![1248, 0] ![416, 128] inb_S2080x128_S416x128_1248_0)) (View.ld (Val := Elt Ideal) (e' := .bf16) K (Rect.unit ![0, 0] ![1664, 256] inb_S2080x256_S1664x256_0_0)) (View.ld (Val := Elt Ideal) (e' := .bf16) V (Rect.unit ![0, 0] ![1664, 128] inb_S2080x128_S1664x128_0_0)) (View.ld (Val := Elt Ideal) (e' := .bf16) K (Rect.unit ![0, 0] ![1664, 256] inb_S2080x256_S1664x256_0_0))) (View.ld (Val := Elt Ideal) (e' := .f32) C (Rect.unit ![1248, 0] ![416, 128] inb_S2080x128_S416x128_1248_0)) (View.ld (Val := Elt Ideal) (e' := .f32) S (Rect.unit ![1248, 0] ![416, 128] inb_S2080x128_S416x128_1248_0)) : Vec Ideal S416x128 .bf16) (ix2 j d)
      = dqrE Q K V O G L C S ⟨1248 + j.val, by omega⟩ d := by
  pointwise [k0_pay46, k0_pay47, k0_pay48, k0_pay49, k0_pay50, k0_pay54]
  simp only [sel_mask (R := 1664) (by decide) 1248 (by decide), sel_lane 32 (by decide), sel_lane 64 (by decide)]
  rw [dqrE]
  have key := fun e : Fin 256 => sum_keys (R := 1664) (by decide) (fun y => dscoreE Q K V O G L ⟨1248 + j.val, by omega⟩ y * K (ix2 y e)) (fun y hy => by rw [dscoreE_zero (by simp only; omega), zero_mul])
  simp only [dqE, ← key]
  rfl

/-- Query rows 1664 to 2079: what they add to the value gradient. -/
theorem dv_4 (Q K : Vec Ideal S2080x256 .bf16) (G : Vec Ideal S2080x128 .bf16) (L : Vec Ideal S2080x128 .f32) (A : Vec Ideal S2080x128 .f32) (j : Fin 2080) (d : Fin 128) :
    (k0_pay61 (k0_pay56 (View.ld (Val := Elt Ideal) (e' := .bf16) G (Rect.unit ![1664, 0] ![416, 128] inb_S2080x128_S416x128_1664_0))) (k0_pay57 (View.ld (Val := Elt Ideal) (e' := .bf16) Q (Rect.unit ![1664, 0] ![416, 256] inb_S2080x256_S416x256_1664_0)) (View.ld (Val := Elt Ideal) (e' := .f32) L (Rect.unit ![1664, 0] ![416, 1] inb_S2080x128_S416x1_1664_0)) K) A : Vec Ideal S2080x128 .f32) (ix2 j d)
      = A (ix2 j d) + ∑ x : Fin 416, probE Q K L ⟨1664 + x.val, by omega⟩ j * G (ix2 ⟨1664 + x.val, by omega⟩ d) := by
  pointwise [k0_pay55, k0_pay56, k0_pay57, k0_pay61]
  simp only [sel_mask (R := 2080) (by decide) 1664 (by decide)]
  rfl

/-- Query rows 1664 to 2079: what they add to the key gradient. -/
theorem dk_4 (Q K : Vec Ideal S2080x256 .bf16) (V O G : Vec Ideal S2080x128 .bf16) (L : Vec Ideal S2080x128 .f32) (A : Vec Ideal S2080x256 .f32) (j : Fin 2080) (d : Fin 256) :
    (k0_pay60 (k0_pay55 (View.ld (Val := Elt Ideal) (e' := .bf16) Q (Rect.unit ![1664, 0] ![416, 256] inb_S2080x256_S416x256_1664_0))) (k0_pay58 (View.ld (Val := Elt Ideal) (e' := .bf16) Q (Rect.unit ![1664, 0] ![416, 256] inb_S2080x256_S416x256_1664_0)) (View.ld (Val := Elt Ideal) (e' := .bf16) G (Rect.unit ![1664, 0] ![416, 128] inb_S2080x128_S416x128_1664_0)) (View.ld (Val := Elt Ideal) (e' := .f32) L (Rect.unit ![1664, 0] ![416, 1] inb_S2080x128_S416x1_1664_0)) (View.ld (Val := Elt Ideal) (e' := .bf16) O (Rect.unit ![1664, 0] ![416, 128] inb_S2080x128_S416x128_1664_0)) K V) A : Vec Ideal S2080x256 .f32) (ix2 j d)
      = A (ix2 j d) + ∑ x : Fin 416, dscoreE Q K V O G L ⟨1664 + x.val, by omega⟩ j * Q (ix2 ⟨1664 + x.val, by omega⟩ d) := by
  pointwise [k0_pay55, k0_pay56, k0_pay57, k0_pay58, k0_pay60]
  simp only [sel_mask (R := 2080) (by decide) 1664 (by decide)]
  rfl

/-- Query rows 1664 to 2079: the plain lanes of the query gradient. -/
theorem dqa_4 (Q K : Vec Ideal S2080x256 .bf16) (V O G : Vec Ideal S2080x128 .bf16) (L : Vec Ideal S2080x128 .f32) (j : Fin 416) (d : Fin 128) :
    (k0_pay62 (k0_pay59 (View.ld (Val := Elt Ideal) (e' := .bf16) Q (Rect.unit ![1664, 0] ![416, 256] inb_S2080x256_S416x256_1664_0)) (View.ld (Val := Elt Ideal) (e' := .bf16) G (Rect.unit ![1664, 0] ![416, 128] inb_S2080x128_S416x128_1664_0)) (View.ld (Val := Elt Ideal) (e' := .f32) L (Rect.unit ![1664, 0] ![416, 1] inb_S2080x128_S416x1_1664_0)) (View.ld (Val := Elt Ideal) (e' := .bf16) O (Rect.unit ![1664, 0] ![416, 128] inb_S2080x128_S416x128_1664_0)) K V K) : Vec Ideal S416x128 .bf16) (ix2 j d)
      = dqE Q K V O G L ⟨1664 + j.val, by omega⟩ ⟨d.val, by omega⟩ * scl := by
  pointwise [k0_pay55, k0_pay56, k0_pay57, k0_pay58, k0_pay59, k0_pay62]
  simp only [sel_mask (R := 2080) (by decide) 1664 (by decide)]
  rfl

/-- Query rows 1664 to 2079: the rotated lanes of the query gradient. -/
theorem dqb_4 (Q K : Vec Ideal S2080x256 .bf16) (V O G : Vec Ideal S2080x128 .bf16) (L C S : Vec Ideal S2080x128 .f32) (j : Fin 416) (d : Fin 128) :
    (k0_pay1 (k0_pay64 (k0_pay59 (View.ld (Val := Elt Ideal) (e' := .bf16) Q (Rect.unit ![1664, 0] ![416, 256] inb_S2080x256_S416x256_1664_0)) (View.ld (Val := Elt Ideal) (e' := .bf16) G (Rect.unit ![1664, 0] ![416, 128] inb_S2080x128_S416x128_1664_0)) (View.ld (Val := Elt Ideal) (e' := .f32) L (Rect.unit ![1664, 0] ![416, 1] inb_S2080x128_S416x1_1664_0)) (View.ld (Val := Elt Ideal) (e' := .bf16) O (Rect.unit ![1664, 0] ![416, 128] inb_S2080x128_S416x128_1664_0)) K V K) (View.ld (Val := Elt Ideal) (e' := .f32) C (Rect.unit ![1664, 0] ![416, 128] inb_S2080x128_S416x128_1664_0))) (k0_pay66 (k0_pay59 (View.ld (Val := Elt Ideal) (e' := .bf16) Q (Rect.unit ![1664, 0] ![416, 256] inb_S2080x256_S416x256_1664_0)) (View.ld (Val := Elt Ideal) (e' := .bf16) G (Rect.unit ![1664, 0] ![416, 128] inb_S2080x128_S416x128_1664_0)) (View.ld (Val := Elt Ideal) (e' := .f32) L (Rect.unit ![1664, 0] ![416, 1] inb_S2080x128_S416x1_1664_0)) (View.ld (Val := Elt Ideal) (e' := .bf16) O (Rect.unit ![1664, 0] ![416, 128] inb_S2080x128_S416x128_1664_0)) K V K) (View.ld (Val := Elt Ideal) (e' := .f32) S (Rect.unit ![1664, 0] ![416, 128] inb_S2080x128_S416x128_1664_0))) (k0_pay67 (k0_pay59 (View.ld (Val := Elt Ideal) (e' := .bf16) Q (Rect.unit ![1664, 0] ![416, 256] inb_S2080x256_S416x256_1664_0)) (View.ld (Val := Elt Ideal) (e' := .bf16) G (Rect.unit ![1664, 0] ![416, 128] inb_S2080x128_S416x128_1664_0)) (View.ld (Val := Elt Ideal) (e' := .f32) L (Rect.unit ![1664, 0] ![416, 1] inb_S2080x128_S416x1_1664_0)) (View.ld (Val := Elt Ideal) (e' := .bf16) O (Rect.unit ![1664, 0] ![416, 128] inb_S2080x128_S416x128_1664_0)) K V K) (View.ld (Val := Elt Ideal) (e' := .f32) S (Rect.unit ![1664, 0] ![416, 128] inb_S2080x128_S416x128_1664_0))) k0_pay68 k0_pay69 (FloatOps.ofBits FTy.f32 0#32) : Vec Ideal S416x128 .bf16) (ix2 j d)
      = dqrE Q K V O G L C S ⟨1664 + j.val, by omega⟩ d := by
  pointwise [k0_pay1, k0_pay55, k0_pay56, k0_pay57, k0_pay58, k0_pay59, k0_pay63, k0_pay64, k0_pay65, k0_pay66, k0_pay67, k0_pay68, k0_pay69]
  simp only [sel_mask (R := 2080) (by decide) 1664 (by decide), sel_lane 32 (by decide), sel_lane 64 (by decide)]
  rw [dqrE]
  rfl

end Cert.KernelIdeal.Value

end
-- ==== Proof.Canon.lean ====
module

public import proofs.«01_k».proof.Proof.Body
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

/-- A block of a rank-two array, written last: its own indices read it, the others read what was there. If both
    agree with `T`, the array reads `T`. -/
theorem canon_block {m W R C r0 c0 : ℕ} {e : EltTy} (T : Fin m → Fin W → Elt Ideal e)
    (inb : ∀ a, (![r0, c0] : Fin 2 → ℕ) a + (![R, C] : Fin 2 → ℕ) a ≤ (⟨2, ![m, W]⟩ : Shape).size a)
    (w : (⟨2, ![R, C]⟩ : Shape).Idx → Elt Ideal e) (L : List (View.Piece (Elt Ideal) (⟨2, ![m, W]⟩ : Shape) e)) (a : Fin m) (b : Fin W)
    (hr : r0 + R ≤ m) (hc : c0 + C ≤ W)
    (hw : ∀ (x : Fin R) (y : Fin C), w (ix2 x y) = T ⟨r0 + x.val, by omega⟩ ⟨c0 + y.val, by omega⟩)
    (hL : ¬((r0 ≤ a.val ∧ a.val < r0 + R) ∧ (c0 ≤ b.val ∧ b.val < c0 + C)) → View.canon L (ix2 a b) = T a b) :
    View.canon ((⟨Rect.unit (s := (⟨2, ![m, W]⟩ : Shape)) ![r0, c0] ![R, C] inb, w⟩ : View.Piece (Elt Ideal) (⟨2, ![m, W]⟩ : Shape) e) :: L) (ix2 a b)
      = T a b := by
  by_cases h : (r0 ≤ a.val ∧ a.val < r0 + R) ∧ (c0 ≤ b.val ∧ b.val < c0 + C)
  · obtain ⟨⟨h1, h2⟩, h3, h4⟩ := h
    have he : (Rect.unit (s := (⟨2, ![m, W]⟩ : Shape)) ![r0, c0] ![R, C] inb).emb
        (ix2 (⟨a.val - r0, by omega⟩ : Fin R) (⟨b.val - c0, by omega⟩ : Fin C)) = ix2 a b := by
      funext q
      fin_cases q
      · exact Fin.ext (show r0 + 1 * (a.val - r0) = a.val by omega)
      · exact Fin.ext (show c0 + 1 * (b.val - c0) = b.val by omega)
    rw [← he]
    refine (View.canon_cons_emb (Rect.unit (s := (⟨2, ![m, W]⟩ : Shape)) ![r0, c0] ![R, C] inb) w L
      (ix2 (⟨a.val - r0, by omega⟩ : Fin R) (⟨b.val - c0, by omega⟩ : Fin C))).trans ((hw _ _).trans ?_)
    congr 1 <;> exact Fin.ext (by simp only; omega)
  · refine (View.canon_cons_of_not_mem _ L fun hm => h ?_).trans (hL h)
    have h0 := (Rect.mem_set_unit (inb := inb).mp hm) (0 : Fin 2)
    have h1 := (Rect.mem_set_unit (inb := inb).mp hm) (1 : Fin 2)
    exact ⟨h0, h1⟩

/-- The first `R` rows of an accumulator read back, `g` added, and stored again; `g` is zero on the later rows. -/
theorem canon_rows_add {W R : ℕ} (hR : R ≤ 2080)
    (inb : ∀ a, (![0, 0] : Fin 2 → ℕ) a + (![R, W] : Fin 2 → ℕ) a ≤ (⟨2, ![2080, W]⟩ : Shape).size a)
    (w : (⟨2, ![R, W]⟩ : Shape).Idx → Elt Ideal .f32) (L : List (View.Piece (Elt Ideal) (⟨2, ![2080, W]⟩ : Shape) .f32))
    (f g : Fin 2080 → Fin W → EReal)
    (hw : ∀ (j : Fin R) (b : Fin W), w (ix2 j b)
      = View.canon L ((Rect.unit (s := (⟨2, ![2080, W]⟩ : Shape)) ![0, 0] ![R, W] inb).idx (ix2 j b)) + g ⟨j.val, by omega⟩ b)
    (hL : ∀ a b, View.canon L (ix2 a b) = f a b) (hg : ∀ a b, R ≤ a.val → g a b = 0) (a : Fin 2080) (b : Fin W) :
    View.canon ((⟨Rect.unit (s := (⟨2, ![2080, W]⟩ : Shape)) ![0, 0] ![R, W] inb, w⟩ : View.Piece (Elt Ideal) (⟨2, ![2080, W]⟩ : Shape) .f32) :: L) (ix2 a b)
      = f a b + g a b := by
  refine canon_block (e := .f32) (fun a b => f a b + g a b) inb w L a b (by omega) (by omega) (fun x y => ?_) fun h => ?_
  · have he : (Rect.unit (s := (⟨2, ![2080, W]⟩ : Shape)) ![0, 0] ![R, W] inb).idx (ix2 x y) = ix2 (⟨x.val, by omega⟩ : Fin 2080) y := by
      funext q
      fin_cases q
      · exact Fin.ext (show 0 + 1 * x.val = x.val by omega)
      · exact Fin.ext (show 0 + 1 * y.val = y.val by omega)
    refine (hw x y).trans ?_
    rw [he, hL]
    simp only [Nat.zero_add]
  · rw [hL, hg a b (by omega), add_zero]

/-- Where the index of a block lies in the array. -/
theorem unit_idx {m W R C r0 c0 : ℕ} (inb : ∀ a, (![r0, c0] : Fin 2 → ℕ) a + (![R, C] : Fin 2 → ℕ) a ≤ (⟨2, ![m, W]⟩ : Shape).size a)
    (hr : r0 + R ≤ m) (hc : c0 + C ≤ W) (x : Fin R) (y : Fin C) :
    (Rect.unit (s := (⟨2, ![m, W]⟩ : Shape)) ![r0, c0] ![R, C] inb).idx (ix2 x y)
      = ix2 (⟨r0 + x.val, by omega⟩ : Fin m) (⟨c0 + y.val, by omega⟩ : Fin W) := by
  funext q
  fin_cases q
  · exact Fin.ext (show r0 + 1 * x.val = r0 + x.val by omega)
  · exact Fin.ext (show c0 + 1 * y.val = c0 + y.val by omega)

/-- Where the index of the whole array lies. -/
theorem whole_idx {m W : ℕ} (inb : ∀ a, (![0, 0] : Fin 2 → ℕ) a + (![m, W] : Fin 2 → ℕ) a ≤ (⟨2, ![m, W]⟩ : Shape).size a) (x : Fin m) (y : Fin W) :
    (Rect.unit (s := (⟨2, ![m, W]⟩ : Shape)) ![0, 0] ![m, W] inb).idx (ix2 x y) = ix2 x y := by
  funext q
  fin_cases q
  · exact Fin.ext (show 0 + 1 * x.val = x.val by omega)
  · exact Fin.ext (show 0 + 1 * y.val = y.val by omega)

/-- A sum over the 2080 rows is the sum over the five chunks of 416. -/
theorem sum_chunks (h : Fin 2080 → EReal) :
    (((((0 : EReal) + ∑ x : Fin 416, h ⟨x.val, by omega⟩) + ∑ x : Fin 416, h ⟨416 + x.val, by omega⟩) + ∑ x : Fin 416, h ⟨832 + x.val, by omega⟩)
      + ∑ x : Fin 416, h ⟨1248 + x.val, by omega⟩) + ∑ x : Fin 416, h ⟨1664 + x.val, by omega⟩ = ∑ i : Fin 2080, h i := by
  have e1 := Fin.sum_univ_add (a := 1664) (b := 416) h
  have e2 := Fin.sum_univ_add (a := 1248) (b := 416) fun i => h ⟨i.val, by omega⟩
  have e3 := Fin.sum_univ_add (a := 832) (b := 416) fun i => h ⟨i.val, by omega⟩
  have e4 := Fin.sum_univ_add (a := 416) (b := 416) fun i => h ⟨i.val, by omega⟩
  rw [zero_add]
  refine Eq.trans ?_ e1.symm
  refine congrArg₂ (· + ·) ?_ rfl
  refine Eq.trans ?_ e2.symm
  refine congrArg₂ (· + ·) ?_ rfl
  refine Eq.trans ?_ e3.symm
  refine congrArg₂ (· + ·) ?_ rfl
  exact e4.symm

end Cert.KernelIdeal.Value

end
-- ==== Proof.Out.lean ====
module

public import proofs.«01_k».proof.Proof.Stage
public import proofs.«01_k».proof.Proof.Canon
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

variable (m : (ℓ : Loc nD τ sig) → Buf (Elt Ideal) ℓ)

/-- A change of format is the identity. -/
theorem pay2_apply (X : Vec Ideal S2080x128 .f32) (i : S2080x128.Idx) : k0_pay2 X i = X i := by
  idx_vars i
  pointwise [k0_pay2]

/-- A change of format is the identity. -/
theorem pay4_apply (X : Vec Ideal S2080x128 .f32) (i : S2080x128.Idx) : k0_pay4 X i = X i := by
  idx_vars i
  pointwise [k0_pay4]

/-- The shared gradient's step: what was there plus the head's share. -/
theorem pay5_apply (X Y : Vec Ideal S2080x128 .f32) (i : S2080x128.Idx) : k0_pay5 X Y i = X i + Y i := by
  idx_vars i
  pointwise [k0_pay5]

/-- The value gradient a head leaves. -/
theorem out10_A (c : Dev nD) (t : Fin cfg0.N) (h0 : t.val % 16 = 0) (h1 : ¬1 ≤ t.val) (a : Fin 2080) (b : Fin 128) :
    (outsAt0 m c t.val t.isLt).2.2.1 (ix2 a b) = dvE (iblk m c 0 t) (iblk m c 1 t) (iblk m c 4 t) (iblk m c 5 t) a b := by
  rw [outsAt0_A m c t h0 h1]
  frame_out
  simp only [View.readCov_eq_canon']
  rw [dvE, ← sum_chunks]
  refine (pay4_apply _ _).trans ((dv_4 (iblk m c 0 t) (iblk m c 1 t) (iblk m c 4 t) (iblk m c 5 t) _ a b).trans (congrArg₂ (· + ·) ?_ rfl))
  refine (congrArg (View.canon _) (whole_idx inb_S2080x128_S2080x128_0_0 a b)).trans ?_
  refine canon_rows_add (R := 1664) (W := 128) (by decide) inb_S2080x128_S1664x128_0_0 _ _ (fun j b => ((((0 : EReal) + ∑ x : Fin 416, probE (iblk m c 0 t) (iblk m c 1 t) (iblk m c 5 t) ⟨x.val, by omega⟩ j * (iblk m c 4 t) (ix2 ⟨x.val, by omega⟩ b)) + ∑ x : Fin 416, probE (iblk m c 0 t) (iblk m c 1 t) (iblk m c 5 t) ⟨416 + x.val, by omega⟩ j * (iblk m c 4 t) (ix2 ⟨416 + x.val, by omega⟩ b)) + ∑ x : Fin 416, probE (iblk m c 0 t) (iblk m c 1 t) (iblk m c 5 t) ⟨832 + x.val, by omega⟩ j * (iblk m c 4 t) (ix2 ⟨832 + x.val, by omega⟩ b))) (fun j b => ∑ x : Fin 416, probE (iblk m c 0 t) (iblk m c 1 t) (iblk m c 5 t) ⟨1248 + x.val, by omega⟩ j * (iblk m c 4 t) (ix2 ⟨1248 + x.val, by omega⟩ b)) ?_ (fun a b => ?_) ?_ a b
  · exact fun j b => dv_3 _ _ _ _ _ j b
  swap
  · exact fun a b h => Finset.sum_eq_zero fun x _ => by rw [probE_zero (by simp only; omega), zero_mul]
  refine canon_rows_add (R := 1248) (W := 128) (by decide) inb_S2080x128_S1248x128_0_0 _ _ (fun j b => (((0 : EReal) + ∑ x : Fin 416, probE (iblk m c 0 t) (iblk m c 1 t) (iblk m c 5 t) ⟨x.val, by omega⟩ j * (iblk m c 4 t) (ix2 ⟨x.val, by omega⟩ b)) + ∑ x : Fin 416, probE (iblk m c 0 t) (iblk m c 1 t) (iblk m c 5 t) ⟨416 + x.val, by omega⟩ j * (iblk m c 4 t) (ix2 ⟨416 + x.val, by omega⟩ b))) (fun j b => ∑ x : Fin 416, probE (iblk m c 0 t) (iblk m c 1 t) (iblk m c 5 t) ⟨832 + x.val, by omega⟩ j * (iblk m c 4 t) (ix2 ⟨832 + x.val, by omega⟩ b)) ?_ (fun a b => ?_) ?_ a b
  · exact fun j b => dv_2 _ _ _ _ _ j b
  swap
  · exact fun a b h => Finset.sum_eq_zero fun x _ => by rw [probE_zero (by simp only; omega), zero_mul]
  refine canon_rows_add (R := 832) (W := 128) (by decide) inb_S2080x128_S832x128_0_0 _ _ (fun j b => ((0 : EReal) + ∑ x : Fin 416, probE (iblk m c 0 t) (iblk m c 1 t) (iblk m c 5 t) ⟨x.val, by omega⟩ j * (iblk m c 4 t) (ix2 ⟨x.val, by omega⟩ b))) (fun j b => ∑ x : Fin 416, probE (iblk m c 0 t) (iblk m c 1 t) (iblk m c 5 t) ⟨416 + x.val, by omega⟩ j * (iblk m c 4 t) (ix2 ⟨416 + x.val, by omega⟩ b)) ?_ (fun a b => ?_) ?_ a b
  · exact fun j b => dv_1 _ _ _ _ _ j b
  swap
  · exact fun a b h => Finset.sum_eq_zero fun x _ => by rw [probE_zero (by simp only; omega), zero_mul]
  refine canon_rows_add (R := 416) (W := 128) (by decide) inb_S2080x128_S416x128_0_0 _ _ (fun j b => (0 : EReal)) (fun j b => ∑ x : Fin 416, probE (iblk m c 0 t) (iblk m c 1 t) (iblk m c 5 t) ⟨x.val, by omega⟩ j * (iblk m c 4 t) (ix2 ⟨x.val, by omega⟩ b)) ?_ (fun a b => ?_) ?_ a b
  · exact fun j b => dv_0 _ _ _ _ _ j b
  swap
  · exact fun a b h => Finset.sum_eq_zero fun x _ => by rw [probE_zero (by simp only; omega), zero_mul]
  refine (congrFun (View.canon_cons_unit_lit _ _ [] (by decide)) _).trans ?_
  pointwise [k0_pay6, k0_pay7]

/-- The key gradient a head leaves: its plain lanes, and zeros. -/
theorem out9_A (c : Dev nD) (t : Fin cfg0.N) (h0 : t.val % 16 = 0) (h1 : ¬1 ≤ t.val) (a : Fin 2080) (b : Fin 256) :
    (outsAt0 m c t.val t.isLt).2.1 (ix2 a b) = if b.val < 128 then dkE (iblk m c 0 t) (iblk m c 1 t) (iblk m c 2 t) (iblk m c 3 t) (iblk m c 4 t) (iblk m c 5 t) a b else 0 := by
  rw [outsAt0_A m c t h0 h1]
  frame_out
  simp only [View.readCov_eq_canon']
  refine canon_block (e := .bf16) (fun a b => if b.val < 128 then dkE (iblk m c 0 t) (iblk m c 1 t) (iblk m c 2 t) (iblk m c 3 t) (iblk m c 4 t) (iblk m c 5 t) a b else 0) _ _ _ a b (by decide) (by decide) (fun x y => ?_) fun hn => ?_
  · rw [if_neg (by simp only; omega)]
    pointwise [k0_pay3]
  · refine canon_block (e := .bf16) (fun a b => if b.val < 128 then dkE (iblk m c 0 t) (iblk m c 1 t) (iblk m c 2 t) (iblk m c 3 t) (iblk m c 4 t) (iblk m c 5 t) a b else 0) _ _ _ a b (by decide) (by decide) (fun x y => ?_) fun hn' => ?_
    · rw [if_pos (by simp only; omega)]
      refine (pay2_apply _ _).trans ((congrArg (View.canon _) (unit_idx _ (by decide) (by decide) _ _)).trans ?_)
      generalize (⟨0 + x.val, _⟩ : Fin 2080) = a
      generalize (⟨0 + y.val, _⟩ : Fin 256) = b
      rw [dkE, ← sum_chunks]
      refine canon_rows_add (R := 2080) (W := 256) (by decide) inb_S2080x256_S2080x256_0_0 _ _ (fun j b => (((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) + ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b))) (fun j b => ∑ x : Fin 416, dscoreE (iblk m c 0 t) (iblk m c 1 t) (iblk m c 2 t) (iblk m c 3 t) (iblk m c 4 t) (iblk m c 5 t) ⟨1664 + x.val, by omega⟩ j * (iblk m c 0 t) (ix2 ⟨1664 + x.val, by omega⟩ b)) ?_ (fun a b => ?_) ?_ a b
      · exact fun j b => dk_4 _ _ _ _ _ _ _ j b
      swap
      · exact fun a b h => Finset.sum_eq_zero fun x _ => by rw [dscoreE_zero (by simp only; omega), zero_mul]
      refine canon_rows_add (R := 1664) (W := 256) (by decide) inb_S2080x256_S1664x256_0_0 _ _ (fun j b => ((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b))) (fun j b => ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b)) ?_ (fun a b => ?_) ?_ a b
      · exact fun j b => dk_3 _ _ _ _ _ _ _ j b
      swap
      · exact fun a b h => Finset.sum_eq_zero fun x _ => by rw [dscoreE_zero (by simp only; omega), zero_mul]
      refine canon_rows_add (R := 1248) (W := 256) (by decide) inb_S2080x256_S1248x256_0_0 _ _ (fun j b => (((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b))) (fun j b => ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) ?_ (fun a b => ?_) ?_ a b
      · exact fun j b => dk_2 _ _ _ _ _ _ _ j b
      swap
      · exact fun a b h => Finset.sum_eq_zero fun x _ => by rw [dscoreE_zero (by simp only; omega), zero_mul]
      refine canon_rows_add (R := 832) (W := 256) (by decide) inb_S2080x256_S832x256_0_0 _ _ (fun j b => ((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b))) (fun j b => ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) ?_ (fun a b => ?_) ?_ a b
      · exact fun j b => dk_1 _ _ _ _ _ _ _ j b
      swap
      · exact fun a b h => Finset.sum_eq_zero fun x _ => by rw [dscoreE_zero (by simp only; omega), zero_mul]
      refine canon_rows_add (R := 416) (W := 256) (by decide) inb_S2080x256_S416x256_0_0 _ _ (fun j b => (0 : EReal)) (fun j b => ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) ?_ (fun a b => ?_) ?_ a b
      · exact fun j b => dk_0 _ _ _ _ _ _ _ j b
      swap
      · exact fun a b h => Finset.sum_eq_zero fun x _ => by rw [dscoreE_zero (by simp only; omega), zero_mul]
      refine (congrFun (View.canon_cons_unit_lit _ _ [] (by decide)) _).trans ?_
      pointwise [k0_pay6, k0_pay7]
    · have := a.isLt; have := b.isLt; omega

/-- The value gradient a head leaves. -/
theorem out10_B (c : Dev nD) (t : Fin cfg0.N) (h0 : ¬t.val % 16 = 0) (h1 : 1 ≤ t.val) (a : Fin 2080) (b : Fin 128) :
    (outsAt0 m c t.val t.isLt).2.2.1 (ix2 a b) = dvE (iblk m c 0 t) (iblk m c 1 t) (iblk m c 4 t) (iblk m c 5 t) a b := by
  rw [outsAt0_B m c t h0 h1]
  frame_out
  simp only [View.readCov_eq_canon']
  rw [dvE, ← sum_chunks]
  refine (pay4_apply _ _).trans ((dv_4 (iblk m c 0 t) (iblk m c 1 t) (iblk m c 4 t) (iblk m c 5 t) _ a b).trans (congrArg₂ (· + ·) ?_ rfl))
  refine (congrArg (View.canon _) (whole_idx inb_S2080x128_S2080x128_0_0 a b)).trans ?_
  refine canon_rows_add (R := 1664) (W := 128) (by decide) inb_S2080x128_S1664x128_0_0 _ _ (fun j b => ((((0 : EReal) + ∑ x : Fin 416, probE (iblk m c 0 t) (iblk m c 1 t) (iblk m c 5 t) ⟨x.val, by omega⟩ j * (iblk m c 4 t) (ix2 ⟨x.val, by omega⟩ b)) + ∑ x : Fin 416, probE (iblk m c 0 t) (iblk m c 1 t) (iblk m c 5 t) ⟨416 + x.val, by omega⟩ j * (iblk m c 4 t) (ix2 ⟨416 + x.val, by omega⟩ b)) + ∑ x : Fin 416, probE (iblk m c 0 t) (iblk m c 1 t) (iblk m c 5 t) ⟨832 + x.val, by omega⟩ j * (iblk m c 4 t) (ix2 ⟨832 + x.val, by omega⟩ b))) (fun j b => ∑ x : Fin 416, probE (iblk m c 0 t) (iblk m c 1 t) (iblk m c 5 t) ⟨1248 + x.val, by omega⟩ j * (iblk m c 4 t) (ix2 ⟨1248 + x.val, by omega⟩ b)) ?_ (fun a b => ?_) ?_ a b
  · exact fun j b => dv_3 _ _ _ _ _ j b
  swap
  · exact fun a b h => Finset.sum_eq_zero fun x _ => by rw [probE_zero (by simp only; omega), zero_mul]
  refine canon_rows_add (R := 1248) (W := 128) (by decide) inb_S2080x128_S1248x128_0_0 _ _ (fun j b => (((0 : EReal) + ∑ x : Fin 416, probE (iblk m c 0 t) (iblk m c 1 t) (iblk m c 5 t) ⟨x.val, by omega⟩ j * (iblk m c 4 t) (ix2 ⟨x.val, by omega⟩ b)) + ∑ x : Fin 416, probE (iblk m c 0 t) (iblk m c 1 t) (iblk m c 5 t) ⟨416 + x.val, by omega⟩ j * (iblk m c 4 t) (ix2 ⟨416 + x.val, by omega⟩ b))) (fun j b => ∑ x : Fin 416, probE (iblk m c 0 t) (iblk m c 1 t) (iblk m c 5 t) ⟨832 + x.val, by omega⟩ j * (iblk m c 4 t) (ix2 ⟨832 + x.val, by omega⟩ b)) ?_ (fun a b => ?_) ?_ a b
  · exact fun j b => dv_2 _ _ _ _ _ j b
  swap
  · exact fun a b h => Finset.sum_eq_zero fun x _ => by rw [probE_zero (by simp only; omega), zero_mul]
  refine canon_rows_add (R := 832) (W := 128) (by decide) inb_S2080x128_S832x128_0_0 _ _ (fun j b => ((0 : EReal) + ∑ x : Fin 416, probE (iblk m c 0 t) (iblk m c 1 t) (iblk m c 5 t) ⟨x.val, by omega⟩ j * (iblk m c 4 t) (ix2 ⟨x.val, by omega⟩ b))) (fun j b => ∑ x : Fin 416, probE (iblk m c 0 t) (iblk m c 1 t) (iblk m c 5 t) ⟨416 + x.val, by omega⟩ j * (iblk m c 4 t) (ix2 ⟨416 + x.val, by omega⟩ b)) ?_ (fun a b => ?_) ?_ a b
  · exact fun j b => dv_1 _ _ _ _ _ j b
  swap
  · exact fun a b h => Finset.sum_eq_zero fun x _ => by rw [probE_zero (by simp only; omega), zero_mul]
  refine canon_rows_add (R := 416) (W := 128) (by decide) inb_S2080x128_S416x128_0_0 _ _ (fun j b => (0 : EReal)) (fun j b => ∑ x : Fin 416, probE (iblk m c 0 t) (iblk m c 1 t) (iblk m c 5 t) ⟨x.val, by omega⟩ j * (iblk m c 4 t) (ix2 ⟨x.val, by omega⟩ b)) ?_ (fun a b => ?_) ?_ a b
  · exact fun j b => dv_0 _ _ _ _ _ j b
  swap
  · exact fun a b h => Finset.sum_eq_zero fun x _ => by rw [probE_zero (by simp only; omega), zero_mul]
  refine (congrFun (View.canon_cons_unit_lit _ _ [] (by decide)) _).trans ?_
  pointwise [k0_pay6, k0_pay7]

/-- The key gradient a head leaves: its plain lanes, and zeros. -/
theorem out9_B (c : Dev nD) (t : Fin cfg0.N) (h0 : ¬t.val % 16 = 0) (h1 : 1 ≤ t.val) (a : Fin 2080) (b : Fin 256) :
    (outsAt0 m c t.val t.isLt).2.1 (ix2 a b) = if b.val < 128 then dkE (iblk m c 0 t) (iblk m c 1 t) (iblk m c 2 t) (iblk m c 3 t) (iblk m c 4 t) (iblk m c 5 t) a b else 0 := by
  rw [outsAt0_B m c t h0 h1]
  frame_out
  simp only [View.readCov_eq_canon']
  refine canon_block (e := .bf16) (fun a b => if b.val < 128 then dkE (iblk m c 0 t) (iblk m c 1 t) (iblk m c 2 t) (iblk m c 3 t) (iblk m c 4 t) (iblk m c 5 t) a b else 0) _ _ _ a b (by decide) (by decide) (fun x y => ?_) fun hn => ?_
  · rw [if_neg (by simp only; omega)]
    pointwise [k0_pay3]
  · refine canon_block (e := .bf16) (fun a b => if b.val < 128 then dkE (iblk m c 0 t) (iblk m c 1 t) (iblk m c 2 t) (iblk m c 3 t) (iblk m c 4 t) (iblk m c 5 t) a b else 0) _ _ _ a b (by decide) (by decide) (fun x y => ?_) fun hn' => ?_
    · rw [if_pos (by simp only; omega)]
      refine (pay2_apply _ _).trans ((congrArg (View.canon _) (unit_idx _ (by decide) (by decide) _ _)).trans ?_)
      generalize (⟨0 + x.val, _⟩ : Fin 2080) = a
      generalize (⟨0 + y.val, _⟩ : Fin 256) = b
      rw [dkE, ← sum_chunks]
      refine canon_rows_add (R := 2080) (W := 256) (by decide) inb_S2080x256_S2080x256_0_0 _ _ (fun j b => (((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) + ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b))) (fun j b => ∑ x : Fin 416, dscoreE (iblk m c 0 t) (iblk m c 1 t) (iblk m c 2 t) (iblk m c 3 t) (iblk m c 4 t) (iblk m c 5 t) ⟨1664 + x.val, by omega⟩ j * (iblk m c 0 t) (ix2 ⟨1664 + x.val, by omega⟩ b)) ?_ (fun a b => ?_) ?_ a b
      · exact fun j b => dk_4 _ _ _ _ _ _ _ j b
      swap
      · exact fun a b h => Finset.sum_eq_zero fun x _ => by rw [dscoreE_zero (by simp only; omega), zero_mul]
      refine canon_rows_add (R := 1664) (W := 256) (by decide) inb_S2080x256_S1664x256_0_0 _ _ (fun j b => ((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b))) (fun j b => ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b)) ?_ (fun a b => ?_) ?_ a b
      · exact fun j b => dk_3 _ _ _ _ _ _ _ j b
      swap
      · exact fun a b h => Finset.sum_eq_zero fun x _ => by rw [dscoreE_zero (by simp only; omega), zero_mul]
      refine canon_rows_add (R := 1248) (W := 256) (by decide) inb_S2080x256_S1248x256_0_0 _ _ (fun j b => (((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b))) (fun j b => ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) ?_ (fun a b => ?_) ?_ a b
      · exact fun j b => dk_2 _ _ _ _ _ _ _ j b
      swap
      · exact fun a b h => Finset.sum_eq_zero fun x _ => by rw [dscoreE_zero (by simp only; omega), zero_mul]
      refine canon_rows_add (R := 832) (W := 256) (by decide) inb_S2080x256_S832x256_0_0 _ _ (fun j b => ((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b))) (fun j b => ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) ?_ (fun a b => ?_) ?_ a b
      · exact fun j b => dk_1 _ _ _ _ _ _ _ j b
      swap
      · exact fun a b h => Finset.sum_eq_zero fun x _ => by rw [dscoreE_zero (by simp only; omega), zero_mul]
      refine canon_rows_add (R := 416) (W := 256) (by decide) inb_S2080x256_S416x256_0_0 _ _ (fun j b => (0 : EReal)) (fun j b => ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) ?_ (fun a b => ?_) ?_ a b
      · exact fun j b => dk_0 _ _ _ _ _ _ _ j b
      swap
      · exact fun a b h => Finset.sum_eq_zero fun x _ => by rw [dscoreE_zero (by simp only; omega), zero_mul]
      refine (congrFun (View.canon_cons_unit_lit _ _ [] (by decide)) _).trans ?_
      pointwise [k0_pay6, k0_pay7]
    · have := a.isLt; have := b.isLt; omega

/-- The query gradient a head leaves: plain lanes, then rotated lanes. -/
theorem out8_A (c : Dev nD) (t : Fin cfg0.N) (h0 : t.val % 16 = 0) (h1 : ¬1 ≤ t.val) (a : Fin 2080) (b : Fin 256) :
    (outsAt0 m c t.val t.isLt).1 (ix2 a b)
      = if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩ := by
  rw [outsAt0_A m c t h0 h1]
  frame_out
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn0 => ?_
  · refine (dqb_4 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn1 => ?_
  · refine (dqa_4 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn2 => ?_
  · refine (dqb_3 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn3 => ?_
  · refine (dqa_3 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn4 => ?_
  · refine (dqb_2 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn5 => ?_
  · refine (dqa_2 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn6 => ?_
  · refine (dqb_1 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn7 => ?_
  · refine (dqa_1 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn8 => ?_
  · refine (dqb_0 (iblk m c 0 t) (iblk m c 1 t) (iblk m c 2 t) (iblk m c 3 t) (iblk m c 4 t) (iblk m c 5 t) (iblk m c 6 t) (iblk m c 7 t) x y).trans ?_
    rw [dif_neg (by simp only; omega)]
    simp only [Nat.zero_add]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn9 => ?_
  · refine (dqa_0 (iblk m c 0 t) (iblk m c 1 t) (iblk m c 2 t) (iblk m c 3 t) (iblk m c 4 t) (iblk m c 5 t) x y).trans ?_
    rw [dif_pos (by simp only; omega)]
    simp only [Nat.zero_add]
  exfalso
  have := a.isLt
  have := b.isLt
  omega

/-- The shared rotated key gradient after a head. -/
theorem out11_A (c : Dev nD) (t : Fin cfg0.N) (h0 : t.val % 16 = 0) (h1 : ¬1 ≤ t.val) (a : Fin 2080) (b : Fin 128) :
    (outsAt0 m c t.val t.isLt).2.2.2 (ix2 a b) = dkE (iblk m c 0 t) (iblk m c 1 t) (iblk m c 2 t) (iblk m c 3 t) (iblk m c 4 t) (iblk m c 5 t) a ⟨128 + b.val, by omega⟩ := by
  rw [outsAt0_A m c t h0 h1]
  frame_out
  simp only [View.readCov_eq_canon']
  refine (congrArg (View.canon _) (unit_idx inb_S2080x256_S2080x128_0_128 (by decide) (by decide) a b)).trans ?_
  have e0 : (⟨0 + a.val, by omega⟩ : Fin 2080) = a := Fin.ext (Nat.zero_add _)
  rw [e0]
  generalize (⟨128 + b.val, _⟩ : Fin 256) = b
  rw [dkE, ← sum_chunks]
  refine canon_rows_add (R := 2080) (W := 256) (by decide) inb_S2080x256_S2080x256_0_0 _ _ (fun j b => (((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) + ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b))) (fun j b => ∑ x : Fin 416, dscoreE (iblk m c 0 t) (iblk m c 1 t) (iblk m c 2 t) (iblk m c 3 t) (iblk m c 4 t) (iblk m c 5 t) ⟨1664 + x.val, by omega⟩ j * (iblk m c 0 t) (ix2 ⟨1664 + x.val, by omega⟩ b)) ?_ (fun a b => ?_) ?_ a b
  · exact fun j b => dk_4 _ _ _ _ _ _ _ j b
  swap
  · exact fun a b h => Finset.sum_eq_zero fun x _ => by rw [dscoreE_zero (by simp only; omega), zero_mul]
  refine canon_rows_add (R := 1664) (W := 256) (by decide) inb_S2080x256_S1664x256_0_0 _ _ (fun j b => ((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b))) (fun j b => ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b)) ?_ (fun a b => ?_) ?_ a b
  · exact fun j b => dk_3 _ _ _ _ _ _ _ j b
  swap
  · exact fun a b h => Finset.sum_eq_zero fun x _ => by rw [dscoreE_zero (by simp only; omega), zero_mul]
  refine canon_rows_add (R := 1248) (W := 256) (by decide) inb_S2080x256_S1248x256_0_0 _ _ (fun j b => (((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b))) (fun j b => ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) ?_ (fun a b => ?_) ?_ a b
  · exact fun j b => dk_2 _ _ _ _ _ _ _ j b
  swap
  · exact fun a b h => Finset.sum_eq_zero fun x _ => by rw [dscoreE_zero (by simp only; omega), zero_mul]
  refine canon_rows_add (R := 832) (W := 256) (by decide) inb_S2080x256_S832x256_0_0 _ _ (fun j b => ((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b))) (fun j b => ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) ?_ (fun a b => ?_) ?_ a b
  · exact fun j b => dk_1 _ _ _ _ _ _ _ j b
  swap
  · exact fun a b h => Finset.sum_eq_zero fun x _ => by rw [dscoreE_zero (by simp only; omega), zero_mul]
  refine canon_rows_add (R := 416) (W := 256) (by decide) inb_S2080x256_S416x256_0_0 _ _ (fun j b => (0 : EReal)) (fun j b => ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) ?_ (fun a b => ?_) ?_ a b
  · exact fun j b => dk_0 _ _ _ _ _ _ _ j b
  swap
  · exact fun a b h => Finset.sum_eq_zero fun x _ => by rw [dscoreE_zero (by simp only; omega), zero_mul]
  refine (congrFun (View.canon_cons_unit_lit _ _ [] (by decide)) _).trans ?_
  pointwise [k0_pay6, k0_pay7]

/-- The query gradient a head leaves: plain lanes, then rotated lanes. -/
theorem out8_B (c : Dev nD) (t : Fin cfg0.N) (h0 : ¬t.val % 16 = 0) (h1 : 1 ≤ t.val) (a : Fin 2080) (b : Fin 256) :
    (outsAt0 m c t.val t.isLt).1 (ix2 a b)
      = if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩ := by
  rw [outsAt0_B m c t h0 h1]
  frame_out
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn0 => ?_
  · refine (dqb_4 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn1 => ?_
  · refine (dqa_4 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn2 => ?_
  · refine (dqb_3 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn3 => ?_
  · refine (dqa_3 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn4 => ?_
  · refine (dqb_2 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn5 => ?_
  · refine (dqa_2 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn6 => ?_
  · refine (dqb_1 (iblk m c 0 t) (iblk m c 1 t) (iblk m c 2 t) (iblk m c 3 t) (iblk m c 4 t) (iblk m c 5 t) (iblk m c 6 t) (iblk m c 7 t) x y).trans ?_
    rw [dif_neg (by simp only; omega)]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn7 => ?_
  · refine (dqa_1 (iblk m c 0 t) (iblk m c 1 t) (iblk m c 2 t) (iblk m c 3 t) (iblk m c 4 t) (iblk m c 5 t) x y).trans ?_
    rw [dif_pos (by simp only; omega)]
    simp only [Nat.zero_add]
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn8 => ?_
  · refine (dqb_0 (iblk m c 0 t) (iblk m c 1 t) (iblk m c 2 t) (iblk m c 3 t) (iblk m c 4 t) (iblk m c 5 t) (iblk m c 6 t) (iblk m c 7 t) x y).trans ?_
    rw [dif_neg (by simp only; omega)]
    simp only [Nat.zero_add]
    exact congrArg (dqrE (iblk m c 0 t) (iblk m c 1 t) (iblk m c 2 t) (iblk m c 3 t) (iblk m c 4 t) (iblk m c 5 t) (iblk m c 6 t) (iblk m c 7 t) _) (Fin.ext (by simp only; omega))
  refine canon_block (e := .bf16) (fun a b => if h : b.val < 128 then dqE (iblk m c 0 t) (iblk m c 1 t) (iblk m c 2 t) (iblk m c 3 t) (iblk m c 4 t) (iblk m c 5 t) a b * scl else dqrE (iblk m c 0 t) (iblk m c 1 t) (iblk m c 2 t) (iblk m c 3 t) (iblk m c 4 t) (iblk m c 5 t) (iblk m c 6 t) (iblk m c 7 t) a ⟨b.val - 128, by omega⟩) _ _ _ a b (by decide) (by decide) (fun x y => ?_) fun hn9 => ?_
  · refine (dqa_0 (iblk m c 0 t) (iblk m c 1 t) (iblk m c 2 t) (iblk m c 3 t) (iblk m c 4 t) (iblk m c 5 t) x y).trans ?_
    rw [dif_pos (by simp only; omega)]
    simp only [Nat.zero_add]
  exfalso
  have := a.isLt
  have := b.isLt
  omega

/-- The shared rotated key gradient after a head. -/
theorem out11_B (c : Dev nD) (t : Fin cfg0.N) (h0 : ¬t.val % 16 = 0) (h1 : 1 ≤ t.val) (a : Fin 2080) (b : Fin 128) :
    (outsAt0 m c t.val t.isLt).2.2.2 (ix2 a b) =  (outsAt0 m c (t.val - 1) (Nat.lt_of_le_of_lt (Nat.sub_le _ _) t.isLt)).2.2.2 (ix2 a b) + dkE (iblk m c 0 t) (iblk m c 1 t) (iblk m c 2 t) (iblk m c 3 t) (iblk m c 4 t) (iblk m c 5 t) a ⟨128 + b.val, by omega⟩ := by
  rw [outsAt0_B m c t h0 h1]
  frame_out
  simp only [View.readCov_eq_canon']
  refine (pay5_apply _ _ _).trans (congrArg₂ (· + ·) rfl ?_)
  refine (congrArg (View.canon _) (unit_idx inb_S2080x256_S2080x128_0_128 (by decide) (by decide) a b)).trans ?_
  have e0 : (⟨0 + a.val, by omega⟩ : Fin 2080) = a := Fin.ext (Nat.zero_add _)
  rw [e0]
  generalize (⟨128 + b.val, _⟩ : Fin 256) = b
  rw [dkE, ← sum_chunks]
  refine canon_rows_add (R := 2080) (W := 256) (by decide) inb_S2080x256_S2080x256_0_0 _ _ (fun j b => (((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) + ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b))) (fun j b => ∑ x : Fin 416, dscoreE (iblk m c 0 t) (iblk m c 1 t) (iblk m c 2 t) (iblk m c 3 t) (iblk m c 4 t) (iblk m c 5 t) ⟨1664 + x.val, by omega⟩ j * (iblk m c 0 t) (ix2 ⟨1664 + x.val, by omega⟩ b)) ?_ (fun a b => ?_) ?_ a b
  · exact fun j b => dk_4 _ _ _ _ _ _ _ j b
  swap
  · exact fun a b h => Finset.sum_eq_zero fun x _ => by rw [dscoreE_zero (by simp only; omega), zero_mul]
  refine canon_rows_add (R := 1664) (W := 256) (by decide) inb_S2080x256_S1664x256_0_0 _ _ (fun j b => ((((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) + ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b))) (fun j b => ∑ x : Fin 416, dscoreE (iblk m c 0 t) (iblk m c 1 t) (iblk m c 2 t) (iblk m c 3 t) (iblk m c 4 t) (iblk m c 5 t) ⟨1248 + x.val, by omega⟩ j * (iblk m c 0 t) (ix2 ⟨1248 + x.val, by omega⟩ b)) ?_ (fun a b => ?_) ?_ a b
  · exact fun j b => dk_3 _ _ _ _ _ _ _ j b
  swap
  · exact fun a b h => Finset.sum_eq_zero fun x _ => by rw [dscoreE_zero (by simp only; omega), zero_mul]
  refine canon_rows_add (R := 1248) (W := 256) (by decide) inb_S2080x256_S1248x256_0_0 _ _ (fun j b => (((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) + ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b))) (fun j b => ∑ x : Fin 416, dscoreE (iblk m c 0 t) (iblk m c 1 t) (iblk m c 2 t) (iblk m c 3 t) (iblk m c 4 t) (iblk m c 5 t) ⟨832 + x.val, by omega⟩ j * (iblk m c 0 t) (ix2 ⟨832 + x.val, by omega⟩ b)) ?_ (fun a b => ?_) ?_ a b
  · exact fun j b => dk_2 _ _ _ _ _ _ _ j b
  swap
  · exact fun a b h => Finset.sum_eq_zero fun x _ => by rw [dscoreE_zero (by simp only; omega), zero_mul]
  refine canon_rows_add (R := 832) (W := 256) (by decide) inb_S2080x256_S832x256_0_0 _ _ (fun j b => ((0 : EReal) + ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b))) (fun j b => ∑ x : Fin 416, dscoreE (iblk m c 0 t) (iblk m c 1 t) (iblk m c 2 t) (iblk m c 3 t) (iblk m c 4 t) (iblk m c 5 t) ⟨416 + x.val, by omega⟩ j * (iblk m c 0 t) (ix2 ⟨416 + x.val, by omega⟩ b)) ?_ (fun a b => ?_) ?_ a b
  · exact fun j b => dk_1 _ _ _ _ _ _ _ j b
  swap
  · exact fun a b h => Finset.sum_eq_zero fun x _ => by rw [dscoreE_zero (by simp only; omega), zero_mul]
  refine canon_rows_add (R := 416) (W := 256) (by decide) inb_S2080x256_S416x256_0_0 _ _ (fun j b => (0 : EReal)) (fun j b => ∑ x : Fin 416, dscoreE (iblk m c 0 t) (iblk m c 1 t) (iblk m c 2 t) (iblk m c 3 t) (iblk m c 4 t) (iblk m c 5 t) ⟨x.val, by omega⟩ j * (iblk m c 0 t) (ix2 ⟨x.val, by omega⟩ b)) ?_ (fun a b => ?_) ?_ a b
  · exact fun j b => dk_0 _ _ _ _ _ _ _ j b
  swap
  · exact fun a b h => Finset.sum_eq_zero fun x _ => by rw [dscoreE_zero (by simp only; omega), zero_mul]
  refine (congrFun (View.canon_cons_unit_lit _ _ [] (by decide)) _).trans ?_
  pointwise [k0_pay6, k0_pay7]

end Cert.KernelIdeal.Value

end
-- ==== Proof.Blocks.lean ====
module

public import proofs.«01_k».proof.Proof.Host
public import proofs.«01_k».proof.Proof.Out
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Cert.Attention Idealize.ShloMosaic Idealize.ShloMosaic.TcCoe Idealize.SL.Sem
open scoped BigOperators

/-- Where each window's block lies: head `t`'s columns, or the whole table. -/
theorem idx : ∀ t : Fin cfg0.N,
    win0_0.index t = ![0, t.val] ∧ win0_1.index t = ![0, t.val] ∧ win0_2.index t = ![0, t.val] ∧ win0_3.index t = ![0, t.val] ∧
    win0_4.index t = ![0, t.val] ∧ win0_5.index t = ![0, t.val] ∧ win0_6.index t = ![0, 0] ∧ win0_7.index t = ![0, 0] ∧
    win0_8.index t = ![0, t.val] ∧ win0_9.index t = ![0, t.val] ∧ win0_10.index t = ![0, t.val] ∧ win0_11.index t = ![0, 0] :=
  (by decide +kernel : ∀ t : Fin grid0.N, _)

/-- The head of a grid point. -/
def head (t : Fin cfg0.N) : Fin 16 := ⟨t.val, by have := t.isLt; have h : cfg0.N = 16 := N_0; omega⟩

variable (m : (ℓ : Loc nD τ sig) → Buf (Elt Ideal) ℓ) (c : Dev nD)

/-- A head's block of a [2080, 16 * 256] array through window 0. -/
theorem blk0 (t : Fin cfg0.N) (X : Vec Ideal S2080x4096 .bf16) (a : Fin 2080) (b : Fin 256) :
    ((cfg0.win 0).blk t).view.read (Elt Ideal) X (ix2 a b) = X (ix2 a ⟨(head t).val * 256 + b.val, by omega⟩) := by
  blk_ext [idx t, head]

/-- A head's block of a [2080, 16 * 256] array through window 1. -/
theorem blk1 (t : Fin cfg0.N) (X : Vec Ideal S2080x4096 .bf16) (a : Fin 2080) (b : Fin 256) :
    ((cfg0.win 1).blk t).view.read (Elt Ideal) X (ix2 a b) = X (ix2 a ⟨(head t).val * 256 + b.val, by omega⟩) := by
  blk_ext [idx t, head]

/-- A head's block of a [2080, 16 * 128] array through window 2. -/
theorem blk2 (t : Fin cfg0.N) (X : Vec Ideal S2080x2048 .bf16) (a : Fin 2080) (b : Fin 128) :
    ((cfg0.win 2).blk t).view.read (Elt Ideal) X (ix2 a b) = X (ix2 a ⟨(head t).val * 128 + b.val, by omega⟩) := by
  blk_ext [idx t, head]

/-- A head's block of a [2080, 16 * 128] array through window 3. -/
theorem blk3 (t : Fin cfg0.N) (X : Vec Ideal S2080x2048 .bf16) (a : Fin 2080) (b : Fin 128) :
    ((cfg0.win 3).blk t).view.read (Elt Ideal) X (ix2 a b) = X (ix2 a ⟨(head t).val * 128 + b.val, by omega⟩) := by
  blk_ext [idx t, head]

/-- A head's block of a [2080, 16 * 128] array through window 4. -/
theorem blk4 (t : Fin cfg0.N) (X : Vec Ideal S2080x2048 .bf16) (a : Fin 2080) (b : Fin 128) :
    ((cfg0.win 4).blk t).view.read (Elt Ideal) X (ix2 a b) = X (ix2 a ⟨(head t).val * 128 + b.val, by omega⟩) := by
  blk_ext [idx t, head]

/-- A head's block of a [2080, 16 * 128] array through window 5. -/
theorem blk5 (t : Fin cfg0.N) (X : Vec Ideal S2080x2048 .f32) (a : Fin 2080) (b : Fin 128) :
    ((cfg0.win 5).blk t).view.read (Elt Ideal) X (ix2 a b) = X (ix2 a ⟨(head t).val * 128 + b.val, by omega⟩) := by
  blk_ext [idx t, head]

/-- The whole table through window 6. -/
theorem blk6 (t : Fin cfg0.N) (X : Vec Ideal S2080x128 .f32) (a : Fin 2080) (b : Fin 128) :
    ((cfg0.win 6).blk t).view.read (Elt Ideal) X (ix2 a b) = X (ix2 a b) := by
  blk_ext [idx t]

/-- The whole table through window 7. -/
theorem blk7 (t : Fin cfg0.N) (X : Vec Ideal S2080x128 .f32) (a : Fin 2080) (b : Fin 128) :
    ((cfg0.win 7).blk t).view.read (Elt Ideal) X (ix2 a b) = X (ix2 a b) := by
  blk_ext [idx t]

/-- A lane of a head among all heads' lanes: its head. -/
theorem head_of {n : ℕ} (h : Fin 16) (b : Fin n) (hlt : (h.val * n + b.val) / n < 16) : (⟨(h.val * n + b.val) / n, hlt⟩ : Fin 16) = h :=
  Fin.ext (by
    have : 0 < n := b.pos
    simp only
    rw [Nat.mul_comm, Nat.mul_add_div this, Nat.div_eq_of_lt b.isLt, Nat.add_zero])

/-- A lane of a head among all heads' lanes: its lane. -/
theorem lane_of {n : ℕ} (h : Fin 16) (b : Fin n) (hlt : (h.val * n + b.val) % n < n) : (⟨(h.val * n + b.val) % n, hlt⟩ : Fin n) = b :=
  Fin.ext (by
    simp only
    rw [Nat.mul_comm, Nat.mul_add_mod, Nat.mod_eq_of_lt b.isLt])

variable {A : Args} (H : Holds m c A)
include H

/-- The saved logarithms' block. -/
theorem rows_l (t : Fin cfg0.N) (i : Fin 2080) (d : Fin 128) :
    (iblk m c 5 t : Vec Ideal S2080x128 .f32) (ix2 i d) = ((Real.log (den A (head t) i) : ℝ) : EReal) :=
  (blk5 t (V m c main_v41) i d).trans ((V41_at m c H i _).trans (by simp only [head_of]))

/-- The blocks of grid point `t` hold head `t`'s rows. -/
theorem rows (t : Fin cfg0.N) :
    Rows A (head t) (iblk m c 0 t) (iblk m c 1 t) (iblk m c 2 t) (iblk m c 3 t) (iblk m c 4 t) (iblk m c 5 t) (iblk m c 6 t) (iblk m c 7 t) where
  hq i d := (blk0 t (V m c main_v91) i d).trans ((V91_at m c H i _).trans (by simp only [head_of, lane_of]))
  hk i d := (blk1 t (V m c main_v96) i d).trans ((V96_at m c H i _).trans (by simp only [head_of, lane_of]))
  hv i d := (blk2 t (V m c main_v98) i d).trans ((V98_at m c H i _).trans (by simp only [head_of, lane_of]))
  ho i d := (blk3 t (V m c main_v102) i d).trans ((V102_at m c H i _).trans (by simp only [head_of, lane_of]))
  hg i d := (blk4 t (V m c main_v103) i d).trans ((V103_at m c H i _).trans (by simp only [head_of, lane_of]))
  hl := rows_l m c H t
  hc i d := (blk6 t (V m c main_v100) i d).trans (V100_at m c H i d)
  hs i d := (blk7 t (V m c main_v101) i d).trans (V101_at m c H i d)

end Cert.KernelIdeal.Value

end
-- ==== Proof.Final.lean ====
module

public import proofs.«01_k».proof.Proof.Blocks

@[expose] public section

set_option maxRecDepth 16384

noncomputable section

namespace Cert.Attention

open Cert.KernelIdeal Cert.KernelIdeal.Gen Idealize.ShloMosaic

/-- The queries' gradient as an array: 16 heads of 256 lanes. -/
def dqArr (A : Args) : Vec Ideal S2080x4096 .bf16 := fun i =>
  ((gq A ⟨(i 1).val / 256, by have := (i 1).isLt; have e : S2080x4096.size 1 = 4096 := rfl; omega⟩ (i 0) ⟨(i 1).val % 256, by omega⟩ : ℝ) : EReal)

/-- The keys' gradient as an array: 16 heads of 256 lanes. -/
def dkArr (A : Args) : Vec Ideal S2080x4096 .bf16 := fun i =>
  ((gk A ⟨(i 1).val / 256, by have := (i 1).isLt; have e : S2080x4096.size 1 = 4096 := rfl; omega⟩ (i 0) ⟨(i 1).val % 256, by omega⟩ : ℝ) : EReal)

/-- The values' gradient as an array: 16 heads of 128 lanes. -/
def dvArr (A : Args) : Vec Ideal S2080x2048 .bf16 := fun i =>
  ((gv A ⟨(i 1).val / 128, by have := (i 1).isLt; have e : S2080x2048.size 1 = 2048 := rfl; omega⟩ (i 0) ⟨(i 1).val % 128, by omega⟩ : ℝ) : EReal)

/-- The gradient of the keys' shared part as an array. -/
def dkrArr (A : Args) : Vec Ideal S2080x128 .f32 := fun i => ((gkr A (i 0) (i 1) : ℝ) : EReal)

end Cert.Attention

namespace Cert.KernelIdeal.Value

open Cert.KernelIdeal Cert.KernelIdeal.Gen Cert.Attention Idealize.ShloMosaic Idealize.ShloMosaic.TcCoe Idealize.SL.Sem
open scoped BigOperators

variable (m : (ℓ : Loc nD τ sig) → Buf (Elt Ideal) ℓ) (c : Dev nD)
variable {A : Args} (H : Holds m c A)
include H

/-- What head `t`'s point leaves of the queries' gradient. -/
theorem left8 (t : Fin cfg0.N) (a : Fin 2080) (b : Fin 256) :
    (outsAt0 m c t.val t.isLt).1 (ix2 a b) = ((gq A (head t) a b : ℝ) : EReal) := by
  have R := rows m c H t
  have hN : cfg0.N = 16 := N_0
  have ht := t.isLt
  have key : (outsAt0 m c t.val t.isLt).1 (ix2 a b) = if h : b.val < 128 then dqE (iblk m c 0 t) (iblk m c 1 t) (iblk m c 2 t) (iblk m c 3 t) (iblk m c 4 t) (iblk m c 5 t) a b * scl
      else dqrE (iblk m c 0 t) (iblk m c 1 t) (iblk m c 2 t) (iblk m c 3 t) (iblk m c 4 t) (iblk m c 5 t) (iblk m c 6 t) (iblk m c 7 t) a ⟨b.val - 128, by omega⟩ := by
    by_cases h0 : t.val % 16 = 0
    · exact out8_A m c t h0 (by omega) a b
    · exact out8_B m c t h0 (by omega) a b
  rw [key]
  by_cases h : b.val < 128
  · rw [dif_pos h]
    exact dq_own R a b h
  · rw [dif_neg h]
    refine (dq_rope R a _).trans ?_
    have e : (⟨128 + (b.val - 128), by omega⟩ : Fin 256) = b := Fin.ext (by simp only; omega)
    simp only [e]

/-- What head `t`'s point leaves of the keys' gradient. -/
theorem left9 (t : Fin cfg0.N) (a : Fin 2080) (b : Fin 256) :
    (outsAt0 m c t.val t.isLt).2.1 (ix2 a b) = ((gk A (head t) a b : ℝ) : EReal) := by
  have R := rows m c H t
  have hN : cfg0.N = 16 := N_0
  have ht := t.isLt
  have key : (outsAt0 m c t.val t.isLt).2.1 (ix2 a b) = if b.val < 128 then dkE (iblk m c 0 t) (iblk m c 1 t) (iblk m c 2 t) (iblk m c 3 t) (iblk m c 4 t) (iblk m c 5 t) a b else 0 := by
    by_cases h0 : t.val % 16 = 0
    · exact out9_A m c t h0 (by omega) a b
    · exact out9_B m c t h0 (by omega) a b
  rw [key]
  by_cases h : b.val < 128
  · rw [if_pos h]
    exact dk_own R a b h
  · rw [if_neg h, gk, dif_neg h, EReal.coe_zero]

/-- What head `t`'s point leaves of the values' gradient. -/
theorem left10 (t : Fin cfg0.N) (a : Fin 2080) (b : Fin 128) :
    (outsAt0 m c t.val t.isLt).2.2.1 (ix2 a b) = ((gv A (head t) a b : ℝ) : EReal) := by
  have R := rows m c H t
  have hN : cfg0.N = 16 := N_0
  have ht := t.isLt
  by_cases h0 : t.val % 16 = 0
  · exact (out10_A m c t h0 (by omega) a b).trans (dvE_coe R a b)
  · exact (out10_B m c t h0 (by omega) a b).trans (dvE_coe R a b)

/-- The first head's point starts the gradient of the keys' shared part. -/
theorem left11_A (t : Fin cfg0.N) (h0 : t.val % 16 = 0) (j : S2080x128.Idx) :
    (outsAt0 m c t.val t.isLt).2.2.2 j = (0 : EReal) + ((gkrh A (head t) (j 0) (j 1) : ℝ) : EReal) := by
  have hN : cfg0.N = 16 := N_0
  have ht := t.isLt
  idx_vars j
  rw [zero_add]
  exact (out11_A m c t h0 (by omega) _ _).trans (dk_shared (rows m c H t) _ _)

/-- Every later head's point adds its share. -/
theorem left11_B (t : Fin cfg0.N) (h0 : ¬t.val % 16 = 0) (j : S2080x128.Idx) :
    (outsAt0 m c t.val t.isLt).2.2.2 j = (outsAt0 m c (t.val - 1) (Nat.lt_of_le_of_lt (Nat.sub_le _ _) t.isLt)).2.2.2 j
      + ((gkrh A (head t) (j 0) (j 1) : ℝ) : EReal) := by
  have hN : cfg0.N = 16 := N_0
  have ht := t.isLt
  idx_vars j
  refine (out11_B m c t h0 (by omega) _ _).trans ?_
  rw [dk_shared (rows m c H t)]

/-- The kernel's queries' gradient. -/
theorem final8 : (dats m 0 c).arrAt 8 cfg0.N = dqArr A := by
  refine (dats m 0 c).arrAt_eq_of_covers 8 _ (by decide +kernel) fun t hf y => ?_
  blk_simp
  rw [after0_8]
  idx_vars y
  rw [left8 m c H]
  have e : ((View.whole main_v104_0).slice (win0_8.rect t)).emb (ix2 y0 y1) = ix2 y0 ⟨(head t).val * 256 + y1.val, by omega⟩ := by
    blk_ext [idx t, head]
  rw [e]
  show _ = ((gq A ⟨((head t).val * 256 + y1.val) / 256, by omega⟩ y0 ⟨((head t).val * 256 + y1.val) % 256, by omega⟩ : ℝ) : EReal)
  simp only [head_of, lane_of]

/-- The kernel's keys' gradient. -/
theorem final9 : (dats m 0 c).arrAt 9 cfg0.N = dkArr A := by
  refine (dats m 0 c).arrAt_eq_of_covers 9 _ (by decide +kernel) fun t hf y => ?_
  blk_simp
  rw [after0_9]
  idx_vars y
  rw [left9 m c H]
  have e : ((View.whole main_v104_1).slice (win0_9.rect t)).emb (ix2 y0 y1) = ix2 y0 ⟨(head t).val * 256 + y1.val, by omega⟩ := by
    blk_ext [idx t, head]
  rw [e]
  show _ = ((gk A ⟨((head t).val * 256 + y1.val) / 256, by omega⟩ y0 ⟨((head t).val * 256 + y1.val) % 256, by omega⟩ : ℝ) : EReal)
  simp only [head_of, lane_of]

/-- The kernel's values' gradient. -/
theorem final10 : (dats m 0 c).arrAt 10 cfg0.N = dvArr A := by
  refine (dats m 0 c).arrAt_eq_of_covers 10 _ (by decide +kernel) fun t hf y => ?_
  blk_simp
  rw [after0_10]
  idx_vars y
  rw [left10 m c H]
  have e : ((View.whole main_v104_2).slice (win0_10.rect t)).emb (ix2 y0 y1) = ix2 y0 ⟨(head t).val * 128 + y1.val, by omega⟩ := by
    blk_ext [idx t, head]
  rw [e]
  show _ = ((gv A ⟨((head t).val * 128 + y1.val) / 128, by omega⟩ y0 ⟨((head t).val * 128 + y1.val) % 128, by omega⟩ : ℝ) : EReal)
  simp only [head_of, lane_of]

/-- The kernel's gradient of the keys' shared part. -/
theorem final11 : (dats m 0 c).arrAt 11 cfg0.N = dkrArr A := by
  refine (dats m 0 c).arrAt_eq_of_after_last 11 t0_15 (by decide +kernel) _ fun j => ?_
  blk_simp
  rw [after0_11]
  rw [Pipeline.eq_sum_fin_of_reset_step_apply_last (fun n h => (outsAt0 m c n h).2.2.2) 16 (fun _ => (0 : EReal))
    (fun t j => ((gkrh A (head t) (j 0) (j 1) : ℝ) : EReal)) (left11_A m c H) (left11_B m c H) (le_of_eq N_0) t0_15 rfl j]
  show (0 : EReal) + ∑ p : Fin cfg0.N, ((gkrh A (head p) (j 0) (j 1) : ℝ) : EReal) = ((gkr A (j 0) (j 1) : ℝ) : EReal)
  rw [zero_add]
  refine Eq.trans ?_ (coe_sum Finset.univ fun h : Fin 16 => gkrh A h (j 0) (j 1)).symm
  exact Fintype.sum_equiv (finCongr N_0) _ _ fun t => rfl

end Cert.KernelIdeal.Value

end
-- ==== Proof.RefGrad.lean ====
module

public import proofs.«01_k».proof.Proof.Ref
public import proofs.«01_k».proof.Proof.Final
public import Idealize.ShloMosaic.Lib.KernelVsHost

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Attention
open scoped BigOperators

/-- The queries' gradient before the rotation is undone, the rotated part. -/
def backR (X : Vec Ideal S16x2080x2080 .f32) (Z : Vec Ideal S2080x64 .f32) : Vec Ideal S2080x16x64 .f32 :=
  Host.dotGeneral (F := Ideal) (φ₁ := .f32) (φ₂ := .f32) dot_S2080x2080x16_S2080x64_S2080x16x64_0_0_12_1_n_n none (transpose S2080x2080x16 [2, 1, 0] X transposes_S16x2080x2080_S2080x2080x16_2_1_0) Z

/-- The queries' gradient in the layout of the results. -/
def dqR (X : Vec Ideal S16x2080x2080 .f32) (K : Vec Ideal S2080x16x128 .f32) (U : Vec Ideal S2080x16x64 .f32) (C S : Vec Ideal S2080x32 .f32) : Vec Ideal S2080x4096 .bf16 :=
  truncf (F := Ideal) .bf16 (shapeCast S2080x4096 (pad S2080x16x256 ![0, 0, 0] ![0, 0, 64] ![0, 0, 0] (addf (F := Ideal) (φ := .f32)
    (pad S2080x16x192 ![0, 0, 128] ![0, 0, 0] ![0, 0, 0] (concatenate S2080x16x64 2
      [⟨S2080x16x32, (addf (F := Ideal) (φ := .f32)
        (mulf (F := Ideal) (φ := .f32) (extractStridedSlice S2080x16x32 ![0, 0, 32] U slices_S2080x16x64_S2080x16x32_0_0_32)
          (broadcastInDim S2080x16x32 ![0, 1, 2] bcast_S2080x1x32_S2080x16x32_0_1_2 (broadcastInDim S2080x1x32 ![0, 2] bcast_S2080x32_S2080x1x32_0_2 S)))
        (mulf (F := Ideal) (φ := .f32) (extractStridedSlice S2080x16x32 ![0, 0, 0] U slices_S2080x16x64_S2080x16x32_0_0_0)
          (broadcastInDim S2080x16x32 ![0, 1, 2] bcast_S2080x1x32_S2080x16x32_0_1_2 (broadcastInDim S2080x1x32 ![0, 2] bcast_S2080x32_S2080x1x32_0_2 C))))⟩,
       ⟨S2080x16x32, (addf (F := Ideal) (φ := .f32)
        (mulf (F := Ideal) (φ := .f32) (extractStridedSlice S2080x16x32 ![0, 0, 32] U slices_S2080x16x64_S2080x16x32_0_0_32)
          (broadcastInDim S2080x16x32 ![0, 1, 2] bcast_S2080x1x32_S2080x16x32_0_1_2 (broadcastInDim S2080x1x32 ![0, 2] bcast_S2080x32_S2080x1x32_0_2 C)))
        (mulf (F := Ideal) (φ := .f32) (Host.negf (F := Ideal) (φ := .f32) (extractStridedSlice S2080x16x32 ![0, 0, 0] U slices_S2080x16x64_S2080x16x32_0_0_0))
          (broadcastInDim S2080x16x32 ![0, 1, 2] bcast_S2080x1x32_S2080x16x32_0_1_2 (broadcastInDim S2080x1x32 ![0, 2] bcast_S2080x32_S2080x1x32_0_2 S))))⟩]
      concatenates_S2080x16x32_S2080x16x32_S2080x16x64_d2) (constant (F := Ideal) S_ .f32 0x00000000#32) pads_S2080x16x64_S2080x16x192_000_000_12800 h_S_)
    (pad S2080x16x192 ![0, 0, 0] ![0, 0, 64] ![0, 0, 0] (transpose S2080x16x128 [1, 0, 2] (Host.dotGeneral (F := Ideal) (φ₁ := .f32) (φ₂ := .f32) dot_S16x2080x2080_S2080x16x128_S16x2080x128_2_0_1_2_0_1 none X K) transposes_S16x2080x128_S2080x16x128_1_0_2) (constant (F := Ideal) S_ .f32 0x00000000#32) pads_S2080x16x128_S2080x16x192_000_000_0640 h_S_))
    (sitofp (F := Ideal) .f32 (constantI S_ 32 0#32)) pads_S2080x16x192_S2080x16x256_000_000_0640 h_S_) shapeCasts_S2080x16x256_S2080x4096) bitsLt_bf16_f32

/-- The keys' gradient in the layout of the results. -/
def dkR (X : Vec Ideal S16x2080x2080 .f32) (Q : Vec Ideal S2080x16x128 .f32) : Vec Ideal S2080x4096 .bf16 :=
  truncf (F := Ideal) .bf16 (shapeCast S2080x4096 (pad S2080x16x256 ![0, 0, 0] ![0, 0, 128] ![0, 0, 0] (transpose S2080x16x128 [1, 0, 2] (Host.dotGeneral (F := Ideal) (φ₁ := .f32) (φ₂ := .f32) dot_S16x2080x2080_S2080x16x128_S16x2080x128_1_0_2_2_0_1 none X Q) transposes_S16x2080x128_S2080x16x128_1_0_2) (sitofp (F := Ideal) .f32 (constantI S_ 32 0#32)) pads_S2080x16x128_S2080x16x256_000_000_01280 h_S_) shapeCasts_S2080x16x256_S2080x4096) bitsLt_bf16_f32

/-- The values' gradient in the layout of the results. -/
def dvR (T : Vec Ideal S16x128x2080 .f32) (P : Vec Ideal S16x2080x2080 .f32) : Vec Ideal S2080x2048 .bf16 :=
  truncf (F := Ideal) .bf16 (shapeCast S2080x2048 (transpose S2080x16x128 [2, 0, 1] (Host.dotGeneral (F := Ideal) (φ₁ := .f32) (φ₂ := .f32) dot_S16x128x2080_S16x2080x2080_S16x128x2080_2_1_1_2_0_0 none T P) transposes_S16x128x2080_S2080x16x128_2_0_1) shapeCasts_S2080x16x128_S2080x2048) bitsLt_bf16_f32

/-- The gradient of the keys' shared part in the layout of the results. -/
def dkrR (X : Vec Ideal S16x2080x2080 .f32) (R : Vec Ideal S2080x16x64 .f32) : Vec Ideal S2080x128 .f32 :=
  pad S2080x128 ![0, 0] ![0, 64] ![0, 0] (Host.dotGeneral (F := Ideal) (φ₁ := .f32) (φ₂ := .f32) dot_S2080x2080x16_S2080x16x64_S2080x64_12_01_0_2_n_n none (transpose S2080x2080x16 [2, 1, 0] X transposes_S16x2080x2080_S2080x2080x16_2_1_0) R) (sitofp (F := Ideal) .f32 (constantI S_ 32 0#32)) pads_S2080x64_S2080x128_000_0640 h_S_

/-- The rotated part at an index. -/
theorem backR_at (X : Vec Ideal S16x2080x2080 .f32) (Z : Vec Ideal S2080x64 .f32) (i : Fin 2080) (h : Fin 16) (r : Fin 64) :
    backR X Z (ix3 i h r) = ∑ j : Fin 2080, X (ix3 h i j) * Z (ix2 j r) := by
  pointwise [backR]

/-- The integer 0 as a number. -/
theorem zero_int : (FloatOps.sitofp (F := Ideal) FTy.f32 0#32 : EReal) = 0 := sitofp_zero

variable {A : Args}

/-- The parts of a row of the queries' gradient. -/
theorem gq_parts (A : Args) (h : Fin 16) (i : Fin 2080) (e n : ℕ) (he : e < 256) (hn : n < 16) :
    (if _ : n < 16 ∧ e < 192 then
      (if _ : n < 16 ∧ 128 ≤ e ∧ e - 128 < 64 then
          if _ : e - 128 < 32 then
            ((gqr A h i ⟨32 + (e - 128), by omega⟩ : ℝ) : EReal) * ((A.sn i ⟨e - 128, by omega⟩ : ℝ) : EReal)
              + ((gqr A h i ⟨e - 128, by omega⟩ : ℝ) : EReal) * ((A.cs i ⟨e - 128, by omega⟩ : ℝ) : EReal)
          else
            ((gqr A h i ⟨32 + (e - 128 - 32), by omega⟩ : ℝ) : EReal) * ((A.cs i ⟨e - 128 - 32, by omega⟩ : ℝ) : EReal)
              + -((gqr A h i ⟨e - 128 - 32, by omega⟩ : ℝ) : EReal) * ((A.sn i ⟨e - 128 - 32, by omega⟩ : ℝ) : EReal)
        else 0)
      + (if _ : n < 16 ∧ e < 128 then ∑ x : Fin 2080, ((dsco A h i x * scR : ℝ) : EReal) * ((A.kn x h ⟨e, by omega⟩ : ℝ) : EReal) else 0)
    else 0) = ((gq A h i ⟨e, he⟩ : ℝ) : EReal) := by
  by_cases h1 : e < 128
  · have g : gq A h i ⟨e, he⟩ = gqn A h i ⟨e, h1⟩ := by unfold gq; exact dif_pos h1
    rw [dif_pos (by omega), dif_neg (by omega), dif_pos (by omega), zero_add, g, gqn, coe_sum]
    exact Finset.sum_congr rfl fun x _ => (EReal.coe_mul _ _).symm
  by_cases h2 : e < 160
  · have g : gq A h i ⟨e, he⟩ = gqr A h i ⟨e - 128, by omega⟩ * A.cs i ⟨e - 128, by omega⟩ + gqr A h i ⟨e - 96, by omega⟩ * A.sn i ⟨e - 128, by omega⟩ := by
      unfold gq; exact (dif_neg h1).trans (dif_pos h2)
    have e1 : (⟨32 + (e - 128), by omega⟩ : Fin 64) = ⟨e - 96, by omega⟩ := Fin.ext (by simp only; omega)
    rw [dif_pos (by omega), dif_pos (by omega), dif_pos (by omega), dif_neg (by omega), add_zero, g, EReal.coe_add, EReal.coe_mul, EReal.coe_mul, add_comm, e1]
  by_cases h3 : e < 192
  · have g : gq A h i ⟨e, he⟩ = gqr A h i ⟨e - 128, by omega⟩ * A.cs i ⟨e - 160, by omega⟩ - gqr A h i ⟨e - 160, by omega⟩ * A.sn i ⟨e - 160, by omega⟩ := by
      unfold gq; exact (dif_neg h1).trans ((dif_neg h2).trans (dif_pos h3))
    have e1 : (⟨32 + (e - 128 - 32), by omega⟩ : Fin 64) = ⟨e - 128, by omega⟩ := Fin.ext (by simp only; omega)
    have e2 : (⟨e - 128 - 32, by omega⟩ : Fin 64) = ⟨e - 160, by omega⟩ := Fin.ext (by simp only; omega)
    have e3 : (⟨e - 128 - 32, by omega⟩ : Fin 32) = ⟨e - 160, by omega⟩ := Fin.ext (by simp only; omega)
    rw [dif_pos (by omega), dif_pos (by omega), dif_neg (by omega), dif_neg (by omega), add_zero, g, EReal.coe_sub, EReal.coe_mul, EReal.coe_mul,
      EReal.neg_mul, ← sub_eq_add_neg, e1, e2, e3]
  · have g : gq A h i ⟨e, he⟩ = 0 := by
      unfold gq; exact (dif_neg h1).trans ((dif_neg h2).trans (dif_neg h3))
    rw [dif_neg (by omega), g, EReal.coe_zero]

/-- The parts of a row of the keys' gradient. -/
theorem gk_parts (A : Args) (h : Fin 16) (i : Fin 2080) (e n : ℕ) (he : e < 256) (hn : n < 16) :
    (if _ : n < 16 ∧ e < 128 then ∑ x : Fin 2080, ((dsco A h x i * scR : ℝ) : EReal) * ((A.q x h ⟨e, by omega⟩ : ℝ) : EReal) else 0)
      = ((gk A h i ⟨e, he⟩ : ℝ) : EReal) := by
  by_cases h1 : e < 128
  · have g : gk A h i ⟨e, he⟩ = gkn A h i ⟨e, h1⟩ := by unfold gk; exact dif_pos h1
    rw [dif_pos (by omega), g, gkn, coe_sum]
    exact Finset.sum_congr rfl fun x _ => (EReal.coe_mul _ _).symm
  · have g : gk A h i ⟨e, he⟩ = 0 := by unfold gk; exact dif_neg h1
    rw [dif_neg (by omega), g, EReal.coe_zero]

/-- The queries' gradient at an index. -/
theorem dqR_at {X : Vec Ideal S16x2080x2080 .f32} {K : Vec Ideal S2080x16x128 .f32} {U : Vec Ideal S2080x16x64 .f32} {C S : Vec Ideal S2080x32 .f32}
    (hX : ∀ h i j, X (ix3 h i j) = ((dsco A h i j * scR : ℝ) : EReal)) (hK : ∀ i h d, K (ix3 i h d) = ((A.kn i h d : ℝ) : EReal))
    (hU : ∀ i h r, U (ix3 i h r) = ((gqr A h i r : ℝ) : EReal)) (hC : ∀ i r, C (ix2 i r) = ((A.cs i r : ℝ) : EReal)) (hS : ∀ i r, S (ix2 i r) = ((A.sn i r : ℝ) : EReal))
    (i : Fin 2080) (j : Fin 4096) :
    dqR X K U C S (ix2 i j) = ((gq A ⟨j.val / 256, by omega⟩ i ⟨j.val % 256, by omega⟩ : ℝ) : EReal) := by
  pointwise [dqR]
  simp only [hX, hK, hU, hC, hS, zero_int]
  exact gq_parts A ⟨j.val / 256, by omega⟩ i (j.val % 256) (j.val / 256) (by omega) (by omega)

/-- The keys' gradient at an index. -/
theorem dkR_at {X : Vec Ideal S16x2080x2080 .f32} {Q : Vec Ideal S2080x16x128 .f32}
    (hX : ∀ h i j, X (ix3 h i j) = ((dsco A h i j * scR : ℝ) : EReal)) (hQ : ∀ i h (d : Fin 128), Q (ix3 i h d) = ((A.q i h ⟨d.val, by omega⟩ : ℝ) : EReal))
    (i : Fin 2080) (j : Fin 4096) :
    dkR X Q (ix2 i j) = ((gk A ⟨j.val / 256, by omega⟩ i ⟨j.val % 256, by omega⟩ : ℝ) : EReal) := by
  pointwise [dkR]
  simp only [hX, hQ, zero_int]
  exact gk_parts A ⟨j.val / 256, by omega⟩ i (j.val % 256) (j.val / 256) (by omega) (by omega)

/-- The values' gradient at an index. -/
theorem dvR_at {T : Vec Ideal S16x128x2080 .f32} {P : Vec Ideal S16x2080x2080 .f32}
    (hT : ∀ h e i, T (ix3 h e i) = ((A.ct i h e : ℝ) : EReal)) (hP : ∀ h i j, P (ix3 h i j) = ((prob A h i j : ℝ) : EReal))
    (i : Fin 2080) (j : Fin 2048) :
    dvR T P (ix2 i j) = ((gv A ⟨j.val / 128, by omega⟩ i ⟨j.val % 128, by omega⟩ : ℝ) : EReal) := by
  pointwise [dvR]
  simp only [hT, hP]
  rw [gv, coe_sum]
  exact Finset.sum_congr rfl fun x _ => (mul_comm _ _).trans (EReal.coe_mul _ _).symm

/-- The gradient of the keys' shared part at an index. -/
theorem dkrR_at {X : Vec Ideal S16x2080x2080 .f32} {R : Vec Ideal S2080x16x64 .f32}
    (hX : ∀ h i j, X (ix3 h i j) = ((dsco A h i j * scR : ℝ) : EReal)) (hR : ∀ i h r, R (ix3 i h r) = ((rope A i h r : ℝ) : EReal))
    (i : Fin 2080) (j : Fin 128) :
    dkrR X R (ix2 i j) = ((gkr A i j : ℝ) : EReal) := by
  pointwise [dkrR]
  simp only [hX, hR, zero_int]
  rw [gkr, coe_sum]
  by_cases h1 : j.val < 64
  · rw [dif_pos h1, Finset.sum_comm]
    refine Finset.sum_congr rfl fun h _ => ?_
    rw [gkrh, dif_pos h1, coe_sum]
    exact Finset.sum_congr rfl fun x _ => (EReal.coe_mul _ _).symm
  · rw [dif_neg h1]
    refine (Finset.sum_eq_zero fun h _ => ?_).symm
    rw [gkrh, dif_neg h1, EReal.coe_zero]

variable {W : Valuation τ sig (Elt Ideal)} (H : Holds W A)
include H

/-- The rotated part of the queries' gradient before the rotation is undone. -/
theorem back_at (i : Fin 2080) (h : Fin 16) (r : Fin 64) :
    (res_main_v82 W : Vec Ideal S2080x16x64 .f32) (ix3 i h r) = ((gqr A h i r : ℝ) : EReal) := by
  refine (backR_at (res_main_v80 W) (W (Proc.devRef .tc main_arg2)) i h r).trans ?_
  rw [gqr, coe_sum]
  refine Finset.sum_congr rfl fun j _ => ?_
  rw [EReal.coe_mul]
  exact congrArg₂ (· * ·) (dscore_at H h i j) (H.hr j r)

/-- The queries' gradient. -/
theorem dq_res : dqR (res_main_v80 W) (W (Proc.devRef .tc main_arg1)) (res_main_v82 W) (W (Proc.devRef .tc main_arg4)) (W (Proc.devRef .tc main_arg5)) = dqArr A := by
  funext i
  obtain ⟨a, b, rfl⟩ : ∃ (a : Fin 2080) (b : Fin 4096), i = ix2 a b := ⟨i 0, i 1, eq_ix2 i⟩
  exact dqR_at (dscore_at H) H.hn (back_at H) H.hc H.hs a b

/-- The keys' gradient. -/
theorem dk_res : dkR (res_main_v80 W) (res_main_v0 W) = dkArr A := by
  funext i
  obtain ⟨a, b, rfl⟩ : ∃ (a : Fin 2080) (b : Fin 4096), i = ix2 a b := ⟨i 0, i 1, eq_ix2 i⟩
  exact dkR_at (dscore_at H) (own_at H) a b

/-- The values' gradient. -/
theorem dv_res : dvR (res_main_v62 W) (res_main_v54 W) = dvArr A := by
  funext i
  obtain ⟨a, b, rfl⟩ : ∃ (a : Fin 2080) (b : Fin 2048), i = ix2 a b := ⟨i 0, i 1, eq_ix2 i⟩
  exact dvR_at (ct_at H) (prob_at H) a b

/-- The gradient of the keys' shared part. -/
theorem dkr_res : dkrR (res_main_v80 W) (res_main_v16 W) = dkrArr A := by
  funext i
  obtain ⟨a, b, rfl⟩ : ∃ (a : Fin 2080) (b : Fin 128), i = ix2 a b := ⟨i 0, i 1, eq_ix2 i⟩
  exact dkrR_at (dscore_at H) (rot_at H) a b

end Cert.ReferenceIdeal.Value

end
-- ==== Proof.Finite.lean ====
module

public import proofs.«01_k».proof.Defs
public import proofs.«01_k».proof.Proof.RefGrad
public import Idealize.ShloMosaic.Lib.ReduceAll

@[expose] public section

set_option maxRecDepth 16384

noncomputable section

namespace Cert.Pre_finite

open Idealize.ShloMosaic

/-- The shape relations the precondition states. -/
instance facts : Facts where
  bcast_S_S2080x16x192 := by decide
  reducesTo_S2080x16x192_S_d0_1_2 := by decide
  h_S_ := by decide
  bcast_S_S2080x16x128 := by decide
  reducesTo_S2080x16x128_S_d0_1_2 := by decide
  bcast_S_S2080x64 := by decide
  reducesTo_S2080x64_S_d0_1 := by decide
  bcast_S_S2080x32 := by decide
  reducesTo_S2080x32_S_d0_1 := by decide
  bcast_S_S2080x2048 := by decide
  reducesTo_S2080x2048_S_d0_1 := by decide

/-- The literal `∞`. -/
theorem top_lit : Ideal.ofBits .f32 0x7F800000#32 = ⊤ := by
  simp [Ideal.ofBits, Ideal.ieee]

/-- A value whose magnitude is below `∞` is a real number. -/
theorem real_of_lt (x : EReal) (h : Ideal.cmp .olt (max x (-x)) (Ideal.ofBits .f32 0x7F800000#32) = 1#1) : x = ((x.toReal : ℝ) : EReal) := by
  rw [top_lit] at h
  have k : max x (-x) < ⊤ := by
    by_contra n
    simp [Ideal.cmp, n] at h
  rw [max_lt_iff] at k
  refine (EReal.coe_toReal k.1.ne ?_).symm
  rintro rfl
  simp at k

/-- An array that passes the precondition's test holds real numbers. -/
theorem real_of {s : Shape} {axes : List (Fin s.rank)} (X : FVec Ideal s .f32) (hb : S_.BroadcastsInDim s (![] : Fin 0 → Fin s.rank)) (hr : s.ReducesTo axes S_) (hu : 0 < S_.numel) (j : S_.Idx)
    (e : Host.reduce IntOp.andi (cmpf .olt (Host.absf X) (broadcastInDim s ![] hb (constant (F := Ideal) S_ .f32 0x7F800000#32))) (constantI S_ 1 1#1) hr hu j = 1#1) (i : s.Idx) :
    (X i : EReal) = (((X i : EReal).toReal : ℝ) : EReal) :=
  haveI : Subsingleton S_.Idx := ⟨fun a b => funext fun d => d.elim0⟩
  real_of_lt _ (Host.reduce_andi_all _ _ hr hu j e i)

/-- The precondition says of each argument that it holds real numbers. -/
theorem real_args (a0 : FVec Ideal S2080x16x192 .f32) (a1 : FVec Ideal S2080x16x128 .f32) (a2 : FVec Ideal S2080x64 .f32) (a3 : FVec Ideal S2080x16x128 .f32)
    (a4 a5 : FVec Ideal S2080x32 .f32) (a6 : FVec Ideal S2080x2048 .f32) (h : fn (F := Ideal) a0 a1 a2 a3 a4 a5 a6 = fun _ => 1#1) :
    (∀ i, (a0 i : EReal) = (((a0 i : EReal).toReal : ℝ) : EReal)) ∧ (∀ i, (a1 i : EReal) = (((a1 i : EReal).toReal : ℝ) : EReal))
      ∧ (∀ i, (a2 i : EReal) = (((a2 i : EReal).toReal : ℝ) : EReal)) ∧ (∀ i, (a3 i : EReal) = (((a3 i : EReal).toReal : ℝ) : EReal))
      ∧ (∀ i, (a4 i : EReal) = (((a4 i : EReal).toReal : ℝ) : EReal)) ∧ (∀ i, (a5 i : EReal) = (((a5 i : EReal).toReal : ℝ) : EReal))
      ∧ (∀ i, (a6 i : EReal) = (((a6 i : EReal).toReal : ℝ) : EReal)) := by
  have e6 := IntOp.andi_eq_one.1 (congrFun h (fun d => d.elim0))
  have e5 := IntOp.andi_eq_one.1 e6.1
  have e4 := IntOp.andi_eq_one.1 e5.1
  have e3 := IntOp.andi_eq_one.1 e4.1
  have e2 := IntOp.andi_eq_one.1 e3.1
  have e1 := IntOp.andi_eq_one.1 e2.1
  clear h
  have r0 := real_of a0 Facts.bcast_S_S2080x16x192 Facts.reducesTo_S2080x16x192_S_d0_1_2 Facts.h_S_ _ e1.1
  have r1 := real_of a1 Facts.bcast_S_S2080x16x128 Facts.reducesTo_S2080x16x128_S_d0_1_2 Facts.h_S_ _ e1.2
  have r2 := real_of a2 Facts.bcast_S_S2080x64 Facts.reducesTo_S2080x64_S_d0_1 Facts.h_S_ _ e2.2
  have r3 := real_of a3 Facts.bcast_S_S2080x16x128 Facts.reducesTo_S2080x16x128_S_d0_1_2 Facts.h_S_ _ e3.2
  have r4 := real_of a4 Facts.bcast_S_S2080x32 Facts.reducesTo_S2080x32_S_d0_1 Facts.h_S_ _ e4.2
  have r5 := real_of a5 Facts.bcast_S_S2080x32 Facts.reducesTo_S2080x32_S_d0_1 Facts.h_S_ _ e5.2
  have r6 := real_of a6 Facts.bcast_S_S2080x2048 Facts.reducesTo_S2080x2048_S_d0_1 Facts.h_S_ _ e6.2
  exact ⟨r0, r1, r2, r3, r4, r5, r6⟩

end Cert.Pre_finite

namespace Cert.Attention

open Cert.KernelIdeal Idealize.ShloMosaic

/-- The arguments as real functions. -/
def argsOf (a0 : Vec Ideal S2080x16x192 .f32) (a1 : Vec Ideal S2080x16x128 .f32) (a2 : Vec Ideal S2080x64 .f32) (a3 : Vec Ideal S2080x16x128 .f32)
    (a4 a5 : Vec Ideal S2080x32 .f32) (a6 : Vec Ideal S2080x2048 .f32) : Args where
  q i h d := EReal.toReal (a0 (ix3 i h d))
  kn i h d := EReal.toReal (a1 (ix3 i h d))
  kr i r := EReal.toReal (a2 (ix2 i r))
  v i h d := EReal.toReal (a3 (ix3 i h d))
  cs i r := EReal.toReal (a4 (ix2 i r))
  sn i r := EReal.toReal (a5 (ix2 i r))
  ct i h e := EReal.toReal (a6 (ix2 i ⟨h.val * 128 + e.val, by omega⟩))

/-- The cotangent's lanes by head. -/
theorem lanes (a6 : Vec Ideal S2080x2048 .f32) (i : Fin 2080) (j : Fin 2048) (h : ∀ k, (a6 k : EReal) = ((EReal.toReal (a6 k) : ℝ) : EReal)) :
    (a6 (ix2 i j) : EReal) = ((EReal.toReal (a6 (ix2 i ⟨j.val / 128 * 128 + j.val % 128, by omega⟩)) : ℝ) : EReal) := by
  have e : (⟨j.val / 128 * 128 + j.val % 128, by omega⟩ : Fin 2048) = j := Fin.ext (by simp only; omega)
  rw [e]
  exact h _

end Cert.Attention

end
-- ==== Proof.FfnBlocks.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem
open scoped BigOperators

/-- A hidden unit's block of columns. -/
abbrev colBlk (j : Fin 5632) : Fin 4 := ⟨j.val / 1408, by omega⟩

/-- A hidden unit's place in its block of columns. -/
abbrev colIn (j : Fin 5632) : Fin 1408 := ⟨j.val % 1408, by omega⟩

/-- A product of the rows of `X` with a weight stored as four blocks of columns. -/
def upE (X : Vec Ideal S2080x2048 .bf16) (W : Vec Ideal S4x2048x1408 .bf16) (r : Fin 2080) (j : Fin 5632) : EReal :=
  ∑ k : Fin 2048, X (ix2 r k) * W (ix3 (colBlk j) k (colIn j))

/-- The logistic function as both calls spell it. -/
def sigE (x : EReal) : EReal := Ideal.div 1 (1 + Ideal.exp (0 - x))

/-- The derivative of `x * logistic x` as the call spells it, from `x`. -/
def dsilE (x : EReal) : EReal := sigE x * (1 + x * (1 - sigE x))

/-- A sum over the hidden units block by block. -/
theorem sum_blocks (f : Fin 5632 → EReal) :
    ∑ j, f j = ∑ p : Fin 4, ∑ k : Fin 1408, f ⟨p.val * 1408 + k.val, by omega⟩ := by
  rw [← Fintype.sum_prod_type']
  refine (Fintype.sum_equiv (finProdFinEquiv (m := 4) (n := 1408)) _ _ fun x => ?_).symm
  congr 1
  refine Fin.ext ?_
  simp only [finProdFinEquiv_apply_val]
  omega

/-- The forward product at an entry of a block. -/
theorem pay0_2_at (X : Vec Ideal S416x2048 .bf16) (W : Vec Ideal S1x2048x1408 .bf16) (a : Fin 416) (b : Fin 1408) :
    (k0_pay2 X W : Vec Ideal S416x1408 .f32) (ix2 a b) = ∑ k : Fin 2048, X (ix2 a k) * W (ix3 0 k b) := by
  pointwise [k0_pay2, k0_pay1]

/-- The second forward product at an entry of a block. -/
theorem pay0_3_at (X : Vec Ideal S416x2048 .bf16) (W : Vec Ideal S1x2048x1408 .bf16) (a : Fin 416) (b : Fin 1408) :
    (k0_pay3 X W : Vec Ideal S416x1408 .f32) (ix2 a b) = ∑ k : Fin 2048, X (ix2 a k) * W (ix3 0 k b) := by
  pointwise [k0_pay3, k0_pay1]

/-- The gated product at an entry of a block. -/
theorem pay0_4_at (X : Vec Ideal S416x2048 .bf16) (W U : Vec Ideal S1x2048x1408 .bf16) (a : Fin 416) (b : Fin 1408) :
    (k0_pay4 X W U : Vec Ideal S416x1408 .bf16) (ix2 a b)
      = ((∑ k : Fin 2048, X (ix2 a k) * W (ix3 0 k b)) * sigE (∑ k : Fin 2048, X (ix2 a k) * W (ix3 0 k b)))
        * (∑ k : Fin 2048, X (ix2 a k) * U (ix3 0 k b)) := by
  pointwise [k0_pay4, k0_pay3, k0_pay2, k0_pay1]
  rfl

/-- Where each window's block lies. -/
theorem idx0 : ∀ t : Fin cfg0.N,
    win0_0.index t = ![t.val % 5, 0] ∧ win0_1.index t = ![t.val / 5, 0, 0] ∧ win0_2.index t = ![t.val / 5, 0, 0] ∧
    win0_3.index t = ![t.val % 5, t.val / 5] ∧ win0_4.index t = ![t.val % 5, t.val / 5] ∧ win0_5.index t = ![t.val % 5, t.val / 5] :=
  (by decide +kernel : ∀ t : Fin grid0.N, _)

/-- The number of grid points. -/
theorem lt0 (t : Fin cfg0.N) : t.val < 20 := Nat.lt_of_lt_of_eq t.isLt (N_0 : cfg0.N = 20)

/-- The rows a grid point works on. -/
abbrev row0 (t : Fin cfg0.N) (a : Fin 416) : Fin 2080 := ⟨(t.val % 5) * 416 + a.val, by omega⟩

/-- The hidden units a grid point works on. -/
abbrev col0 (t : Fin cfg0.N) (b : Fin 1408) : Fin 5632 := ⟨(t.val / 5) * 1408 + b.val, by have := lt0 t; omega⟩

variable (V : (c : Dev nD) → (b : Ref sig .tc) → Buf (Elt Ideal) ((c : Thread nD τ).loc b)) (c : Dev nD)

/-- The array of a forward product. -/
def upArr (X : Vec Ideal S2080x2048 .bf16) (W : Vec Ideal S4x2048x1408 .bf16) : Vec Ideal S2080x5632 .f32 :=
  fun i => upE X W (i 0) (i 1)

/-- The array of the gated product. -/
def gatedArr (X : Vec Ideal S2080x2048 .bf16) (W U : Vec Ideal S4x2048x1408 .bf16) : Vec Ideal S2080x5632 .bf16 :=
  fun i => (upE X W (i 0) (i 1) * sigE (upE X W (i 0) (i 1))) * upE X U (i 0) (i 1)

/-- The first forward product. -/
theorem final0_3 : (dat0 V c).arrAt 3 cfg0.N = upArr (V c main_v0) (V c main_v3) := by
  refine (dat0 V c).arrAt_eq_of_covers 3 _ (by decide +kernel) fun t _ y => ?_
  blk_simp
  rw [after0_3]
  frame_out
  idx_vars y
  have e : ((View.whole main_v9_0).slice (win0_3.rect t)).emb (ix2 y0 y1) = ix2 (row0 t y0) (col0 t y1) := by
    blk_ext [idx0 t]
  rw [e]
  refine (pay0_2_at _ _ _ _).trans ?_
  show _ = upE (V c main_v0) (V c main_v3) (row0 t y0) (col0 t y1)
  unfold upE
  blk_point [iblk0, idx0 t]

/-- The second forward product. -/
theorem final0_4 : (dat0 V c).arrAt 4 cfg0.N = upArr (V c main_v0) (V c main_v6) := by
  refine (dat0 V c).arrAt_eq_of_covers 4 _ (by decide +kernel) fun t _ y => ?_
  blk_simp
  rw [after0_4]
  frame_out
  idx_vars y
  have e : ((View.whole main_v9_1).slice (win0_4.rect t)).emb (ix2 y0 y1) = ix2 (row0 t y0) (col0 t y1) := by
    blk_ext [idx0 t]
  rw [e]
  refine (pay0_3_at _ _ _ _).trans ?_
  show _ = upE (V c main_v0) (V c main_v6) (row0 t y0) (col0 t y1)
  unfold upE
  blk_point [iblk0, idx0 t]

/-- The gated product. -/
theorem final0_5 : (dat0 V c).arrAt 5 cfg0.N = gatedArr (V c main_v0) (V c main_v3) (V c main_v6) := by
  refine (dat0 V c).arrAt_eq_of_covers 5 _ (by decide +kernel) fun t _ y => ?_
  blk_simp
  rw [after0_5]
  frame_out
  idx_vars y
  have e : ((View.whole main_v9_2).slice (win0_5.rect t)).emb (ix2 y0 y1) = ix2 (row0 t y0) (col0 t y1) := by
    blk_ext [idx0 t]
  rw [e]
  refine (pay0_4_at _ _ _ _ _).trans ?_
  show _ = (upE (V c main_v0) (V c main_v3) (row0 t y0) (col0 t y1) * sigE (upE (V c main_v0) (V c main_v3) (row0 t y0) (col0 t y1))) * upE (V c main_v0) (V c main_v6) (row0 t y0) (col0 t y1)
  unfold sigE upE
  blk_point [iblk0, idx0 t]

/-- Where each window's block lies. -/
theorem idx1 : ∀ t : Fin cfg1.N,
    win1_0.index t = ![t.val / 4, 0] ∧ win1_1.index t = ![0, t.val % 4] ∧ win1_2.index t = ![t.val / 4, t.val % 4] ∧
    win1_3.index t = ![t.val / 4, t.val % 4] :=
  (by decide +kernel : ∀ t : Fin grid1.N, _)

/-- The number of grid points. -/
theorem lt1 (t : Fin cfg1.N) : t.val < 8 := Nat.lt_of_lt_of_eq t.isLt (N_1 : cfg1.N = 8)

/-- The product with the down projection, added to the residual, at an entry of a block. -/
theorem pay1_1_at (X : Vec Ideal S1040x5632 .bf16) (W : Vec Ideal S5632x512 .bf16) (R : Vec Ideal S1040x512 .f32) (a : Fin 1040) (b : Fin 512) :
    (k1_pay1 X W R : Vec Ideal S1040x512 .f32) (ix2 a b) = (∑ k : Fin 5632, X (ix2 a k) * W (ix2 k b)) + R (ix2 a b) := by
  pointwise [k1_pay1]

/-- The array of the residual plus the product with the down projection. -/
def downArr (X : Vec Ideal S2080x5632 .bf16) (W : Vec Ideal S5632x2048 .bf16) (R : Vec Ideal S2080x2048 .f32) : Vec Ideal S2080x2048 .f32 :=
  fun i => (∑ k : Fin 5632, X (ix2 (i 0) k) * W (ix2 k (i 1))) + R (ix2 (i 0) (i 1))

/-- The rows and columns a grid point works on. -/
abbrev row1 (t : Fin cfg1.N) (a : Fin 1040) : Fin 2080 := ⟨(t.val / 4) * 1040 + a.val, by have := lt1 t; omega⟩
abbrev col1 (t : Fin cfg1.N) (b : Fin 512) : Fin 2048 := ⟨(t.val % 4) * 512 + b.val, by omega⟩

/-- The residual plus the product with the down projection. -/
theorem final1_3 : (dat1 V c).arrAt 3 cfg1.N = downArr (V c main_v9_2) (V c main_v7) (V c main_arg0) := by
  refine (dat1 V c).arrAt_eq_of_covers 3 _ (by decide +kernel) fun t _ y => ?_
  blk_simp
  rw [after1_3]
  frame_out
  idx_vars y
  have e : ((View.whole main_v10).slice (win1_3.rect t)).emb (ix2 y0 y1) = ix2 (row1 t y0) (col1 t y1) := by
    blk_ext [idx1 t]
  rw [e]
  refine (pay1_1_at _ _ _ _ _).trans ?_
  show _ = downArr (V c main_v9_2) (V c main_v7) (V c main_arg0) (ix2 (row1 t y0) (col1 t y1))
  unfold downArr
  blk_point [iblk1, idx1 t]

/-- Where each window's block lies. -/
theorem idx2 : ∀ t : Fin cfg2.N,
    win2_0.index t = ![0, t.val / 2] ∧ win2_1.index t = ![0, t.val % 2] ∧ win2_2.index t = ![t.val / 2, t.val % 2] :=
  (by decide +kernel : ∀ t : Fin grid2.N, _)

/-- The number of grid points. -/
theorem lt2 (t : Fin cfg2.N) : t.val < 8 := Nat.lt_of_lt_of_eq t.isLt (N_2 : cfg2.N = 8)

/-- The gradient of the down projection at an entry of a block. -/
theorem pay2_1_at (X : Vec Ideal S2080x1408 .bf16) (Y : Vec Ideal S2080x1024 .bf16) (a : Fin 1408) (b : Fin 1024) :
    (k2_pay1 X Y : Vec Ideal S1408x1024 .bf16) (ix2 a b) = ∑ k : Fin 2080, X (ix2 k a) * Y (ix2 k b) := by
  pointwise [k2_pay1]

/-- The array of the down projection's gradient. -/
def gDownArr (X : Vec Ideal S2080x5632 .bf16) (Y : Vec Ideal S2080x2048 .bf16) : Vec Ideal S5632x2048 .bf16 :=
  fun i => ∑ k : Fin 2080, X (ix2 k (i 0)) * Y (ix2 k (i 1))

/-- The rows and columns a grid point works on. -/
abbrev row2 (t : Fin cfg2.N) (a : Fin 1408) : Fin 5632 := ⟨(t.val / 2) * 1408 + a.val, by have := lt2 t; omega⟩
abbrev col2 (t : Fin cfg2.N) (b : Fin 1024) : Fin 2048 := ⟨(t.val % 2) * 1024 + b.val, by omega⟩

/-- The gradient of the down projection. -/
theorem final2_2 : (dat2 V c).arrAt 2 cfg2.N = gDownArr (V c main_v9_2) (V c main_v8) := by
  refine (dat2 V c).arrAt_eq_of_covers 2 _ (by decide +kernel) fun t _ y => ?_
  blk_simp
  rw [after2_2]
  frame_out
  idx_vars y
  have e : ((View.whole main_v11).slice (win2_2.rect t)).emb (ix2 y0 y1) = ix2 (row2 t y0) (col2 t y1) := by
    blk_ext [idx2 t]
  rw [e]
  refine (pay2_1_at _ _ _ _).trans ?_
  show _ = gDownArr (V c main_v9_2) (V c main_v8) (ix2 (row2 t y0) (col2 t y1))
  unfold gDownArr
  blk_point [iblk2, idx2 t]

/-- Where each window's block lies. -/
theorem idx3 : ∀ t : Fin cfg3.N,
    win3_0.index t = ![t.val % 5, 0] ∧ win3_1.index t = ![t.val / 5, 0] ∧ win3_2.index t = ![t.val % 5, t.val / 5] ∧
    win3_3.index t = ![t.val % 5, t.val / 5] ∧ win3_4.index t = ![t.val % 5, t.val / 5] ∧ win3_5.index t = ![t.val % 5, t.val / 5] :=
  (by decide +kernel : ∀ t : Fin grid3.N, _)

/-- The number of grid points. -/
theorem lt3 (t : Fin cfg3.N) : t.val < 20 := Nat.lt_of_lt_of_eq t.isLt (N_3 : cfg3.N = 20)

/-- The gradient of the first forward product at an entry of a block. -/
theorem pay3_4_at (Y : Vec Ideal S416x2048 .bf16) (W : Vec Ideal S1408x2048 .bf16) (A B : Vec Ideal S416x1408 .f32) (a : Fin 416) (b : Fin 1408) :
    (k3_pay4 Y W A B : Vec Ideal S416x1408 .bf16) (ix2 a b)
      = ((∑ k : Fin 2048, Y (ix2 a k) * W (ix2 b k)) * B (ix2 a b)) * dsilE (A (ix2 a b)) := by
  pointwise [k3_pay4, k3_pay3, k3_pay2, k3_pay1]
  rfl

/-- The gradient of the second forward product at an entry of a block. -/
theorem pay3_5_at (Y : Vec Ideal S416x2048 .bf16) (W : Vec Ideal S1408x2048 .bf16) (A : Vec Ideal S416x1408 .f32) (a : Fin 416) (b : Fin 1408) :
    (k3_pay5 Y W A : Vec Ideal S416x1408 .bf16) (ix2 a b)
      = (∑ k : Fin 2048, Y (ix2 a k) * W (ix2 b k)) * (A (ix2 a b) * sigE (A (ix2 a b))) := by
  pointwise [k3_pay5, k3_pay3, k3_pay2, k3_pay1]
  rfl

/-- The arrays of the gradients of the two forward products. -/
def gGateArr (Y : Vec Ideal S2080x2048 .bf16) (W : Vec Ideal S5632x2048 .bf16) (A B : Vec Ideal S2080x5632 .f32) : Vec Ideal S2080x5632 .bf16 :=
  fun i => ((∑ k : Fin 2048, Y (ix2 (i 0) k) * W (ix2 (i 1) k)) * B (ix2 (i 0) (i 1))) * dsilE (A (ix2 (i 0) (i 1)))
/-- The gate's part of the cotangent of the second up projection. -/
def gUpArr (Y : Vec Ideal S2080x2048 .bf16) (W : Vec Ideal S5632x2048 .bf16) (A : Vec Ideal S2080x5632 .f32) : Vec Ideal S2080x5632 .bf16 :=
  fun i => (∑ k : Fin 2048, Y (ix2 (i 0) k) * W (ix2 (i 1) k)) * (A (ix2 (i 0) (i 1)) * sigE (A (ix2 (i 0) (i 1))))

/-- The rows and hidden units a grid point works on. -/
abbrev row3 (t : Fin cfg3.N) (a : Fin 416) : Fin 2080 := ⟨(t.val % 5) * 416 + a.val, by omega⟩
abbrev col3 (t : Fin cfg3.N) (b : Fin 1408) : Fin 5632 := ⟨(t.val / 5) * 1408 + b.val, by have := lt3 t; omega⟩

/-- The gradient of the first forward product. -/
theorem final3_4 : (dat3 V c).arrAt 4 cfg3.N = gGateArr (V c main_v8) (V c main_v7) (V c main_v9_0) (V c main_v9_1) := by
  refine (dat3 V c).arrAt_eq_of_covers 4 _ (by decide +kernel) fun t _ y => ?_
  blk_simp
  rw [after3_4]
  frame_out
  idx_vars y
  have e : ((View.whole main_v12_0).slice (win3_4.rect t)).emb (ix2 y0 y1) = ix2 (row3 t y0) (col3 t y1) := by
    blk_ext [idx3 t]
  rw [e]
  refine (pay3_4_at _ _ _ _ _ _).trans ?_
  show _ = gGateArr (V c main_v8) (V c main_v7) (V c main_v9_0) (V c main_v9_1) (ix2 (row3 t y0) (col3 t y1))
  unfold gGateArr dsilE sigE
  blk_point [iblk3, idx3 t]

/-- The gradient of the second forward product. -/
theorem final3_5 : (dat3 V c).arrAt 5 cfg3.N = gUpArr (V c main_v8) (V c main_v7) (V c main_v9_0) := by
  refine (dat3 V c).arrAt_eq_of_covers 5 _ (by decide +kernel) fun t _ y => ?_
  blk_simp
  rw [after3_5]
  frame_out
  idx_vars y
  have e : ((View.whole main_v12_1).slice (win3_5.rect t)).emb (ix2 y0 y1) = ix2 (row3 t y0) (col3 t y1) := by
    blk_ext [idx3 t]
  rw [e]
  refine (pay3_5_at _ _ _ _ _).trans ?_
  show _ = gUpArr (V c main_v8) (V c main_v7) (V c main_v9_0) (ix2 (row3 t y0) (col3 t y1))
  unfold gUpArr sigE
  blk_point [iblk3, idx3 t]

/-- Where each window's block lies. -/
theorem idx4 : ∀ t : Fin cfg4.N,
    win4_0.index t = ![0, t.val / 4] ∧ win4_1.index t = ![0, t.val % 4] ∧ win4_2.index t = ![t.val % 4, t.val / 4, 0] :=
  (by decide +kernel : ∀ t : Fin grid4.N, _)

/-- The number of grid points. -/
theorem lt4 (t : Fin cfg4.N) : t.val < 8 := Nat.lt_of_lt_of_eq t.isLt (N_4 : cfg4.N = 8)

/-- The gradient of a weight at an entry of a block. -/
theorem pay4_1_at (X : Vec Ideal S2080x1024 .bf16) (Y : Vec Ideal S2080x1408 .bf16) (o : Fin 1) (a : Fin 1024) (b : Fin 1408) :
    (k4_pay1 X Y : Vec Ideal S1x1024x1408 .bf16) (ix3 o a b) = ∑ k : Fin 2080, X (ix2 k a) * Y (ix2 k b) := by
  pointwise [k4_pay1]

/-- The array of a weight's gradient, as four blocks of columns. -/
def gWeightArr (X : Vec Ideal S2080x2048 .bf16) (Y : Vec Ideal S2080x5632 .bf16) : Vec Ideal S4x2048x1408 .bf16 :=
  fun i => ∑ k : Fin 2080, X (ix2 k (i 1)) * Y (ix2 k ⟨(i 0).val * 1408 + (i 2).val, by have h0 : (i 0).val < 4 := (i 0).isLt; have h2 : (i 2).val < 1408 := (i 2).isLt; omega⟩)

/-- The block and the rows a grid point works on. -/
abbrev blk4 (t : Fin cfg4.N) : Fin 4 := ⟨t.val % 4, by omega⟩
abbrev row4 (t : Fin cfg4.N) (a : Fin 1024) : Fin 2048 := ⟨(t.val / 4) * 1024 + a.val, by have := lt4 t; omega⟩

/-- The gradient of the gate's weight. -/
theorem final4_2 : (dat4 V c).arrAt 2 cfg4.N = gWeightArr (V c main_v0) (V c main_v12_0) := by
  refine (dat4 V c).arrAt_eq_of_covers 2 _ (by decide +kernel) fun t _ y => ?_
  blk_simp
  rw [after4_2]
  frame_out
  idx_vars y
  have e : ((View.whole main_v13).slice (win4_2.rect t)).emb (ix3 y0 y1 y2) = ix3 (blk4 t) (row4 t y1) y2 := by
    blk_ext [idx4 t]
  rw [e]
  refine (pay4_1_at _ _ _ _ _).trans ?_
  show _ = gWeightArr (V c main_v0) (V c main_v12_0) (ix3 (blk4 t) (row4 t y1) y2)
  unfold gWeightArr
  blk_point [iblk4, idx4 t]

/-- Where each window's block lies. -/
theorem idx5 : ∀ t : Fin cfg5.N,
    win5_0.index t = ![0, t.val / 4] ∧ win5_1.index t = ![0, t.val % 4] ∧ win5_2.index t = ![t.val % 4, t.val / 4, 0] :=
  (by decide +kernel : ∀ t : Fin grid5.N, _)

/-- The number of grid points. -/
theorem lt5 (t : Fin cfg5.N) : t.val < 8 := Nat.lt_of_lt_of_eq t.isLt (N_5 : cfg5.N = 8)

/-- The gradient of a weight at an entry of a block. -/
theorem pay5_1_at (X : Vec Ideal S2080x1024 .bf16) (Y : Vec Ideal S2080x1408 .bf16) (o : Fin 1) (a : Fin 1024) (b : Fin 1408) :
    (k5_pay1 X Y : Vec Ideal S1x1024x1408 .bf16) (ix3 o a b) = ∑ k : Fin 2080, X (ix2 k a) * Y (ix2 k b) := by
  pointwise [k5_pay1]

/-- The block and the rows a grid point works on. -/
abbrev blk5 (t : Fin cfg5.N) : Fin 4 := ⟨t.val % 4, by omega⟩
abbrev row5 (t : Fin cfg5.N) (a : Fin 1024) : Fin 2048 := ⟨(t.val / 4) * 1024 + a.val, by have := lt5 t; omega⟩

/-- The gradient of the up projection's weight. -/
theorem final5_2 : (dat5 V c).arrAt 2 cfg5.N = gWeightArr (V c main_v0) (V c main_v12_1) := by
  refine (dat5 V c).arrAt_eq_of_covers 2 _ (by decide +kernel) fun t _ y => ?_
  blk_simp
  rw [after5_2]
  frame_out
  idx_vars y
  have e : ((View.whole main_v14).slice (win5_2.rect t)).emb (ix3 y0 y1 y2) = ix3 (blk5 t) (row5 t y1) y2 := by
    blk_ext [idx5 t]
  rw [e]
  refine (pay5_1_at _ _ _ _ _).trans ?_
  show _ = gWeightArr (V c main_v0) (V c main_v12_1) (ix3 (blk5 t) (row5 t y1) y2)
  unfold gWeightArr
  blk_point [iblk5, idx5 t]

/-- Where each window's block lies. -/
theorem idx6 : ∀ t : Fin cfg6.N,
    win6_0.index t = ![t.val / 4, 0] ∧ win6_1.index t = ![t.val / 4, 0] ∧ win6_2.index t = ![0, t.val % 4, 0] ∧
    win6_3.index t = ![0, t.val % 4, 0] ∧ win6_4.index t = ![t.val / 4, t.val % 4] :=
  (by decide +kernel : ∀ t : Fin grid6.N, _)

/-- The number of grid points. -/
theorem lt6 (t : Fin cfg6.N) : t.val < 20 := Nat.lt_of_lt_of_eq t.isLt (N_6 : cfg6.N = 20)

/-- The gradient of the normalised input at an entry of a block, from four chunks of hidden units each loaded on its own. -/
theorem pay6_1_at (A B : Vec Ideal S416x5632 .bf16) (W U : Vec Ideal S4x512x1408 .bf16) (a : Fin 416) (b : Fin 512) :
    (k6_pay1 (k6_pay2 (View.ld (Val := Elt Ideal) (e' := .bf16) A r6_0) (View.ld (Val := Elt Ideal) (e' := .bf16) W r6_1) (View.ld (Val := Elt Ideal) (e' := .bf16) B r6_0) (View.ld (Val := Elt Ideal) (e' := .bf16) U r6_1) (View.ld (Val := Elt Ideal) (e' := .bf16) A r6_2) (View.ld (Val := Elt Ideal) (e' := .bf16) W r6_3) (View.ld (Val := Elt Ideal) (e' := .bf16) B r6_2) (View.ld (Val := Elt Ideal) (e' := .bf16) U r6_3)) (k6_pay3 (View.ld (Val := Elt Ideal) (e' := .bf16) A r6_4) (View.ld (Val := Elt Ideal) (e' := .bf16) W r6_5)) (View.ld (Val := Elt Ideal) (e' := .bf16) B r6_4) (View.ld (Val := Elt Ideal) (e' := .bf16) U r6_5) (View.ld (Val := Elt Ideal) (e' := .bf16) A r6_6) (View.ld (Val := Elt Ideal) (e' := .bf16) W r6_7) (View.ld (Val := Elt Ideal) (e' := .bf16) B r6_6) (View.ld (Val := Elt Ideal) (e' := .bf16) U r6_7) : Vec Ideal S416x512 .bf16) (ix2 a b)
      = ∑ p : Fin 4, ((∑ k : Fin 1408, A (ix2 a ⟨p.val * 1408 + k.val, by omega⟩) * W (ix3 p b k))
          + ∑ k : Fin 1408, B (ix2 a ⟨p.val * 1408 + k.val, by omega⟩) * U (ix3 p b k)) := by
  simp only [Fin.sum_univ_four]
  pointwise [k6_pay1, k6_pay2, k6_pay3]

/-- The array of the normalised input's gradient. -/
def gInArr (A B : Vec Ideal S2080x5632 .bf16) (W U : Vec Ideal S4x2048x1408 .bf16) : Vec Ideal S2080x2048 .bf16 :=
  fun i => ∑ p : Fin 4, ((∑ k : Fin 1408, A (ix2 (i 0) ⟨p.val * 1408 + k.val, by omega⟩) * W (ix3 p (i 1) k))
          + ∑ k : Fin 1408, B (ix2 (i 0) ⟨p.val * 1408 + k.val, by omega⟩) * U (ix3 p (i 1) k))

/-- The rows and columns a grid point works on. -/
abbrev row6 (t : Fin cfg6.N) (a : Fin 416) : Fin 2080 := ⟨(t.val / 4) * 416 + a.val, by have := lt6 t; omega⟩
abbrev col6 (t : Fin cfg6.N) (b : Fin 512) : Fin 2048 := ⟨(t.val % 4) * 512 + b.val, by omega⟩

/-- The gradient of the normalised input. -/
theorem final6_4 : (dat6 V c).arrAt 4 cfg6.N = gInArr (V c main_v12_0) (V c main_v12_1) (V c main_v3) (V c main_v6) := by
  refine (dat6 V c).arrAt_eq_of_covers 4 _ (by decide +kernel) fun t _ y => ?_
  blk_simp
  rw [after6_4]
  frame_out
  idx_vars y
  have e : ((View.whole main_v15).slice (win6_4.rect t)).emb (ix2 y0 y1) = ix2 (row6 t y0) (col6 t y1) := by
    blk_ext [idx6 t]
  rw [e]
  refine (pay6_1_at _ _ _ _ _ _).trans ?_
  show _ = gInArr (V c main_v12_0) (V c main_v12_1) (V c main_v3) (V c main_v6) (ix2 (row6 t y0) (col6 t y1))
  unfold gInArr
  blk_point [iblk6, idx6 t]

end Cert.Kernel2Ideal.Value

end
-- ==== Proof.FfnRun.lean ====
module

public import proofs.«01_k».proof.Proof.FfnBlocks
public import Idealize.ShloMosaic.Lib.Claim
public import Idealize.ShloMosaic.Lib.StableHlo.ReadAt

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program: it ends, each of the five results is what the last region's exit holds of it, and the arguments
    are as they were. -/
theorem run_results : θ_run defs (onTc (τ := τ) (main (F := F))) ⟨m, fun _ => 0, ρ⟩ (fun r => ∀ c : Dev nD,
      r.2.mem ((c.tc : Thread nD τ).loc main_v10) = W8 m ρ c (Proc.devRef .tc main_v10)
      ∧ r.2.mem ((c.tc : Thread nD τ).loc main_v15) = W8 m ρ c (Proc.devRef .tc main_v15)
      ∧ r.2.mem ((c.tc : Thread nD τ).loc main_v13) = W8 m ρ c (Proc.devRef .tc main_v13)
      ∧ r.2.mem ((c.tc : Thread nD τ).loc main_v14) = W8 m ρ c (Proc.devRef .tc main_v14)
      ∧ r.2.mem ((c.tc : Thread nD τ).loc main_v11) = W8 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨h c _ (mem_uc main_v10 (by decide)), h c _ (mem_uc main_v15 (by decide)), h c _ (mem_uc main_v13 (by decide)),
       h c _ (mem_uc main_v14 (by decide)), h c _ (mem_uc main_v11 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Kernel2Ideal.Gen

namespace Cert.Kernel2Ideal.Value

open Cert.Kernel2Ideal Cert.Kernel2Ideal.Gen Idealize.ShloMosaic Idealize.ShloMosaic.TcCoe Idealize.SL.Sem Idealize.ShloMosaic.StableHlo
open scoped BigOperators

/-! ## The host's part -/

/-- The change of float type before the calls. -/
def narrow {S : Shape} (X : Vec Ideal S .f32) : Vec Ideal S .bf16 :=
  truncf (F := Ideal) .bf16 X bitsLt_bf16_f32

/-- It changes no number. -/
theorem narrow_at {S : Shape} (X : Vec Ideal S .f32) (i : S.Idx) : narrow X i = X i := rfl

/-- A weight as four blocks of columns. -/
def splitCols (W : Vec Ideal S2048x5632 .f32) : Vec Ideal S4x2048x1408 .bf16 :=
  transpose S4x2048x1408 [1, 0, 2] (shapeCast S2048x4x1408 (narrow W) shapeCasts_S2048x5632_S2048x4x1408) transposes_S2048x4x1408_S4x2048x1408_1_0_2

/-- A block's entry is the weight's. -/
theorem splitCols_at (W : Vec Ideal S2048x5632 .f32) (p : Fin 4) (k : Fin 2048) (b : Fin 1408) :
    splitCols W (ix3 p k b) = W (ix2 k ⟨p.val * 1408 + b.val, by omega⟩) := by
  pointwise [splitCols, narrow]

variable (m : (ℓ : Loc nD τ sig) → Buf (Elt Ideal) ℓ) (ρ : Dev nD → PrngReg) (c : Dev nD)

/-- The tokens as the calls take them. -/
theorem V1_v0 : V1 m ρ c main_v0 = narrow (m ((c.tc : Thread nD τ).loc main_arg1)) := by
  after_reads_simp
  try rfl

/-- The gate's weight as the calls take it. -/
theorem V1_v3 : V1 m ρ c main_v3 = splitCols (m ((c.tc : Thread nD τ).loc main_arg2)) := by
  after_reads_simp
  try rfl

/-- The up projection's weight as the calls take it. -/
theorem V1_v6 : V1 m ρ c main_v6 = splitCols (m ((c.tc : Thread nD τ).loc main_arg3)) := by
  after_reads_simp
  try rfl

/-- The down projection's weight as the calls take it. -/
theorem V1_v7 : V1 m ρ c main_v7 = narrow (m ((c.tc : Thread nD τ).loc main_arg4)) := by
  after_reads_simp
  try rfl

/-- The cotangent as the calls take it. -/
theorem V1_v8 : V1 m ρ c main_v8 = narrow (m ((c.tc : Thread nD τ).loc main_arg5)) := by
  after_reads_simp
  try rfl

/-! ## The five results from the arguments -/

section Chain

/-- The up projections' results, the gated product and the two gradients that the calls leave between them. -/
def midA (X : Vec Ideal S2080x2048 .f32) (W : Vec Ideal S2048x5632 .f32) : Vec Ideal S2080x5632 .f32 :=
  upArr (narrow X) (splitCols W)
/-- The gated product, from the arguments. -/
def midF (X : Vec Ideal S2080x2048 .f32) (W U : Vec Ideal S2048x5632 .f32) : Vec Ideal S2080x5632 .bf16 :=
  gatedArr (narrow X) (splitCols W) (splitCols U)
/-- The gate's cotangent, from the arguments. -/
def midDa (X : Vec Ideal S2080x2048 .f32) (W U : Vec Ideal S2048x5632 .f32) (D : Vec Ideal S5632x2048 .f32) (Y : Vec Ideal S2080x2048 .f32) : Vec Ideal S2080x5632 .bf16 :=
  gGateArr (narrow Y) (narrow D) (midA X W) (midA X U)
/-- The second up projection's cotangent, from the arguments. -/
def midDb (X : Vec Ideal S2080x2048 .f32) (W : Vec Ideal S2048x5632 .f32) (D : Vec Ideal S5632x2048 .f32) (Y : Vec Ideal S2080x2048 .f32) : Vec Ideal S2080x5632 .bf16 :=
  gUpArr (narrow Y) (narrow D) (midA X W)

/-- The gate's product after its call. -/
theorem V2_v9_0 : V2 m ρ c main_v9_0 = midA (m ((c.tc : Thread nD τ).loc main_arg1)) (m ((c.tc : Thread nD τ).loc main_arg2)) :=
  (W2_arr m ρ c 3).trans ((final0_3 (V1 m ρ) c).trans (by rw [V1_v0, V1_v3]; rfl))

/-- The up projection's product after its call. -/
theorem V2_v9_1 : V2 m ρ c main_v9_1 = midA (m ((c.tc : Thread nD τ).loc main_arg1)) (m ((c.tc : Thread nD τ).loc main_arg3)) :=
  (W2_arr m ρ c 4).trans ((final0_4 (V1 m ρ) c).trans (by rw [V1_v0, V1_v6]; rfl))

/-- The gated product after its call. -/
theorem V2_v9_2 : V2 m ρ c main_v9_2 = midF (m ((c.tc : Thread nD τ).loc main_arg1)) (m ((c.tc : Thread nD τ).loc main_arg2)) (m ((c.tc : Thread nD τ).loc main_arg3)) :=
  (W2_arr m ρ c 5).trans ((final0_5 (V1 m ρ) c).trans (by rw [V1_v0, V1_v3, V1_v6]; rfl))

/-- The down projection's weight when region 1 is entered. -/
theorem V2_v7 : V2 m ρ c main_v7 = narrow (m ((c.tc : Thread nD τ).loc main_arg4)) :=
  ((W2_of m ρ c main_v7 (by decide +kernel)).trans (V1_v7 m ρ c))

/-- The residual when region 1 is entered. -/
theorem V2_arg0 : V2 m ρ c main_arg0 = (m ((c.tc : Thread nD τ).loc main_arg0)) :=
  W2_args m ρ c main_arg0 (by decide)

/-- The layer's output after its call. -/
theorem V3_v10 : V3 m ρ c main_v10 = downArr (midF (m ((c.tc : Thread nD τ).loc main_arg1)) (m ((c.tc : Thread nD τ).loc main_arg2)) (m ((c.tc : Thread nD τ).loc main_arg3))) (narrow (m ((c.tc : Thread nD τ).loc main_arg4))) (m ((c.tc : Thread nD τ).loc main_arg0)) :=
  (W3_arr m ρ c 3).trans ((final1_3 (V2 m ρ) c).trans (by rw [V2_v9_2, V2_v7, V2_arg0]))

/-- The gated product when region 2 is entered. -/
theorem V3_v9_2 : V3 m ρ c main_v9_2 = midF (m ((c.tc : Thread nD τ).loc main_arg1)) (m ((c.tc : Thread nD τ).loc main_arg2)) (m ((c.tc : Thread nD τ).loc main_arg3)) :=
  ((W3_of m ρ c main_v9_2 (by decide +kernel)).trans (V2_v9_2 m ρ c))

/-- The cotangent when region 2 is entered. -/
theorem V3_v8 : V3 m ρ c main_v8 = narrow (m ((c.tc : Thread nD τ).loc main_arg5)) :=
  ((W3_of m ρ c main_v8 (by decide +kernel)).trans ((W2_of m ρ c main_v8 (by decide +kernel)).trans (V1_v8 m ρ c)))

/-- The down projection's gradient after its call. -/
theorem V4_v11 : V4 m ρ c main_v11 = gDownArr (midF (m ((c.tc : Thread nD τ).loc main_arg1)) (m ((c.tc : Thread nD τ).loc main_arg2)) (m ((c.tc : Thread nD τ).loc main_arg3))) (narrow (m ((c.tc : Thread nD τ).loc main_arg5))) :=
  (W4_arr m ρ c 2).trans ((final2_2 (V3 m ρ) c).trans (by rw [V3_v9_2, V3_v8]))

/-- The cotangent when region 3 is entered. -/
theorem V4_v8 : V4 m ρ c main_v8 = narrow (m ((c.tc : Thread nD τ).loc main_arg5)) :=
  ((W4_of m ρ c main_v8 (by decide +kernel)).trans (V3_v8 m ρ c))

/-- The down projection's weight when region 3 is entered. -/
theorem V4_v7 : V4 m ρ c main_v7 = narrow (m ((c.tc : Thread nD τ).loc main_arg4)) :=
  ((W4_of m ρ c main_v7 (by decide +kernel)).trans ((W3_of m ρ c main_v7 (by decide +kernel)).trans (V2_v7 m ρ c)))

/-- The gate's product when region 3 is entered. -/
theorem V4_v9_0 : V4 m ρ c main_v9_0 = midA (m ((c.tc : Thread nD τ).loc main_arg1)) (m ((c.tc : Thread nD τ).loc main_arg2)) :=
  ((W4_of m ρ c main_v9_0 (by decide +kernel)).trans ((W3_of m ρ c main_v9_0 (by decide +kernel)).trans (V2_v9_0 m ρ c)))

/-- The up projection's product when region 3 is entered. -/
theorem V4_v9_1 : V4 m ρ c main_v9_1 = midA (m ((c.tc : Thread nD τ).loc main_arg1)) (m ((c.tc : Thread nD τ).loc main_arg3)) :=
  ((W4_of m ρ c main_v9_1 (by decide +kernel)).trans ((W3_of m ρ c main_v9_1 (by decide +kernel)).trans (V2_v9_1 m ρ c)))

/-- The gradient at the gate's product after its call. -/
theorem V5_v12_0 : V5 m ρ c main_v12_0 = midDa (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W5_arr m ρ c 4).trans ((final3_4 (V4 m ρ) c).trans (by rw [V4_v8, V4_v7, V4_v9_0, V4_v9_1]; rfl))

/-- The gradient at the up projection's product after its call. -/
theorem V5_v12_1 : V5 m ρ c main_v12_1 = midDb (m ((c.tc : Thread nD τ).loc main_arg1)) (m ((c.tc : Thread nD τ).loc main_arg2)) (m ((c.tc : Thread nD τ).loc main_arg4)) (m ((c.tc : Thread nD τ).loc main_arg5)) :=
  (W5_arr m ρ c 5).trans ((final3_5 (V4 m ρ) c).trans (by rw [V4_v8, V4_v7, V4_v9_0]; rfl))

/-- The tokens when region 4 is entered. -/
theorem V5_v0 : V5 m ρ c main_v0 = narrow (m ((c.tc : Thread nD τ).loc main_arg1)) :=
  ((W5_of m ρ c main_v0 (by decide +kernel)).trans ((W4_of m ρ c main_v0 (by decide +kernel)).trans ((W3_of m ρ c main_v0 (by decide +kernel)).trans ((W2_of m ρ c main_v0 (by decide +kernel)).trans (V1_v0 m ρ c)))))

/-- The gate's gradient after its call. -/
theorem V6_v13 : V6 m ρ c main_v13 = gWeightArr (narrow (m ((c.tc : Thread nD τ).loc main_arg1))) (midDa (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (W6_arr m ρ c 2).trans ((final4_2 (V5 m ρ) c).trans (by rw [V5_v0, V5_v12_0]))

/-- The tokens when region 5 is entered. -/
theorem V6_v0 : V6 m ρ c main_v0 = narrow (m ((c.tc : Thread nD τ).loc main_arg1)) :=
  ((W6_of m ρ c main_v0 (by decide +kernel)).trans (V5_v0 m ρ c))

/-- The gradient at the up projection's product when region 5 is entered. -/
theorem V6_v12_1 : V6 m ρ c main_v12_1 = midDb (m ((c.tc : Thread nD τ).loc main_arg1)) (m ((c.tc : Thread nD τ).loc main_arg2)) (m ((c.tc : Thread nD τ).loc main_arg4)) (m ((c.tc : Thread nD τ).loc main_arg5)) :=
  ((W6_of m ρ c main_v12_1 (by decide +kernel)).trans (V5_v12_1 m ρ c))

/-- The up projection's gradient after its call. -/
theorem V7_v14 : V7 m ρ c main_v14 = gWeightArr (narrow (m ((c.tc : Thread nD τ).loc main_arg1))) (midDb (m ((c.tc : Thread nD τ).loc main_arg1)) (m ((c.tc : Thread nD τ).loc main_arg2)) (m ((c.tc : Thread nD τ).loc main_arg4)) (m ((c.tc : Thread nD τ).loc main_arg5))) :=
  (W7_arr m ρ c 2).trans ((final5_2 (V6 m ρ) c).trans (by rw [V6_v0, V6_v12_1]))

/-- The gradient at the gate's product when region 6 is entered. -/
theorem V7_v12_0 : V7 m ρ c main_v12_0 = midDa (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  ((W7_of m ρ c main_v12_0 (by decide +kernel)).trans ((W6_of m ρ c main_v12_0 (by decide +kernel)).trans (V5_v12_0 m ρ c)))

/-- The gradient at the up projection's product when region 6 is entered. -/
theorem V7_v12_1 : V7 m ρ c main_v12_1 = midDb (m ((c.tc : Thread nD τ).loc main_arg1)) (m ((c.tc : Thread nD τ).loc main_arg2)) (m ((c.tc : Thread nD τ).loc main_arg4)) (m ((c.tc : Thread nD τ).loc main_arg5)) :=
  ((W7_of m ρ c main_v12_1 (by decide +kernel)).trans (V6_v12_1 m ρ c))

/-- The gate's weight when region 6 is entered. -/
theorem V7_v3 : V7 m ρ c main_v3 = splitCols (m ((c.tc : Thread nD τ).loc main_arg2)) :=
  ((W7_of m ρ c main_v3 (by decide +kernel)).trans ((W6_of m ρ c main_v3 (by decide +kernel)).trans ((W5_of m ρ c main_v3 (by decide +kernel)).trans ((W4_of m ρ c main_v3 (by decide +kernel)).trans ((W3_of m ρ c main_v3 (by decide +kernel)).trans ((W2_of m ρ c main_v3 (by decide +kernel)).trans (V1_v3 m ρ c)))))))

/-- The up projection's weight when region 6 is entered. -/
theorem V7_v6 : V7 m ρ c main_v6 = splitCols (m ((c.tc : Thread nD τ).loc main_arg3)) :=
  ((W7_of m ρ c main_v6 (by decide +kernel)).trans ((W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (V1_v6 m ρ c)))))))

/-- The tokens' gradient after its call. -/
theorem V8_v15 : V8 m ρ c main_v15 = gInArr (midDa (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (midDb (m ((c.tc : Thread nD τ).loc main_arg1)) (m ((c.tc : Thread nD τ).loc main_arg2)) (m ((c.tc : Thread nD τ).loc main_arg4)) (m ((c.tc : Thread nD τ).loc main_arg5))) (splitCols (m ((c.tc : Thread nD τ).loc main_arg2))) (splitCols (m ((c.tc : Thread nD τ).loc main_arg3))) :=
  (W8_arr m ρ c 4).trans ((final6_4 (V7 m ρ) c).trans (by rw [V7_v12_0, V7_v12_1, V7_v3, V7_v6]))

/-- The layer's output at the end. -/
theorem V8_v10 : V8 m ρ c main_v10 = downArr (midF (m ((c.tc : Thread nD τ).loc main_arg1)) (m ((c.tc : Thread nD τ).loc main_arg2)) (m ((c.tc : Thread nD τ).loc main_arg3))) (narrow (m ((c.tc : Thread nD τ).loc main_arg4))) (m ((c.tc : Thread nD τ).loc main_arg0)) :=
  ((W8_of m ρ c main_v10 (by decide +kernel)).trans ((W7_of m ρ c main_v10 (by decide +kernel)).trans ((W6_of m ρ c main_v10 (by decide +kernel)).trans ((W5_of m ρ c main_v10 (by decide +kernel)).trans ((W4_of m ρ c main_v10 (by decide +kernel)).trans (V3_v10 m ρ c))))))

/-- The down projection's gradient at the end. -/
theorem V8_v11 : V8 m ρ c main_v11 = gDownArr (midF (m ((c.tc : Thread nD τ).loc main_arg1)) (m ((c.tc : Thread nD τ).loc main_arg2)) (m ((c.tc : Thread nD τ).loc main_arg3))) (narrow (m ((c.tc : Thread nD τ).loc main_arg5))) :=
  ((W8_of m ρ c main_v11 (by decide +kernel)).trans ((W7_of m ρ c main_v11 (by decide +kernel)).trans ((W6_of m ρ c main_v11 (by decide +kernel)).trans ((W5_of m ρ c main_v11 (by decide +kernel)).trans (V4_v11 m ρ c)))))

/-- The gate's gradient at the end. -/
theorem V8_v13 : V8 m ρ c main_v13 = gWeightArr (narrow (m ((c.tc : Thread nD τ).loc main_arg1))) (midDa (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  ((W8_of m ρ c main_v13 (by decide +kernel)).trans ((W7_of m ρ c main_v13 (by decide +kernel)).trans (V6_v13 m ρ c)))

/-- The up projection's gradient at the end. -/
theorem V8_v14 : V8 m ρ c main_v14 = gWeightArr (narrow (m ((c.tc : Thread nD τ).loc main_arg1))) (midDb (m ((c.tc : Thread nD τ).loc main_arg1)) (m ((c.tc : Thread nD τ).loc main_arg2)) (m ((c.tc : Thread nD τ).loc main_arg4)) (m ((c.tc : Thread nD τ).loc main_arg5))) :=
  ((W8_of m ρ c main_v14 (by decide +kernel)).trans (V7_v14 m ρ c))

end Chain

end Cert.Kernel2Ideal.Value

end
-- ==== Proof.FfnRef.lean ====
module

public import proofs.«01_k».proof.Proof.FfnRun
public import proofs.«01_k».proof.Proof.Gen.Reference2Ideal.Run
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo
open Cert.Kernel2Ideal.Value (sigE dsilE upE sum_blocks colBlk colIn narrow narrow_at splitCols splitCols_at midA midF midDa midDb upArr gatedArr downArr gDownArr gGateArr gUpArr gWeightArr gInArr)
open scoped BigOperators

/-! ## The reference's operations as functions of their operands -/

/-- A projection of the tokens to the hidden units. -/
def upR (X : Vec Ideal S2080x2048 .f32) (W : Vec Ideal S2048x5632 .f32) : Vec Ideal S2080x5632 .f32 :=
  Host.dotGeneral (F := Ideal) (φ₁ := .f32) (φ₂ := .f32) dot_S2080x2048_S2048x5632_S2080x5632_1_0_0_1_n_n none X W

/-- The logistic function of each entry. -/
def sigR (X : Vec Ideal S2080x5632 .f32) : Vec Ideal S2080x5632 .f32 :=
  Host.divf (F := Ideal) (φ := .f32) (broadcastInDim S2080x5632 ![] bcast_S_S2080x5632 (constant (F := Ideal) S_ .f32 0x3F800000#32)) (addf (F := Ideal) (φ := .f32) (broadcastInDim S2080x5632 ![] bcast_S_S2080x5632 (constant (F := Ideal) S_ .f32 0x3F800000#32)) (Host.exp (F := Ideal) (φ := .f32) (Host.negf (F := Ideal) (φ := .f32) X)))

/-- Entry by entry products of three arrays. -/
def mul3R (X S U : Vec Ideal S2080x5632 .f32) : Vec Ideal S2080x5632 .f32 :=
  mulf (F := Ideal) (φ := .f32) (mulf (F := Ideal) (φ := .f32) X S) U

/-- The residual plus the product down. -/
def outR (H : Vec Ideal S2080x2048 .f32) (A : Vec Ideal S2080x5632 .f32) (W : Vec Ideal S5632x2048 .f32) : Vec Ideal S2080x2048 .f32 :=
  addf (F := Ideal) (φ := .f32) H (Host.dotGeneral (F := Ideal) (φ₁ := .f32) (φ₂ := .f32) dot_S2080x5632_S5632x2048_S2080x2048_1_0_0_1_n_n none A W)

/-- The cotangent taken back through the product down. -/
def backR (Y : Vec Ideal S2080x2048 .f32) (W : Vec Ideal S5632x2048 .f32) : Vec Ideal S2080x5632 .f32 :=
  Host.dotGeneral (F := Ideal) (φ₁ := .f32) (φ₂ := .f32) dot_S2080x2048_S5632x2048_S2080x5632_1_1_0_0_n_n none (shapeCast _ Y shapeCasts_S2080x2048_S2080x2048) W

/-- The gradient at the gate's product. -/
def gateR (D U X S : Vec Ideal S2080x5632 .f32) : Vec Ideal S2080x5632 .f32 :=
  addf (F := Ideal) (φ := .f32) (mulf (F := Ideal) (φ := .f32) (mulf (F := Ideal) (φ := .f32) D U) S)
    (mulf (F := Ideal) (φ := .f32) (mulf (F := Ideal) (φ := .f32) X (mulf (F := Ideal) (φ := .f32) D U))
      (mulf (F := Ideal) (φ := .f32) S (subf (F := Ideal) (φ := .f32) (broadcastInDim S2080x5632 ![] bcast_S_S2080x5632 (constant (F := Ideal) S_ .f32 0x3F800000#32)) S)))

/-- The tokens' gradient. -/
def gInR (B : Vec Ideal S2080x5632 .f32) (U : Vec Ideal S2048x5632 .f32) (A : Vec Ideal S2080x5632 .f32) (W : Vec Ideal S2048x5632 .f32) : Vec Ideal S2080x2048 .bf16 :=
  truncf (F := Ideal) .bf16 (addf (F := Ideal) (φ := .f32) (Host.dotGeneral (F := Ideal) (φ₁ := .f32) (φ₂ := .f32) dot_S2080x5632_S2048x5632_S2080x2048_1_1_0_0_n_n none B U)
    (Host.dotGeneral (F := Ideal) (φ₁ := .f32) (φ₂ := .f32) dot_S2080x5632_S2048x5632_S2080x2048_1_1_0_0_n_n none A W)) bitsLt_bf16_f32

/-- An up projection's gradient, by blocks of columns. -/
def gWeightR (A : Vec Ideal S2080x5632 .f32) (X : Vec Ideal S2080x2048 .f32) : Vec Ideal S4x2048x1408 .bf16 :=
  truncf (F := Ideal) .bf16 (transpose S4x2048x1408 [1, 0, 2] (shapeCast S2048x4x1408 (transpose S2048x5632 [1, 0] (Host.dotGeneral (F := Ideal) (φ₁ := .f32) (φ₂ := .f32) dot_S2080x5632_S2080x2048_S5632x2048_0_0_1_1_n_n none A X) transposes_S5632x2048_S2048x5632_1_0) shapeCasts_S2048x5632_S2048x4x1408) transposes_S2048x4x1408_S4x2048x1408_1_0_2) bitsLt_bf16_f32

/-- The down projection's gradient. -/
def gDownR (Y : Vec Ideal S2080x2048 .f32) (A : Vec Ideal S2080x5632 .f32) : Vec Ideal S5632x2048 .bf16 :=
  truncf (F := Ideal) .bf16 (transpose S5632x2048 [1, 0] (Host.dotGeneral (F := Ideal) (φ₁ := .f32) (φ₂ := .f32) dot_S2080x2048_S2080x5632_S2048x5632_0_0_1_1_n_n none (shapeCast _ Y shapeCasts_S2080x2048_S2080x2048) A) transposes_S2048x5632_S5632x2048_1_0) bitsLt_bf16_f32

/-! ## The same at an index -/

/-- The literal one. -/
theorem one_lit : Ideal.ofBits FTy.f32 1065353216#32 = (1 : EReal) := by
  simp [Ideal.ofBits, Ideal.ieee]
  norm_cast
  norm_num

/-- A projection at an index. -/
theorem upR_at (X : Vec Ideal S2080x2048 .f32) (W : Vec Ideal S2048x5632 .f32) (r : Fin 2080) (j : Fin 5632) :
    upR X W (ix2 r j) = ∑ k : Fin 2048, X (ix2 r k) * W (ix2 k j) := by
  pointwise [upR]

/-- The logistic function at an index. -/
theorem sigR_at (X : Vec Ideal S2080x5632 .f32) (r : Fin 2080) (j : Fin 5632) :
    sigR X (ix2 r j) = Ideal.div (Ideal.ofBits FTy.f32 1065353216#32) (Ideal.ofBits FTy.f32 1065353216#32 + Ideal.exp (-X (ix2 r j))) := by
  pointwise [sigR]

/-- A product of three at an index. -/
theorem mul3R_at (X S U : Vec Ideal S2080x5632 .f32) (r : Fin 2080) (j : Fin 5632) :
    mul3R X S U (ix2 r j) = (X (ix2 r j) * S (ix2 r j)) * U (ix2 r j) := by
  pointwise [mul3R]

/-- The output at an index. -/
theorem outR_at (H : Vec Ideal S2080x2048 .f32) (A : Vec Ideal S2080x5632 .f32) (W : Vec Ideal S5632x2048 .f32) (r : Fin 2080) (n : Fin 2048) :
    outR H A W (ix2 r n) = H (ix2 r n) + ∑ k : Fin 5632, A (ix2 r k) * W (ix2 k n) := by
  pointwise [outR]

/-- The cotangent taken back at an index. -/
theorem backR_at (Y : Vec Ideal S2080x2048 .f32) (W : Vec Ideal S5632x2048 .f32) (r : Fin 2080) (j : Fin 5632) :
    backR Y W (ix2 r j) = ∑ k : Fin 2048, Y (ix2 r k) * W (ix2 j k) := by
  pointwise [backR]

/-- The gradient at the gate's product, at an index. -/
theorem gateR_at (D U X S : Vec Ideal S2080x5632 .f32) (r : Fin 2080) (j : Fin 5632) :
    gateR D U X S (ix2 r j) = (D (ix2 r j) * U (ix2 r j)) * S (ix2 r j)
      + (X (ix2 r j) * (D (ix2 r j) * U (ix2 r j))) * (S (ix2 r j) * (Ideal.ofBits FTy.f32 1065353216#32 - S (ix2 r j))) := by
  pointwise [gateR]

/-- The tokens' gradient at an index. -/
theorem gInR_at (B : Vec Ideal S2080x5632 .f32) (U : Vec Ideal S2048x5632 .f32) (A : Vec Ideal S2080x5632 .f32) (W : Vec Ideal S2048x5632 .f32) (r : Fin 2080) (n : Fin 2048) :
    gInR B U A W (ix2 r n) = (∑ j : Fin 5632, B (ix2 r j) * U (ix2 n j)) + ∑ j : Fin 5632, A (ix2 r j) * W (ix2 n j) := by
  pointwise [gInR]

/-- An up projection's gradient at an index. -/
theorem gWeightR_at (A : Vec Ideal S2080x5632 .f32) (X : Vec Ideal S2080x2048 .f32) (p : Fin 4) (k : Fin 2048) (b : Fin 1408) :
    gWeightR A X (ix3 p k b) = ∑ r : Fin 2080, A (ix2 r ⟨p.val * 1408 + b.val, by omega⟩) * X (ix2 r k) := by
  pointwise [gWeightR]

/-- The down projection's gradient at an index. -/
theorem gDownR_at (Y : Vec Ideal S2080x2048 .f32) (A : Vec Ideal S2080x5632 .f32) (j : Fin 5632) (n : Fin 2048) :
    gDownR Y A (ix2 j n) = ∑ r : Fin 2080, Y (ix2 r n) * A (ix2 r j) := by
  pointwise [gDownR]

/-! ## The numbers -/

/-- The calls' logistic function of `-∞`, `+∞` and a real number. -/
theorem sigE_bot : sigE ⊥ = 0 := by
  unfold sigE
  rw [zero_sub, EReal.neg_bot, Ideal.exp_top, EReal.add_top_of_ne_bot (show (1 : EReal) ≠ ⊥ from EReal.coe_ne_bot 1)]
  simp [Ideal.div]
/-- The logistic function at plus infinity. -/
theorem sigE_top : sigE ⊤ = 1 := by
  unfold sigE
  rw [zero_sub, EReal.neg_top, Ideal.exp_bot, add_zero]
  simp [Ideal.div]
/-- The logistic function of a real number is one. -/
theorem sigE_real (x : ℝ) : ∃ s : ℝ, sigE (x : EReal) = (s : EReal) := by
  refine ⟨1 / (1 + Real.exp (0 - x)), ?_⟩
  unfold sigE
  rw [show (0 : EReal) - (x : EReal) = ((0 - x : ℝ) : EReal) by simp, Ideal.exp_coe, show (1 : EReal) + (Real.exp (0 - x) : EReal) = ((1 + Real.exp (0 - x) : ℝ) : EReal) by simp]
  rw [Ideal.div_coe (by positivity)]
  norm_cast
  rw [one_mul]

/-- The product rule in the two spellings, for a real factor. -/
theorem gate_rule (g : ℝ) (x : EReal) :
    (g : EReal) * dsilE x = (g : EReal) * sigE x + (x * (g : EReal)) * (sigE x * (1 - sigE x)) := by
  unfold dsilE
  induction x using EReal.rec with
  | bot => rw [sigE_bot]; simp
  | top =>
    have e : (1 : EReal) - 1 = 0 := by rw [← EReal.coe_one, ← EReal.coe_sub, sub_self, EReal.coe_zero]
    rw [sigE_top, e]; simp
  | coe x =>
    obtain ⟨s, hs⟩ := sigE_real x
    rw [hs]
    norm_cast
    ring

/-- The reference's logistic function is the calls'. -/
theorem sig_same (x : EReal) : Ideal.div (Ideal.ofBits FTy.f32 1065353216#32) (Ideal.ofBits FTy.f32 1065353216#32 + Ideal.exp (-x)) = sigE x := by
  rw [one_lit]
  unfold sigE
  rw [zero_sub]

/-- The gradient at the gate's product in the two spellings. -/
theorem gate_same (d u x s : EReal) (hs : s = sigE x) (h : ∃ g : ℝ, d * u = (g : EReal)) :
    (d * u) * s + (x * (d * u)) * (s * (Ideal.ofBits FTy.f32 1065353216#32 - s)) = (d * u) * dsilE x := by
  obtain ⟨g, hg⟩ := h
  rw [one_lit, hg, hs, gate_rule]

/-- A sum of products of real numbers is real. -/
theorem real_sum {ι : Type} (s : Finset ι) (f g : ι → EReal) (hf : ∀ i, f i = ((f i).toReal : EReal)) (hg : ∀ i, g i = ((g i).toReal : EReal)) :
    ∃ a : ℝ, ∑ i ∈ s, f i * g i = (a : EReal) := by
  classical
  induction s using Finset.induction_on with
  | empty => exact ⟨0, by simp⟩
  | insert i s hi ih =>
    obtain ⟨a, ha⟩ := ih
    refine ⟨(f i).toReal * (g i).toReal + a, ?_⟩
    rw [Finset.sum_insert hi, ha, hf i, hg i]
    norm_cast

/-! ## The reference's arrays are the calls' -/

section Same

variable (H X : Vec Ideal S2080x2048 .f32) (G U : Vec Ideal S2048x5632 .f32) (D : Vec Ideal S5632x2048 .f32) (Y : Vec Ideal S2080x2048 .f32)

/-- A hidden unit from its block and its place there. -/
theorem unit_eq (j : Fin 5632) : (⟨(colBlk j).val * 1408 + (colIn j).val, by omega⟩ : Fin 5632) = j :=
  Fin.ext (by simp only; omega)

/-- A projection. -/
theorem up_same (r : Fin 2080) (j : Fin 5632) : upR X G (ix2 r j) = midA X G (ix2 r j) := by
  refine (upR_at X G r j).trans ?_
  show _ = ∑ k : Fin 2048, narrow X (ix2 r k) * splitCols G (ix3 (colBlk j) k (colIn j))
  refine Finset.sum_congr rfl fun k _ => ?_
  have e := splitCols_at G (colBlk j) k (colIn j)
  rw [unit_eq j] at e
  exact congrArg (X (ix2 r k) * ·) e.symm

/-- The logistic function of the gate's product. -/
theorem act_same (r : Fin 2080) (j : Fin 5632) : sigR (upR X G) (ix2 r j) = sigE (midA X G (ix2 r j)) :=
  (sigR_at (upR X G) r j).trans ((sig_same _).trans (congrArg sigE (up_same X G r j)))

/-- The gated product. -/
theorem gated_same (r : Fin 2080) (j : Fin 5632) : mul3R (upR X G) (sigR (upR X G)) (upR X U) (ix2 r j) = midF X G U (ix2 r j) :=
  (mul3R_at _ _ _ r j).trans (congrArg₂ (· * ·) (congrArg₂ (· * ·) (up_same X G r j) (act_same X G r j)) (up_same X U r j))

/-- The gradient at the up projection's product. -/
theorem gUp_same (r : Fin 2080) (j : Fin 5632) : mul3R (upR X G) (sigR (upR X G)) (backR Y D) (ix2 r j) = midDb X G D Y (ix2 r j) :=
  (mul3R_at _ _ _ r j).trans ((congrArg₂ (· * ·) (congrArg₂ (· * ·) (up_same X G r j) (act_same X G r j)) (backR_at Y D r j)).trans (mul_comm _ _))

/-- The gradient at the gate's product, where the arguments the product of the two factors reads are real. -/
theorem gGate_same (hX : ∀ i, (X i : EReal) = (((X i : EReal).toReal : ℝ) : EReal)) (hU : ∀ i, (U i : EReal) = (((U i : EReal).toReal : ℝ) : EReal))
    (hD : ∀ i, (D i : EReal) = (((D i : EReal).toReal : ℝ) : EReal)) (hY : ∀ i, (Y i : EReal) = (((Y i : EReal).toReal : ℝ) : EReal)) (r : Fin 2080) (j : Fin 5632) :
    gateR (backR Y D) (upR X U) (upR X G) (sigR (upR X G)) (ix2 r j) = midDa X G U D Y (ix2 r j) := by
  have hd : ∃ a : ℝ, backR Y D (ix2 r j) = ((a : ℝ) : EReal) := by
    obtain ⟨a, ha⟩ := real_sum Finset.univ (fun k : Fin 2048 => Y (ix2 r k)) (fun k => D (ix2 j k)) (fun k => hY _) (fun k => hD _)
    exact ⟨a, (backR_at Y D r j).trans ha⟩
  have hu : ∃ b : ℝ, upR X U (ix2 r j) = ((b : ℝ) : EReal) := by
    obtain ⟨b, hb⟩ := real_sum Finset.univ (fun k : Fin 2048 => X (ix2 r k)) (fun k => U (ix2 k j)) (fun k => hX _) (fun k => hU _)
    exact ⟨b, (upR_at X U r j).trans hb⟩
  obtain ⟨a, ha⟩ := hd
  obtain ⟨b, hb⟩ := hu
  refine (gateR_at _ _ _ _ r j).trans ((gate_same _ _ _ _ ((act_same X G r j).trans (congrArg sigE (up_same X G r j).symm)) ⟨a * b, ?_⟩).trans ?_)
  · exact (congrArg₂ (· * ·) ha hb).trans (EReal.coe_mul a b).symm
  · exact congrArg₂ (· * ·) (congrArg₂ (· * ·) (backR_at Y D r j) (up_same X U r j)) (congrArg dsilE (up_same X G r j))

/-- The output. -/
theorem out_res : outR H (mul3R (upR X G) (sigR (upR X G)) (upR X U)) D = downArr (midF X G U) (narrow D) H := by
  funext i
  obtain ⟨r, n, rfl⟩ : ∃ (r : Fin 2080) (n : Fin 2048), i = ix2 r n := ⟨i 0, i 1, eq_ix2 i⟩
  refine (outR_at _ _ _ r n).trans ((add_comm _ _).trans (congrArg₂ (· + ·) (Finset.sum_congr rfl fun k _ => ?_) rfl))
  exact congrArg₂ (· * ·) (gated_same X G U r k) rfl

/-- The down projection's gradient. -/
theorem gDown_res : gDownR Y (mul3R (upR X G) (sigR (upR X G)) (upR X U)) = gDownArr (midF X G U) (narrow Y) := by
  funext i
  obtain ⟨j, n, rfl⟩ : ∃ (j : Fin 5632) (n : Fin 2048), i = ix2 j n := ⟨i 0, i 1, eq_ix2 i⟩
  refine (gDownR_at _ _ j n).trans (Finset.sum_congr rfl fun r _ => (mul_comm _ _).trans ?_)
  exact congrArg₂ (· * ·) (gated_same X G U r j) rfl

/-- An up projection's gradient from equal gradients at its product. -/
theorem gWeight_res (A : Vec Ideal S2080x5632 .f32) (B : Vec Ideal S2080x5632 .bf16) (h : ∀ (r : Fin 2080) (j : Fin 5632), A (ix2 r j) = B (ix2 r j)) :
    gWeightR A X = gWeightArr (narrow X) B := by
  funext i
  obtain ⟨p, k, b, rfl⟩ : ∃ (p : Fin 4) (k : Fin 2048) (b : Fin 1408), i = ix3 p k b := ⟨i 0, i 1, i 2, eq_ix3 i⟩
  refine (gWeightR_at _ _ p k b).trans (Finset.sum_congr rfl fun r _ => (mul_comm _ _).trans ?_)
  exact congrArg₂ (· * ·) rfl (h r _)

/-- The tokens' gradient from equal gradients at the two products. -/
theorem gIn_res (A B : Vec Ideal S2080x5632 .f32) (A' B' : Vec Ideal S2080x5632 .bf16) (hA : ∀ (r : Fin 2080) (j : Fin 5632), A (ix2 r j) = A' (ix2 r j))
    (hB : ∀ (r : Fin 2080) (j : Fin 5632), B (ix2 r j) = B' (ix2 r j)) :
    gInR B U A G = gInArr A' B' (splitCols G) (splitCols U) := by
  funext i
  obtain ⟨r, n, rfl⟩ : ∃ (r : Fin 2080) (n : Fin 2048), i = ix2 r n := ⟨i 0, i 1, eq_ix2 i⟩
  refine (gInR_at _ _ _ _ r n).trans ((add_comm _ _).trans ?_)
  refine (congrArg₂ (· + ·) (sum_blocks _) (sum_blocks _)).trans (Finset.sum_add_distrib.symm.trans (Finset.sum_congr rfl fun p _ => ?_))
  refine congrArg₂ (· + ·) (Finset.sum_congr rfl fun k _ => ?_) (Finset.sum_congr rfl fun k _ => ?_)
  · exact congrArg₂ (· * ·) (hA r _) (splitCols_at G p n k).symm
  · exact congrArg₂ (· * ·) (hB r _) (splitCols_at U p n k).symm

end Same

end Cert.Reference2Ideal.Value

end
-- ==== Proof.FfnClaim.lean ====
module

public import proofs.«01_k».proof.Defs
public import proofs.«01_k».proof.Proof.Finite
public import proofs.«01_k».proof.Proof.FfnRef
public import Idealize.ShloMosaic.Adequacy
public import Idealize.ShloMosaic.Init

@[expose] public section

set_option maxRecDepth 16384

noncomputable section

namespace Cert.Pre_finite2

open Idealize.ShloMosaic

/-- The shape relations the precondition states. -/
instance facts : Facts where
  bcast_S_S2080x2048 := by decide
  reducesTo_S2080x2048_S_d0_1 := by decide
  h_S_ := by decide
  bcast_S_S2048x5632 := by decide
  reducesTo_S2048x5632_S_d0_1 := by decide
  bcast_S_S5632x2048 := by decide
  reducesTo_S5632x2048_S_d0_1 := by decide

/-- The precondition says of four of the arguments that they hold real numbers. -/
theorem real_args (a0 a1 : FVec Ideal S2080x2048 .f32) (a2 a3 : FVec Ideal S2048x5632 .f32) (a4 : FVec Ideal S5632x2048 .f32) (a5 : FVec Ideal S2080x2048 .f32)
    (h : fn (F := Ideal) a0 a1 a2 a3 a4 a5 = fun _ => 1#1) :
    (∀ i, (a1 i : EReal) = (((a1 i : EReal).toReal : ℝ) : EReal)) ∧ (∀ i, (a3 i : EReal) = (((a3 i : EReal).toReal : ℝ) : EReal))
      ∧ (∀ i, (a4 i : EReal) = (((a4 i : EReal).toReal : ℝ) : EReal)) ∧ (∀ i, (a5 i : EReal) = (((a5 i : EReal).toReal : ℝ) : EReal)) := by
  have e3 := IntOp.andi_eq_one.1 (congrFun h (fun d => d.elim0))
  have e2 := IntOp.andi_eq_one.1 e3.1
  have e1 := IntOp.andi_eq_one.1 e2.1
  clear h
  have r1 := Cert.Pre_finite.real_of a1 Facts.bcast_S_S2080x2048 Facts.reducesTo_S2080x2048_S_d0_1 Facts.h_S_ _ e1.1
  have r3 := Cert.Pre_finite.real_of a3 Facts.bcast_S_S2048x5632 Facts.reducesTo_S2048x5632_S_d0_1 Facts.h_S_ _ e1.2
  have r4 := Cert.Pre_finite.real_of a4 Facts.bcast_S_S5632x2048 Facts.reducesTo_S5632x2048_S_d0_1 Facts.h_S_ _ e2.2
  have r5 := Cert.Pre_finite.real_of a5 Facts.bcast_S_S2080x2048 Facts.reducesTo_S2080x2048_S_d0_1 Facts.h_S_ _ e3.2
  exact ⟨r1, r3, r4, r5⟩

end Cert.Pre_finite2

namespace Cert.Proof.Ffn

open Idealize.ShloMosaic Idealize.SL.Sem

/-- The reference runs, leaves its arguments, and has no semaphores. -/
theorem reference_frame : Cert.quiescent_Reference2Ideal := fun m g _ =>
  (θ_run _ _ _).mono (fun r h => ⟨fun c => (h c).2.2.2.2.2, sem_eq_zero_of_no_sems (by decide) r.2⟩) (Cert.Reference2Ideal.Value.run (F := Ideal) m g)

/-- The two programs end with the same output and the same four gradients. -/
theorem algebraic : Cert.algebraic_Kernel2Ideal_Reference2Ideal_pre_finite2 := by
  intro m g m' g' hpre hargs
  refine ⟨fun c => Cert.Kernel2Ideal.Value.downArr (Cert.Kernel2Ideal.Value.midF (m (c, Proc.tc.devRef Cert.Kernel2Ideal.main_arg1)) (m (c, Proc.tc.devRef Cert.Kernel2Ideal.main_arg2)) (m (c, Proc.tc.devRef Cert.Kernel2Ideal.main_arg3))) (Cert.Kernel2Ideal.Value.narrow (m (c, Proc.tc.devRef Cert.Kernel2Ideal.main_arg4))) (m (c, Proc.tc.devRef Cert.Kernel2Ideal.main_arg0)),
    fun c => Cert.Kernel2Ideal.Value.gInArr (Cert.Kernel2Ideal.Value.midDa (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4)) (m (c, Proc.tc.devRef Cert.Kernel2Ideal.main_arg5))) (Cert.Kernel2Ideal.Value.midDb (m (c, Proc.tc.devRef Cert.Kernel2Ideal.main_arg1)) (m (c, Proc.tc.devRef Cert.Kernel2Ideal.main_arg2)) (m (c, Proc.tc.devRef Cert.Kernel2Ideal.main_arg4)) (m (c, Proc.tc.devRef Cert.Kernel2Ideal.main_arg5))) (Cert.Kernel2Ideal.Value.splitCols (m (c, Proc.tc.devRef Cert.Kernel2Ideal.main_arg2))) (Cert.Kernel2Ideal.Value.splitCols (m (c, Proc.tc.devRef Cert.Kernel2Ideal.main_arg3))),
    fun c => Cert.Kernel2Ideal.Value.gWeightArr (Cert.Kernel2Ideal.Value.narrow (m (c, Proc.tc.devRef Cert.Kernel2Ideal.main_arg1))) (Cert.Kernel2Ideal.Value.midDa (m (c, Proc.tc.devRef Cert.Kernel2Ideal.main_arg1)) (m (c, Proc.tc.devRef Cert.Kernel2Ideal.main_arg2)) (m (c, Proc.tc.devRef Cert.Kernel2Ideal.main_arg3)) (m (c, Proc.tc.devRef Cert.Kernel2Ideal.main_arg4)) (m (c, Proc.tc.devRef Cert.Kernel2Ideal.main_arg5))),
    fun c => Cert.Kernel2Ideal.Value.gWeightArr (Cert.Kernel2Ideal.Value.narrow (m (c, Proc.tc.devRef Cert.Kernel2Ideal.main_arg1))) (Cert.Kernel2Ideal.Value.midDb (m (c, Proc.tc.devRef Cert.Kernel2Ideal.main_arg1)) (m (c, Proc.tc.devRef Cert.Kernel2Ideal.main_arg2)) (m (c, Proc.tc.devRef Cert.Kernel2Ideal.main_arg4)) (m (c, Proc.tc.devRef Cert.Kernel2Ideal.main_arg5))),
    fun c => Cert.Kernel2Ideal.Value.gDownArr (Cert.Kernel2Ideal.Value.midF (m (c, Proc.tc.devRef Cert.Kernel2Ideal.main_arg1)) (m (c, Proc.tc.devRef Cert.Kernel2Ideal.main_arg2)) (m (c, Proc.tc.devRef Cert.Kernel2Ideal.main_arg3))) (Cert.Kernel2Ideal.Value.narrow (m (c, Proc.tc.devRef Cert.Kernel2Ideal.main_arg5))), ?_, ?_⟩
  · refine (θ_run _ _ _).mono (fun r h c => ?_) (Cert.Kernel2Ideal.Gen.run_results m g)
    obtain ⟨r0, r1, r2, r3, r4, rest⟩ := h c
    exact ⟨r0.trans (Cert.Kernel2Ideal.Value.V8_v10 m g c), r1.trans (Cert.Kernel2Ideal.Value.V8_v15 m g c), r2.trans (Cert.Kernel2Ideal.Value.V8_v13 m g c),
      r3.trans (Cert.Kernel2Ideal.Value.V8_v14 m g c), r4.trans (Cert.Kernel2Ideal.Value.V8_v11 m g c), rest⟩
  · refine (θ_run _ _ _).mono (fun r h c => ?_) (Cert.Reference2Ideal.Value.run m' g')
    obtain ⟨e0, e1, e2, e3, e4, e5⟩ := hargs c
    obtain ⟨hX, hU, hD, hY⟩ := Cert.Pre_finite2.real_args _ _ _ _ _ _ (hpre c)
    obtain ⟨r0, r1, r2, r3, r4, rest⟩ := h c
    rw [e0, e1, e2, e3, e4] at r0
    rw [e1, e2, e3, e4, e5] at r1 r2
    rw [e1, e2, e4, e5] at r3
    rw [e1, e2, e3, e5] at r4
    exact ⟨r0.trans (Cert.Reference2Ideal.Value.out_res _ _ _ _ _),
      r1.trans (Cert.Reference2Ideal.Value.gIn_res _ _ _ _ _ _ (Cert.Reference2Ideal.Value.gGate_same _ _ _ _ _ hX hU hD hY) (Cert.Reference2Ideal.Value.gUp_same _ _ _ _)),
      r2.trans (Cert.Reference2Ideal.Value.gWeight_res _ _ _ (Cert.Reference2Ideal.Value.gGate_same _ _ _ _ _ hX hU hD hY)),
      r3.trans (Cert.Reference2Ideal.Value.gWeight_res _ _ _ (Cert.Reference2Ideal.Value.gUp_same _ _ _ _)),
      r4.trans (Cert.Reference2Ideal.Value.gDown_res _ _ _ _), rest⟩

end Cert.Proof.Ffn

end
-- ==== Proof.MixBlocks.lean ====
module

public import proofs.«01_k».proof.Proof.Gen.Kernel3Ideal.Frame
public import proofs.«01_k».proof.Proof.FfnBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Kernel2Ideal.Value (sigE)
open scoped BigOperators

/-- The product of rows with a weight. -/
def prodArr (X : Vec Ideal S2080x2048 .bf16) (W : Vec Ideal S2048x2048 .bf16) : Vec Ideal S2080x2048 .bf16 :=
  fun i => ∑ k : Fin 2048, X (ix2 (i 0) k) * W (ix2 k (i 1))

/-- The product of rows with a weight, added to a residual. -/
def resArr (X : Vec Ideal S2080x2048 .bf16) (W : Vec Ideal S2048x2048 .bf16) (R : Vec Ideal S2080x2048 .f32) : Vec Ideal S2080x2048 .f32 :=
  fun i => (∑ k : Fin 2048, X (ix2 (i 0) k) * W (ix2 k (i 1))) + R (ix2 (i 0) (i 1))

/-- A cotangent's rows taken back through a weight. -/
def backArr (Y : Vec Ideal S2080x2048 .bf16) (W : Vec Ideal S2048x2048 .bf16) : Vec Ideal S2080x2048 .bf16 :=
  fun i => ∑ k : Fin 2048, Y (ix2 (i 0) k) * W (ix2 (i 1) k)

/-- A weight's gradient from the rows and the cotangent. -/
def gradArr (X Y : Vec Ideal S2080x2048 .bf16) : Vec Ideal S2048x2048 .bf16 :=
  fun i => ∑ r : Fin 2080, X (ix2 r (i 0)) * Y (ix2 r (i 1))

/-- A column's place in the second half of the gate's columns. -/
abbrev hi (j : Fin 2048) : Fin 4096 := ⟨2048 + j.val, by omega⟩

/-- A column's place in the first half of the gate's columns. -/
abbrev lo (j : Fin 2048) : Fin 4096 := ⟨j.val, by omega⟩

/-- The two branches weighed by their gates. -/
def mixArr (Z : Vec Ideal S2080x4096 .bf16) (A B : Vec Ideal S2080x2048 .bf16) (bg : Vec Ideal S1x4096 .f32) (bc : Vec Ideal S1x2048 .f32) : Vec Ideal S2080x2048 .bf16 :=
  fun i => sigE (Z (ix2 (i 0) (lo (i 1))) + bg (ix2 0 (lo (i 1)))) * (A (ix2 (i 0) (i 1)) + bc (ix2 0 (i 1)))
    + sigE (Z (ix2 (i 0) (hi (i 1))) + bg (ix2 0 (hi (i 1)))) * B (ix2 (i 0) (i 1))

variable (V : (c : Dev nD) → (b : Ref sig .tc) → Buf (Elt Ideal) ((c : Thread nD τ).loc b)) (c : Dev nD)

/-- Where each window's block lies. -/
theorem idx0 : ∀ t : Fin cfg0.N, win0_0.index t = ![0, 0] ∧ win0_1.index t = ![0, t.val] ∧ win0_2.index t = ![0, t.val] :=
  (by decide +kernel : ∀ t : Fin grid0.N, _)

/-- The number of grid points. -/
theorem lt0 (t : Fin cfg0.N) : t.val < 2 := Nat.lt_of_lt_of_eq t.isLt (N_0 : cfg0.N = 2)

/-- The product at an entry of a block. -/
theorem pay0_1_at (X : Vec Ideal S2080x2048 .bf16) (W : Vec Ideal S2048x1024 .bf16) (a : Fin 2080) (b : Fin 1024) :
    (k0_pay1 X W : Vec Ideal S2080x1024 .bf16) (ix2 a b) = ∑ k : Fin 2048, X (ix2 a k) * W (ix2 k b) := by
  pointwise [k0_pay1]

/-- The columns a grid point works on. -/
abbrev col0 (t : Fin cfg0.N) (b : Fin 1024) : Fin 2048 := ⟨t.val * 1024 + b.val, by have := lt0 t; omega⟩

/-- The product of the convolution branch. -/
theorem final0_2 : (dat0 V c).arrAt 2 cfg0.N = prodArr (V c main_v1) (V c main_v4) := by
  refine (dat0 V c).arrAt_eq_of_covers 2 _ (by decide +kernel) fun t _ y => ?_
  blk_simp
  rw [after0_2]
  frame_out
  idx_vars y
  have e : ((View.whole main_v11).slice (win0_2.rect t)).emb (ix2 y0 y1) = ix2 y0 (col0 t y1) := by
    blk_ext [idx0 t]
  rw [e]
  refine (pay0_1_at _ _ _ _).trans ?_
  show _ = prodArr (V c main_v1) (V c main_v4) (ix2 y0 (col0 t y1))
  unfold prodArr
  blk_point [iblk0, idx0 t]

/-- Where each window's block lies. -/
theorem idx1 : ∀ t : Fin cfg1.N, win1_0.index t = ![0, 0] ∧ win1_1.index t = ![0, t.val] ∧ win1_2.index t = ![0, t.val] :=
  (by decide +kernel : ∀ t : Fin grid1.N, _)

/-- The number of grid points. -/
theorem lt1 (t : Fin cfg1.N) : t.val < 2 := Nat.lt_of_lt_of_eq t.isLt (N_1 : cfg1.N = 2)

/-- The product at an entry of a block. -/
theorem pay1_1_at (X : Vec Ideal S2080x2048 .bf16) (W : Vec Ideal S2048x1024 .bf16) (a : Fin 2080) (b : Fin 1024) :
    (k1_pay1 X W : Vec Ideal S2080x1024 .bf16) (ix2 a b) = ∑ k : Fin 2048, X (ix2 a k) * W (ix2 k b) := by
  pointwise [k1_pay1]

/-- The columns a grid point works on. -/
abbrev col1 (t : Fin cfg1.N) (b : Fin 1024) : Fin 2048 := ⟨t.val * 1024 + b.val, by have := lt1 t; omega⟩

/-- The product of the attention branch. -/
theorem final1_2 : (dat1 V c).arrAt 2 cfg1.N = prodArr (V c main_v2) (V c main_v5) := by
  refine (dat1 V c).arrAt_eq_of_covers 2 _ (by decide +kernel) fun t _ y => ?_
  blk_simp
  rw [after1_2]
  frame_out
  idx_vars y
  have e : ((View.whole main_v12).slice (win1_2.rect t)).emb (ix2 y0 y1) = ix2 y0 (col1 t y1) := by
    blk_ext [idx1 t]
  rw [e]
  refine (pay1_1_at _ _ _ _).trans ?_
  show _ = prodArr (V c main_v2) (V c main_v5) (ix2 y0 (col1 t y1))
  unfold prodArr
  blk_point [iblk1, idx1 t]

/-- Where each window's block lies. -/
theorem idx2 : ∀ t : Fin cfg2.N, win2_0.index t = ![t.val, 0] ∧ win2_1.index t = ![t.val, 0] ∧ win2_2.index t = ![t.val, 0] ∧ win2_3.index t = ![0, 0] ∧
    win2_4.index t = ![0, 0] ∧ win2_5.index t = ![t.val, 0] :=
  (by decide +kernel : ∀ t : Fin grid2.N, _)

/-- The number of grid points. -/
theorem lt2 (t : Fin cfg2.N) : t.val < 5 := Nat.lt_of_lt_of_eq t.isLt (N_2 : cfg2.N = 5)

/-- The weighed branches at an entry of a block. -/
theorem pay2_1_at (Z : Vec Ideal S416x4096 .bf16) (bg : Vec Ideal S1x4096 .f32) (A : Vec Ideal S416x2048 .bf16) (bc : Vec Ideal S1x2048 .f32) (B : Vec Ideal S416x2048 .bf16) (a : Fin 416) (b : Fin 2048) :
    (k2_pay1 Z bg A bc B : Vec Ideal S416x2048 .bf16) (ix2 a b)
      = sigE (Z (ix2 a (lo b)) + bg (ix2 0 (lo b))) * (A (ix2 a b) + bc (ix2 0 b)) + sigE (Z (ix2 a (hi b)) + bg (ix2 0 (hi b))) * B (ix2 a b) := by
  pointwise [k2_pay1]
  rfl

/-- The rows a grid point works on. -/
abbrev row2 (t : Fin cfg2.N) (a : Fin 416) : Fin 2080 := ⟨t.val * 416 + a.val, by have := lt2 t; omega⟩

/-- The weighed branches. -/
theorem final2_5 : (dat2 V c).arrAt 5 cfg2.N = mixArr (V c main_v0) (V c main_v11) (V c main_v12) (V c main_v9) (V c main_v10) := by
  refine (dat2 V c).arrAt_eq_of_covers 5 _ (by decide +kernel) fun t _ y => ?_
  blk_simp
  rw [after2_5]
  frame_out
  idx_vars y
  have e : ((View.whole main_v13).slice (win2_5.rect t)).emb (ix2 y0 y1) = ix2 (row2 t y0) y1 := by
    blk_ext [idx2 t]
  rw [e]
  refine (pay2_1_at _ _ _ _ _ _ _).trans ?_
  show _ = mixArr (V c main_v0) (V c main_v11) (V c main_v12) (V c main_v9) (V c main_v10) (ix2 (row2 t y0) y1)
  unfold mixArr
  blk_point [iblk2, idx2 t]
  all_goals rfl

/-- Where each window's block lies. -/
theorem idx3 : ∀ t : Fin cfg3.N, win3_0.index t = ![0, 0] ∧ win3_1.index t = ![0, t.val] ∧ win3_2.index t = ![0, t.val] ∧ win3_3.index t = ![0, t.val] :=
  (by decide +kernel : ∀ t : Fin grid3.N, _)

/-- The number of grid points. -/
theorem lt3 (t : Fin cfg3.N) : t.val < 4 := Nat.lt_of_lt_of_eq t.isLt (N_3 : cfg3.N = 4)

/-- The product and the residual at an entry of a block. -/
theorem pay3_1_at (X : Vec Ideal S2080x2048 .bf16) (W : Vec Ideal S2048x512 .bf16) (R : Vec Ideal S2080x512 .f32) (a : Fin 2080) (b : Fin 512) :
    (k3_pay1 X W R : Vec Ideal S2080x512 .f32) (ix2 a b) = (∑ k : Fin 2048, X (ix2 a k) * W (ix2 k b)) + R (ix2 a b) := by
  pointwise [k3_pay1]

/-- The columns a grid point works on. -/
abbrev col3 (t : Fin cfg3.N) (b : Fin 512) : Fin 2048 := ⟨t.val * 512 + b.val, by have := lt3 t; omega⟩

/-- The residual stream after the merge. -/
theorem final3_3 : (dat3 V c).arrAt 3 cfg3.N = resArr (V c main_v13) (V c main_v6) (V c main_arg0) := by
  refine (dat3 V c).arrAt_eq_of_covers 3 _ (by decide +kernel) fun t _ y => ?_
  blk_simp
  rw [after3_3]
  frame_out
  idx_vars y
  have e : ((View.whole main_v14).slice (win3_3.rect t)).emb (ix2 y0 y1) = ix2 y0 (col3 t y1) := by
    blk_ext [idx3 t]
  rw [e]
  refine (pay3_1_at _ _ _ _ _).trans ?_
  show _ = resArr (V c main_v13) (V c main_v6) (V c main_arg0) (ix2 y0 (col3 t y1))
  unfold resArr
  blk_point [iblk3, idx3 t]

/-- Where each window's block lies. -/
theorem idx4 : ∀ t : Fin cfg4.N, win4_0.index t = ![0, 0] ∧ win4_1.index t = ![t.val, 0] ∧ win4_2.index t = ![0, t.val] :=
  (by decide +kernel : ∀ t : Fin grid4.N, _)

/-- The number of grid points. -/
theorem lt4 (t : Fin cfg4.N) : t.val < 2 := Nat.lt_of_lt_of_eq t.isLt (N_4 : cfg4.N = 2)

/-- The product at an entry of a block. -/
theorem pay4_1_at (X : Vec Ideal S2080x2048 .bf16) (W : Vec Ideal S1024x2048 .bf16) (a : Fin 2080) (b : Fin 1024) :
    (k4_pay1 X W : Vec Ideal S2080x1024 .bf16) (ix2 a b) = ∑ k : Fin 2048, X (ix2 a k) * W (ix2 b k) := by
  pointwise [k4_pay1]

/-- The columns a grid point works on. -/
abbrev col4 (t : Fin cfg4.N) (b : Fin 1024) : Fin 2048 := ⟨t.val * 1024 + b.val, by have := lt4 t; omega⟩

/-- The gradient of the mixture. -/
theorem final4_2 : (dat4 V c).arrAt 2 cfg4.N = backArr (V c main_v3) (V c main_v6) := by
  refine (dat4 V c).arrAt_eq_of_covers 2 _ (by decide +kernel) fun t _ y => ?_
  blk_simp
  rw [after4_2]
  frame_out
  idx_vars y
  have e : ((View.whole main_v15).slice (win4_2.rect t)).emb (ix2 y0 y1) = ix2 y0 (col4 t y1) := by
    blk_ext [idx4 t]
  rw [e]
  refine (pay4_1_at _ _ _ _).trans ?_
  show _ = backArr (V c main_v3) (V c main_v6) (ix2 y0 (col4 t y1))
  unfold backArr
  blk_point [iblk4, idx4 t]

/-- Where each window's block lies. -/
theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

/-- The number of grid points. -/
theorem lt5 (t : Fin cfg5.N) : t.val < 4 := Nat.lt_of_lt_of_eq t.isLt (N_5 : cfg5.N = 4)

/-- The gradient at an entry of a block. -/
theorem pay5_1_at (X Y : Vec Ideal S2080x1024 .bf16) (a b : Fin 1024) :
    (k5_pay1 X Y : Vec Ideal S1024x1024 .bf16) (ix2 a b) = ∑ k : Fin 2080, X (ix2 k a) * Y (ix2 k b) := by
  pointwise [k5_pay1]

/-- The rows and columns a grid point works on. -/
abbrev row5 (t : Fin cfg5.N) (a : Fin 1024) : Fin 2048 := ⟨(t.val / 2) * 1024 + a.val, by have := lt5 t; omega⟩
abbrev col5 (t : Fin cfg5.N) (b : Fin 1024) : Fin 2048 := ⟨(t.val % 2) * 1024 + b.val, by omega⟩

/-- The gradient of the merged projection. -/
theorem final5_2 : (dat5 V c).arrAt 2 cfg5.N = gradArr (V c main_v13) (V c main_v3) := by
  refine (dat5 V c).arrAt_eq_of_covers 2 _ (by decide +kernel) fun t _ y => ?_
  blk_simp
  rw [after5_2]
  frame_out
  idx_vars y
  have e : ((View.whole main_v16).slice (win5_2.rect t)).emb (ix2 y0 y1) = ix2 (row5 t y0) (col5 t y1) := by
    blk_ext [idx5 t]
  rw [e]
  refine (pay5_1_at _ _ _ _).trans ?_
  show _ = gradArr (V c main_v13) (V c main_v3) (ix2 (row5 t y0) (col5 t y1))
  unfold gradArr
  blk_point [iblk5, idx5 t]

/-- Where each window's block lies. -/
theorem idx6 : ∀ t : Fin cfg6.N, win6_0.index t = ![0, t.val / 2] ∧ win6_1.index t = ![0, t.val % 2] ∧ win6_2.index t = ![t.val / 2, t.val % 2] :=
  (by decide +kernel : ∀ t : Fin grid6.N, _)

/-- The number of grid points. -/
theorem lt6 (t : Fin cfg6.N) : t.val < 4 := Nat.lt_of_lt_of_eq t.isLt (N_6 : cfg6.N = 4)

/-- The gradient at an entry of a block. -/
theorem pay6_1_at (X Y : Vec Ideal S2080x1024 .bf16) (a b : Fin 1024) :
    (k6_pay1 X Y : Vec Ideal S1024x1024 .bf16) (ix2 a b) = ∑ k : Fin 2080, X (ix2 k a) * Y (ix2 k b) := by
  pointwise [k6_pay1]

/-- The rows and columns a grid point works on. -/
abbrev row6 (t : Fin cfg6.N) (a : Fin 1024) : Fin 2048 := ⟨(t.val / 2) * 1024 + a.val, by have := lt6 t; omega⟩
abbrev col6 (t : Fin cfg6.N) (b : Fin 1024) : Fin 2048 := ⟨(t.val % 2) * 1024 + b.val, by omega⟩

/-- The gradient of the convolution branch's projection. -/
theorem final6_2 : (dat6 V c).arrAt 2 cfg6.N = gradArr (V c main_v1) (V c main_v7) := by
  refine (dat6 V c).arrAt_eq_of_covers 2 _ (by decide +kernel) fun t _ y => ?_
  blk_simp
  rw [after6_2]
  frame_out
  idx_vars y
  have e : ((View.whole main_v17).slice (win6_2.rect t)).emb (ix2 y0 y1) = ix2 (row6 t y0) (col6 t y1) := by
    blk_ext [idx6 t]
  rw [e]
  refine (pay6_1_at _ _ _ _).trans ?_
  show _ = gradArr (V c main_v1) (V c main_v7) (ix2 (row6 t y0) (col6 t y1))
  unfold gradArr
  blk_point [iblk6, idx6 t]

/-- Where each window's block lies. -/
theorem idx7 : ∀ t : Fin cfg7.N, win7_0.index t = ![0, 0] ∧ win7_1.index t = ![t.val, 0] ∧ win7_2.index t = ![0, t.val] :=
  (by decide +kernel : ∀ t : Fin grid7.N, _)

/-- The number of grid points. -/
theorem lt7 (t : Fin cfg7.N) : t.val < 2 := Nat.lt_of_lt_of_eq t.isLt (N_7 : cfg7.N = 2)

/-- The product at an entry of a block. -/
theorem pay7_1_at (X : Vec Ideal S2080x2048 .bf16) (W : Vec Ideal S1024x2048 .bf16) (a : Fin 2080) (b : Fin 1024) :
    (k7_pay1 X W : Vec Ideal S2080x1024 .bf16) (ix2 a b) = ∑ k : Fin 2048, X (ix2 a k) * W (ix2 b k) := by
  pointwise [k7_pay1]

/-- The columns a grid point works on. -/
abbrev col7 (t : Fin cfg7.N) (b : Fin 1024) : Fin 2048 := ⟨t.val * 1024 + b.val, by have := lt7 t; omega⟩

/-- The gradient of the convolution branch's rows. -/
theorem final7_2 : (dat7 V c).arrAt 2 cfg7.N = backArr (V c main_v7) (V c main_v4) := by
  refine (dat7 V c).arrAt_eq_of_covers 2 _ (by decide +kernel) fun t _ y => ?_
  blk_simp
  rw [after7_2]
  frame_out
  idx_vars y
  have e : ((View.whole main_v18).slice (win7_2.rect t)).emb (ix2 y0 y1) = ix2 y0 (col7 t y1) := by
    blk_ext [idx7 t]
  rw [e]
  refine (pay7_1_at _ _ _ _).trans ?_
  show _ = backArr (V c main_v7) (V c main_v4) (ix2 y0 (col7 t y1))
  unfold backArr
  blk_point [iblk7, idx7 t]

/-- Where each window's block lies. -/
theorem idx8 : ∀ t : Fin cfg8.N, win8_0.index t = ![0, t.val / 2] ∧ win8_1.index t = ![0, t.val % 2] ∧ win8_2.index t = ![t.val / 2, t.val % 2] :=
  (by decide +kernel : ∀ t : Fin grid8.N, _)

/-- The number of grid points. -/
theorem lt8 (t : Fin cfg8.N) : t.val < 4 := Nat.lt_of_lt_of_eq t.isLt (N_8 : cfg8.N = 4)

/-- The gradient at an entry of a block. -/
theorem pay8_1_at (X Y : Vec Ideal S2080x1024 .bf16) (a b : Fin 1024) :
    (k8_pay1 X Y : Vec Ideal S1024x1024 .bf16) (ix2 a b) = ∑ k : Fin 2080, X (ix2 k a) * Y (ix2 k b) := by
  pointwise [k8_pay1]

/-- The rows and columns a grid point works on. -/
abbrev row8 (t : Fin cfg8.N) (a : Fin 1024) : Fin 2048 := ⟨(t.val / 2) * 1024 + a.val, by have := lt8 t; omega⟩
abbrev col8 (t : Fin cfg8.N) (b : Fin 1024) : Fin 2048 := ⟨(t.val % 2) * 1024 + b.val, by omega⟩

/-- The gradient of the attention branch's projection. -/
theorem final8_2 : (dat8 V c).arrAt 2 cfg8.N = gradArr (V c main_v2) (V c main_v8) := by
  refine (dat8 V c).arrAt_eq_of_covers 2 _ (by decide +kernel) fun t _ y => ?_
  blk_simp
  rw [after8_2]
  frame_out
  idx_vars y
  have e : ((View.whole main_v19).slice (win8_2.rect t)).emb (ix2 y0 y1) = ix2 (row8 t y0) (col8 t y1) := by
    blk_ext [idx8 t]
  rw [e]
  refine (pay8_1_at _ _ _ _).trans ?_
  show _ = gradArr (V c main_v2) (V c main_v8) (ix2 (row8 t y0) (col8 t y1))
  unfold gradArr
  blk_point [iblk8, idx8 t]

/-- Where each window's block lies. -/
theorem idx9 : ∀ t : Fin cfg9.N, win9_0.index t = ![0, 0] ∧ win9_1.index t = ![t.val, 0] ∧ win9_2.index t = ![0, t.val] :=
  (by decide +kernel : ∀ t : Fin grid9.N, _)

/-- The number of grid points. -/
theorem lt9 (t : Fin cfg9.N) : t.val < 2 := Nat.lt_of_lt_of_eq t.isLt (N_9 : cfg9.N = 2)

/-- The product at an entry of a block. -/
theorem pay9_1_at (X : Vec Ideal S2080x2048 .bf16) (W : Vec Ideal S1024x2048 .bf16) (a : Fin 2080) (b : Fin 1024) :
    (k9_pay1 X W : Vec Ideal S2080x1024 .bf16) (ix2 a b) = ∑ k : Fin 2048, X (ix2 a k) * W (ix2 b k) := by
  pointwise [k9_pay1]

/-- The columns a grid point works on. -/
abbrev col9 (t : Fin cfg9.N) (b : Fin 1024) : Fin 2048 := ⟨t.val * 1024 + b.val, by have := lt9 t; omega⟩

/-- The gradient of the attention's rows. -/
theorem final9_2 : (dat9 V c).arrAt 2 cfg9.N = backArr (V c main_v8) (V c main_v5) := by
  refine (dat9 V c).arrAt_eq_of_covers 2 _ (by decide +kernel) fun t _ y => ?_
  blk_simp
  rw [after9_2]
  frame_out
  idx_vars y
  have e : ((View.whole main_v20).slice (win9_2.rect t)).emb (ix2 y0 y1) = ix2 y0 (col9 t y1) := by
    blk_ext [idx9 t]
  rw [e]
  refine (pay9_1_at _ _ _ _).trans ?_
  show _ = backArr (V c main_v8) (V c main_v5) (ix2 y0 (col9 t y1))
  unfold backArr
  blk_point [iblk9, idx9 t]

end Cert.Kernel3Ideal.Value

end
-- ==== Proof.MixRun.lean ====
module

public import proofs.«01_k».proof.Proof.MixBlocks
public import proofs.«01_k».proof.Proof.FfnRun
public import Idealize.ShloMosaic.Lib.Claim
public import Idealize.ShloMosaic.Lib.StableHlo.ReadAt

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program: it ends, each of the seven results is what the last region's exit holds of it, and the arguments
    are as they were. -/
theorem run_results : θ_run defs (onTc (τ := τ) (main (F := F))) ⟨m, fun _ => 0, ρ⟩ (fun r => ∀ c : Dev nD,
      r.2.mem ((c.tc : Thread nD τ).loc main_v14) = W11 m ρ c (Proc.devRef .tc main_v14)
      ∧ r.2.mem ((c.tc : Thread nD τ).loc main_v15) = W11 m ρ c (Proc.devRef .tc main_v15)
      ∧ r.2.mem ((c.tc : Thread nD τ).loc main_v16) = W11 m ρ c (Proc.devRef .tc main_v16)
      ∧ r.2.mem ((c.tc : Thread nD τ).loc main_v17) = W11 m ρ c (Proc.devRef .tc main_v17)
      ∧ r.2.mem ((c.tc : Thread nD τ).loc main_v18) = W11 m ρ c (Proc.devRef .tc main_v18)
      ∧ r.2.mem ((c.tc : Thread nD τ).loc main_v19) = W11 m ρ c (Proc.devRef .tc main_v19)
      ∧ r.2.mem ((c.tc : Thread nD τ).loc main_v20) = W11 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v14 (by decide)),
       h c _ (mem_uc main_v15 (by decide)),
       h c _ (mem_uc main_v16 (by decide)),
       h c _ (mem_uc main_v17 (by decide)),
       h c _ (mem_uc main_v18 (by decide)),
       h c _ (mem_uc main_v19 (by decide)),
       h c _ (mem_uc main_v20 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.Kernel3Ideal.Gen

namespace Cert.Kernel3Ideal.Value

open Cert.Kernel3Ideal Cert.Kernel3Ideal.Gen Idealize.ShloMosaic Idealize.ShloMosaic.TcCoe Idealize.SL.Sem Idealize.ShloMosaic.StableHlo
open Cert.Kernel2Ideal.Value (narrow narrow_at)
open scoped BigOperators

/-- The gate's bias as one row. -/
def rowG (b : Vec Ideal S4096 .f32) : Vec Ideal S1x4096 .f32 := shapeCast S1x4096 b shapeCasts_S4096_S1x4096

/-- The convolution branch's bias as one row. -/
def rowC (b : Vec Ideal S2048 .f32) : Vec Ideal S1x2048 .f32 := shapeCast S1x2048 b shapeCasts_S2048_S1x2048

/-- Such a row's entries are the bias's. -/
theorem rowG_at (b : Vec Ideal S4096 .f32) (j : Fin 4096) : rowG b (ix2 0 j) = b (ix1 j) := by
  pointwise [rowG]
/-- An entry of the row. -/
theorem rowC_at (b : Vec Ideal S2048 .f32) (j : Fin 2048) : rowC b (ix2 0 j) = b (ix1 j) := by
  pointwise [rowC]

/-- The mixture the calls leave between them. -/
def midMix (Z : Vec Ideal S2080x4096 .f32) (C O : Vec Ideal S2080x2048 .f32) (Wc Wa : Vec Ideal S2048x2048 .f32) (bg : Vec Ideal S4096 .f32) (bc : Vec Ideal S2048 .f32) : Vec Ideal S2080x2048 .bf16 :=
  mixArr (narrow Z) (prodArr (narrow C) (narrow Wc)) (prodArr (narrow O) (narrow Wa)) (rowG bg) (rowC bc)

variable (m : (ℓ : Loc nD τ sig) → Buf (Elt Ideal) ℓ) (ρ : Dev nD → PrngReg) (c : Dev nD)

/-! ## The host's part -/

/-- An argument as the calls take it. -/
theorem V1_v0 : V1 m ρ c main_v0 = (narrow (m ((c.tc : Thread nD τ).loc main_arg1))) := by
  after_reads_simp
  try rfl

/-- An argument as the calls take it. -/
theorem V1_v1 : V1 m ρ c main_v1 = (narrow (m ((c.tc : Thread nD τ).loc main_arg2))) := by
  after_reads_simp
  try rfl

/-- An argument as the calls take it. -/
theorem V1_v2 : V1 m ρ c main_v2 = (narrow (m ((c.tc : Thread nD τ).loc main_arg3))) := by
  after_reads_simp
  try rfl

/-- An argument as the calls take it. -/
theorem V1_v3 : V1 m ρ c main_v3 = (narrow (m ((c.tc : Thread nD τ).loc main_arg9))) := by
  after_reads_simp
  try rfl

/-- An argument as the calls take it. -/
theorem V1_v4 : V1 m ρ c main_v4 = (narrow (m ((c.tc : Thread nD τ).loc main_arg4))) := by
  after_reads_simp
  try rfl

/-- An argument as the calls take it. -/
theorem V1_v5 : V1 m ρ c main_v5 = (narrow (m ((c.tc : Thread nD τ).loc main_arg5))) := by
  after_reads_simp
  try rfl

/-- An argument as the calls take it. -/
theorem V1_v6 : V1 m ρ c main_v6 = (narrow (m ((c.tc : Thread nD τ).loc main_arg6))) := by
  after_reads_simp
  try rfl

/-- An argument as the calls take it. -/
theorem V1_v7 : V1 m ρ c main_v7 = (narrow (m ((c.tc : Thread nD τ).loc main_arg10))) := by
  after_reads_simp
  try rfl

/-- An argument as the calls take it. -/
theorem V1_v8 : V1 m ρ c main_v8 = (narrow (m ((c.tc : Thread nD τ).loc main_arg11))) := by
  after_reads_simp
  try rfl

/-- An argument as the calls take it. -/
theorem V1_v9 : V1 m ρ c main_v9 = (rowG (m ((c.tc : Thread nD τ).loc main_arg7))) := by
  after_reads_simp
  try rfl

/-- An argument as the calls take it. -/
theorem V1_v10 : V1 m ρ c main_v10 = (rowC (m ((c.tc : Thread nD τ).loc main_arg8))) := by
  after_reads_simp
  try rfl

/-! ## The calls one after the other -/

/-- A call's result after it. -/
theorem V2_v11 : V2 m ρ c main_v11 = (prodArr (narrow (m ((c.tc : Thread nD τ).loc main_arg2))) (narrow (m ((c.tc : Thread nD τ).loc main_arg4)))) :=
  (W2_arr m ρ c 2).trans ((final0_2 (V1 m ρ) c).trans (by rw [V1_v1, V1_v4]))

/-- A buffer that a call leaves alone. -/
theorem V2_v2 : V2 m ρ c main_v2 = (narrow (m ((c.tc : Thread nD τ).loc main_arg3))) :=
  (W2_of m ρ c main_v2 (by decide +kernel)).trans (V1_v2 m ρ c)

/-- A buffer that a call leaves alone. -/
theorem V2_v5 : V2 m ρ c main_v5 = (narrow (m ((c.tc : Thread nD τ).loc main_arg5))) :=
  (W2_of m ρ c main_v5 (by decide +kernel)).trans (V1_v5 m ρ c)

/-- A call's result after it. -/
theorem V3_v12 : V3 m ρ c main_v12 = (prodArr (narrow (m ((c.tc : Thread nD τ).loc main_arg3))) (narrow (m ((c.tc : Thread nD τ).loc main_arg5)))) :=
  (W3_arr m ρ c 2).trans ((final1_2 (V2 m ρ) c).trans (by rw [V2_v2, V2_v5]))

/-- A buffer that a call leaves alone. -/
theorem V2_v0 : V2 m ρ c main_v0 = (narrow (m ((c.tc : Thread nD τ).loc main_arg1))) :=
  (W2_of m ρ c main_v0 (by decide +kernel)).trans (V1_v0 m ρ c)

/-- A buffer that a call leaves alone. -/
theorem V3_v0 : V3 m ρ c main_v0 = (narrow (m ((c.tc : Thread nD τ).loc main_arg1))) :=
  (W3_of m ρ c main_v0 (by decide +kernel)).trans (V2_v0 m ρ c)

/-- A buffer that a call leaves alone. -/
theorem V3_v11 : V3 m ρ c main_v11 = (prodArr (narrow (m ((c.tc : Thread nD τ).loc main_arg2))) (narrow (m ((c.tc : Thread nD τ).loc main_arg4)))) :=
  (W3_of m ρ c main_v11 (by decide +kernel)).trans (V2_v11 m ρ c)

/-- A buffer that a call leaves alone. -/
theorem V2_v9 : V2 m ρ c main_v9 = (rowG (m ((c.tc : Thread nD τ).loc main_arg7))) :=
  (W2_of m ρ c main_v9 (by decide +kernel)).trans (V1_v9 m ρ c)

/-- A buffer that a call leaves alone. -/
theorem V3_v9 : V3 m ρ c main_v9 = (rowG (m ((c.tc : Thread nD τ).loc main_arg7))) :=
  (W3_of m ρ c main_v9 (by decide +kernel)).trans (V2_v9 m ρ c)

/-- A buffer that a call leaves alone. -/
theorem V2_v10 : V2 m ρ c main_v10 = (rowC (m ((c.tc : Thread nD τ).loc main_arg8))) :=
  (W2_of m ρ c main_v10 (by decide +kernel)).trans (V1_v10 m ρ c)

/-- A buffer that a call leaves alone. -/
theorem V3_v10 : V3 m ρ c main_v10 = (rowC (m ((c.tc : Thread nD τ).loc main_arg8))) :=
  (W3_of m ρ c main_v10 (by decide +kernel)).trans (V2_v10 m ρ c)

/-- A call's result after it. -/
theorem V4_v13 : V4 m ρ c main_v13 = (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) :=
  (W4_arr m ρ c 5).trans ((final2_5 (V3 m ρ) c).trans (by rw [V3_v0, V3_v11, V3_v12, V3_v9, V3_v10]; rfl))

/-- A buffer that a call leaves alone. -/
theorem V2_v6 : V2 m ρ c main_v6 = (narrow (m ((c.tc : Thread nD τ).loc main_arg6))) :=
  (W2_of m ρ c main_v6 (by decide +kernel)).trans (V1_v6 m ρ c)

/-- A buffer that a call leaves alone. -/
theorem V3_v6 : V3 m ρ c main_v6 = (narrow (m ((c.tc : Thread nD τ).loc main_arg6))) :=
  (W3_of m ρ c main_v6 (by decide +kernel)).trans (V2_v6 m ρ c)

/-- A buffer that a call leaves alone. -/
theorem V4_v6 : V4 m ρ c main_v6 = (narrow (m ((c.tc : Thread nD τ).loc main_arg6))) :=
  (W4_of m ρ c main_v6 (by decide +kernel)).trans (V3_v6 m ρ c)

/-- An argument when a region is entered. -/
theorem V4_arg0 : V4 m ρ c main_arg0 = (m ((c.tc : Thread nD τ).loc main_arg0)) :=
  W4_args m ρ c main_arg0 (by decide)

/-- A call's result after it. -/
theorem V5_v14 : V5 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W5_arr m ρ c 3).trans ((final3_3 (V4 m ρ) c).trans (by rw [V4_v13, V4_v6, V4_arg0]))

/-- A buffer that a call leaves alone. -/
theorem V2_v3 : V2 m ρ c main_v3 = (narrow (m ((c.tc : Thread nD τ).loc main_arg9))) :=
  (W2_of m ρ c main_v3 (by decide +kernel)).trans (V1_v3 m ρ c)

/-- A buffer that a call leaves alone. -/
theorem V3_v3 : V3 m ρ c main_v3 = (narrow (m ((c.tc : Thread nD τ).loc main_arg9))) :=
  (W3_of m ρ c main_v3 (by decide +kernel)).trans (V2_v3 m ρ c)

/-- A buffer that a call leaves alone. -/
theorem V4_v3 : V4 m ρ c main_v3 = (narrow (m ((c.tc : Thread nD τ).loc main_arg9))) :=
  (W4_of m ρ c main_v3 (by decide +kernel)).trans (V3_v3 m ρ c)

/-- A buffer that a call leaves alone. -/
theorem V5_v3 : V5 m ρ c main_v3 = (narrow (m ((c.tc : Thread nD τ).loc main_arg9))) :=
  (W5_of m ρ c main_v3 (by decide +kernel)).trans (V4_v3 m ρ c)

/-- A buffer that a call leaves alone. -/
theorem V5_v6 : V5 m ρ c main_v6 = (narrow (m ((c.tc : Thread nD τ).loc main_arg6))) :=
  (W5_of m ρ c main_v6 (by decide +kernel)).trans (V4_v6 m ρ c)

/-- A call's result after it. -/
theorem V6_v15 : V6 m ρ c main_v15 = (backArr (narrow (m ((c.tc : Thread nD τ).loc main_arg9))) (narrow (m ((c.tc : Thread nD τ).loc main_arg6)))) :=
  (W6_arr m ρ c 2).trans ((final4_2 (V5 m ρ) c).trans (by rw [V5_v3, V5_v6]))

/-- A buffer that a call leaves alone. -/
theorem V5_v13 : V5 m ρ c main_v13 = (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) :=
  (W5_of m ρ c main_v13 (by decide +kernel)).trans (V4_v13 m ρ c)

/-- A buffer that a call leaves alone. -/
theorem V6_v13 : V6 m ρ c main_v13 = (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) :=
  (W6_of m ρ c main_v13 (by decide +kernel)).trans (V5_v13 m ρ c)

/-- A buffer that a call leaves alone. -/
theorem V6_v3 : V6 m ρ c main_v3 = (narrow (m ((c.tc : Thread nD τ).loc main_arg9))) :=
  (W6_of m ρ c main_v3 (by decide +kernel)).trans (V5_v3 m ρ c)

/-- A call's result after it. -/
theorem V7_v16 : V7 m ρ c main_v16 = (gradArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg9)))) :=
  (W7_arr m ρ c 2).trans ((final5_2 (V6 m ρ) c).trans (by rw [V6_v13, V6_v3]))

/-- A buffer that a call leaves alone. -/
theorem V2_v1 : V2 m ρ c main_v1 = (narrow (m ((c.tc : Thread nD τ).loc main_arg2))) :=
  (W2_of m ρ c main_v1 (by decide +kernel)).trans (V1_v1 m ρ c)

/-- A buffer that a call leaves alone. -/
theorem V3_v1 : V3 m ρ c main_v1 = (narrow (m ((c.tc : Thread nD τ).loc main_arg2))) :=
  (W3_of m ρ c main_v1 (by decide +kernel)).trans (V2_v1 m ρ c)

/-- A buffer that a call leaves alone. -/
theorem V4_v1 : V4 m ρ c main_v1 = (narrow (m ((c.tc : Thread nD τ).loc main_arg2))) :=
  (W4_of m ρ c main_v1 (by decide +kernel)).trans (V3_v1 m ρ c)

/-- A buffer that a call leaves alone. -/
theorem V5_v1 : V5 m ρ c main_v1 = (narrow (m ((c.tc : Thread nD τ).loc main_arg2))) :=
  (W5_of m ρ c main_v1 (by decide +kernel)).trans (V4_v1 m ρ c)

/-- A buffer that a call leaves alone. -/
theorem V6_v1 : V6 m ρ c main_v1 = (narrow (m ((c.tc : Thread nD τ).loc main_arg2))) :=
  (W6_of m ρ c main_v1 (by decide +kernel)).trans (V5_v1 m ρ c)

/-- A buffer that a call leaves alone. -/
theorem V7_v1 : V7 m ρ c main_v1 = (narrow (m ((c.tc : Thread nD τ).loc main_arg2))) :=
  (W7_of m ρ c main_v1 (by decide +kernel)).trans (V6_v1 m ρ c)

/-- A buffer that a call leaves alone. -/
theorem V2_v7 : V2 m ρ c main_v7 = (narrow (m ((c.tc : Thread nD τ).loc main_arg10))) :=
  (W2_of m ρ c main_v7 (by decide +kernel)).trans (V1_v7 m ρ c)

/-- A buffer that a call leaves alone. -/
theorem V3_v7 : V3 m ρ c main_v7 = (narrow (m ((c.tc : Thread nD τ).loc main_arg10))) :=
  (W3_of m ρ c main_v7 (by decide +kernel)).trans (V2_v7 m ρ c)

/-- A buffer that a call leaves alone. -/
theorem V4_v7 : V4 m ρ c main_v7 = (narrow (m ((c.tc : Thread nD τ).loc main_arg10))) :=
  (W4_of m ρ c main_v7 (by decide +kernel)).trans (V3_v7 m ρ c)

/-- A buffer that a call leaves alone. -/
theorem V5_v7 : V5 m ρ c main_v7 = (narrow (m ((c.tc : Thread nD τ).loc main_arg10))) :=
  (W5_of m ρ c main_v7 (by decide +kernel)).trans (V4_v7 m ρ c)

/-- A buffer that a call leaves alone. -/
theorem V6_v7 : V6 m ρ c main_v7 = (narrow (m ((c.tc : Thread nD τ).loc main_arg10))) :=
  (W6_of m ρ c main_v7 (by decide +kernel)).trans (V5_v7 m ρ c)

/-- A buffer that a call leaves alone. -/
theorem V7_v7 : V7 m ρ c main_v7 = (narrow (m ((c.tc : Thread nD τ).loc main_arg10))) :=
  (W7_of m ρ c main_v7 (by decide +kernel)).trans (V6_v7 m ρ c)

/-- A call's result after it. -/
theorem V8_v17 : V8 m ρ c main_v17 = (gradArr (narrow (m ((c.tc : Thread nD τ).loc main_arg2))) (narrow (m ((c.tc : Thread nD τ).loc main_arg10)))) :=
  (W8_arr m ρ c 2).trans ((final6_2 (V7 m ρ) c).trans (by rw [V7_v1, V7_v7]))

/-- A buffer that a call leaves alone. -/
theorem V8_v7 : V8 m ρ c main_v7 = (narrow (m ((c.tc : Thread nD τ).loc main_arg10))) :=
  (W8_of m ρ c main_v7 (by decide +kernel)).trans (V7_v7 m ρ c)

/-- A buffer that a call leaves alone. -/
theorem V2_v4 : V2 m ρ c main_v4 = (narrow (m ((c.tc : Thread nD τ).loc main_arg4))) :=
  (W2_of m ρ c main_v4 (by decide +kernel)).trans (V1_v4 m ρ c)

/-- A buffer that a call leaves alone. -/
theorem V3_v4 : V3 m ρ c main_v4 = (narrow (m ((c.tc : Thread nD τ).loc main_arg4))) :=
  (W3_of m ρ c main_v4 (by decide +kernel)).trans (V2_v4 m ρ c)

/-- A buffer that a call leaves alone. -/
theorem V4_v4 : V4 m ρ c main_v4 = (narrow (m ((c.tc : Thread nD τ).loc main_arg4))) :=
  (W4_of m ρ c main_v4 (by decide +kernel)).trans (V3_v4 m ρ c)

/-- A buffer that a call leaves alone. -/
theorem V5_v4 : V5 m ρ c main_v4 = (narrow (m ((c.tc : Thread nD τ).loc main_arg4))) :=
  (W5_of m ρ c main_v4 (by decide +kernel)).trans (V4_v4 m ρ c)

/-- A buffer that a call leaves alone. -/
theorem V6_v4 : V6 m ρ c main_v4 = (narrow (m ((c.tc : Thread nD τ).loc main_arg4))) :=
  (W6_of m ρ c main_v4 (by decide +kernel)).trans (V5_v4 m ρ c)

/-- A buffer that a call leaves alone. -/
theorem V7_v4 : V7 m ρ c main_v4 = (narrow (m ((c.tc : Thread nD τ).loc main_arg4))) :=
  (W7_of m ρ c main_v4 (by decide +kernel)).trans (V6_v4 m ρ c)

/-- A buffer that a call leaves alone. -/
theorem V8_v4 : V8 m ρ c main_v4 = (narrow (m ((c.tc : Thread nD τ).loc main_arg4))) :=
  (W8_of m ρ c main_v4 (by decide +kernel)).trans (V7_v4 m ρ c)

/-- A call's result after it. -/
theorem V9_v18 : V9 m ρ c main_v18 = (backArr (narrow (m ((c.tc : Thread nD τ).loc main_arg10))) (narrow (m ((c.tc : Thread nD τ).loc main_arg4)))) :=
  (W9_arr m ρ c 2).trans ((final7_2 (V8 m ρ) c).trans (by rw [V8_v7, V8_v4]))

/-- A buffer that a call leaves alone. -/
theorem V3_v2 : V3 m ρ c main_v2 = (narrow (m ((c.tc : Thread nD τ).loc main_arg3))) :=
  (W3_of m ρ c main_v2 (by decide +kernel)).trans (V2_v2 m ρ c)

/-- A buffer that a call leaves alone. -/
theorem V4_v2 : V4 m ρ c main_v2 = (narrow (m ((c.tc : Thread nD τ).loc main_arg3))) :=
  (W4_of m ρ c main_v2 (by decide +kernel)).trans (V3_v2 m ρ c)

/-- A buffer that a call leaves alone. -/
theorem V5_v2 : V5 m ρ c main_v2 = (narrow (m ((c.tc : Thread nD τ).loc main_arg3))) :=
  (W5_of m ρ c main_v2 (by decide +kernel)).trans (V4_v2 m ρ c)

/-- A buffer that a call leaves alone. -/
theorem V6_v2 : V6 m ρ c main_v2 = (narrow (m ((c.tc : Thread nD τ).loc main_arg3))) :=
  (W6_of m ρ c main_v2 (by decide +kernel)).trans (V5_v2 m ρ c)

/-- A buffer that a call leaves alone. -/
theorem V7_v2 : V7 m ρ c main_v2 = (narrow (m ((c.tc : Thread nD τ).loc main_arg3))) :=
  (W7_of m ρ c main_v2 (by decide +kernel)).trans (V6_v2 m ρ c)

/-- A buffer that a call leaves alone. -/
theorem V8_v2 : V8 m ρ c main_v2 = (narrow (m ((c.tc : Thread nD τ).loc main_arg3))) :=
  (W8_of m ρ c main_v2 (by decide +kernel)).trans (V7_v2 m ρ c)

/-- A buffer that a call leaves alone. -/
theorem V9_v2 : V9 m ρ c main_v2 = (narrow (m ((c.tc : Thread nD τ).loc main_arg3))) :=
  (W9_of m ρ c main_v2 (by decide +kernel)).trans (V8_v2 m ρ c)

/-- A buffer that a call leaves alone. -/
theorem V2_v8 : V2 m ρ c main_v8 = (narrow (m ((c.tc : Thread nD τ).loc main_arg11))) :=
  (W2_of m ρ c main_v8 (by decide +kernel)).trans (V1_v8 m ρ c)

/-- A buffer that a call leaves alone. -/
theorem V3_v8 : V3 m ρ c main_v8 = (narrow (m ((c.tc : Thread nD τ).loc main_arg11))) :=
  (W3_of m ρ c main_v8 (by decide +kernel)).trans (V2_v8 m ρ c)

/-- A buffer that a call leaves alone. -/
theorem V4_v8 : V4 m ρ c main_v8 = (narrow (m ((c.tc : Thread nD τ).loc main_arg11))) :=
  (W4_of m ρ c main_v8 (by decide +kernel)).trans (V3_v8 m ρ c)

/-- A buffer that a call leaves alone. -/
theorem V5_v8 : V5 m ρ c main_v8 = (narrow (m ((c.tc : Thread nD τ).loc main_arg11))) :=
  (W5_of m ρ c main_v8 (by decide +kernel)).trans (V4_v8 m ρ c)

/-- A buffer that a call leaves alone. -/
theorem V6_v8 : V6 m ρ c main_v8 = (narrow (m ((c.tc : Thread nD τ).loc main_arg11))) :=
  (W6_of m ρ c main_v8 (by decide +kernel)).trans (V5_v8 m ρ c)

/-- A buffer that a call leaves alone. -/
theorem V7_v8 : V7 m ρ c main_v8 = (narrow (m ((c.tc : Thread nD τ).loc main_arg11))) :=
  (W7_of m ρ c main_v8 (by decide +kernel)).trans (V6_v8 m ρ c)

/-- A buffer that a call leaves alone. -/
theorem V8_v8 : V8 m ρ c main_v8 = (narrow (m ((c.tc : Thread nD τ).loc main_arg11))) :=
  (W8_of m ρ c main_v8 (by decide +kernel)).trans (V7_v8 m ρ c)

/-- A buffer that a call leaves alone. -/
theorem V9_v8 : V9 m ρ c main_v8 = (narrow (m ((c.tc : Thread nD τ).loc main_arg11))) :=
  (W9_of m ρ c main_v8 (by decide +kernel)).trans (V8_v8 m ρ c)

/-- A call's result after it. -/
theorem V10_v19 : V10 m ρ c main_v19 = (gradArr (narrow (m ((c.tc : Thread nD τ).loc main_arg3))) (narrow (m ((c.tc : Thread nD τ).loc main_arg11)))) :=
  (W10_arr m ρ c 2).trans ((final8_2 (V9 m ρ) c).trans (by rw [V9_v2, V9_v8]))

/-- A buffer that a call leaves alone. -/
theorem V10_v8 : V10 m ρ c main_v8 = (narrow (m ((c.tc : Thread nD τ).loc main_arg11))) :=
  (W10_of m ρ c main_v8 (by decide +kernel)).trans (V9_v8 m ρ c)

/-- A buffer that a call leaves alone. -/
theorem V3_v5 : V3 m ρ c main_v5 = (narrow (m ((c.tc : Thread nD τ).loc main_arg5))) :=
  (W3_of m ρ c main_v5 (by decide +kernel)).trans (V2_v5 m ρ c)

/-- A buffer that a call leaves alone. -/
theorem V4_v5 : V4 m ρ c main_v5 = (narrow (m ((c.tc : Thread nD τ).loc main_arg5))) :=
  (W4_of m ρ c main_v5 (by decide +kernel)).trans (V3_v5 m ρ c)

/-- A buffer that a call leaves alone. -/
theorem V5_v5 : V5 m ρ c main_v5 = (narrow (m ((c.tc : Thread nD τ).loc main_arg5))) :=
  (W5_of m ρ c main_v5 (by decide +kernel)).trans (V4_v5 m ρ c)

/-- A buffer that a call leaves alone. -/
theorem V6_v5 : V6 m ρ c main_v5 = (narrow (m ((c.tc : Thread nD τ).loc main_arg5))) :=
  (W6_of m ρ c main_v5 (by decide +kernel)).trans (V5_v5 m ρ c)

/-- A buffer that a call leaves alone. -/
theorem V7_v5 : V7 m ρ c main_v5 = (narrow (m ((c.tc : Thread nD τ).loc main_arg5))) :=
  (W7_of m ρ c main_v5 (by decide +kernel)).trans (V6_v5 m ρ c)

/-- A buffer that a call leaves alone. -/
theorem V8_v5 : V8 m ρ c main_v5 = (narrow (m ((c.tc : Thread nD τ).loc main_arg5))) :=
  (W8_of m ρ c main_v5 (by decide +kernel)).trans (V7_v5 m ρ c)

/-- A buffer that a call leaves alone. -/
theorem V9_v5 : V9 m ρ c main_v5 = (narrow (m ((c.tc : Thread nD τ).loc main_arg5))) :=
  (W9_of m ρ c main_v5 (by decide +kernel)).trans (V8_v5 m ρ c)

/-- A buffer that a call leaves alone. -/
theorem V10_v5 : V10 m ρ c main_v5 = (narrow (m ((c.tc : Thread nD τ).loc main_arg5))) :=
  (W10_of m ρ c main_v5 (by decide +kernel)).trans (V9_v5 m ρ c)

/-- A call's result after it. -/
theorem V11_v20 : V11 m ρ c main_v20 = (backArr (narrow (m ((c.tc : Thread nD τ).loc main_arg11))) (narrow (m ((c.tc : Thread nD τ).loc main_arg5)))) :=
  (W11_arr m ρ c 2).trans ((final9_2 (V10 m ρ) c).trans (by rw [V10_v8, V10_v5]))

/-- A buffer that a call leaves alone. -/
theorem V6_v14 : V6 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W6_of m ρ c main_v14 (by decide +kernel)).trans (V5_v14 m ρ c)

/-- A buffer that a call leaves alone. -/
theorem V7_v14 : V7 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W7_of m ρ c main_v14 (by decide +kernel)).trans (V6_v14 m ρ c)

/-- A buffer that a call leaves alone. -/
theorem V8_v14 : V8 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W8_of m ρ c main_v14 (by decide +kernel)).trans (V7_v14 m ρ c)

/-- A buffer that a call leaves alone. -/
theorem V9_v14 : V9 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W9_of m ρ c main_v14 (by decide +kernel)).trans (V8_v14 m ρ c)

/-- A buffer that a call leaves alone. -/
theorem V10_v14 : V10 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W10_of m ρ c main_v14 (by decide +kernel)).trans (V9_v14 m ρ c)

/-- A buffer that a call leaves alone. -/
theorem V11_v14 : V11 m ρ c main_v14 = (resArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg6))) (m ((c.tc : Thread nD τ).loc main_arg0))) :=
  (W11_of m ρ c main_v14 (by decide +kernel)).trans (V10_v14 m ρ c)

/-- A buffer that a call leaves alone. -/
theorem V7_v15 : V7 m ρ c main_v15 = (backArr (narrow (m ((c.tc : Thread nD τ).loc main_arg9))) (narrow (m ((c.tc : Thread nD τ).loc main_arg6)))) :=
  (W7_of m ρ c main_v15 (by decide +kernel)).trans (V6_v15 m ρ c)

/-- A buffer that a call leaves alone. -/
theorem V8_v15 : V8 m ρ c main_v15 = (backArr (narrow (m ((c.tc : Thread nD τ).loc main_arg9))) (narrow (m ((c.tc : Thread nD τ).loc main_arg6)))) :=
  (W8_of m ρ c main_v15 (by decide +kernel)).trans (V7_v15 m ρ c)

/-- A buffer that a call leaves alone. -/
theorem V9_v15 : V9 m ρ c main_v15 = (backArr (narrow (m ((c.tc : Thread nD τ).loc main_arg9))) (narrow (m ((c.tc : Thread nD τ).loc main_arg6)))) :=
  (W9_of m ρ c main_v15 (by decide +kernel)).trans (V8_v15 m ρ c)

/-- A buffer that a call leaves alone. -/
theorem V10_v15 : V10 m ρ c main_v15 = (backArr (narrow (m ((c.tc : Thread nD τ).loc main_arg9))) (narrow (m ((c.tc : Thread nD τ).loc main_arg6)))) :=
  (W10_of m ρ c main_v15 (by decide +kernel)).trans (V9_v15 m ρ c)

/-- A buffer that a call leaves alone. -/
theorem V11_v15 : V11 m ρ c main_v15 = (backArr (narrow (m ((c.tc : Thread nD τ).loc main_arg9))) (narrow (m ((c.tc : Thread nD τ).loc main_arg6)))) :=
  (W11_of m ρ c main_v15 (by decide +kernel)).trans (V10_v15 m ρ c)

/-- A buffer that a call leaves alone. -/
theorem V8_v16 : V8 m ρ c main_v16 = (gradArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg9)))) :=
  (W8_of m ρ c main_v16 (by decide +kernel)).trans (V7_v16 m ρ c)

/-- A buffer that a call leaves alone. -/
theorem V9_v16 : V9 m ρ c main_v16 = (gradArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg9)))) :=
  (W9_of m ρ c main_v16 (by decide +kernel)).trans (V8_v16 m ρ c)

/-- A buffer that a call leaves alone. -/
theorem V10_v16 : V10 m ρ c main_v16 = (gradArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg9)))) :=
  (W10_of m ρ c main_v16 (by decide +kernel)).trans (V9_v16 m ρ c)

/-- A buffer that a call leaves alone. -/
theorem V11_v16 : V11 m ρ c main_v16 = (gradArr (midMix (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8))) (narrow (m ((c.tc : Thread nD τ).loc main_arg9)))) :=
  (W11_of m ρ c main_v16 (by decide +kernel)).trans (V10_v16 m ρ c)

/-- A buffer that a call leaves alone. -/
theorem V9_v17 : V9 m ρ c main_v17 = (gradArr (narrow (m ((c.tc : Thread nD τ).loc main_arg2))) (narrow (m ((c.tc : Thread nD τ).loc main_arg10)))) :=
  (W9_of m ρ c main_v17 (by decide +kernel)).trans (V8_v17 m ρ c)

/-- A buffer that a call leaves alone. -/
theorem V10_v17 : V10 m ρ c main_v17 = (gradArr (narrow (m ((c.tc : Thread nD τ).loc main_arg2))) (narrow (m ((c.tc : Thread nD τ).loc main_arg10)))) :=
  (W10_of m ρ c main_v17 (by decide +kernel)).trans (V9_v17 m ρ c)

/-- A buffer that a call leaves alone. -/
theorem V11_v17 : V11 m ρ c main_v17 = (gradArr (narrow (m ((c.tc : Thread nD τ).loc main_arg2))) (narrow (m ((c.tc : Thread nD τ).loc main_arg10)))) :=
  (W11_of m ρ c main_v17 (by decide +kernel)).trans (V10_v17 m ρ c)

/-- A buffer that a call leaves alone. -/
theorem V10_v18 : V10 m ρ c main_v18 = (backArr (narrow (m ((c.tc : Thread nD τ).loc main_arg10))) (narrow (m ((c.tc : Thread nD τ).loc main_arg4)))) :=
  (W10_of m ρ c main_v18 (by decide +kernel)).trans (V9_v18 m ρ c)

/-- A buffer that a call leaves alone. -/
theorem V11_v18 : V11 m ρ c main_v18 = (backArr (narrow (m ((c.tc : Thread nD τ).loc main_arg10))) (narrow (m ((c.tc : Thread nD τ).loc main_arg4)))) :=
  (W11_of m ρ c main_v18 (by decide +kernel)).trans (V10_v18 m ρ c)

/-- A buffer that a call leaves alone. -/
theorem V11_v19 : V11 m ρ c main_v19 = (gradArr (narrow (m ((c.tc : Thread nD τ).loc main_arg3))) (narrow (m ((c.tc : Thread nD τ).loc main_arg11)))) :=
  (W11_of m ρ c main_v19 (by decide +kernel)).trans (V10_v19 m ρ c)

end Cert.Kernel3Ideal.Value

end
-- ==== Proof.MixRef.lean ====
module

public import proofs.«01_k».proof.Proof.MixRun
public import proofs.«01_k».proof.Proof.FfnRef
public import proofs.«01_k».proof.Proof.Gen.Reference3Ideal.Run
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem Idealize.ShloMosaic.StableHlo
open Cert.Kernel2Ideal.Value (sigE narrow narrow_at)
open Cert.Kernel3Ideal.Value (lo hi midMix rowG rowC rowG_at rowC_at prodArr resArr backArr gradArr mixArr)
open Cert.Reference2Ideal.Value (sig_same)
open scoped BigOperators

/-! ## The reference's operations as functions of their operands -/

/-- The gates: the logistic function of the biased projections. -/
def gatesR (Z : Vec Ideal S2080x4096 .f32) (bg : Vec Ideal S4096 .f32) : Vec Ideal S2080x4096 .f32 :=
  Host.divf (F := Ideal) (φ := .f32) (broadcastInDim S2080x4096 ![] bcast_S_S2080x4096 (constant (F := Ideal) S_ .f32 0x3F800000#32)) (addf (F := Ideal) (φ := .f32) (broadcastInDim S2080x4096 ![] bcast_S_S2080x4096 (constant (F := Ideal) S_ .f32 0x3F800000#32)) (Host.exp (F := Ideal) (φ := .f32) (Host.negf (F := Ideal) (φ := .f32) (addf (F := Ideal) (φ := .f32) Z (broadcastInDim S2080x4096 ![0, 1] bcast_S1x4096_S2080x4096_0_1 (broadcastInDim S1x4096 ![1] bcast_S4096_S1x4096_1 bg))))))

/-- The branches weighed by the gates. -/
def mixR (S : Vec Ideal S2080x4096 .f32) (C O : Vec Ideal S2080x2048 .f32) (Wc Wa : Vec Ideal S2048x2048 .f32) (bc : Vec Ideal S2048 .f32) : Vec Ideal S2080x2048 .f32 :=
  addf (F := Ideal) (φ := .f32) (mulf (F := Ideal) (φ := .f32) (extractStridedSlice S2080x2048 ![0, 0] S slices_S2080x4096_S2080x2048_0_0) (addf (F := Ideal) (φ := .f32) (Host.dotGeneral (F := Ideal) (φ₁ := .f32) (φ₂ := .f32) dot_S2080x2048_S2048x2048_S2080x2048_1_0_0_1_n_n none C Wc) (broadcastInDim S2080x2048 ![0, 1] bcast_S1x2048_S2080x2048_0_1 (broadcastInDim S1x2048 ![1] bcast_S2048_S1x2048_1 bc)))) (mulf (F := Ideal) (φ := .f32) (extractStridedSlice S2080x2048 ![0, 2048] S slices_S2080x4096_S2080x2048_0_2048) (Host.dotGeneral (F := Ideal) (φ₁ := .f32) (φ₂ := .f32) dot_S2080x2048_S2048x2048_S2080x2048_1_0_0_1_n_n none O Wa))

/-- The residual plus the mixture's product. -/
def resR (H M : Vec Ideal S2080x2048 .f32) (W : Vec Ideal S2048x2048 .f32) : Vec Ideal S2080x2048 .f32 :=
  addf (F := Ideal) (φ := .f32) H (Host.dotGeneral (F := Ideal) (φ₁ := .f32) (φ₂ := .f32) dot_S2080x2048_S2048x2048_S2080x2048_1_0_0_1_n_n none M W)

/-- A reshape to the same shape. -/
def keepR (Y : Vec Ideal S2080x2048 .f32) : Vec Ideal S2080x2048 .f32 :=
  shapeCast S2080x2048 Y shapeCasts_S2080x2048_S2080x2048

/-- A cotangent taken back through a weight. -/
def backR (Y : Vec Ideal S2080x2048 .f32) (W : Vec Ideal S2048x2048 .f32) : Vec Ideal S2080x2048 .bf16 :=
  truncf (F := Ideal) .bf16 (Host.dotGeneral (F := Ideal) (φ₁ := .f32) (φ₂ := .f32) dot_S2080x2048_S2048x2048_S2080x2048_1_1_0_0_n_n none Y W) bitsLt_bf16_f32

/-- A weight's gradient. -/
def gradR (Y X : Vec Ideal S2080x2048 .f32) : Vec Ideal S2048x2048 .bf16 :=
  truncf (F := Ideal) .bf16 (transpose S2048x2048 [1, 0] (Host.dotGeneral (F := Ideal) (φ₁ := .f32) (φ₂ := .f32) dot_S2080x2048_S2080x2048_S2048x2048_0_0_1_1_n_n none Y X) transposes_S2048x2048_S2048x2048_1_0) bitsLt_bf16_f32

/-! ## The same at an index -/

/-- The gates at an index. -/
theorem gatesR_at (Z : Vec Ideal S2080x4096 .f32) (bg : Vec Ideal S4096 .f32) (r : Fin 2080) (j : Fin 4096) :
    gatesR Z bg (ix2 r j) = Ideal.div (Ideal.ofBits FTy.f32 1065353216#32) (Ideal.ofBits FTy.f32 1065353216#32 + Ideal.exp (-(Z (ix2 r j) + bg (ix1 j)))) := by
  pointwise [gatesR]

/-- The weighed branches at an index. -/
theorem mixR_at (S : Vec Ideal S2080x4096 .f32) (C O : Vec Ideal S2080x2048 .f32) (Wc Wa : Vec Ideal S2048x2048 .f32) (bc : Vec Ideal S2048 .f32) (r : Fin 2080) (n : Fin 2048) :
    mixR S C O Wc Wa bc (ix2 r n) = S (ix2 r (lo n)) * ((∑ k : Fin 2048, C (ix2 r k) * Wc (ix2 k n)) + bc (ix1 n)) + S (ix2 r (hi n)) * ∑ k : Fin 2048, O (ix2 r k) * Wa (ix2 k n) := by
  pointwise [mixR]

/-- The output at an index. -/
theorem resR_at (H M : Vec Ideal S2080x2048 .f32) (W : Vec Ideal S2048x2048 .f32) (r : Fin 2080) (n : Fin 2048) :
    resR H M W (ix2 r n) = H (ix2 r n) + ∑ k : Fin 2048, M (ix2 r k) * W (ix2 k n) := by
  pointwise [resR]

/-- A reshape to the same shape changes nothing. -/
theorem keepR_eq (Y : Vec Ideal S2080x2048 .f32) : keepR Y = Y := by
  funext i
  obtain ⟨r, n, rfl⟩ : ∃ (r : Fin 2080) (n : Fin 2048), i = ix2 r n := ⟨i 0, i 1, eq_ix2 i⟩
  pointwise [keepR]

/-- A cotangent taken back, at an index. -/
theorem backR_at (Y : Vec Ideal S2080x2048 .f32) (W : Vec Ideal S2048x2048 .f32) (r : Fin 2080) (n : Fin 2048) :
    backR Y W (ix2 r n) = ∑ k : Fin 2048, Y (ix2 r k) * W (ix2 n k) := by
  pointwise [backR]

/-- A weight's gradient at an index. -/
theorem gradR_at (Y X : Vec Ideal S2080x2048 .f32) (a b : Fin 2048) :
    gradR Y X (ix2 a b) = ∑ r : Fin 2080, Y (ix2 r b) * X (ix2 r a) := by
  pointwise [gradR]

/-! ## The reference's arrays are the calls' -/

/-- The mixture. -/
theorem mix_same (Z : Vec Ideal S2080x4096 .f32) (C O : Vec Ideal S2080x2048 .f32) (Wc Wa : Vec Ideal S2048x2048 .f32) (bg : Vec Ideal S4096 .f32) (bc : Vec Ideal S2048 .f32) (r : Fin 2080) (n : Fin 2048) :
    mixR (gatesR Z bg) C O Wc Wa bc (ix2 r n) = midMix Z C O Wc Wa bg bc (ix2 r n) := by
  refine (mixR_at _ _ _ _ _ _ r n).trans ?_
  have eg (j : Fin 4096) : gatesR Z bg (ix2 r j) = sigE (narrow Z (ix2 r j) + rowG bg (ix2 0 j)) :=
    (gatesR_at Z bg r j).trans ((sig_same _).trans (congrArg sigE (congrArg₂ (· + ·) rfl (rowG_at bg j).symm)))
  exact congrArg₂ (· + ·) (congrArg₂ (· * ·) (eg (lo n)) (congrArg₂ (· + ·) rfl (rowC_at bc n).symm)) (congrArg₂ (· * ·) (eg (hi n)) rfl)

/-- The residual stream after the merge. -/
theorem res_res (H M : Vec Ideal S2080x2048 .f32) (M' : Vec Ideal S2080x2048 .bf16) (W : Vec Ideal S2048x2048 .f32) (h : ∀ (r : Fin 2080) (n : Fin 2048), M (ix2 r n) = M' (ix2 r n)) :
    resR H M W = resArr M' (narrow W) H := by
  funext i
  obtain ⟨r, n, rfl⟩ : ∃ (r : Fin 2080) (n : Fin 2048), i = ix2 r n := ⟨i 0, i 1, eq_ix2 i⟩
  refine (resR_at _ _ _ r n).trans ((add_comm _ _).trans (congrArg₂ (· + ·) (Finset.sum_congr rfl fun k _ => ?_) rfl))
  exact congrArg₂ (· * ·) (h r k) rfl

/-- A cotangent taken back. -/
theorem back_res (Y : Vec Ideal S2080x2048 .f32) (W : Vec Ideal S2048x2048 .f32) : backR Y W = backArr (narrow Y) (narrow W) := by
  funext i
  obtain ⟨r, n, rfl⟩ : ∃ (r : Fin 2080) (n : Fin 2048), i = ix2 r n := ⟨i 0, i 1, eq_ix2 i⟩
  exact backR_at Y W r n

/-- The cotangent of the output taken back. -/
theorem backKeep_res (Y : Vec Ideal S2080x2048 .f32) (W : Vec Ideal S2048x2048 .f32) : backR (keepR Y) W = backArr (narrow Y) (narrow W) :=
  (congrArg (fun y => backR y W) (keepR_eq Y)).trans (back_res Y W)

/-- A weight's gradient from equal rows. -/
theorem grad_res (Y X : Vec Ideal S2080x2048 .f32) (X' : Vec Ideal S2080x2048 .bf16) (h : ∀ (r : Fin 2080) (n : Fin 2048), X (ix2 r n) = X' (ix2 r n)) :
    gradR Y X = gradArr X' (narrow Y) := by
  funext i
  obtain ⟨a, b, rfl⟩ : ∃ (a : Fin 2048) (b : Fin 2048), i = ix2 a b := ⟨i 0, i 1, eq_ix2 i⟩
  refine (gradR_at Y X a b).trans (Finset.sum_congr rfl fun r _ => (mul_comm _ _).trans ?_)
  exact congrArg₂ (· * ·) (h r a) rfl

/-- The merged projection's gradient from equal mixtures. -/
theorem gradKeep_res (Y X : Vec Ideal S2080x2048 .f32) (X' : Vec Ideal S2080x2048 .bf16) (h : ∀ (r : Fin 2080) (n : Fin 2048), X (ix2 r n) = X' (ix2 r n)) :
    gradR (keepR Y) X = gradArr X' (narrow Y) :=
  (congrArg (fun y => gradR y X) (keepR_eq Y)).trans (grad_res Y X X' h)

end Cert.Reference3Ideal.Value

end
-- ==== Proof.MixClaim.lean ====
module

public import proofs.«01_k».proof.Defs
public import proofs.«01_k».proof.Proof.MixRef
public import Idealize.ShloMosaic.Adequacy
public import Idealize.ShloMosaic.Init

@[expose] public section

set_option maxRecDepth 16384

noncomputable section

namespace Cert.Proof.Mix

open Idealize.ShloMosaic Idealize.SL.Sem

/-- The reference runs, leaves its arguments, and has no semaphores. -/
theorem reference_frame : Cert.quiescent_Reference3Ideal := fun m g _ =>
  (θ_run _ _ _).mono (fun r h => ⟨fun c => (h c).2.2.2.2.2.2.2, sem_eq_zero_of_no_sems (by decide) r.2⟩) (Cert.Reference3Ideal.Value.run (F := Ideal) m g)

/-- The two programs end with the same residual stream and the same six gradients. -/
theorem algebraic : Cert.algebraic_Kernel3Ideal_Reference3Ideal := by
  intro m g m' g' _ hargs
  refine ⟨fun c => (Cert.Kernel3Ideal.Value.resArr (Cert.Kernel3Ideal.Value.midMix (m (c, Proc.tc.devRef Cert.Kernel3Ideal.main_arg1)) (m (c, Proc.tc.devRef Cert.Kernel3Ideal.main_arg2)) (m (c, Proc.tc.devRef Cert.Kernel3Ideal.main_arg3)) (m (c, Proc.tc.devRef Cert.Kernel3Ideal.main_arg4)) (m (c, Proc.tc.devRef Cert.Kernel3Ideal.main_arg5)) (m (c, Proc.tc.devRef Cert.Kernel3Ideal.main_arg7)) (m (c, Proc.tc.devRef Cert.Kernel3Ideal.main_arg8))) (Cert.Kernel2Ideal.Value.narrow (m (c, Proc.tc.devRef Cert.Kernel3Ideal.main_arg6))) (m (c, Proc.tc.devRef Cert.Kernel3Ideal.main_arg0))),
    fun c => (Cert.Kernel3Ideal.Value.backArr (Cert.Kernel2Ideal.Value.narrow (m (c, Proc.tc.devRef Cert.Kernel3Ideal.main_arg9))) (Cert.Kernel2Ideal.Value.narrow (m (c, Proc.tc.devRef Cert.Kernel3Ideal.main_arg6)))),
    fun c => (Cert.Kernel3Ideal.Value.gradArr (Cert.Kernel3Ideal.Value.midMix (m (c, Proc.tc.devRef Cert.Kernel3Ideal.main_arg1)) (m (c, Proc.tc.devRef Cert.Kernel3Ideal.main_arg2)) (m (c, Proc.tc.devRef Cert.Kernel3Ideal.main_arg3)) (m (c, Proc.tc.devRef Cert.Kernel3Ideal.main_arg4)) (m (c, Proc.tc.devRef Cert.Kernel3Ideal.main_arg5)) (m (c, Proc.tc.devRef Cert.Kernel3Ideal.main_arg7)) (m (c, Proc.tc.devRef Cert.Kernel3Ideal.main_arg8))) (Cert.Kernel2Ideal.Value.narrow (m (c, Proc.tc.devRef Cert.Kernel3Ideal.main_arg9)))),
    fun c => (Cert.Kernel3Ideal.Value.gradArr (Cert.Kernel2Ideal.Value.narrow (m (c, Proc.tc.devRef Cert.Kernel3Ideal.main_arg2))) (Cert.Kernel2Ideal.Value.narrow (m (c, Proc.tc.devRef Cert.Kernel3Ideal.main_arg10)))),
    fun c => (Cert.Kernel3Ideal.Value.backArr (Cert.Kernel2Ideal.Value.narrow (m (c, Proc.tc.devRef Cert.Kernel3Ideal.main_arg10))) (Cert.Kernel2Ideal.Value.narrow (m (c, Proc.tc.devRef Cert.Kernel3Ideal.main_arg4)))),
    fun c => (Cert.Kernel3Ideal.Value.gradArr (Cert.Kernel2Ideal.Value.narrow (m (c, Proc.tc.devRef Cert.Kernel3Ideal.main_arg3))) (Cert.Kernel2Ideal.Value.narrow (m (c, Proc.tc.devRef Cert.Kernel3Ideal.main_arg11)))),
    fun c => (Cert.Kernel3Ideal.Value.backArr (Cert.Kernel2Ideal.Value.narrow (m (c, Proc.tc.devRef Cert.Kernel3Ideal.main_arg11))) (Cert.Kernel2Ideal.Value.narrow (m (c, Proc.tc.devRef Cert.Kernel3Ideal.main_arg5)))), ?_, ?_⟩
  · refine (θ_run _ _ _).mono (fun r h c => ?_) (Cert.Kernel3Ideal.Gen.run_results m g)
    obtain ⟨r0, r1, r2, r3, r4, r5, r6, rest⟩ := h c
    exact ⟨r0.trans (Cert.Kernel3Ideal.Value.V11_v14 m g c), r1.trans (Cert.Kernel3Ideal.Value.V11_v15 m g c), r2.trans (Cert.Kernel3Ideal.Value.V11_v16 m g c), r3.trans (Cert.Kernel3Ideal.Value.V11_v17 m g c), r4.trans (Cert.Kernel3Ideal.Value.V11_v18 m g c), r5.trans (Cert.Kernel3Ideal.Value.V11_v19 m g c), r6.trans (Cert.Kernel3Ideal.Value.V11_v20 m g c), rest⟩
  · refine (θ_run _ _ _).mono (fun r h c => ?_) (Cert.Reference3Ideal.Value.run m' g')
    obtain ⟨e0, e1, e2, e3, e4, e5, e6, e7, e8, e9, e10, e11⟩ := hargs c
    obtain ⟨r0, r1, r2, r3, r4, r5, r6, rest⟩ := h c
    rw [e0, e1, e2, e3, e4, e5, e6, e7, e8] at r0
    rw [e9, e6] at r1
    rw [e1, e2, e3, e4, e5, e7, e8, e9] at r2
    rw [e10, e2] at r3
    rw [e10, e4] at r4
    rw [e11, e3] at r5
    rw [e11, e5] at r6
    exact ⟨r0.trans (Cert.Reference3Ideal.Value.res_res _ _ _ _ (Cert.Reference3Ideal.Value.mix_same _ _ _ _ _ _ _)),
      r1.trans (Cert.Reference3Ideal.Value.backKeep_res _ _),
      r2.trans (Cert.Reference3Ideal.Value.gradKeep_res _ _ _ (Cert.Reference3Ideal.Value.mix_same _ _ _ _ _ _ _)),
      r3.trans (Cert.Reference3Ideal.Value.grad_res _ _ _ fun _ _ => rfl),
      r4.trans (Cert.Reference3Ideal.Value.back_res _ _),
      r5.trans (Cert.Reference3Ideal.Value.grad_res _ _ _ fun _ _ => rfl),
      r6.trans (Cert.Reference3Ideal.Value.back_res _ _), rest⟩

end Cert.Proof.Mix

end
-- ==== Proof.ProjBlocks.lean ====
module

public import proofs.«01_k».proof.Proof.Gen.Kernel4Ideal.Frame
public import proofs.«01_k».proof.Proof.FfnRun
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Value

open Cert.Kernel4Ideal Cert.Kernel4Ideal.Gen Idealize.ShloMosaic Idealize.ShloMosaic.TcCoe Idealize.SL.Sem
open scoped BigOperators

/-- A row's reciprocal root mean square, the mean taken with the literals 2048 and 1e-6 of the call. -/
def rootE (x : Fin 2048 → EReal) : EReal :=
  Ideal.rsqrt (Ideal.div (∑ k : Fin 2048, x k * x k) (Ideal.ofBits FTy.f32 1157627904#32) + Ideal.ofBits FTy.f32 897988541#32)

/-- The normalised rows. -/
def normArr (X : Vec Ideal S2080x2048 .f32) (g : Vec Ideal S1x2048 .f32) : Vec Ideal S2080x2048 .bf16 :=
  fun i => (X (ix2 (i 0) (i 1)) * rootE fun k => X (ix2 (i 0) k)) * g (ix2 0 (i 1))

/-- The rows' products with the small projections' columns, given as rows. -/
def smallArr (X : Vec Ideal S2080x2048 .bf16) (W : Vec Ideal S1152x2048 .bf16) : Vec Ideal S2080x1152 .f32 :=
  fun i => ∑ k : Fin 2048, X (ix2 (i 0) k) * W (ix2 (i 1) k)

/-- The rows' products with the gate's columns, given as rows. -/
def gateArr (X : Vec Ideal S2080x2048 .bf16) (W : Vec Ideal S4096x2048 .bf16) : Vec Ideal S2080x4096 .bf16 :=
  fun i => ∑ k : Fin 2048, X (ix2 (i 0) k) * W (ix2 (i 1) k)

/-- The small projections' cotangent taken back, added to a gradient. -/
def smallBackArr (Y : Vec Ideal S2080x1152 .bf16) (W : Vec Ideal S1152x2048 .bf16) (R : Vec Ideal S2080x2048 .f32) : Vec Ideal S2080x2048 .f32 :=
  fun i => (∑ j : Fin 1152, Y (ix2 (i 0) j) * W (ix2 j (i 1))) + R (ix2 (i 0) (i 1))

/-- The gate's cotangent taken back, added to a gradient. -/
def gateBackArr (Y : Vec Ideal S2080x4096 .bf16) (W : Vec Ideal S4096x2048 .bf16) (R : Vec Ideal S2080x2048 .f32) : Vec Ideal S2080x2048 .f32 :=
  fun i => (∑ j : Fin 4096, Y (ix2 (i 0) j) * W (ix2 j (i 1))) + R (ix2 (i 0) (i 1))

variable (V : (c : Dev nD) → (b : Ref sig .tc) → Buf (Elt Ideal) ((c : Thread nD τ).loc b)) (c : Dev nD)

/-- Where each window's block lies. -/
theorem idx0 : ∀ t : Fin cfg0.N, win0_0.index t = ![t.val, 0] ∧ win0_1.index t = ![0, 0] ∧ win0_2.index t = ![t.val, 0] :=
  (by decide +kernel : ∀ t : Fin grid0.N, _)

/-- The number of grid points. -/
theorem lt0 (t : Fin cfg0.N) : t.val < 5 := Nat.lt_of_lt_of_eq t.isLt (N_0 : cfg0.N = 5)

/-- The normalised row at an entry of a block. -/
theorem pay0_1_at (X : Vec Ideal S416x2048 .f32) (g : Vec Ideal S1x2048 .f32) (a : Fin 416) (b : Fin 2048) :
    (k0_pay1 X g : Vec Ideal S416x2048 .bf16) (ix2 a b) = (X (ix2 a b) * rootE fun k => X (ix2 a k)) * g (ix2 0 b) := by
  unfold rootE
  pointwise [k0_pay1]

/-- The rows a grid point works on. -/
abbrev row0 (t : Fin cfg0.N) (a : Fin 416) : Fin 2080 := ⟨t.val * 416 + a.val, by have := lt0 t; omega⟩

/-- The normalised rows. -/
theorem final0_2 : (dat0 V c).arrAt 2 cfg0.N = normArr (V c main_arg0) (V c main_v8) := by
  refine (dat0 V c).arrAt_eq_of_covers 2 _ (by decide +kernel) fun t _ y => ?_
  blk_simp
  rw [after0_2]
  frame_out
  idx_vars y
  have e : ((View.whole main_v9).slice (win0_2.rect t)).emb (ix2 y0 y1) = ix2 (row0 t y0) y1 := by
    blk_ext [idx0 t]
  rw [e]
  refine (pay0_1_at _ _ _ _).trans ?_
  show _ = normArr (V c main_arg0) (V c main_v8) (ix2 (row0 t y0) y1)
  unfold normArr
  have hx : ∀ k : Fin 2048, (iblk0 V c 0 t : Vec Ideal S416x2048 .f32) (ix2 y0 k) = (V c main_arg0 : Vec Ideal S2080x2048 .f32) (ix2 (row0 t y0) k) := fun k => by
    blk_point [iblk0, idx0 t]
  have hg : (iblk0 V c 1 t : Vec Ideal S1x2048 .f32) (ix2 0 y1) = (V c main_v8 : Vec Ideal S1x2048 .f32) (ix2 0 y1) := by
    blk_point [iblk0, idx0 t]
  exact congrArg₂ (fun a b : EReal => a * b) (congrArg₂ (fun a b : EReal => a * b) (hx y1) (congrArg rootE (funext hx))) hg

/-- Where each window's block lies. -/
theorem idx1 : ∀ t : Fin cfg1.N, win1_0.index t = ![0, 0] ∧ win1_1.index t = ![0, 0] ∧ win1_2.index t = ![0, t.val] :=
  (by decide +kernel : ∀ t : Fin grid1.N, _)

/-- The number of grid points. -/
theorem lt1 (t : Fin cfg1.N) : t.val < 1 := Nat.lt_of_lt_of_eq t.isLt (N_1 : cfg1.N = 1)

/-- The product at an entry of a block. -/
theorem pay1_1_at (X : Vec Ideal S2080x2048 .bf16) (W : Vec Ideal S1152x2048 .bf16) (a : Fin 2080) (b : Fin 1152) :
    (k1_pay1 X W : Vec Ideal S2080x1152 .f32) (ix2 a b) = (∑ k : Fin 2048, X (ix2 a k) * W (ix2 b k)) := by
  pointwise [k1_pay1]

/-- The columns a grid point works on. -/
abbrev col1 (t : Fin cfg1.N) (b : Fin 1152) : Fin 1152 := ⟨t.val * 1152 + b.val, by have := lt1 t; omega⟩

/-- The small projections. -/
theorem final1_2 : (dat1 V c).arrAt 2 cfg1.N = smallArr (V c main_v9) (V c main_v3) := by
  refine (dat1 V c).arrAt_eq_of_covers 2 _ (by decide +kernel) fun t _ y => ?_
  blk_simp
  rw [after1_2]
  frame_out
  idx_vars y
  have e : ((View.whole main_v10).slice (win1_2.rect t)).emb (ix2 y0 y1) = ix2 y0 (col1 t y1) := by
    blk_ext [idx1 t]
  rw [e]
  refine (pay1_1_at _ _ _ _).trans ?_
  show _ = smallArr (V c main_v9) (V c main_v3) (ix2 y0 (col1 t y1))
  unfold smallArr
  blk_point [iblk1, idx1 t]

/-- Where each window's block lies. -/
theorem idx2 : ∀ t : Fin cfg2.N, win2_0.index t = ![0, 0] ∧ win2_1.index t = ![t.val, 0] ∧ win2_2.index t = ![0, t.val] :=
  (by decide +kernel : ∀ t : Fin grid2.N, _)

/-- The number of grid points. -/
theorem lt2 (t : Fin cfg2.N) : t.val < 4 := Nat.lt_of_lt_of_eq t.isLt (N_2 : cfg2.N = 4)

/-- The product at an entry of a block. -/
theorem pay2_1_at (X : Vec Ideal S2080x2048 .bf16) (W : Vec Ideal S1024x2048 .bf16) (a : Fin 2080) (b : Fin 1024) :
    (k2_pay1 X W : Vec Ideal S2080x1024 .bf16) (ix2 a b) = (∑ k : Fin 2048, X (ix2 a k) * W (ix2 b k)) := by
  pointwise [k2_pay1]

/-- The columns a grid point works on. -/
abbrev col2 (t : Fin cfg2.N) (b : Fin 1024) : Fin 4096 := ⟨t.val * 1024 + b.val, by have := lt2 t; omega⟩

/-- The gate's projection. -/
theorem final2_2 : (dat2 V c).arrAt 2 cfg2.N = gateArr (V c main_v9) (V c main_v4) := by
  refine (dat2 V c).arrAt_eq_of_covers 2 _ (by decide +kernel) fun t _ y => ?_
  blk_simp
  rw [after2_2]
  frame_out
  idx_vars y
  have e : ((View.whole main_v11).slice (win2_2.rect t)).emb (ix2 y0 y1) = ix2 y0 (col2 t y1) := by
    blk_ext [idx2 t]
  rw [e]
  refine (pay2_1_at _ _ _ _).trans ?_
  show _ = gateArr (V c main_v9) (V c main_v4) (ix2 y0 (col2 t y1))
  unfold gateArr
  blk_point [iblk2, idx2 t]

/-- Where each window's block lies. -/
theorem idx3 : ∀ t : Fin cfg3.N, win3_0.index t = ![0, 0] ∧ win3_1.index t = ![0, t.val] ∧ win3_2.index t = ![0, t.val] ∧ win3_3.index t = ![0, t.val] :=
  (by decide +kernel : ∀ t : Fin grid3.N, _)

/-- The number of grid points. -/
theorem lt3 (t : Fin cfg3.N) : t.val < 4 := Nat.lt_of_lt_of_eq t.isLt (N_3 : cfg3.N = 4)

/-- The product at an entry of a block. -/
theorem pay3_1_at (X : Vec Ideal S2080x1152 .bf16) (W : Vec Ideal S1152x512 .bf16) (R : Vec Ideal S2080x512 .f32) (a : Fin 2080) (b : Fin 512) :
    (k3_pay1 X W R : Vec Ideal S2080x512 .f32) (ix2 a b) = (∑ k : Fin 1152, X (ix2 a k) * W (ix2 k b)) + R (ix2 a b) := by
  pointwise [k3_pay1]

/-- The columns a grid point works on. -/
abbrev col3 (t : Fin cfg3.N) (b : Fin 512) : Fin 2048 := ⟨t.val * 512 + b.val, by have := lt3 t; omega⟩

/-- The gradient with the small projections' share. -/
theorem final3_3 : (dat3 V c).arrAt 3 cfg3.N = smallBackArr (V c main_v6) (V c main_v3) (V c main_arg3) := by
  refine (dat3 V c).arrAt_eq_of_covers 3 _ (by decide +kernel) fun t _ y => ?_
  blk_simp
  rw [after3_3]
  frame_out
  idx_vars y
  have e : ((View.whole main_v12).slice (win3_3.rect t)).emb (ix2 y0 y1) = ix2 y0 (col3 t y1) := by
    blk_ext [idx3 t]
  rw [e]
  refine (pay3_1_at _ _ _ _ _).trans ?_
  show _ = smallBackArr (V c main_v6) (V c main_v3) (V c main_arg3) (ix2 y0 (col3 t y1))
  unfold smallBackArr
  blk_point [iblk3, idx3 t]

/-- Where each window's block lies. -/
theorem idx4 : ∀ t : Fin cfg4.N, win4_0.index t = ![0, 0] ∧ win4_1.index t = ![0, t.val] ∧ win4_2.index t = ![0, t.val] ∧ win4_3.index t = ![0, t.val] :=
  (by decide +kernel : ∀ t : Fin grid4.N, _)

/-- The number of grid points. -/
theorem lt4 (t : Fin cfg4.N) : t.val < 8 := Nat.lt_of_lt_of_eq t.isLt (N_4 : cfg4.N = 8)

/-- The product at an entry of a block. -/
theorem pay4_1_at (X : Vec Ideal S2080x4096 .bf16) (W : Vec Ideal S4096x256 .bf16) (R : Vec Ideal S2080x256 .f32) (a : Fin 2080) (b : Fin 256) :
    (k4_pay1 X W R : Vec Ideal S2080x256 .f32) (ix2 a b) = (∑ k : Fin 4096, X (ix2 a k) * W (ix2 k b)) + R (ix2 a b) := by
  pointwise [k4_pay1]

/-- The columns a grid point works on. -/
abbrev col4 (t : Fin cfg4.N) (b : Fin 256) : Fin 2048 := ⟨t.val * 256 + b.val, by have := lt4 t; omega⟩

/-- The gradient with the gate's share. -/
theorem final4_3 : (dat4 V c).arrAt 3 cfg4.N = gateBackArr (V c main_v7) (V c main_v4) (V c main_v12) := by
  refine (dat4 V c).arrAt_eq_of_covers 3 _ (by decide +kernel) fun t _ y => ?_
  blk_simp
  rw [after4_3]
  frame_out
  idx_vars y
  have e : ((View.whole main_v13).slice (win4_3.rect t)).emb (ix2 y0 y1) = ix2 y0 (col4 t y1) := by
    blk_ext [idx4 t]
  rw [e]
  refine (pay4_1_at _ _ _ _ _).trans ?_
  show _ = gateBackArr (V c main_v7) (V c main_v4) (V c main_v12) (ix2 y0 (col4 t y1))
  unfold gateBackArr
  blk_point [iblk4, idx4 t]

end Cert.Kernel4Ideal.Value

end
-- ==== Proof.ProjRun.lean ====
module

public import proofs.«01_k».proof.Proof.ProjBlocks
public import proofs.«01_k».proof.Proof.FfnRun
public import Idealize.ShloMosaic.Lib.KernelVsHost
public import Idealize.ShloMosaic.Lib.Pointwise
public import Idealize.ShloMosaic.Lib.Claim
public import Idealize.ShloMosaic.Lib.StableHlo.ReadAt

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program: it ends, each of the four results is what the last region's exit holds of it, and the arguments
    are as they were. -/
theorem run_results : θ_run defs (onTc (τ := τ) (main (F := F))) ⟨m, fun _ => 0, ρ⟩ (fun r => ∀ c : Dev nD,
      r.2.mem ((c.tc : Thread nD τ).loc main_v9) = W10 m ρ c (Proc.devRef .tc main_v9)
      ∧ r.2.mem ((c.tc : Thread nD τ).loc main_v10) = W10 m ρ c (Proc.devRef .tc main_v10)
      ∧ r.2.mem ((c.tc : Thread nD τ).loc main_v11) = W10 m ρ c (Proc.devRef .tc main_v11)
      ∧ r.2.mem ((c.tc : Thread nD τ).loc main_v13) = W10 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v9 (by decide)),
       h c _ (mem_uc main_v10 (by decide)),
       h c _ (mem_uc main_v11 (by decide)),
       h c _ (mem_uc main_v13 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.Kernel4Ideal.Gen

namespace Cert.Kernel4Ideal.Value

open Cert.Kernel4Ideal Cert.Kernel4Ideal.Gen Idealize.ShloMosaic Idealize.ShloMosaic.TcCoe Idealize.SL.Sem Idealize.ShloMosaic.StableHlo
open Cert.Kernel2Ideal.Value (narrow narrow_at)
open scoped BigOperators

/-- The small projections' columns of the weight as rows, filled up with rows of zeros. -/
def smallRows (W : Vec Ideal S2048x9280 .f32) : Vec Ideal S1152x2048 .bf16 :=
  pad S1152x2048 ![0, 0] ![64, 0] ![0, 0] (extractStridedSlice S1088x2048 ![4096, 0] (truncf (F := Ideal) .bf16 (transpose S9280x2048 [1, 0] W transposes_S2048x9280_S9280x2048_1_0) bitsLt_bf16_f32) slices_S9280x2048_S1088x2048_4096_0) (sitofp (F := Ideal) .bf16 (constantI S_ 32 0#32)) pads_S1088x2048_S1152x2048_0640_000 h_S_

/-- The gate's columns of the weight as rows. -/
def gateRows (W : Vec Ideal S2048x9280 .f32) : Vec Ideal S4096x2048 .bf16 :=
  extractStridedSlice S4096x2048 ![5184, 0] (truncf (F := Ideal) .bf16 (transpose S9280x2048 [1, 0] W transposes_S2048x9280_S9280x2048_1_0) bitsLt_bf16_f32) slices_S9280x2048_S4096x2048_5184_0

/-- The small projections' cotangent, filled up with columns of zeros. -/
def smallPad (Y : Vec Ideal S2080x1088 .f32) : Vec Ideal S2080x1152 .f32 :=
  pad S2080x1152 ![0, 0] ![0, 64] ![0, 0] Y (sitofp (F := Ideal) .f32 (constantI S_ 32 0#32)) pads_S2080x1088_S2080x1152_000_0640 h_S_

/-- The same as the call takes it. -/
def smallCot (Y : Vec Ideal S2080x1088 .f32) : Vec Ideal S2080x1152 .bf16 :=
  truncf (F := Ideal) .bf16 (smallPad Y) bitsLt_bf16_f32

/-- The norm's gain as one row. -/
def gainRow (g : Vec Ideal S2048 .f32) : Vec Ideal S1x2048 .f32 := shapeCast S1x2048 g shapeCasts_S2048_S1x2048

/-- Such a row's entries are the gain's. -/
theorem gainRow_at (g : Vec Ideal S2048 .f32) (j : Fin 2048) : gainRow g (ix2 0 j) = g (ix1 j) := by
  pointwise [gainRow]

/-- A row of the small projections' weight is a column of the weight. -/
theorem smallRows_in (W : Vec Ideal S2048x9280 .f32) (j : Fin 1088) (k : Fin 2048) :
    smallRows W (ix2 (⟨j.val, by omega⟩ : Fin 1152) k) = W (ix2 k (⟨4096 + j.val, by omega⟩ : Fin 9280)) := by
  unfold smallRows
  refine (pad_apply_of_inside _ _ _ _ _ _ _ _ (ix2 j k) fun a => ?_).trans ?_
  · fin_cases a
    · show j.val = 0 + j.val * (0 + 1)
      omega
    · show k.val = 0 + k.val * (0 + 1)
      omega
  · pointwise

/-- A row that was filled in is zero. -/
theorem smallRows_out (W : Vec Ideal S2048x9280 .f32) (j : Fin 64) (k : Fin 2048) :
    smallRows W (ix2 (⟨1088 + j.val, by omega⟩ : Fin 1152) k) = 0 := by
  unfold smallRows
  refine (pad_apply_of_not_inside _ _ _ _ _ _ _ _ 0 ?_).trans ?_
  · show ¬(0 ≤ 1088 + j.val ∧ (1088 + j.val - 0) % (0 + 1) = 0 ∧ (1088 + j.val - 0) / (0 + 1) < 1088)
    omega
  · exact sitofp_zero (φ := .bf16)

/-- A column of the cotangent. -/
theorem smallCot_in (Y : Vec Ideal S2080x1088 .f32) (r : Fin 2080) (j : Fin 1088) :
    smallCot Y (ix2 r (⟨j.val, by omega⟩ : Fin 1152)) = Y (ix2 r j) := by
  show smallPad Y (ix2 r (⟨j.val, by omega⟩ : Fin 1152)) = Y (ix2 r j)
  unfold smallPad
  refine pad_apply_of_inside _ _ _ _ _ _ _ _ (ix2 r j) fun a => ?_
  fin_cases a
  · show r.val = 0 + r.val * (0 + 1)
    omega
  · show j.val = 0 + j.val * (0 + 1)
    omega

/-- A row of the gate's weight is a column of the weight. -/
theorem gateRows_at (W : Vec Ideal S2048x9280 .f32) (j : Fin 4096) (k : Fin 2048) :
    gateRows W (ix2 j k) = W (ix2 k (⟨5184 + j.val, by omega⟩ : Fin 9280)) := by
  pointwise [gateRows]

variable (m : (ℓ : Loc nD τ sig) → Buf (Elt Ideal) ℓ) (ρ : Dev nD → PrngReg) (c : Dev nD)

/-! ## The host's part -/

/-- An argument as the calls take it. -/
theorem V5_v3 : V5 m ρ c main_v3 = (smallRows (m ((c.tc : Thread nD τ).loc main_arg2))) := by
  after_reads_simp
  try rfl

/-- An argument as the calls take it. -/
theorem V5_v4 : V5 m ρ c main_v4 = (gateRows (m ((c.tc : Thread nD τ).loc main_arg2))) := by
  after_reads_simp
  try rfl

/-- An argument as the calls take it. -/
theorem V5_v6 : V5 m ρ c main_v6 = (smallCot (m ((c.tc : Thread nD τ).loc main_arg4))) := by
  after_reads_simp
  try rfl

/-- An argument as the calls take it. -/
theorem V5_v7 : V5 m ρ c main_v7 = (narrow (m ((c.tc : Thread nD τ).loc main_arg5))) := by
  after_reads_simp
  try rfl

/-- An argument as the calls take it. -/
theorem V5_v8 : V5 m ρ c main_v8 = (gainRow (m ((c.tc : Thread nD τ).loc main_arg1))) := by
  after_reads_simp
  try rfl

/-! ## The calls one after the other -/

/-- An argument when a region is entered. -/
theorem V5_arg0 : V5 m ρ c main_arg0 = (m ((c.tc : Thread nD τ).loc main_arg0)) :=
  W5_args m ρ c main_arg0 (by decide)

/-- A call's result after it. -/
theorem V6_v9 : V6 m ρ c main_v9 = (normArr (m ((c.tc : Thread nD τ).loc main_arg0)) (gainRow (m ((c.tc : Thread nD τ).loc main_arg1)))) :=
  (W6_arr m ρ c 2).trans ((final0_2 (V5 m ρ) c).trans (by rw [V5_arg0, V5_v8]))

/-- A buffer that a call leaves alone. -/
theorem V6_v3 : V6 m ρ c main_v3 = (smallRows (m ((c.tc : Thread nD τ).loc main_arg2))) :=
  (W6_of m ρ c main_v3 (by decide +kernel)).trans (V5_v3 m ρ c)

/-- A call's result after it. -/
theorem V7_v10 : V7 m ρ c main_v10 = (smallArr (normArr (m ((c.tc : Thread nD τ).loc main_arg0)) (gainRow (m ((c.tc : Thread nD τ).loc main_arg1)))) (smallRows (m ((c.tc : Thread nD τ).loc main_arg2)))) :=
  (W7_arr m ρ c 2).trans ((final1_2 (V6 m ρ) c).trans (by rw [V6_v9, V6_v3]))

/-- A buffer that a call leaves alone. -/
theorem V7_v9 : V7 m ρ c main_v9 = (normArr (m ((c.tc : Thread nD τ).loc main_arg0)) (gainRow (m ((c.tc : Thread nD τ).loc main_arg1)))) :=
  (W7_of m ρ c main_v9 (by decide +kernel)).trans (V6_v9 m ρ c)

/-- A buffer that a call leaves alone. -/
theorem V6_v4 : V6 m ρ c main_v4 = (gateRows (m ((c.tc : Thread nD τ).loc main_arg2))) :=
  (W6_of m ρ c main_v4 (by decide +kernel)).trans (V5_v4 m ρ c)

/-- A buffer that a call leaves alone. -/
theorem V7_v4 : V7 m ρ c main_v4 = (gateRows (m ((c.tc : Thread nD τ).loc main_arg2))) :=
  (W7_of m ρ c main_v4 (by decide +kernel)).trans (V6_v4 m ρ c)

/-- A call's result after it. -/
theorem V8_v11 : V8 m ρ c main_v11 = (gateArr (normArr (m ((c.tc : Thread nD τ).loc main_arg0)) (gainRow (m ((c.tc : Thread nD τ).loc main_arg1)))) (gateRows (m ((c.tc : Thread nD τ).loc main_arg2)))) :=
  (W8_arr m ρ c 2).trans ((final2_2 (V7 m ρ) c).trans (by rw [V7_v9, V7_v4]))

/-- A buffer that a call leaves alone. -/
theorem V6_v6 : V6 m ρ c main_v6 = (smallCot (m ((c.tc : Thread nD τ).loc main_arg4))) :=
  (W6_of m ρ c main_v6 (by decide +kernel)).trans (V5_v6 m ρ c)

/-- A buffer that a call leaves alone. -/
theorem V7_v6 : V7 m ρ c main_v6 = (smallCot (m ((c.tc : Thread nD τ).loc main_arg4))) :=
  (W7_of m ρ c main_v6 (by decide +kernel)).trans (V6_v6 m ρ c)

/-- A buffer that a call leaves alone. -/
theorem V8_v6 : V8 m ρ c main_v6 = (smallCot (m ((c.tc : Thread nD τ).loc main_arg4))) :=
  (W8_of m ρ c main_v6 (by decide +kernel)).trans (V7_v6 m ρ c)

/-- A buffer that a call leaves alone. -/
theorem V7_v3 : V7 m ρ c main_v3 = (smallRows (m ((c.tc : Thread nD τ).loc main_arg2))) :=
  (W7_of m ρ c main_v3 (by decide +kernel)).trans (V6_v3 m ρ c)

/-- A buffer that a call leaves alone. -/
theorem V8_v3 : V8 m ρ c main_v3 = (smallRows (m ((c.tc : Thread nD τ).loc main_arg2))) :=
  (W8_of m ρ c main_v3 (by decide +kernel)).trans (V7_v3 m ρ c)

/-- An argument when a region is entered. -/
theorem V8_arg3 : V8 m ρ c main_arg3 = (m ((c.tc : Thread nD τ).loc main_arg3)) :=
  W8_args m ρ c main_arg3 (by decide)

/-- A call's result after it. -/
theorem V9_v12 : V9 m ρ c main_v12 = (smallBackArr (smallCot (m ((c.tc : Thread nD τ).loc main_arg4))) (smallRows (m ((c.tc : Thread nD τ).loc main_arg2))) (m ((c.tc : Thread nD τ).loc main_arg3))) :=
  (W9_arr m ρ c 3).trans ((final3_3 (V8 m ρ) c).trans (by rw [V8_v6, V8_v3, V8_arg3]))

/-- A buffer that a call leaves alone. -/
theorem V6_v7 : V6 m ρ c main_v7 = (narrow (m ((c.tc : Thread nD τ).loc main_arg5))) :=
  (W6_of m ρ c main_v7 (by decide +kernel)).trans (V5_v7 m ρ c)

/-- A buffer that a call leaves alone. -/
theorem V7_v7 : V7 m ρ c main_v7 = (narrow (m ((c.tc : Thread nD τ).loc main_arg5))) :=
  (W7_of m ρ c main_v7 (by decide +kernel)).trans (V6_v7 m ρ c)

/-- A buffer that a call leaves alone. -/
theorem V8_v7 : V8 m ρ c main_v7 = (narrow (m ((c.tc : Thread nD τ).loc main_arg5))) :=
  (W8_of m ρ c main_v7 (by decide +kernel)).trans (V7_v7 m ρ c)

/-- A buffer that a call leaves alone. -/
theorem V9_v7 : V9 m ρ c main_v7 = (narrow (m ((c.tc : Thread nD τ).loc main_arg5))) :=
  (W9_of m ρ c main_v7 (by decide +kernel)).trans (V8_v7 m ρ c)

/-- A buffer that a call leaves alone. -/
theorem V8_v4 : V8 m ρ c main_v4 = (gateRows (m ((c.tc : Thread nD τ).loc main_arg2))) :=
  (W8_of m ρ c main_v4 (by decide +kernel)).trans (V7_v4 m ρ c)

/-- A buffer that a call leaves alone. -/
theorem V9_v4 : V9 m ρ c main_v4 = (gateRows (m ((c.tc : Thread nD τ).loc main_arg2))) :=
  (W9_of m ρ c main_v4 (by decide +kernel)).trans (V8_v4 m ρ c)

/-- A call's result after it. -/
theorem V10_v13 : V10 m ρ c main_v13 = (gateBackArr (narrow (m ((c.tc : Thread nD τ).loc main_arg5))) (gateRows (m ((c.tc : Thread nD τ).loc main_arg2))) (smallBackArr (smallCot (m ((c.tc : Thread nD τ).loc main_arg4))) (smallRows (m ((c.tc : Thread nD τ).loc main_arg2))) (m ((c.tc : Thread nD τ).loc main_arg3)))) :=
  (W10_arr m ρ c 3).trans ((final4_3 (V9 m ρ) c).trans (by rw [V9_v7, V9_v4, V9_v12]))

/-- A buffer that a call leaves alone. -/
theorem V8_v9 : V8 m ρ c main_v9 = (normArr (m ((c.tc : Thread nD τ).loc main_arg0)) (gainRow (m ((c.tc : Thread nD τ).loc main_arg1)))) :=
  (W8_of m ρ c main_v9 (by decide +kernel)).trans (V7_v9 m ρ c)

/-- A buffer that a call leaves alone. -/
theorem V9_v9 : V9 m ρ c main_v9 = (normArr (m ((c.tc : Thread nD τ).loc main_arg0)) (gainRow (m ((c.tc : Thread nD τ).loc main_arg1)))) :=
  (W9_of m ρ c main_v9 (by decide +kernel)).trans (V8_v9 m ρ c)

/-- A buffer that a call leaves alone. -/
theorem V10_v9 : V10 m ρ c main_v9 = (normArr (m ((c.tc : Thread nD τ).loc main_arg0)) (gainRow (m ((c.tc : Thread nD τ).loc main_arg1)))) :=
  (W10_of m ρ c main_v9 (by decide +kernel)).trans (V9_v9 m ρ c)

/-- A buffer that a call leaves alone. -/
theorem V8_v10 : V8 m ρ c main_v10 = (smallArr (normArr (m ((c.tc : Thread nD τ).loc main_arg0)) (gainRow (m ((c.tc : Thread nD τ).loc main_arg1)))) (smallRows (m ((c.tc : Thread nD τ).loc main_arg2)))) :=
  (W8_of m ρ c main_v10 (by decide +kernel)).trans (V7_v10 m ρ c)

/-- A buffer that a call leaves alone. -/
theorem V9_v10 : V9 m ρ c main_v10 = (smallArr (normArr (m ((c.tc : Thread nD τ).loc main_arg0)) (gainRow (m ((c.tc : Thread nD τ).loc main_arg1)))) (smallRows (m ((c.tc : Thread nD τ).loc main_arg2)))) :=
  (W9_of m ρ c main_v10 (by decide +kernel)).trans (V8_v10 m ρ c)

/-- A buffer that a call leaves alone. -/
theorem V10_v10 : V10 m ρ c main_v10 = (smallArr (normArr (m ((c.tc : Thread nD τ).loc main_arg0)) (gainRow (m ((c.tc : Thread nD τ).loc main_arg1)))) (smallRows (m ((c.tc : Thread nD τ).loc main_arg2)))) :=
  (W10_of m ρ c main_v10 (by decide +kernel)).trans (V9_v10 m ρ c)

/-- A buffer that a call leaves alone. -/
theorem V9_v11 : V9 m ρ c main_v11 = (gateArr (normArr (m ((c.tc : Thread nD τ).loc main_arg0)) (gainRow (m ((c.tc : Thread nD τ).loc main_arg1)))) (gateRows (m ((c.tc : Thread nD τ).loc main_arg2)))) :=
  (W9_of m ρ c main_v11 (by decide +kernel)).trans (V8_v11 m ρ c)

/-- A buffer that a call leaves alone. -/
theorem V10_v11 : V10 m ρ c main_v11 = (gateArr (normArr (m ((c.tc : Thread nD τ).loc main_arg0)) (gainRow (m ((c.tc : Thread nD τ).loc main_arg1)))) (gateRows (m ((c.tc : Thread nD τ).loc main_arg2)))) :=
  (W10_of m ρ c main_v11 (by decide +kernel)).trans (V9_v11 m ρ c)

end Cert.Kernel4Ideal.Value

end
-- ==== Proof.ProjRef.lean ====
module

public import proofs.«01_k».proof.Proof.ProjRun
public import proofs.«01_k».proof.Proof.Gen.Reference4Ideal.Run
public import Idealize.ShloMosaic.Lib.Pointwise
public import Idealize.ShloMosaic.Lib.KernelVsHost

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo
open Cert.Kernel2Ideal.Value (narrow narrow_at)
open Cert.Kernel4Ideal.Value (rootE normArr smallArr gateArr smallBackArr gateBackArr smallRows gateRows smallCot gainRow gainRow_at smallRows_in smallRows_out smallCot_in gateRows_at)
open scoped BigOperators

/-! ## The reference's operations as functions of their operands -/

/-- The normalised rows. -/
def normR (H : Vec Ideal S2080x2048 .f32) (g : Vec Ideal S2048 .f32) : Vec Ideal S2080x2048 .f32 :=
  mulf (F := Ideal) (φ := .f32) (mulf (F := Ideal) (φ := .f32) H (broadcastInDim S2080x2048 ![0, 1] bcast_S2080x1_S2080x2048_0_1 (Host.rsqrt (F := Ideal) (φ := .f32) (addf (F := Ideal) (φ := .f32) (Host.divf (F := Ideal) (φ := .f32) (broadcastInDim S2080x1 ![0] bcast_S2080_S2080x1_0 (Host.reduceAdd (F := Ideal) (φ := .f32) (mulf (F := Ideal) (φ := .f32) H H) (constant (F := Ideal) S_ .f32 0x00000000#32) reducesTo_S2080x2048_S2080_d1 h_S_)) (broadcastInDim S2080x1 ![] bcast_S_S2080x1 (constant (F := Ideal) S_ .f32 0x45000000#32))) (broadcastInDim S2080x1 ![] bcast_S_S2080x1 (constant (F := Ideal) S_ .f32 0x358637BD#32)))))) (broadcastInDim S2080x2048 ![0, 1] bcast_S1x2048_S2080x2048_0_1 (broadcastInDim S1x2048 ![1] bcast_S2048_S1x2048_1 g))

/-- Their product with the whole weight. -/
def projR (U : Vec Ideal S2080x2048 .f32) (W : Vec Ideal S2048x9280 .f32) : Vec Ideal S2080x9280 .f32 :=
  (Host.dotGeneral (F := Ideal) (φ₁ := .f32) (φ₂ := .f32) dot_S2080x2048_S2048x9280_S2080x9280_1_0_0_1_n_n none U W)

/-- The small projections. -/
def smallR (Z : Vec Ideal S2080x9280 .f32) : Vec Ideal S2080x1152 .f32 :=
  pad S2080x1152 ![0, 0] ![0, 64] ![0, 0] (extractStridedSlice S2080x1088 ![0, 4096] Z slices_S2080x9280_S2080x1088_0_4096) (sitofp (F := Ideal) .f32 (constantI S_ 32 0#32)) pads_S2080x1088_S2080x1152_000_0640 h_S_

/-- The gate's projection. -/
def gateR (Z : Vec Ideal S2080x9280 .f32) : Vec Ideal S2080x4096 .bf16 :=
  truncf (F := Ideal) .bf16 (extractStridedSlice S2080x4096 ![0, 5184] Z slices_S2080x9280_S2080x4096_0_5184) bitsLt_bf16_f32

/-- The gate's cotangent at its place among the weight's columns. -/
def hiR (Y : Vec Ideal S2080x4096 .f32) : Vec Ideal S2080x9280 .f32 :=
  pad S2080x9280 ![0, 5184] ![0, 0] ![0, 0] Y (constant (F := Ideal) S_ .f32 0x00000000#32) pads_S2080x4096_S2080x9280_000_518400 h_S_

/-- The small projections' cotangent at its place. -/
def midR (Y : Vec Ideal S2080x1088 .f32) : Vec Ideal S2080x9280 .f32 :=
  pad S2080x9280 ![0, 4096] ![0, 4096] ![0, 0] Y (constant (F := Ideal) S_ .f32 0x00000000#32) pads_S2080x1088_S2080x9280_000_409640960 h_S_

/-- The zero cotangent of the convolution's columns at its place. -/
def loR : Vec Ideal S2080x9280 .f32 :=
  pad S2080x9280 ![0, 0] ![0, 5184] ![0, 0] (broadcastInDim S2080x4096 ![] bcast_S_S2080x4096 (constant (F := Ideal) S_ .f32 0x00000000#32)) (constant (F := Ideal) S_ .f32 0x00000000#32) pads_S2080x4096_S2080x9280_000_051840 h_S_

/-- The gradient with the products taken back added. -/
def backR (D : Vec Ideal S2080x2048 .f32) (Ys : Vec Ideal S2080x1088 .f32) (Yg : Vec Ideal S2080x4096 .f32) (W : Vec Ideal S2048x9280 .f32) : Vec Ideal S2080x2048 .f32 :=
  addf (F := Ideal) (φ := .f32) D (Host.dotGeneral (F := Ideal) (φ₁ := .f32) (φ₂ := .f32) dot_S2080x9280_S2048x9280_S2080x2048_1_1_0_0_n_n none (addf (F := Ideal) (φ := .f32) (addf (F := Ideal) (φ := .f32) (hiR Yg) (midR Ys)) loR) W)

/-! ## The same at an index -/

/-- The normalised rows at an index. -/
theorem normR_at (H : Vec Ideal S2080x2048 .f32) (g : Vec Ideal S2048 .f32) (r : Fin 2080) (n : Fin 2048) :
    normR H g (ix2 r n) = (H (ix2 r n) * rootE fun k => H (ix2 r k)) * g (ix1 n) := by
  unfold rootE
  pointwise [normR]

/-- A product at an index. -/
theorem projR_at (U : Vec Ideal S2080x2048 .f32) (W : Vec Ideal S2048x9280 .f32) (r : Fin 2080) (j : Fin 9280) :
    projR U W (ix2 r j) = ∑ k : Fin 2048, U (ix2 r k) * W (ix2 k j) := by
  pointwise [projR]

/-- A column of the small projections. -/
theorem smallR_in (Z : Vec Ideal S2080x9280 .f32) (r : Fin 2080) (j : Fin 1088) :
    smallR Z (ix2 r (⟨j.val, by omega⟩ : Fin 1152)) = Z (ix2 r (⟨4096 + j.val, by omega⟩ : Fin 9280)) := by
  unfold smallR
  refine (pad_apply_of_inside _ _ _ _ _ _ _ _ (ix2 r j) fun a => ?_).trans ?_
  · fin_cases a
    · show r.val = 0 + r.val * (0 + 1)
      omega
    · show j.val = 0 + j.val * (0 + 1)
      omega
  · pointwise

/-- A column that was filled in is zero. -/
theorem smallR_out (Z : Vec Ideal S2080x9280 .f32) (r : Fin 2080) (j : Fin 64) :
    smallR Z (ix2 r (⟨1088 + j.val, by omega⟩ : Fin 1152)) = 0 := by
  unfold smallR
  refine (pad_apply_of_not_inside _ _ _ _ _ _ _ _ 1 ?_).trans ?_
  · show ¬(0 ≤ 1088 + j.val ∧ (1088 + j.val - 0) % (0 + 1) = 0 ∧ (1088 + j.val - 0) / (0 + 1) < 1088)
    omega
  · exact sitofp_zero (φ := .f32)

/-- The gate's projection at an index. -/
theorem gateR_at (Z : Vec Ideal S2080x9280 .f32) (r : Fin 2080) (j : Fin 4096) :
    gateR Z (ix2 r j) = Z (ix2 r (⟨5184 + j.val, by omega⟩ : Fin 9280)) := by
  pointwise [gateR]

/-- The literal zero. -/
theorem zero_first (i : S_.Idx) : ((constant (F := Ideal) S_ .f32 0x00000000#32) : Vec Ideal S_ .f32) i = 0 := by
  pointwise

/-- The gate's cotangent at its own columns. -/
theorem hiR_in (Y : Vec Ideal S2080x4096 .f32) (r : Fin 2080) (j : Fin 4096) :
    hiR Y (ix2 r (⟨5184 + j.val, by omega⟩ : Fin 9280)) = Y (ix2 r j) := by
  unfold hiR
  refine pad_apply_of_inside _ _ _ _ _ _ _ _ (ix2 r j) fun a => ?_
  fin_cases a
  · show r.val = 0 + r.val * (0 + 1)
    omega
  · show 5184 + j.val = 5184 + j.val * (0 + 1)
    omega

/-- It is zero before them. -/
theorem hiR_out (Y : Vec Ideal S2080x4096 .f32) (r : Fin 2080) (j : Fin 9280) (h : j.val < 5184) : hiR Y (ix2 r j) = 0 := by
  unfold hiR
  refine (pad_apply_of_not_inside _ _ _ _ _ _ _ _ 1 ?_).trans (zero_first _)
  show ¬(5184 ≤ j.val ∧ (j.val - 5184) % (0 + 1) = 0 ∧ (j.val - 5184) / (0 + 1) < 4096)
  omega

/-- The small projections' cotangent at its own columns. -/
theorem midR_in (Y : Vec Ideal S2080x1088 .f32) (r : Fin 2080) (j : Fin 1088) :
    midR Y (ix2 r (⟨4096 + j.val, by omega⟩ : Fin 9280)) = Y (ix2 r j) := by
  unfold midR
  refine pad_apply_of_inside _ _ _ _ _ _ _ _ (ix2 r j) fun a => ?_
  fin_cases a
  · show r.val = 0 + r.val * (0 + 1)
    omega
  · show 4096 + j.val = 4096 + j.val * (0 + 1)
    omega

/-- It is zero elsewhere. -/
theorem midR_out (Y : Vec Ideal S2080x1088 .f32) (r : Fin 2080) (j : Fin 9280) (h : j.val < 4096 ∨ 5184 ≤ j.val) : midR Y (ix2 r j) = 0 := by
  unfold midR
  refine (pad_apply_of_not_inside _ _ _ _ _ _ _ _ 1 ?_).trans (zero_first _)
  show ¬(4096 ≤ j.val ∧ (j.val - 4096) % (0 + 1) = 0 ∧ (j.val - 4096) / (0 + 1) < 1088)
  omega

/-- The zero cotangent is zero everywhere. -/
theorem loR_at (r : Fin 2080) (j : Fin 9280) : loR (ix2 r j) = 0 := by
  unfold loR
  by_cases h : j.val < 4096
  · refine (pad_apply_of_inside _ _ _ _ _ _ _ _ (ix2 r (⟨j.val, h⟩ : Fin 4096)) fun a => ?_).trans (zero_first _)
    fin_cases a
    · show r.val = 0 + r.val * (0 + 1)
      omega
    · show j.val = 0 + j.val * (0 + 1)
      omega
  · refine (pad_apply_of_not_inside _ _ _ _ _ _ _ _ 1 ?_).trans (zero_first _)
    show ¬(0 ≤ j.val ∧ (j.val - 0) % (0 + 1) = 0 ∧ (j.val - 0) / (0 + 1) < 4096)
    omega

/-- The gradient at an index. -/
theorem backR_at (D : Vec Ideal S2080x2048 .f32) (Ys : Vec Ideal S2080x1088 .f32) (Yg : Vec Ideal S2080x4096 .f32) (W : Vec Ideal S2048x9280 .f32) (r : Fin 2080) (n : Fin 2048) :
    backR D Ys Yg W (ix2 r n) = D (ix2 r n) + ∑ j : Fin 9280, ((hiR Yg (ix2 r j) + midR Ys (ix2 r j)) + loR (ix2 r j)) * W (ix2 n j) := by
  pointwise [backR]

/-! ## The reference's arrays are the calls' -/

/-- The normalised rows. -/
theorem norm_same (H : Vec Ideal S2080x2048 .f32) (g : Vec Ideal S2048 .f32) (r : Fin 2080) (n : Fin 2048) :
    normR H g (ix2 r n) = normArr H (gainRow g) (ix2 r n) :=
  (normR_at H g r n).trans (congrArg₂ (fun a b : EReal => a * b) rfl (gainRow_at g n).symm)

/-- The normalised rows as the reference returns them. -/
theorem norm_res (H : Vec Ideal S2080x2048 .f32) (g : Vec Ideal S2048 .f32) : narrow (normR H g) = normArr H (gainRow g) := by
  funext i
  obtain ⟨r, n, rfl⟩ : ∃ (r : Fin 2080) (n : Fin 2048), i = ix2 r n := ⟨i 0, i 1, eq_ix2 i⟩
  exact (narrow_at _ _).trans (norm_same H g r n)

/-- The small projections. -/
theorem small_res (H : Vec Ideal S2080x2048 .f32) (g : Vec Ideal S2048 .f32) (W : Vec Ideal S2048x9280 .f32) :
    smallR (projR (normR H g) W) = smallArr (normArr H (gainRow g)) (smallRows W) := by
  have hb : ∀ l : Fin 64, 1088 + l.val < 1152 := fun l => by omega
  funext i
  obtain ⟨r, j, rfl⟩ : ∃ (r : Fin 2080) (j : Fin 1152), i = ix2 r j := ⟨i 0, i 1, eq_ix2 i⟩
  show _ = ∑ k : Fin 2048, normArr H (gainRow g) (ix2 r k) * smallRows W (ix2 j k)
  by_cases h : j.val < 1088
  · refine (smallR_in _ r ⟨j.val, h⟩).trans ((projR_at _ _ r _).trans (Finset.sum_congr rfl fun k _ => ?_))
    exact congrArg₂ (fun a b : EReal => a * b) (norm_same H g r k) (smallRows_in W ⟨j.val, h⟩ k).symm
  · obtain ⟨l, hl⟩ : ∃ l : Fin 64, j = (⟨1088 + l.val, hb l⟩ : Fin 1152) := ⟨⟨j.val - 1088, by omega⟩, Fin.ext (by show j.val = 1088 + (j.val - 1088); omega)⟩
    subst hl
    refine (smallR_out _ r l).trans (Finset.sum_eq_zero fun k _ => ?_).symm
    exact (congrArg (fun b : EReal => normArr H (gainRow g) (ix2 r k) * b) (smallRows_out W l k)).trans (mul_zero _)

/-- The gate's projection. -/
theorem gate_res (H : Vec Ideal S2080x2048 .f32) (g : Vec Ideal S2048 .f32) (W : Vec Ideal S2048x9280 .f32) :
    gateR (projR (normR H g) W) = gateArr (normArr H (gainRow g)) (gateRows W) := by
  funext i
  obtain ⟨r, j, rfl⟩ : ∃ (r : Fin 2080) (j : Fin 4096), i = ix2 r j := ⟨i 0, i 1, eq_ix2 i⟩
  refine (gateR_at _ r j).trans ((projR_at _ _ r _).trans (Finset.sum_congr rfl fun k _ => ?_))
  exact congrArg₂ (fun a b : EReal => a * b) (norm_same H g r k) (gateRows_at W j k).symm

/-- A sum over the weight's columns, group by group. -/
theorem sum_groups (f : Fin 9280 → EReal) :
    ∑ j, f j = (∑ j : Fin 4096, f ⟨j.val, by omega⟩) + ((∑ j : Fin 1088, f ⟨4096 + j.val, by omega⟩) + ∑ j : Fin 4096, f ⟨5184 + j.val, by omega⟩) := by
  refine (Fin.sum_univ_add (M := EReal) (a := 4096) (b := 5184) f).trans (congrArg₂ (fun a b : EReal => a + b) rfl ?_)
  refine (Fin.sum_univ_add (M := EReal) (a := 1088) (b := 4096) fun j => f (Fin.natAdd 4096 j)).trans (congrArg₂ (fun a b : EReal => a + b) rfl ?_)
  exact Finset.sum_congr rfl fun j _ => congrArg f (Fin.ext (by show 4096 + (1088 + j.val) = 5184 + j.val; omega))

/-- The filled-up sum over the small projections is the sum over their own columns. -/
theorem sum_small (Ys : Vec Ideal S2080x1088 .f32) (W : Vec Ideal S2048x9280 .f32) (r : Fin 2080) (n : Fin 2048) :
    ∑ j : Fin 1152, smallCot Ys (ix2 r j) * smallRows W (ix2 j n) = ∑ j : Fin 1088, Ys (ix2 r j) * W (ix2 n (⟨4096 + j.val, by omega⟩ : Fin 9280)) := by
  refine (Fin.sum_univ_add (M := EReal) (a := 1088) (b := 64) fun j => smallCot Ys (ix2 r j) * smallRows W (ix2 j n)).trans ?_
  refine (congrArg₂ (fun a b : EReal => a + b) (Finset.sum_congr rfl fun j _ => ?_) (Finset.sum_eq_zero fun j _ => ?_)).trans (add_zero _)
  · exact congrArg₂ (fun a b : EReal => a * b) (smallCot_in Ys r j) (smallRows_in W j n)
  · exact (congrArg (fun b : EReal => smallCot Ys (ix2 r (Fin.natAdd 1088 j)) * b) (smallRows_out W j n)).trans (mul_zero _)

/-- The gradient of the normalised rows. -/
theorem back_res (D : Vec Ideal S2080x2048 .f32) (Ys : Vec Ideal S2080x1088 .f32) (Yg : Vec Ideal S2080x4096 .f32) (W : Vec Ideal S2048x9280 .f32) :
    backR D Ys Yg W = gateBackArr (narrow Yg) (gateRows W) (smallBackArr (smallCot Ys) (smallRows W) D) := by
  funext i
  obtain ⟨r, n, rfl⟩ : ∃ (r : Fin 2080) (n : Fin 2048), i = ix2 r n := ⟨i 0, i 1, eq_ix2 i⟩
  have e0 : (∑ j : Fin 4096, ((hiR Yg (ix2 r ⟨j.val, by omega⟩) + midR Ys (ix2 r ⟨j.val, by omega⟩)) + loR (ix2 r ⟨j.val, by omega⟩)) * W (ix2 n ⟨j.val, by omega⟩)) = (0 : EReal) := by
    refine Finset.sum_eq_zero fun j _ => ?_
    rw [hiR_out _ _ _ (show j.val < 5184 by omega), midR_out _ _ _ (Or.inl (show j.val < 4096 by omega)), loR_at, add_zero, add_zero, zero_mul]
  have e1 : (∑ j : Fin 1088, ((hiR Yg (ix2 r ⟨4096 + j.val, by omega⟩) + midR Ys (ix2 r ⟨4096 + j.val, by omega⟩)) + loR (ix2 r ⟨4096 + j.val, by omega⟩)) * W (ix2 n ⟨4096 + j.val, by omega⟩))
      = ∑ j : Fin 1152, smallCot Ys (ix2 r j) * smallRows W (ix2 j n) := by
    refine (Finset.sum_congr rfl fun j _ => ?_).trans (sum_small Ys W r n).symm
    rw [hiR_out _ _ _ (show 4096 + j.val < 5184 by omega), midR_in, loR_at, add_zero, zero_add]
  have e2 : (∑ j : Fin 4096, ((hiR Yg (ix2 r ⟨5184 + j.val, by omega⟩) + midR Ys (ix2 r ⟨5184 + j.val, by omega⟩)) + loR (ix2 r ⟨5184 + j.val, by omega⟩)) * W (ix2 n ⟨5184 + j.val, by omega⟩))
      = ∑ j : Fin 4096, narrow Yg (ix2 r j) * gateRows W (ix2 j n) := by
    refine Finset.sum_congr rfl fun j _ => ?_
    rw [hiR_in, midR_out _ _ _ (Or.inr (show 5184 ≤ 5184 + j.val by omega)), loR_at, add_zero, add_zero, gateRows_at, narrow_at]
  refine (backR_at D Ys Yg W r n).trans ?_
  rw [sum_groups, e0, e1, e2, zero_add, add_comm, add_comm (∑ j : Fin 1152, _), add_assoc]
  rfl

end Cert.Reference4Ideal.Value

end
-- ==== Proof.ProjClaim.lean ====
module

public import proofs.«01_k».proof.Defs
public import proofs.«01_k».proof.Proof.ProjRef
public import Idealize.ShloMosaic.Adequacy
public import Idealize.ShloMosaic.Init

@[expose] public section

set_option maxRecDepth 16384

noncomputable section

namespace Cert.Proof.Proj

open Idealize.ShloMosaic Idealize.SL.Sem

/-- The reference runs, leaves its arguments, and has no semaphores. -/
theorem reference_frame : Cert.quiescent_Reference4Ideal := fun m g _ =>
  (θ_run _ _ _).mono (fun r h => ⟨fun c => (h c).2.2.2.2, sem_eq_zero_of_no_sems (by decide) r.2⟩) (Cert.Reference4Ideal.Value.run (F := Ideal) m g)

/-- The two programs end with the same normalised rows, projections and gradient. -/
theorem algebraic : Cert.algebraic_Kernel4Ideal_Reference4Ideal := by
  intro m g m' g' _ hargs
  refine ⟨fun c => (Cert.Kernel4Ideal.Value.normArr (m (c, Proc.tc.devRef Cert.Kernel4Ideal.main_arg0)) (Cert.Kernel4Ideal.Value.gainRow (m (c, Proc.tc.devRef Cert.Kernel4Ideal.main_arg1)))),
    fun c => (Cert.Kernel4Ideal.Value.smallArr (Cert.Kernel4Ideal.Value.normArr (m (c, Proc.tc.devRef Cert.Kernel4Ideal.main_arg0)) (Cert.Kernel4Ideal.Value.gainRow (m (c, Proc.tc.devRef Cert.Kernel4Ideal.main_arg1)))) (Cert.Kernel4Ideal.Value.smallRows (m (c, Proc.tc.devRef Cert.Kernel4Ideal.main_arg2)))),
    fun c => (Cert.Kernel4Ideal.Value.gateArr (Cert.Kernel4Ideal.Value.normArr (m (c, Proc.tc.devRef Cert.Kernel4Ideal.main_arg0)) (Cert.Kernel4Ideal.Value.gainRow (m (c, Proc.tc.devRef Cert.Kernel4Ideal.main_arg1)))) (Cert.Kernel4Ideal.Value.gateRows (m (c, Proc.tc.devRef Cert.Kernel4Ideal.main_arg2)))),
    fun c => (Cert.Kernel4Ideal.Value.gateBackArr (Cert.Kernel2Ideal.Value.narrow (m (c, Proc.tc.devRef Cert.Kernel4Ideal.main_arg5))) (Cert.Kernel4Ideal.Value.gateRows (m (c, Proc.tc.devRef Cert.Kernel4Ideal.main_arg2))) (Cert.Kernel4Ideal.Value.smallBackArr (Cert.Kernel4Ideal.Value.smallCot (m (c, Proc.tc.devRef Cert.Kernel4Ideal.main_arg4))) (Cert.Kernel4Ideal.Value.smallRows (m (c, Proc.tc.devRef Cert.Kernel4Ideal.main_arg2))) (m (c, Proc.tc.devRef Cert.Kernel4Ideal.main_arg3)))), ?_, ?_⟩
  · refine (θ_run _ _ _).mono (fun r h c => ?_) (Cert.Kernel4Ideal.Gen.run_results m g)
    obtain ⟨r0, r1, r2, r3, rest⟩ := h c
    exact ⟨r0.trans (Cert.Kernel4Ideal.Value.V10_v9 m g c), r1.trans (Cert.Kernel4Ideal.Value.V10_v10 m g c), r2.trans (Cert.Kernel4Ideal.Value.V10_v11 m g c), r3.trans (Cert.Kernel4Ideal.Value.V10_v13 m g c), rest⟩
  · refine (θ_run _ _ _).mono (fun r h c => ?_) (Cert.Reference4Ideal.Value.run m' g')
    obtain ⟨e0, e1, e2, e3, e4, e5⟩ := hargs c
    obtain ⟨r0, r1, r2, r3, rest⟩ := h c
    rw [e0, e1] at r0
    rw [e0, e1, e2] at r1
    rw [e0, e1, e2] at r2
    rw [e2, e3, e4, e5] at r3
    exact ⟨r0.trans (Cert.Reference4Ideal.Value.norm_res _ _),
      r1.trans (Cert.Reference4Ideal.Value.small_res _ _ _),
      r2.trans (Cert.Reference4Ideal.Value.gate_res _ _ _),
      r3.trans (Cert.Reference4Ideal.Value.back_res _ _ _ _), rest⟩

end Cert.Proof.Proj

end
-- ==== Proof.GateBlocks.lean ====
module

public import proofs.«01_k».proof.Proof.Gen.Kernel5Ideal.Value
public import proofs.«01_k».proof.Proof.FfnRun
public import proofs.«01_k».proof.Proof.Canon
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Value

open Cert.Kernel5Ideal Cert.Kernel5Ideal.Gen Idealize.ShloMosaic Idealize.ShloMosaic.TcCoe Idealize.SL.Sem Idealize.ShloMosaic.StableHlo
open Cert.Kernel2Ideal.Value (narrow narrow_at sigE)
open scoped BigOperators

/-- The place of the attention branch's gate. -/
abbrev hi (j : Fin 2048) : Fin 4096 := ⟨2048 + j.val, by omega⟩

/-- The place of the convolution branch's gate. -/
abbrev lo (j : Fin 2048) : Fin 4096 := ⟨j.val, by omega⟩

/-! ## What the call computes of a number of rows -/

section Rows

variable {n : Nat}

/-- The convolution branch's gate at a row. -/
def gateC (Z : Vec Ideal ⟨2, ![n, 4096]⟩ .bf16) (bg : Vec Ideal S1x4096 .f32) (a : Fin n) (b : Fin 2048) : EReal :=
  sigE (Z (ix2 a (lo b)) + bg (ix2 0 (lo b)))

/-- The attention branch's gate at a row. -/
def gateA (Z : Vec Ideal ⟨2, ![n, 4096]⟩ .bf16) (bg : Vec Ideal S1x4096 .f32) (a : Fin n) (b : Fin 2048) : EReal :=
  sigE (Z (ix2 a (hi b)) + bg (ix2 0 (hi b)))

/-- The convolution branch's cotangent at a row. -/
def cotC (Z : Vec Ideal ⟨2, ![n, 4096]⟩ .bf16) (D : Vec Ideal ⟨2, ![n, 2048]⟩ .bf16) (bg : Vec Ideal S1x4096 .f32) (a : Fin n) (b : Fin 2048) : EReal :=
  D (ix2 a b) * gateC Z bg a b

/-- The attention branch's cotangent at a row. -/
def cotA (Z : Vec Ideal ⟨2, ![n, 4096]⟩ .bf16) (D : Vec Ideal ⟨2, ![n, 2048]⟩ .bf16) (bg : Vec Ideal S1x4096 .f32) (a : Fin n) (b : Fin 2048) : EReal :=
  D (ix2 a b) * gateA Z bg a b

/-- The convolution branch's gate's cotangent at a row. -/
def preC (Z : Vec Ideal ⟨2, ![n, 4096]⟩ .bf16) (C D : Vec Ideal ⟨2, ![n, 2048]⟩ .bf16) (bg : Vec Ideal S1x4096 .f32) (bc : Vec Ideal S1x2048 .f32) (a : Fin n) (b : Fin 2048) : EReal :=
  ((D (ix2 a b) * (C (ix2 a b) + bc (ix2 0 b))) * gateC Z bg a b) * (1 - gateC Z bg a b)

/-- The attention branch's gate's cotangent at a row. -/
def preA (Z : Vec Ideal ⟨2, ![n, 4096]⟩ .bf16) (O D : Vec Ideal ⟨2, ![n, 2048]⟩ .bf16) (bg : Vec Ideal S1x4096 .f32) (a : Fin n) (b : Fin 2048) : EReal :=
  ((D (ix2 a b) * O (ix2 a b)) * gateA Z bg a b) * (1 - gateA Z bg a b)

/-- The gates' cotangent at a row: the convolution branch's first. -/
def preB (Z : Vec Ideal ⟨2, ![n, 4096]⟩ .bf16) (C O D : Vec Ideal ⟨2, ![n, 2048]⟩ .bf16) (bg : Vec Ideal S1x4096 .f32) (bc : Vec Ideal S1x2048 .f32) (a : Fin n) (b : Fin 4096) : EReal :=
  if h : b.val < 2048 then preC Z C D bg bc a ⟨b.val, h⟩ else preA Z O D bg a ⟨b.val - 2048, by omega⟩

end Rows

/-- An index of one row. -/
theorem row_ix (j : S1x2048.Idx) : j = ix2 0 (j 1 : Fin 2048) := by
  have h : ∀ z : Fin 1, z = 0 := fun z => Subsingleton.elim z 0
  exact (eq_ix2 j).trans (congrArg (fun z : Fin 1 => ix2 z (j 1 : Fin 2048)) (h (j 0)))

/-! ## The call's stored values at an entry -/

/-- The gates. -/
theorem pay2_at (Z : Vec Ideal S416x4096 .bf16) (bg : Vec Ideal S1x4096 .f32) (a : Fin 416) (j : Fin 4096) :
    (k0_pay2 Z bg : Vec Ideal S416x4096 .f32) (ix2 a j) = sigE (Z (ix2 a j) + bg (ix2 0 j)) := by
  unfold sigE
  pointwise [k0_pay2]

/-- The convolution branch's gate. -/
theorem pay3_at (Z : Vec Ideal S416x4096 .bf16) (bg : Vec Ideal S1x4096 .f32) (a : Fin 416) (b : Fin 2048) :
    (k0_pay3 Z bg : Vec Ideal S416x2048 .f32) (ix2 a b) = gateC Z bg a b := by
  refine Eq.trans ?_ (pay2_at Z bg a (lo b))
  pointwise [k0_pay3]

/-- The attention branch's gate. -/
theorem pay4_at (Z : Vec Ideal S416x4096 .bf16) (bg : Vec Ideal S1x4096 .f32) (a : Fin 416) (b : Fin 2048) :
    (k0_pay4 Z bg : Vec Ideal S416x2048 .f32) (ix2 a b) = gateA Z bg a b := by
  refine Eq.trans ?_ (pay2_at Z bg a (hi b))
  pointwise [k0_pay4]

/-- A branch's rows as the call takes them. -/
theorem pay5_at (O : Vec Ideal S416x2048 .bf16) (a : Fin 416) (b : Fin 2048) : (k0_pay5 O : Vec Ideal S416x2048 .f32) (ix2 a b) = O (ix2 a b) := by
  pointwise [k0_pay5]

/-- The mixture's cotangent as the call takes it. -/
theorem pay6_at (D : Vec Ideal S416x2048 .bf16) (a : Fin 416) (b : Fin 2048) : (k0_pay6 D : Vec Ideal S416x2048 .f32) (ix2 a b) = D (ix2 a b) := by
  pointwise [k0_pay6]

/-- The convolution branch's cotangent. -/
theorem pay7_at (Z : Vec Ideal S416x4096 .bf16) (bg : Vec Ideal S1x4096 .f32) (D : Vec Ideal S416x2048 .bf16) (a : Fin 416) (b : Fin 2048) :
    (k0_pay7 Z bg D : Vec Ideal S416x2048 .f32) (ix2 a b) = cotC Z D bg a b :=
  congrArg₂ (fun x y : EReal => x * y) (pay6_at D a b) (pay3_at Z bg a b)

/-- The same as it is stored. -/
theorem pay8_at (Z : Vec Ideal S416x4096 .bf16) (bg : Vec Ideal S1x4096 .f32) (D : Vec Ideal S416x2048 .bf16) (a : Fin 416) (b : Fin 2048) :
    (k0_pay8 Z bg D : Vec Ideal S416x2048 .bf16) (ix2 a b) = cotC Z D bg a b :=
  pay7_at Z bg D a b

/-- The attention branch's cotangent. -/
theorem pay9_at (Z : Vec Ideal S416x4096 .bf16) (bg : Vec Ideal S1x4096 .f32) (D : Vec Ideal S416x2048 .bf16) (a : Fin 416) (b : Fin 2048) :
    (k0_pay9 Z bg D : Vec Ideal S416x2048 .bf16) (ix2 a b) = cotA Z D bg a b :=
  congrArg₂ (fun x y : EReal => x * y) (pay6_at D a b) (pay4_at Z bg a b)

/-- The cotangent times the biased convolution branch and its gate. -/
theorem pay10_at (Z : Vec Ideal S416x4096 .bf16) (bg : Vec Ideal S1x4096 .f32) (C : Vec Ideal S416x2048 .bf16) (bc : Vec Ideal S1x2048 .f32) (D : Vec Ideal S416x2048 .bf16) (a : Fin 416) (b : Fin 2048) :
    (k0_pay10 Z bg C bc D : Vec Ideal S416x2048 .f32) (ix2 a b) = (D (ix2 a b) * (C (ix2 a b) + bc (ix2 0 b))) * gateC Z bg a b := by
  refine Eq.trans ?_ (congrArg₂ (fun x y : EReal => x * y) rfl (pay3_at Z bg a b))
  pointwise [k0_pay10, k0_pay6]

/-- The literal one. -/
theorem lit_one : (Scalar.ofBits .f32 0x3F800000#32 : Ideal .f32) = (1 : EReal) := by
  exact Ideal.ofBits_one_f32

/-- The convolution branch's gate's cotangent. -/
theorem pay11_at (Z : Vec Ideal S416x4096 .bf16) (bg : Vec Ideal S1x4096 .f32) (C : Vec Ideal S416x2048 .bf16) (bc : Vec Ideal S1x2048 .f32) (D : Vec Ideal S416x2048 .bf16) (a : Fin 416) (b : Fin 2048) :
    (k0_pay11 (k0_pay3 Z bg) (k0_pay10 Z bg C bc D) (Scalar.ofBits .f32 0x3F800000#32) : Vec Ideal S416x2048 .f32) (ix2 a b) = preC Z C D bg bc a b :=
  congrArg₂ (fun x y : EReal => x * y) (pay10_at Z bg C bc D a b) (congrArg₂ (fun x y : EReal => x - y) lit_one (pay3_at Z bg a b))

/-- The attention branch's gate's cotangent. -/
theorem pay12_at (Z : Vec Ideal S416x4096 .bf16) (bg : Vec Ideal S1x4096 .f32) (O D : Vec Ideal S416x2048 .bf16) (a : Fin 416) (b : Fin 2048) :
    (k0_pay12 (k0_pay4 Z bg) (k0_pay5 O) (k0_pay6 D) : Vec Ideal S416x2048 .f32) (ix2 a b) = preA Z O D bg a b :=
  congrArg₂ (fun x y : EReal => x * y) (congrArg₂ (fun x y : EReal => x * y) (congrArg₂ (fun x y : EReal => x * y) (pay6_at D a b) (pay5_at O a b)) (pay4_at Z bg a b))
    (congrArg₂ (fun x y : EReal => x - y) lit_one (pay4_at Z bg a b))

/-- The columns' sums of rows, as one row. -/
def colSum (X : Vec Ideal S416x2048 .f32) : Vec Ideal S1x2048 .f32 :=
  shapeCast S1x2048 (multiReduction (F := Ideal) (φ := .f32) .add [0] S2048 X 0x00000000#32 reduces_S416x2048_S2048 (.inl rfl) rfl) shapeCasts_S2048_S1x2048

/-- A column's sum. -/
theorem colSum_at (X : Vec Ideal S416x2048 .f32) (b : Fin 2048) : colSum X (ix2 0 b) = ∑ a : Fin 416, X (ix2 a b) := by
  pointwise [colSum]

/-- A column's sum added to a running sum. -/
theorem addSum_at (S T : Vec Ideal S1x2048 .f32) (b : Fin 2048) :
    (addf (F := Ideal) (φ := .f32) (shapeCast S1x2048 S shapeCasts_S1x2048_S1x2048) T : Vec Ideal S1x2048 .f32) (ix2 0 b) = S (ix2 0 b) + T (ix2 0 b) := by
  pointwise

variable (m : (ℓ : Loc nD τ sig) → Buf (Elt Ideal) ℓ) (c : Dev nD)

/-! ## What a grid point leaves -/

/-- The two stores of the gates' cotangent. -/
theorem stores_at (Z : Vec Ideal S416x4096 .bf16) (bg : Vec Ideal S1x4096 .f32) (C O D : Vec Ideal S416x2048 .bf16) (bc : Vec Ideal S1x2048 .f32) (a : Fin 416) (b : Fin 4096) :
    View.canon (Val := Elt Ideal) (s := S416x4096) (e := .bf16)
      [⟨Rect.unit ![0, 2048] ![416, 2048] inb_S416x4096_S416x2048_0_2048, k0_pay14 (k0_pay4 Z bg) (k0_pay5 O) (k0_pay6 D)⟩,
        ⟨Rect.unit ![0, 0] ![416, 2048] inb_S416x4096_S416x2048_0_0, k0_pay13 (k0_pay3 Z bg) (k0_pay10 Z bg C bc D) (Scalar.ofBits .f32 0x3F800000#32)⟩] (ix2 a b)
      = preB Z C O D bg bc a b := by
  refine Cert.KernelIdeal.Value.canon_block (e := .bf16) (preB Z C O D bg bc) _ _ _ a b (by omega) (by omega) (fun x y => ?_) fun h => ?_
  · refine (pay12_at Z bg O D x y).trans ?_
    unfold preB
    rw [dif_neg (by simp only; omega)]
    congr 1 <;> exact Fin.ext (by simp only; omega)
  · refine Cert.KernelIdeal.Value.canon_block (e := .bf16) (preB Z C O D bg bc) _ _ _ a b (by omega) (by omega) (fun x y => ?_) fun h' => ?_
    · refine (pay11_at Z bg C bc D x y).trans ?_
      unfold preB
      rw [dif_pos (by simp only; omega)]
      congr 1 <;> exact Fin.ext (by simp only; omega)
    · exact absurd h' (by have := a.isLt; have := b.isLt; omega)

/-- A grid point leaves its rows of the convolution branch's cotangent. -/
theorem left6 (t : Fin cfg0.N) (a : Fin 416) (b : Fin 2048) :
    (outsAt0 m c t.val t.isLt).1 (ix2 a b) = cotC (iblk m c 0 t) (iblk m c 3 t) (iblk m c 4 t) a b := by
  have ht : t.val < 5 := lt_of_lt_of_eq t.isLt N_0
  by_cases h0 : t.val % 5 = 0
  · have h1 : ¬1 ≤ t.val := by omega
    rw [outsAt0_A m c t h0 h1 h0 h1 h0 h1]
    frame_out
    exact pay8_at _ _ _ _ _
  · have h1 : 1 ≤ t.val := by omega
    rw [outsAt0_B m c t h0 h1 h0 h1 h0 h1]
    frame_out
    exact pay8_at _ _ _ _ _

/-- A grid point leaves its rows of the attention branch's cotangent. -/
theorem left7 (t : Fin cfg0.N) (a : Fin 416) (b : Fin 2048) :
    (outsAt0 m c t.val t.isLt).2.1 (ix2 a b) = cotA (iblk m c 0 t) (iblk m c 3 t) (iblk m c 4 t) a b := by
  have ht : t.val < 5 := lt_of_lt_of_eq t.isLt N_0
  by_cases h0 : t.val % 5 = 0
  · have h1 : ¬1 ≤ t.val := by omega
    rw [outsAt0_A m c t h0 h1 h0 h1 h0 h1]
    frame_out
    exact pay9_at _ _ _ _ _
  · have h1 : 1 ≤ t.val := by omega
    rw [outsAt0_B m c t h0 h1 h0 h1 h0 h1]
    frame_out
    exact pay9_at _ _ _ _ _

/-- A grid point leaves its rows of the gates' cotangent. -/
theorem left8 (t : Fin cfg0.N) (a : Fin 416) (b : Fin 4096) :
    (outsAt0 m c t.val t.isLt).2.2.1 (ix2 a b) = preB (iblk m c 0 t) (iblk m c 1 t) (iblk m c 2 t) (iblk m c 3 t) (iblk m c 4 t) (iblk m c 5 t) a b := by
  have ht : t.val < 5 := lt_of_lt_of_eq t.isLt N_0
  by_cases h0 : t.val % 5 = 0
  · have h1 : ¬1 ≤ t.val := by omega
    rw [outsAt0_A m c t h0 h1 h0 h1 h0 h1]
    frame_out
    exact stores_at _ _ _ _ _ _ _ _
  · have h1 : 1 ≤ t.val := by omega
    rw [outsAt0_B m c t h0 h1 h0 h1 h0 h1]
    frame_out
    exact stores_at _ _ _ _ _ _ _ _

/-- The first grid point starts the sum of the convolution branch's gate's cotangent. -/
theorem left9_A (t : Fin cfg0.N) (h0 : t.val % 5 = 0) (j : S1x2048.Idx) :
    (outsAt0 m c t.val t.isLt).2.2.2.1 j = (0 : EReal) + ∑ a : Fin 416, preC (iblk m c 0 t) (iblk m c 1 t) (iblk m c 3 t) (iblk m c 4 t) (iblk m c 5 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1 h0 h1 h0 h1, zero_add]
  frame_out
  exact (colSum_at _ b).trans (Finset.sum_congr rfl fun a _ => pay11_at _ _ _ _ _ _ _)

/-- Every later grid point adds to the sum of the convolution branch's gate's cotangent. -/
theorem left9_B (t : Fin cfg0.N) (h0 : ¬t.val % 5 = 0) (j : S1x2048.Idx) :
    (outsAt0 m c t.val t.isLt).2.2.2.1 j = (outsAt0 m c (t.val - 1) (Nat.lt_of_le_of_lt (Nat.sub_le _ _) t.isLt)).2.2.2.1 j
      + ∑ a : Fin 416, preC (iblk m c 0 t) (iblk m c 1 t) (iblk m c 3 t) (iblk m c 4 t) (iblk m c 5 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1 h0 h1 h0 h1]
  frame_out
  exact (addSum_at _ (colSum _) b).trans (congrArg₂ (fun x y : EReal => x + y) rfl ((colSum_at _ b).trans (Finset.sum_congr rfl fun a _ => pay11_at _ _ _ _ _ _ _)))

/-- The first grid point starts the sum of the attention branch's gate's cotangent. -/
theorem left10_A (t : Fin cfg0.N) (h0 : t.val % 5 = 0) (j : S1x2048.Idx) :
    (outsAt0 m c t.val t.isLt).2.2.2.2.1 j = (0 : EReal) + ∑ a : Fin 416, preA (iblk m c 0 t) (iblk m c 2 t) (iblk m c 3 t) (iblk m c 4 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1 h0 h1 h0 h1, zero_add]
  frame_out
  exact (colSum_at _ b).trans (Finset.sum_congr rfl fun a _ => pay12_at _ _ _ _ _ _)

/-- Every later grid point adds to the sum of the attention branch's gate's cotangent. -/
theorem left10_B (t : Fin cfg0.N) (h0 : ¬t.val % 5 = 0) (j : S1x2048.Idx) :
    (outsAt0 m c t.val t.isLt).2.2.2.2.1 j = (outsAt0 m c (t.val - 1) (Nat.lt_of_le_of_lt (Nat.sub_le _ _) t.isLt)).2.2.2.2.1 j
      + ∑ a : Fin 416, preA (iblk m c 0 t) (iblk m c 2 t) (iblk m c 3 t) (iblk m c 4 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1 h0 h1 h0 h1]
  frame_out
  exact (addSum_at _ (colSum _) b).trans (congrArg₂ (fun x y : EReal => x + y) rfl ((colSum_at _ b).trans (Finset.sum_congr rfl fun a _ => pay12_at _ _ _ _ _ _)))

/-- The first grid point starts the sum of the convolution branch's cotangent. -/
theorem left11_A (t : Fin cfg0.N) (h0 : t.val % 5 = 0) (j : S1x2048.Idx) :
    (outsAt0 m c t.val t.isLt).2.2.2.2.2 j = (0 : EReal) + ∑ a : Fin 416, cotC (iblk m c 0 t) (iblk m c 3 t) (iblk m c 4 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1 h0 h1 h0 h1, zero_add]
  frame_out
  exact (colSum_at _ b).trans (Finset.sum_congr rfl fun a _ => pay7_at _ _ _ _ _)

/-- Every later grid point adds to the sum of the convolution branch's cotangent. -/
theorem left11_B (t : Fin cfg0.N) (h0 : ¬t.val % 5 = 0) (j : S1x2048.Idx) :
    (outsAt0 m c t.val t.isLt).2.2.2.2.2 j = (outsAt0 m c (t.val - 1) (Nat.lt_of_le_of_lt (Nat.sub_le _ _) t.isLt)).2.2.2.2.2 j
      + ∑ a : Fin 416, cotC (iblk m c 0 t) (iblk m c 3 t) (iblk m c 4 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1 h0 h1 h0 h1]
  frame_out
  exact (addSum_at _ (colSum _) b).trans (congrArg₂ (fun x y : EReal => x + y) rfl ((colSum_at _ b).trans (Finset.sum_congr rfl fun a _ => pay7_at _ _ _ _ _)))

end Cert.Kernel5Ideal.Value

end
-- ==== Proof.GateRun.lean ====
module

public import proofs.«01_k».proof.Proof.GateBlocks
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Value

open Cert.Kernel5Ideal Cert.Kernel5Ideal.Gen Idealize.ShloMosaic Idealize.ShloMosaic.TcCoe Idealize.SL.Sem Idealize.ShloMosaic.StableHlo
open Cert.Kernel2Ideal.Value (narrow narrow_at sigE)
open scoped BigOperators

/-! ## What the call leaves -/

/-- The convolution branch's cotangent. -/
def dycArr (Z : Vec Ideal S2080x4096 .bf16) (D : Vec Ideal S2080x2048 .bf16) (bg : Vec Ideal S1x4096 .f32) : Vec Ideal S2080x2048 .bf16 :=
  fun i => cotC Z D bg (i 0) (i 1)

/-- The attention branch's cotangent. -/
def dyaArr (Z : Vec Ideal S2080x4096 .bf16) (D : Vec Ideal S2080x2048 .bf16) (bg : Vec Ideal S1x4096 .f32) : Vec Ideal S2080x2048 .bf16 :=
  fun i => cotA Z D bg (i 0) (i 1)

/-- The gates' cotangent. -/
def dzgArr (Z : Vec Ideal S2080x4096 .bf16) (C O D : Vec Ideal S2080x2048 .bf16) (bg : Vec Ideal S1x4096 .f32) (bc : Vec Ideal S1x2048 .f32) : Vec Ideal S2080x4096 .bf16 :=
  fun i => preB Z C O D bg bc (i 0) (i 1)

/-- The column sums of the convolution branch's gate's cotangent. -/
def sumCArr (Z : Vec Ideal S2080x4096 .bf16) (C D : Vec Ideal S2080x2048 .bf16) (bg : Vec Ideal S1x4096 .f32) (bc : Vec Ideal S1x2048 .f32) : Vec Ideal S1x2048 .f32 :=
  fun j => ∑ r : Fin 2080, preC Z C D bg bc r (j 1)

/-- The column sums of the attention branch's gate's cotangent. -/
def sumAArr (Z : Vec Ideal S2080x4096 .bf16) (O D : Vec Ideal S2080x2048 .bf16) (bg : Vec Ideal S1x4096 .f32) : Vec Ideal S1x2048 .f32 :=
  fun j => ∑ r : Fin 2080, preA Z O D bg r (j 1)

/-- The column sums of the convolution branch's cotangent. -/
def sumYArr (Z : Vec Ideal S2080x4096 .bf16) (D : Vec Ideal S2080x2048 .bf16) (bg : Vec Ideal S1x4096 .f32) : Vec Ideal S1x2048 .f32 :=
  fun j => ∑ r : Fin 2080, cotC Z D bg r (j 1)

/-- The gate's bias as one row. -/
def row4096 (b : Vec Ideal S4096 .f32) : Vec Ideal S1x4096 .f32 := shapeCast S1x4096 b shapeCasts_S4096_S1x4096

/-- An entry of it. -/
theorem row4096_at (b : Vec Ideal S4096 .f32) (j : Fin 4096) : row4096 b (ix2 0 j) = b (ix1 j) := by pointwise [row4096]

/-- The convolution's bias as one row. -/
def row2048 (b : Vec Ideal S2048 .f32) : Vec Ideal S1x2048 .f32 := shapeCast S1x2048 b shapeCasts_S2048_S1x2048

/-- An entry of it. -/
theorem row2048_at (b : Vec Ideal S2048 .f32) (j : Fin 2048) : row2048 b (ix2 0 j) = b (ix1 j) := by pointwise [row2048]

/-! ## The blocks a grid point reads -/

/-- Where each window's block lies. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0]
    ∧ win0_9.index t = ![0, 0] ∧ win0_10.index t = ![0, 0] ∧ win0_11.index t = ![0, 0] :=
  (by decide +kernel : ∀ t : Fin grid0.N, _)

/-- The number of grid points. -/
theorem lt (t : Fin cfg0.N) : t.val < 5 := Nat.lt_of_lt_of_eq t.isLt (N_0 : cfg0.N = 5)

/-- The rows a grid point works on. -/
abbrev row (t : Fin cfg0.N) (a : Fin 416) : Fin 2080 := ⟨t.val * 416 + a.val, by have := lt t; omega⟩

/-- The rows of the grid points are all rows. -/
theorem sum_rows (f : Fin 2080 → EReal) : ∑ t : Fin cfg0.N, ∑ a : Fin 416, f (row t a) = ∑ r : Fin 2080, f r := by
  refine (Fintype.sum_prod_type' fun (t : Fin cfg0.N) (a : Fin 416) => f (row t a)).symm.trans ?_
  refine (Fintype.sum_equiv ((finCongr (N_0 : cfg0.N = 5)).prodCongr (Equiv.refl (Fin 416))) _ (fun x : Fin 5 × Fin 416 => f (finProdFinEquiv x)) fun x => ?_).trans
    (Fintype.sum_equiv finProdFinEquiv _ _ fun x => rfl)
  refine congrArg f (Fin.ext ?_)
  show x.1.val * 416 + x.2.val = x.2.val + 416 * x.1.val
  omega

variable (m : (ℓ : Loc nD τ sig) → Buf (Elt Ideal) ℓ) (c : Dev nD)

/-- A block of the pre-gate values. -/
theorem blk0 (t : Fin cfg0.N) (a : Fin 416) (b : Fin 4096) : iblk m c 0 t (ix2 a b) = V m c main_v0 (ix2 (row t a) b) := by
  blk_point [iblk, idx t]

/-- A block of the convolution branch. -/
theorem blk1 (t : Fin cfg0.N) (a : Fin 416) (b : Fin 2048) : iblk m c 1 t (ix2 a b) = V m c main_v1 (ix2 (row t a) b) := by
  blk_point [iblk, idx t]

/-- A block of the attention branch. -/
theorem blk2 (t : Fin cfg0.N) (a : Fin 416) (b : Fin 2048) : iblk m c 2 t (ix2 a b) = V m c main_v2 (ix2 (row t a) b) := by
  blk_point [iblk, idx t]

/-- A block of the mixture's cotangent. -/
theorem blk3 (t : Fin cfg0.N) (a : Fin 416) (b : Fin 2048) : iblk m c 3 t (ix2 a b) = V m c main_v3 (ix2 (row t a) b) := by
  blk_point [iblk, idx t]

/-- The gate's bias's block is the whole row. -/
theorem blk4 (t : Fin cfg0.N) (b : Fin 4096) : iblk m c 4 t (ix2 0 b) = V m c main_v4 (ix2 0 b) := by
  blk_point [iblk, idx t]

/-- The convolution's bias's block is the whole row. -/
theorem blk5 (t : Fin cfg0.N) (b : Fin 2048) : iblk m c 5 t (ix2 0 b) = V m c main_v5 (ix2 0 b) := by
  blk_point [iblk, idx t]

/-- A gate at a grid point's row. -/
theorem gateC_blk (t : Fin cfg0.N) (a : Fin 416) (b : Fin 2048) : gateC (iblk m c 0 t) (iblk m c 4 t) a b = gateC (V m c main_v0) (V m c main_v4) (row t a) b :=
  congrArg sigE (congrArg₂ (fun x y : EReal => x + y) (blk0 m c t a (lo b)) (blk4 m c t (lo b)))

/-- A gate at a grid point's row. -/
theorem gateA_blk (t : Fin cfg0.N) (a : Fin 416) (b : Fin 2048) : gateA (iblk m c 0 t) (iblk m c 4 t) a b = gateA (V m c main_v0) (V m c main_v4) (row t a) b :=
  congrArg sigE (congrArg₂ (fun x y : EReal => x + y) (blk0 m c t a (hi b)) (blk4 m c t (hi b)))

/-- A branch's cotangent at a grid point's row. -/
theorem cotC_blk (t : Fin cfg0.N) (a : Fin 416) (b : Fin 2048) : cotC (iblk m c 0 t) (iblk m c 3 t) (iblk m c 4 t) a b = cotC (V m c main_v0) (V m c main_v3) (V m c main_v4) (row t a) b :=
  congrArg₂ (fun x y : EReal => x * y) (blk3 m c t a b) (gateC_blk m c t a b)

/-- A branch's cotangent at a grid point's row. -/
theorem cotA_blk (t : Fin cfg0.N) (a : Fin 416) (b : Fin 2048) : cotA (iblk m c 0 t) (iblk m c 3 t) (iblk m c 4 t) a b = cotA (V m c main_v0) (V m c main_v3) (V m c main_v4) (row t a) b :=
  congrArg₂ (fun x y : EReal => x * y) (blk3 m c t a b) (gateA_blk m c t a b)

/-- The convolution branch's gate's cotangent at a grid point's row. -/
theorem preC_blk (t : Fin cfg0.N) (a : Fin 416) (b : Fin 2048) : preC (iblk m c 0 t) (iblk m c 1 t) (iblk m c 3 t) (iblk m c 4 t) (iblk m c 5 t) a b = preC (V m c main_v0) (V m c main_v1) (V m c main_v3) (V m c main_v4) (V m c main_v5) (row t a) b :=
  congrArg₂ (fun x y : EReal => x * y) (congrArg₂ (fun x y : EReal => x * y) (congrArg₂ (fun x y : EReal => x * y) (blk3 m c t a b)
    (congrArg₂ (fun x y : EReal => x + y) (blk1 m c t a b) (blk5 m c t b))) (gateC_blk m c t a b)) (congrArg (fun x : EReal => 1 - x) (gateC_blk m c t a b))

/-- The attention branch's gate's cotangent at a grid point's row. -/
theorem preA_blk (t : Fin cfg0.N) (a : Fin 416) (b : Fin 2048) : preA (iblk m c 0 t) (iblk m c 2 t) (iblk m c 3 t) (iblk m c 4 t) a b = preA (V m c main_v0) (V m c main_v2) (V m c main_v3) (V m c main_v4) (row t a) b :=
  congrArg₂ (fun x y : EReal => x * y) (congrArg₂ (fun x y : EReal => x * y) (congrArg₂ (fun x y : EReal => x * y) (blk3 m c t a b)
    (blk2 m c t a b)) (gateA_blk m c t a b)) (congrArg (fun x : EReal => 1 - x) (gateA_blk m c t a b))

/-- The gates' cotangent at a grid point's row. -/
theorem preB_blk (t : Fin cfg0.N) (a : Fin 416) (b : Fin 4096) : preB (iblk m c 0 t) (iblk m c 1 t) (iblk m c 2 t) (iblk m c 3 t) (iblk m c 4 t) (iblk m c 5 t) a b = preB (V m c main_v0) (V m c main_v1) (V m c main_v2) (V m c main_v3) (V m c main_v4) (V m c main_v5) (row t a) b := by
  unfold preB
  by_cases h : b.val < 2048
  · rw [dif_pos h, dif_pos h]
    exact preC_blk m c t a _
  · rw [dif_neg h, dif_neg h]
    exact preA_blk m c t a _

/-- The convolution branch's cotangent after the last grid point. -/
theorem final6 : (dats m 0 c).arrAt 6 cfg0.N = dycArr (V m c main_v0) (V m c main_v3) (V m c main_v4) := by
  refine (dats m 0 c).arrAt_eq_of_covers 6 _ (by decide +kernel) fun t _ y => ?_
  blk_simp
  rw [after0_6]
  idx_vars y
  have e : ((View.whole main_v6_0).slice (win0_6.rect t)).emb (ix2 y0 y1) = ix2 (row t y0) y1 := by
    blk_ext [idx t]
  rw [e]
  exact (left6 m c t y0 y1).trans (cotC_blk m c t y0 y1)

/-- The attention branch's cotangent after the last grid point. -/
theorem final7 : (dats m 0 c).arrAt 7 cfg0.N = dyaArr (V m c main_v0) (V m c main_v3) (V m c main_v4) := by
  refine (dats m 0 c).arrAt_eq_of_covers 7 _ (by decide +kernel) fun t _ y => ?_
  blk_simp
  rw [after0_7]
  idx_vars y
  have e : ((View.whole main_v6_1).slice (win0_7.rect t)).emb (ix2 y0 y1) = ix2 (row t y0) y1 := by
    blk_ext [idx t]
  rw [e]
  exact (left7 m c t y0 y1).trans (cotA_blk m c t y0 y1)

/-- The gates' cotangent after the last grid point. -/
theorem final8 : (dats m 0 c).arrAt 8 cfg0.N = dzgArr (V m c main_v0) (V m c main_v1) (V m c main_v2) (V m c main_v3) (V m c main_v4) (V m c main_v5) := by
  refine (dats m 0 c).arrAt_eq_of_covers 8 _ (by decide +kernel) fun t _ y => ?_
  blk_simp
  rw [after0_8]
  idx_vars y
  have e : ((View.whole main_v6_2).slice (win0_8.rect t)).emb (ix2 y0 y1) = ix2 (row t y0) y1 := by
    blk_ext [idx t]
  rw [e]
  exact (left8 m c t y0 y1).trans (preB_blk m c t y0 y1)

/-- The column sums of the convolution branch's gate's cotangent after the last grid point. -/
theorem final9 : (dats m 0 c).arrAt 9 cfg0.N = sumCArr (V m c main_v0) (V m c main_v1) (V m c main_v3) (V m c main_v4) (V m c main_v5) := by
  refine (dats m 0 c).arrAt_eq_of_after_last 9 t0_4 (by decide +kernel) _ fun j => ?_
  blk_simp
  rw [after0_9]
  rw [Pipeline.eq_sum_fin_of_reset_step_apply_last (fun n h => (outsAt0 m c n h).2.2.2.1) 5 (fun _ => (0 : EReal))
    (fun t j => ∑ a : Fin 416, preC (iblk m c 0 t) (iblk m c 1 t) (iblk m c 3 t) (iblk m c 4 t) (iblk m c 5 t) a (j 1)) (left9_A m c) (left9_B m c) (le_of_eq N_0) t0_4 rfl j]
  show (0 : EReal) + ∑ t : Fin cfg0.N, ∑ a : Fin 416, preC (iblk m c 0 t) (iblk m c 1 t) (iblk m c 3 t) (iblk m c 4 t) (iblk m c 5 t) a (j 1) = ∑ r : Fin 2080, preC (V m c main_v0) (V m c main_v1) (V m c main_v3) (V m c main_v4) (V m c main_v5) r (j 1)
  rw [zero_add]
  refine Eq.trans ?_ (sum_rows fun r => preC (V m c main_v0) (V m c main_v1) (V m c main_v3) (V m c main_v4) (V m c main_v5) r (j 1))
  exact Finset.sum_congr rfl fun t _ => Finset.sum_congr rfl fun a _ => preC_blk m c t a (j 1)

/-- The column sums of the attention branch's gate's cotangent after the last grid point. -/
theorem final10 : (dats m 0 c).arrAt 10 cfg0.N = sumAArr (V m c main_v0) (V m c main_v2) (V m c main_v3) (V m c main_v4) := by
  refine (dats m 0 c).arrAt_eq_of_after_last 10 t0_4 (by decide +kernel) _ fun j => ?_
  blk_simp
  rw [after0_10]
  rw [Pipeline.eq_sum_fin_of_reset_step_apply_last (fun n h => (outsAt0 m c n h).2.2.2.2.1) 5 (fun _ => (0 : EReal))
    (fun t j => ∑ a : Fin 416, preA (iblk m c 0 t) (iblk m c 2 t) (iblk m c 3 t) (iblk m c 4 t) a (j 1)) (left10_A m c) (left10_B m c) (le_of_eq N_0) t0_4 rfl j]
  show (0 : EReal) + ∑ t : Fin cfg0.N, ∑ a : Fin 416, preA (iblk m c 0 t) (iblk m c 2 t) (iblk m c 3 t) (iblk m c 4 t) a (j 1) = ∑ r : Fin 2080, preA (V m c main_v0) (V m c main_v2) (V m c main_v3) (V m c main_v4) r (j 1)
  rw [zero_add]
  refine Eq.trans ?_ (sum_rows fun r => preA (V m c main_v0) (V m c main_v2) (V m c main_v3) (V m c main_v4) r (j 1))
  exact Finset.sum_congr rfl fun t _ => Finset.sum_congr rfl fun a _ => preA_blk m c t a (j 1)

/-- The column sums of the convolution branch's cotangent after the last grid point. -/
theorem final11 : (dats m 0 c).arrAt 11 cfg0.N = sumYArr (V m c main_v0) (V m c main_v3) (V m c main_v4) := by
  refine (dats m 0 c).arrAt_eq_of_after_last 11 t0_4 (by decide +kernel) _ fun j => ?_
  blk_simp
  rw [after0_11]
  rw [Pipeline.eq_sum_fin_of_reset_step_apply_last (fun n h => (outsAt0 m c n h).2.2.2.2.2) 5 (fun _ => (0 : EReal))
    (fun t j => ∑ a : Fin 416, cotC (iblk m c 0 t) (iblk m c 3 t) (iblk m c 4 t) a (j 1)) (left11_A m c) (left11_B m c) (le_of_eq N_0) t0_4 rfl j]
  show (0 : EReal) + ∑ t : Fin cfg0.N, ∑ a : Fin 416, cotC (iblk m c 0 t) (iblk m c 3 t) (iblk m c 4 t) a (j 1) = ∑ r : Fin 2080, cotC (V m c main_v0) (V m c main_v3) (V m c main_v4) r (j 1)
  rw [zero_add]
  refine Eq.trans ?_ (sum_rows fun r => cotC (V m c main_v0) (V m c main_v3) (V m c main_v4) r (j 1))
  exact Finset.sum_congr rfl fun t _ => Finset.sum_congr rfl fun a _ => cotC_blk m c t a (j 1)

/-! ## What the call is given -/

/-- The pre-gate values as the call takes it. -/
theorem V_v0 : V m c main_v0 = narrow (m ((c.tc : Thread nD τ).loc main_arg0)) := by
  after_reads_simp
  try rfl

/-- The convolution branch as the call takes it. -/
theorem V_v1 : V m c main_v1 = narrow (m ((c.tc : Thread nD τ).loc main_arg1)) := by
  after_reads_simp
  try rfl

/-- The attention branch as the call takes it. -/
theorem V_v2 : V m c main_v2 = narrow (m ((c.tc : Thread nD τ).loc main_arg2)) := by
  after_reads_simp
  try rfl

/-- The mixture's cotangent as the call takes it. -/
theorem V_v3 : V m c main_v3 = narrow (m ((c.tc : Thread nD τ).loc main_arg5)) := by
  after_reads_simp
  try rfl

/-- The gate's bias as the call takes it. -/
theorem V_v4 : V m c main_v4 = row4096 (m ((c.tc : Thread nD τ).loc main_arg3)) := by
  after_reads_simp
  try rfl

/-- The convolution's bias as the call takes it. -/
theorem V_v5 : V m c main_v5 = row2048 (m ((c.tc : Thread nD τ).loc main_arg4)) := by
  after_reads_simp
  try rfl

end Cert.Kernel5Ideal.Value

end
-- ==== Proof.GateRef.lean ====
module

public import proofs.«01_k».proof.Proof.Gen.Reference5Ideal.Run
public import proofs.«01_k».proof.Proof.GateRun
public import proofs.«01_k».proof.Proof.FfnRef
public import Idealize.ShloMosaic.Lib.Pointwise

@[expose] public section

set_option maxRecDepth 16384

noncomputable section

namespace Cert.Reference5Ideal.Value

open Cert.Reference5Ideal Cert.Reference5Ideal.Gen Idealize.ShloMosaic Idealize.ShloMosaic.TcCoe Idealize.SL.Sem
open Cert.Kernel2Ideal.Value (narrow narrow_at sigE)
open Cert.Reference2Ideal.Value (sig_same one_lit)
open Cert.Kernel5Ideal.Value (gateC gateA cotC cotA preC preA preB lo hi row4096 row4096_at row2048 row2048_at dycArr dyaArr dzgArr sumCArr sumAArr sumYArr row_ix)
open scoped BigOperators

/-! ## The reference's operations as functions of their operands -/

/-- The gates: the logistic function of the biased pre-gate values. -/
def gatesR (Z : Vec Ideal S2080x4096 .f32) (bg : Vec Ideal S4096 .f32) : Vec Ideal S2080x4096 .f32 :=
  Host.divf (F := Ideal) (φ := .f32) (broadcastInDim S2080x4096 ![] bcast_S_S2080x4096 (constant (F := Ideal) S_ .f32 0x3F800000#32)) (addf (F := Ideal) (φ := .f32) (broadcastInDim S2080x4096 ![] bcast_S_S2080x4096 (constant (F := Ideal) S_ .f32 0x3F800000#32)) (Host.exp (F := Ideal) (φ := .f32) (Host.negf (F := Ideal) (φ := .f32) (addf (F := Ideal) (φ := .f32) Z (broadcastInDim S2080x4096 ![0, 1] bcast_S1x4096_S2080x4096_0_1 (broadcastInDim S1x4096 ![1] bcast_S4096_S1x4096_1 bg))))))

/-- A reshape to the same shape. -/
def keepR (Y : Vec Ideal S2080x2048 .f32) : Vec Ideal S2080x2048 .f32 :=
  shapeCast S2080x2048 Y shapeCasts_S2080x2048_S2080x2048

/-- The convolution branch's cotangent. -/
def cotCR (G : Vec Ideal S2080x4096 .f32) (D : Vec Ideal S2080x2048 .f32) : Vec Ideal S2080x2048 .f32 :=
  mulf (F := Ideal) (φ := .f32) (extractStridedSlice S2080x2048 ![0, 0] G slices_S2080x4096_S2080x2048_0_0) D

/-- The attention branch's cotangent. -/
def cotAR (G : Vec Ideal S2080x4096 .f32) (D : Vec Ideal S2080x2048 .f32) : Vec Ideal S2080x2048 .f32 :=
  mulf (F := Ideal) (φ := .f32) (extractStridedSlice S2080x2048 ![0, 2048] G slices_S2080x4096_S2080x2048_0_2048) D

/-- The convolution branch's gates' cotangents before the logistic function. -/
def leftR (C D : Vec Ideal S2080x2048 .f32) (bc : Vec Ideal S2048 .f32) : Vec Ideal S2080x2048 .f32 :=
  mulf (F := Ideal) (φ := .f32) D (addf (F := Ideal) (φ := .f32) C (broadcastInDim S2080x2048 ![0, 1] bcast_S1x2048_S2080x2048_0_1 (broadcastInDim S1x2048 ![1] bcast_S2048_S1x2048_1 bc)))

/-- Two arrays side by side. -/
def sideR (X Y : Vec Ideal S2080x2048 .f32) : Vec Ideal S2080x4096 .f32 :=
  concatenate S2080x4096 1 [⟨S2080x2048, X⟩, ⟨S2080x2048, Y⟩] concatenates_S2080x2048_S2080x2048_S2080x4096_d1

/-- The gates' cotangents taken back through the logistic function. -/
def backR (G S : Vec Ideal S2080x4096 .f32) : Vec Ideal S2080x4096 .f32 :=
  mulf (F := Ideal) (φ := .f32) S (mulf (F := Ideal) (φ := .f32) G (subf (F := Ideal) (φ := .f32) (broadcastInDim S2080x4096 ![] bcast_S_S2080x4096 (constant (F := Ideal) S_ .f32 0x3F800000#32)) G))

/-- The gates' cotangent. -/
def dzR (G : Vec Ideal S2080x4096 .f32) (C O D : Vec Ideal S2080x2048 .f32) (bc : Vec Ideal S2048 .f32) : Vec Ideal S2080x4096 .f32 :=
  backR G (sideR (leftR C D bc) (mulf (F := Ideal) (φ := .f32) D O))

/-- Column sums, of all 4096 columns. -/
def sumsR (X : Vec Ideal S2080x4096 .f32) : Vec Ideal S4096 .f32 :=
  Host.reduceAdd (F := Ideal) (φ := .f32) (shapeCast S1x4096 (Host.reduceAdd (F := Ideal) (φ := .f32) X (constant (F := Ideal) S_ .f32 0x00000000#32) reducesTo_S2080x4096_S4096_d0 h_S_) shapeCasts_S4096_S1x4096) (constant (F := Ideal) S_ .f32 0x00000000#32) reducesTo_S1x4096_S4096_d0 h_S_

/-- Column sums, of 2048 columns. -/
def sumsHalfR (X : Vec Ideal S2080x2048 .f32) : Vec Ideal S2048 .f32 :=
  Host.reduceAdd (F := Ideal) (φ := .f32) (shapeCast S1x2048 (Host.reduceAdd (F := Ideal) (φ := .f32) X (constant (F := Ideal) S_ .f32 0x00000000#32) reducesTo_S2080x2048_S2048_d0 h_S_) shapeCasts_S2048_S1x2048) (constant (F := Ideal) S_ .f32 0x00000000#32) reducesTo_S1x2048_S2048_d0 h_S_

/-- The first half of the column sums as one row. -/
def firstR (s : Vec Ideal S4096 .f32) : Vec Ideal S1x2048 .f32 :=
  shapeCast S1x2048 (extractStridedSlice S2048 ![0] s slices_S4096_S2048_0) shapeCasts_S2048_S1x2048

/-- The second half of the column sums as one row. -/
def secondR (s : Vec Ideal S4096 .f32) : Vec Ideal S1x2048 .f32 :=
  shapeCast S1x2048 (extractStridedSlice S2048 ![2048] s slices_S4096_S2048_2048) shapeCasts_S2048_S1x2048

/-- Column sums as one row. -/
def rowR (s : Vec Ideal S2048 .f32) : Vec Ideal S1x2048 .f32 := shapeCast S1x2048 s shapeCasts_S2048_S1x2048

/-! ## Their values at an index -/

/-- The gates at an index. -/
theorem gatesR_at (Z : Vec Ideal S2080x4096 .f32) (bg : Vec Ideal S4096 .f32) (r : Fin 2080) (j : Fin 4096) :
    gatesR Z bg (ix2 r j) = sigE (narrow Z (ix2 r j) + row4096 bg (ix2 0 j)) := by
  have h : gatesR Z bg (ix2 r j) = Ideal.div (Ideal.ofBits FTy.f32 1065353216#32) (Ideal.ofBits FTy.f32 1065353216#32 + Ideal.exp (-(Z (ix2 r j) + bg (ix1 j)))) := by
    pointwise [gatesR]
  exact h.trans ((sig_same _).trans (congrArg sigE (congrArg₂ (fun x y : EReal => x + y) rfl (row4096_at bg j).symm)))

/-- A reshape to the same shape changes nothing. -/
theorem keepR_eq (Y : Vec Ideal S2080x2048 .f32) : keepR Y = Y := by
  funext i
  obtain ⟨r, n, rfl⟩ : ∃ (r : Fin 2080) (n : Fin 2048), i = ix2 r n := ⟨i 0, i 1, eq_ix2 i⟩
  pointwise [keepR]

/-- The convolution branch's cotangent at an index, from any gates. -/
theorem cotCR_at (G : Vec Ideal S2080x4096 .f32) (D : Vec Ideal S2080x2048 .f32) (r : Fin 2080) (n : Fin 2048) :
    cotCR G D (ix2 r n) = G (ix2 r (lo n)) * D (ix2 r n) := by
  pointwise [cotCR]

/-- The attention branch's cotangent at an index, from any gates. -/
theorem cotAR_at (G : Vec Ideal S2080x4096 .f32) (D : Vec Ideal S2080x2048 .f32) (r : Fin 2080) (n : Fin 2048) :
    cotAR G D (ix2 r n) = G (ix2 r (hi n)) * D (ix2 r n) := by
  pointwise [cotAR]

/-- The convolution branch's part at an index. -/
theorem leftR_at (C D : Vec Ideal S2080x2048 .f32) (bc : Vec Ideal S2048 .f32) (r : Fin 2080) (n : Fin 2048) :
    leftR C D bc (ix2 r n) = D (ix2 r n) * (C (ix2 r n) + bc (ix1 n)) := by
  pointwise [leftR]

/-- The first of two arrays side by side. -/
theorem sideR_lo (X Y : Vec Ideal S2080x2048 .f32) (r : Fin 2080) (n : Fin 2048) : sideR X Y (ix2 r (lo n)) = X (ix2 r n) := by
  pointwise [sideR]

/-- The second of two arrays side by side. -/
theorem sideR_hi (X Y : Vec Ideal S2080x2048 .f32) (r : Fin 2080) (n : Fin 2048) : sideR X Y (ix2 r (hi n)) = Y (ix2 r n) := by
  pointwise [sideR]

/-- The logistic function's gradient at an index. -/
theorem backR_at (G S : Vec Ideal S2080x4096 .f32) (r : Fin 2080) (j : Fin 4096) :
    backR G S (ix2 r j) = S (ix2 r j) * (G (ix2 r j) * (1 - G (ix2 r j))) := by
  have h : backR G S (ix2 r j) = S (ix2 r j) * (G (ix2 r j) * (Ideal.ofBits FTy.f32 1065353216#32 - G (ix2 r j))) := by
    pointwise [backR]
  rw [h, one_lit]

/-- A column's sum. -/
theorem sumsR_at (X : Vec Ideal S2080x4096 .f32) (j : Fin 4096) : sumsR X (ix1 j) = ∑ r : Fin 2080, X (ix2 r j) := by
  pointwise [sumsR]
  exact Fin.sum_univ_one _

/-- A column's sum. -/
theorem sumsHalfR_at (X : Vec Ideal S2080x2048 .f32) (j : Fin 2048) : sumsHalfR X (ix1 j) = ∑ r : Fin 2080, X (ix2 r j) := by
  pointwise [sumsHalfR]
  exact Fin.sum_univ_one _

/-- An entry of the first half. -/
theorem firstR_at (s : Vec Ideal S4096 .f32) (n : Fin 2048) : firstR s (ix2 0 n) = s (ix1 (lo n)) := by
  pointwise [firstR]

/-- An entry of the second half. -/
theorem secondR_at (s : Vec Ideal S4096 .f32) (n : Fin 2048) : secondR s (ix2 0 n) = s (ix1 (hi n)) := by
  pointwise [secondR]

/-- An entry of the row. -/
theorem rowR_at (s : Vec Ideal S2048 .f32) (n : Fin 2048) : rowR s (ix2 0 n) = s (ix1 n) := by
  pointwise [rowR]

/-! ## The reference's results are the kernel's -/

section Results

variable (Z : Vec Ideal S2080x4096 .f32) (C O D : Vec Ideal S2080x2048 .f32) (bg : Vec Ideal S4096 .f32) (bc : Vec Ideal S2048 .f32)

/-- The convolution branch's cotangent at an index. -/
theorem cotC_same (r : Fin 2080) (n : Fin 2048) :
    cotCR (gatesR Z bg) (keepR D) (ix2 r n) = cotC (narrow Z) (narrow D) (row4096 bg) r n := by
  rw [cotCR_at, gatesR_at, keepR_eq]
  exact mul_comm (G := EReal) _ _

/-- The attention branch's cotangent at an index. -/
theorem cotA_same (r : Fin 2080) (n : Fin 2048) :
    cotAR (gatesR Z bg) (keepR D) (ix2 r n) = cotA (narrow Z) (narrow D) (row4096 bg) r n := by
  rw [cotAR_at, gatesR_at, keepR_eq]
  exact mul_comm (G := EReal) _ _

/-- The convolution branch's gate's cotangent at an index. -/
theorem preC_same (r : Fin 2080) (n : Fin 2048) :
    dzR (gatesR Z bg) C O (keepR D) bc (ix2 r (lo n)) = preC (narrow Z) (narrow C) (narrow D) (row4096 bg) (row2048 bc) r n := by
  unfold dzR
  rw [backR_at, sideR_lo, leftR_at, gatesR_at, keepR_eq, ← row2048_at bc n]
  exact (mul_assoc (G := EReal) _ _ _).symm

/-- The attention branch's gate's cotangent at an index. -/
theorem preA_same (r : Fin 2080) (n : Fin 2048) :
    dzR (gatesR Z bg) C O (keepR D) bc (ix2 r (hi n)) = preA (narrow Z) (narrow O) (narrow D) (row4096 bg) r n := by
  unfold dzR
  rw [backR_at, sideR_hi, gatesR_at, keepR_eq]
  exact (mul_assoc (G := EReal) _ _ _).symm

/-- The convolution branch's cotangent. -/
theorem dyc_res : narrow (cotCR (gatesR Z bg) (keepR D)) = dycArr (narrow Z) (narrow D) (row4096 bg) := by
  funext i
  obtain ⟨r, n, rfl⟩ : ∃ (r : Fin 2080) (n : Fin 2048), i = ix2 r n := ⟨i 0, i 1, eq_ix2 i⟩
  exact (narrow_at _ _).trans (cotC_same Z D bg r n)

/-- The attention branch's cotangent. -/
theorem dya_res : narrow (cotAR (gatesR Z bg) (keepR D)) = dyaArr (narrow Z) (narrow D) (row4096 bg) := by
  funext i
  obtain ⟨r, n, rfl⟩ : ∃ (r : Fin 2080) (n : Fin 2048), i = ix2 r n := ⟨i 0, i 1, eq_ix2 i⟩
  exact (narrow_at _ _).trans (cotA_same Z D bg r n)

/-- The gates' cotangent. -/
theorem dzg_res : narrow (dzR (gatesR Z bg) C O (keepR D) bc) = dzgArr (narrow Z) (narrow C) (narrow O) (narrow D) (row4096 bg) (row2048 bc) := by
  funext i
  obtain ⟨r, j, rfl⟩ : ∃ (r : Fin 2080) (j : Fin 4096), i = ix2 r j := ⟨i 0, i 1, eq_ix2 i⟩
  refine (narrow_at _ _).trans ?_
  show _ = preB (narrow Z) (narrow C) (narrow O) (narrow D) (row4096 bg) (row2048 bc) r j
  unfold preB
  by_cases h : j.val < 2048
  · rw [dif_pos h]
    exact preC_same Z C O D bg bc r ⟨j.val, h⟩
  · rw [dif_neg h]
    have e : j = hi ⟨j.val - 2048, by omega⟩ := Fin.ext (by show j.val = 2048 + (j.val - 2048); omega)
    exact (congrArg (fun j => dzR (gatesR Z bg) C O (keepR D) bc (ix2 r j)) e).trans (preA_same Z C O D bg bc r _)

/-- The convolution branch's gate's column sums. -/
theorem sumC_res : firstR (sumsR (dzR (gatesR Z bg) C O (keepR D) bc)) = sumCArr (narrow Z) (narrow C) (narrow D) (row4096 bg) (row2048 bc) := by
  funext j
  obtain ⟨n, rfl⟩ : ∃ n : Fin 2048, j = ix2 0 n := ⟨j 1, row_ix j⟩
  exact (firstR_at _ n).trans ((sumsR_at _ _).trans (Finset.sum_congr rfl fun r _ => preC_same Z C O D bg bc r n))

/-- The attention branch's gate's column sums. -/
theorem sumA_res : secondR (sumsR (dzR (gatesR Z bg) C O (keepR D) bc)) = sumAArr (narrow Z) (narrow O) (narrow D) (row4096 bg) := by
  funext j
  obtain ⟨n, rfl⟩ : ∃ n : Fin 2048, j = ix2 0 n := ⟨j 1, row_ix j⟩
  exact (secondR_at _ n).trans ((sumsR_at _ _).trans (Finset.sum_congr rfl fun r _ => preA_same Z C O D bg bc r n))

/-- The convolution branch's column sums. -/
theorem sumY_res : rowR (sumsHalfR (cotCR (gatesR Z bg) (keepR D))) = sumYArr (narrow Z) (narrow D) (row4096 bg) := by
  funext j
  obtain ⟨n, rfl⟩ : ∃ n : Fin 2048, j = ix2 0 n := ⟨j 1, row_ix j⟩
  exact (rowR_at _ n).trans ((sumsHalfR_at _ _).trans (Finset.sum_congr rfl fun r _ => cotC_same Z D bg r n))

end Results

end Cert.Reference5Ideal.Value

end
-- ==== Proof.GateClaim.lean ====
module

public import proofs.«01_k».proof.Defs
public import proofs.«01_k».proof.Proof.GateRef
public import Idealize.ShloMosaic.Adequacy
public import Idealize.ShloMosaic.Init

@[expose] public section

set_option maxRecDepth 16384

noncomputable section

namespace Cert.Proof.Gate

open Idealize.ShloMosaic Idealize.SL.Sem

/-- The reference runs, leaves its arguments, and has no semaphores. -/
theorem reference_frame : Cert.quiescent_Reference5Ideal := fun m g _ =>
  (θ_run _ _ _).mono (fun r h => ⟨fun c => (h c).2.2.2.2.2.2, sem_eq_zero_of_no_sems (by decide) r.2⟩) (Cert.Reference5Ideal.Value.run (F := Ideal) m g)

/-- The two programs end with the same three cotangents and the same three sums. -/
theorem algebraic : Cert.algebraic_Kernel5Ideal_Reference5Ideal := by
  intro m g m' g' _ hargs
  refine ⟨fun c => Cert.Kernel5Ideal.Value.dycArr (Cert.Kernel2Ideal.Value.narrow (m (c, Proc.tc.devRef Cert.Kernel5Ideal.main_arg0))) (Cert.Kernel2Ideal.Value.narrow (m (c, Proc.tc.devRef Cert.Kernel5Ideal.main_arg5))) (Cert.Kernel5Ideal.Value.row4096 (m (c, Proc.tc.devRef Cert.Kernel5Ideal.main_arg3))),
    fun c => Cert.Kernel5Ideal.Value.dyaArr (Cert.Kernel2Ideal.Value.narrow (m (c, Proc.tc.devRef Cert.Kernel5Ideal.main_arg0))) (Cert.Kernel2Ideal.Value.narrow (m (c, Proc.tc.devRef Cert.Kernel5Ideal.main_arg5))) (Cert.Kernel5Ideal.Value.row4096 (m (c, Proc.tc.devRef Cert.Kernel5Ideal.main_arg3))),
    fun c => Cert.Kernel5Ideal.Value.dzgArr (Cert.Kernel2Ideal.Value.narrow (m (c, Proc.tc.devRef Cert.Kernel5Ideal.main_arg0))) (Cert.Kernel2Ideal.Value.narrow (m (c, Proc.tc.devRef Cert.Kernel5Ideal.main_arg1))) (Cert.Kernel2Ideal.Value.narrow (m (c, Proc.tc.devRef Cert.Kernel5Ideal.main_arg2))) (Cert.Kernel2Ideal.Value.narrow (m (c, Proc.tc.devRef Cert.Kernel5Ideal.main_arg5))) (Cert.Kernel5Ideal.Value.row4096 (m (c, Proc.tc.devRef Cert.Kernel5Ideal.main_arg3))) (Cert.Kernel5Ideal.Value.row2048 (m (c, Proc.tc.devRef Cert.Kernel5Ideal.main_arg4))),
    fun c => Cert.Kernel5Ideal.Value.sumCArr (Cert.Kernel2Ideal.Value.narrow (m (c, Proc.tc.devRef Cert.Kernel5Ideal.main_arg0))) (Cert.Kernel2Ideal.Value.narrow (m (c, Proc.tc.devRef Cert.Kernel5Ideal.main_arg1))) (Cert.Kernel2Ideal.Value.narrow (m (c, Proc.tc.devRef Cert.Kernel5Ideal.main_arg5))) (Cert.Kernel5Ideal.Value.row4096 (m (c, Proc.tc.devRef Cert.Kernel5Ideal.main_arg3))) (Cert.Kernel5Ideal.Value.row2048 (m (c, Proc.tc.devRef Cert.Kernel5Ideal.main_arg4))),
    fun c => Cert.Kernel5Ideal.Value.sumAArr (Cert.Kernel2Ideal.Value.narrow (m (c, Proc.tc.devRef Cert.Kernel5Ideal.main_arg0))) (Cert.Kernel2Ideal.Value.narrow (m (c, Proc.tc.devRef Cert.Kernel5Ideal.main_arg2))) (Cert.Kernel2Ideal.Value.narrow (m (c, Proc.tc.devRef Cert.Kernel5Ideal.main_arg5))) (Cert.Kernel5Ideal.Value.row4096 (m (c, Proc.tc.devRef Cert.Kernel5Ideal.main_arg3))),
    fun c => Cert.Kernel5Ideal.Value.sumYArr (Cert.Kernel2Ideal.Value.narrow (m (c, Proc.tc.devRef Cert.Kernel5Ideal.main_arg0))) (Cert.Kernel2Ideal.Value.narrow (m (c, Proc.tc.devRef Cert.Kernel5Ideal.main_arg5))) (Cert.Kernel5Ideal.Value.row4096 (m (c, Proc.tc.devRef Cert.Kernel5Ideal.main_arg3))), ?_, ?_⟩
  · refine (θ_run _ _ _).mono (fun r h c => ?_) (Cert.Kernel5Ideal.Value.run_blocks m g)
    obtain ⟨r0, r1, r2, r3, r4, r5, rest⟩ := h c
    exact ⟨r0.trans ((Cert.Kernel5Ideal.Value.final6 m c).trans (by rw [Cert.Kernel5Ideal.Value.V_v0, Cert.Kernel5Ideal.Value.V_v3, Cert.Kernel5Ideal.Value.V_v4])),
      r1.trans ((Cert.Kernel5Ideal.Value.final7 m c).trans (by rw [Cert.Kernel5Ideal.Value.V_v0, Cert.Kernel5Ideal.Value.V_v3, Cert.Kernel5Ideal.Value.V_v4])),
      r2.trans ((Cert.Kernel5Ideal.Value.final8 m c).trans (by rw [Cert.Kernel5Ideal.Value.V_v0, Cert.Kernel5Ideal.Value.V_v1, Cert.Kernel5Ideal.Value.V_v2, Cert.Kernel5Ideal.Value.V_v3, Cert.Kernel5Ideal.Value.V_v4, Cert.Kernel5Ideal.Value.V_v5])),
      r3.trans ((Cert.Kernel5Ideal.Value.final9 m c).trans (by rw [Cert.Kernel5Ideal.Value.V_v0, Cert.Kernel5Ideal.Value.V_v1, Cert.Kernel5Ideal.Value.V_v3, Cert.Kernel5Ideal.Value.V_v4, Cert.Kernel5Ideal.Value.V_v5])),
      r4.trans ((Cert.Kernel5Ideal.Value.final10 m c).trans (by rw [Cert.Kernel5Ideal.Value.V_v0, Cert.Kernel5Ideal.Value.V_v2, Cert.Kernel5Ideal.Value.V_v3, Cert.Kernel5Ideal.Value.V_v4])),
      r5.trans ((Cert.Kernel5Ideal.Value.final11 m c).trans (by rw [Cert.Kernel5Ideal.Value.V_v0, Cert.Kernel5Ideal.Value.V_v3, Cert.Kernel5Ideal.Value.V_v4])), rest⟩
  · refine (θ_run _ _ _).mono (fun r h c => ?_) (Cert.Reference5Ideal.Value.run m' g')
    obtain ⟨e0, e1, e2, e3, e4, e5⟩ := hargs c
    obtain ⟨r0, r1, r2, r3, r4, r5, rest⟩ := h c
    rw [e0, e3, e5] at r0
    rw [e0, e3, e5] at r1
    rw [e0, e1, e2, e3, e4, e5] at r2
    rw [e0, e1, e2, e3, e4, e5] at r3
    rw [e0, e1, e2, e3, e4, e5] at r4
    rw [e0, e3, e5] at r5
    exact ⟨r0.trans (Cert.Reference5Ideal.Value.dyc_res _ _ _),
      r1.trans (Cert.Reference5Ideal.Value.dya_res _ _ _),
      r2.trans (Cert.Reference5Ideal.Value.dzg_res _ _ _ _ _ _),
      r3.trans (Cert.Reference5Ideal.Value.sumC_res _ _ _ _ _ _),
      r4.trans (Cert.Reference5Ideal.Value.sumA_res _ _ _ _ _ _),
      r5.trans (Cert.Reference5Ideal.Value.sumY_res _ _ _), rest⟩

end Cert.Proof.Gate

end
-- ==== Proof.GluBlocks.lean ====
module

public import proofs.«01_k».proof.Proof.Gen.Kernel6Ideal.Value
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Value

open Cert.Kernel6Ideal Cert.Kernel6Ideal.Gen Idealize.ShloMosaic Idealize.ShloMosaic.TcCoe Idealize.SL.Sem Idealize.ShloMosaic.StableHlo
open Cert.Kernel2Ideal.Value (narrow narrow_at)
open scoped BigOperators

/-- The product of rows with the first columns of a weight that is given with its columns as rows. -/
def gluArr (X : Vec Ideal S2080x2048 .bf16) (W : Vec Ideal S9280x2048 .bf16) : Vec Ideal S2080x4096 .bf16 :=
  fun i => ∑ k : Fin 2048, X (ix2 (i 0) k) * W (ix2 (⟨(i 1).val, by have := (i 1).isLt; show (i 1).val < 9280; exact Nat.lt_of_lt_of_le this (by decide)⟩ : Fin 9280) k)

/-- Where each window's block lies. -/
theorem idx : ∀ t : Fin cfg0.N, win0_0.index t = ![0, 0] ∧ win0_1.index t = ![t.val, 0] ∧ win0_2.index t = ![0, t.val] :=
  (by decide +kernel : ∀ t : Fin grid0.N, _)

/-- The number of grid points. -/
theorem lt (t : Fin cfg0.N) : t.val < 4 := Nat.lt_of_lt_of_eq t.isLt (N_0 : cfg0.N = 4)

/-- The product at an entry of a block. -/
theorem pay_at (X : Vec Ideal S2080x2048 .bf16) (W : Vec Ideal S1024x2048 .bf16) (a : Fin 2080) (b : Fin 1024) :
    (k0_pay1 X W : Vec Ideal S2080x1024 .bf16) (ix2 a b) = ∑ k : Fin 2048, X (ix2 a k) * W (ix2 b k) := by
  pointwise [k0_pay1]

/-- The columns a grid point works on. -/
abbrev col (t : Fin cfg0.N) (b : Fin 1024) : Fin 4096 := ⟨t.val * 1024 + b.val, by have := lt t; omega⟩

/-- The weight as the call takes it: its columns as rows. -/
def turned (W : Vec Ideal S2048x9280 .f32) : Vec Ideal S9280x2048 .bf16 :=
  truncf (F := Ideal) .bf16 (transpose S9280x2048 [1, 0] W transposes_S2048x9280_S9280x2048_1_0) bitsLt_bf16_f32

/-- Its entries are the weight's. -/
theorem turned_at (W : Vec Ideal S2048x9280 .f32) (j : Fin 9280) (k : Fin 2048) : turned W (ix2 j k) = W (ix2 k j) := by
  pointwise [turned]

variable (m : (ℓ : Loc nD τ sig) → Buf (Elt Ideal) ℓ) (c : Dev nD)

/-- The rows as the call takes them. -/
theorem V_v2 : V m c main_v2 = narrow (m ((c.tc : Thread nD τ).loc main_arg0)) := by
  after_reads_simp
  try rfl

/-- The weight as the call takes it. -/
theorem V_v1 : V m c main_v1 = turned (m ((c.tc : Thread nD τ).loc main_arg1)) := by
  after_reads_simp
  try rfl

/-- A block of the weight, whole within the array. -/
theorem weight_block (t : Fin cfg0.N) (b : Fin 1024) (k : Fin 2048) :
    (X0_1 m c t : Vec Ideal S1024x2048 .bf16) (ix2 b k) = V m c main_v1 (ix2 (⟨t.val * 1024 + b.val, by have := lt t; omega⟩ : Fin 9280) k) := by
  unfold X0_1 Pipeline.Window.fill
  refine (dif_pos (moved0_1 t (ix2 b k))).trans ?_
  blk_point [iblk, idx t]

/-- The product's first columns. -/
theorem final2 : (dats m 0 c).arrAt 2 cfg0.N = gluArr (V m c main_v2) (V m c main_v1) := by
  refine (dats m 0 c).arrAt_eq_of_covers 2 _ (by decide +kernel) fun t _ y => ?_
  blk_simp
  rw [after0_2]
  unfold outsAt0
  frame_out
  idx_vars y
  have e : ((View.whole main_v3).slice (win0_2.rect t)).emb (ix2 y0 y1) = ix2 y0 (col t y1) := by
    blk_ext [idx t]
  rw [e]
  refine (pay_at _ _ _ _).trans ?_
  refine Finset.sum_congr rfl fun k _ => congrArg₂ (· * ·) ?_ (weight_block m c t y1 k)
  blk_point [iblk, idx t]

end Cert.Kernel6Ideal.Value

end
-- ==== Proof.GluBackBlocks.lean ====
module

public import proofs.«01_k».proof.Proof.Gen.Kernel7Ideal.Value
public import proofs.«01_k».proof.Proof.GluBlocks
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Value

open Cert.Kernel7Ideal Cert.Kernel7Ideal.Gen Idealize.ShloMosaic Idealize.ShloMosaic.TcCoe Idealize.SL.Sem Idealize.ShloMosaic.StableHlo
open Cert.Kernel2Ideal.Value (narrow narrow_at)
open Cert.Kernel6Ideal.Value (turned turned_at)
open scoped BigOperators

/-- A place among the first columns of the weight. -/
abbrev fst (j : Fin 4096) : Fin 9280 := ⟨j.val, by omega⟩

/-- The cotangent of the first columns taken back through a weight that is given with its columns as rows. -/
def gluBackArr (Y : Vec Ideal S2080x4096 .bf16) (W : Vec Ideal S9280x2048 .bf16) : Vec Ideal S2080x2048 .f32 :=
  fun i => ∑ j : Fin 4096, Y (ix2 (i 0) j) * W (ix2 (fst j) (i 1))

/-- Where each window's block lies. -/
theorem idx : ∀ t : Fin cfg0.N, win0_0.index t = ![0, 0] ∧ win0_1.index t = ![0, t.val] ∧ win0_2.index t = ![0, t.val] :=
  (by decide +kernel : ∀ t : Fin grid0.N, _)

/-- The number of grid points. -/
theorem lt (t : Fin cfg0.N) : t.val < 8 := Nat.lt_of_lt_of_eq t.isLt (N_0 : cfg0.N = 8)

/-- The product at an entry of a block. -/
theorem pay_at (Y : Vec Ideal S2080x4096 .bf16) (W : Vec Ideal S4096x256 .bf16) (a : Fin 2080) (b : Fin 256) :
    (k0_pay1 Y W : Vec Ideal S2080x256 .f32) (ix2 a b) = ∑ k : Fin 4096, Y (ix2 a k) * W (ix2 k b) := by
  pointwise [k0_pay1]

/-- The columns a grid point works on. -/
abbrev col (t : Fin cfg0.N) (b : Fin 256) : Fin 2048 := ⟨t.val * 256 + b.val, by have := lt t; omega⟩

variable (m : (ℓ : Loc nD τ sig) → Buf (Elt Ideal) ℓ) (c : Dev nD)

/-- The cotangent as the call takes it. -/
theorem V_v2 : V m c main_v2 = narrow (m ((c.tc : Thread nD τ).loc main_arg1)) := by
  after_reads_simp
  try rfl

/-- The weight as the call takes it. -/
theorem V_v1 : V m c main_v1 = turned (m ((c.tc : Thread nD τ).loc main_arg0)) := by
  after_reads_simp
  try rfl

/-- A block of the weight, whole within the array. -/
theorem weight_block (t : Fin cfg0.N) (j : Fin 4096) (b : Fin 256) :
    (X0_1 m c t : Vec Ideal S4096x256 .bf16) (ix2 j b) = V m c main_v1 (ix2 (fst j) (col t b)) := by
  unfold X0_1 Pipeline.Window.fill
  refine (dif_pos (moved0_1 t (ix2 j b))).trans ?_
  blk_point [iblk, idx t]

/-- The cotangent taken back. -/
theorem final2 : (dats m 0 c).arrAt 2 cfg0.N = gluBackArr (V m c main_v2) (V m c main_v1) := by
  refine (dats m 0 c).arrAt_eq_of_covers 2 _ (by decide +kernel) fun t _ y => ?_
  blk_simp
  rw [after0_2]
  unfold outsAt0
  frame_out
  idx_vars y
  have e : ((View.whole main_v3).slice (win0_2.rect t)).emb (ix2 y0 y1) = ix2 y0 (col t y1) := by
    blk_ext [idx t]
  rw [e]
  refine (pay_at _ _ _ _).trans ?_
  refine Finset.sum_congr rfl fun k _ => congrArg₂ (· * ·) ?_ (weight_block m c t k y1)
  blk_point [iblk, idx t]

end Cert.Kernel7Ideal.Value

end
-- ==== Proof.GluRef.lean ====
module

public import proofs.«01_k».proof.Proof.GluBackBlocks
public import proofs.«01_k».proof.Proof.Gen.Reference6Ideal.Run
public import proofs.«01_k».proof.Proof.Gen.Reference7Ideal.Run
public import Idealize.ShloMosaic.Lib.Pointwise

@[expose] public section

set_option maxRecDepth 16384

noncomputable section

namespace Cert.Reference6Ideal.Value

open Cert.Reference6Ideal Cert.Reference6Ideal.Gen Idealize.ShloMosaic Idealize.ShloMosaic.TcCoe Idealize.SL.Sem Idealize.ShloMosaic.StableHlo
open Cert.Kernel2Ideal.Value (narrow narrow_at)
open Cert.Kernel6Ideal.Value (turned turned_at gluArr)
open scoped BigOperators

/-- The first columns of the projection. -/
def gluR (X : Vec Ideal S2080x2048 .f32) (W : Vec Ideal S2048x9280 .f32) : Vec Ideal S2080x4096 .bf16 :=
  truncf (F := Ideal) .bf16 (extractStridedSlice S2080x4096 ![0, 0] (Host.dotGeneral (F := Ideal) (φ₁ := .f32) (φ₂ := .f32) dot_S2080x2048_S2048x9280_S2080x9280_1_0_0_1_n_n none X W) slices_S2080x9280_S2080x4096_0_0) bitsLt_bf16_f32

/-- They at an index. -/
theorem gluR_at (X : Vec Ideal S2080x2048 .f32) (W : Vec Ideal S2048x9280 .f32) (r : Fin 2080) (j : Fin 4096) :
    gluR X W (ix2 r j) = ∑ k : Fin 2048, X (ix2 r k) * W (ix2 k (⟨j.val, by omega⟩ : Fin 9280)) := by
  pointwise [gluR]

/-- They are the call's result. -/
theorem glu_res (X : Vec Ideal S2080x2048 .f32) (W : Vec Ideal S2048x9280 .f32) : gluR X W = gluArr (narrow X) (turned W) := by
  funext i
  obtain ⟨r, j, rfl⟩ : ∃ (r : Fin 2080) (j : Fin 4096), i = ix2 r j := ⟨i 0, i 1, eq_ix2 i⟩
  exact (gluR_at X W r j).trans (Finset.sum_congr rfl fun k _ => congrArg₂ (· * ·) rfl (turned_at W _ k).symm)

end Cert.Reference6Ideal.Value

namespace Cert.Reference7Ideal.Value

open Cert.Reference7Ideal Cert.Reference7Ideal.Gen Idealize.ShloMosaic Idealize.ShloMosaic.TcCoe Idealize.SL.Sem Idealize.ShloMosaic.StableHlo
open Cert.Kernel2Ideal.Value (narrow narrow_at)
open Cert.Kernel6Ideal.Value (turned turned_at)
open Cert.Kernel7Ideal.Value (fst gluBackArr)
open scoped BigOperators

/-- The cotangent with zeros at the other columns. -/
def wideR (Y : Vec Ideal S2080x4096 .f32) : Vec Ideal S2080x9280 .f32 :=
  pad S2080x9280 ![0, 0] ![0, 5184] ![0, 0] Y (constant (F := Ideal) S_ .f32 0x00000000#32) pads_S2080x4096_S2080x9280_000_051840 h_S_

/-- It taken back through the weight. -/
def backR (Y : Vec Ideal S2080x9280 .f32) (W : Vec Ideal S2048x9280 .f32) : Vec Ideal S2080x2048 .f32 :=
  Host.dotGeneral (F := Ideal) (φ₁ := .f32) (φ₂ := .f32) dot_S2080x9280_S2048x9280_S2080x2048_1_1_0_0_n_n none Y W

/-- The widened cotangent at an index. -/
theorem wideR_at (Y : Vec Ideal S2080x4096 .f32) (r : Fin 2080) (j : Fin 9280) :
    wideR Y (ix2 r j) = if h : j.val < 4096 then Y (ix2 r ⟨j.val, h⟩) else 0 := by
  pointwise [wideR]

/-- The product at an index. -/
theorem backR_at (Y : Vec Ideal S2080x9280 .f32) (W : Vec Ideal S2048x9280 .f32) (r : Fin 2080) (n : Fin 2048) :
    backR Y W (ix2 r n) = ∑ j : Fin 9280, Y (ix2 r j) * W (ix2 n j) := by
  pointwise [backR]

/-- A sum whose terms vanish beyond the first ones. -/
theorem sum_first (f : Fin 9280 → EReal) (h : ∀ j : Fin 9280, 4096 ≤ j.val → f j = 0) : ∑ j, f j = ∑ j : Fin 4096, f (fst j) := by
  refine (Fin.sum_univ_add (M := EReal) (a := 4096) (b := 5184) f).trans ?_
  rw [Finset.sum_eq_zero (s := Finset.univ) (f := fun j : Fin 5184 => f (Fin.natAdd 4096 j)) fun j _ => h _ (Nat.le_add_right _ _), add_zero]
  rfl

/-- The cotangent taken back is the call's result. -/
theorem gluBack_res (Y : Vec Ideal S2080x4096 .f32) (W : Vec Ideal S2048x9280 .f32) : backR (wideR Y) W = gluBackArr (narrow Y) (turned W) := by
  funext i
  obtain ⟨r, n, rfl⟩ : ∃ (r : Fin 2080) (n : Fin 2048), i = ix2 r n := ⟨i 0, i 1, eq_ix2 i⟩
  refine (backR_at _ _ r n).trans ((sum_first _ fun j h => ?_).trans (Finset.sum_congr rfl fun j _ => ?_))
  · rw [wideR_at, dif_neg (by omega), zero_mul]
  · refine congrArg₂ (· * ·) ((wideR_at Y r (fst j)).trans (dif_pos j.isLt)) (turned_at W (fst j) n).symm

end Cert.Reference7Ideal.Value

end
-- ==== Proof.GluClaim.lean ====
module

public import proofs.«01_k».proof.Defs
public import proofs.«01_k».proof.Proof.GluRef
public import Idealize.ShloMosaic.Adequacy
public import Idealize.ShloMosaic.Init

@[expose] public section

set_option maxRecDepth 16384

noncomputable section

namespace Cert.Proof.Glu

open Idealize.ShloMosaic Idealize.SL.Sem

/-- The reference runs, leaves its arguments, and has no semaphores. -/
theorem reference_frame6 : Cert.quiescent_Reference6Ideal := fun m g _ =>
  (θ_run _ _ _).mono (fun r h => ⟨fun c => (h c).2, sem_eq_zero_of_no_sems (by decide) r.2⟩) (Cert.Reference6Ideal.Value.run (F := Ideal) m g)

/-- The two programs end with the same array. -/
theorem algebraic6 : Cert.algebraic_Kernel6Ideal_Reference6Ideal := by
  intro m g m' g' _ hargs
  refine ⟨fun c => Cert.Kernel6Ideal.Value.gluArr (Cert.Kernel2Ideal.Value.narrow (m (c, Proc.tc.devRef Cert.Kernel6Ideal.main_arg0))) (Cert.Kernel6Ideal.Value.turned (m (c, Proc.tc.devRef Cert.Kernel6Ideal.main_arg1))), ?_, ?_⟩
  · refine (θ_run _ _ _).mono (fun r h c => ?_) (Cert.Kernel6Ideal.Value.run_blocks m g)
    obtain ⟨r0, rest⟩ := h c
    exact ⟨r0.trans ((Cert.Kernel6Ideal.Value.final2 m c).trans (by rw [Cert.Kernel6Ideal.Value.V_v2, Cert.Kernel6Ideal.Value.V_v1])), rest⟩
  · refine (θ_run _ _ _).mono (fun r h c => ?_) (Cert.Reference6Ideal.Value.run m' g')
    obtain ⟨e0, e1⟩ := hargs c
    obtain ⟨r0, rest⟩ := h c
    rw [e0, e1] at r0
    exact ⟨r0.trans (Cert.Reference6Ideal.Value.glu_res _ _), rest⟩

/-- The reference runs, leaves its arguments, and has no semaphores. -/
theorem reference_frame7 : Cert.quiescent_Reference7Ideal := fun m g _ =>
  (θ_run _ _ _).mono (fun r h => ⟨fun c => (h c).2, sem_eq_zero_of_no_sems (by decide) r.2⟩) (Cert.Reference7Ideal.Value.run (F := Ideal) m g)

/-- The two programs end with the same array. -/
theorem algebraic7 : Cert.algebraic_Kernel7Ideal_Reference7Ideal := by
  intro m g m' g' _ hargs
  refine ⟨fun c => Cert.Kernel7Ideal.Value.gluBackArr (Cert.Kernel2Ideal.Value.narrow (m (c, Proc.tc.devRef Cert.Kernel7Ideal.main_arg1))) (Cert.Kernel6Ideal.Value.turned (m (c, Proc.tc.devRef Cert.Kernel7Ideal.main_arg0))), ?_, ?_⟩
  · refine (θ_run _ _ _).mono (fun r h c => ?_) (Cert.Kernel7Ideal.Value.run_blocks m g)
    obtain ⟨r0, rest⟩ := h c
    exact ⟨r0.trans ((Cert.Kernel7Ideal.Value.final2 m c).trans (by rw [Cert.Kernel7Ideal.Value.V_v2, Cert.Kernel7Ideal.Value.V_v1])), rest⟩
  · refine (θ_run _ _ _).mono (fun r h c => ?_) (Cert.Reference7Ideal.Value.run m' g')
    obtain ⟨e0, e1⟩ := hargs c
    obtain ⟨r0, rest⟩ := h c
    rw [e0, e1] at r0
    exact ⟨r0.trans (Cert.Reference7Ideal.Value.gluBack_res _ _), rest⟩

end Cert.Proof.Glu

end
-- ==== Proof.GluGradBlocks.lean ====
module

public import proofs.«01_k».proof.Proof.Gen.Kernel8Ideal.Value
public import proofs.«01_k».proof.Proof.GateRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Value

open Cert.Kernel8Ideal Cert.Kernel8Ideal.Gen Idealize.ShloMosaic Idealize.ShloMosaic.TcCoe Idealize.SL.Sem Idealize.ShloMosaic.StableHlo
open Cert.Kernel2Ideal.Value (narrow narrow_at sigE)
open Cert.Kernel5Ideal.Value (hi lo row_ix lit_one colSum colSum_at addSum_at row4096 row4096_at)
open scoped BigOperators

/-! ## What the call computes of a number of rows -/

section Rows

variable {n : Nat}

/-- The gate at a row: the logistic function of the second half. -/
def gateB (Z : Vec Ideal ⟨2, ![n, 4096]⟩ .bf16) (b1 : Vec Ideal S1x4096 .f32) (a : Fin n) (b : Fin 2048) : EReal :=
  sigE (Z (ix2 a (hi b)) + b1 (ix2 0 (hi b)))

/-- The gated half's cotangent at a row. -/
def cotV (Z : Vec Ideal ⟨2, ![n, 4096]⟩ .bf16) (b1 : Vec Ideal S1x4096 .f32) (D : Vec Ideal ⟨2, ![n, 2048]⟩ .f32) (a : Fin n) (b : Fin 2048) : EReal :=
  D (ix2 a b) * gateB Z b1 a b

/-- The gating half's cotangent at a row. -/
def cotG (Z : Vec Ideal ⟨2, ![n, 4096]⟩ .bf16) (b1 : Vec Ideal S1x4096 .f32) (D : Vec Ideal ⟨2, ![n, 2048]⟩ .f32) (a : Fin n) (b : Fin 2048) : EReal :=
  ((D (ix2 a b) * (Z (ix2 a (lo b)) + b1 (ix2 0 (lo b)))) * gateB Z b1 a b) * (1 - gateB Z b1 a b)

/-- Both halves' cotangent at a row. -/
def cotZ (Z : Vec Ideal ⟨2, ![n, 4096]⟩ .bf16) (b1 : Vec Ideal S1x4096 .f32) (D : Vec Ideal ⟨2, ![n, 2048]⟩ .f32) (a : Fin n) (b : Fin 4096) : EReal :=
  if h : b.val < 2048 then cotV Z b1 D a ⟨b.val, h⟩ else cotG Z b1 D a ⟨b.val - 2048, by omega⟩

end Rows

/-! ## The call's stored values at an entry -/

section Entries

variable (Z : Vec Ideal S416x4096 .bf16) (b1 : Vec Ideal S1x4096 .f32) (D : Vec Ideal S416x2048 .f32)

/-- The biased values. -/
theorem pay3_at (a : Fin 416) (j : Fin 4096) : (k0_pay3 Z b1 : Vec Ideal S416x4096 .f32) (ix2 a j) = Z (ix2 a j) + b1 (ix2 0 j) := by
  pointwise [k0_pay3]

/-- The gate. -/
theorem pay4_at (a : Fin 416) (b : Fin 2048) : (k0_pay4 Z b1 : Vec Ideal S416x2048 .f32) (ix2 a b) = gateB Z b1 a b := by
  have h : (k0_pay4 Z b1 : Vec Ideal S416x2048 .f32) (ix2 a b) = sigE ((k0_pay3 Z b1 : Vec Ideal S416x4096 .f32) (ix2 a (hi b))) := by
    unfold sigE
    pointwise [k0_pay4]
  exact h.trans (congrArg sigE (pay3_at Z b1 a (hi b)))

/-- The gated half's cotangent. -/
theorem pay5_at (a : Fin 416) (b : Fin 2048) : (k0_pay5 Z b1 D : Vec Ideal S416x2048 .f32) (ix2 a b) = cotV Z b1 D a b :=
  congrArg (fun x : EReal => D (ix2 a b) * x) (pay4_at Z b1 a b)

/-- The gated half before the gate. -/
theorem half_at (a : Fin 416) (b : Fin 2048) :
    (extractStridedSlice S416x2048 ![0, 0] (k0_pay3 Z b1) slices_S416x4096_o0_0_S416x2048 : Vec Ideal S416x2048 .f32) (ix2 a b) = Z (ix2 a (lo b)) + b1 (ix2 0 (lo b)) := by
  refine Eq.trans ?_ (pay3_at Z b1 a (lo b))
  pointwise

/-- The gating half's cotangent. -/
theorem pay6_at (a : Fin 416) (b : Fin 2048) : (k0_pay6 Z b1 D : Vec Ideal S416x2048 .f32) (ix2 a b) = cotG Z b1 D a b :=
  congrArg₂ (fun x y : EReal => x * y) (congrArg₂ (fun x y : EReal => (D (ix2 a b) * x) * y) (half_at Z b1 a b) (pay4_at Z b1 a b))
    (congrArg₂ (fun x y : EReal => x - y) lit_one (pay4_at Z b1 a b))

/-- The two stores of the cotangent. -/
theorem stores_at (a : Fin 416) (b : Fin 4096) :
    View.canon (Val := Elt Ideal) (s := S416x4096) (e := .bf16)
      [⟨Rect.unit ![0, 2048] ![416, 2048] inb_S416x4096_S416x2048_0_2048, k0_pay8 Z b1 D⟩,
        ⟨Rect.unit ![0, 0] ![416, 2048] inb_S416x4096_S416x2048_0_0, k0_pay7 Z b1 D⟩] (ix2 a b)
      = cotZ Z b1 D a b := by
  refine Cert.KernelIdeal.Value.canon_block (e := .bf16) (cotZ Z b1 D) _ _ _ a b (by omega) (by omega) (fun x y => ?_) fun h => ?_
  · refine (pay6_at Z b1 D x y).trans ?_
    unfold cotZ
    rw [dif_neg (by simp only; omega)]
    congr 1 <;> exact Fin.ext (by simp only; omega)
  · refine Cert.KernelIdeal.Value.canon_block (e := .bf16) (cotZ Z b1 D) _ _ _ a b (by omega) (by omega) (fun x y => ?_) fun h' => ?_
    · refine (pay5_at Z b1 D x y).trans ?_
      unfold cotZ
      rw [dif_pos (by simp only; omega)]
      congr 1 <;> exact Fin.ext (by simp only; omega)
    · exact absurd h' (by have := a.isLt; have := b.isLt; omega)

end Entries

variable (m : (ℓ : Loc nD τ sig) → Buf (Elt Ideal) ℓ) (c : Dev nD)

/-! ## What a grid point leaves -/

/-- A grid point leaves its rows of the cotangent. -/
theorem left3 (t : Fin cfg0.N) (a : Fin 416) (b : Fin 4096) :
    (outsAt0 m c t.val t.isLt).1 (ix2 a b) = cotZ (iblk m c 0 t) (iblk m c 2 t) (iblk m c 1 t) a b := by
  have ht : t.val < 5 := lt_of_lt_of_eq t.isLt N_0
  by_cases h0 : t.val % 5 = 0
  · have h1 : ¬1 ≤ t.val := by omega
    rw [outsAt0_A m c t h0 h1 h0 h1]
    frame_out
    exact stores_at _ _ _ _ _
  · have h1 : 1 ≤ t.val := by omega
    rw [outsAt0_B m c t h0 h1 h0 h1]
    frame_out
    exact stores_at _ _ _ _ _

/-- The first grid point starts the sum of the gated half's cotangent. -/
theorem left4_A (t : Fin cfg0.N) (h0 : t.val % 5 = 0) (j : S1x2048.Idx) :
    (outsAt0 m c t.val t.isLt).2.1 j = (0 : EReal) + ∑ a : Fin 416, cotV (iblk m c 0 t) (iblk m c 2 t) (iblk m c 1 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1 h0 h1, zero_add]
  frame_out
  exact (colSum_at _ b).trans (Finset.sum_congr rfl fun a _ => pay5_at _ _ _ _ _)

/-- Every later grid point adds to the sum of the gated half's cotangent. -/
theorem left4_B (t : Fin cfg0.N) (h0 : ¬t.val % 5 = 0) (j : S1x2048.Idx) :
    (outsAt0 m c t.val t.isLt).2.1 j = (outsAt0 m c (t.val - 1) (Nat.lt_of_le_of_lt (Nat.sub_le _ _) t.isLt)).2.1 j
      + ∑ a : Fin 416, cotV (iblk m c 0 t) (iblk m c 2 t) (iblk m c 1 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1 h0 h1]
  frame_out
  exact (addSum_at _ (colSum _) b).trans (congrArg₂ (fun x y : EReal => x + y) rfl ((colSum_at _ b).trans (Finset.sum_congr rfl fun a _ => pay5_at _ _ _ _ _)))

/-- The first grid point starts the sum of the gating half's cotangent. -/
theorem left5_A (t : Fin cfg0.N) (h0 : t.val % 5 = 0) (j : S1x2048.Idx) :
    (outsAt0 m c t.val t.isLt).2.2 j = (0 : EReal) + ∑ a : Fin 416, cotG (iblk m c 0 t) (iblk m c 2 t) (iblk m c 1 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1 h0 h1, zero_add]
  frame_out
  exact (colSum_at _ b).trans (Finset.sum_congr rfl fun a _ => pay6_at _ _ _ _ _)

/-- Every later grid point adds to the sum of the gating half's cotangent. -/
theorem left5_B (t : Fin cfg0.N) (h0 : ¬t.val % 5 = 0) (j : S1x2048.Idx) :
    (outsAt0 m c t.val t.isLt).2.2 j = (outsAt0 m c (t.val - 1) (Nat.lt_of_le_of_lt (Nat.sub_le _ _) t.isLt)).2.2 j
      + ∑ a : Fin 416, cotG (iblk m c 0 t) (iblk m c 2 t) (iblk m c 1 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1 h0 h1]
  frame_out
  exact (addSum_at _ (colSum _) b).trans (congrArg₂ (fun x y : EReal => x + y) rfl ((colSum_at _ b).trans (Finset.sum_congr rfl fun a _ => pay6_at _ _ _ _ _)))

end Cert.Kernel8Ideal.Value

end
-- ==== Proof.GluGradRun.lean ====
module

public import proofs.«01_k».proof.Proof.GluGradBlocks
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Value

open Cert.Kernel8Ideal Cert.Kernel8Ideal.Gen Idealize.ShloMosaic Idealize.ShloMosaic.TcCoe Idealize.SL.Sem Idealize.ShloMosaic.StableHlo
open Cert.Kernel2Ideal.Value (narrow narrow_at sigE)
open Cert.Kernel5Ideal.Value (hi lo row4096 row4096_at)
open scoped BigOperators

/-! ## What the call leaves -/

/-- Both halves' cotangent. -/
def dzArr (Z : Vec Ideal S2080x4096 .bf16) (b1 : Vec Ideal S1x4096 .f32) (D : Vec Ideal S2080x2048 .f32) : Vec Ideal S2080x4096 .bf16 := fun i => cotZ Z b1 D (i 0) (i 1)

/-- The column sums of the gated half's cotangent. -/
def sumVArr (Z : Vec Ideal S2080x4096 .bf16) (b1 : Vec Ideal S1x4096 .f32) (D : Vec Ideal S2080x2048 .f32) : Vec Ideal S1x2048 .f32 := fun j => ∑ r : Fin 2080, cotV Z b1 D r (j 1)

/-- The column sums of the gating half's cotangent. -/
def sumGArr (Z : Vec Ideal S2080x4096 .bf16) (b1 : Vec Ideal S1x4096 .f32) (D : Vec Ideal S2080x2048 .f32) : Vec Ideal S1x2048 .f32 := fun j => ∑ r : Fin 2080, cotG Z b1 D r (j 1)

/-! ## The blocks a grid point reads -/

/-- Where each window's block lies. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] :=
  (by decide +kernel : ∀ t : Fin grid0.N, _)

/-- The number of grid points. -/
theorem lt (t : Fin cfg0.N) : t.val < 5 := Nat.lt_of_lt_of_eq t.isLt (N_0 : cfg0.N = 5)

/-- The rows a grid point works on. -/
abbrev row (t : Fin cfg0.N) (a : Fin 416) : Fin 2080 := ⟨t.val * 416 + a.val, by have := lt t; omega⟩

/-- The rows of the grid points are all rows. -/
theorem sum_rows (f : Fin 2080 → EReal) : ∑ t : Fin cfg0.N, ∑ a : Fin 416, f (row t a) = ∑ r : Fin 2080, f r :=
  (Fintype.sum_equiv (finCongr ((N_0 : cfg0.N = 5).trans (Cert.Kernel5Ideal.Gen.N_0 : Cert.Kernel5Ideal.cfg0.N = 5).symm)) _
    (fun t => ∑ a : Fin 416, f (Cert.Kernel5Ideal.Value.row t a)) fun t => rfl).trans (Cert.Kernel5Ideal.Value.sum_rows f)

variable (m : (ℓ : Loc nD τ sig) → Buf (Elt Ideal) ℓ) (c : Dev nD)

/-- A block of the values before the bias. -/
theorem blk0 (t : Fin cfg0.N) (a : Fin 416) (b : Fin 4096) : iblk m c 0 t (ix2 a b) = V m c main_v0 (ix2 (row t a) b) := by
  blk_point [iblk, idx t]

/-- A block of the incoming cotangent. -/
theorem blk1 (t : Fin cfg0.N) (a : Fin 416) (b : Fin 2048) : iblk m c 1 t (ix2 a b) = V m c main_arg2 (ix2 (row t a) b) := by
  blk_point [iblk, idx t]

/-- The bias's block is the whole row. -/
theorem blk2 (t : Fin cfg0.N) (b : Fin 4096) : iblk m c 2 t (ix2 0 b) = V m c main_v1 (ix2 0 b) := by
  blk_point [iblk, idx t]

/-- The gate at a grid point's row. -/
theorem gateB_blk (t : Fin cfg0.N) (a : Fin 416) (b : Fin 2048) : gateB (iblk m c 0 t) (iblk m c 2 t) a b = gateB (V m c main_v0) (V m c main_v1) (row t a) b :=
  congrArg sigE (congrArg₂ (fun x y : EReal => x + y) (blk0 m c t a (hi b)) (blk2 m c t (hi b)))

/-- The gated half's cotangent at a grid point's row. -/
theorem cotV_blk (t : Fin cfg0.N) (a : Fin 416) (b : Fin 2048) : cotV (iblk m c 0 t) (iblk m c 2 t) (iblk m c 1 t) a b = cotV (V m c main_v0) (V m c main_v1) (V m c main_arg2) (row t a) b :=
  congrArg₂ (fun x y : EReal => x * y) (blk1 m c t a b) (gateB_blk m c t a b)

/-- The gating half's cotangent at a grid point's row. -/
theorem cotG_blk (t : Fin cfg0.N) (a : Fin 416) (b : Fin 2048) : cotG (iblk m c 0 t) (iblk m c 2 t) (iblk m c 1 t) a b = cotG (V m c main_v0) (V m c main_v1) (V m c main_arg2) (row t a) b :=
  congrArg₂ (fun x y : EReal => x * y) (congrArg₂ (fun x y : EReal => x * y) (congrArg₂ (fun x y : EReal => x * y) (blk1 m c t a b)
    (congrArg₂ (fun x y : EReal => x + y) (blk0 m c t a (lo b)) (blk2 m c t (lo b)))) (gateB_blk m c t a b)) (congrArg (fun x : EReal => 1 - x) (gateB_blk m c t a b))

/-- Both halves' cotangent at a grid point's row. -/
theorem cotZ_blk (t : Fin cfg0.N) (a : Fin 416) (b : Fin 4096) : cotZ (iblk m c 0 t) (iblk m c 2 t) (iblk m c 1 t) a b = cotZ (V m c main_v0) (V m c main_v1) (V m c main_arg2) (row t a) b := by
  unfold cotZ
  by_cases h : b.val < 2048
  · rw [dif_pos h, dif_pos h]
    exact cotV_blk m c t a _
  · rw [dif_neg h, dif_neg h]
    exact cotG_blk m c t a _

/-- Both halves' cotangent after the last grid point. -/
theorem final3 : (dats m 0 c).arrAt 3 cfg0.N = dzArr (V m c main_v0) (V m c main_v1) (V m c main_arg2) := by
  refine (dats m 0 c).arrAt_eq_of_covers 3 _ (by decide +kernel) fun t _ y => ?_
  blk_simp
  rw [after0_3]
  idx_vars y
  have e : ((View.whole main_v2_0).slice (win0_3.rect t)).emb (ix2 y0 y1) = ix2 (row t y0) y1 := by
    blk_ext [idx t]
  rw [e]
  exact (left3 m c t y0 y1).trans (cotZ_blk m c t y0 y1)

/-- The column sums of the gated half's cotangent after the last grid point. -/
theorem final4 : (dats m 0 c).arrAt 4 cfg0.N = sumVArr (V m c main_v0) (V m c main_v1) (V m c main_arg2) := by
  refine (dats m 0 c).arrAt_eq_of_after_last 4 t0_4 (by decide +kernel) _ fun j => ?_
  blk_simp
  rw [after0_4]
  rw [Pipeline.eq_sum_fin_of_reset_step_apply_last (fun n h => (outsAt0 m c n h).2.1) 5 (fun _ => (0 : EReal))
    (fun t j => ∑ a : Fin 416, cotV (iblk m c 0 t) (iblk m c 2 t) (iblk m c 1 t) a (j 1)) (left4_A m c) (left4_B m c) (le_of_eq N_0) t0_4 rfl j]
  show (0 : EReal) + ∑ t : Fin cfg0.N, ∑ a : Fin 416, cotV (iblk m c 0 t) (iblk m c 2 t) (iblk m c 1 t) a (j 1) = ∑ r : Fin 2080, cotV (V m c main_v0) (V m c main_v1) (V m c main_arg2) r (j 1)
  rw [zero_add]
  refine Eq.trans ?_ (sum_rows fun r => cotV (V m c main_v0) (V m c main_v1) (V m c main_arg2) r (j 1))
  exact Finset.sum_congr rfl fun t _ => Finset.sum_congr rfl fun a _ => cotV_blk m c t a (j 1)

/-- The column sums of the gating half's cotangent after the last grid point. -/
theorem final5 : (dats m 0 c).arrAt 5 cfg0.N = sumGArr (V m c main_v0) (V m c main_v1) (V m c main_arg2) := by
  refine (dats m 0 c).arrAt_eq_of_after_last 5 t0_4 (by decide +kernel) _ fun j => ?_
  blk_simp
  rw [after0_5]
  rw [Pipeline.eq_sum_fin_of_reset_step_apply_last (fun n h => (outsAt0 m c n h).2.2) 5 (fun _ => (0 : EReal))
    (fun t j => ∑ a : Fin 416, cotG (iblk m c 0 t) (iblk m c 2 t) (iblk m c 1 t) a (j 1)) (left5_A m c) (left5_B m c) (le_of_eq N_0) t0_4 rfl j]
  show (0 : EReal) + ∑ t : Fin cfg0.N, ∑ a : Fin 416, cotG (iblk m c 0 t) (iblk m c 2 t) (iblk m c 1 t) a (j 1) = ∑ r : Fin 2080, cotG (V m c main_v0) (V m c main_v1) (V m c main_arg2) r (j 1)
  rw [zero_add]
  refine Eq.trans ?_ (sum_rows fun r => cotG (V m c main_v0) (V m c main_v1) (V m c main_arg2) r (j 1))
  exact Finset.sum_congr rfl fun t _ => Finset.sum_congr rfl fun a _ => cotG_blk m c t a (j 1)

/-! ## What the call is given -/

/-- The values before the bias as the call takes them. -/
theorem V_v0 : V m c main_v0 = narrow (m ((c.tc : Thread nD τ).loc main_arg0)) := by
  after_reads_simp
  try rfl

/-- The bias as the call takes it. -/
theorem V_v1 : V m c main_v1 = row4096 (m ((c.tc : Thread nD τ).loc main_arg1)) := by
  after_reads_simp
  try rfl

/-- The incoming cotangent as the call takes it. -/
theorem V_arg2 : V m c main_arg2 = m ((c.tc : Thread nD τ).loc main_arg2) := by
  after_reads_simp
  try rfl

end Cert.Kernel8Ideal.Value

end
-- ==== Proof.GluGradRef.lean ====
module

public import proofs.«01_k».proof.Proof.Gen.Reference8Ideal.Run
public import proofs.«01_k».proof.Proof.GluGradRun
public import proofs.«01_k».proof.Proof.GateRef
public import Idealize.ShloMosaic.Lib.Claim
public import Idealize.ShloMosaic.Lib.Pointwise

@[expose] public section

set_option maxRecDepth 16384

noncomputable section

namespace Cert.Reference8Ideal.Value

open Cert.Reference8Ideal Cert.Reference8Ideal.Gen Idealize.ShloMosaic Idealize.ShloMosaic.TcCoe Idealize.SL.Sem
open Cert.Kernel2Ideal.Value (narrow narrow_at sigE)
open Cert.Reference2Ideal.Value (sig_same one_lit)
open Cert.Reference5Ideal.Value (sideR sideR_lo sideR_hi sumsR sumsR_at firstR firstR_at secondR secondR_at)
open Cert.Kernel5Ideal.Value (lo hi row4096 row4096_at row_ix)
open Cert.Kernel8Ideal.Value (gateB cotV cotG cotZ dzArr sumVArr sumGArr)
open scoped BigOperators

/-! ## The reference's operations as functions of their operands -/

/-- The biased values. -/
def biasedR (Z : Vec Ideal S2080x4096 .f32) (b1 : Vec Ideal S4096 .f32) : Vec Ideal S2080x4096 .f32 :=
  addf (F := Ideal) (φ := .f32) Z (broadcastInDim S2080x4096 ![0, 1] bcast_S1x4096_S2080x4096_0_1 (broadcastInDim S1x4096 ![1] bcast_S4096_S1x4096_1 b1))

/-- The gated half. -/
def valueR (Y : Vec Ideal S2080x4096 .f32) : Vec Ideal S2080x2048 .f32 := extractStridedSlice S2080x2048 ![0, 0] Y slices_S2080x4096_S2080x2048_0_0

/-- The gate: the logistic function of the second half. -/
def gateR (Y : Vec Ideal S2080x4096 .f32) : Vec Ideal S2080x2048 .f32 :=
  Host.divf (F := Ideal) (φ := .f32) (broadcastInDim S2080x2048 ![] bcast_S_S2080x2048 (constant (F := Ideal) S_ .f32 0x3F800000#32)) (addf (F := Ideal) (φ := .f32) (broadcastInDim S2080x2048 ![] bcast_S_S2080x2048 (constant (F := Ideal) S_ .f32 0x3F800000#32)) (Host.exp (F := Ideal) (φ := .f32) (Host.negf (F := Ideal) (φ := .f32) (extractStridedSlice S2080x2048 ![0, 2048] Y slices_S2080x4096_S2080x2048_0_2048))))

/-- The gated half's cotangent. -/
def cotVR (G D : Vec Ideal S2080x2048 .f32) : Vec Ideal S2080x2048 .f32 := mulf (F := Ideal) (φ := .f32) D G

/-- The gating half's cotangent. -/
def cotGR (A G D : Vec Ideal S2080x2048 .f32) : Vec Ideal S2080x2048 .f32 :=
  mulf (F := Ideal) (φ := .f32) (mulf (F := Ideal) (φ := .f32) A D) (mulf (F := Ideal) (φ := .f32) G (subf (F := Ideal) (φ := .f32) (broadcastInDim S2080x2048 ![] bcast_S_S2080x2048 (constant (F := Ideal) S_ .f32 0x3F800000#32)) G))

/-- Both halves' cotangent. -/
def cotZR (Z : Vec Ideal S2080x4096 .f32) (b1 : Vec Ideal S4096 .f32) (D : Vec Ideal S2080x2048 .f32) : Vec Ideal S2080x4096 .f32 :=
  sideR (cotVR (gateR (biasedR Z b1)) D) (cotGR (valueR (biasedR Z b1)) (gateR (biasedR Z b1)) D)

/-! ## Their values at an index, and the kernel's results -/

section Results

variable (Z : Vec Ideal S2080x4096 .f32) (b1 : Vec Ideal S4096 .f32) (D : Vec Ideal S2080x2048 .f32)

/-- The gated half at an index. -/
theorem valueR_at (r : Fin 2080) (n : Fin 2048) : valueR (biasedR Z b1) (ix2 r n) = narrow Z (ix2 r (lo n)) + row4096 b1 (ix2 0 (lo n)) := by
  have h : valueR (biasedR Z b1) (ix2 r n) = Z (ix2 r (lo n)) + b1 (ix1 (lo n)) := by
    pointwise [valueR, biasedR]
  exact h.trans (congrArg₂ (fun x y : EReal => x + y) rfl (row4096_at b1 (lo n)).symm)

/-- The gate at an index. -/
theorem gateR_at (r : Fin 2080) (n : Fin 2048) : gateR (biasedR Z b1) (ix2 r n) = gateB (narrow Z) (row4096 b1) r n := by
  have h : gateR (biasedR Z b1) (ix2 r n) = Ideal.div (Ideal.ofBits FTy.f32 1065353216#32) (Ideal.ofBits FTy.f32 1065353216#32 + Ideal.exp (-(Z (ix2 r (hi n)) + b1 (ix1 (hi n))))) := by
    pointwise [gateR, biasedR]
  exact h.trans ((sig_same _).trans (congrArg sigE (congrArg₂ (fun x y : EReal => x + y) rfl (row4096_at b1 (hi n)).symm)))

/-- The gated half's cotangent at an index. -/
theorem cotV_same (r : Fin 2080) (n : Fin 2048) : cotZR Z b1 D (ix2 r (lo n)) = cotV (narrow Z) (row4096 b1) D r n :=
  (sideR_lo _ _ r n).trans (congrArg (fun x : EReal => D (ix2 r n) * x) (gateR_at Z b1 r n))

/-- The gating half's cotangent at an index. -/
theorem cotG_same (r : Fin 2080) (n : Fin 2048) : cotZR Z b1 D (ix2 r (hi n)) = cotG (narrow Z) (row4096 b1) D r n := by
  have h : ∀ A G : Vec Ideal S2080x2048 .f32, cotGR A G D (ix2 r n) = (A (ix2 r n) * D (ix2 r n)) * (G (ix2 r n) * (Ideal.ofBits FTy.f32 1065353216#32 - G (ix2 r n))) := fun A G => by
    pointwise [cotGR]
  refine (sideR_hi _ _ r n).trans ((h _ _).trans ?_)
  rw [gateR_at, valueR_at, one_lit, mul_comm (G := EReal) _ (D (ix2 r n))]
  exact (mul_assoc (G := EReal) _ _ _).symm

/-- Both halves' cotangent. -/
theorem dz_res : narrow (cotZR Z b1 D) = dzArr (narrow Z) (row4096 b1) D := by
  funext i
  obtain ⟨r, j, rfl⟩ : ∃ (r : Fin 2080) (j : Fin 4096), i = ix2 r j := ⟨i 0, i 1, eq_ix2 i⟩
  refine (narrow_at _ _).trans ?_
  show _ = cotZ (narrow Z) (row4096 b1) D r j
  unfold cotZ
  by_cases h : j.val < 2048
  · rw [dif_pos h]
    exact cotV_same Z b1 D r ⟨j.val, h⟩
  · rw [dif_neg h]
    have e : j = hi ⟨j.val - 2048, by omega⟩ := Fin.ext (by show j.val = 2048 + (j.val - 2048); omega)
    exact (congrArg (fun j => cotZR Z b1 D (ix2 r j)) e).trans (cotG_same Z b1 D r _)

/-- The gated half's column sums. -/
theorem sumV_res : firstR (sumsR (cotZR Z b1 D)) = sumVArr (narrow Z) (row4096 b1) D := by
  funext j
  obtain ⟨n, rfl⟩ : ∃ n : Fin 2048, j = ix2 0 n := ⟨j 1, row_ix j⟩
  exact (firstR_at _ n).trans ((sumsR_at _ _).trans (Finset.sum_congr rfl fun r _ => cotV_same Z b1 D r n))

/-- The gating half's column sums. -/
theorem sumG_res : secondR (sumsR (cotZR Z b1 D)) = sumGArr (narrow Z) (row4096 b1) D := by
  funext j
  obtain ⟨n, rfl⟩ : ∃ n : Fin 2048, j = ix2 0 n := ⟨j 1, row_ix j⟩
  exact (secondR_at _ n).trans ((sumsR_at _ _).trans (Finset.sum_congr rfl fun r _ => cotG_same Z b1 D r n))

end Results

end Cert.Reference8Ideal.Value

end
-- ==== Proof.GluGradClaim.lean ====
module

public import proofs.«01_k».proof.Defs
public import proofs.«01_k».proof.Proof.GluGradRef
public import Idealize.ShloMosaic.Adequacy
public import Idealize.ShloMosaic.Init

@[expose] public section

set_option maxRecDepth 16384

noncomputable section

namespace Cert.Proof.GluGrad

open Idealize.ShloMosaic Idealize.SL.Sem

/-- The reference runs, leaves its arguments, and has no semaphores. -/
theorem reference_frame : Cert.quiescent_Reference8Ideal := fun m g _ =>
  (θ_run _ _ _).mono (fun r h => ⟨fun c => (h c).2.2.2, sem_eq_zero_of_no_sems (by decide) r.2⟩) (Cert.Reference8Ideal.Value.run (F := Ideal) m g)

/-- The two programs end with the same cotangent and the same two sums. -/
theorem algebraic : Cert.algebraic_Kernel8Ideal_Reference8Ideal := by
  intro m g m' g' _ hargs
  refine ⟨fun c => Cert.Kernel8Ideal.Value.dzArr (Cert.Kernel2Ideal.Value.narrow (m (c, Proc.tc.devRef Cert.Kernel8Ideal.main_arg0))) (Cert.Kernel5Ideal.Value.row4096 (m (c, Proc.tc.devRef Cert.Kernel8Ideal.main_arg1))) (m (c, Proc.tc.devRef Cert.Kernel8Ideal.main_arg2)),
    fun c => Cert.Kernel8Ideal.Value.sumVArr (Cert.Kernel2Ideal.Value.narrow (m (c, Proc.tc.devRef Cert.Kernel8Ideal.main_arg0))) (Cert.Kernel5Ideal.Value.row4096 (m (c, Proc.tc.devRef Cert.Kernel8Ideal.main_arg1))) (m (c, Proc.tc.devRef Cert.Kernel8Ideal.main_arg2)),
    fun c => Cert.Kernel8Ideal.Value.sumGArr (Cert.Kernel2Ideal.Value.narrow (m (c, Proc.tc.devRef Cert.Kernel8Ideal.main_arg0))) (Cert.Kernel5Ideal.Value.row4096 (m (c, Proc.tc.devRef Cert.Kernel8Ideal.main_arg1))) (m (c, Proc.tc.devRef Cert.Kernel8Ideal.main_arg2)), ?_, ?_⟩
  · refine (θ_run _ _ _).mono (fun r h c => ?_) (Cert.Kernel8Ideal.Value.run_blocks m g)
    obtain ⟨r0, r1, r2, rest⟩ := h c
    exact ⟨r0.trans ((Cert.Kernel8Ideal.Value.final3 m c).trans (by rw [Cert.Kernel8Ideal.Value.V_v0, Cert.Kernel8Ideal.Value.V_v1, Cert.Kernel8Ideal.Value.V_arg2])),
      r1.trans ((Cert.Kernel8Ideal.Value.final4 m c).trans (by rw [Cert.Kernel8Ideal.Value.V_v0, Cert.Kernel8Ideal.Value.V_v1, Cert.Kernel8Ideal.Value.V_arg2])),
      r2.trans ((Cert.Kernel8Ideal.Value.final5 m c).trans (by rw [Cert.Kernel8Ideal.Value.V_v0, Cert.Kernel8Ideal.Value.V_v1, Cert.Kernel8Ideal.Value.V_arg2])), rest⟩
  · refine (θ_run _ _ _).mono (fun r h c => ?_) (Cert.Reference8Ideal.Value.run m' g')
    obtain ⟨e0, e1, e2⟩ := hargs c
    obtain ⟨r0, r1, r2, rest⟩ := h c
    rw [e0, e1, e2] at r0
    rw [e0, e1, e2] at r1
    rw [e0, e1, e2] at r2
    exact ⟨r0.trans (Cert.Reference8Ideal.Value.dz_res _ _ _),
      r1.trans (Cert.Reference8Ideal.Value.sumV_res _ _ _),
      r2.trans (Cert.Reference8Ideal.Value.sumG_res _ _ _), rest⟩

end Cert.Proof.GluGrad

end
-- ==== Proof.NormMath.lean ====
module

public import proofs.«01_k».proof.Proof.ProjBlocks

@[expose] public section

noncomputable section

namespace Cert.NormBack

open Idealize.ShloMosaic
open Cert.Kernel4Ideal.Value (rootE)
open scoped BigOperators

/-! The gradient of the root mean square normalisation of one row, over the extended reals: the form that takes the mean
of the products with the normalised row, and the form that the derivative of `x * rsqrt (mean (x * x) + eps)` has. -/

/-- The length of a row, as the literal that both programs divide by. -/
def lenE : EReal := Ideal.ofBits FTy.f32 1157627904#32

/-- The literal added to the mean. -/
def epsE : EReal := Ideal.ofBits FTy.f32 897988541#32

/-- The literal minus one half. -/
def negHalfE : EReal := Ideal.ofBits FTy.f32 3204448256#32

/-- A row's mean square, the literal added. -/
def meanE (x : Fin 2048 → EReal) : EReal := Ideal.div (∑ k : Fin 2048, x k * x k) lenE + epsE

/-- The gradient in the normalised row's terms. -/
def gradN (x d : Fin 2048 → EReal) (j : Fin 2048) : EReal :=
  rootE x * (d j - (x j * rootE x) * Ideal.div (∑ k : Fin 2048, d k * (x k * rootE x)) lenE)

/-- The coefficient with which the mean square's derivative enters. -/
def coefE (x d : Fin 2048 → EReal) : EReal :=
  Ideal.div ((∑ k : Fin 2048, x k * d k) * (negHalfE * Ideal.div (rootE x) (meanE x))) lenE

/-- The gradient as the derivative of the formula. -/
def gradD (x d : Fin 2048 → EReal) (j : Fin 2048) : EReal :=
  (d j * rootE x + x j * coefE x d) + coefE x d * x j

/-- The gradient with the gain's factor in the incoming cotangent and the residual's gradient added. -/
def dhE (x y g : Fin 2048 → EReal) (e : EReal) (j : Fin 2048) : EReal := gradN x (fun k => y k * g k) j + e

/-- A row's part of the gain's gradient. -/
def dgE (x y : Fin 2048 → EReal) (j : Fin 2048) : EReal := y j * (x j * rootE x)

/-- The row's length is the real number 2048. -/
theorem lenE_eq : lenE = ((2048 : ℝ) : EReal) := by
  unfold lenE
  simp [Ideal.ofBits, Ideal.ieee, -EReal.coe_mul]
  norm_num

/-- The literal minus one half is that real number. -/
theorem negHalfE_eq : negHalfE = ((-(1 / 2) : ℝ) : EReal) := by
  unfold negHalfE
  simp [Ideal.ofBits, Ideal.ieee, -EReal.coe_mul, -EReal.coe_neg]
  norm_num

/-- The literal added to the mean is a positive real number. -/
theorem epsE_eq : ∃ e : ℝ, 0 < e ∧ epsE = (e : EReal) := by
  refine ⟨8796093 / 8796093022208, by norm_num, ?_⟩
  unfold epsE
  simp [Ideal.ofBits, Ideal.ieee, -EReal.coe_mul]
  norm_num

/-- A square is not negative. -/
theorem sq_nonneg' (a : EReal) : 0 ≤ a * a := by
  rcases le_total 0 a with h | h
  · exact mul_nonneg h h
  · rw [← neg_mul_neg]
    have : 0 ≤ -a := by rwa [EReal.le_neg, neg_zero]
    exact mul_nonneg this this

/-- A row's mean square with the literal added is a positive real number or infinite. -/
theorem meanE_cases (x : Fin 2048 → EReal) : meanE x = ⊤ ∨ ∃ v : ℝ, 0 < v ∧ meanE x = (v : EReal) := by
  have hs : 0 ≤ ∑ k : Fin 2048, x k * x k := Finset.sum_nonneg fun k _ => sq_nonneg' (x k)
  obtain ⟨e, he, hE⟩ := epsE_eq
  unfold meanE
  rw [lenE_eq, Ideal.div_coe (by norm_num), hE]
  generalize (∑ k : Fin 2048, x k * x k) = s at hs
  induction s with
  | bot => exact absurd hs (by simp)
  | top => exact .inl (by rw [EReal.top_mul_coe_of_pos (by norm_num), EReal.top_add_coe])
  | coe s =>
    have hs' : 0 ≤ s := EReal.coe_nonneg.1 hs
    exact .inr ⟨s * (1 / 2048) + e, by positivity, by rw [EReal.coe_add, EReal.coe_mul]⟩

/-- A real factor that is not negative goes through a sum. -/
theorem sum_mul_real {n : Nat} (f : Fin n → EReal) (r : ℝ) (h : 0 ≤ r) : ∑ k : Fin n, f k * (r : EReal) = (∑ k : Fin n, f k) * (r : EReal) := by
  induction n with
  | zero => simp
  | succ n ih =>
    rw [Fin.sum_univ_castSucc, Fin.sum_univ_castSucc, ih fun k => f k.castSucc,
      EReal.right_distrib_of_nonneg_of_ne_top (EReal.coe_nonneg.2 h) (EReal.coe_ne_top r)]

/-- A number added to itself is twice the number. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul, mul_two]

/-- The two forms agree. -/
theorem grad_same (x d : Fin 2048 → EReal) (j : Fin 2048) : gradN x d j = gradD x d j := by
  have hroot : rootE x = Ideal.rsqrt (meanE x) := rfl
  unfold gradN gradD coefE
  rcases meanE_cases x with hv | ⟨v, hv, hvE⟩
  · have hr : rootE x = 0 := by rw [hroot, hv, Ideal.rsqrt_top]
    rw [hr, hv]
    have h0 : Ideal.div 0 (⊤ : EReal) = 0 := by unfold Ideal.div; simp
    have h1 : Ideal.div 0 lenE = 0 := by rw [lenE_eq, Ideal.div_coe (by norm_num), zero_mul]
    rw [h0, mul_zero negHalfE, mul_zero (∑ k : Fin 2048, x k * d k), h1]
    simp only [mul_zero, zero_mul, add_zero]
  · obtain ⟨ρ, hρ, hr, hsq⟩ : ∃ ρ : ℝ, 0 < ρ ∧ rootE x = (ρ : EReal) ∧ ρ * ρ * v = 1 := by
      refine ⟨(Real.sqrt v)⁻¹, inv_pos.2 (Real.sqrt_pos.2 hv), ?_, ?_⟩
      · rw [hroot, hvE, Ideal.rsqrt_coe, if_neg (not_lt.2 hv.le), if_neg hv.ne']
      · have h := Real.mul_self_sqrt hv.le
        have hs := (Real.sqrt_pos.2 hv).ne'
        field_simp
        nlinarith
    have hsum : ∑ k : Fin 2048, d k * (x k * (ρ : EReal)) = (∑ k : Fin 2048, x k * d k) * (ρ : EReal) := by
      rw [← sum_mul_real _ ρ hρ.le]
      exact Finset.sum_congr rfl fun k _ => by rw [← mul_assoc, mul_comm (d k) (x k)]
    rw [hr, hsum, hvE, lenE_eq, negHalfE_eq, Ideal.div_coe (by norm_num), Ideal.div_coe (by norm_num), Ideal.div_coe hv.ne',
      EReal.mul_sub_of_nonneg_of_ne_top (EReal.coe_nonneg.2 hρ.le) (EReal.coe_ne_top ρ), ← EReal.coe_mul, ← EReal.coe_mul]
    generalize (∑ k : Fin 2048, x k * d k) = s
    rw [sub_eq_add_neg, add_assoc, mul_comm _ (x j), twice, mul_comm (ρ : EReal) (d j)]
    congr 1
    have e1 : (ρ : EReal) * (x j * (ρ : EReal) * (s * (ρ : EReal) * ((1 / 2048 : ℝ) : EReal))) = (x j * s) * ((ρ * ρ * ρ * (1 / 2048) : ℝ) : EReal) := by
      rw [EReal.coe_mul, EReal.coe_mul, EReal.coe_mul]
      ac_rfl
    have e2 : x j * (s * ((-(1 / 2) * (ρ * (1 / v)) : ℝ) : EReal) * ((1 / 2048 : ℝ) : EReal)) * ((2 : ℝ) : EReal)
        = (x j * s) * ((-(1 / 2) * (ρ * (1 / v)) * (1 / 2048) * 2 : ℝ) : EReal) := by
      rw [EReal.coe_mul (_ * _) 2, EReal.coe_mul (_ * _) (1 / 2048)]
      ac_rfl
    rw [e1, e2, ← mul_neg, ← EReal.coe_neg]
    congr 2
    have : 1 / v = ρ * ρ := by field_simp; linarith
    rw [this]
    ring

end Cert.NormBack

end
-- ==== Proof.NormMixRun.lean ====
module

public import proofs.«01_k».proof.Proof.Gen.Kernel9Ideal.Value
public import proofs.«01_k».proof.Proof.GateRun
public import proofs.«01_k».proof.Proof.NormMath
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Value

open Cert.Kernel9Ideal Cert.Kernel9Ideal.Gen Idealize.ShloMosaic Idealize.ShloMosaic.TcCoe Idealize.SL.Sem Idealize.ShloMosaic.StableHlo
open Cert.Kernel2Ideal.Value (narrow narrow_at)
open Cert.Kernel4Ideal.Value (rootE)
open Cert.Kernel5Ideal.Value (row_ix colSum colSum_at addSum_at row2048 row2048_at)
open Cert.NormBack (dhE dgE gradN lenE)
open scoped BigOperators

/-! ## What the call computes of a number of rows -/

section Rows

variable {n : Nat}

/-- The gradient at a row, the residual's added. -/
def dhAt (Y : Vec Ideal ⟨2, ![n, 2048]⟩ .f32) (X : Vec Ideal ⟨2, ![n, 2048]⟩ .f32) (E : Vec Ideal ⟨2, ![n, 2048]⟩ .f32) (G : Vec Ideal S1x2048 .f32) (a : Fin n) (b : Fin 2048) : EReal :=
  dhE (fun k => X (ix2 a k)) (fun k => Y (ix2 a k)) (fun k => G (ix2 0 k)) (E (ix2 a b)) b

/-- A row's part of the gain's gradient. -/
def dgAt (Y : Vec Ideal ⟨2, ![n, 2048]⟩ .f32) (X : Vec Ideal ⟨2, ![n, 2048]⟩ .f32) (a : Fin n) (b : Fin 2048) : EReal :=
  dgE (fun k => X (ix2 a k)) (fun k => Y (ix2 a k)) b

end Rows

/-! ## The call's stored values at an entry -/

section Entries

variable (Y : Vec Ideal S416x2048 .f32) (X E : Vec Ideal S416x2048 .f32) (G : Vec Ideal S1x2048 .f32)

/-- A row's reciprocal root mean square. -/
theorem root_at (a : Fin 416) : (k0_pay2 X : Vec Ideal S416x1 .f32) (ix2 a 0) = rootE fun k => X (ix2 a k) := by
  unfold rootE
  pointwise [k0_pay2]

/-- The gradient with the residual's added. -/
theorem grad_at (a : Fin 416) (b : Fin 2048) : (k0_pay6 Y X E G : Vec Ideal S416x2048 .f32) (ix2 a b) = dhAt Y X E G a b := by
  have h : (k0_pay6 Y X E G : Vec Ideal S416x2048 .f32) (ix2 a b)
      = (k0_pay2 X : Vec Ideal S416x1 .f32) (ix2 a 0) * (Y (ix2 a b) * G (ix2 0 b) - (X (ix2 a b) * (k0_pay2 X : Vec Ideal S416x1 .f32) (ix2 a 0))
        * Ideal.div (∑ k : Fin 2048, (Y (ix2 a k) * G (ix2 0 k)) * (X (ix2 a k) * (k0_pay2 X : Vec Ideal S416x1 .f32) (ix2 a 0))) (Ideal.ofBits FTy.f32 1157627904#32)) + E (ix2 a b) := by
    pointwise [k0_pay6, k0_pay3]
  rw [root_at] at h
  exact h

/-- A row's part of the gain's gradient. -/
theorem part_at (a : Fin 416) (b : Fin 2048) :
    (mulf (F := Ideal) (φ := .f32) Y (k0_pay3 X) : Vec Ideal S416x2048 .f32) (ix2 a b) = dgAt Y X a b := by
  have h : (mulf (F := Ideal) (φ := .f32) Y (k0_pay3 X) : Vec Ideal S416x2048 .f32) (ix2 a b)
      = Y (ix2 a b) * (X (ix2 a b) * (k0_pay2 X : Vec Ideal S416x1 .f32) (ix2 a 0)) := by
    pointwise [k0_pay3]
  rw [root_at] at h
  exact h

end Entries

variable (m : (ℓ : Loc nD τ sig) → Buf (Elt Ideal) ℓ) (c : Dev nD)

/-! ## What a grid point leaves -/

/-- A grid point leaves its rows of the gradient. -/
theorem left4 (t : Fin cfg0.N) (a : Fin 416) (b : Fin 2048) :
    (outsAt0 m c t.val t.isLt).1 (ix2 a b) = dhAt (iblk m c 0 t) (iblk m c 1 t) (iblk m c 2 t) (iblk m c 3 t) a b := by
  have ht : t.val < 5 := lt_of_lt_of_eq t.isLt N_0
  by_cases h0 : t.val % 5 = 0
  · have h1 : ¬1 ≤ t.val := by omega
    rw [outsAt0_A m c t h0 h1]
    frame_out
    exact grad_at _ _ _ _ _ _
  · have h1 : 1 ≤ t.val := by omega
    rw [outsAt0_B m c t h0 h1]
    frame_out
    exact grad_at _ _ _ _ _ _

/-- A grid point leaves its rows of the gradient as it is stored for the products. -/
theorem left5 (t : Fin cfg0.N) (a : Fin 416) (b : Fin 2048) :
    (outsAt0 m c t.val t.isLt).2.1 (ix2 a b) = dhAt (iblk m c 0 t) (iblk m c 1 t) (iblk m c 2 t) (iblk m c 3 t) a b := by
  have ht : t.val < 5 := lt_of_lt_of_eq t.isLt N_0
  by_cases h0 : t.val % 5 = 0
  · have h1 : ¬1 ≤ t.val := by omega
    rw [outsAt0_A m c t h0 h1]
    frame_out
    exact grad_at _ _ _ _ _ _
  · have h1 : 1 ≤ t.val := by omega
    rw [outsAt0_B m c t h0 h1]
    frame_out
    exact grad_at _ _ _ _ _ _

/-- The first grid point starts the sum of the gain's gradient. -/
theorem left6_A (t : Fin cfg0.N) (h0 : t.val % 5 = 0) (j : S1x2048.Idx) :
    (outsAt0 m c t.val t.isLt).2.2 j = (0 : EReal) + ∑ a : Fin 416, dgAt (iblk m c 0 t) (iblk m c 1 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1, zero_add]
  frame_out
  exact (colSum_at _ b).trans (Finset.sum_congr rfl fun a _ => part_at _ _ _ _)

/-- Every later grid point adds to the sum of the gain's gradient. -/
theorem left6_B (t : Fin cfg0.N) (h0 : ¬t.val % 5 = 0) (j : S1x2048.Idx) :
    (outsAt0 m c t.val t.isLt).2.2 j = (outsAt0 m c (t.val - 1) (Nat.lt_of_le_of_lt (Nat.sub_le _ _) t.isLt)).2.2 j
      + ∑ a : Fin 416, dgAt (iblk m c 0 t) (iblk m c 1 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1]
  frame_out
  exact (addSum_at _ (colSum _) b).trans (congrArg₂ (fun x y : EReal => x + y) rfl ((colSum_at _ b).trans (Finset.sum_congr rfl fun a _ => part_at _ _ _ _)))

/-! ## What the call leaves -/

/-- The gradient. -/
def dhArr (Y : Vec Ideal S2080x2048 .f32) (X E : Vec Ideal S2080x2048 .f32) (G : Vec Ideal S1x2048 .f32) : Vec Ideal S2080x2048 .f32 := fun i => dhAt Y X E G (i 0) (i 1)

/-- The gradient as it is stored for the products. -/
def dhbArr (Y : Vec Ideal S2080x2048 .f32) (X E : Vec Ideal S2080x2048 .f32) (G : Vec Ideal S1x2048 .f32) : Vec Ideal S2080x2048 .bf16 := fun i => dhAt Y X E G (i 0) (i 1)

/-- The gain's gradient. -/
def dgArr (Y : Vec Ideal S2080x2048 .f32) (X : Vec Ideal S2080x2048 .f32) : Vec Ideal S1x2048 .f32 := fun j => ∑ r : Fin 2080, dgAt Y X r (j 1)

/-! ## The blocks a grid point reads -/

/-- Where each window's block lies. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The number of grid points. -/
theorem lt (t : Fin cfg0.N) : t.val < 5 := Nat.lt_of_lt_of_eq t.isLt (N_0 : cfg0.N = 5)

/-- The rows a grid point works on. -/
abbrev row (t : Fin cfg0.N) (a : Fin 416) : Fin 2080 := ⟨t.val * 416 + a.val, by have := lt t; omega⟩

/-- The rows of the grid points are all rows. -/
theorem sum_rows (f : Fin 2080 → EReal) : ∑ t : Fin cfg0.N, ∑ a : Fin 416, f (row t a) = ∑ r : Fin 2080, f r :=
  (Fintype.sum_equiv (finCongr ((N_0 : cfg0.N = 5).trans (Cert.Kernel5Ideal.Gen.N_0 : Cert.Kernel5Ideal.cfg0.N = 5).symm)) _
    (fun t => ∑ a : Fin 416, f (Cert.Kernel5Ideal.Value.row t a)) fun t => rfl).trans (Cert.Kernel5Ideal.Value.sum_rows f)

/-- A block of the incoming cotangent. -/
theorem blk0 (t : Fin cfg0.N) (a : Fin 416) (b : Fin 2048) : iblk m c 0 t (ix2 a b) = V m c main_arg2 (ix2 (row t a) b) := by
  blk_point [iblk, idx t]

/-- A block of the rows. -/
theorem blk1 (t : Fin cfg0.N) (a : Fin 416) (b : Fin 2048) : iblk m c 1 t (ix2 a b) = V m c main_arg0 (ix2 (row t a) b) := by
  blk_point [iblk, idx t]

/-- A block of the residual's gradient. -/
theorem blk2 (t : Fin cfg0.N) (a : Fin 416) (b : Fin 2048) : iblk m c 2 t (ix2 a b) = V m c main_arg3 (ix2 (row t a) b) := by
  blk_point [iblk, idx t]

/-- The gain's block is the whole row. -/
theorem blk3 (t : Fin cfg0.N) (b : Fin 2048) : iblk m c 3 t (ix2 0 b) = V m c main_v0 (ix2 0 b) := by
  blk_point [iblk, idx t]

/-- The gradient at a grid point's row. -/
theorem dhAt_blk (t : Fin cfg0.N) (a : Fin 416) (b : Fin 2048) : dhAt (iblk m c 0 t) (iblk m c 1 t) (iblk m c 2 t) (iblk m c 3 t) a b = dhAt (V m c main_arg2) (V m c main_arg0) (V m c main_arg3) (V m c main_v0) (row t a) b := by
  unfold dhAt
  rw [funext fun k => blk1 m c t a k, funext fun k => blk0 m c t a k, funext fun k => blk3 m c t k, blk2 m c t a b]

/-- A row's part of the gain's gradient at a grid point's row. -/
theorem dgAt_blk (t : Fin cfg0.N) (a : Fin 416) (b : Fin 2048) : dgAt (iblk m c 0 t) (iblk m c 1 t) a b = dgAt (V m c main_arg2) (V m c main_arg0) (row t a) b := by
  unfold dgAt
  rw [funext fun k => blk1 m c t a k, funext fun k => blk0 m c t a k]

/-- The gradient after the last grid point. -/
theorem final4 : (dats m 0 c).arrAt 4 cfg0.N = dhArr (V m c main_arg2) (V m c main_arg0) (V m c main_arg3) (V m c main_v0) := by
  refine (dats m 0 c).arrAt_eq_of_covers 4 _ (by decide +kernel) fun t _ y => ?_
  blk_simp
  rw [after0_4]
  idx_vars y
  have e : ((View.whole main_v1_0).slice (win0_4.rect t)).emb (ix2 y0 y1) = ix2 (row t y0) y1 := by
    blk_ext [idx t]
  rw [e]
  exact (left4 m c t y0 y1).trans (dhAt_blk m c t y0 y1)

/-- The gradient as it is stored for the products, after the last grid point. -/
theorem final5 : (dats m 0 c).arrAt 5 cfg0.N = dhbArr (V m c main_arg2) (V m c main_arg0) (V m c main_arg3) (V m c main_v0) := by
  refine (dats m 0 c).arrAt_eq_of_covers 5 _ (by decide +kernel) fun t _ y => ?_
  blk_simp
  rw [after0_5]
  idx_vars y
  have e : ((View.whole main_v1_1).slice (win0_5.rect t)).emb (ix2 y0 y1) = ix2 (row t y0) y1 := by
    blk_ext [idx t]
  rw [e]
  exact (left5 m c t y0 y1).trans (dhAt_blk m c t y0 y1)

/-- The column sums of the gain's gradient after the last grid point. -/
theorem final6 : (dats m 0 c).arrAt 6 cfg0.N = dgArr (V m c main_arg2) (V m c main_arg0) := by
  refine (dats m 0 c).arrAt_eq_of_after_last 6 t0_4 (by decide +kernel) _ fun j => ?_
  blk_simp
  rw [after0_6]
  rw [Pipeline.eq_sum_fin_of_reset_step_apply_last (fun n h => (outsAt0 m c n h).2.2) 5 (fun _ => (0 : EReal))
    (fun t j => ∑ a : Fin 416, dgAt (iblk m c 0 t) (iblk m c 1 t) a (j 1)) (left6_A m c) (left6_B m c) (le_of_eq N_0) t0_4 rfl j]
  show (0 : EReal) + ∑ t : Fin cfg0.N, ∑ a : Fin 416, dgAt (iblk m c 0 t) (iblk m c 1 t) a (j 1) = ∑ r : Fin 2080, dgAt (V m c main_arg2) (V m c main_arg0) r (j 1)
  rw [zero_add]
  refine Eq.trans ?_ (sum_rows fun r => dgAt (V m c main_arg2) (V m c main_arg0) r (j 1))
  exact Finset.sum_congr rfl fun t _ => Finset.sum_congr rfl fun a _ => dgAt_blk m c t a (j 1)

/-! ## What the call is given -/

/-- The incoming cotangent as the call takes it. -/
theorem V_arg2 : V m c main_arg2 = m ((c.tc : Thread nD τ).loc main_arg2) := by
  after_reads_simp
  try rfl

/-- The rows as the call takes it. -/
theorem V_arg0 : V m c main_arg0 = m ((c.tc : Thread nD τ).loc main_arg0) := by
  after_reads_simp
  try rfl

/-- The residual's gradient as the call takes it. -/
theorem V_arg3 : V m c main_arg3 = m ((c.tc : Thread nD τ).loc main_arg3) := by
  after_reads_simp
  try rfl

/-- The gain as the call takes it. -/
theorem V_v0 : V m c main_v0 = row2048 (m ((c.tc : Thread nD τ).loc main_arg1)) := by
  after_reads_simp
  try rfl

end Cert.Kernel9Ideal.Value

end
-- ==== Proof.NormMixRef.lean ====
module

public import proofs.«01_k».proof.Proof.Gen.Reference9Ideal.Run
public import proofs.«01_k».proof.Proof.NormMixRun
public import proofs.«01_k».proof.Proof.GateRef
public import Idealize.ShloMosaic.Lib.Claim
public import Idealize.ShloMosaic.Lib.Pointwise

@[expose] public section

set_option maxRecDepth 16384

noncomputable section

namespace Cert.Reference9Ideal.Value

open Cert.Reference9Ideal Cert.Reference9Ideal.Gen Idealize.ShloMosaic Idealize.ShloMosaic.TcCoe Idealize.SL.Sem
open Cert.Kernel2Ideal.Value (narrow narrow_at)
open Cert.Kernel4Ideal.Value (rootE)
open Cert.Kernel5Ideal.Value (row2048 row2048_at row_ix)
open Cert.Reference5Ideal.Value (sumsHalfR sumsHalfR_at rowR rowR_at)
open Cert.NormBack (dhE dgE gradN gradD coefE meanE lenE negHalfE grad_same)
open Cert.Kernel9Ideal.Value (dhAt dgAt dhArr dhbArr dgArr)
open scoped BigOperators

/-! ## The reference's operations as functions of their operands -/

/-- The rows' mean squares, the literal added. -/
def meanR (X : Vec Ideal S2080x2048 .f32) : Vec Ideal S2080x1 .f32 :=
  addf (F := Ideal) (φ := .f32) (Host.divf (F := Ideal) (φ := .f32) (broadcastInDim S2080x1 ![0] bcast_S2080_S2080x1_0 (Host.reduceAdd (F := Ideal) (φ := .f32) (mulf (F := Ideal) (φ := .f32) X X) (constant (F := Ideal) S_ .f32 0x00000000#32) reducesTo_S2080x2048_S2080_d1 h_S_)) (broadcastInDim S2080x1 ![] bcast_S_S2080x1 (constant (F := Ideal) S_ .f32 0x45000000#32))) (broadcastInDim S2080x1 ![] bcast_S_S2080x1 (constant (F := Ideal) S_ .f32 0x358637BD#32))

/-- The rows' reciprocal root mean squares. -/
def rootR (X : Vec Ideal S2080x2048 .f32) : Vec Ideal S2080x1 .f32 := Host.rsqrt (F := Ideal) (φ := .f32) (meanR X)

/-- The incoming cotangent times the gain. -/
def scaledR (Y : Vec Ideal S2080x2048 .f32) (g : Vec Ideal S2048 .f32) : Vec Ideal S2080x2048 .f32 :=
  mulf (F := Ideal) (φ := .f32) Y (broadcastInDim S2080x2048 ![0, 1] bcast_S1x2048_S2080x2048_0_1 (broadcastInDim S1x2048 ![1] bcast_S2048_S1x2048_1 g))

/-- The coefficients with which the mean squares' derivatives enter. -/
def coefR (X D : Vec Ideal S2080x2048 .f32) (R M : Vec Ideal S2080x1 .f32) : Vec Ideal S2080 .f32 :=
  Host.reduceAdd (F := Ideal) (φ := .f32) (Host.divf (F := Ideal) (φ := .f32) (mulf (F := Ideal) (φ := .f32) (shapeCast S2080x1 (Host.reduceAdd (F := Ideal) (φ := .f32) (mulf (F := Ideal) (φ := .f32) X D) (constant (F := Ideal) S_ .f32 0x00000000#32) reducesTo_S2080x2048_S2080_d1 h_S_) shapeCasts_S2080_S2080x1) (mulf (F := Ideal) (φ := .f32) (broadcastInDim S2080x1 ![] bcast_S_S2080x1 (constant (F := Ideal) S_ .f32 0xBF000000#32)) (Host.divf (F := Ideal) (φ := .f32) R M))) (broadcastInDim S2080x1 ![] bcast_S_S2080x1 (constant (F := Ideal) S_ .f32 0x45000000#32))) (constant (F := Ideal) S_ .f32 0x00000000#32) reducesTo_S2080x1_S2080_d1 h_S_

/-- A number for each row, at every entry of the row. -/
def spreadR (C : Vec Ideal S2080 .f32) : Vec Ideal S2080x2048 .f32 := broadcastInDim S2080x2048 ![0] bcast_S2080_S2080x2048_0 C

/-- The gradient from its parts, the residual's added. -/
def gradR (X E D : Vec Ideal S2080x2048 .f32) (R : Vec Ideal S2080x1 .f32) (C : Vec Ideal S2080 .f32) : Vec Ideal S2080x2048 .f32 :=
  addf (F := Ideal) (φ := .f32) (addf (F := Ideal) (φ := .f32) (addf (F := Ideal) (φ := .f32) (mulf (F := Ideal) (φ := .f32) D (broadcastInDim S2080x2048 ![0, 1] bcast_S2080x1_S2080x2048_0_1 R)) (mulf (F := Ideal) (φ := .f32) X (spreadR C))) (mulf (F := Ideal) (φ := .f32) (spreadR C) X)) E

/-- The gradient. -/
def dhR (X : Vec Ideal S2080x2048 .f32) (g : Vec Ideal S2048 .f32) (Y E : Vec Ideal S2080x2048 .f32) : Vec Ideal S2080x2048 .f32 :=
  gradR X E (scaledR Y g) (rootR X) (coefR X (scaledR Y g) (rootR X) (meanR X))

/-- The rows' parts of the gain's gradient. -/
def partR (X Y : Vec Ideal S2080x2048 .f32) (R : Vec Ideal S2080x1 .f32) : Vec Ideal S2080x2048 .f32 :=
  mulf (F := Ideal) (φ := .f32) (mulf (F := Ideal) (φ := .f32) X (broadcastInDim S2080x2048 ![0, 1] bcast_S2080x1_S2080x2048_0_1 R)) Y

/-! ## Their values at an index, and the kernel's results -/

/-- A row's mean square. -/
theorem meanR_at (X : Vec Ideal S2080x2048 .f32) (r : Fin 2080) : meanR X (ix2 r 0) = meanE fun k => X (ix2 r k) := by
  unfold meanE Cert.NormBack.lenE Cert.NormBack.epsE
  pointwise [meanR]

/-- A row's reciprocal root mean square. -/
theorem rootR_at (X : Vec Ideal S2080x2048 .f32) (r : Fin 2080) : rootR X (ix2 r 0) = rootE fun k => X (ix2 r k) :=
  congrArg Ideal.rsqrt (meanR_at X r)

/-- The scaled cotangent at an index. -/
theorem scaledR_at (Y : Vec Ideal S2080x2048 .f32) (g : Vec Ideal S2048 .f32) (r : Fin 2080) (n : Fin 2048) :
    scaledR Y g (ix2 r n) = Y (ix2 r n) * row2048 g (ix2 0 n) := by
  have h : scaledR Y g (ix2 r n) = Y (ix2 r n) * g (ix1 n) := by
    pointwise [scaledR]
  rw [h, row2048_at]

/-- A row's coefficient, from any parts. -/
theorem coefR_at (X D : Vec Ideal S2080x2048 .f32) (R M : Vec Ideal S2080x1 .f32) (r : Fin 2080) :
    coefR X D R M (ix1 r) = Ideal.div ((∑ k : Fin 2048, X (ix2 r k) * D (ix2 r k)) * (negHalfE * Ideal.div (R (ix2 r 0)) (M (ix2 r 0)))) lenE := by
  unfold Cert.NormBack.negHalfE Cert.NormBack.lenE
  pointwise [coefR]
  exact Fin.sum_univ_one _

/-- The gradient at an index, from any parts. -/
theorem gradR_at (X E D : Vec Ideal S2080x2048 .f32) (R : Vec Ideal S2080x1 .f32) (C : Vec Ideal S2080 .f32) (r : Fin 2080) (n : Fin 2048) :
    gradR X E D R C (ix2 r n) = ((D (ix2 r n) * R (ix2 r 0) + X (ix2 r n) * C (ix1 r)) + C (ix1 r) * X (ix2 r n)) + E (ix2 r n) := by
  pointwise [gradR, spreadR]

/-- A row's part of the gain's gradient, from any reciprocals. -/
theorem partR_at (X Y : Vec Ideal S2080x2048 .f32) (R : Vec Ideal S2080x1 .f32) (r : Fin 2080) (n : Fin 2048) :
    partR X Y R (ix2 r n) = (X (ix2 r n) * R (ix2 r 0)) * Y (ix2 r n) := by
  pointwise [partR]

section Results

variable (X : Vec Ideal S2080x2048 .f32) (g : Vec Ideal S2048 .f32) (Y E : Vec Ideal S2080x2048 .f32)

/-- The gradient at an index. -/
theorem dh_same (r : Fin 2080) (n : Fin 2048) : dhR X g Y E (ix2 r n) = dhAt Y X E (row2048 g) r n := by
  have hd : (fun k => scaledR Y g (ix2 r k)) = fun k => Y (ix2 r k) * row2048 g (ix2 0 k) := funext fun k => scaledR_at Y g r k
  have h : dhR X g Y E (ix2 r n) = gradD (fun k => X (ix2 r k)) (fun k => scaledR Y g (ix2 r k)) n + E (ix2 r n) := by
    unfold dhR gradD coefE
    rw [gradR_at, coefR_at, rootR_at, meanR_at]
  rw [h, ← grad_same, hd]
  rfl

/-- The gradient. -/
theorem dh_res : dhR X g Y E = dhArr Y X E (row2048 g) := by
  funext i
  obtain ⟨r, n, rfl⟩ : ∃ (r : Fin 2080) (n : Fin 2048), i = ix2 r n := ⟨i 0, i 1, eq_ix2 i⟩
  exact dh_same X g Y E r n

/-- The gradient as it is stored for the products. -/
theorem dhb_res : narrow (dhR X g Y E) = dhbArr Y X E (row2048 g) := by
  funext i
  obtain ⟨r, n, rfl⟩ : ∃ (r : Fin 2080) (n : Fin 2048), i = ix2 r n := ⟨i 0, i 1, eq_ix2 i⟩
  exact (narrow_at _ _).trans (dh_same X g Y E r n)

/-- The gain's gradient. -/
theorem dg_res : rowR (sumsHalfR (partR X Y (rootR X))) = dgArr Y X := by
  funext j
  obtain ⟨n, rfl⟩ : ∃ n : Fin 2048, j = ix2 0 n := ⟨j 1, row_ix j⟩
  refine (rowR_at _ n).trans ((sumsHalfR_at _ _).trans (Finset.sum_congr rfl fun r _ => ?_))
  rw [partR_at, rootR_at]
  exact mul_comm (G := EReal) _ _

end Results

end Cert.Reference9Ideal.Value

end
-- ==== Proof.NormMixClaim.lean ====
module

public import proofs.«01_k».proof.Defs
public import proofs.«01_k».proof.Proof.NormMixRef
public import Idealize.ShloMosaic.Adequacy
public import Idealize.ShloMosaic.Init

@[expose] public section

set_option maxRecDepth 16384

noncomputable section

namespace Cert.Proof.NormMix

open Idealize.ShloMosaic Idealize.SL.Sem

/-- The reference runs, leaves its arguments, and has no semaphores. -/
theorem reference_frame : Cert.quiescent_Reference9Ideal := fun m g _ =>
  (θ_run _ _ _).mono (fun r h => ⟨fun c => (h c).2.2.2, sem_eq_zero_of_no_sems (by decide) r.2⟩) (Cert.Reference9Ideal.Value.run (F := Ideal) m g)

/-- The two programs end with the same gradients. -/
theorem algebraic : Cert.algebraic_Kernel9Ideal_Reference9Ideal := by
  intro m g m' g' _ hargs
  refine ⟨fun c => Cert.Kernel9Ideal.Value.dhArr (m (c, Proc.tc.devRef Cert.Kernel9Ideal.main_arg2)) (m (c, Proc.tc.devRef Cert.Kernel9Ideal.main_arg0)) (m (c, Proc.tc.devRef Cert.Kernel9Ideal.main_arg3)) (Cert.Kernel5Ideal.Value.row2048 (m (c, Proc.tc.devRef Cert.Kernel9Ideal.main_arg1))),
    fun c => Cert.Kernel9Ideal.Value.dhbArr (m (c, Proc.tc.devRef Cert.Kernel9Ideal.main_arg2)) (m (c, Proc.tc.devRef Cert.Kernel9Ideal.main_arg0)) (m (c, Proc.tc.devRef Cert.Kernel9Ideal.main_arg3)) (Cert.Kernel5Ideal.Value.row2048 (m (c, Proc.tc.devRef Cert.Kernel9Ideal.main_arg1))),
    fun c => Cert.Kernel9Ideal.Value.dgArr (m (c, Proc.tc.devRef Cert.Kernel9Ideal.main_arg2)) (m (c, Proc.tc.devRef Cert.Kernel9Ideal.main_arg0)), ?_, ?_⟩
  · refine (θ_run _ _ _).mono (fun r h c => ?_) (Cert.Kernel9Ideal.Value.run_blocks m g)
    obtain ⟨r0, r1, r2, rest⟩ := h c
    exact ⟨r0.trans ((Cert.Kernel9Ideal.Value.final4 m c).trans (by rw [Cert.Kernel9Ideal.Value.V_arg2, Cert.Kernel9Ideal.Value.V_arg0, Cert.Kernel9Ideal.Value.V_arg3, Cert.Kernel9Ideal.Value.V_v0])),
      r1.trans ((Cert.Kernel9Ideal.Value.final5 m c).trans (by rw [Cert.Kernel9Ideal.Value.V_arg2, Cert.Kernel9Ideal.Value.V_arg0, Cert.Kernel9Ideal.Value.V_arg3, Cert.Kernel9Ideal.Value.V_v0])),
      r2.trans ((Cert.Kernel9Ideal.Value.final6 m c).trans (by rw [Cert.Kernel9Ideal.Value.V_arg2, Cert.Kernel9Ideal.Value.V_arg0])), rest⟩
  · refine (θ_run _ _ _).mono (fun r h c => ?_) (Cert.Reference9Ideal.Value.run m' g')
    obtain ⟨e0, e1, e2, e3⟩ := hargs c
    obtain ⟨r0, r1, r2, rest⟩ := h c
    rw [e0, e1, e2, e3] at r0
    rw [e0, e1, e2, e3] at r1
    rw [e0, e2] at r2
    exact ⟨r0.trans (Cert.Reference9Ideal.Value.dh_res _ _ _ _),
      r1.trans (Cert.Reference9Ideal.Value.dhb_res _ _ _ _),
      r2.trans (Cert.Reference9Ideal.Value.dg_res _ _), rest⟩

end Cert.Proof.NormMix

end
-- ==== Proof.NormFfnRun.lean ====
module

public import proofs.«01_k».proof.Proof.Gen.Kernel10Ideal.Value
public import proofs.«01_k».proof.Proof.GateRun
public import proofs.«01_k».proof.Proof.NormMath
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Value

open Cert.Kernel10Ideal Cert.Kernel10Ideal.Gen Idealize.ShloMosaic Idealize.ShloMosaic.TcCoe Idealize.SL.Sem Idealize.ShloMosaic.StableHlo
open Cert.Kernel2Ideal.Value (narrow narrow_at)
open Cert.Kernel4Ideal.Value (rootE)
open Cert.Kernel5Ideal.Value (row_ix colSum colSum_at addSum_at row2048 row2048_at)
open Cert.NormBack (dhE dgE gradN lenE)
open scoped BigOperators

/-! ## What the call computes of a number of rows -/

section Rows

variable {n : Nat}

/-- The gradient at a row, the residual's added. -/
def dhAt (Y : Vec Ideal ⟨2, ![n, 2048]⟩ .bf16) (X : Vec Ideal ⟨2, ![n, 2048]⟩ .f32) (E : Vec Ideal ⟨2, ![n, 2048]⟩ .f32) (G : Vec Ideal S1x2048 .f32) (a : Fin n) (b : Fin 2048) : EReal :=
  dhE (fun k => X (ix2 a k)) (fun k => Y (ix2 a k)) (fun k => G (ix2 0 k)) (E (ix2 a b)) b

/-- A row's part of the gain's gradient. -/
def dgAt (Y : Vec Ideal ⟨2, ![n, 2048]⟩ .bf16) (X : Vec Ideal ⟨2, ![n, 2048]⟩ .f32) (a : Fin n) (b : Fin 2048) : EReal :=
  dgE (fun k => X (ix2 a k)) (fun k => Y (ix2 a k)) b

end Rows

/-! ## The call's stored values at an entry -/

section Entries

variable (Y : Vec Ideal S416x2048 .bf16) (X E : Vec Ideal S416x2048 .f32) (G : Vec Ideal S1x2048 .f32)

/-- A row's reciprocal root mean square. -/
theorem root_at (a : Fin 416) : (k0_pay3 X : Vec Ideal S416x1 .f32) (ix2 a 0) = rootE fun k => X (ix2 a k) := by
  unfold rootE
  pointwise [k0_pay3]

/-- The gradient with the residual's added. -/
theorem grad_at (a : Fin 416) (b : Fin 2048) : (k0_pay7 Y X E G : Vec Ideal S416x2048 .f32) (ix2 a b) = dhAt Y X E G a b := by
  have h : (k0_pay7 Y X E G : Vec Ideal S416x2048 .f32) (ix2 a b)
      = (k0_pay3 X : Vec Ideal S416x1 .f32) (ix2 a 0) * (Y (ix2 a b) * G (ix2 0 b) - (X (ix2 a b) * (k0_pay3 X : Vec Ideal S416x1 .f32) (ix2 a 0))
        * Ideal.div (∑ k : Fin 2048, (Y (ix2 a k) * G (ix2 0 k)) * (X (ix2 a k) * (k0_pay3 X : Vec Ideal S416x1 .f32) (ix2 a 0))) (Ideal.ofBits FTy.f32 1157627904#32)) + E (ix2 a b) := by
    pointwise [k0_pay7, k0_pay4, k0_pay2]
  rw [root_at] at h
  exact h

/-- A row's part of the gain's gradient. -/
theorem part_at (a : Fin 416) (b : Fin 2048) :
    (mulf (F := Ideal) (φ := .f32) (k0_pay2 Y) (k0_pay4 X) : Vec Ideal S416x2048 .f32) (ix2 a b) = dgAt Y X a b := by
  have h : (mulf (F := Ideal) (φ := .f32) (k0_pay2 Y) (k0_pay4 X) : Vec Ideal S416x2048 .f32) (ix2 a b)
      = Y (ix2 a b) * (X (ix2 a b) * (k0_pay3 X : Vec Ideal S416x1 .f32) (ix2 a 0)) := by
    pointwise [k0_pay4, k0_pay2]
  rw [root_at] at h
  exact h

end Entries

variable (m : (ℓ : Loc nD τ sig) → Buf (Elt Ideal) ℓ) (c : Dev nD)

/-! ## What a grid point leaves -/

/-- A grid point leaves its rows of the gradient. -/
theorem left4 (t : Fin cfg0.N) (a : Fin 416) (b : Fin 2048) :
    (outsAt0 m c t.val t.isLt).1 (ix2 a b) = dhAt (iblk m c 0 t) (iblk m c 1 t) (iblk m c 2 t) (iblk m c 3 t) a b := by
  have ht : t.val < 5 := lt_of_lt_of_eq t.isLt N_0
  by_cases h0 : t.val % 5 = 0
  · have h1 : ¬1 ≤ t.val := by omega
    rw [outsAt0_A m c t h0 h1]
    frame_out
    exact grad_at _ _ _ _ _ _
  · have h1 : 1 ≤ t.val := by omega
    rw [outsAt0_B m c t h0 h1]
    frame_out
    exact grad_at _ _ _ _ _ _

/-- A grid point leaves its rows of the gradient as it is stored for the products. -/
theorem left5 (t : Fin cfg0.N) (a : Fin 416) (b : Fin 2048) :
    (outsAt0 m c t.val t.isLt).2.1 (ix2 a b) = dhAt (iblk m c 0 t) (iblk m c 1 t) (iblk m c 2 t) (iblk m c 3 t) a b := by
  have ht : t.val < 5 := lt_of_lt_of_eq t.isLt N_0
  by_cases h0 : t.val % 5 = 0
  · have h1 : ¬1 ≤ t.val := by omega
    rw [outsAt0_A m c t h0 h1]
    frame_out
    exact grad_at _ _ _ _ _ _
  · have h1 : 1 ≤ t.val := by omega
    rw [outsAt0_B m c t h0 h1]
    frame_out
    exact grad_at _ _ _ _ _ _

/-- The first grid point starts the sum of the gain's gradient. -/
theorem left6_A (t : Fin cfg0.N) (h0 : t.val % 5 = 0) (j : S1x2048.Idx) :
    (outsAt0 m c t.val t.isLt).2.2 j = (0 : EReal) + ∑ a : Fin 416, dgAt (iblk m c 0 t) (iblk m c 1 t) a (j 1) := by
  have ht : t.val < 5 := lt_of_lt_of_eq t.isLt N_0
  have h1 : ¬1 ≤ t.val := by omega
  obtain ⟨b, rfl⟩ : ∃ b : Fin 2048, j = ix2 0 b := ⟨j 1, row_ix j⟩
  rw [outsAt0_A m c t h0 h1, zero_add]
  frame_out
  exact (colSum_at _ b).trans (Finset.sum_congr rfl fun a _ => part_at _ _ _ _)

/-- Every later grid point adds to the sum of the gain's gradient. -/
theorem left6_B (t : Fin cfg0.N) (h0 : ¬t.val % 5 = 0) (j : S1x2048.Idx) :
    (outsAt0 m c t.val t.isLt).2.2 j = (outsAt0 m c (t.val - 1) (Nat.lt_of_le_of_lt (Nat.sub_le _ _) t.isLt)).2.2 j
      + ∑ a : Fin 416, dgAt (iblk m c 0 t) (iblk m c 1 t) a (j 1) := by
  have ht : t.val < 5 := lt_of_lt_of_eq t.isLt N_0
  have h1 : 1 ≤ t.val := by omega
  obtain ⟨b, rfl⟩ : ∃ b : Fin 2048, j = ix2 0 b := ⟨j 1, row_ix j⟩
  rw [outsAt0_B m c t h0 h1]
  frame_out
  exact (addSum_at _ (colSum _) b).trans (congrArg₂ (fun x y : EReal => x + y) rfl ((colSum_at _ b).trans (Finset.sum_congr rfl fun a _ => part_at _ _ _ _)))

/-! ## What the call leaves -/

/-- The gradient. -/
def dhArr (Y : Vec Ideal S2080x2048 .bf16) (X E : Vec Ideal S2080x2048 .f32) (G : Vec Ideal S1x2048 .f32) : Vec Ideal S2080x2048 .f32 := fun i => dhAt Y X E G (i 0) (i 1)

/-- The gradient as it is stored for the products. -/
def dhbArr (Y : Vec Ideal S2080x2048 .bf16) (X E : Vec Ideal S2080x2048 .f32) (G : Vec Ideal S1x2048 .f32) : Vec Ideal S2080x2048 .bf16 := fun i => dhAt Y X E G (i 0) (i 1)

/-- The gain's gradient. -/
def dgArr (Y : Vec Ideal S2080x2048 .bf16) (X : Vec Ideal S2080x2048 .f32) : Vec Ideal S1x2048 .f32 := fun j => ∑ r : Fin 2080, dgAt Y X r (j 1)

/-! ## The blocks a grid point reads -/

/-- Where each window's block lies. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The number of grid points. -/
theorem lt (t : Fin cfg0.N) : t.val < 5 := Nat.lt_of_lt_of_eq t.isLt (N_0 : cfg0.N = 5)

/-- The rows a grid point works on. -/
abbrev row (t : Fin cfg0.N) (a : Fin 416) : Fin 2080 := ⟨t.val * 416 + a.val, by have := lt t; omega⟩

/-- The rows of the grid points are all rows. -/
theorem sum_rows (f : Fin 2080 → EReal) : ∑ t : Fin cfg0.N, ∑ a : Fin 416, f (row t a) = ∑ r : Fin 2080, f r :=
  (Fintype.sum_equiv (finCongr ((N_0 : cfg0.N = 5).trans (Cert.Kernel5Ideal.Gen.N_0 : Cert.Kernel5Ideal.cfg0.N = 5).symm)) _
    (fun t => ∑ a : Fin 416, f (Cert.Kernel5Ideal.Value.row t a)) fun t => rfl).trans (Cert.Kernel5Ideal.Value.sum_rows f)

/-- A block of the incoming cotangent. -/
theorem blk0 (t : Fin cfg0.N) (a : Fin 416) (b : Fin 2048) : iblk m c 0 t (ix2 a b) = V m c main_v0 (ix2 (row t a) b) := by
  blk_point [iblk, idx t]

/-- A block of the rows. -/
theorem blk1 (t : Fin cfg0.N) (a : Fin 416) (b : Fin 2048) : iblk m c 1 t (ix2 a b) = V m c main_arg0 (ix2 (row t a) b) := by
  blk_point [iblk, idx t]

/-- A block of the residual's gradient. -/
theorem blk2 (t : Fin cfg0.N) (a : Fin 416) (b : Fin 2048) : iblk m c 2 t (ix2 a b) = V m c main_arg3 (ix2 (row t a) b) := by
  blk_point [iblk, idx t]

/-- The gain's block is the whole row. -/
theorem blk3 (t : Fin cfg0.N) (b : Fin 2048) : iblk m c 3 t (ix2 0 b) = V m c main_v1 (ix2 0 b) := by
  blk_point [iblk, idx t]

/-- The gradient at a grid point's row. -/
theorem dhAt_blk (t : Fin cfg0.N) (a : Fin 416) (b : Fin 2048) : dhAt (iblk m c 0 t) (iblk m c 1 t) (iblk m c 2 t) (iblk m c 3 t) a b = dhAt (V m c main_v0) (V m c main_arg0) (V m c main_arg3) (V m c main_v1) (row t a) b := by
  unfold dhAt
  rw [funext fun k => blk1 m c t a k, funext fun k => blk0 m c t a k, funext fun k => blk3 m c t k, blk2 m c t a b]

/-- A row's part of the gain's gradient at a grid point's row. -/
theorem dgAt_blk (t : Fin cfg0.N) (a : Fin 416) (b : Fin 2048) : dgAt (iblk m c 0 t) (iblk m c 1 t) a b = dgAt (V m c main_v0) (V m c main_arg0) (row t a) b := by
  unfold dgAt
  rw [funext fun k => blk1 m c t a k, funext fun k => blk0 m c t a k]

/-- The gradient after the last grid point. -/
theorem final4 : (dats m 0 c).arrAt 4 cfg0.N = dhArr (V m c main_v0) (V m c main_arg0) (V m c main_arg3) (V m c main_v1) := by
  refine (dats m 0 c).arrAt_eq_of_covers 4 _ (by decide +kernel) fun t _ y => ?_
  blk_simp
  rw [after0_4]
  idx_vars y
  have e : ((View.whole main_v2_0).slice (win0_4.rect t)).emb (ix2 y0 y1) = ix2 (row t y0) y1 := by
    blk_ext [idx t]
  rw [e]
  exact (left4 m c t y0 y1).trans (dhAt_blk m c t y0 y1)

/-- The gradient as it is stored for the products, after the last grid point. -/
theorem final5 : (dats m 0 c).arrAt 5 cfg0.N = dhbArr (V m c main_v0) (V m c main_arg0) (V m c main_arg3) (V m c main_v1) := by
  refine (dats m 0 c).arrAt_eq_of_covers 5 _ (by decide +kernel) fun t _ y => ?_
  blk_simp
  rw [after0_5]
  idx_vars y
  have e : ((View.whole main_v2_1).slice (win0_5.rect t)).emb (ix2 y0 y1) = ix2 (row t y0) y1 := by
    blk_ext [idx t]
  rw [e]
  exact (left5 m c t y0 y1).trans (dhAt_blk m c t y0 y1)

/-- The column sums of the gain's gradient after the last grid point. -/
theorem final6 : (dats m 0 c).arrAt 6 cfg0.N = dgArr (V m c main_v0) (V m c main_arg0) := by
  refine (dats m 0 c).arrAt_eq_of_after_last 6 t0_4 (by decide +kernel) _ fun j => ?_
  blk_simp
  rw [after0_6]
  rw [Pipeline.eq_sum_fin_of_reset_step_apply_last (fun n h => (outsAt0 m c n h).2.2) 5 (fun _ => (0 : EReal))
    (fun t j => ∑ a : Fin 416, dgAt (iblk m c 0 t) (iblk m c 1 t) a (j 1)) (left6_A m c) (left6_B m c) (le_of_eq N_0) t0_4 rfl j]
  show (0 : EReal) + ∑ t : Fin cfg0.N, ∑ a : Fin 416, dgAt (iblk m c 0 t) (iblk m c 1 t) a (j 1) = ∑ r : Fin 2080, dgAt (V m c main_v0) (V m c main_arg0) r (j 1)
  rw [zero_add]
  refine Eq.trans ?_ (sum_rows fun r => dgAt (V m c main_v0) (V m c main_arg0) r (j 1))
  exact Finset.sum_congr rfl fun t _ => Finset.sum_congr rfl fun a _ => dgAt_blk m c t a (j 1)

/-! ## What the call is given -/

/-- The incoming cotangent as the call takes it. -/
theorem V_v0 : V m c main_v0 = narrow (m ((c.tc : Thread nD τ).loc main_arg2)) := by
  after_reads_simp
  try rfl

/-- The rows as the call takes it. -/
theorem V_arg0 : V m c main_arg0 = m ((c.tc : Thread nD τ).loc main_arg0) := by
  after_reads_simp
  try rfl

/-- The residual's gradient as the call takes it. -/
theorem V_arg3 : V m c main_arg3 = m ((c.tc : Thread nD τ).loc main_arg3) := by
  after_reads_simp
  try rfl

/-- The gain as the call takes it. -/
theorem V_v1 : V m c main_v1 = row2048 (m ((c.tc : Thread nD τ).loc main_arg1)) := by
  after_reads_simp
  try rfl

end Cert.Kernel10Ideal.Value

end
-- ==== Proof.NormFfnRef.lean ====
module

public import proofs.«01_k».proof.Proof.Gen.Reference10Ideal.Run
public import proofs.«01_k».proof.Proof.NormFfnRun
public import proofs.«01_k».proof.Proof.GateRef
public import Idealize.ShloMosaic.Lib.Claim
public import Idealize.ShloMosaic.Lib.Pointwise

@[expose] public section

set_option maxRecDepth 16384

noncomputable section

namespace Cert.Reference10Ideal.Value

open Cert.Reference10Ideal Cert.Reference10Ideal.Gen Idealize.ShloMosaic Idealize.ShloMosaic.TcCoe Idealize.SL.Sem
open Cert.Kernel2Ideal.Value (narrow narrow_at)
open Cert.Kernel4Ideal.Value (rootE)
open Cert.Kernel5Ideal.Value (row2048 row2048_at row_ix)
open Cert.Reference5Ideal.Value (sumsHalfR sumsHalfR_at rowR rowR_at)
open Cert.NormBack (dhE dgE gradN gradD coefE meanE lenE negHalfE grad_same)
open Cert.Kernel10Ideal.Value (dhAt dgAt dhArr dhbArr dgArr)
open scoped BigOperators

/-! ## The reference's operations as functions of their operands -/

/-- The rows' mean squares, the literal added. -/
def meanR (X : Vec Ideal S2080x2048 .f32) : Vec Ideal S2080x1 .f32 :=
  addf (F := Ideal) (φ := .f32) (Host.divf (F := Ideal) (φ := .f32) (broadcastInDim S2080x1 ![0] bcast_S2080_S2080x1_0 (Host.reduceAdd (F := Ideal) (φ := .f32) (mulf (F := Ideal) (φ := .f32) X X) (constant (F := Ideal) S_ .f32 0x00000000#32) reducesTo_S2080x2048_S2080_d1 h_S_)) (broadcastInDim S2080x1 ![] bcast_S_S2080x1 (constant (F := Ideal) S_ .f32 0x45000000#32))) (broadcastInDim S2080x1 ![] bcast_S_S2080x1 (constant (F := Ideal) S_ .f32 0x358637BD#32))

/-- The rows' reciprocal root mean squares. -/
def rootR (X : Vec Ideal S2080x2048 .f32) : Vec Ideal S2080x1 .f32 := Host.rsqrt (F := Ideal) (φ := .f32) (meanR X)

/-- The incoming cotangent times the gain. -/
def scaledR (Y : Vec Ideal S2080x2048 .f32) (g : Vec Ideal S2048 .f32) : Vec Ideal S2080x2048 .f32 :=
  mulf (F := Ideal) (φ := .f32) Y (broadcastInDim S2080x2048 ![0, 1] bcast_S1x2048_S2080x2048_0_1 (broadcastInDim S1x2048 ![1] bcast_S2048_S1x2048_1 g))

/-- The coefficients with which the mean squares' derivatives enter. -/
def coefR (X D : Vec Ideal S2080x2048 .f32) (R M : Vec Ideal S2080x1 .f32) : Vec Ideal S2080 .f32 :=
  Host.reduceAdd (F := Ideal) (φ := .f32) (Host.divf (F := Ideal) (φ := .f32) (mulf (F := Ideal) (φ := .f32) (shapeCast S2080x1 (Host.reduceAdd (F := Ideal) (φ := .f32) (mulf (F := Ideal) (φ := .f32) X D) (constant (F := Ideal) S_ .f32 0x00000000#32) reducesTo_S2080x2048_S2080_d1 h_S_) shapeCasts_S2080_S2080x1) (mulf (F := Ideal) (φ := .f32) (broadcastInDim S2080x1 ![] bcast_S_S2080x1 (constant (F := Ideal) S_ .f32 0xBF000000#32)) (Host.divf (F := Ideal) (φ := .f32) R M))) (broadcastInDim S2080x1 ![] bcast_S_S2080x1 (constant (F := Ideal) S_ .f32 0x45000000#32))) (constant (F := Ideal) S_ .f32 0x00000000#32) reducesTo_S2080x1_S2080_d1 h_S_

/-- A number for each row, at every entry of the row. -/
def spreadR (C : Vec Ideal S2080 .f32) : Vec Ideal S2080x2048 .f32 := broadcastInDim S2080x2048 ![0] bcast_S2080_S2080x2048_0 C

/-- The gradient from its parts, the residual's added. -/
def gradR (X E D : Vec Ideal S2080x2048 .f32) (R : Vec Ideal S2080x1 .f32) (C : Vec Ideal S2080 .f32) : Vec Ideal S2080x2048 .f32 :=
  addf (F := Ideal) (φ := .f32) (addf (F := Ideal) (φ := .f32) (addf (F := Ideal) (φ := .f32) (mulf (F := Ideal) (φ := .f32) D (broadcastInDim S2080x2048 ![0, 1] bcast_S2080x1_S2080x2048_0_1 R)) (mulf (F := Ideal) (φ := .f32) X (spreadR C))) (mulf (F := Ideal) (φ := .f32) (spreadR C) X)) E

/-- The gradient. -/
def dhR (X : Vec Ideal S2080x2048 .f32) (g : Vec Ideal S2048 .f32) (Y E : Vec Ideal S2080x2048 .f32) : Vec Ideal S2080x2048 .f32 :=
  gradR X E (scaledR Y g) (rootR X) (coefR X (scaledR Y g) (rootR X) (meanR X))

/-- The rows' parts of the gain's gradient. -/
def partR (X Y : Vec Ideal S2080x2048 .f32) (R : Vec Ideal S2080x1 .f32) : Vec Ideal S2080x2048 .f32 :=
  mulf (F := Ideal) (φ := .f32) (mulf (F := Ideal) (φ := .f32) X (broadcastInDim S2080x2048 ![0, 1] bcast_S2080x1_S2080x2048_0_1 R)) Y

/-! ## Their values at an index, and the kernel's results -/

/-- A row's mean square. -/
theorem meanR_at (X : Vec Ideal S2080x2048 .f32) (r : Fin 2080) : meanR X (ix2 r 0) = meanE fun k => X (ix2 r k) := by
  unfold meanE Cert.NormBack.lenE Cert.NormBack.epsE
  pointwise [meanR]

/-- A row's reciprocal root mean square. -/
theorem rootR_at (X : Vec Ideal S2080x2048 .f32) (r : Fin 2080) : rootR X (ix2 r 0) = rootE fun k => X (ix2 r k) :=
  congrArg Ideal.rsqrt (meanR_at X r)

/-- The scaled cotangent at an index. -/
theorem scaledR_at (Y : Vec Ideal S2080x2048 .f32) (g : Vec Ideal S2048 .f32) (r : Fin 2080) (n : Fin 2048) :
    scaledR Y g (ix2 r n) = Y (ix2 r n) * row2048 g (ix2 0 n) := by
  have h : scaledR Y g (ix2 r n) = Y (ix2 r n) * g (ix1 n) := by
    pointwise [scaledR]
  rw [h, row2048_at]

/-- A row's coefficient, from any parts. -/
theorem coefR_at (X D : Vec Ideal S2080x2048 .f32) (R M : Vec Ideal S2080x1 .f32) (r : Fin 2080) :
    coefR X D R M (ix1 r) = Ideal.div ((∑ k : Fin 2048, X (ix2 r k) * D (ix2 r k)) * (negHalfE * Ideal.div (R (ix2 r 0)) (M (ix2 r 0)))) lenE := by
  unfold Cert.NormBack.negHalfE Cert.NormBack.lenE
  pointwise [coefR]
  exact Fin.sum_univ_one _

/-- The gradient at an index, from any parts. -/
theorem gradR_at (X E D : Vec Ideal S2080x2048 .f32) (R : Vec Ideal S2080x1 .f32) (C : Vec Ideal S2080 .f32) (r : Fin 2080) (n : Fin 2048) :
    gradR X E D R C (ix2 r n) = ((D (ix2 r n) * R (ix2 r 0) + X (ix2 r n) * C (ix1 r)) + C (ix1 r) * X (ix2 r n)) + E (ix2 r n) := by
  pointwise [gradR, spreadR]

/-- A row's part of the gain's gradient, from any reciprocals. -/
theorem partR_at (X Y : Vec Ideal S2080x2048 .f32) (R : Vec Ideal S2080x1 .f32) (r : Fin 2080) (n : Fin 2048) :
    partR X Y R (ix2 r n) = (X (ix2 r n) * R (ix2 r 0)) * Y (ix2 r n) := by
  pointwise [partR]

section Results

variable (X : Vec Ideal S2080x2048 .f32) (g : Vec Ideal S2048 .f32) (Y E : Vec Ideal S2080x2048 .f32)

/-- The gradient at an index. -/
theorem dh_same (r : Fin 2080) (n : Fin 2048) : dhR X g Y E (ix2 r n) = dhAt (narrow Y) X E (row2048 g) r n := by
  have hd : (fun k => scaledR Y g (ix2 r k)) = fun k => Y (ix2 r k) * row2048 g (ix2 0 k) := funext fun k => scaledR_at Y g r k
  have h : dhR X g Y E (ix2 r n) = gradD (fun k => X (ix2 r k)) (fun k => scaledR Y g (ix2 r k)) n + E (ix2 r n) := by
    unfold dhR gradD coefE
    rw [gradR_at, coefR_at, rootR_at, meanR_at]
  rw [h, ← grad_same, hd]
  rfl

/-- The gradient. -/
theorem dh_res : dhR X g Y E = dhArr (narrow Y) X E (row2048 g) := by
  funext i
  obtain ⟨r, n, rfl⟩ : ∃ (r : Fin 2080) (n : Fin 2048), i = ix2 r n := ⟨i 0, i 1, eq_ix2 i⟩
  exact dh_same X g Y E r n

/-- The gradient as it is stored for the products. -/
theorem dhb_res : narrow (dhR X g Y E) = dhbArr (narrow Y) X E (row2048 g) := by
  funext i
  obtain ⟨r, n, rfl⟩ : ∃ (r : Fin 2080) (n : Fin 2048), i = ix2 r n := ⟨i 0, i 1, eq_ix2 i⟩
  exact (narrow_at _ _).trans (dh_same X g Y E r n)

/-- The gain's gradient. -/
theorem dg_res : rowR (sumsHalfR (partR X Y (rootR X))) = dgArr (narrow Y) X := by
  funext j
  obtain ⟨n, rfl⟩ : ∃ n : Fin 2048, j = ix2 0 n := ⟨j 1, row_ix j⟩
  refine (rowR_at _ n).trans ((sumsHalfR_at _ _).trans (Finset.sum_congr rfl fun r _ => ?_))
  rw [partR_at, rootR_at]
  exact mul_comm (G := EReal) _ _

end Results

end Cert.Reference10Ideal.Value

end
-- ==== Proof.NormFfnClaim.lean ====
module

public import proofs.«01_k».proof.Defs
public import proofs.«01_k».proof.Proof.NormFfnRef
public import Idealize.ShloMosaic.Adequacy
public import Idealize.ShloMosaic.Init

@[expose] public section

set_option maxRecDepth 16384

noncomputable section

namespace Cert.Proof.NormFfn

open Idealize.ShloMosaic Idealize.SL.Sem

/-- The reference runs, leaves its arguments, and has no semaphores. -/
theorem reference_frame : Cert.quiescent_Reference10Ideal := fun m g _ =>
  (θ_run _ _ _).mono (fun r h => ⟨fun c => (h c).2.2.2, sem_eq_zero_of_no_sems (by decide) r.2⟩) (Cert.Reference10Ideal.Value.run (F := Ideal) m g)

/-- The two programs end with the same gradients. -/
theorem algebraic : Cert.algebraic_Kernel10Ideal_Reference10Ideal := by
  intro m g m' g' _ hargs
  refine ⟨fun c => Cert.Kernel10Ideal.Value.dhArr (Cert.Kernel2Ideal.Value.narrow (m (c, Proc.tc.devRef Cert.Kernel10Ideal.main_arg2))) (m (c, Proc.tc.devRef Cert.Kernel10Ideal.main_arg0)) (m (c, Proc.tc.devRef Cert.Kernel10Ideal.main_arg3)) (Cert.Kernel5Ideal.Value.row2048 (m (c, Proc.tc.devRef Cert.Kernel10Ideal.main_arg1))),
    fun c => Cert.Kernel10Ideal.Value.dhbArr (Cert.Kernel2Ideal.Value.narrow (m (c, Proc.tc.devRef Cert.Kernel10Ideal.main_arg2))) (m (c, Proc.tc.devRef Cert.Kernel10Ideal.main_arg0)) (m (c, Proc.tc.devRef Cert.Kernel10Ideal.main_arg3)) (Cert.Kernel5Ideal.Value.row2048 (m (c, Proc.tc.devRef Cert.Kernel10Ideal.main_arg1))),
    fun c => Cert.Kernel10Ideal.Value.dgArr (Cert.Kernel2Ideal.Value.narrow (m (c, Proc.tc.devRef Cert.Kernel10Ideal.main_arg2))) (m (c, Proc.tc.devRef Cert.Kernel10Ideal.main_arg0)), ?_, ?_⟩
  · refine (θ_run _ _ _).mono (fun r h c => ?_) (Cert.Kernel10Ideal.Value.run_blocks m g)
    obtain ⟨r0, r1, r2, rest⟩ := h c
    exact ⟨r0.trans ((Cert.Kernel10Ideal.Value.final4 m c).trans (by rw [Cert.Kernel10Ideal.Value.V_v0, Cert.Kernel10Ideal.Value.V_arg0, Cert.Kernel10Ideal.Value.V_arg3, Cert.Kernel10Ideal.Value.V_v1])),
      r1.trans ((Cert.Kernel10Ideal.Value.final5 m c).trans (by rw [Cert.Kernel10Ideal.Value.V_v0, Cert.Kernel10Ideal.Value.V_arg0, Cert.Kernel10Ideal.Value.V_arg3, Cert.Kernel10Ideal.Value.V_v1])),
      r2.trans ((Cert.Kernel10Ideal.Value.final6 m c).trans (by rw [Cert.Kernel10Ideal.Value.V_v0, Cert.Kernel10Ideal.Value.V_arg0])), rest⟩
  · refine (θ_run _ _ _).mono (fun r h c => ?_) (Cert.Reference10Ideal.Value.run m' g')
    obtain ⟨e0, e1, e2, e3⟩ := hargs c
    obtain ⟨r0, r1, r2, rest⟩ := h c
    rw [e0, e1, e2, e3] at r0
    rw [e0, e1, e2, e3] at r1
    rw [e0, e2] at r2
    exact ⟨r0.trans (Cert.Reference10Ideal.Value.dh_res _ _ _ _),
      r1.trans (Cert.Reference10Ideal.Value.dhb_res _ _ _ _),
      r2.trans (Cert.Reference10Ideal.Value.dg_res _ _), rest⟩

end Cert.Proof.NormFfn

end
-- ==== Proof.ValProj.lean ====
module

public import proofs.«01_k».proof.Defs
public import proofs.«01_k».proof.Proof.Gen.Kernel13Ideal.Value
public import proofs.«01_k».proof.Proof.Gen.Reference13Ideal.Run
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.Kernel13Ideal.Value

open Cert.Kernel13Ideal Cert.Kernel13Ideal.Gen Idealize.ShloMosaic Idealize.ShloMosaic.TcCoe Idealize.SL.Sem Idealize.ShloMosaic.StableHlo
open Cert.Kernel2Ideal.Value (narrow narrow_at)
open scoped BigOperators

/-- The product of rows with a weight. -/
def valArr (X : Vec Ideal S2080x512 .bf16) (W : Vec Ideal S512x2048 .bf16) : Vec Ideal S2080x2048 .bf16 :=
  fun i => ∑ k : Fin 512, X (ix2 (i 0) k) * W (ix2 k (i 1))

/-- Where each window's block lies. -/
theorem idx : ∀ t : Fin cfg0.N, win0_0.index t = ![0, 0] ∧ win0_1.index t = ![0, t.val] ∧ win0_2.index t = ![0, t.val] :=
  (by decide +kernel : ∀ t : Fin grid0.N, _)

/-- The number of grid points. -/
theorem lt (t : Fin cfg0.N) : t.val < 4 := Nat.lt_of_lt_of_eq t.isLt (N_0 : cfg0.N = 4)

/-- The product at an entry of a block. -/
theorem pay_at (X : Vec Ideal S2080x512 .bf16) (W : Vec Ideal S512x512 .bf16) (a : Fin 2080) (b : Fin 512) :
    (k0_pay1 X W : Vec Ideal S2080x512 .bf16) (ix2 a b) = ∑ k : Fin 512, X (ix2 a k) * W (ix2 k b) := by
  pointwise [k0_pay1]

/-- The columns a grid point works on. -/
abbrev col (t : Fin cfg0.N) (b : Fin 512) : Fin 2048 := ⟨t.val * 512 + b.val, by have := lt t; omega⟩

variable (m : (ℓ : Loc nD τ sig) → Buf (Elt Ideal) ℓ) (c : Dev nD)

/-- The rows as the call takes them. -/
theorem V_v0 : V m c main_v0 = narrow (m ((c.tc : Thread nD τ).loc main_arg0)) := by
  after_reads_simp
  try rfl

/-- The weight as the call takes it. -/
theorem V_v1 : V m c main_v1 = narrow (m ((c.tc : Thread nD τ).loc main_arg1)) := by
  after_reads_simp
  try rfl

/-- The call's result. -/
theorem final2 : (dats m 0 c).arrAt 2 cfg0.N = valArr (V m c main_v0) (V m c main_v1) := by
  refine (dats m 0 c).arrAt_eq_of_covers 2 _ (by decide +kernel) fun t _ y => ?_
  blk_simp
  rw [after0_2]
  frame_out
  idx_vars y
  have e : ((View.whole main_v2).slice (win0_2.rect t)).emb (ix2 y0 y1) = ix2 y0 (col t y1) := by
    blk_ext [idx t]
  rw [e]
  refine (pay_at _ _ _ _).trans ?_
  refine Finset.sum_congr rfl fun k _ => congrArg₂ (· * ·) ?_ ?_ <;> blk_point [iblk, idx t]

end Cert.Kernel13Ideal.Value

namespace Cert.Reference13Ideal.Value

open Cert.Reference13Ideal Cert.Reference13Ideal.Gen Idealize.ShloMosaic Idealize.ShloMosaic.TcCoe Idealize.SL.Sem Idealize.ShloMosaic.StableHlo
open Cert.Kernel13Ideal.Value (valArr)
open Cert.Kernel2Ideal.Value (narrow narrow_at)
open scoped BigOperators

/-- The projection. -/
def valR (X : Vec Ideal S2080x512 .f32) (W : Vec Ideal S512x2048 .f32) : Vec Ideal S2080x2048 .bf16 :=
  truncf (F := Ideal) .bf16 (Host.dotGeneral (F := Ideal) (φ₁ := .f32) (φ₂ := .f32) dot_S2080x512_S512x2048_S2080x2048_1_0_0_1_n_n none X W) bitsLt_bf16_f32

/-- It at an index. -/
theorem valR_at (X : Vec Ideal S2080x512 .f32) (W : Vec Ideal S512x2048 .f32) (r : Fin 2080) (j : Fin 2048) :
    valR X W (ix2 r j) = ∑ k : Fin 512, X (ix2 r k) * W (ix2 k j) := by
  pointwise [valR]

/-- It is the call's result. -/
theorem val_res (X : Vec Ideal S2080x512 .f32) (W : Vec Ideal S512x2048 .f32) : valR X W = valArr (narrow X) (narrow W) := by
  funext i
  obtain ⟨r, j, rfl⟩ : ∃ (r : Fin 2080) (j : Fin 2048), i = ix2 r j := ⟨i 0, i 1, eq_ix2 i⟩
  exact valR_at X W r j

end Cert.Reference13Ideal.Value

namespace Cert.Proof.Qkv

open Idealize.ShloMosaic Idealize.SL.Sem

/-- The reference runs, leaves its arguments, and has no semaphores. -/
theorem reference_frame13 : Cert.quiescent_Reference13Ideal := fun m g _ =>
  (θ_run _ _ _).mono (fun r h => ⟨fun c => (h c).2, sem_eq_zero_of_no_sems (by decide) r.2⟩) (Cert.Reference13Ideal.Value.run (F := Ideal) m g)

open Cert.Kernel13Ideal.Value in
/-- The two programs end with the same values. -/
theorem algebraic13 : Cert.algebraic_Kernel13Ideal_Reference13Ideal := by
  intro m g m' g' _ hargs
  refine ⟨fun c => valArr (Cert.Kernel2Ideal.Value.narrow (m (c, Proc.tc.devRef Cert.Kernel13Ideal.main_arg0))) (Cert.Kernel2Ideal.Value.narrow (m (c, Proc.tc.devRef Cert.Kernel13Ideal.main_arg1))), ?_, ?_⟩
  · refine (θ_run _ _ _).mono (fun r h c => ?_) (Cert.Kernel13Ideal.Value.run_blocks m g)
    obtain ⟨r0, rest⟩ := h c
    exact ⟨r0.trans ((Cert.Kernel13Ideal.Value.final2 m c).trans (by rw [Cert.Kernel13Ideal.Value.V_v0, Cert.Kernel13Ideal.Value.V_v1])), rest⟩
  · refine (θ_run _ _ _).mono (fun r h c => ?_) (Cert.Reference13Ideal.Value.run m' g')
    obtain ⟨e0, e1⟩ := hargs c
    obtain ⟨r0, rest⟩ := h c
    rw [e0, e1] at r0
    exact ⟨r0.trans (Cert.Reference13Ideal.Value.val_res _ _), rest⟩

end Cert.Proof.Qkv

end
-- ==== Proof.QGrad.lean ====
module

public import proofs.«01_k».proof.Defs
public import proofs.«01_k».proof.Proof.Gen.Kernel14Ideal.Value
public import proofs.«01_k».proof.Proof.Gen.Reference14Ideal.Run
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Kernel14Ideal.Value

open Cert.Kernel14Ideal Cert.Kernel14Ideal.Gen Idealize.ShloMosaic Idealize.ShloMosaic.TcCoe Idealize.SL.Sem Idealize.ShloMosaic.StableHlo
open Cert.Kernel2Ideal.Value (narrow narrow_at)
open scoped BigOperators

/-- The cotangent as the call takes it: each head of 192 lanes padded to 256. -/
def padQ (X : Vec Ideal S2080x3072 .bf16) : Vec Ideal S2080x4096 .bf16 :=
  shapeCast S2080x4096 (pad S2080x16x256 ![0, 0, 0] ![0, 0, 64] ![0, 0, 0] (shapeCast S2080x16x192 X shapeCasts_S2080x3072_S2080x16x192) (sitofp (F := Ideal) .bf16 (constantI S_ 32 0#32)) pads_S2080x16x192_S2080x16x256_000_000_0640 h_S_) shapeCasts_S2080x16x256_S2080x4096

/-- Its entries. -/
theorem padQ_at (X : Vec Ideal S2080x3072 .bf16) (r : Fin 2080) (j : Fin 4096) :
    padQ X (ix2 r j) = if h : j.val % 256 < 192 then X (ix2 r ⟨j.val / 256 * 192 + j.val % 256, by omega⟩) else 0 := by
  pointwise [padQ]
  by_cases h : j.val % 256 < 192
  · rw [dif_pos h, dif_pos ⟨by omega, h⟩]
  · rw [dif_neg h, dif_neg fun hh => h hh.2]
    exact sitofp_zero (φ := .bf16)

/-- The product of the rows' transpose with a cotangent. -/
def gradArr (X : Vec Ideal S2080x512 .bf16) (Y : Vec Ideal S2080x4096 .bf16) : Vec Ideal S512x4096 .bf16 :=
  fun i => ∑ k : Fin 2080, X (ix2 k (i 0)) * Y (ix2 k (i 1))

/-- Where each window's block lies. -/
theorem idx : ∀ t : Fin cfg0.N, win0_0.index t = ![0, 0] ∧ win0_1.index t = ![0, t.val] ∧ win0_2.index t = ![0, t.val] :=
  (by decide +kernel : ∀ t : Fin grid0.N, _)

/-- The number of grid points. -/
theorem lt (t : Fin cfg0.N) : t.val < 8 := Nat.lt_of_lt_of_eq t.isLt (N_0 : cfg0.N = 8)

/-- The product at an entry of a block. -/
theorem pay_at (X : Vec Ideal S2080x512 .bf16) (Y : Vec Ideal S2080x512 .bf16) (a b : Fin 512) :
    (k0_pay1 X Y : Vec Ideal S512x512 .bf16) (ix2 a b) = ∑ k : Fin 2080, X (ix2 k a) * Y (ix2 k b) := by
  pointwise [k0_pay1]

/-- The columns a grid point works on. -/
abbrev col (t : Fin cfg0.N) (b : Fin 512) : Fin 4096 := ⟨t.val * 512 + b.val, by have := lt t; omega⟩

variable (m : (ℓ : Loc nD τ sig) → Buf (Elt Ideal) ℓ) (c : Dev nD)

/-- The rows as the call takes them. -/
theorem V_v0 : V m c main_v0 = narrow (m ((c.tc : Thread nD τ).loc main_arg0)) := by
  after_reads_simp
  try rfl

/-- The cotangent as the call takes it. -/
theorem V_v4 : V m c main_v4 = padQ (narrow (m ((c.tc : Thread nD τ).loc main_arg1))) := by
  after_reads_simp
  try rfl

/-- The call's result. -/
theorem final2 : (dats m 0 c).arrAt 2 cfg0.N = gradArr (V m c main_v0) (V m c main_v4) := by
  refine (dats m 0 c).arrAt_eq_of_covers 2 _ (by decide +kernel) fun t _ y => ?_
  blk_simp
  rw [after0_2]
  frame_out
  idx_vars y
  have e : ((View.whole main_v5).slice (win0_2.rect t)).emb (ix2 y0 y1) = ix2 y0 (col t y1) := by
    blk_ext [idx t]
  rw [e]
  refine (pay_at _ _ _ _).trans ?_
  refine Finset.sum_congr rfl fun k _ => congrArg₂ (· * ·) ?_ ?_ <;> blk_point [iblk, idx t]

end Cert.Kernel14Ideal.Value

namespace Cert.Reference14Ideal.Value

open Cert.Reference14Ideal Cert.Reference14Ideal.Gen Idealize.ShloMosaic Idealize.ShloMosaic.TcCoe Idealize.SL.Sem Idealize.ShloMosaic.StableHlo
open Cert.Kernel14Ideal.Value (padQ padQ_at gradArr)
open Cert.Kernel2Ideal.Value (narrow narrow_at)
open scoped BigOperators

/-- The weight's gradient, each head padded to 256 lanes. -/
def gradR (X : Vec Ideal S2080x512 .f32) (Y : Vec Ideal S2080x3072 .f32) : Vec Ideal S512x4096 .bf16 :=
  truncf (F := Ideal) .bf16 (shapeCast S512x4096 (pad S512x16x256 ![0, 0, 0] ![0, 0, 64] ![0, 0, 0] (shapeCast S512x16x192 (transpose S512x3072 [1, 0] (Host.dotGeneral (F := Ideal) (φ₁ := .f32) (φ₂ := .f32) dot_S2080x3072_S2080x512_S3072x512_0_0_1_1_n_n none Y X) transposes_S3072x512_S512x3072_1_0) shapeCasts_S512x3072_S512x16x192) (sitofp (F := Ideal) .f32 (constantI S_ 32 0#32)) pads_S512x16x192_S512x16x256_000_000_0640 h_S_) shapeCasts_S512x16x256_S512x4096) bitsLt_bf16_f32

/-- It at an index. -/
theorem gradR_at (X : Vec Ideal S2080x512 .f32) (Y : Vec Ideal S2080x3072 .f32) (r : Fin 512) (j : Fin 4096) :
    gradR X Y (ix2 r j) = if h : j.val % 256 < 192 then ∑ k : Fin 2080, Y (ix2 k ⟨j.val / 256 * 192 + j.val % 256, by omega⟩) * X (ix2 k r) else 0 := by
  pointwise [gradR]
  by_cases h : j.val % 256 < 192
  · rw [dif_pos h, dif_pos ⟨by omega, h⟩]
  · rw [dif_neg h, dif_neg fun hh => h hh.2]
    exact sitofp_zero (φ := .f32)

/-- It is the call's result. -/
theorem grad_res (X : Vec Ideal S2080x512 .f32) (Y : Vec Ideal S2080x3072 .f32) : gradR X Y = gradArr (narrow X) (padQ (narrow Y)) := by
  funext i
  obtain ⟨r, j, rfl⟩ : ∃ (r : Fin 512) (j : Fin 4096), i = ix2 r j := ⟨i 0, i 1, eq_ix2 i⟩
  refine (gradR_at X Y r j).trans ?_
  show _ = ∑ k : Fin 2080, narrow X (ix2 k r) * padQ (narrow Y) (ix2 k j)
  by_cases h : j.val % 256 < 192
  · rw [dif_pos h]
    exact Finset.sum_congr rfl fun k _ => (mul_comm _ _).trans (congrArg (fun y : EReal => narrow X (ix2 k r) * y) ((padQ_at (narrow Y) k j).trans (dif_pos h)).symm)
  · rw [dif_neg h]
    exact (Finset.sum_eq_zero fun k _ => (congrArg (fun y : EReal => narrow X (ix2 k r) * y) ((padQ_at (narrow Y) k j).trans (dif_neg h))).trans (mul_zero _)).symm

end Cert.Reference14Ideal.Value

namespace Cert.Proof.Qkv

open Idealize.ShloMosaic Idealize.SL.Sem

/-- The reference runs, leaves its arguments, and has no semaphores. -/
theorem reference_frame14 : Cert.quiescent_Reference14Ideal := fun m g _ =>
  (θ_run _ _ _).mono (fun r h => ⟨fun c => (h c).2, sem_eq_zero_of_no_sems (by decide) r.2⟩) (Cert.Reference14Ideal.Value.run (F := Ideal) m g)

open Cert.Kernel14Ideal.Value in
/-- The two programs end with the same gradient. -/
theorem algebraic14 : Cert.algebraic_Kernel14Ideal_Reference14Ideal := by
  intro m g m' g' _ hargs
  refine ⟨fun c => gradArr (Cert.Kernel2Ideal.Value.narrow (m (c, Proc.tc.devRef Cert.Kernel14Ideal.main_arg0))) (padQ (Cert.Kernel2Ideal.Value.narrow (m (c, Proc.tc.devRef Cert.Kernel14Ideal.main_arg1)))), ?_, ?_⟩
  · refine (θ_run _ _ _).mono (fun r h c => ?_) (Cert.Kernel14Ideal.Value.run_blocks m g)
    obtain ⟨r0, rest⟩ := h c
    exact ⟨r0.trans ((Cert.Kernel14Ideal.Value.final2 m c).trans (by rw [Cert.Kernel14Ideal.Value.V_v0, Cert.Kernel14Ideal.Value.V_v4])), rest⟩
  · refine (θ_run _ _ _).mono (fun r h c => ?_) (Cert.Reference14Ideal.Value.run m' g')
    obtain ⟨e0, e1⟩ := hargs c
    obtain ⟨r0, rest⟩ := h c
    rw [e0, e1] at r0
    exact ⟨r0.trans (Cert.Reference14Ideal.Value.grad_res _ _), rest⟩

end Cert.Proof.Qkv

end
-- ==== Proof.KGrad.lean ====
module

public import proofs.«01_k».proof.Defs
public import proofs.«01_k».proof.Proof.Gen.Kernel15Ideal.Value
public import proofs.«01_k».proof.Proof.Gen.Reference15Ideal.Run
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Kernel15Ideal.Value

open Cert.Kernel15Ideal Cert.Kernel15Ideal.Gen Idealize.ShloMosaic Idealize.ShloMosaic.TcCoe Idealize.SL.Sem Idealize.ShloMosaic.StableHlo
open Cert.Kernel2Ideal.Value (narrow narrow_at)
open scoped BigOperators

/-- The cotangent as the call takes it: each head of 128 lanes padded to 256. -/
def padQ (X : Vec Ideal S2080x2048 .bf16) : Vec Ideal S2080x4096 .bf16 :=
  shapeCast S2080x4096 (pad S2080x16x256 ![0, 0, 0] ![0, 0, 128] ![0, 0, 0] (shapeCast S2080x16x128 X shapeCasts_S2080x2048_S2080x16x128) (sitofp (F := Ideal) .bf16 (constantI S_ 32 0#32)) pads_S2080x16x128_S2080x16x256_000_000_01280 h_S_) shapeCasts_S2080x16x256_S2080x4096

/-- Its entries. -/
theorem padQ_at (X : Vec Ideal S2080x2048 .bf16) (r : Fin 2080) (j : Fin 4096) :
    padQ X (ix2 r j) = if h : j.val % 256 < 128 then X (ix2 r ⟨j.val / 256 * 128 + j.val % 256, by omega⟩) else 0 := by
  pointwise [padQ]
  by_cases h : j.val % 256 < 128
  · rw [dif_pos h, dif_pos ⟨by omega, h⟩]
  · rw [dif_neg h, dif_neg fun hh => h hh.2]
    exact sitofp_zero (φ := .bf16)

/-- The product of the rows' transpose with a cotangent. -/
def gradArr (X : Vec Ideal S2080x512 .bf16) (Y : Vec Ideal S2080x4096 .bf16) : Vec Ideal S512x4096 .bf16 :=
  fun i => ∑ k : Fin 2080, X (ix2 k (i 0)) * Y (ix2 k (i 1))

/-- Where each window's block lies. -/
theorem idx : ∀ t : Fin cfg0.N, win0_0.index t = ![0, 0] ∧ win0_1.index t = ![0, t.val] ∧ win0_2.index t = ![0, t.val] :=
  (by decide +kernel : ∀ t : Fin grid0.N, _)

/-- The number of grid points. -/
theorem lt (t : Fin cfg0.N) : t.val < 8 := Nat.lt_of_lt_of_eq t.isLt (N_0 : cfg0.N = 8)

/-- The product at an entry of a block. -/
theorem pay_at (X : Vec Ideal S2080x512 .bf16) (Y : Vec Ideal S2080x512 .bf16) (a b : Fin 512) :
    (k0_pay1 X Y : Vec Ideal S512x512 .bf16) (ix2 a b) = ∑ k : Fin 2080, X (ix2 k a) * Y (ix2 k b) := by
  pointwise [k0_pay1]

/-- The columns a grid point works on. -/
abbrev col (t : Fin cfg0.N) (b : Fin 512) : Fin 4096 := ⟨t.val * 512 + b.val, by have := lt t; omega⟩

variable (m : (ℓ : Loc nD τ sig) → Buf (Elt Ideal) ℓ) (c : Dev nD)

/-- The rows as the call takes them. -/
theorem V_v0 : V m c main_v0 = narrow (m ((c.tc : Thread nD τ).loc main_arg0)) := by
  after_reads_simp
  try rfl

/-- The cotangent as the call takes it. -/
theorem V_v4 : V m c main_v4 = padQ (narrow (m ((c.tc : Thread nD τ).loc main_arg1))) := by
  after_reads_simp
  try rfl

/-- The call's result. -/
theorem final2 : (dats m 0 c).arrAt 2 cfg0.N = gradArr (V m c main_v0) (V m c main_v4) := by
  refine (dats m 0 c).arrAt_eq_of_covers 2 _ (by decide +kernel) fun t _ y => ?_
  blk_simp
  rw [after0_2]
  frame_out
  idx_vars y
  have e : ((View.whole main_v5).slice (win0_2.rect t)).emb (ix2 y0 y1) = ix2 y0 (col t y1) := by
    blk_ext [idx t]
  rw [e]
  refine (pay_at _ _ _ _).trans ?_
  refine Finset.sum_congr rfl fun k _ => congrArg₂ (· * ·) ?_ ?_ <;> blk_point [iblk, idx t]

end Cert.Kernel15Ideal.Value

namespace Cert.Reference15Ideal.Value

open Cert.Reference15Ideal Cert.Reference15Ideal.Gen Idealize.ShloMosaic Idealize.ShloMosaic.TcCoe Idealize.SL.Sem Idealize.ShloMosaic.StableHlo
open Cert.Kernel15Ideal.Value (padQ padQ_at gradArr)
open Cert.Kernel2Ideal.Value (narrow narrow_at)
open scoped BigOperators

/-- The weight's gradient, each head padded to 256 lanes. -/
def gradR (X : Vec Ideal S2080x512 .f32) (Y : Vec Ideal S2080x2048 .f32) : Vec Ideal S512x4096 .bf16 :=
  truncf (F := Ideal) .bf16 (shapeCast S512x4096 (pad S512x16x256 ![0, 0, 0] ![0, 0, 128] ![0, 0, 0] (shapeCast S512x16x128 (transpose S512x2048 [1, 0] (Host.dotGeneral (F := Ideal) (φ₁ := .f32) (φ₂ := .f32) dot_S2080x2048_S2080x512_S2048x512_0_0_1_1_n_n none Y X) transposes_S2048x512_S512x2048_1_0) shapeCasts_S512x2048_S512x16x128) (sitofp (F := Ideal) .f32 (constantI S_ 32 0#32)) pads_S512x16x128_S512x16x256_000_000_01280 h_S_) shapeCasts_S512x16x256_S512x4096) bitsLt_bf16_f32

/-- It at an index. -/
theorem gradR_at (X : Vec Ideal S2080x512 .f32) (Y : Vec Ideal S2080x2048 .f32) (r : Fin 512) (j : Fin 4096) :
    gradR X Y (ix2 r j) = if h : j.val % 256 < 128 then ∑ k : Fin 2080, Y (ix2 k ⟨j.val / 256 * 128 + j.val % 256, by omega⟩) * X (ix2 k r) else 0 := by
  pointwise [gradR]
  by_cases h : j.val % 256 < 128
  · rw [dif_pos h, dif_pos ⟨by omega, h⟩]
  · rw [dif_neg h, dif_neg fun hh => h hh.2]
    exact sitofp_zero (φ := .f32)

/-- It is the call's result. -/
theorem grad_res (X : Vec Ideal S2080x512 .f32) (Y : Vec Ideal S2080x2048 .f32) : gradR X Y = gradArr (narrow X) (padQ (narrow Y)) := by
  funext i
  obtain ⟨r, j, rfl⟩ : ∃ (r : Fin 512) (j : Fin 4096), i = ix2 r j := ⟨i 0, i 1, eq_ix2 i⟩
  refine (gradR_at X Y r j).trans ?_
  show _ = ∑ k : Fin 2080, narrow X (ix2 k r) * padQ (narrow Y) (ix2 k j)
  by_cases h : j.val % 256 < 128
  · rw [dif_pos h]
    exact Finset.sum_congr rfl fun k _ => (mul_comm _ _).trans (congrArg (fun y : EReal => narrow X (ix2 k r) * y) ((padQ_at (narrow Y) k j).trans (dif_pos h)).symm)
  · rw [dif_neg h]
    exact (Finset.sum_eq_zero fun k _ => (congrArg (fun y : EReal => narrow X (ix2 k r) * y) ((padQ_at (narrow Y) k j).trans (dif_neg h))).trans (mul_zero _)).symm

end Cert.Reference15Ideal.Value

namespace Cert.Proof.Qkv

open Idealize.ShloMosaic Idealize.SL.Sem

/-- The reference runs, leaves its arguments, and has no semaphores. -/
theorem reference_frame15 : Cert.quiescent_Reference15Ideal := fun m g _ =>
  (θ_run _ _ _).mono (fun r h => ⟨fun c => (h c).2, sem_eq_zero_of_no_sems (by decide) r.2⟩) (Cert.Reference15Ideal.Value.run (F := Ideal) m g)

open Cert.Kernel15Ideal.Value in
/-- The two programs end with the same gradient. -/
theorem algebraic15 : Cert.algebraic_Kernel15Ideal_Reference15Ideal := by
  intro m g m' g' _ hargs
  refine ⟨fun c => gradArr (Cert.Kernel2Ideal.Value.narrow (m (c, Proc.tc.devRef Cert.Kernel15Ideal.main_arg0))) (padQ (Cert.Kernel2Ideal.Value.narrow (m (c, Proc.tc.devRef Cert.Kernel15Ideal.main_arg1)))), ?_, ?_⟩
  · refine (θ_run _ _ _).mono (fun r h c => ?_) (Cert.Kernel15Ideal.Value.run_blocks m g)
    obtain ⟨r0, rest⟩ := h c
    exact ⟨r0.trans ((Cert.Kernel15Ideal.Value.final2 m c).trans (by rw [Cert.Kernel15Ideal.Value.V_v0, Cert.Kernel15Ideal.Value.V_v4])), rest⟩
  · refine (θ_run _ _ _).mono (fun r h c => ?_) (Cert.Reference15Ideal.Value.run m' g')
    obtain ⟨e0, e1⟩ := hargs c
    obtain ⟨r0, rest⟩ := h c
    rw [e0, e1] at r0
    exact ⟨r0.trans (Cert.Reference15Ideal.Value.grad_res _ _), rest⟩

end Cert.Proof.Qkv

end
-- ==== Proof.ValGrad.lean ====
module

public import proofs.«01_k».proof.Defs
public import proofs.«01_k».proof.Proof.Gen.Kernel16Ideal.Value
public import proofs.«01_k».proof.Proof.Gen.Reference16Ideal.Run
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.Kernel16Ideal.Value

open Cert.Kernel16Ideal Cert.Kernel16Ideal.Gen Idealize.ShloMosaic Idealize.ShloMosaic.TcCoe Idealize.SL.Sem Idealize.ShloMosaic.StableHlo
open Cert.Kernel2Ideal.Value (narrow narrow_at)
open scoped BigOperators

/-- The product of the rows' transpose with a cotangent. -/
def gradArr (X : Vec Ideal S2080x512 .bf16) (Y : Vec Ideal S2080x2048 .bf16) : Vec Ideal S512x2048 .bf16 :=
  fun i => ∑ k : Fin 2080, X (ix2 k (i 0)) * Y (ix2 k (i 1))

/-- Where each window's block lies. -/
theorem idx : ∀ t : Fin cfg0.N, win0_0.index t = ![0, 0] ∧ win0_1.index t = ![0, t.val] ∧ win0_2.index t = ![0, t.val] :=
  (by decide +kernel : ∀ t : Fin grid0.N, _)

/-- The number of grid points. -/
theorem lt (t : Fin cfg0.N) : t.val < 4 := Nat.lt_of_lt_of_eq t.isLt (N_0 : cfg0.N = 4)

/-- The product at an entry of a block. -/
theorem pay_at (X : Vec Ideal S2080x512 .bf16) (Y : Vec Ideal S2080x512 .bf16) (a b : Fin 512) :
    (k0_pay1 X Y : Vec Ideal S512x512 .bf16) (ix2 a b) = ∑ k : Fin 2080, X (ix2 k a) * Y (ix2 k b) := by
  pointwise [k0_pay1]

/-- The columns a grid point works on. -/
abbrev col (t : Fin cfg0.N) (b : Fin 512) : Fin 2048 := ⟨t.val * 512 + b.val, by have := lt t; omega⟩

variable (m : (ℓ : Loc nD τ sig) → Buf (Elt Ideal) ℓ) (c : Dev nD)

/-- The rows as the call takes them. -/
theorem V_v0 : V m c main_v0 = narrow (m ((c.tc : Thread nD τ).loc main_arg0)) := by
  after_reads_simp
  try rfl

/-- The cotangent as the call takes it. -/
theorem V_v1 : V m c main_v1 = narrow (m ((c.tc : Thread nD τ).loc main_arg1)) := by
  after_reads_simp
  try rfl

/-- The call's result. -/
theorem final2 : (dats m 0 c).arrAt 2 cfg0.N = gradArr (V m c main_v0) (V m c main_v1) := by
  refine (dats m 0 c).arrAt_eq_of_covers 2 _ (by decide +kernel) fun t _ y => ?_
  blk_simp
  rw [after0_2]
  frame_out
  idx_vars y
  have e : ((View.whole main_v2).slice (win0_2.rect t)).emb (ix2 y0 y1) = ix2 y0 (col t y1) := by
    blk_ext [idx t]
  rw [e]
  refine (pay_at _ _ _ _).trans ?_
  refine Finset.sum_congr rfl fun k _ => congrArg₂ (· * ·) ?_ ?_ <;> blk_point [iblk, idx t]

end Cert.Kernel16Ideal.Value

namespace Cert.Reference16Ideal.Value

open Cert.Reference16Ideal Cert.Reference16Ideal.Gen Idealize.ShloMosaic Idealize.ShloMosaic.TcCoe Idealize.SL.Sem Idealize.ShloMosaic.StableHlo
open Cert.Kernel16Ideal.Value (gradArr)
open Cert.Kernel2Ideal.Value (narrow narrow_at)
open scoped BigOperators

/-- The weight's gradient. -/
def gradR (X : Vec Ideal S2080x512 .f32) (Y : Vec Ideal S2080x2048 .f32) : Vec Ideal S512x2048 .bf16 :=
  truncf (F := Ideal) .bf16 (transpose S512x2048 [1, 0] (Host.dotGeneral (F := Ideal) (φ₁ := .f32) (φ₂ := .f32) dot_S2080x2048_S2080x512_S2048x512_0_0_1_1_n_n none Y X) transposes_S2048x512_S512x2048_1_0) bitsLt_bf16_f32

/-- It at an index. -/
theorem gradR_at (X : Vec Ideal S2080x512 .f32) (Y : Vec Ideal S2080x2048 .f32) (r : Fin 512) (j : Fin 2048) :
    gradR X Y (ix2 r j) = ∑ k : Fin 2080, Y (ix2 k j) * X (ix2 k r) := by
  pointwise [gradR]

/-- It is the call's result. -/
theorem grad_res (X : Vec Ideal S2080x512 .f32) (Y : Vec Ideal S2080x2048 .f32) : gradR X Y = gradArr (narrow X) (narrow Y) := by
  funext i
  obtain ⟨r, j, rfl⟩ : ∃ (r : Fin 512) (j : Fin 2048), i = ix2 r j := ⟨i 0, i 1, eq_ix2 i⟩
  exact (gradR_at X Y r j).trans (Finset.sum_congr rfl fun k _ => mul_comm _ _)

end Cert.Reference16Ideal.Value

namespace Cert.Proof.Qkv

open Idealize.ShloMosaic Idealize.SL.Sem

/-- The reference runs, leaves its arguments, and has no semaphores. -/
theorem reference_frame16 : Cert.quiescent_Reference16Ideal := fun m g _ =>
  (θ_run _ _ _).mono (fun r h => ⟨fun c => (h c).2, sem_eq_zero_of_no_sems (by decide) r.2⟩) (Cert.Reference16Ideal.Value.run (F := Ideal) m g)

open Cert.Kernel16Ideal.Value in
/-- The two programs end with the same gradient. -/
theorem algebraic16 : Cert.algebraic_Kernel16Ideal_Reference16Ideal := by
  intro m g m' g' _ hargs
  refine ⟨fun c => gradArr (Cert.Kernel2Ideal.Value.narrow (m (c, Proc.tc.devRef Cert.Kernel16Ideal.main_arg0))) (Cert.Kernel2Ideal.Value.narrow (m (c, Proc.tc.devRef Cert.Kernel16Ideal.main_arg1))), ?_, ?_⟩
  · refine (θ_run _ _ _).mono (fun r h c => ?_) (Cert.Kernel16Ideal.Value.run_blocks m g)
    obtain ⟨r0, rest⟩ := h c
    exact ⟨r0.trans ((Cert.Kernel16Ideal.Value.final2 m c).trans (by rw [Cert.Kernel16Ideal.Value.V_v0, Cert.Kernel16Ideal.Value.V_v1])), rest⟩
  · refine (θ_run _ _ _).mono (fun r h c => ?_) (Cert.Reference16Ideal.Value.run m' g')
    obtain ⟨e0, e1⟩ := hargs c
    obtain ⟨r0, rest⟩ := h c
    rw [e0, e1] at r0
    exact ⟨r0.trans (Cert.Reference16Ideal.Value.grad_res _ _), rest⟩

end Cert.Proof.Qkv

end
-- ==== Proof.HeadPad.lean ====
module

public import proofs.«01_k».proof.Defs
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.HeadPad

open Idealize.ShloMosaic
open scoped BigOperators

/-- Where lane `q` of sixteen heads of 192 lanes lies among sixteen heads of 256 lanes. -/
def lane192 (q : Fin 3072) : Fin 4096 := ⟨q.val / 192 * 256 + q.val % 192, by omega⟩

/-- A sum over heads of 256 lanes whose terms vanish behind the first 192 lanes of each head is the sum over heads of 192 lanes. -/
theorem sum_heads192 (f : Fin 3072 → EReal) (g : Fin 4096 → EReal) (h : ∀ q, f q = g (lane192 q)) (h0 : ∀ z : Fin 4096, ¬z.val % 256 < 192 → g z = 0) :
    ∑ z, g z = ∑ q, f q := by
  refine (Fintype.sum_of_injective lane192 (fun a b e => ?_) f g (fun z hz => h0 z fun hl => hz ?_) h).symm
  · have e' : a.val / 192 * 256 + a.val % 192 = b.val / 192 * 256 + b.val % 192 := congrArg Fin.val e
    exact Fin.ext (by omega)
  · refine ⟨⟨z.val / 256 * 192 + z.val % 256, by omega⟩, Fin.ext ?_⟩
    show (z.val / 256 * 192 + z.val % 256) / 192 * 256 + (z.val / 256 * 192 + z.val % 256) % 192 = z.val
    omega

/-- Where lane `q` of sixteen heads of 128 lanes lies among sixteen heads of 256 lanes. -/
def lane128 (q : Fin 2048) : Fin 4096 := ⟨q.val / 128 * 256 + q.val % 128, by omega⟩

/-- A sum over heads of 256 lanes whose terms vanish behind the first 128 lanes of each head is the sum over heads of 128 lanes. -/
theorem sum_heads128 (f : Fin 2048 → EReal) (g : Fin 4096 → EReal) (h : ∀ q, f q = g (lane128 q)) (h0 : ∀ z : Fin 4096, ¬z.val % 256 < 128 → g z = 0) :
    ∑ z, g z = ∑ q, f q := by
  refine (Fintype.sum_of_injective lane128 (fun a b e => ?_) f g (fun z hz => h0 z fun hl => hz ?_) h).symm
  · have e' : a.val / 128 * 256 + a.val % 128 = b.val / 128 * 256 + b.val % 128 := congrArg Fin.val e
    exact Fin.ext (by omega)
  · refine ⟨⟨z.val / 256 * 128 + z.val % 256, by omega⟩, Fin.ext ?_⟩
    show (z.val / 256 * 128 + z.val % 256) / 128 * 256 + (z.val / 256 * 128 + z.val % 256) % 128 = z.val
    omega

end Cert.HeadPad

end
-- ==== Proof.QBack.lean ====
module

public import proofs.«01_k».proof.Defs
public import proofs.«01_k».proof.Proof.Gen.Kernel17Ideal.Value
public import proofs.«01_k».proof.Proof.Gen.Reference17Ideal.Run
public import proofs.«01_k».proof.Proof.FfnRun
public import proofs.«01_k».proof.Proof.HeadPad
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Kernel17Ideal.Value

open Cert.Kernel17Ideal Cert.Kernel17Ideal.Gen Idealize.ShloMosaic Idealize.ShloMosaic.TcCoe Idealize.SL.Sem Idealize.ShloMosaic.StableHlo
open Cert.Kernel2Ideal.Value (narrow narrow_at)
open scoped BigOperators

/-- The cotangent as the call takes it: each head of 192 lanes padded to 256. -/
def padQ (X : Vec Ideal S2080x3072 .bf16) : Vec Ideal S2080x4096 .bf16 :=
  shapeCast S2080x4096 (pad S2080x16x256 ![0, 0, 0] ![0, 0, 64] ![0, 0, 0] (shapeCast S2080x16x192 X shapeCasts_S2080x3072_S2080x16x192) (sitofp (F := Ideal) .bf16 (constantI S_ 32 0#32)) pads_S2080x16x192_S2080x16x256_000_000_0640 h_S_) shapeCasts_S2080x16x256_S2080x4096

/-- Its entries. -/
theorem padQ_at (X : Vec Ideal S2080x3072 .bf16) (r : Fin 2080) (j : Fin 4096) :
    padQ X (ix2 r j) = if h : j.val % 256 < 192 then X (ix2 r ⟨j.val / 256 * 192 + j.val % 256, by omega⟩) else 0 := by
  pointwise [padQ]
  by_cases h : j.val % 256 < 192
  · rw [dif_pos h, dif_pos ⟨by omega, h⟩]
  · rw [dif_neg h, dif_neg fun hh => h hh.2]
    exact sitofp_zero (φ := .bf16)

/-- The weight as the call takes it: each head of 192 lanes padded to 256. -/
def padW (X : Vec Ideal S512x3072 .bf16) : Vec Ideal S512x4096 .bf16 :=
  shapeCast S512x4096 (pad S512x16x256 ![0, 0, 0] ![0, 0, 64] ![0, 0, 0] (shapeCast S512x16x192 X shapeCasts_S512x3072_S512x16x192) (sitofp (F := Ideal) .bf16 (constantI S_ 32 0#32)) pads_S512x16x192_S512x16x256_000_000_0640 h_S_) shapeCasts_S512x16x256_S512x4096

/-- Its entries. -/
theorem padW_at (X : Vec Ideal S512x3072 .bf16) (r : Fin 512) (j : Fin 4096) :
    padW X (ix2 r j) = if h : j.val % 256 < 192 then X (ix2 r ⟨j.val / 256 * 192 + j.val % 256, by omega⟩) else 0 := by
  pointwise [padW]
  by_cases h : j.val % 256 < 192
  · rw [dif_pos h, dif_pos ⟨by omega, h⟩]
  · rw [dif_neg h, dif_neg fun hh => h hh.2]
    exact sitofp_zero (φ := .bf16)

/-- The product of rows with a weight's rows. -/
def backArr (X : Vec Ideal S2080x4096 .bf16) (W : Vec Ideal S512x4096 .bf16) : Vec Ideal S2080x512 .f32 :=
  fun i => ∑ z : Fin 4096, X (ix2 (i 0) z) * W (ix2 (i 1) z)

/-- What one column adds to an entry of the product. -/
abbrev lanes (X : Vec Ideal S2080x4096 .bf16) (W : Vec Ideal S512x4096 .bf16) (a : Fin 2080) (k : Fin 512) (z : Fin 4096) : EReal :=
  X (ix2 a z) * W (ix2 k z)

/-- Where each window's block lies. -/
theorem idx : ∀ t : Fin cfg0.N, win0_0.index t = ![0, t.val] ∧ win0_1.index t = ![0, t.val] ∧ win0_2.index t = ![0, 0] :=
  (by decide +kernel : ∀ t : Fin grid0.N, _)

/-- The number of grid points. -/
theorem lt (t : Fin cfg0.N) : t.val < 4 := Nat.lt_of_lt_of_eq t.isLt (N_0 : cfg0.N = 4)

/-- The last grid point. -/
abbrev tl : Fin cfg0.N := ⟨3, lt_of_lt_of_eq (by decide) N_0.symm⟩

/-- The columns a grid point works on. -/
abbrev col (t : Fin cfg0.N) (b : Fin 1024) : Fin 4096 := ⟨t.val * 1024 + b.val, by have := lt t; omega⟩

/-- A sum over all columns, grid point by grid point. -/
theorem sum_cols (f : Fin 4096 → EReal) : ∑ t : Fin cfg0.N, ∑ b : Fin 1024, f (col t b) = ∑ z : Fin 4096, f z := by
  refine (Fintype.sum_prod_type' fun (t : Fin cfg0.N) (b : Fin 1024) => f (col t b)).symm.trans ?_
  refine (Fintype.sum_equiv ((finCongr (N_0 : cfg0.N = 4)).prodCongr (Equiv.refl (Fin 1024))) _ (fun x : Fin 4 × Fin 1024 => f (finProdFinEquiv x)) fun x => ?_).trans
    (Fintype.sum_equiv finProdFinEquiv _ _ fun x => rfl)
  refine congrArg f (Fin.ext ?_)
  show x.1.val * 1024 + x.2.val = x.2.val + 1024 * x.1.val
  omega

/-- A grid point's product at an entry. -/
theorem pay2_at (X : Vec Ideal S2080x1024 .bf16) (W : Vec Ideal S512x1024 .bf16) (a : Fin 2080) (k : Fin 512) :
    (k0_pay2 X W : Vec Ideal S2080x512 .f32) (ix2 a k) = ∑ b : Fin 1024, X (ix2 a b) * W (ix2 k b) := by
  pointwise [k0_pay2, k0_pay1]

/-- A grid point's product at an entry, added to what was there. -/
theorem pay3_at (X : Vec Ideal S2080x1024 .bf16) (W : Vec Ideal S512x1024 .bf16) (Z : Vec Ideal S2080x512 .f32) (a : Fin 2080) (k : Fin 512) :
    (k0_pay3 X W Z : Vec Ideal S2080x512 .f32) (ix2 a k) = Z (ix2 a k) + ∑ b : Fin 1024, X (ix2 a b) * W (ix2 k b) := by
  pointwise [k0_pay3, k0_pay1]

variable (m : (ℓ : Loc nD τ sig) → Buf (Elt Ideal) ℓ) (c : Dev nD)

/-- The first grid point starts the sum. -/
theorem left_A (t : Fin cfg0.N) (h0 : t.val % 4 = 0) (j : S2080x512.Idx) :
    (outsAt0 m c t.val t.isLt).2 j = (0 : EReal) + ∑ b : Fin 1024, lanes (V m c main_v3) (V m c main_v7) (j 0) (j 1) (col t b) := by
  have ht := lt t
  obtain ⟨a, k, rfl⟩ : ∃ (a : Fin 2080) (k : Fin 512), j = ix2 a k := ⟨j 0, j 1, eq_ix2 j⟩
  rw [outsAt0_A m c t h0 (by omega) (by omega), zero_add]
  frame_out
  refine (pay2_at _ _ _ _).trans ?_
  refine Finset.sum_congr rfl fun b _ => congrArg₂ (· * ·) ?_ ?_ <;> blk_point [iblk, idx t]

/-- Every later grid point adds to it. -/
theorem left_B (t : Fin cfg0.N) (h0 : ¬t.val % 4 = 0) (j : S2080x512.Idx) :
    (outsAt0 m c t.val t.isLt).2 j = (outsAt0 m c (t.val - 1) (Nat.lt_of_le_of_lt (Nat.sub_le _ _) t.isLt)).2 j
      + ∑ b : Fin 1024, lanes (V m c main_v3) (V m c main_v7) (j 0) (j 1) (col t b) := by
  have ht := lt t
  obtain ⟨a, k, rfl⟩ : ∃ (a : Fin 2080) (k : Fin 512), j = ix2 a k := ⟨j 0, j 1, eq_ix2 j⟩
  by_cases h2 : t.val % 4 = 3
  · rw [outsAt0_C m c t h0 (by omega) (by omega)]
    frame_out
    refine (pay3_at _ _ _ _ _).trans (congrArg₂ (fun x y : EReal => x + y) (congrFun (Memref.IsWhole.read_unread _ _) (ix2 a k)) ?_)
    refine Finset.sum_congr rfl fun b _ => congrArg₂ (· * ·) ?_ ?_ <;> blk_point [iblk, idx t]
  · rw [outsAt0_B m c t h0 (by omega) (by omega)]
    frame_out
    refine (pay3_at _ _ _ _ _).trans (congrArg₂ (fun x y : EReal => x + y) (congrFun (Memref.IsWhole.read_unread _ _) (ix2 a k)) ?_)
    refine Finset.sum_congr rfl fun b _ => congrArg₂ (· * ·) ?_ ?_ <;> blk_point [iblk, idx t]

/-- The sum after the last grid point. -/
theorem left_last (a : Fin 2080) (k : Fin 512) :
    (outsAt0 m c tl.val tl.isLt).2 (ix2 a k) = ∑ z : Fin 4096, lanes (V m c main_v3) (V m c main_v7) a k z := by
  rw [Pipeline.eq_sum_fin_of_reset_step_apply_last (fun n h => (outsAt0 m c n h).2) 4 (fun _ => (0 : EReal))
    (fun t j => ∑ b : Fin 1024, lanes (V m c main_v3) (V m c main_v7) (j 0) (j 1) (col t b)) (left_A m c) (left_B m c) (le_of_eq N_0) tl (N_0 : cfg0.N = 4).symm (ix2 a k)]
  refine (zero_add _).trans ?_
  exact sum_cols fun z => lanes (V m c main_v3) (V m c main_v7) a k z

/-- What is written at the last grid point. -/
theorem out_last : (outsAt0 m c tl.val tl.isLt).1 = (outsAt0 m c tl.val tl.isLt).2 := by
  rw [outsAt0_C m c tl (by decide) (by decide) (by decide)]
  frame_out

/-- The call's result. -/
theorem back2 : (dats m 0 c).arrAt 2 cfg0.N = backArr (V m c main_v3) (V m c main_v7) := by
  refine (dats m 0 c).arrAt_eq_of_after_last 2 tl (by decide +kernel) _ fun j => ?_
  blk_simp
  rw [after0_2]
  obtain ⟨a, k, rfl⟩ : ∃ (a : Fin 2080) (k : Fin 512), j = ix2 a k := ⟨j 0, j 1, eq_ix2 j⟩
  exact (congrFun (out_last m c) (ix2 a k)).trans (left_last m c a k)

/-- The cotangent as the call takes it. -/
theorem V_v3 : V m c main_v3 = padQ (narrow (m ((c.tc : Thread nD τ).loc main_arg0))) := by
  after_reads_simp
  try rfl

/-- The weight as the call takes it. -/
theorem V_v7 : V m c main_v7 = padW (narrow (m ((c.tc : Thread nD τ).loc main_arg1))) := by
  after_reads_simp
  try rfl

end Cert.Kernel17Ideal.Value

namespace Cert.Reference17Ideal.Value

open Cert.Reference17Ideal Cert.Reference17Ideal.Gen Idealize.ShloMosaic Idealize.ShloMosaic.TcCoe Idealize.SL.Sem Idealize.ShloMosaic.StableHlo
open Cert.Kernel17Ideal.Value (backArr padQ padQ_at padW padW_at)
open Cert.Kernel2Ideal.Value (narrow narrow_at)
open scoped BigOperators

/-- The rows' cotangent. -/
def backR (X : Vec Ideal S2080x3072 .f32) (W : Vec Ideal S512x3072 .f32) : Vec Ideal S2080x512 .f32 :=
  Host.dotGeneral (F := Ideal) (φ₁ := .f32) (φ₂ := .f32) dot_S2080x3072_S512x3072_S2080x512_1_1_0_0_n_n none X W

/-- It at an index. -/
theorem backR_at (X : Vec Ideal S2080x3072 .f32) (W : Vec Ideal S512x3072 .f32) (r : Fin 2080) (k : Fin 512) :
    backR X W (ix2 r k) = ∑ z : Fin 3072, X (ix2 r z) * W (ix2 k z) := by
  pointwise [backR]

/-- A padded cotangent's lane is the cotangent's. -/
theorem padQ_lane (X : Vec Ideal S2080x3072 .bf16) (r : Fin 2080) (q : Fin 3072) : padQ X (ix2 r (Cert.HeadPad.lane192 q)) = X (ix2 r q) := by
  have e : (Cert.HeadPad.lane192 q).val = q.val / 192 * 256 + q.val % 192 := rfl
  rw [padQ_at, dif_pos (by omega)]
  exact congrArg (fun z => X (ix2 r z)) (Fin.ext (show (Cert.HeadPad.lane192 q).val / 256 * 192 + (Cert.HeadPad.lane192 q).val % 256 = q.val by omega))

/-- A padded weight's lane is the weight's. -/
theorem padW_lane (W : Vec Ideal S512x3072 .bf16) (r : Fin 512) (q : Fin 3072) : padW W (ix2 r (Cert.HeadPad.lane192 q)) = W (ix2 r q) := by
  have e : (Cert.HeadPad.lane192 q).val = q.val / 192 * 256 + q.val % 192 := rfl
  rw [padW_at, dif_pos (by omega)]
  exact congrArg (fun z => W (ix2 r z)) (Fin.ext (show (Cert.HeadPad.lane192 q).val / 256 * 192 + (Cert.HeadPad.lane192 q).val % 256 = q.val by omega))

/-- It is the call's result. -/
theorem back_res (X : Vec Ideal S2080x3072 .f32) (W : Vec Ideal S512x3072 .f32) : backR X W = backArr (padQ (narrow X)) (padW (narrow W)) := by
  funext i
  obtain ⟨r, k, rfl⟩ : ∃ (r : Fin 2080) (k : Fin 512), i = ix2 r k := ⟨i 0, i 1, eq_ix2 i⟩
  refine (backR_at X W r k).trans ?_
  refine (Cert.HeadPad.sum_heads192 _ (fun z => padQ (narrow X) (ix2 r z) * padW (narrow W) (ix2 k z)) (fun q => ?_) fun z hz => ?_).symm
  · exact (congrArg₂ (fun x y : EReal => x * y) (padQ_lane (narrow X) r q) (padW_lane (narrow W) k q)).symm
  · exact (congrArg (fun x : EReal => x * padW (narrow W) (ix2 k z)) ((padQ_at (narrow X) r z).trans (dif_neg hz))).trans (zero_mul _)

end Cert.Reference17Ideal.Value

namespace Cert.Proof.Qkv

open Idealize.ShloMosaic Idealize.SL.Sem

/-- The reference runs, leaves its arguments, and has no semaphores. -/
theorem reference_frame17 : Cert.quiescent_Reference17Ideal := fun m g _ =>
  (θ_run _ _ _).mono (fun r h => ⟨fun c => (h c).2, sem_eq_zero_of_no_sems (by decide) r.2⟩) (Cert.Reference17Ideal.Value.run (F := Ideal) m g)

open Cert.Kernel17Ideal.Value in
/-- The two programs end with the same cotangent. -/
theorem algebraic17 : Cert.algebraic_Kernel17Ideal_Reference17Ideal := by
  intro m g m' g' _ hargs
  refine ⟨fun c => backArr (padQ (Cert.Kernel2Ideal.Value.narrow (m (c, Proc.tc.devRef Cert.Kernel17Ideal.main_arg0)))) (padW (Cert.Kernel2Ideal.Value.narrow (m (c, Proc.tc.devRef Cert.Kernel17Ideal.main_arg1)))), ?_, ?_⟩
  · refine (θ_run _ _ _).mono (fun r h c => ?_) (Cert.Kernel17Ideal.Value.run_blocks m g)
    obtain ⟨r0, rest⟩ := h c
    exact ⟨r0.trans ((Cert.Kernel17Ideal.Value.back2 m c).trans (by rw [Cert.Kernel17Ideal.Value.V_v3, Cert.Kernel17Ideal.Value.V_v7])), rest⟩
  · refine (θ_run _ _ _).mono (fun r h c => ?_) (Cert.Reference17Ideal.Value.run m' g')
    obtain ⟨e0, e1⟩ := hargs c
    obtain ⟨r0, rest⟩ := h c
    rw [e0, e1] at r0
    exact ⟨r0.trans (Cert.Reference17Ideal.Value.back_res _ _), rest⟩

end Cert.Proof.Qkv

end
-- ==== Proof.KBack.lean ====
module

public import proofs.«01_k».proof.Defs
public import proofs.«01_k».proof.Proof.Gen.Kernel18Ideal.Value
public import proofs.«01_k».proof.Proof.Gen.Reference18Ideal.Run
public import proofs.«01_k».proof.Proof.FfnRun
public import proofs.«01_k».proof.Proof.HeadPad
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Kernel18Ideal.Value

open Cert.Kernel18Ideal Cert.Kernel18Ideal.Gen Idealize.ShloMosaic Idealize.ShloMosaic.TcCoe Idealize.SL.Sem Idealize.ShloMosaic.StableHlo
open Cert.Kernel2Ideal.Value (narrow narrow_at)
open scoped BigOperators

/-- The cotangent as the call takes it: each head of 128 lanes padded to 256. -/
def padQ (X : Vec Ideal S2080x2048 .bf16) : Vec Ideal S2080x4096 .bf16 :=
  shapeCast S2080x4096 (pad S2080x16x256 ![0, 0, 0] ![0, 0, 128] ![0, 0, 0] (shapeCast S2080x16x128 X shapeCasts_S2080x2048_S2080x16x128) (sitofp (F := Ideal) .bf16 (constantI S_ 32 0#32)) pads_S2080x16x128_S2080x16x256_000_000_01280 h_S_) shapeCasts_S2080x16x256_S2080x4096

/-- Its entries. -/
theorem padQ_at (X : Vec Ideal S2080x2048 .bf16) (r : Fin 2080) (j : Fin 4096) :
    padQ X (ix2 r j) = if h : j.val % 256 < 128 then X (ix2 r ⟨j.val / 256 * 128 + j.val % 256, by omega⟩) else 0 := by
  pointwise [padQ]
  by_cases h : j.val % 256 < 128
  · rw [dif_pos h, dif_pos ⟨by omega, h⟩]
  · rw [dif_neg h, dif_neg fun hh => h hh.2]
    exact sitofp_zero (φ := .bf16)

/-- The weight as the call takes it: each head of 128 lanes padded to 256. -/
def padW (X : Vec Ideal S512x2048 .bf16) : Vec Ideal S512x4096 .bf16 :=
  shapeCast S512x4096 (pad S512x16x256 ![0, 0, 0] ![0, 0, 128] ![0, 0, 0] (shapeCast S512x16x128 X shapeCasts_S512x2048_S512x16x128) (sitofp (F := Ideal) .bf16 (constantI S_ 32 0#32)) pads_S512x16x128_S512x16x256_000_000_01280 h_S_) shapeCasts_S512x16x256_S512x4096

/-- Its entries. -/
theorem padW_at (X : Vec Ideal S512x2048 .bf16) (r : Fin 512) (j : Fin 4096) :
    padW X (ix2 r j) = if h : j.val % 256 < 128 then X (ix2 r ⟨j.val / 256 * 128 + j.val % 256, by omega⟩) else 0 := by
  pointwise [padW]
  by_cases h : j.val % 256 < 128
  · rw [dif_pos h, dif_pos ⟨by omega, h⟩]
  · rw [dif_neg h, dif_neg fun hh => h hh.2]
    exact sitofp_zero (φ := .bf16)

/-- The product of rows with a weight's rows. -/
def backArr (X : Vec Ideal S2080x4096 .bf16) (W : Vec Ideal S512x4096 .bf16) : Vec Ideal S2080x512 .f32 :=
  fun i => ∑ z : Fin 4096, X (ix2 (i 0) z) * W (ix2 (i 1) z)

/-- What one column adds to an entry of the product. -/
abbrev lanes (X : Vec Ideal S2080x4096 .bf16) (W : Vec Ideal S512x4096 .bf16) (a : Fin 2080) (k : Fin 512) (z : Fin 4096) : EReal :=
  X (ix2 a z) * W (ix2 k z)

/-- Where each window's block lies. -/
theorem idx : ∀ t : Fin cfg0.N, win0_0.index t = ![0, t.val] ∧ win0_1.index t = ![0, t.val] ∧ win0_2.index t = ![0, 0] :=
  (by decide +kernel : ∀ t : Fin grid0.N, _)

/-- The number of grid points. -/
theorem lt (t : Fin cfg0.N) : t.val < 4 := Nat.lt_of_lt_of_eq t.isLt (N_0 : cfg0.N = 4)

/-- The last grid point. -/
abbrev tl : Fin cfg0.N := ⟨3, lt_of_lt_of_eq (by decide) N_0.symm⟩

/-- The columns a grid point works on. -/
abbrev col (t : Fin cfg0.N) (b : Fin 1024) : Fin 4096 := ⟨t.val * 1024 + b.val, by have := lt t; omega⟩

/-- A sum over all columns, grid point by grid point. -/
theorem sum_cols (f : Fin 4096 → EReal) : ∑ t : Fin cfg0.N, ∑ b : Fin 1024, f (col t b) = ∑ z : Fin 4096, f z := by
  refine (Fintype.sum_prod_type' fun (t : Fin cfg0.N) (b : Fin 1024) => f (col t b)).symm.trans ?_
  refine (Fintype.sum_equiv ((finCongr (N_0 : cfg0.N = 4)).prodCongr (Equiv.refl (Fin 1024))) _ (fun x : Fin 4 × Fin 1024 => f (finProdFinEquiv x)) fun x => ?_).trans
    (Fintype.sum_equiv finProdFinEquiv _ _ fun x => rfl)
  refine congrArg f (Fin.ext ?_)
  show x.1.val * 1024 + x.2.val = x.2.val + 1024 * x.1.val
  omega

/-- A grid point's product at an entry. -/
theorem pay2_at (X : Vec Ideal S2080x1024 .bf16) (W : Vec Ideal S512x1024 .bf16) (a : Fin 2080) (k : Fin 512) :
    (k0_pay2 X W : Vec Ideal S2080x512 .f32) (ix2 a k) = ∑ b : Fin 1024, X (ix2 a b) * W (ix2 k b) := by
  pointwise [k0_pay2, k0_pay1]

/-- A grid point's product at an entry, added to what was there. -/
theorem pay3_at (X : Vec Ideal S2080x1024 .bf16) (W : Vec Ideal S512x1024 .bf16) (Z : Vec Ideal S2080x512 .f32) (a : Fin 2080) (k : Fin 512) :
    (k0_pay3 X W Z : Vec Ideal S2080x512 .f32) (ix2 a k) = Z (ix2 a k) + ∑ b : Fin 1024, X (ix2 a b) * W (ix2 k b) := by
  pointwise [k0_pay3, k0_pay1]

variable (m : (ℓ : Loc nD τ sig) → Buf (Elt Ideal) ℓ) (c : Dev nD)

/-- The first grid point starts the sum. -/
theorem left_A (t : Fin cfg0.N) (h0 : t.val % 4 = 0) (j : S2080x512.Idx) :
    (outsAt0 m c t.val t.isLt).2 j = (0 : EReal) + ∑ b : Fin 1024, lanes (V m c main_v3) (V m c main_v7) (j 0) (j 1) (col t b) := by
  have ht := lt t
  obtain ⟨a, k, rfl⟩ : ∃ (a : Fin 2080) (k : Fin 512), j = ix2 a k := ⟨j 0, j 1, eq_ix2 j⟩
  rw [outsAt0_A m c t h0 (by omega) (by omega), zero_add]
  frame_out
  refine (pay2_at _ _ _ _).trans ?_
  refine Finset.sum_congr rfl fun b _ => congrArg₂ (· * ·) ?_ ?_ <;> blk_point [iblk, idx t]

/-- Every later grid point adds to it. -/
theorem left_B (t : Fin cfg0.N) (h0 : ¬t.val % 4 = 0) (j : S2080x512.Idx) :
    (outsAt0 m c t.val t.isLt).2 j = (outsAt0 m c (t.val - 1) (Nat.lt_of_le_of_lt (Nat.sub_le _ _) t.isLt)).2 j
      + ∑ b : Fin 1024, lanes (V m c main_v3) (V m c main_v7) (j 0) (j 1) (col t b) := by
  have ht := lt t
  obtain ⟨a, k, rfl⟩ : ∃ (a : Fin 2080) (k : Fin 512), j = ix2 a k := ⟨j 0, j 1, eq_ix2 j⟩
  by_cases h2 : t.val % 4 = 3
  · rw [outsAt0_C m c t h0 (by omega) (by omega)]
    frame_out
    refine (pay3_at _ _ _ _ _).trans (congrArg₂ (fun x y : EReal => x + y) (congrFun (Memref.IsWhole.read_unread _ _) (ix2 a k)) ?_)
    refine Finset.sum_congr rfl fun b _ => congrArg₂ (· * ·) ?_ ?_ <;> blk_point [iblk, idx t]
  · rw [outsAt0_B m c t h0 (by omega) (by omega)]
    frame_out
    refine (pay3_at _ _ _ _ _).trans (congrArg₂ (fun x y : EReal => x + y) (congrFun (Memref.IsWhole.read_unread _ _) (ix2 a k)) ?_)
    refine Finset.sum_congr rfl fun b _ => congrArg₂ (· * ·) ?_ ?_ <;> blk_point [iblk, idx t]

/-- The sum after the last grid point. -/
theorem left_last (a : Fin 2080) (k : Fin 512) :
    (outsAt0 m c tl.val tl.isLt).2 (ix2 a k) = ∑ z : Fin 4096, lanes (V m c main_v3) (V m c main_v7) a k z := by
  rw [Pipeline.eq_sum_fin_of_reset_step_apply_last (fun n h => (outsAt0 m c n h).2) 4 (fun _ => (0 : EReal))
    (fun t j => ∑ b : Fin 1024, lanes (V m c main_v3) (V m c main_v7) (j 0) (j 1) (col t b)) (left_A m c) (left_B m c) (le_of_eq N_0) tl (N_0 : cfg0.N = 4).symm (ix2 a k)]
  refine (zero_add _).trans ?_
  exact sum_cols fun z => lanes (V m c main_v3) (V m c main_v7) a k z

/-- What is written at the last grid point. -/
theorem out_last : (outsAt0 m c tl.val tl.isLt).1 = (outsAt0 m c tl.val tl.isLt).2 := by
  rw [outsAt0_C m c tl (by decide) (by decide) (by decide)]
  frame_out

/-- The call's result. -/
theorem back2 : (dats m 0 c).arrAt 2 cfg0.N = backArr (V m c main_v3) (V m c main_v7) := by
  refine (dats m 0 c).arrAt_eq_of_after_last 2 tl (by decide +kernel) _ fun j => ?_
  blk_simp
  rw [after0_2]
  obtain ⟨a, k, rfl⟩ : ∃ (a : Fin 2080) (k : Fin 512), j = ix2 a k := ⟨j 0, j 1, eq_ix2 j⟩
  exact (congrFun (out_last m c) (ix2 a k)).trans (left_last m c a k)

/-- The cotangent as the call takes it. -/
theorem V_v3 : V m c main_v3 = padQ (narrow (m ((c.tc : Thread nD τ).loc main_arg0))) := by
  after_reads_simp
  try rfl

/-- The weight as the call takes it. -/
theorem V_v7 : V m c main_v7 = padW (narrow (m ((c.tc : Thread nD τ).loc main_arg1))) := by
  after_reads_simp
  try rfl

end Cert.Kernel18Ideal.Value

namespace Cert.Reference18Ideal.Value

open Cert.Reference18Ideal Cert.Reference18Ideal.Gen Idealize.ShloMosaic Idealize.ShloMosaic.TcCoe Idealize.SL.Sem Idealize.ShloMosaic.StableHlo
open Cert.Kernel18Ideal.Value (backArr padQ padQ_at padW padW_at)
open Cert.Kernel2Ideal.Value (narrow narrow_at)
open scoped BigOperators

/-- The rows' cotangent. -/
def backR (X : Vec Ideal S2080x2048 .f32) (W : Vec Ideal S512x2048 .f32) : Vec Ideal S2080x512 .f32 :=
  Host.dotGeneral (F := Ideal) (φ₁ := .f32) (φ₂ := .f32) dot_S2080x2048_S512x2048_S2080x512_1_1_0_0_n_n none X W

/-- It at an index. -/
theorem backR_at (X : Vec Ideal S2080x2048 .f32) (W : Vec Ideal S512x2048 .f32) (r : Fin 2080) (k : Fin 512) :
    backR X W (ix2 r k) = ∑ z : Fin 2048, X (ix2 r z) * W (ix2 k z) := by
  pointwise [backR]

/-- A padded cotangent's lane is the cotangent's. -/
theorem padQ_lane (X : Vec Ideal S2080x2048 .bf16) (r : Fin 2080) (q : Fin 2048) : padQ X (ix2 r (Cert.HeadPad.lane128 q)) = X (ix2 r q) := by
  have e : (Cert.HeadPad.lane128 q).val = q.val / 128 * 256 + q.val % 128 := rfl
  rw [padQ_at, dif_pos (by omega)]
  exact congrArg (fun z => X (ix2 r z)) (Fin.ext (show (Cert.HeadPad.lane128 q).val / 256 * 128 + (Cert.HeadPad.lane128 q).val % 256 = q.val by omega))

/-- A padded weight's lane is the weight's. -/
theorem padW_lane (W : Vec Ideal S512x2048 .bf16) (r : Fin 512) (q : Fin 2048) : padW W (ix2 r (Cert.HeadPad.lane128 q)) = W (ix2 r q) := by
  have e : (Cert.HeadPad.lane128 q).val = q.val / 128 * 256 + q.val % 128 := rfl
  rw [padW_at, dif_pos (by omega)]
  exact congrArg (fun z => W (ix2 r z)) (Fin.ext (show (Cert.HeadPad.lane128 q).val / 256 * 128 + (Cert.HeadPad.lane128 q).val % 256 = q.val by omega))

/-- It is the call's result. -/
theorem back_res (X : Vec Ideal S2080x2048 .f32) (W : Vec Ideal S512x2048 .f32) : backR X W = backArr (padQ (narrow X)) (padW (narrow W)) := by
  funext i
  obtain ⟨r, k, rfl⟩ : ∃ (r : Fin 2080) (k : Fin 512), i = ix2 r k := ⟨i 0, i 1, eq_ix2 i⟩
  refine (backR_at X W r k).trans ?_
  refine (Cert.HeadPad.sum_heads128 _ (fun z => padQ (narrow X) (ix2 r z) * padW (narrow W) (ix2 k z)) (fun q => ?_) fun z hz => ?_).symm
  · exact (congrArg₂ (fun x y : EReal => x * y) (padQ_lane (narrow X) r q) (padW_lane (narrow W) k q)).symm
  · exact (congrArg (fun x : EReal => x * padW (narrow W) (ix2 k z)) ((padQ_at (narrow X) r z).trans (dif_neg hz))).trans (zero_mul _)

end Cert.Reference18Ideal.Value

namespace Cert.Proof.Qkv

open Idealize.ShloMosaic Idealize.SL.Sem

/-- The reference runs, leaves its arguments, and has no semaphores. -/
theorem reference_frame18 : Cert.quiescent_Reference18Ideal := fun m g _ =>
  (θ_run _ _ _).mono (fun r h => ⟨fun c => (h c).2, sem_eq_zero_of_no_sems (by decide) r.2⟩) (Cert.Reference18Ideal.Value.run (F := Ideal) m g)

open Cert.Kernel18Ideal.Value in
/-- The two programs end with the same cotangent. -/
theorem algebraic18 : Cert.algebraic_Kernel18Ideal_Reference18Ideal := by
  intro m g m' g' _ hargs
  refine ⟨fun c => backArr (padQ (Cert.Kernel2Ideal.Value.narrow (m (c, Proc.tc.devRef Cert.Kernel18Ideal.main_arg0)))) (padW (Cert.Kernel2Ideal.Value.narrow (m (c, Proc.tc.devRef Cert.Kernel18Ideal.main_arg1)))), ?_, ?_⟩
  · refine (θ_run _ _ _).mono (fun r h c => ?_) (Cert.Kernel18Ideal.Value.run_blocks m g)
    obtain ⟨r0, rest⟩ := h c
    exact ⟨r0.trans ((Cert.Kernel18Ideal.Value.back2 m c).trans (by rw [Cert.Kernel18Ideal.Value.V_v3, Cert.Kernel18Ideal.Value.V_v7])), rest⟩
  · refine (θ_run _ _ _).mono (fun r h c => ?_) (Cert.Reference18Ideal.Value.run m' g')
    obtain ⟨e0, e1⟩ := hargs c
    obtain ⟨r0, rest⟩ := h c
    rw [e0, e1] at r0
    exact ⟨r0.trans (Cert.Reference18Ideal.Value.back_res _ _), rest⟩

end Cert.Proof.Qkv

end
-- ==== Proof.ValBack.lean ====
module

public import proofs.«01_k».proof.Defs
public import proofs.«01_k».proof.Proof.Gen.Kernel19Ideal.Value
public import proofs.«01_k».proof.Proof.Gen.Reference19Ideal.Run
public import proofs.«01_k».proof.Proof.FfnRun
public import Idealize.ShloMosaic.Lib.Claim
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Kernel19Ideal.Value

open Cert.Kernel19Ideal Cert.Kernel19Ideal.Gen Idealize.ShloMosaic Idealize.ShloMosaic.TcCoe Idealize.SL.Sem Idealize.ShloMosaic.StableHlo
open Cert.Kernel2Ideal.Value (narrow narrow_at)
open scoped BigOperators

/-- The product of rows with a weight's rows, added to what is given. -/
def backArr (X : Vec Ideal S2080x2048 .bf16) (W : Vec Ideal S512x2048 .bf16) (R : Vec Ideal S2080x512 .f32) : Vec Ideal S2080x512 .f32 :=
  fun i => (∑ z : Fin 2048, X (ix2 (i 0) z) * W (ix2 (i 1) z)) + R i

/-- What one column adds to an entry of the product. -/
abbrev lanes (X : Vec Ideal S2080x2048 .bf16) (W : Vec Ideal S512x2048 .bf16) (a : Fin 2080) (k : Fin 512) (z : Fin 2048) : EReal :=
  X (ix2 a z) * W (ix2 k z)

/-- Where each window's block lies. -/
theorem idx : ∀ t : Fin cfg0.N, win0_0.index t = ![0, t.val] ∧ win0_1.index t = ![0, t.val] ∧ win0_2.index t = ![0, 0] :=
  (by decide +kernel : ∀ t : Fin grid0.N, _)

/-- The number of grid points. -/
theorem lt (t : Fin cfg0.N) : t.val < 2 := Nat.lt_of_lt_of_eq t.isLt (N_0 : cfg0.N = 2)

/-- The last grid point. -/
abbrev tl : Fin cfg0.N := ⟨1, lt_of_lt_of_eq (by decide) N_0.symm⟩

/-- The columns a grid point works on. -/
abbrev col (t : Fin cfg0.N) (b : Fin 1024) : Fin 2048 := ⟨t.val * 1024 + b.val, by have := lt t; omega⟩

/-- A sum over all columns, grid point by grid point. -/
theorem sum_cols (f : Fin 2048 → EReal) : ∑ t : Fin cfg0.N, ∑ b : Fin 1024, f (col t b) = ∑ z : Fin 2048, f z := by
  refine (Fintype.sum_prod_type' fun (t : Fin cfg0.N) (b : Fin 1024) => f (col t b)).symm.trans ?_
  refine (Fintype.sum_equiv ((finCongr (N_0 : cfg0.N = 2)).prodCongr (Equiv.refl (Fin 1024))) _ (fun x : Fin 2 × Fin 1024 => f (finProdFinEquiv x)) fun x => ?_).trans
    (Fintype.sum_equiv finProdFinEquiv _ _ fun x => rfl)
  refine congrArg f (Fin.ext ?_)
  show x.1.val * 1024 + x.2.val = x.2.val + 1024 * x.1.val
  omega

/-- A grid point's product at an entry. -/
theorem pay2_at (X : Vec Ideal S2080x1024 .bf16) (W : Vec Ideal S512x1024 .bf16) (a : Fin 2080) (k : Fin 512) :
    (k0_pay2 X W : Vec Ideal S2080x512 .f32) (ix2 a k) = ∑ b : Fin 1024, X (ix2 a b) * W (ix2 k b) := by
  pointwise [k0_pay2, k0_pay1]

/-- A grid point's product at an entry, added to what was there. -/
theorem pay3_at (X : Vec Ideal S2080x1024 .bf16) (W : Vec Ideal S512x1024 .bf16) (Z : Vec Ideal S2080x512 .f32) (a : Fin 2080) (k : Fin 512) :
    (k0_pay3 X W Z : Vec Ideal S2080x512 .f32) (ix2 a k) = Z (ix2 a k) + ∑ b : Fin 1024, X (ix2 a b) * W (ix2 k b) := by
  pointwise [k0_pay3, k0_pay1]

variable (m : (ℓ : Loc nD τ sig) → Buf (Elt Ideal) ℓ) (c : Dev nD)

/-- The first grid point starts the sum. -/
theorem left_A (t : Fin cfg0.N) (h0 : t.val % 2 = 0) (j : S2080x512.Idx) :
    (outsAt0 m c t.val t.isLt).2 j = (0 : EReal) + ∑ b : Fin 1024, lanes (V m c main_v0) (V m c main_v1) (j 0) (j 1) (col t b) := by
  have ht := lt t
  obtain ⟨a, k, rfl⟩ : ∃ (a : Fin 2080) (k : Fin 512), j = ix2 a k := ⟨j 0, j 1, eq_ix2 j⟩
  rw [outsAt0_A m c t h0 (by omega) (by omega), zero_add]
  frame_out
  refine (pay2_at _ _ _ _).trans ?_
  refine Finset.sum_congr rfl fun b _ => congrArg₂ (· * ·) ?_ ?_ <;> blk_point [iblk, idx t]

/-- Every later grid point adds to it. -/
theorem left_B (t : Fin cfg0.N) (h0 : ¬t.val % 2 = 0) (j : S2080x512.Idx) :
    (outsAt0 m c t.val t.isLt).2 j = (outsAt0 m c (t.val - 1) (Nat.lt_of_le_of_lt (Nat.sub_le _ _) t.isLt)).2 j
      + ∑ b : Fin 1024, lanes (V m c main_v0) (V m c main_v1) (j 0) (j 1) (col t b) := by
  have ht := lt t
  obtain ⟨a, k, rfl⟩ : ∃ (a : Fin 2080) (k : Fin 512), j = ix2 a k := ⟨j 0, j 1, eq_ix2 j⟩
  rw [outsAt0_B m c t h0 (by omega) (by omega)]
  frame_out
  refine (pay3_at _ _ _ _ _).trans (congrArg₂ (fun x y : EReal => x + y) (congrFun (Memref.IsWhole.read_unread _ _) (ix2 a k)) ?_)
  refine Finset.sum_congr rfl fun b _ => congrArg₂ (· * ·) ?_ ?_ <;> blk_point [iblk, idx t]

/-- The sum after the last grid point. -/
theorem left_last (a : Fin 2080) (k : Fin 512) :
    (outsAt0 m c tl.val tl.isLt).2 (ix2 a k) = ∑ z : Fin 2048, lanes (V m c main_v0) (V m c main_v1) a k z := by
  rw [Pipeline.eq_sum_fin_of_reset_step_apply_last (fun n h => (outsAt0 m c n h).2) 2 (fun _ => (0 : EReal))
    (fun t j => ∑ b : Fin 1024, lanes (V m c main_v0) (V m c main_v1) (j 0) (j 1) (col t b)) (left_A m c) (left_B m c) (le_of_eq N_0) tl (N_0 : cfg0.N = 2).symm (ix2 a k)]
  refine (zero_add _).trans ?_
  exact sum_cols fun z => lanes (V m c main_v0) (V m c main_v1) a k z

/-- What is written at the last grid point. -/
theorem out_last (j : S2080x512.Idx) : (outsAt0 m c tl.val tl.isLt).1 j = (outsAt0 m c tl.val tl.isLt).2 j + m ((c.tc : Thread nD τ).loc main_arg2) j := by
  obtain ⟨a, k, rfl⟩ : ∃ (a : Fin 2080) (k : Fin 512), j = ix2 a k := ⟨j 0, j 1, eq_ix2 j⟩
  rw [outsAt0_B m c tl (by decide) (by decide) (by decide)]
  frame_out
  refine congrArg₂ (fun x y : EReal => x + y) rfl ?_
  refine Eq.trans (b := V m c main_arg2 (ix2 a k)) ?_ (congrFun (V_main_arg2 m c) (ix2 a k))
  blk_point [iblk, idx tl]

/-- The call's result. -/
theorem back3 : (dats m 0 c).arrAt 3 cfg0.N = backArr (V m c main_v0) (V m c main_v1) (m ((c.tc : Thread nD τ).loc main_arg2)) := by
  refine (dats m 0 c).arrAt_eq_of_after_last 3 tl (by decide +kernel) _ fun j => ?_
  blk_simp
  rw [after0_3]
  obtain ⟨a, k, rfl⟩ : ∃ (a : Fin 2080) (k : Fin 512), j = ix2 a k := ⟨j 0, j 1, eq_ix2 j⟩
  exact (out_last m c (ix2 a k)).trans (congrArg (fun x : EReal => x + m ((c.tc : Thread nD τ).loc main_arg2) (ix2 a k)) (left_last m c a k))

/-- The cotangent as the call takes it. -/
theorem V_v0 : V m c main_v0 = narrow (m ((c.tc : Thread nD τ).loc main_arg0)) := by
  after_reads_simp
  try rfl

/-- The weight as the call takes it. -/
theorem V_v1 : V m c main_v1 = narrow (m ((c.tc : Thread nD τ).loc main_arg1)) := by
  after_reads_simp
  try rfl

end Cert.Kernel19Ideal.Value

namespace Cert.Reference19Ideal.Value

open Cert.Reference19Ideal Cert.Reference19Ideal.Gen Idealize.ShloMosaic Idealize.ShloMosaic.TcCoe Idealize.SL.Sem Idealize.ShloMosaic.StableHlo
open Cert.Kernel19Ideal.Value (backArr)
open Cert.Kernel2Ideal.Value (narrow narrow_at)
open scoped BigOperators

/-- The rows' cotangent, added to what is given. -/
def backR (X : Vec Ideal S2080x2048 .f32) (W : Vec Ideal S512x2048 .f32) (R : Vec Ideal S2080x512 .f32) : Vec Ideal S2080x512 .f32 :=
  addf (F := Ideal) (φ := .f32) (Host.dotGeneral (F := Ideal) (φ₁ := .f32) (φ₂ := .f32) dot_S2080x2048_S512x2048_S2080x512_1_1_0_0_n_n none X W) R

/-- It at an index. -/
theorem backR_at (X : Vec Ideal S2080x2048 .f32) (W : Vec Ideal S512x2048 .f32) (R : Vec Ideal S2080x512 .f32) (r : Fin 2080) (k : Fin 512) :
    backR X W R (ix2 r k) = (∑ z : Fin 2048, X (ix2 r z) * W (ix2 k z)) + R (ix2 r k) := by
  pointwise [backR]

/-- It is the call's result. -/
theorem back_res (X : Vec Ideal S2080x2048 .f32) (W : Vec Ideal S512x2048 .f32) (R : Vec Ideal S2080x512 .f32) : backR X W R = backArr (narrow X) (narrow W) R := by
  funext i
  obtain ⟨r, k, rfl⟩ : ∃ (r : Fin 2080) (k : Fin 512), i = ix2 r k := ⟨i 0, i 1, eq_ix2 i⟩
  exact backR_at X W R r k

end Cert.Reference19Ideal.Value

namespace Cert.Proof.Qkv

open Idealize.ShloMosaic Idealize.SL.Sem

/-- The reference runs, leaves its arguments, and has no semaphores. -/
theorem reference_frame19 : Cert.quiescent_Reference19Ideal := fun m g _ =>
  (θ_run _ _ _).mono (fun r h => ⟨fun c => (h c).2, sem_eq_zero_of_no_sems (by decide) r.2⟩) (Cert.Reference19Ideal.Value.run (F := Ideal) m g)

open Cert.Kernel19Ideal.Value in
/-- The two programs end with the same cotangent. -/
theorem algebraic19 : Cert.algebraic_Kernel19Ideal_Reference19Ideal := by
  intro m g m' g' _ hargs
  refine ⟨fun c => backArr (Cert.Kernel2Ideal.Value.narrow (m (c, Proc.tc.devRef Cert.Kernel19Ideal.main_arg0))) (Cert.Kernel2Ideal.Value.narrow (m (c, Proc.tc.devRef Cert.Kernel19Ideal.main_arg1))) (m (c, Proc.tc.devRef Cert.Kernel19Ideal.main_arg2)), ?_, ?_⟩
  · refine (θ_run _ _ _).mono (fun r h c => ?_) (Cert.Kernel19Ideal.Value.run_blocks m g)
    obtain ⟨r0, rest⟩ := h c
    exact ⟨r0.trans ((Cert.Kernel19Ideal.Value.back3 m c).trans (by rw [Cert.Kernel19Ideal.Value.V_v0, Cert.Kernel19Ideal.Value.V_v1])), rest⟩
  · refine (θ_run _ _ _).mono (fun r h c => ?_) (Cert.Reference19Ideal.Value.run m' g')
    obtain ⟨e0, e1, e2⟩ := hargs c
    obtain ⟨r0, rest⟩ := h c
    rw [e0, e1, e2] at r0
    exact ⟨r0.trans (Cert.Reference19Ideal.Value.back_res _ _ _), rest⟩

end Cert.Proof.Qkv

end
-- ==== Proof.AttnTile.lean ====
module

public import proofs.«01_k».proof.Proof.Gen.Kernel20Ideal.Value
public import proofs.«01_k».proof.Proof.Gen.Kernel20Ideal.Frame
public import proofs.«01_k».proof.Proof.Blocks
public import proofs.«01_k».proof.Proof.Canon

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Cert.Attention
open Cert.KernelIdeal.Value (canon_block unit_idx low_bot head_of lane_of sum_keys k2_parts q2_parts)
open scoped BigOperators

/-! ## One chunk of 416 queries: what the two pieces of its keys add up to -/

section
variable (A : Args) (h : Fin 16) {c : ℕ} (hb : c + 416 ≤ 2080) (x : Fin 416) (S1 : Fin c → EReal) (S2 : Fin 416 → EReal)

/-- The pieces hold the scores of query `c + x`: of the keys before `c`, and of its own chunk's keys, masked. -/
structure Pieces : Prop where
  own : ∀ j : Fin c, S1 j = ((sco A h ⟨c + x.val, by omega⟩ ⟨j.val, by omega⟩ : ℝ) : EReal)
  diag : ∀ j : Fin 416, S2 j = if j.val ≤ x.val then ((sco A h ⟨c + x.val, by omega⟩ ⟨c + j.val, by omega⟩ : ℝ) : EReal) else ⊥

variable {A h hb x S1 S2} (P : Pieces A h hb x S1 S2)
include P

/-- The largest score of the masked piece is a real number. -/
theorem diag_top : ∃ r : ℝ, Finset.univ.fold max (Ideal.ofBits FTy.f32 4286578688#32) S2 = (r : EReal) := by
  rw [low_bot]
  refine fold_max_real S2 (fun j => ?_) x ?_
  · rw [P.diag]
    split_ifs
    · exact EReal.coe_ne_top _
    · exact bot_ne_top
  · rw [P.diag, if_pos le_rfl]
    exact EReal.coe_ne_bot _

/-- The largest score of both pieces is a real number. -/
theorem both_top (hc : 0 < c) : ∃ r : ℝ, max (Finset.univ.fold max (Ideal.ofBits FTy.f32 4286578688#32) S1)
    (Finset.univ.fold max (Ideal.ofBits FTy.f32 4286578688#32) S2) = (r : EReal) := by
  obtain ⟨b, hb'⟩ := diag_top P
  rw [hb', low_bot]
  obtain ⟨a, ha⟩ := fold_max_real S1 (fun j => by rw [P.own]; exact EReal.coe_ne_top _) ⟨0, hc⟩ (by rw [P.own]; exact EReal.coe_ne_bot _)
  exact ⟨max a b, by rw [ha, EReal.coe_strictMono.monotone.map_max]⟩

/-- The weighted exponentials of both pieces add up to those of all keys. -/
theorem pieces_sum (w : Fin 2080 → ℝ) (W1 : Fin c → EReal) (W2 : Fin 416 → EReal) (h1 : ∀ j, W1 j = ((w ⟨j.val, by omega⟩ : ℝ) : EReal))
    (h2 : ∀ j, W2 j = ((w ⟨c + j.val, by omega⟩ : ℝ) : EReal)) (r : ℝ) :
    ((∑ j : Fin c, Ideal.exp (S1 j - (r : EReal)) * W1 j) + ∑ j : Fin 416, Ideal.exp (S2 j - (r : EReal)) * W2 j)
      = ((∑ j : Fin 2080, (if j.val ≤ c + x.val then Real.exp (sco A h ⟨c + x.val, by omega⟩ j - r) else 0) * w j : ℝ) : EReal) := by
  rw [coe_sum, ← sum_keys (R := c + 416) hb _ fun j hj => by rw [if_neg (by omega), zero_mul, EReal.coe_zero],
    Fin.sum_univ_add (a := c) (b := 416)]
  refine congrArg₂ (· + ·) (Finset.sum_congr rfl fun j _ => ?_) (Finset.sum_congr rfl fun j _ => ?_)
  · rw [P.own, h1, ← EReal.coe_sub, Ideal.exp_coe, ← EReal.coe_mul]
    simp only [Fin.val_castAdd]
    rw [if_pos (by omega)]
  · rw [P.diag, h2, exp_masked, ← EReal.coe_mul]
    simp only [Fin.val_natAdd]
    rw [if_congr (show c + j.val ≤ c + x.val ↔ j.val ≤ x.val by omega) rfl rfl]

/-- The exponentials of both pieces add up to the shifted sum of exponentials. -/
theorem pieces_den (r : ℝ) :
    ((∑ j : Fin c, Ideal.exp (S1 j - (r : EReal))) + ∑ j : Fin 416, Ideal.exp (S2 j - (r : EReal)))
      = ((den A h ⟨c + x.val, by omega⟩ * Real.exp (-r) : ℝ) : EReal) := by
  have e := pieces_sum P (fun _ => 1) (fun _ => 1) (fun _ => 1) (fun _ => EReal.coe_one.symm) (fun _ => EReal.coe_one.symm) r
  simp only [mul_one] at e
  rw [e, ← sum_shift]

/-- A row of the output, whatever real number was taken from the scores. -/
theorem pieces_out (e : Fin 128) (W1 : Fin c → EReal) (W2 : Fin 416 → EReal) (h1 : ∀ j, W1 j = ((A.v ⟨j.val, by omega⟩ h e : ℝ) : EReal))
    (h2 : ∀ j, W2 j = ((A.v ⟨c + j.val, by omega⟩ h e : ℝ) : EReal)) (M : EReal) (hM : ∃ r : ℝ, M = (r : EReal)) :
    Ideal.div ((∑ j : Fin c, Ideal.exp (S1 j - M) * W1 j) + ∑ j : Fin 416, Ideal.exp (S2 j - M) * W2 j)
      ((∑ j : Fin c, Ideal.exp (S1 j - M)) + ∑ j : Fin 416, Ideal.exp (S2 j - M)) = ((out A h ⟨c + x.val, by omega⟩ e : ℝ) : EReal) := by
  obtain ⟨r, rfl⟩ := hM
  rw [pieces_sum P (fun j => A.v j h e) W1 W2 h1 h2, pieces_den P,
    Ideal.div_coe (mul_pos (den_pos A h _) (Real.exp_pos _)).ne', ← EReal.coe_mul, mul_one_div, Finset.sum_div, out]
  refine congrArg _ (Finset.sum_congr rfl fun j _ => ?_)
  rw [← prob_shift A h _ j r, mul_comm (A.v j h e), div_mul_eq_mul_div]

/-- The logarithm of a row's sum of exponentials, whatever real number was taken from the scores. -/
theorem pieces_lse (M : EReal) (hM : ∃ r : ℝ, M = (r : EReal)) :
    M + Ideal.log ((∑ j : Fin c, Ideal.exp (S1 j - M)) + ∑ j : Fin 416, Ideal.exp (S2 j - M))
      = ((Real.log (den A h ⟨c + x.val, by omega⟩) : ℝ) : EReal) := by
  obtain ⟨r, rfl⟩ := hM
  rw [pieces_den P, Ideal.log_coe, if_neg (not_le.mpr (mul_pos (den_pos A h _) (Real.exp_pos _))), ← EReal.coe_add, lse_shift]
end

/-! ## The kernel's payloads, chunk by chunk -/

/-- The mask literal is named `-∞`. -/
theorem mask_bot : Named.named (F := Ideal) κ "mask" (φ := .f32) 0xF149F2CA#32 = (⊥ : EReal) :=
  IdealRules.named_const.ideal_named_scalar _ _ _ _ rfl

/-- The kernel's causal select within a chunk: key `j` is kept for query `x` when `j ≤ x`. -/
theorem sel_diag (j x : Fin 416) (a : EReal) :
    Scalar.select (IntOp.cmpi .sle (BitVec.ofNat 32 j.val) (BitVec.ofNat 32 x.val)) a
      (Named.named (F := Ideal) κ "mask" (φ := .f32) 0xF149F2CA#32) = if j.val ≤ x.val then a else ⊥ := by
  have := j.isLt
  have := x.isLt
  rw [WordCmp.cmpi_sle_ofNat (by norm_num; omega) (by norm_num; omega), mask_bot, WordCmp.select_ofBool]
  simp

/-- A head's 2080 padded query rows, key rows and value rows. -/
structure Rows (A : Args) (h : Fin 16) (Q K : Vec Ideal S2080x256 .bf16) (V : Vec Ideal S2080x128 .bf16) : Prop where
  hq : ∀ i d, Q (ix2 i d) = ((q2 A i h d : ℝ) : EReal)
  hk : ∀ i d, K (ix2 i d) = ((k2 A i h d : ℝ) : EReal)
  hv : ∀ i d, V (ix2 i d) = ((A.v i h d : ℝ) : EReal)

/-- The product of a padded query row and a padded key row is the score. -/
theorem score_coe (A : Args) (h : Fin 16) (i j : Fin 2080) :
    ∑ d : Fin 256, ((q2 A i h d : ℝ) : EReal) * ((k2 A j h d : ℝ) : EReal) = ((sco A h i j : ℝ) : EReal) := by
  rw [← score_rows, coe_sum]
  exact Finset.sum_congr rfl fun d _ => (EReal.coe_mul _ _).symm

/-- Some rows of an array, read at an index. -/
theorem ld_at {m W R r0 : ℕ} {e : EltTy} (inb : ∀ a, (![r0, 0] : Fin 2 → ℕ) a + (![R, W] : Fin 2 → ℕ) a ≤ (⟨2, ![m, W]⟩ : Shape).size a)
    (hr : r0 + R ≤ m) (X : (⟨2, ![m, W]⟩ : Shape).Idx → Elt Ideal e) (x : Fin R) (y : Fin W) :
    View.ld X (Rect.unit (s := (⟨2, ![m, W]⟩ : Shape)) ![r0, 0] ![R, W] inb) (ix2 x y) = X (ix2 ⟨r0 + x.val, by omega⟩ y) := by
  refine (congrArg X (unit_idx inb hr (by omega) x y)).trans ?_
  simp only [Nat.zero_add]

/-- The output of chunk 0 from its pieces. -/
theorem out0 {A : Args} {h : Fin 16} {Q : Vec Ideal S416x256 .bf16} {K2 : Vec Ideal S416x256 .bf16} {V2 : Vec Ideal S416x128 .bf16} {x : Fin 416} (e : Fin 128)
    (P : Pieces A h (c := 0) (by norm_num) x (fun j : Fin 0 => 0) (fun j => k0_pay2 Q K2 (ix2 x j)))
    (h2 : ∀ j : Fin 416, V2 (ix2 j e) = ((A.v ⟨0 + j.val, by omega⟩ h e : ℝ) : EReal)) :
    k0_pay6 Q K2 V2 (ix2 x e) = ((out A h ⟨0 + x.val, by omega⟩ e : ℝ) : EReal) := by
  have z := pieces_out P e (fun j => j.elim0) _ (fun j => j.elim0) h2 _ (diag_top P)
  rw [Fin.sum_univ_zero, Fin.sum_univ_zero, zero_add (_ : EReal), zero_add (_ : EReal)] at z
  refine Eq.trans ?_ z
  pointwise [k0_pay6, k0_pay5, k0_pay4, k0_pay3]

/-- The logarithms of chunk 0 from its pieces. -/
theorem lse0 {A : Args} {h : Fin 16} {Q : Vec Ideal S416x256 .bf16} {K2 : Vec Ideal S416x256 .bf16} {x : Fin 416} (e : Fin 128)
    (P : Pieces A h (c := 0) (by norm_num) x (fun j : Fin 0 => 0) (fun j => k0_pay2 Q K2 (ix2 x j))) :
    k0_pay7 Q K2 (ix2 x e) = ((Real.log (den A h ⟨0 + x.val, by omega⟩) : ℝ) : EReal) := by
  have z := pieces_lse P _ (diag_top P)
  rw [Fin.sum_univ_zero, zero_add (_ : EReal)] at z
  refine Eq.trans ?_ z
  pointwise [k0_pay7, k0_pay5, k0_pay4, k0_pay3]

/-- The pieces of chunk 0. -/
theorem pieces0 {A : Args} {h : Fin 16} {Q K : Vec Ideal S2080x256 .bf16} {V : Vec Ideal S2080x128 .bf16} (R : Rows A h Q K V) (x : Fin 416) :
    Pieces A h (c := 0) (by norm_num) x (fun j : Fin 0 => 0)
      (fun j => k0_pay2 (View.ld Q (Rect.unit (s := S2080x256) ![0, 0] S416x256.size inb_S2080x256_S416x256_0_0)) (View.ld K (Rect.unit (s := S2080x256) ![0, 0] S416x256.size inb_S2080x256_S416x256_0_0)) (ix2 x j)) where
  own j := j.elim0
  diag j := by
    rw [← score_coe]
    pointwise [k0_pay2]
    rw [sel_diag]
    exact if_congr Iff.rfl (Finset.sum_congr rfl fun d _ => congrArg₂ (· * ·) (R.hq _ d) (R.hk _ d)) rfl

end Cert.Kernel20Ideal.Value

end
-- ==== Proof.AttnTile1.lean ====
module

public import proofs.«01_k».proof.Proof.AttnTile

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Cert.Attention
open Cert.KernelIdeal.Value (canon_block unit_idx low_bot head_of lane_of sum_keys k2_parts q2_parts)
open scoped BigOperators

/-- The output of chunk 1 from its pieces. -/
theorem out1 {A : Args} {h : Fin 16} {Q : Vec Ideal S416x256 .bf16} {K1 : Vec Ideal S416x256 .bf16} {K2 : Vec Ideal S416x256 .bf16} {V1 : Vec Ideal S416x128 .bf16} {V2 : Vec Ideal S416x128 .bf16} {x : Fin 416} (e : Fin 128)
    (P : Pieces A h (c := 416) (by norm_num) x (fun j => k0_pay9 Q K1 (ix2 x j)) (fun j => k0_pay10 Q K2 (ix2 x j)))
    (h1 : ∀ j : Fin 416, V1 (ix2 j e) = ((A.v ⟨j.val, by omega⟩ h e : ℝ) : EReal)) (h2 : ∀ j : Fin 416, V2 (ix2 j e) = ((A.v ⟨416 + j.val, by omega⟩ h e : ℝ) : EReal)) :
    k0_pay15 Q K1 K2 V1 V2 (ix2 x e) = ((out A h ⟨416 + x.val, by omega⟩ e : ℝ) : EReal) := by
  pointwise [k0_pay15, k0_pay12, k0_pay13, k0_pay14, k0_pay11]
  exact pieces_out P e _ _ h1 h2 _ (both_top P (by norm_num))

/-- The logarithms of chunk 1 from its pieces. -/
theorem lse1 {A : Args} {h : Fin 16} {Q : Vec Ideal S416x256 .bf16} {K1 : Vec Ideal S416x256 .bf16} {K2 : Vec Ideal S416x256 .bf16} {x : Fin 416} (e : Fin 128)
    (P : Pieces A h (c := 416) (by norm_num) x (fun j => k0_pay9 Q K1 (ix2 x j)) (fun j => k0_pay10 Q K2 (ix2 x j))) :
    k0_pay16 (k0_pay11 Q K1 K2) (k0_pay14 Q K1 K2) (ix2 x e) = ((Real.log (den A h ⟨416 + x.val, by omega⟩) : ℝ) : EReal) := by
  pointwise [k0_pay16, k0_pay12, k0_pay13, k0_pay14, k0_pay11]
  exact pieces_lse P _ (both_top P (by norm_num))

/-- The pieces of chunk 1. -/
theorem pieces1 {A : Args} {h : Fin 16} {Q K : Vec Ideal S2080x256 .bf16} {V : Vec Ideal S2080x128 .bf16} (R : Rows A h Q K V) (x : Fin 416) :
    Pieces A h (c := 416) (by norm_num) x (fun j => k0_pay9 (k0_pay8 (View.ld Q (Rect.unit (s := S2080x256) ![416, 0] S416x256.size inb_S2080x256_S416x256_416_0))) (View.ld K (Rect.unit (s := S2080x256) ![0, 0] S416x256.size inb_S2080x256_S416x256_0_0)) (ix2 x j))
      (fun j => k0_pay10 (k0_pay8 (View.ld Q (Rect.unit (s := S2080x256) ![416, 0] S416x256.size inb_S2080x256_S416x256_416_0))) (View.ld K (Rect.unit (s := S2080x256) ![416, 0] S416x256.size inb_S2080x256_S416x256_416_0)) (ix2 x j)) where
  own j := by
    rw [← score_coe]
    pointwise [k0_pay9, k0_pay8]
    exact Finset.sum_congr rfl fun d _ => congrArg₂ (· * ·) (R.hq _ d) (R.hk _ d)
  diag j := by
    rw [← score_coe]
    pointwise [k0_pay10, k0_pay8]
    rw [sel_diag]
    exact if_congr Iff.rfl (Finset.sum_congr rfl fun d _ => congrArg₂ (· * ·) (R.hq _ d) (R.hk _ d)) rfl

/-- The output of chunk 2 from its pieces. -/
theorem out2 {A : Args} {h : Fin 16} {Q : Vec Ideal S416x256 .bf16} {K1 : Vec Ideal S832x256 .bf16} {K2 : Vec Ideal S416x256 .bf16} {V1 : Vec Ideal S832x128 .bf16} {V2 : Vec Ideal S416x128 .bf16} {x : Fin 416} (e : Fin 128)
    (P : Pieces A h (c := 832) (by norm_num) x (fun j => k0_pay18 Q K1 (ix2 x j)) (fun j => k0_pay19 Q K2 (ix2 x j)))
    (h1 : ∀ j : Fin 832, V1 (ix2 j e) = ((A.v ⟨j.val, by omega⟩ h e : ℝ) : EReal)) (h2 : ∀ j : Fin 416, V2 (ix2 j e) = ((A.v ⟨832 + j.val, by omega⟩ h e : ℝ) : EReal)) :
    k0_pay26 (k0_pay19 Q K2) (k0_pay20 Q K1 K2) (k0_pay22 Q K1 K2) (k0_pay23 Q K1 K2 V1) V2 (ix2 x e) = ((out A h ⟨832 + x.val, by omega⟩ e : ℝ) : EReal) := by
  pointwise [k0_pay26, k0_pay23, k0_pay24, k0_pay25, k0_pay20, k0_pay21, k0_pay22]
  exact pieces_out P e _ _ h1 h2 _ (both_top P (by norm_num))

/-- The logarithms of chunk 2 from its pieces. -/
theorem lse2 {A : Args} {h : Fin 16} {Q : Vec Ideal S416x256 .bf16} {K1 : Vec Ideal S832x256 .bf16} {K2 : Vec Ideal S416x256 .bf16} {x : Fin 416} (e : Fin 128)
    (P : Pieces A h (c := 832) (by norm_num) x (fun j => k0_pay18 Q K1 (ix2 x j)) (fun j => k0_pay19 Q K2 (ix2 x j))) :
    k0_pay27 (k0_pay19 Q K2) (k0_pay20 Q K1 K2) (k0_pay22 Q K1 K2) (ix2 x e) = ((Real.log (den A h ⟨832 + x.val, by omega⟩) : ℝ) : EReal) := by
  pointwise [k0_pay27, k0_pay24, k0_pay25, k0_pay20, k0_pay21, k0_pay22]
  exact pieces_lse P _ (both_top P (by norm_num))

/-- The pieces of chunk 2. -/
theorem pieces2 {A : Args} {h : Fin 16} {Q K : Vec Ideal S2080x256 .bf16} {V : Vec Ideal S2080x128 .bf16} (R : Rows A h Q K V) (x : Fin 416) :
    Pieces A h (c := 832) (by norm_num) x (fun j => k0_pay18 (View.ld Q (Rect.unit (s := S2080x256) ![832, 0] S416x256.size inb_S2080x256_S416x256_832_0)) (View.ld K (Rect.unit (s := S2080x256) ![0, 0] S832x256.size inb_S2080x256_S832x256_0_0)) (ix2 x j))
      (fun j => k0_pay19 (View.ld Q (Rect.unit (s := S2080x256) ![832, 0] S416x256.size inb_S2080x256_S416x256_832_0)) (View.ld K (Rect.unit (s := S2080x256) ![832, 0] S416x256.size inb_S2080x256_S416x256_832_0)) (ix2 x j)) where
  own j := by
    rw [← score_coe]
    pointwise [k0_pay18, k0_pay17]
    exact Finset.sum_congr rfl fun d _ => congrArg₂ (· * ·) (R.hq _ d) (R.hk _ d)
  diag j := by
    rw [← score_coe]
    pointwise [k0_pay19, k0_pay17]
    rw [sel_diag]
    exact if_congr Iff.rfl (Finset.sum_congr rfl fun d _ => congrArg₂ (· * ·) (R.hq _ d) (R.hk _ d)) rfl

end Cert.Kernel20Ideal.Value

end
-- ==== Proof.AttnTile2.lean ====
module

public import proofs.«01_k».proof.Proof.AttnTile

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Cert.Attention
open Cert.KernelIdeal.Value (canon_block unit_idx low_bot head_of lane_of sum_keys k2_parts q2_parts)
open scoped BigOperators

/-- The output of chunk 3 from its pieces. -/
theorem out3 {A : Args} {h : Fin 16} {Q : Vec Ideal S416x256 .bf16} {K1 : Vec Ideal S1248x256 .bf16} {K2 : Vec Ideal S416x256 .bf16} {V1 : Vec Ideal S1248x128 .bf16} {V2 : Vec Ideal S416x128 .bf16} {x : Fin 416} (e : Fin 128)
    (P : Pieces A h (c := 1248) (by norm_num) x (fun j => k0_pay29 Q K1 (ix2 x j)) (fun j => k0_pay30 Q K2 (ix2 x j)))
    (h1 : ∀ j : Fin 1248, V1 (ix2 j e) = ((A.v ⟨j.val, by omega⟩ h e : ℝ) : EReal)) (h2 : ∀ j : Fin 416, V2 (ix2 j e) = ((A.v ⟨1248 + j.val, by omega⟩ h e : ℝ) : EReal)) :
    k0_pay36 (k0_pay29 Q K1) (k0_pay30 Q K2) (k0_pay31 Q K1 K2) (k0_pay32 Q K1 K2) V1 V2 (ix2 x e) = ((out A h ⟨1248 + x.val, by omega⟩ e : ℝ) : EReal) := by
  pointwise [k0_pay36, k0_pay33, k0_pay34, k0_pay35, k0_pay31, k0_pay32]
  exact pieces_out P e _ _ h1 h2 _ (both_top P (by norm_num))

/-- The logarithms of chunk 3 from its pieces. -/
theorem lse3 {A : Args} {h : Fin 16} {Q : Vec Ideal S416x256 .bf16} {K1 : Vec Ideal S1248x256 .bf16} {K2 : Vec Ideal S416x256 .bf16} {x : Fin 416} (e : Fin 128)
    (P : Pieces A h (c := 1248) (by norm_num) x (fun j => k0_pay29 Q K1 (ix2 x j)) (fun j => k0_pay30 Q K2 (ix2 x j))) :
    k0_pay37 (k0_pay29 Q K1) (k0_pay30 Q K2) (k0_pay31 Q K1 K2) (k0_pay32 Q K1 K2) (ix2 x e) = ((Real.log (den A h ⟨1248 + x.val, by omega⟩) : ℝ) : EReal) := by
  pointwise [k0_pay37, k0_pay33, k0_pay34, k0_pay35, k0_pay31, k0_pay32]
  exact pieces_lse P _ (both_top P (by norm_num))

/-- The pieces of chunk 3. -/
theorem pieces3 {A : Args} {h : Fin 16} {Q K : Vec Ideal S2080x256 .bf16} {V : Vec Ideal S2080x128 .bf16} (R : Rows A h Q K V) (x : Fin 416) :
    Pieces A h (c := 1248) (by norm_num) x (fun j => k0_pay29 (View.ld Q (Rect.unit (s := S2080x256) ![1248, 0] S416x256.size inb_S2080x256_S416x256_1248_0)) (View.ld K (Rect.unit (s := S2080x256) ![0, 0] S1248x256.size inb_S2080x256_S1248x256_0_0)) (ix2 x j))
      (fun j => k0_pay30 (View.ld Q (Rect.unit (s := S2080x256) ![1248, 0] S416x256.size inb_S2080x256_S416x256_1248_0)) (View.ld K (Rect.unit (s := S2080x256) ![1248, 0] S416x256.size inb_S2080x256_S416x256_1248_0)) (ix2 x j)) where
  own j := by
    rw [← score_coe]
    pointwise [k0_pay29, k0_pay28]
    exact Finset.sum_congr rfl fun d _ => congrArg₂ (· * ·) (R.hq _ d) (R.hk _ d)
  diag j := by
    rw [← score_coe]
    pointwise [k0_pay30, k0_pay28]
    rw [sel_diag]
    exact if_congr Iff.rfl (Finset.sum_congr rfl fun d _ => congrArg₂ (· * ·) (R.hq _ d) (R.hk _ d)) rfl

/-- The output of chunk 4 from its pieces. -/
theorem out4 {A : Args} {h : Fin 16} {Q : Vec Ideal S416x256 .bf16} {K1 : Vec Ideal S1664x256 .bf16} {K2 : Vec Ideal S416x256 .bf16} {V1 : Vec Ideal S1664x128 .bf16} {V2 : Vec Ideal S416x128 .bf16} {x : Fin 416} (e : Fin 128)
    (P : Pieces A h (c := 1664) (by norm_num) x (fun j => k0_pay39 Q K1 (ix2 x j)) (fun j => k0_pay40 (k0_pay38 Q) K2 (ix2 x j)))
    (h1 : ∀ j : Fin 1664, V1 (ix2 j e) = ((A.v ⟨j.val, by omega⟩ h e : ℝ) : EReal)) (h2 : ∀ j : Fin 416, V2 (ix2 j e) = ((A.v ⟨1664 + j.val, by omega⟩ h e : ℝ) : EReal)) :
    k0_pay45 (k0_pay38 Q) (k0_pay39 Q K1) K2 V1 V2 (ix2 x e) = ((out A h ⟨1664 + x.val, by omega⟩ e : ℝ) : EReal) := by
  pointwise [k0_pay45, k0_pay42, k0_pay43, k0_pay44, k0_pay41]
  exact pieces_out P e _ _ h1 h2 _ (both_top P (by norm_num))

/-- The logarithms of chunk 4 from its pieces. -/
theorem lse4 {A : Args} {h : Fin 16} {Q : Vec Ideal S416x256 .bf16} {K1 : Vec Ideal S1664x256 .bf16} {K2 : Vec Ideal S416x256 .bf16} {x : Fin 416} (e : Fin 128)
    (P : Pieces A h (c := 1664) (by norm_num) x (fun j => k0_pay39 Q K1 (ix2 x j)) (fun j => k0_pay40 (k0_pay38 Q) K2 (ix2 x j))) :
    k0_pay1 (k0_pay46 (k0_pay38 Q) (k0_pay39 Q K1) K2) (ix2 x e) = ((Real.log (den A h ⟨1664 + x.val, by omega⟩) : ℝ) : EReal) := by
  pointwise [k0_pay1, k0_pay46, k0_pay42, k0_pay43, k0_pay44, k0_pay41]
  exact pieces_lse P _ (both_top P (by norm_num))

/-- The pieces of chunk 4. -/
theorem pieces4 {A : Args} {h : Fin 16} {Q K : Vec Ideal S2080x256 .bf16} {V : Vec Ideal S2080x128 .bf16} (R : Rows A h Q K V) (x : Fin 416) :
    Pieces A h (c := 1664) (by norm_num) x (fun j => k0_pay39 (View.ld Q (Rect.unit (s := S2080x256) ![1664, 0] S416x256.size inb_S2080x256_S416x256_1664_0)) (View.ld K (Rect.unit (s := S2080x256) ![0, 0] S1664x256.size inb_S2080x256_S1664x256_0_0)) (ix2 x j))
      (fun j => k0_pay40 (k0_pay38 (View.ld Q (Rect.unit (s := S2080x256) ![1664, 0] S416x256.size inb_S2080x256_S416x256_1664_0))) (View.ld K (Rect.unit (s := S2080x256) ![1664, 0] S416x256.size inb_S2080x256_S416x256_1664_0)) (ix2 x j)) where
  own j := by
    rw [← score_coe]
    pointwise [k0_pay39, k0_pay38]
    exact Finset.sum_congr rfl fun d _ => congrArg₂ (· * ·) (R.hq _ d) (R.hk _ d)
  diag j := by
    rw [← score_coe]
    pointwise [k0_pay40, k0_pay38]
    rw [sel_diag]
    exact if_congr Iff.rfl (Finset.sum_congr rfl fun d _ => congrArg₂ (· * ·) (R.hq _ d) (R.hk _ d)) rfl

end Cert.Kernel20Ideal.Value

end
-- ==== Proof.AttnFwd.lean ====
module

public import proofs.«01_k».proof.Proof.AttnTile1
public import proofs.«01_k».proof.Proof.AttnTile2

@[expose] public section

set_option maxRecDepth 16384

noncomputable section

namespace Cert.Attention

open Cert.KernelIdeal Idealize.ShloMosaic

/-- The attention's output as an array. -/
def outArr (A : Args) : Vec Ideal S2080x2048 .bf16 := fun i => ((out A ⟨(i 1).val / 128, by have := (i 1).isLt; simp at this; omega⟩ (i 0) ⟨(i 1).val % 128, by omega⟩ : ℝ) : EReal)

/-- The logarithms of the sums of exponentials as an array. -/
def lseArr (A : Args) : Vec Ideal S2080x2048 .f32 := fun i => ((Real.log (den A ⟨(i 1).val / 128, by have := (i 1).isLt; simp at this; omega⟩ (i 0)) : ℝ) : EReal)

/-- The arrays are the real numbers `A` names. -/
structure Holds (X : Vec Ideal S2080x16x192 .f32) (Y : Vec Ideal S2080x16x128 .f32) (Z : Vec Ideal S2080x64 .f32) (U : Vec Ideal S2080x16x128 .f32) (C S : Vec Ideal S2080x32 .f32) (A : Args) : Prop where
  hq : ∀ i h d, X (ix3 i h d) = ((A.q i h d : ℝ) : EReal)
  hn : ∀ i h d, Y (ix3 i h d) = ((A.kn i h d : ℝ) : EReal)
  hr : ∀ i r, Z (ix2 i r) = ((A.kr i r : ℝ) : EReal)
  hv : ∀ i h d, U (ix3 i h d) = ((A.v i h d : ℝ) : EReal)
  hc : ∀ i r, C (ix2 i r) = ((A.cs i r : ℝ) : EReal)
  hs : ∀ i r, S (ix2 i r) = ((A.sn i r : ℝ) : EReal)

/-- Equal arrays hold the same numbers. -/
theorem Holds.congr {X X' : Vec Ideal S2080x16x192 .f32} {Y Y' : Vec Ideal S2080x16x128 .f32} {Z Z' : Vec Ideal S2080x64 .f32} {U U' : Vec Ideal S2080x16x128 .f32} {C S C' S' : Vec Ideal S2080x32 .f32} {A : Args}
    (H : Holds X Y Z U C S A) (e0 : X' = X) (e1 : Y' = Y) (e2 : Z' = Z) (e3 : U' = U) (e4 : C' = C) (e5 : S' = S) : Holds X' Y' Z' U' C' S' A := by
  subst_vars
  exact H

end Cert.Attention

namespace Cert.Kernel20Ideal.Value

open Cert.Kernel20Ideal Cert.Kernel20Ideal.Gen Idealize.ShloMosaic Idealize.ShloMosaic.TcCoe Idealize.SL.Sem
open Cert.Attention
open Cert.KernelIdeal.Value (canon_block head_of lane_of k2_parts q2_parts)
open scoped BigOperators

/-- What a head's point leaves of the output. -/
theorem out_rows {A : Args} {h : Fin 16} {Q K : Vec Ideal S2080x256 .bf16} {V : Vec Ideal S2080x128 .bf16} (R : Rows A h Q K V) (a : Fin 2080) (b : Fin 128) :
    out0_3 (F := Ideal) Q K V (ix2 a b) = ((out A h a b : ℝ) : EReal) := by
  unfold_out out0_3
  refine canon_block (e := .bf16) (fun a b => ((out A h a b : ℝ) : EReal)) _ _ _ a b (by norm_num) (by norm_num) (fun x y => ?_) fun n4 => ?_
  · exact (out4 y (pieces4 R x) (fun j => (ld_at _ (by norm_num) V j y).trans ((R.hv _ y).trans (by simp only [Nat.zero_add]))) (fun j => (ld_at _ (by norm_num) V j y).trans (R.hv _ y))).trans (by simp only [Nat.zero_add])
  refine canon_block (e := .bf16) (fun a b => ((out A h a b : ℝ) : EReal)) _ _ _ a b (by norm_num) (by norm_num) (fun x y => ?_) fun n3 => ?_
  · exact (out3 y (pieces3 R x) (fun j => (ld_at _ (by norm_num) V j y).trans ((R.hv _ y).trans (by simp only [Nat.zero_add]))) (fun j => (ld_at _ (by norm_num) V j y).trans (R.hv _ y))).trans (by simp only [Nat.zero_add])
  refine canon_block (e := .bf16) (fun a b => ((out A h a b : ℝ) : EReal)) _ _ _ a b (by norm_num) (by norm_num) (fun x y => ?_) fun n2 => ?_
  · exact (out2 y (pieces2 R x) (fun j => (ld_at _ (by norm_num) V j y).trans ((R.hv _ y).trans (by simp only [Nat.zero_add]))) (fun j => (ld_at _ (by norm_num) V j y).trans (R.hv _ y))).trans (by simp only [Nat.zero_add])
  refine canon_block (e := .bf16) (fun a b => ((out A h a b : ℝ) : EReal)) _ _ _ a b (by norm_num) (by norm_num) (fun x y => ?_) fun n1 => ?_
  · exact (out1 y (pieces1 R x) (fun j => (ld_at _ (by norm_num) V j y).trans ((R.hv _ y).trans (by simp only [Nat.zero_add]))) (fun j => (ld_at _ (by norm_num) V j y).trans (R.hv _ y))).trans (by simp only [Nat.zero_add])
  refine canon_block (e := .bf16) (fun a b => ((out A h a b : ℝ) : EReal)) _ _ _ a b (by norm_num) (by norm_num) (fun x y => ?_) fun n0 => ?_
  · exact (out0 y (pieces0 R x) (fun j => (ld_at _ (by norm_num) V j y).trans (R.hv _ y))).trans (by simp only [Nat.zero_add])
  exact absurd b.isLt (by omega)

/-- What a head's point leaves of the logarithms. -/
theorem lse_rows {A : Args} {h : Fin 16} {Q K : Vec Ideal S2080x256 .bf16} {V : Vec Ideal S2080x128 .bf16} (R : Rows A h Q K V) (a : Fin 2080) (b : Fin 128) :
    out0_4 (F := Ideal) Q K V (ix2 a b) = ((Real.log (den A h a) : ℝ) : EReal) := by
  unfold_out out0_4
  refine canon_block (e := .f32) (fun a _ => ((Real.log (den A h a) : ℝ) : EReal)) _ _ _ a b (by norm_num) (by norm_num) (fun x y => ?_) fun n4 => ?_
  · exact lse4 y (pieces4 R x)
  refine canon_block (e := .f32) (fun a _ => ((Real.log (den A h a) : ℝ) : EReal)) _ _ _ a b (by norm_num) (by norm_num) (fun x y => ?_) fun n3 => ?_
  · exact lse3 y (pieces3 R x)
  refine canon_block (e := .f32) (fun a _ => ((Real.log (den A h a) : ℝ) : EReal)) _ _ _ a b (by norm_num) (by norm_num) (fun x y => ?_) fun n2 => ?_
  · exact lse2 y (pieces2 R x)
  refine canon_block (e := .f32) (fun a _ => ((Real.log (den A h a) : ℝ) : EReal)) _ _ _ a b (by norm_num) (by norm_num) (fun x y => ?_) fun n1 => ?_
  · exact lse1 y (pieces1 R x)
  refine canon_block (e := .f32) (fun a _ => ((Real.log (den A h a) : ℝ) : EReal)) _ _ _ a b (by norm_num) (by norm_num) (fun x y => ?_) fun n0 => ?_
  · exact lse0 y (pieces0 R x)
  exact absurd b.isLt (by omega)

/-- Where each window's block lies: head `t`'s columns. -/
theorem idx : ∀ t : Fin cfg0.N,
    win0_0.index t = ![0, t.val] ∧ win0_1.index t = ![0, t.val] ∧ win0_2.index t = ![0, t.val] ∧ win0_3.index t = ![0, t.val] ∧ win0_4.index t = ![0, t.val] :=
  (by decide +kernel : ∀ t : Fin grid0.N, _)

/-- The head of a grid point. -/
def head (t : Fin cfg0.N) : Fin 16 := ⟨t.val, by have := t.isLt; have h : cfg0.N = 16 := N_0; omega⟩

variable (m : (ℓ : Loc nD τ sig) → Buf (Elt Ideal) ℓ) (c : Dev nD)

/-- A head's block of the padded queries. -/
theorem blk0 (t : Fin cfg0.N) (X : Vec Ideal S2080x4096 .bf16) (a : Fin 2080) (b : Fin 256) :
    ((cfg0.win 0).blk t).view.read (Elt Ideal) X (ix2 a b) = X (ix2 a ⟨(head t).val * 256 + b.val, by omega⟩) := by
  blk_ext [idx t, head]

/-- A head's block of the padded keys. -/
theorem blk1 (t : Fin cfg0.N) (X : Vec Ideal S2080x4096 .bf16) (a : Fin 2080) (b : Fin 256) :
    ((cfg0.win 1).blk t).view.read (Elt Ideal) X (ix2 a b) = X (ix2 a ⟨(head t).val * 256 + b.val, by omega⟩) := by
  blk_ext [idx t, head]

/-- A head's block of the values. -/
theorem blk2 (t : Fin cfg0.N) (X : Vec Ideal S2080x2048 .bf16) (a : Fin 2080) (b : Fin 128) :
    ((cfg0.win 2).blk t).view.read (Elt Ideal) X (ix2 a b) = X (ix2 a ⟨(head t).val * 128 + b.val, by omega⟩) := by
  blk_ext [idx t, head]

variable {A : Args} (H : Holds (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) A)
include H

/-- The values. -/
theorem V29_at (i : Fin 2080) (j : Fin 2048) :
    (V m c main_v29 : Vec Ideal S2080x2048 .bf16) (ix2 i j) = ((A.v i ⟨j.val / 128, by omega⟩ ⟨j.val % 128, by omega⟩ : ℝ) : EReal) := by
  unfold V
  after_reads_at
  exact H.hv i _ _

/-- The padded keys. -/
theorem V27_at (i : Fin 2080) (j : Fin 4096) :
    (V m c main_v27 : Vec Ideal S2080x4096 .bf16) (ix2 i j) = ((k2 A i ⟨j.val / 256, by omega⟩ ⟨j.val % 256, by omega⟩ : ℝ) : EReal) := by
  unfold V
  after_reads_at
  after_reads_at
  simp only [H.hn, H.hr]
  exact k2_parts A i ⟨j.val / 256, by omega⟩ ⟨j.val % 256, by omega⟩

/-- The padded queries. -/
theorem V22_at (i : Fin 2080) (j : Fin 4096) :
    (V m c main_v22 : Vec Ideal S2080x4096 .bf16) (ix2 i j) = ((q2 A i ⟨j.val / 256, by omega⟩ ⟨j.val % 256, by omega⟩ : ℝ) : EReal) := by
  unfold V
  after_reads_at
  after_reads_at
  simp only [H.hq, H.hc, H.hs, scale_coe]
  refine Eq.trans ?_ (q2_parts A i ⟨j.val / 256, by omega⟩ ⟨j.val % 256, by omega⟩)
  simp only [← rope_parts]

/-- The blocks of grid point `t` hold head `t`'s rows. -/
theorem rows (t : Fin cfg0.N) : Rows A (head t) (iblk m c 0 t) (iblk m c 1 t) (iblk m c 2 t) where
  hq i d := (blk0 t (V m c main_v22) i d).trans ((V22_at m c H i _).trans (by simp only [head_of, lane_of]))
  hk i d := (blk1 t (V m c main_v27) i d).trans ((V27_at m c H i _).trans (by simp only [head_of, lane_of]))
  hv i d := (blk2 t (V m c main_v29) i d).trans ((V29_at m c H i _).trans (by simp only [head_of, lane_of]))

/-- The kernel's output. -/
theorem kernel_out : (dats m 0 c).arrAt 3 cfg0.N = outArr A := by
  refine (dats m 0 c).arrAt_eq_of_covers 3 _ (by decide +kernel) fun t hf y => ?_
  blk_simp
  rw [after0_3]
  idx_vars y
  rw [out_rows (rows m c H t)]
  have e : ((View.whole main_v30_0).slice (win0_3.rect t)).emb (ix2 y0 y1) = ix2 y0 ⟨(head t).val * 128 + y1.val, by omega⟩ := by
    blk_ext [idx t, head]
  rw [e]
  show _ = ((out A ⟨((head t).val * 128 + y1.val) / 128, by omega⟩ y0 ⟨((head t).val * 128 + y1.val) % 128, by omega⟩ : ℝ) : EReal)
  simp only [head_of, lane_of]

/-- The kernel's array of logarithms. -/
theorem kernel_lse : (dats m 0 c).arrAt 4 cfg0.N = lseArr A := by
  refine (dats m 0 c).arrAt_eq_of_covers 4 _ (by decide +kernel) fun t hf y => ?_
  blk_simp
  rw [after0_4]
  idx_vars y
  rw [lse_rows (rows m c H t)]
  have e : ((View.whole main_v30_1).slice (win0_4.rect t)).emb (ix2 y0 y1) = ix2 y0 ⟨(head t).val * 128 + y1.val, by omega⟩ := by
    blk_ext [idx t, head]
  rw [e]
  show _ = ((Real.log (den A ⟨((head t).val * 128 + y1.val) / 128, by omega⟩ y0) : ℝ) : EReal)
  simp only [head_of, lane_of]

end Cert.Kernel20Ideal.Value

end
-- ==== Proof.AttnRef.lean ====
module

public import proofs.«01_k».proof.Proof.Ref
public import proofs.«01_k».proof.Proof.AttnFwd
public import proofs.«01_k».proof.Proof.Gen.Reference20Ideal.Run

@[expose] public section

set_option maxRecDepth 16384

noncomputable section

namespace Cert.Reference20Ideal.Value

open Cert.Reference20Ideal Cert.Reference20Ideal.Gen Idealize.ShloMosaic Idealize.ShloMosaic.TcCoe Idealize.SL.Sem Idealize.ShloMosaic.StableHlo
open Cert.Attention
open Cert.ReferenceIdeal.Value (ownR rotR scoreR topR expR sumR quotR ownR_at rotR_at scoreR_at topR_at expR_at sumR_at quotR_at)
open scoped BigOperators

/-- The attention's output from the probabilities. -/
def outR (X : Vec Ideal S2080x16x128 .f32) (P : Vec Ideal S16x2080x2080 .f32) : Vec Ideal S2080x2048 .bf16 :=
  truncf (F := Ideal) (φ := .f32) .bf16 (shapeCast S2080x2048 (transpose S2080x16x128 [2, 0, 1] (Host.dotGeneral (F := Ideal) (φ₁ := .f32) (φ₂ := .f32) dot_S2080x16x128_S16x2080x2080_S16x128x2080_0_2_2_1_1_0 none X P)
    transposes_S16x128x2080_S2080x16x128_2_0_1) shapeCasts_S2080x16x128_S2080x2048) bitsLt_bf16_f32

/-- The logarithms of the rows' sums of exponentials, by query and lane. -/
def lseR (X : Vec Ideal S16x2080x2080 .f32) : Vec Ideal S2080x2048 .f32 :=
  shapeCast S2080x2048 (broadcastInDim S2080x16x128 ![0, 1, 2] bcast_S2080x16x1_S2080x16x128_0_1_2
    (transpose S2080x16x1 [1, 0, 2] (Host.log (F := Ideal) (φ := .f32) (sumR (Host.exp (F := Ideal) (φ := .f32) X))) transposes_S16x2080x1_S2080x16x1_1_0_2)) shapeCasts_S2080x16x128_S2080x2048

/-- The output at a query and a lane. -/
theorem outR_at (X : Vec Ideal S2080x16x128 .f32) (P : Vec Ideal S16x2080x2080 .f32) (i : Fin 2080) (j : Fin 2048) :
    outR X P (ix2 i j) = ∑ k : Fin 2080, X (ix3 k ⟨j.val / 128, by omega⟩ ⟨j.val % 128, by omega⟩) * P (ix3 ⟨j.val / 128, by omega⟩ i k) := by
  pointwise [outR]

/-- A logarithm at a query and a lane. -/
theorem lseR_at (X : Vec Ideal S16x2080x2080 .f32) (i : Fin 2080) (j : Fin 2048) :
    lseR X (ix2 i j) = Ideal.log (∑ k : Fin 2080, Ideal.exp (X (ix3 ⟨j.val / 128, by omega⟩ i k))) := by
  pointwise [lseR, sumR]

/-- The masked scores. -/
def sc (X : Vec Ideal S2080x16x192 .f32) (Y : Vec Ideal S2080x16x128 .f32) (Z : Vec Ideal S2080x64 .f32) (C S : Vec Ideal S2080x32 .f32) : Vec Ideal S16x2080x2080 .f32 :=
  scoreR (ownR X) Y Z (rotR X C S)

/-- The probabilities. -/
def pr (X : Vec Ideal S16x2080x2080 .f32) : Vec Ideal S16x2080x2080 .f32 := quotR (expR X (topR X)) (sumR (expR X (topR X)))

variable {X : Vec Ideal S2080x16x192 .f32} {Y : Vec Ideal S2080x16x128 .f32} {Z : Vec Ideal S2080x64 .f32} {U : Vec Ideal S2080x16x128 .f32} {C S : Vec Ideal S2080x32 .f32} {A : Args} (H : Holds X Y Z U C S A)
include H

/-- The masked scores at a head, a query and a key. -/
theorem sc_at (h : Fin 16) (i j : Fin 2080) : sc X Y Z C S (ix3 h i j) = if j.val ≤ i.val then ((sco A h i j : ℝ) : EReal) else ⊥ := by
  refine (scoreR_at (ownR X) Y Z (rotR X C S) h i j).trans ?_
  refine if_congr Iff.rfl ?_ rfl
  rw [scale_coe, sco, EReal.coe_mul, EReal.coe_add, coe_sum, coe_sum]
  refine congrArg₂ (· * ·) (congrArg₂ (· + ·) (Finset.sum_congr rfl fun d _ => ?_) (Finset.sum_congr rfl fun r _ => ?_)) rfl
  · rw [EReal.coe_mul]
    exact congrArg₂ (· * ·) ((ownR_at X i h d).trans (H.hq i h _)) (H.hn j h d)
  · rw [EReal.coe_mul]
    refine congrArg₂ (· * ·) (H.hr j r) ((rotR_at X C S i h r).trans ?_)
    simp only [H.hq, H.hc, H.hs]
    exact rope_parts A i h r

/-- The probabilities at a head, a query and a key. -/
theorem pr_at (h : Fin 16) (i j : Fin 2080) : pr (sc X Y Z C S) (ix3 h i j) = ((prob A h i j : ℝ) : EReal) := by
  obtain ⟨r, hr⟩ := fold_max_real (fun x : Fin 2080 => sc X Y Z C S (ix3 h i x))
    (fun j => by rw [sc_at H]; split_ifs; exacts [EReal.coe_ne_top _, bot_ne_top]) i (by rw [sc_at H, if_pos le_rfl]; exact EReal.coe_ne_bot _)
  have e : ∀ k, expR (sc X Y Z C S) (topR (sc X Y Z C S)) (ix3 h i k) = ((if k.val ≤ i.val then Real.exp (sco A h i k - r) else 0 : ℝ) : EReal) := fun k => by
    refine (expR_at _ _ h i k).trans ?_
    rw [sc_at H, (topR_at (sc X Y Z C S) h i).trans hr]
    exact exp_masked _ _ _
  have l : sumR (expR (sc X Y Z C S) (topR (sc X Y Z C S))) (ix3 h i 0) = ((den A h i * Real.exp (-r) : ℝ) : EReal) := by
    refine (sumR_at _ h i 0).trans ?_
    rw [← sum_shift, coe_sum]
    exact Finset.sum_congr rfl fun k _ => e k
  refine (quotR_at _ _ h i j).trans ((congrArg₂ Ideal.div (e j) l).trans ?_)
  rw [Ideal.div_coe (mul_pos (den_pos A h i) (Real.exp_pos _)).ne', ← EReal.coe_mul, mul_one_div, prob_shift]

/-- The reference's output. -/
theorem ref_out : outR U (pr (sc X Y Z C S)) = outArr A := by
  funext i
  obtain ⟨a, b, rfl⟩ : ∃ (a : Fin 2080) (b : Fin 2048), i = ix2 a b := ⟨i 0, i 1, eq_ix2 i⟩
  refine (outR_at U _ a b).trans ?_
  show _ = ((out A ⟨b.val / 128, by omega⟩ a ⟨b.val % 128, by omega⟩ : ℝ) : EReal)
  rw [out, coe_sum]
  refine Finset.sum_congr rfl fun k _ => ?_
  rw [EReal.coe_mul]
  exact congrArg₂ (· * ·) (H.hv k _ _) (pr_at H _ a k)

/-- The reference's logarithms. -/
theorem ref_lse : lseR (sc X Y Z C S) = lseArr A := by
  funext i
  obtain ⟨a, b, rfl⟩ : ∃ (a : Fin 2080) (b : Fin 2048), i = ix2 a b := ⟨i 0, i 1, eq_ix2 i⟩
  refine (lseR_at _ a b).trans ?_
  show _ = ((Real.log (den A ⟨b.val / 128, by omega⟩ a) : ℝ) : EReal)
  have e : (∑ k : Fin 2080, Ideal.exp (sc X Y Z C S (ix3 ⟨b.val / 128, by omega⟩ a k))) = ((den A ⟨b.val / 128, by omega⟩ a : ℝ) : EReal) := by
    rw [den, coe_sum]
    refine Finset.sum_congr rfl fun k _ => ?_
    rw [sc_at H]
    split_ifs
    · exact Ideal.exp_coe _
    · rw [Ideal.exp_bot, EReal.coe_zero]
  rw [e, Ideal.log_coe, if_neg (not_le.mpr (den_pos A _ a))]

end Cert.Reference20Ideal.Value

end
-- ==== Proof.AttnClaim.lean ====
module

public import proofs.«01_k».proof.Proof.Finite
public import proofs.«01_k».proof.Proof.AttnRef

@[expose] public section

set_option maxRecDepth 16384

noncomputable section

namespace Cert.Pre_finite20

open Idealize.ShloMosaic
open Cert.Pre_finite (real_of)

/-- The shape relations the precondition states. -/
instance facts : Facts where
  bcast_S_S2080x16x192 := by decide
  reducesTo_S2080x16x192_S_d0_1_2 := by decide
  h_S_ := by decide
  bcast_S_S2080x16x128 := by decide
  reducesTo_S2080x16x128_S_d0_1_2 := by decide
  bcast_S_S2080x64 := by decide
  reducesTo_S2080x64_S_d0_1 := by decide
  bcast_S_S2080x32 := by decide
  reducesTo_S2080x32_S_d0_1 := by decide

/-- Arguments that pass the precondition are real numbers. -/
theorem real_args (a0 : FVec Ideal S2080x16x192 .f32) (a1 : FVec Ideal S2080x16x128 .f32) (a2 : FVec Ideal S2080x64 .f32) (a3 : FVec Ideal S2080x16x128 .f32)
    (a4 a5 : FVec Ideal S2080x32 .f32) (h : fn (F := Ideal) a0 a1 a2 a3 a4 a5 = fun _ => 1#1) : ∃ A, Cert.Attention.Holds a0 a1 a2 a3 a4 a5 A := by
  have e5 := IntOp.andi_eq_one.1 (congrFun h (fun d => d.elim0))
  have e4 := IntOp.andi_eq_one.1 e5.1
  have e3 := IntOp.andi_eq_one.1 e4.1
  have e2 := IntOp.andi_eq_one.1 e3.1
  have e1 := IntOp.andi_eq_one.1 e2.1
  exact ⟨Cert.Attention.argsOf a0 a1 a2 a3 a4 a5 fun _ => (0 : EReal), fun i h d => real_of a0 Facts.bcast_S_S2080x16x192 Facts.reducesTo_S2080x16x192_S_d0_1_2 Facts.h_S_ _ e1.1 (ix3 i h d),
    fun i h d => real_of a1 Facts.bcast_S_S2080x16x128 Facts.reducesTo_S2080x16x128_S_d0_1_2 Facts.h_S_ _ e1.2 (ix3 i h d),
    fun i r => real_of a2 Facts.bcast_S_S2080x64 Facts.reducesTo_S2080x64_S_d0_1 Facts.h_S_ _ e2.2 (ix2 i r),
    fun i h d => real_of a3 Facts.bcast_S_S2080x16x128 Facts.reducesTo_S2080x16x128_S_d0_1_2 Facts.h_S_ _ e3.2 (ix3 i h d),
    fun i r => real_of a4 Facts.bcast_S_S2080x32 Facts.reducesTo_S2080x32_S_d0_1 Facts.h_S_ _ e4.2 (ix2 i r),
    fun i r => real_of a5 Facts.bcast_S_S2080x32 Facts.reducesTo_S2080x32_S_d0_1 Facts.h_S_ _ e5.2 (ix2 i r)⟩

end Cert.Pre_finite20

namespace Cert.Proof.Attn

open Idealize.ShloMosaic Idealize.SL.Sem

/-- The two programs end with the same output and the same logarithms. -/
theorem algebraic : Cert.algebraic_Kernel20Ideal_Reference20Ideal_pre_finite20 := by
  intro m g m' g' hpre hargs
  choose A H using fun c => Cert.Pre_finite20.real_args _ _ _ _ _ _ (hpre c)
  refine ⟨fun c => Cert.Attention.outArr (A c), fun c => Cert.Attention.lseArr (A c), (θ_run _ _ _).mono (fun r h c => ?_) (Cert.Kernel20Ideal.Value.run_blocks m g), (θ_run _ _ _).mono (fun r h c => ?_) (Cert.Reference20Ideal.Value.run m' g')⟩
  · obtain ⟨r0, r1, rest⟩ := h c
    exact ⟨r0.trans (Cert.Kernel20Ideal.Value.kernel_out m c (H c)), r1.trans (Cert.Kernel20Ideal.Value.kernel_lse m c (H c)), rest⟩
  · obtain ⟨r0, r1, rest⟩ := h c
    obtain ⟨e0, e1, e2, e3, e4, e5⟩ := hargs c
    have H' := (H c).congr e0 e1 e2 e3 e4 e5
    exact ⟨r0.trans (Cert.Reference20Ideal.Value.ref_out H'), r1.trans (Cert.Reference20Ideal.Value.ref_lse H'), rest⟩

/-- The reference runs, leaves its arguments, and has no semaphores. -/
theorem reference_frame : Cert.quiescent_Reference20Ideal := fun m g _ =>
  (θ_run _ _ _).mono (fun r h => ⟨fun c => (h c).2.2, sem_eq_zero_of_no_sems (by decide) r.2⟩) (Cert.Reference20Ideal.Value.run (F := Ideal) m g)

end Cert.Proof.Attn

end
-- ==== Proof.lean ====
module

public import proofs.«01_k».proof.Defs
public import proofs.«01_k».proof.Proof.Finite
public import proofs.«01_k».proof.Proof.FfnClaim
public import proofs.«01_k».proof.Proof.MixClaim
public import proofs.«01_k».proof.Proof.ProjClaim
public import proofs.«01_k».proof.Proof.GateClaim
public import proofs.«01_k».proof.Proof.GluClaim
public import proofs.«01_k».proof.Proof.GluGradClaim
public import proofs.«01_k».proof.Proof.NormMixClaim
public import proofs.«01_k».proof.Proof.NormFfnClaim
public import proofs.«01_k».proof.Proof.ValProj
public import proofs.«01_k».proof.Proof.QGrad
public import proofs.«01_k».proof.Proof.KGrad
public import proofs.«01_k».proof.Proof.ValGrad
public import proofs.«01_k».proof.Proof.QBack
public import proofs.«01_k».proof.Proof.KBack
public import proofs.«01_k».proof.Proof.ValBack
public import proofs.«01_k».proof.Proof.AttnClaim
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import Idealize.ShloMosaic.Adequacy
public import Idealize.ShloMosaic.Init

@[expose] public section

set_option maxRecDepth 16384

noncomputable section

namespace Cert.Proof

open Idealize.ShloMosaic Idealize.SL.Sem

section Args

open Cert.KernelIdeal Cert.Attention

variable (m : (ℓ : Loc nD τ sig) → Buf (Elt Ideal) ℓ) (c : Dev nD)

/-- The real numbers the arguments of device `c` hold. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- Under the precondition the kernel's arguments are those numbers. -/
theorem kernel_holds (h : Cert.Pre_KernelIdeal_finite m) : Cert.KernelIdeal.Value.Holds m c (args m c) := by
  obtain ⟨h0, h1, h2, h3, h4, h5, h6⟩ := Cert.Pre_finite.real_args _ _ _ _ _ _ _ (h c)
  exact ⟨fun i j d => h0 (ix3 i j d), fun i j d => h1 (ix3 i j d), fun i r => h2 (ix2 i r), fun i j d => h3 (ix3 i j d), fun i r => h4 (ix2 i r), fun i r => h5 (ix2 i r),
    fun i j => lanes _ i j h6⟩

end Args

/-- The reference's arguments are the same numbers when its memory agrees with the kernel's. -/
theorem reference_holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_finite m) (c : Dev Cert.KernelIdeal.nD)
    (e0 : m' (c, Proc.tc.devRef Cert.ReferenceIdeal.main_arg0) = m (c, Proc.tc.devRef Cert.KernelIdeal.main_arg0))
    (e1 : m' (c, Proc.tc.devRef Cert.ReferenceIdeal.main_arg1) = m (c, Proc.tc.devRef Cert.KernelIdeal.main_arg1))
    (e2 : m' (c, Proc.tc.devRef Cert.ReferenceIdeal.main_arg2) = m (c, Proc.tc.devRef Cert.KernelIdeal.main_arg2))
    (e3 : m' (c, Proc.tc.devRef Cert.ReferenceIdeal.main_arg3) = m (c, Proc.tc.devRef Cert.KernelIdeal.main_arg3))
    (e4 : m' (c, Proc.tc.devRef Cert.ReferenceIdeal.main_arg4) = m (c, Proc.tc.devRef Cert.KernelIdeal.main_arg4))
    (e5 : m' (c, Proc.tc.devRef Cert.ReferenceIdeal.main_arg5) = m (c, Proc.tc.devRef Cert.KernelIdeal.main_arg5))
    (e6 : m' (c, Proc.tc.devRef Cert.ReferenceIdeal.main_arg6) = m (c, Proc.tc.devRef Cert.KernelIdeal.main_arg6))
    : Cert.ReferenceIdeal.Value.Holds (StableHlo.launchContents m' c) (args m c) := by
  have H := kernel_holds m c h
  exact ⟨fun i j d => (congrFun e0 (ix3 i j d)).trans (H.hq i j d), fun i j d => (congrFun e1 (ix3 i j d)).trans (H.hn i j d), fun i r => (congrFun e2 (ix2 i r)).trans (H.hr i r),
    fun i j d => (congrFun e3 (ix3 i j d)).trans (H.hv i j d), fun i r => (congrFun e4 (ix2 i r)).trans (H.hc i r), fun i r => (congrFun e5 (ix2 i r)).trans (H.hs i r),
    fun i j => (congrFun e6 (ix2 i j)).trans (H.hg i j)⟩

/-- The two programs end with the same gradients. -/
theorem algebraic : Cert.algebraic_KernelIdeal_ReferenceIdeal_pre_finite := by
  intro m g m' g' hpre hargs
  have H := fun c => kernel_holds m c hpre
  have H' : ∀ c, Cert.ReferenceIdeal.Value.Holds (StableHlo.launchContents m' c) (args m c) := fun c => by
    obtain ⟨e0, e1, e2, e3, e4, e5, e6⟩ := hargs c
    exact reference_holds m m' hpre c e0 e1 e2 e3 e4 e5 e6
  refine ⟨fun c => Cert.Attention.dqArr (args m c), fun c => Cert.Attention.dkArr (args m c), fun c => Cert.Attention.dvArr (args m c), fun c => Cert.Attention.dkrArr (args m c), ?_, ?_⟩
  · refine (θ_run _ _ _).mono (fun r h c => ?_) (Cert.KernelIdeal.Value.run_blocks m g)
    obtain ⟨r0, r1, r2, r3, rest⟩ := h c
    exact ⟨r0.trans (Cert.KernelIdeal.Value.final8 m c (H c)), r1.trans (Cert.KernelIdeal.Value.final9 m c (H c)), r2.trans (Cert.KernelIdeal.Value.final10 m c (H c)),
      r3.trans (Cert.KernelIdeal.Value.final11 m c (H c)), rest⟩
  · refine (θ_run _ _ _).mono (fun r h c => ?_) (Cert.ReferenceIdeal.Value.run m' g')
    obtain ⟨r0, r1, r2, r3, rest⟩ := h c
    exact ⟨r0.trans (Cert.ReferenceIdeal.Value.dq_res (H' c)), r1.trans (Cert.ReferenceIdeal.Value.dk_res (H' c)), r2.trans (Cert.ReferenceIdeal.Value.dv_res (H' c)),
      r3.trans (Cert.ReferenceIdeal.Value.dkr_res (H' c)), rest⟩

/-- The reference runs, leaves its arguments, and has no semaphores. -/
theorem reference_frame : Cert.quiescent_ReferenceIdeal := fun m g _ =>
  (θ_run _ _ _).mono (fun r h => ⟨fun c => (h c).2.2.2.2, sem_eq_zero_of_no_sems (by decide) r.2⟩) (Cert.ReferenceIdeal.Value.run (F := Ideal) m g)

/-- The frames, the named constant and the value claims, of the programs in their order. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.facts, Cert.Pre_finite2.facts, Cert.Pre_finite20.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    Ffn.reference_frame, fun m ρ _ => Ffn.reference_frame m ρ trivial,
    fun m ρ _ => Cert.Kernel3.Gen.frame m ρ, fun m ρ _ => Cert.Kernel3Ideal.Gen.frame m ρ, Mix.reference_frame,
    fun m ρ _ => Cert.Kernel4.Gen.frame m ρ, fun m ρ _ => Cert.Kernel4Ideal.Gen.frame m ρ, Proj.reference_frame,
    fun m ρ _ => Cert.Kernel5.Gen.frame m ρ, fun m ρ _ => Cert.Kernel5Ideal.Gen.frame m ρ, Gate.reference_frame,
    fun m ρ _ => Cert.Kernel6.Gen.frame m ρ, fun m ρ _ => Cert.Kernel6Ideal.Gen.frame m ρ, Glu.reference_frame6,
    fun m ρ _ => Cert.Kernel7.Gen.frame m ρ, fun m ρ _ => Cert.Kernel7Ideal.Gen.frame m ρ, Glu.reference_frame7,
    fun m ρ _ => Cert.Kernel8.Gen.frame m ρ, fun m ρ _ => Cert.Kernel8Ideal.Gen.frame m ρ, GluGrad.reference_frame,
    fun m ρ _ => Cert.Kernel9.Gen.frame m ρ, fun m ρ _ => Cert.Kernel9Ideal.Gen.frame m ρ, NormMix.reference_frame,
    fun m ρ _ => Cert.Kernel10.Gen.frame m ρ, fun m ρ _ => Cert.Kernel10Ideal.Gen.frame m ρ, NormFfn.reference_frame,
    fun m ρ _ => Cert.Kernel13.Gen.frame m ρ, fun m ρ _ => Cert.Kernel13Ideal.Gen.frame m ρ, Qkv.reference_frame13,
    fun m ρ _ => Cert.Kernel14.Gen.frame m ρ, fun m ρ _ => Cert.Kernel14Ideal.Gen.frame m ρ, Qkv.reference_frame14,
    fun m ρ _ => Cert.Kernel15.Gen.frame m ρ, fun m ρ _ => Cert.Kernel15Ideal.Gen.frame m ρ, Qkv.reference_frame15,
    fun m ρ _ => Cert.Kernel16.Gen.frame m ρ, fun m ρ _ => Cert.Kernel16Ideal.Gen.frame m ρ, Qkv.reference_frame16,
    fun m ρ _ => Cert.Kernel17.Gen.frame m ρ, fun m ρ _ => Cert.Kernel17Ideal.Gen.frame m ρ, Qkv.reference_frame17,
    fun m ρ _ => Cert.Kernel18.Gen.frame m ρ, fun m ρ _ => Cert.Kernel18Ideal.Gen.frame m ρ, Qkv.reference_frame18,
    fun m ρ _ => Cert.Kernel19.Gen.frame m ρ, fun m ρ _ => Cert.Kernel19Ideal.Gen.frame m ρ, Qkv.reference_frame19,
    fun m ρ _ => Cert.Kernel20.Gen.frame m ρ, fun m ρ _ => Cert.Kernel20Ideal.Gen.frame m ρ, fun m ρ _ => Cert.Kernel20Ideal.Gen.frame m ρ,
    Attn.reference_frame, fun m ρ _ => Attn.reference_frame m ρ trivial,
    IdealRules.named_const.statement Cert.KernelIdeal.κ "mask" .f32 0xF149F2CA#32 ⊥ rfl, algebraic, trivial, Ffn.algebraic, trivial, Mix.algebraic,
    trivial, Proj.algebraic, trivial, Gate.algebraic, trivial, Glu.algebraic6, trivial, Glu.algebraic7,
    trivial, GluGrad.algebraic, trivial, NormMix.algebraic, trivial, NormFfn.algebraic,
    trivial, Qkv.algebraic13, trivial, Qkv.algebraic14, trivial, Qkv.algebraic15, trivial, Qkv.algebraic16, trivial, Qkv.algebraic17, trivial, Qkv.algebraic18, trivial, Qkv.algebraic19,
    IdealRules.named_const.statement Cert.Kernel20Ideal.κ "mask" .f32 0xF149F2CA#32 ⊥ rfl, Attn.algebraic⟩

end Cert.Proof

end
